-- ==== Defs.lean ====
def Pre_ConformerBwd (m : (ℓ : Loc Cert.ConformerBwd.nD Cert.ConformerBwd.τ Cert.ConformerBwd.sig) → Buf (Elt Bits) ℓ) : Prop :=
  True

def Pre_ConformerBwdIdeal (m : (ℓ : Loc Cert.ConformerBwdIdeal.nD Cert.ConformerBwdIdeal.τ Cert.ConformerBwdIdeal.sig) → Buf (Elt Ideal) ℓ) : Prop :=
  True

def Pre_ConformerGradIdeal (m : (ℓ : Loc Cert.ConformerGradIdeal.nD Cert.ConformerGradIdeal.τ Cert.ConformerGradIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2 = (fun _ => 1#1)

def Pre_AttnGradIdeal (m : (ℓ : Loc Cert.AttnGradIdeal.nD Cert.AttnGradIdeal.τ Cert.AttnGradIdeal.sig) → Buf (Elt Ideal) ℓ) : Prop :=
  True

def Pre_AttnGradIdeal_attn_finite [hPre_attn_finite : Cert.Pre_attn_finite.Facts] (m : (ℓ : Loc Cert.AttnGradIdeal.nD Cert.AttnGradIdeal.τ Cert.AttnGradIdeal.sig) → Buf (Elt Ideal) ℓ) : Prop :=
  ∀ c : Dev Cert.AttnGradIdeal.nD,
    (Cert.Pre_attn_finite.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2))).1 = (fun _ => 1#1)
    ∧ (Cert.Pre_attn_finite.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2))).2 = (fun _ => 1#1)

def Pre_LnSiluBwd (m : (ℓ : Loc Cert.LnSiluBwd.nD Cert.LnSiluBwd.τ Cert.LnSiluBwd.sig) → Buf (Elt Bits) ℓ) : Prop :=
  True

def Pre_LnSiluBwdIdeal (m : (ℓ : Loc Cert.LnSiluBwdIdeal.nD Cert.LnSiluBwdIdeal.τ Cert.LnSiluBwdIdeal.sig) → Buf (Elt Ideal) ℓ) : Prop :=
  True

def Pre_LnSiluBwdIdeal_ln_finite [hPre_ln_finite : Cert.Pre_ln_finite.Facts] (m : (ℓ : Loc Cert.LnSiluBwdIdeal.nD Cert.LnSiluBwdIdeal.τ Cert.LnSiluBwdIdeal.sig) → Buf (Elt Ideal) ℓ) : Prop :=
  ∀ c : Dev Cert.LnSiluBwdIdeal.nD,
    (Cert.Pre_ln_finite.fn (F := Ideal) (m ((c.tc : Thread Cert.LnSiluBwdIdeal.nD Cert.LnSiluBwdIdeal.τ).loc Cert.LnSiluBwdIdeal.main_arg0)) (m ((c.tc : Thread Cert.LnSiluBwdIdeal.nD Cert.LnSiluBwdIdeal.τ).loc Cert.LnSiluBwdIdeal.main_arg1)) (m ((c.tc : Thread Cert.LnSiluBwdIdeal.nD Cert.LnSiluBwdIdeal.τ).loc Cert.LnSiluBwdIdeal.main_arg2)) (m ((c.tc : Thread Cert.LnSiluBwdIdeal.nD Cert.LnSiluBwdIdeal.τ).loc Cert.LnSiluBwdIdeal.main_arg3))).1 = (fun _ => 1#1)
    ∧ (Cert.Pre_ln_finite.fn (F := Ideal) (m ((c.tc : Thread Cert.LnSiluBwdIdeal.nD Cert.LnSiluBwdIdeal.τ).loc Cert.LnSiluBwdIdeal.main_arg0)) (m ((c.tc : Thread Cert.LnSiluBwdIdeal.nD Cert.LnSiluBwdIdeal.τ).loc Cert.LnSiluBwdIdeal.main_arg1)) (m ((c.tc : Thread Cert.LnSiluBwdIdeal.nD Cert.LnSiluBwdIdeal.τ).loc Cert.LnSiluBwdIdeal.main_arg2)) (m ((c.tc : Thread Cert.LnSiluBwdIdeal.nD Cert.LnSiluBwdIdeal.τ).loc Cert.LnSiluBwdIdeal.main_arg3))).2 = (fun _ => 1#1)

def Pre_LnSiluGradIdeal (m : (ℓ : Loc Cert.LnSiluGradIdeal.nD Cert.LnSiluGradIdeal.τ Cert.LnSiluGradIdeal.sig) → Buf (Elt Ideal) ℓ) : Prop :=
  True

def Pre_LnSiluGradIdeal_ln_finite [hPre_ln_finite : Cert.Pre_ln_finite.Facts] (m : (ℓ : Loc Cert.LnSiluGradIdeal.nD Cert.LnSiluGradIdeal.τ Cert.LnSiluGradIdeal.sig) → Buf (Elt Ideal) ℓ) : Prop :=
  ∀ c : Dev Cert.LnSiluGradIdeal.nD,
    (Cert.Pre_ln_finite.fn (F := Ideal) (m ((c.tc : Thread Cert.LnSiluGradIdeal.nD Cert.LnSiluGradIdeal.τ).loc Cert.LnSiluGradIdeal.main_arg0)) (m ((c.tc : Thread Cert.LnSiluGradIdeal.nD Cert.LnSiluGradIdeal.τ).loc Cert.LnSiluGradIdeal.main_arg1)) (m ((c.tc : Thread Cert.LnSiluGradIdeal.nD Cert.LnSiluGradIdeal.τ).loc Cert.LnSiluGradIdeal.main_arg2)) (m ((c.tc : Thread Cert.LnSiluGradIdeal.nD Cert.LnSiluGradIdeal.τ).loc Cert.LnSiluGradIdeal.main_arg3))).1 = (fun _ => 1#1)
    ∧ (Cert.Pre_ln_finite.fn (F := Ideal) (m ((c.tc : Thread Cert.LnSiluGradIdeal.nD Cert.LnSiluGradIdeal.τ).loc Cert.LnSiluGradIdeal.main_arg0)) (m ((c.tc : Thread Cert.LnSiluGradIdeal.nD Cert.LnSiluGradIdeal.τ).loc Cert.LnSiluGradIdeal.main_arg1)) (m ((c.tc : Thread Cert.LnSiluGradIdeal.nD Cert.LnSiluGradIdeal.τ).loc Cert.LnSiluGradIdeal.main_arg2)) (m ((c.tc : Thread Cert.LnSiluGradIdeal.nD Cert.LnSiluGradIdeal.τ).loc Cert.LnSiluGradIdeal.main_arg3))).2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossGradIdeal (m : (ℓ : Loc Cert.LossGradIdeal.nD Cert.LossGradIdeal.τ Cert.LossGradIdeal.sig) → Buf (Elt Ideal) ℓ) : Prop :=
  True

def Pre_NormUpBwd (m : (ℓ : Loc Cert.NormUpBwd.nD Cert.NormUpBwd.τ Cert.NormUpBwd.sig) → Buf (Elt Bits) ℓ) : Prop :=
  True

def Pre_NormUpBwdIdeal (m : (ℓ : Loc Cert.NormUpBwdIdeal.nD Cert.NormUpBwdIdeal.τ Cert.NormUpBwdIdeal.sig) → Buf (Elt Ideal) ℓ) : Prop :=
  True

def Pre_NormUpGradIdeal (m : (ℓ : Loc Cert.NormUpGradIdeal.nD Cert.NormUpGradIdeal.τ Cert.NormUpGradIdeal.sig) → Buf (Elt Ideal) ℓ) : Prop :=
  True

def Pre_NormQBwd (m : (ℓ : Loc Cert.NormQBwd.nD Cert.NormQBwd.τ Cert.NormQBwd.sig) → Buf (Elt Bits) ℓ) : Prop :=
  True

def Pre_NormQBwdIdeal (m : (ℓ : Loc Cert.NormQBwdIdeal.nD Cert.NormQBwdIdeal.τ Cert.NormQBwdIdeal.sig) → Buf (Elt Ideal) ℓ) : Prop :=
  True

def Pre_NormQGradIdeal (m : (ℓ : Loc Cert.NormQGradIdeal.nD Cert.NormQGradIdeal.τ Cert.NormQGradIdeal.sig) → Buf (Elt Ideal) ℓ) : Prop :=
  True

def Pre_NormInBwd (m : (ℓ : Loc Cert.NormInBwd.nD Cert.NormInBwd.τ Cert.NormInBwd.sig) → Buf (Elt Bits) ℓ) : Prop :=
  True

def Pre_NormInBwdIdeal (m : (ℓ : Loc Cert.NormInBwdIdeal.nD Cert.NormInBwdIdeal.τ Cert.NormInBwdIdeal.sig) → Buf (Elt Ideal) ℓ) : Prop :=
  True

def Pre_NormInGradIdeal (m : (ℓ : Loc Cert.NormInGradIdeal.nD Cert.NormInGradIdeal.τ Cert.NormInGradIdeal.sig) → Buf (Elt Ideal) ℓ) : Prop :=
  True

def Pre_SqreluBwd (m : (ℓ : Loc Cert.SqreluBwd.nD Cert.SqreluBwd.τ Cert.SqreluBwd.sig) → Buf (Elt Bits) ℓ) : Prop :=
  True

def Pre_SqreluBwdIdeal (m : (ℓ : Loc Cert.SqreluBwdIdeal.nD Cert.SqreluBwdIdeal.τ Cert.SqreluBwdIdeal.sig) → Buf (Elt Ideal) ℓ) : Prop :=
  True

def Pre_SqreluGradIdeal (m : (ℓ : Loc Cert.SqreluGradIdeal.nD Cert.SqreluGradIdeal.τ Cert.SqreluGradIdeal.sig) → Buf (Elt Ideal) ℓ) : Prop :=
  True

def Pre_RmsMemBwd (m : (ℓ : Loc Cert.RmsMemBwd.nD Cert.RmsMemBwd.τ Cert.RmsMemBwd.sig) → Buf (Elt Bits) ℓ) : Prop :=
  True

def Pre_RmsMemBwdIdeal (m : (ℓ : Loc Cert.RmsMemBwdIdeal.nD Cert.RmsMemBwdIdeal.τ Cert.RmsMemBwdIdeal.sig) → Buf (Elt Ideal) ℓ) : Prop :=
  True

def Pre_RmsMemGradIdeal (m : (ℓ : Loc Cert.RmsMemGradIdeal.nD Cert.RmsMemGradIdeal.τ Cert.RmsMemGradIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnOutIdeal (m : (ℓ : Loc Cert.AttnOutIdeal.nD Cert.AttnOutIdeal.τ Cert.AttnOutIdeal.sig) → Buf (Elt Ideal) ℓ) : Prop :=
  True

def Pre_ConformerFwd (m : (ℓ : Loc Cert.ConformerFwd.nD Cert.ConformerFwd.τ Cert.ConformerFwd.sig) → Buf (Elt Bits) ℓ) : Prop :=
  True

def Pre_ConformerFwdIdeal (m : (ℓ : Loc Cert.ConformerFwdIdeal.nD Cert.ConformerFwdIdeal.τ Cert.ConformerFwdIdeal.sig) → Buf (Elt Ideal) ℓ) : Prop :=
  True

def Pre_ConformerOutIdeal (m : (ℓ : Loc Cert.ConformerOutIdeal.nD Cert.ConformerOutIdeal.τ Cert.ConformerOutIdeal.sig) → Buf (Elt Ideal) ℓ) : Prop :=
  True

def Pre_LnSiluFwd (m : (ℓ : Loc Cert.LnSiluFwd.nD Cert.LnSiluFwd.τ Cert.LnSiluFwd.sig) → Buf (Elt Bits) ℓ) : Prop :=
  True

def Pre_LnSiluFwdIdeal (m : (ℓ : Loc Cert.LnSiluFwdIdeal.nD Cert.LnSiluFwdIdeal.τ Cert.LnSiluFwdIdeal.sig) → Buf (Elt Ideal) ℓ) : Prop :=
  True

def Pre_LnSiluOutIdeal (m : (ℓ : Loc Cert.LnSiluOutIdeal.nD Cert.LnSiluOutIdeal.τ Cert.LnSiluOutIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsOutIdeal (m : (ℓ : Loc Cert.RmsOutIdeal.nD Cert.RmsOutIdeal.τ Cert.RmsOutIdeal.sig) → Buf (Elt Ideal) ℓ) : Prop :=
  True

def Pre_NormOutFwd (m : (ℓ : Loc Cert.NormOutFwd.nD Cert.NormOutFwd.τ Cert.NormOutFwd.sig) → Buf (Elt Bits) ℓ) : Prop :=
  True

def Pre_NormOutFwdIdeal (m : (ℓ : Loc Cert.NormOutFwdIdeal.nD Cert.NormOutFwdIdeal.τ Cert.NormOutFwdIdeal.sig) → Buf (Elt Ideal) ℓ) : Prop :=
  True

def Pre_NormOutOutIdeal (m : (ℓ : Loc Cert.NormOutOutIdeal.nD Cert.NormOutOutIdeal.τ Cert.NormOutOutIdeal.sig) → Buf (Elt Ideal) ℓ) : Prop :=
  True

def Pre_NormDownFwd (m : (ℓ : Loc Cert.NormDownFwd.nD Cert.NormDownFwd.τ Cert.NormDownFwd.sig) → Buf (Elt Bits) ℓ) : Prop :=
  True

def Pre_NormDownFwdIdeal (m : (ℓ : Loc Cert.NormDownFwdIdeal.nD Cert.NormDownFwdIdeal.τ Cert.NormDownFwdIdeal.sig) → Buf (Elt Ideal) ℓ) : Prop :=
  True

def Pre_NormDownOutIdeal (m : (ℓ : Loc Cert.NormDownOutIdeal.nD Cert.NormDownOutIdeal.τ Cert.NormDownOutIdeal.sig) → Buf (Elt Ideal) ℓ) : Prop :=
  True

def Pre_SqreluFwd (m : (ℓ : Loc Cert.SqreluFwd.nD Cert.SqreluFwd.τ Cert.SqreluFwd.sig) → Buf (Elt Bits) ℓ) : Prop :=
  True

def Pre_SqreluFwdIdeal (m : (ℓ : Loc Cert.SqreluFwdIdeal.nD Cert.SqreluFwdIdeal.τ Cert.SqreluFwdIdeal.sig) → Buf (Elt Ideal) ℓ) : Prop :=
  True

def Pre_SqreluOutIdeal (m : (ℓ : Loc Cert.SqreluOutIdeal.nD Cert.SqreluOutIdeal.τ Cert.SqreluOutIdeal.sig) → Buf (Elt Ideal) ℓ) : Prop :=
  True

def Pre_ShortConvBwd (m : (ℓ : Loc Cert.ShortConvBwd.nD Cert.ShortConvBwd.τ Cert.ShortConvBwd.sig) → Buf (Elt Bits) ℓ) : Prop :=
  True

def Pre_ShortConvBwdIdeal (m : (ℓ : Loc Cert.ShortConvBwdIdeal.nD Cert.ShortConvBwdIdeal.τ Cert.ShortConvBwdIdeal.sig) → Buf (Elt Ideal) ℓ) : Prop :=
  True

def Pre_ShortConvGradIdeal (m : (ℓ : Loc Cert.ShortConvGradIdeal.nD Cert.ShortConvGradIdeal.τ Cert.ShortConvGradIdeal.sig) → Buf (Elt Ideal) ℓ) : Prop :=
  True

def Pre_ShortConvFwd (m : (ℓ : Loc Cert.ShortConvFwd.nD Cert.ShortConvFwd.τ Cert.ShortConvFwd.sig) → Buf (Elt Bits) ℓ) : Prop :=
  True

def Pre_ShortConvFwdIdeal (m : (ℓ : Loc Cert.ShortConvFwdIdeal.nD Cert.ShortConvFwdIdeal.τ Cert.ShortConvFwdIdeal.sig) → Buf (Elt Ideal) ℓ) : Prop :=
  True

def Pre_ShortConvOutIdeal (m : (ℓ : Loc Cert.ShortConvOutIdeal.nD Cert.ShortConvOutIdeal.τ Cert.ShortConvOutIdeal.sig) → Buf (Elt Ideal) ℓ) : Prop :=
  True

def Pre_SwapHalves (m : (ℓ : Loc Cert.SwapHalves.nD Cert.SwapHalves.τ Cert.SwapHalves.sig) → Buf (Elt Bits) ℓ) : Prop :=
  True

def Pre_SwapHalvesIdeal (m : (ℓ : Loc Cert.SwapHalvesIdeal.nD Cert.SwapHalvesIdeal.τ Cert.SwapHalvesIdeal.sig) → Buf (Elt Ideal) ℓ) : Prop :=
  True

def Pre_SwapOutIdeal (m : (ℓ : Loc Cert.SwapOutIdeal.nD Cert.SwapOutIdeal.τ Cert.SwapOutIdeal.sig) → Buf (Elt Ideal) ℓ) : Prop :=
  True

def Pre_SwapFive (m : (ℓ : Loc Cert.SwapFive.nD Cert.SwapFive.τ Cert.SwapFive.sig) → Buf (Elt Bits) ℓ) : Prop :=
  True

def Pre_SwapFiveIdeal (m : (ℓ : Loc Cert.SwapFiveIdeal.nD Cert.SwapFiveIdeal.τ Cert.SwapFiveIdeal.sig) → Buf (Elt Ideal) ℓ) : Prop :=
  True

def Pre_SwapFiveOutIdeal (m : (ℓ : Loc Cert.SwapFiveOutIdeal.nD Cert.SwapFiveOutIdeal.τ Cert.SwapFiveOutIdeal.sig) → Buf (Elt Ideal) ℓ) : Prop :=
  True

def Pre_MatDown (m : (ℓ : Loc Cert.MatDown.nD Cert.MatDown.τ Cert.MatDown.sig) → Buf (Elt Bits) ℓ) : Prop :=
  True

def Pre_MatDownIdeal (m : (ℓ : Loc Cert.MatDownIdeal.nD Cert.MatDownIdeal.τ Cert.MatDownIdeal.sig) → Buf (Elt Ideal) ℓ) : Prop :=
  True

def Pre_MatDownGradIdeal (m : (ℓ : Loc Cert.MatDownGradIdeal.nD Cert.MatDownGradIdeal.τ Cert.MatDownGradIdeal.sig) → Buf (Elt Ideal) ℓ) : Prop :=
  True

def Pre_AdamLayers (m : (ℓ : Loc Cert.AdamLayers.nD Cert.AdamLayers.τ Cert.AdamLayers.sig) → Buf (Elt Bits) ℓ) : Prop :=
  True

def Pre_AdamLayersIdeal (m : (ℓ : Loc Cert.AdamLayersIdeal.nD Cert.AdamLayersIdeal.τ Cert.AdamLayersIdeal.sig) → Buf (Elt Ideal) ℓ) : Prop :=
  True

def Pre_AdamLayersOutIdeal (m : (ℓ : Loc Cert.AdamLayersOutIdeal.nD Cert.AdamLayersOutIdeal.τ Cert.AdamLayersOutIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallOutIdeal (m : (ℓ : Loc Cert.AdamSmallOutIdeal.nD Cert.AdamSmallOutIdeal.τ Cert.AdamSmallOutIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallOutIdeal (m : (ℓ : Loc Cert.SumSmallOutIdeal.nD Cert.SumSmallOutIdeal.τ Cert.SumSmallOutIdeal.sig) → Buf (Elt Ideal) ℓ) : Prop :=
  True

def Pre_PairSum [hPre_core_named : Cert.Pre_core_named.Facts] (m : (ℓ : Loc Cert.PairSum.nD Cert.PairSum.τ Cert.PairSum.sig) → Buf (Elt Bits) ℓ) : Prop :=
  ∀ c : Dev Cert.PairSum.nD,
    (Cert.Pre_core_named.fn (F := Bits) (m ((c.tc : Thread Cert.PairSum.nD Cert.PairSum.τ).loc Cert.PairSum.main_arg0)) (m ((c.tc : Thread Cert.PairSum.nD Cert.PairSum.τ).loc Cert.PairSum.main_arg1)) (m ((c.tc : Thread Cert.PairSum.nD Cert.PairSum.τ).loc Cert.PairSum.main_arg2))) = (fun _ => 1#1)

def Pre_PairSumIdeal [hPre_core_named : Cert.Pre_core_named.Facts] (m : (ℓ : Loc Cert.PairSumIdeal.nD Cert.PairSumIdeal.τ Cert.PairSumIdeal.sig) → Buf (Elt Ideal) ℓ) : Prop :=
  ∀ c : Dev Cert.PairSumIdeal.nD,
    (Cert.Pre_core_named.fn (F := Ideal) (m ((c.tc : Thread Cert.PairSumIdeal.nD Cert.PairSumIdeal.τ).loc Cert.PairSumIdeal.main_arg0)) (m ((c.tc : Thread Cert.PairSumIdeal.nD Cert.PairSumIdeal.τ).loc Cert.PairSumIdeal.main_arg1)) (m ((c.tc : Thread Cert.PairSumIdeal.nD Cert.PairSumIdeal.τ).loc Cert.PairSumIdeal.main_arg2))) = (fun _ => 1#1)

def Pre_PairSumOutIdeal (m : (ℓ : Loc Cert.PairSumOutIdeal.nD Cert.PairSumOutIdeal.τ Cert.PairSumOutIdeal.sig) → Buf (Elt Ideal) ℓ) : Prop :=
  True

def Pre_PairSumOutIdeal_core_named [hPre_core_named : Cert.Pre_core_named.Facts] (m : (ℓ : Loc Cert.PairSumOutIdeal.nD Cert.PairSumOutIdeal.τ Cert.PairSumOutIdeal.sig) → Buf (Elt Ideal) ℓ) : Prop :=
  ∀ c : Dev Cert.PairSumOutIdeal.nD,
    (Cert.Pre_core_named.fn (F := Ideal) (m ((c.tc : Thread Cert.PairSumOutIdeal.nD Cert.PairSumOutIdeal.τ).loc Cert.PairSumOutIdeal.main_arg0)) (m ((c.tc : Thread Cert.PairSumOutIdeal.nD Cert.PairSumOutIdeal.τ).loc Cert.PairSumOutIdeal.main_arg1)) (m ((c.tc : Thread Cert.PairSumOutIdeal.nD Cert.PairSumOutIdeal.τ).loc Cert.PairSumOutIdeal.main_arg2))) = (fun _ => 1#1)

def quiescent_ConformerBwd [hConformerBwd : Cert.ConformerBwd.Facts] : Prop :=
  ∀ (m : (ℓ : Loc Cert.ConformerBwd.nD Cert.ConformerBwd.τ Cert.ConformerBwd.sig) → Buf (Elt Bits) ℓ) (g : Dev Cert.ConformerBwd.nD → PrngReg), Pre_ConformerBwd m →
    θ_run (Cert.ConformerBwd.defs (F := Bits)) (onTc (τ := Cert.ConformerBwd.τ) (Cert.ConformerBwd.main (F := Bits))) ⟨m, fun _ => 0, g⟩ (fun r => (∀ c : Dev Cert.ConformerBwd.nD,
      r.2.mem ((c.tc : Thread Cert.ConformerBwd.nD Cert.ConformerBwd.τ).loc Cert.ConformerBwd.main_arg0) = m ((c.tc : Thread Cert.ConformerBwd.nD Cert.ConformerBwd.τ).loc Cert.ConformerBwd.main_arg0)
      ∧ r.2.mem ((c.tc : Thread Cert.ConformerBwd.nD Cert.ConformerBwd.τ).loc Cert.ConformerBwd.main_arg1) = m ((c.tc : Thread Cert.ConformerBwd.nD Cert.ConformerBwd.τ).loc Cert.ConformerBwd.main_arg1)
      ∧ r.2.mem ((c.tc : Thread Cert.ConformerBwd.nD Cert.ConformerBwd.τ).loc Cert.ConformerBwd.main_arg2) = m ((c.tc : Thread Cert.ConformerBwd.nD Cert.ConformerBwd.τ).loc Cert.ConformerBwd.main_arg2))
      ∧ r.2.sem = fun _ => 0)

def quiescent_ConformerBwdIdeal [hConformerBwdIdeal : Cert.ConformerBwdIdeal.Facts] : Prop :=
  ∀ (m : (ℓ : Loc Cert.ConformerBwdIdeal.nD Cert.ConformerBwdIdeal.τ Cert.ConformerBwdIdeal.sig) → Buf (Elt Ideal) ℓ) (g : Dev Cert.ConformerBwdIdeal.nD → PrngReg), Pre_ConformerBwdIdeal m →
    θ_run (Cert.ConformerBwdIdeal.defs (F := Ideal)) (onTc (τ := Cert.ConformerBwdIdeal.τ) (Cert.ConformerBwdIdeal.main (F := Ideal))) ⟨m, fun _ => 0, g⟩ (fun r => (∀ c : Dev Cert.ConformerBwdIdeal.nD,
      r.2.mem ((c.tc : Thread Cert.ConformerBwdIdeal.nD Cert.ConformerBwdIdeal.τ).loc Cert.ConformerBwdIdeal.main_arg0) = m ((c.tc : Thread Cert.ConformerBwdIdeal.nD Cert.ConformerBwdIdeal.τ).loc Cert.ConformerBwdIdeal.main_arg0)
      ∧ r.2.mem ((c.tc : Thread Cert.ConformerBwdIdeal.nD Cert.ConformerBwdIdeal.τ).loc Cert.ConformerBwdIdeal.main_arg1) = m ((c.tc : Thread Cert.ConformerBwdIdeal.nD Cert.ConformerBwdIdeal.τ).loc Cert.ConformerBwdIdeal.main_arg1)
      ∧ r.2.mem ((c.tc : Thread Cert.ConformerBwdIdeal.nD Cert.ConformerBwdIdeal.τ).loc Cert.ConformerBwdIdeal.main_arg2) = m ((c.tc : Thread Cert.ConformerBwdIdeal.nD Cert.ConformerBwdIdeal.τ).loc Cert.ConformerBwdIdeal.main_arg2))
      ∧ r.2.sem = fun _ => 0)

def quiescent_ConformerGradIdeal [hConformerGradIdeal : Cert.ConformerGradIdeal.Facts] : Prop :=
  ∀ (m : (ℓ : Loc Cert.ConformerGradIdeal.nD Cert.ConformerGradIdeal.τ Cert.ConformerGradIdeal.sig) → Buf (Elt Ideal) ℓ) (g : Dev Cert.ConformerGradIdeal.nD → PrngReg), Pre_ConformerGradIdeal m →
    θ_run (Cert.ConformerGradIdeal.defs (F := Ideal)) (onTc (τ := Cert.ConformerGradIdeal.τ) (Cert.ConformerGradIdeal.main (F := Ideal))) ⟨m, fun _ => 0, g⟩ (fun r => (∀ c : Dev Cert.ConformerGradIdeal.nD,
      r.2.mem ((c.tc : Thread Cert.ConformerGradIdeal.nD Cert.ConformerGradIdeal.τ).loc Cert.ConformerGradIdeal.main_arg0) = m ((c.tc : Thread Cert.ConformerGradIdeal.nD Cert.ConformerGradIdeal.τ).loc Cert.ConformerGradIdeal.main_arg0)
      ∧ r.2.mem ((c.tc : Thread Cert.ConformerGradIdeal.nD Cert.ConformerGradIdeal.τ).loc Cert.ConformerGradIdeal.main_arg1) = m ((c.tc : Thread Cert.ConformerGradIdeal.nD Cert.ConformerGradIdeal.τ).loc Cert.ConformerGradIdeal.main_arg1)
      ∧ r.2.mem ((c.tc : Thread Cert.ConformerGradIdeal.nD Cert.ConformerGradIdeal.τ).loc Cert.ConformerGradIdeal.main_arg2) = m ((c.tc : Thread Cert.ConformerGradIdeal.nD Cert.ConformerGradIdeal.τ).loc Cert.ConformerGradIdeal.main_arg2))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnGradIdeal [hAttnGradIdeal : Cert.AttnGradIdeal.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2))
      ∧ r.2.sem = fun _ => 0)

def quiescent_AttnGradIdeal_pre_attn_finite [hAttnGradIdeal : Cert.AttnGradIdeal.Facts] [hPre_attn_finite : Cert.Pre_attn_finite.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal_attn_finite m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2))
      ∧ r.2.sem = fun _ => 0)

def quiescent_LnSiluBwd [hLnSiluBwd : Cert.LnSiluBwd.Facts] : Prop :=
  ∀ (m : (ℓ : Loc Cert.LnSiluBwd.nD Cert.LnSiluBwd.τ Cert.LnSiluBwd.sig) → Buf (Elt Bits) ℓ) (g : Dev Cert.LnSiluBwd.nD → PrngReg), Pre_LnSiluBwd m →
    θ_run (Cert.LnSiluBwd.defs (F := Bits)) (onTc (τ := Cert.LnSiluBwd.τ) (Cert.LnSiluBwd.main (F := Bits))) ⟨m, fun _ => 0, g⟩ (fun r => (∀ c : Dev Cert.LnSiluBwd.nD,
      r.2.mem ((c.tc : Thread Cert.LnSiluBwd.nD Cert.LnSiluBwd.τ).loc Cert.LnSiluBwd.main_arg0) = m ((c.tc : Thread Cert.LnSiluBwd.nD Cert.LnSiluBwd.τ).loc Cert.LnSiluBwd.main_arg0)
      ∧ r.2.mem ((c.tc : Thread Cert.LnSiluBwd.nD Cert.LnSiluBwd.τ).loc Cert.LnSiluBwd.main_arg1) = m ((c.tc : Thread Cert.LnSiluBwd.nD Cert.LnSiluBwd.τ).loc Cert.LnSiluBwd.main_arg1)
      ∧ r.2.mem ((c.tc : Thread Cert.LnSiluBwd.nD Cert.LnSiluBwd.τ).loc Cert.LnSiluBwd.main_arg2) = m ((c.tc : Thread Cert.LnSiluBwd.nD Cert.LnSiluBwd.τ).loc Cert.LnSiluBwd.main_arg2)
      ∧ r.2.mem ((c.tc : Thread Cert.LnSiluBwd.nD Cert.LnSiluBwd.τ).loc Cert.LnSiluBwd.main_arg3) = m ((c.tc : Thread Cert.LnSiluBwd.nD Cert.LnSiluBwd.τ).loc Cert.LnSiluBwd.main_arg3))
      ∧ r.2.sem = fun _ => 0)

def quiescent_LnSiluBwdIdeal [hLnSiluBwdIdeal : Cert.LnSiluBwdIdeal.Facts] : Prop :=
  ∀ (m : (ℓ : Loc Cert.LnSiluBwdIdeal.nD Cert.LnSiluBwdIdeal.τ Cert.LnSiluBwdIdeal.sig) → Buf (Elt Ideal) ℓ) (g : Dev Cert.LnSiluBwdIdeal.nD → PrngReg), Pre_LnSiluBwdIdeal m →
    θ_run (Cert.LnSiluBwdIdeal.defs (F := Ideal)) (onTc (τ := Cert.LnSiluBwdIdeal.τ) (Cert.LnSiluBwdIdeal.main (F := Ideal))) ⟨m, fun _ => 0, g⟩ (fun r => (∀ c : Dev Cert.LnSiluBwdIdeal.nD,
      r.2.mem ((c.tc : Thread Cert.LnSiluBwdIdeal.nD Cert.LnSiluBwdIdeal.τ).loc Cert.LnSiluBwdIdeal.main_arg0) = m ((c.tc : Thread Cert.LnSiluBwdIdeal.nD Cert.LnSiluBwdIdeal.τ).loc Cert.LnSiluBwdIdeal.main_arg0)
      ∧ r.2.mem ((c.tc : Thread Cert.LnSiluBwdIdeal.nD Cert.LnSiluBwdIdeal.τ).loc Cert.LnSiluBwdIdeal.main_arg1) = m ((c.tc : Thread Cert.LnSiluBwdIdeal.nD Cert.LnSiluBwdIdeal.τ).loc Cert.LnSiluBwdIdeal.main_arg1)
      ∧ r.2.mem ((c.tc : Thread Cert.LnSiluBwdIdeal.nD Cert.LnSiluBwdIdeal.τ).loc Cert.LnSiluBwdIdeal.main_arg2) = m ((c.tc : Thread Cert.LnSiluBwdIdeal.nD Cert.LnSiluBwdIdeal.τ).loc Cert.LnSiluBwdIdeal.main_arg2)
      ∧ r.2.mem ((c.tc : Thread Cert.LnSiluBwdIdeal.nD Cert.LnSiluBwdIdeal.τ).loc Cert.LnSiluBwdIdeal.main_arg3) = m ((c.tc : Thread Cert.LnSiluBwdIdeal.nD Cert.LnSiluBwdIdeal.τ).loc Cert.LnSiluBwdIdeal.main_arg3))
      ∧ r.2.sem = fun _ => 0)

def quiescent_LnSiluBwdIdeal_pre_ln_finite [hLnSiluBwdIdeal : Cert.LnSiluBwdIdeal.Facts] [hPre_ln_finite : Cert.Pre_ln_finite.Facts] : Prop :=
  ∀ (m : (ℓ : Loc Cert.LnSiluBwdIdeal.nD Cert.LnSiluBwdIdeal.τ Cert.LnSiluBwdIdeal.sig) → Buf (Elt Ideal) ℓ) (g : Dev Cert.LnSiluBwdIdeal.nD → PrngReg), Pre_LnSiluBwdIdeal_ln_finite m →
    θ_run (Cert.LnSiluBwdIdeal.defs (F := Ideal)) (onTc (τ := Cert.LnSiluBwdIdeal.τ) (Cert.LnSiluBwdIdeal.main (F := Ideal))) ⟨m, fun _ => 0, g⟩ (fun r => (∀ c : Dev Cert.LnSiluBwdIdeal.nD,
      r.2.mem ((c.tc : Thread Cert.LnSiluBwdIdeal.nD Cert.LnSiluBwdIdeal.τ).loc Cert.LnSiluBwdIdeal.main_arg0) = m ((c.tc : Thread Cert.LnSiluBwdIdeal.nD Cert.LnSiluBwdIdeal.τ).loc Cert.LnSiluBwdIdeal.main_arg0)
      ∧ r.2.mem ((c.tc : Thread Cert.LnSiluBwdIdeal.nD Cert.LnSiluBwdIdeal.τ).loc Cert.LnSiluBwdIdeal.main_arg1) = m ((c.tc : Thread Cert.LnSiluBwdIdeal.nD Cert.LnSiluBwdIdeal.τ).loc Cert.LnSiluBwdIdeal.main_arg1)
      ∧ r.2.mem ((c.tc : Thread Cert.LnSiluBwdIdeal.nD Cert.LnSiluBwdIdeal.τ).loc Cert.LnSiluBwdIdeal.main_arg2) = m ((c.tc : Thread Cert.LnSiluBwdIdeal.nD Cert.LnSiluBwdIdeal.τ).loc Cert.LnSiluBwdIdeal.main_arg2)
      ∧ r.2.mem ((c.tc : Thread Cert.LnSiluBwdIdeal.nD Cert.LnSiluBwdIdeal.τ).loc Cert.LnSiluBwdIdeal.main_arg3) = m ((c.tc : Thread Cert.LnSiluBwdIdeal.nD Cert.LnSiluBwdIdeal.τ).loc Cert.LnSiluBwdIdeal.main_arg3))
      ∧ r.2.sem = fun _ => 0)

def quiescent_LnSiluGradIdeal [hLnSiluGradIdeal : Cert.LnSiluGradIdeal.Facts] : Prop :=
  ∀ (m : (ℓ : Loc Cert.LnSiluGradIdeal.nD Cert.LnSiluGradIdeal.τ Cert.LnSiluGradIdeal.sig) → Buf (Elt Ideal) ℓ) (g : Dev Cert.LnSiluGradIdeal.nD → PrngReg), Pre_LnSiluGradIdeal m →
    θ_run (Cert.LnSiluGradIdeal.defs (F := Ideal)) (onTc (τ := Cert.LnSiluGradIdeal.τ) (Cert.LnSiluGradIdeal.main (F := Ideal))) ⟨m, fun _ => 0, g⟩ (fun r => (∀ c : Dev Cert.LnSiluGradIdeal.nD,
      r.2.mem ((c.tc : Thread Cert.LnSiluGradIdeal.nD Cert.LnSiluGradIdeal.τ).loc Cert.LnSiluGradIdeal.main_arg0) = m ((c.tc : Thread Cert.LnSiluGradIdeal.nD Cert.LnSiluGradIdeal.τ).loc Cert.LnSiluGradIdeal.main_arg0)
      ∧ r.2.mem ((c.tc : Thread Cert.LnSiluGradIdeal.nD Cert.LnSiluGradIdeal.τ).loc Cert.LnSiluGradIdeal.main_arg1) = m ((c.tc : Thread Cert.LnSiluGradIdeal.nD Cert.LnSiluGradIdeal.τ).loc Cert.LnSiluGradIdeal.main_arg1)
      ∧ r.2.mem ((c.tc : Thread Cert.LnSiluGradIdeal.nD Cert.LnSiluGradIdeal.τ).loc Cert.LnSiluGradIdeal.main_arg2) = m ((c.tc : Thread Cert.LnSiluGradIdeal.nD Cert.LnSiluGradIdeal.τ).loc Cert.LnSiluGradIdeal.main_arg2)
      ∧ r.2.mem ((c.tc : Thread Cert.LnSiluGradIdeal.nD Cert.LnSiluGradIdeal.τ).loc Cert.LnSiluGradIdeal.main_arg3) = m ((c.tc : Thread Cert.LnSiluGradIdeal.nD Cert.LnSiluGradIdeal.τ).loc Cert.LnSiluGradIdeal.main_arg3))
      ∧ r.2.sem = fun _ => 0)

def quiescent_LnSiluGradIdeal_pre_ln_finite [hLnSiluGradIdeal : Cert.LnSiluGradIdeal.Facts] [hPre_ln_finite : Cert.Pre_ln_finite.Facts] : Prop :=
  ∀ (m : (ℓ : Loc Cert.LnSiluGradIdeal.nD Cert.LnSiluGradIdeal.τ Cert.LnSiluGradIdeal.sig) → Buf (Elt Ideal) ℓ) (g : Dev Cert.LnSiluGradIdeal.nD → PrngReg), Pre_LnSiluGradIdeal_ln_finite m →
    θ_run (Cert.LnSiluGradIdeal.defs (F := Ideal)) (onTc (τ := Cert.LnSiluGradIdeal.τ) (Cert.LnSiluGradIdeal.main (F := Ideal))) ⟨m, fun _ => 0, g⟩ (fun r => (∀ c : Dev Cert.LnSiluGradIdeal.nD,
      r.2.mem ((c.tc : Thread Cert.LnSiluGradIdeal.nD Cert.LnSiluGradIdeal.τ).loc Cert.LnSiluGradIdeal.main_arg0) = m ((c.tc : Thread Cert.LnSiluGradIdeal.nD Cert.LnSiluGradIdeal.τ).loc Cert.LnSiluGradIdeal.main_arg0)
      ∧ r.2.mem ((c.tc : Thread Cert.LnSiluGradIdeal.nD Cert.LnSiluGradIdeal.τ).loc Cert.LnSiluGradIdeal.main_arg1) = m ((c.tc : Thread Cert.LnSiluGradIdeal.nD Cert.LnSiluGradIdeal.τ).loc Cert.LnSiluGradIdeal.main_arg1)
      ∧ r.2.mem ((c.tc : Thread Cert.LnSiluGradIdeal.nD Cert.LnSiluGradIdeal.τ).loc Cert.LnSiluGradIdeal.main_arg2) = m ((c.tc : Thread Cert.LnSiluGradIdeal.nD Cert.LnSiluGradIdeal.τ).loc Cert.LnSiluGradIdeal.main_arg2)
      ∧ r.2.mem ((c.tc : Thread Cert.LnSiluGradIdeal.nD Cert.LnSiluGradIdeal.τ).loc Cert.LnSiluGradIdeal.main_arg3) = m ((c.tc : Thread Cert.LnSiluGradIdeal.nD Cert.LnSiluGradIdeal.τ).loc Cert.LnSiluGradIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2))
      ∧ r.2.sem = fun _ => 0)

def quiescent_NormUpBwd [hNormUpBwd : Cert.NormUpBwd.Facts] : Prop :=
  ∀ (m : (ℓ : Loc Cert.NormUpBwd.nD Cert.NormUpBwd.τ Cert.NormUpBwd.sig) → Buf (Elt Bits) ℓ) (g : Dev Cert.NormUpBwd.nD → PrngReg), Pre_NormUpBwd m →
    θ_run (Cert.NormUpBwd.defs (F := Bits)) (onTc (τ := Cert.NormUpBwd.τ) (Cert.NormUpBwd.main (F := Bits))) ⟨m, fun _ => 0, g⟩ (fun r => (∀ c : Dev Cert.NormUpBwd.nD,
      r.2.mem ((c.tc : Thread Cert.NormUpBwd.nD Cert.NormUpBwd.τ).loc Cert.NormUpBwd.main_arg0) = m ((c.tc : Thread Cert.NormUpBwd.nD Cert.NormUpBwd.τ).loc Cert.NormUpBwd.main_arg0)
      ∧ r.2.mem ((c.tc : Thread Cert.NormUpBwd.nD Cert.NormUpBwd.τ).loc Cert.NormUpBwd.main_arg1) = m ((c.tc : Thread Cert.NormUpBwd.nD Cert.NormUpBwd.τ).loc Cert.NormUpBwd.main_arg1)
      ∧ r.2.mem ((c.tc : Thread Cert.NormUpBwd.nD Cert.NormUpBwd.τ).loc Cert.NormUpBwd.main_arg2) = m ((c.tc : Thread Cert.NormUpBwd.nD Cert.NormUpBwd.τ).loc Cert.NormUpBwd.main_arg2)
      ∧ r.2.mem ((c.tc : Thread Cert.NormUpBwd.nD Cert.NormUpBwd.τ).loc Cert.NormUpBwd.main_arg3) = m ((c.tc : Thread Cert.NormUpBwd.nD Cert.NormUpBwd.τ).loc Cert.NormUpBwd.main_arg3)
      ∧ r.2.mem ((c.tc : Thread Cert.NormUpBwd.nD Cert.NormUpBwd.τ).loc Cert.NormUpBwd.main_arg4) = m ((c.tc : Thread Cert.NormUpBwd.nD Cert.NormUpBwd.τ).loc Cert.NormUpBwd.main_arg4))
      ∧ r.2.sem = fun _ => 0)

def quiescent_NormUpBwdIdeal [hNormUpBwdIdeal : Cert.NormUpBwdIdeal.Facts] : Prop :=
  ∀ (m : (ℓ : Loc Cert.NormUpBwdIdeal.nD Cert.NormUpBwdIdeal.τ Cert.NormUpBwdIdeal.sig) → Buf (Elt Ideal) ℓ) (g : Dev Cert.NormUpBwdIdeal.nD → PrngReg), Pre_NormUpBwdIdeal m →
    θ_run (Cert.NormUpBwdIdeal.defs (F := Ideal)) (onTc (τ := Cert.NormUpBwdIdeal.τ) (Cert.NormUpBwdIdeal.main (F := Ideal))) ⟨m, fun _ => 0, g⟩ (fun r => (∀ c : Dev Cert.NormUpBwdIdeal.nD,
      r.2.mem ((c.tc : Thread Cert.NormUpBwdIdeal.nD Cert.NormUpBwdIdeal.τ).loc Cert.NormUpBwdIdeal.main_arg0) = m ((c.tc : Thread Cert.NormUpBwdIdeal.nD Cert.NormUpBwdIdeal.τ).loc Cert.NormUpBwdIdeal.main_arg0)
      ∧ r.2.mem ((c.tc : Thread Cert.NormUpBwdIdeal.nD Cert.NormUpBwdIdeal.τ).loc Cert.NormUpBwdIdeal.main_arg1) = m ((c.tc : Thread Cert.NormUpBwdIdeal.nD Cert.NormUpBwdIdeal.τ).loc Cert.NormUpBwdIdeal.main_arg1)
      ∧ r.2.mem ((c.tc : Thread Cert.NormUpBwdIdeal.nD Cert.NormUpBwdIdeal.τ).loc Cert.NormUpBwdIdeal.main_arg2) = m ((c.tc : Thread Cert.NormUpBwdIdeal.nD Cert.NormUpBwdIdeal.τ).loc Cert.NormUpBwdIdeal.main_arg2)
      ∧ r.2.mem ((c.tc : Thread Cert.NormUpBwdIdeal.nD Cert.NormUpBwdIdeal.τ).loc Cert.NormUpBwdIdeal.main_arg3) = m ((c.tc : Thread Cert.NormUpBwdIdeal.nD Cert.NormUpBwdIdeal.τ).loc Cert.NormUpBwdIdeal.main_arg3)
      ∧ r.2.mem ((c.tc : Thread Cert.NormUpBwdIdeal.nD Cert.NormUpBwdIdeal.τ).loc Cert.NormUpBwdIdeal.main_arg4) = m ((c.tc : Thread Cert.NormUpBwdIdeal.nD Cert.NormUpBwdIdeal.τ).loc Cert.NormUpBwdIdeal.main_arg4))
      ∧ r.2.sem = fun _ => 0)

def quiescent_NormUpGradIdeal [hNormUpGradIdeal : Cert.NormUpGradIdeal.Facts] : Prop :=
  ∀ (m : (ℓ : Loc Cert.NormUpGradIdeal.nD Cert.NormUpGradIdeal.τ Cert.NormUpGradIdeal.sig) → Buf (Elt Ideal) ℓ) (g : Dev Cert.NormUpGradIdeal.nD → PrngReg), Pre_NormUpGradIdeal m →
    θ_run (Cert.NormUpGradIdeal.defs (F := Ideal)) (onTc (τ := Cert.NormUpGradIdeal.τ) (Cert.NormUpGradIdeal.main (F := Ideal))) ⟨m, fun _ => 0, g⟩ (fun r => (∀ c : Dev Cert.NormUpGradIdeal.nD,
      r.2.mem ((c.tc : Thread Cert.NormUpGradIdeal.nD Cert.NormUpGradIdeal.τ).loc Cert.NormUpGradIdeal.main_arg0) = m ((c.tc : Thread Cert.NormUpGradIdeal.nD Cert.NormUpGradIdeal.τ).loc Cert.NormUpGradIdeal.main_arg0)
      ∧ r.2.mem ((c.tc : Thread Cert.NormUpGradIdeal.nD Cert.NormUpGradIdeal.τ).loc Cert.NormUpGradIdeal.main_arg1) = m ((c.tc : Thread Cert.NormUpGradIdeal.nD Cert.NormUpGradIdeal.τ).loc Cert.NormUpGradIdeal.main_arg1)
      ∧ r.2.mem ((c.tc : Thread Cert.NormUpGradIdeal.nD Cert.NormUpGradIdeal.τ).loc Cert.NormUpGradIdeal.main_arg2) = m ((c.tc : Thread Cert.NormUpGradIdeal.nD Cert.NormUpGradIdeal.τ).loc Cert.NormUpGradIdeal.main_arg2)
      ∧ r.2.mem ((c.tc : Thread Cert.NormUpGradIdeal.nD Cert.NormUpGradIdeal.τ).loc Cert.NormUpGradIdeal.main_arg3) = m ((c.tc : Thread Cert.NormUpGradIdeal.nD Cert.NormUpGradIdeal.τ).loc Cert.NormUpGradIdeal.main_arg3)
      ∧ r.2.mem ((c.tc : Thread Cert.NormUpGradIdeal.nD Cert.NormUpGradIdeal.τ).loc Cert.NormUpGradIdeal.main_arg4) = m ((c.tc : Thread Cert.NormUpGradIdeal.nD Cert.NormUpGradIdeal.τ).loc Cert.NormUpGradIdeal.main_arg4))
      ∧ r.2.sem = fun _ => 0)

def quiescent_NormQBwd [hNormQBwd : Cert.NormQBwd.Facts] : Prop :=
  ∀ (m : (ℓ : Loc Cert.NormQBwd.nD Cert.NormQBwd.τ Cert.NormQBwd.sig) → Buf (Elt Bits) ℓ) (g : Dev Cert.NormQBwd.nD → PrngReg), Pre_NormQBwd m →
    θ_run (Cert.NormQBwd.defs (F := Bits)) (onTc (τ := Cert.NormQBwd.τ) (Cert.NormQBwd.main (F := Bits))) ⟨m, fun _ => 0, g⟩ (fun r => (∀ c : Dev Cert.NormQBwd.nD,
      r.2.mem ((c.tc : Thread Cert.NormQBwd.nD Cert.NormQBwd.τ).loc Cert.NormQBwd.main_arg0) = m ((c.tc : Thread Cert.NormQBwd.nD Cert.NormQBwd.τ).loc Cert.NormQBwd.main_arg0)
      ∧ r.2.mem ((c.tc : Thread Cert.NormQBwd.nD Cert.NormQBwd.τ).loc Cert.NormQBwd.main_arg1) = m ((c.tc : Thread Cert.NormQBwd.nD Cert.NormQBwd.τ).loc Cert.NormQBwd.main_arg1)
      ∧ r.2.mem ((c.tc : Thread Cert.NormQBwd.nD Cert.NormQBwd.τ).loc Cert.NormQBwd.main_arg2) = m ((c.tc : Thread Cert.NormQBwd.nD Cert.NormQBwd.τ).loc Cert.NormQBwd.main_arg2)
      ∧ r.2.mem ((c.tc : Thread Cert.NormQBwd.nD Cert.NormQBwd.τ).loc Cert.NormQBwd.main_arg3) = m ((c.tc : Thread Cert.NormQBwd.nD Cert.NormQBwd.τ).loc Cert.NormQBwd.main_arg3)
      ∧ r.2.mem ((c.tc : Thread Cert.NormQBwd.nD Cert.NormQBwd.τ).loc Cert.NormQBwd.main_arg4) = m ((c.tc : Thread Cert.NormQBwd.nD Cert.NormQBwd.τ).loc Cert.NormQBwd.main_arg4))
      ∧ r.2.sem = fun _ => 0)

def quiescent_NormQBwdIdeal [hNormQBwdIdeal : Cert.NormQBwdIdeal.Facts] : Prop :=
  ∀ (m : (ℓ : Loc Cert.NormQBwdIdeal.nD Cert.NormQBwdIdeal.τ Cert.NormQBwdIdeal.sig) → Buf (Elt Ideal) ℓ) (g : Dev Cert.NormQBwdIdeal.nD → PrngReg), Pre_NormQBwdIdeal m →
    θ_run (Cert.NormQBwdIdeal.defs (F := Ideal)) (onTc (τ := Cert.NormQBwdIdeal.τ) (Cert.NormQBwdIdeal.main (F := Ideal))) ⟨m, fun _ => 0, g⟩ (fun r => (∀ c : Dev Cert.NormQBwdIdeal.nD,
      r.2.mem ((c.tc : Thread Cert.NormQBwdIdeal.nD Cert.NormQBwdIdeal.τ).loc Cert.NormQBwdIdeal.main_arg0) = m ((c.tc : Thread Cert.NormQBwdIdeal.nD Cert.NormQBwdIdeal.τ).loc Cert.NormQBwdIdeal.main_arg0)
      ∧ r.2.mem ((c.tc : Thread Cert.NormQBwdIdeal.nD Cert.NormQBwdIdeal.τ).loc Cert.NormQBwdIdeal.main_arg1) = m ((c.tc : Thread Cert.NormQBwdIdeal.nD Cert.NormQBwdIdeal.τ).loc Cert.NormQBwdIdeal.main_arg1)
      ∧ r.2.mem ((c.tc : Thread Cert.NormQBwdIdeal.nD Cert.NormQBwdIdeal.τ).loc Cert.NormQBwdIdeal.main_arg2) = m ((c.tc : Thread Cert.NormQBwdIdeal.nD Cert.NormQBwdIdeal.τ).loc Cert.NormQBwdIdeal.main_arg2)
      ∧ r.2.mem ((c.tc : Thread Cert.NormQBwdIdeal.nD Cert.NormQBwdIdeal.τ).loc Cert.NormQBwdIdeal.main_arg3) = m ((c.tc : Thread Cert.NormQBwdIdeal.nD Cert.NormQBwdIdeal.τ).loc Cert.NormQBwdIdeal.main_arg3)
      ∧ r.2.mem ((c.tc : Thread Cert.NormQBwdIdeal.nD Cert.NormQBwdIdeal.τ).loc Cert.NormQBwdIdeal.main_arg4) = m ((c.tc : Thread Cert.NormQBwdIdeal.nD Cert.NormQBwdIdeal.τ).loc Cert.NormQBwdIdeal.main_arg4))
      ∧ r.2.sem = fun _ => 0)

def quiescent_NormQGradIdeal [hNormQGradIdeal : Cert.NormQGradIdeal.Facts] : Prop :=
  ∀ (m : (ℓ : Loc Cert.NormQGradIdeal.nD Cert.NormQGradIdeal.τ Cert.NormQGradIdeal.sig) → Buf (Elt Ideal) ℓ) (g : Dev Cert.NormQGradIdeal.nD → PrngReg), Pre_NormQGradIdeal m →
    θ_run (Cert.NormQGradIdeal.defs (F := Ideal)) (onTc (τ := Cert.NormQGradIdeal.τ) (Cert.NormQGradIdeal.main (F := Ideal))) ⟨m, fun _ => 0, g⟩ (fun r => (∀ c : Dev Cert.NormQGradIdeal.nD,
      r.2.mem ((c.tc : Thread Cert.NormQGradIdeal.nD Cert.NormQGradIdeal.τ).loc Cert.NormQGradIdeal.main_arg0) = m ((c.tc : Thread Cert.NormQGradIdeal.nD Cert.NormQGradIdeal.τ).loc Cert.NormQGradIdeal.main_arg0)
      ∧ r.2.mem ((c.tc : Thread Cert.NormQGradIdeal.nD Cert.NormQGradIdeal.τ).loc Cert.NormQGradIdeal.main_arg1) = m ((c.tc : Thread Cert.NormQGradIdeal.nD Cert.NormQGradIdeal.τ).loc Cert.NormQGradIdeal.main_arg1)
      ∧ r.2.mem ((c.tc : Thread Cert.NormQGradIdeal.nD Cert.NormQGradIdeal.τ).loc Cert.NormQGradIdeal.main_arg2) = m ((c.tc : Thread Cert.NormQGradIdeal.nD Cert.NormQGradIdeal.τ).loc Cert.NormQGradIdeal.main_arg2)
      ∧ r.2.mem ((c.tc : Thread Cert.NormQGradIdeal.nD Cert.NormQGradIdeal.τ).loc Cert.NormQGradIdeal.main_arg3) = m ((c.tc : Thread Cert.NormQGradIdeal.nD Cert.NormQGradIdeal.τ).loc Cert.NormQGradIdeal.main_arg3)
      ∧ r.2.mem ((c.tc : Thread Cert.NormQGradIdeal.nD Cert.NormQGradIdeal.τ).loc Cert.NormQGradIdeal.main_arg4) = m ((c.tc : Thread Cert.NormQGradIdeal.nD Cert.NormQGradIdeal.τ).loc Cert.NormQGradIdeal.main_arg4))
      ∧ r.2.sem = fun _ => 0)

def quiescent_NormInBwd [hNormInBwd : Cert.NormInBwd.Facts] : Prop :=
  ∀ (m : (ℓ : Loc Cert.NormInBwd.nD Cert.NormInBwd.τ Cert.NormInBwd.sig) → Buf (Elt Bits) ℓ) (g : Dev Cert.NormInBwd.nD → PrngReg), Pre_NormInBwd m →
    θ_run (Cert.NormInBwd.defs (F := Bits)) (onTc (τ := Cert.NormInBwd.τ) (Cert.NormInBwd.main (F := Bits))) ⟨m, fun _ => 0, g⟩ (fun r => (∀ c : Dev Cert.NormInBwd.nD,
      r.2.mem ((c.tc : Thread Cert.NormInBwd.nD Cert.NormInBwd.τ).loc Cert.NormInBwd.main_arg0) = m ((c.tc : Thread Cert.NormInBwd.nD Cert.NormInBwd.τ).loc Cert.NormInBwd.main_arg0)
      ∧ r.2.mem ((c.tc : Thread Cert.NormInBwd.nD Cert.NormInBwd.τ).loc Cert.NormInBwd.main_arg1) = m ((c.tc : Thread Cert.NormInBwd.nD Cert.NormInBwd.τ).loc Cert.NormInBwd.main_arg1)
      ∧ r.2.mem ((c.tc : Thread Cert.NormInBwd.nD Cert.NormInBwd.τ).loc Cert.NormInBwd.main_arg2) = m ((c.tc : Thread Cert.NormInBwd.nD Cert.NormInBwd.τ).loc Cert.NormInBwd.main_arg2)
      ∧ r.2.mem ((c.tc : Thread Cert.NormInBwd.nD Cert.NormInBwd.τ).loc Cert.NormInBwd.main_arg3) = m ((c.tc : Thread Cert.NormInBwd.nD Cert.NormInBwd.τ).loc Cert.NormInBwd.main_arg3)
      ∧ r.2.mem ((c.tc : Thread Cert.NormInBwd.nD Cert.NormInBwd.τ).loc Cert.NormInBwd.main_arg4) = m ((c.tc : Thread Cert.NormInBwd.nD Cert.NormInBwd.τ).loc Cert.NormInBwd.main_arg4))
      ∧ r.2.sem = fun _ => 0)

def quiescent_NormInBwdIdeal [hNormInBwdIdeal : Cert.NormInBwdIdeal.Facts] : Prop :=
  ∀ (m : (ℓ : Loc Cert.NormInBwdIdeal.nD Cert.NormInBwdIdeal.τ Cert.NormInBwdIdeal.sig) → Buf (Elt Ideal) ℓ) (g : Dev Cert.NormInBwdIdeal.nD → PrngReg), Pre_NormInBwdIdeal m →
    θ_run (Cert.NormInBwdIdeal.defs (F := Ideal)) (onTc (τ := Cert.NormInBwdIdeal.τ) (Cert.NormInBwdIdeal.main (F := Ideal))) ⟨m, fun _ => 0, g⟩ (fun r => (∀ c : Dev Cert.NormInBwdIdeal.nD,
      r.2.mem ((c.tc : Thread Cert.NormInBwdIdeal.nD Cert.NormInBwdIdeal.τ).loc Cert.NormInBwdIdeal.main_arg0) = m ((c.tc : Thread Cert.NormInBwdIdeal.nD Cert.NormInBwdIdeal.τ).loc Cert.NormInBwdIdeal.main_arg0)
      ∧ r.2.mem ((c.tc : Thread Cert.NormInBwdIdeal.nD Cert.NormInBwdIdeal.τ).loc Cert.NormInBwdIdeal.main_arg1) = m ((c.tc : Thread Cert.NormInBwdIdeal.nD Cert.NormInBwdIdeal.τ).loc Cert.NormInBwdIdeal.main_arg1)
      ∧ r.2.mem ((c.tc : Thread Cert.NormInBwdIdeal.nD Cert.NormInBwdIdeal.τ).loc Cert.NormInBwdIdeal.main_arg2) = m ((c.tc : Thread Cert.NormInBwdIdeal.nD Cert.NormInBwdIdeal.τ).loc Cert.NormInBwdIdeal.main_arg2)
      ∧ r.2.mem ((c.tc : Thread Cert.NormInBwdIdeal.nD Cert.NormInBwdIdeal.τ).loc Cert.NormInBwdIdeal.main_arg3) = m ((c.tc : Thread Cert.NormInBwdIdeal.nD Cert.NormInBwdIdeal.τ).loc Cert.NormInBwdIdeal.main_arg3)
      ∧ r.2.mem ((c.tc : Thread Cert.NormInBwdIdeal.nD Cert.NormInBwdIdeal.τ).loc Cert.NormInBwdIdeal.main_arg4) = m ((c.tc : Thread Cert.NormInBwdIdeal.nD Cert.NormInBwdIdeal.τ).loc Cert.NormInBwdIdeal.main_arg4))
      ∧ r.2.sem = fun _ => 0)

def quiescent_NormInGradIdeal [hNormInGradIdeal : Cert.NormInGradIdeal.Facts] : Prop :=
  ∀ (m : (ℓ : Loc Cert.NormInGradIdeal.nD Cert.NormInGradIdeal.τ Cert.NormInGradIdeal.sig) → Buf (Elt Ideal) ℓ) (g : Dev Cert.NormInGradIdeal.nD → PrngReg), Pre_NormInGradIdeal m →
    θ_run (Cert.NormInGradIdeal.defs (F := Ideal)) (onTc (τ := Cert.NormInGradIdeal.τ) (Cert.NormInGradIdeal.main (F := Ideal))) ⟨m, fun _ => 0, g⟩ (fun r => (∀ c : Dev Cert.NormInGradIdeal.nD,
      r.2.mem ((c.tc : Thread Cert.NormInGradIdeal.nD Cert.NormInGradIdeal.τ).loc Cert.NormInGradIdeal.main_arg0) = m ((c.tc : Thread Cert.NormInGradIdeal.nD Cert.NormInGradIdeal.τ).loc Cert.NormInGradIdeal.main_arg0)
      ∧ r.2.mem ((c.tc : Thread Cert.NormInGradIdeal.nD Cert.NormInGradIdeal.τ).loc Cert.NormInGradIdeal.main_arg1) = m ((c.tc : Thread Cert.NormInGradIdeal.nD Cert.NormInGradIdeal.τ).loc Cert.NormInGradIdeal.main_arg1)
      ∧ r.2.mem ((c.tc : Thread Cert.NormInGradIdeal.nD Cert.NormInGradIdeal.τ).loc Cert.NormInGradIdeal.main_arg2) = m ((c.tc : Thread Cert.NormInGradIdeal.nD Cert.NormInGradIdeal.τ).loc Cert.NormInGradIdeal.main_arg2)
      ∧ r.2.mem ((c.tc : Thread Cert.NormInGradIdeal.nD Cert.NormInGradIdeal.τ).loc Cert.NormInGradIdeal.main_arg3) = m ((c.tc : Thread Cert.NormInGradIdeal.nD Cert.NormInGradIdeal.τ).loc Cert.NormInGradIdeal.main_arg3)
      ∧ r.2.mem ((c.tc : Thread Cert.NormInGradIdeal.nD Cert.NormInGradIdeal.τ).loc Cert.NormInGradIdeal.main_arg4) = m ((c.tc : Thread Cert.NormInGradIdeal.nD Cert.NormInGradIdeal.τ).loc Cert.NormInGradIdeal.main_arg4))
      ∧ r.2.sem = fun _ => 0)

def quiescent_SqreluBwd [hSqreluBwd : Cert.SqreluBwd.Facts] : Prop :=
  ∀ (m : (ℓ : Loc Cert.SqreluBwd.nD Cert.SqreluBwd.τ Cert.SqreluBwd.sig) → Buf (Elt Bits) ℓ) (g : Dev Cert.SqreluBwd.nD → PrngReg), Pre_SqreluBwd m →
    θ_run (Cert.SqreluBwd.defs (F := Bits)) (onTc (τ := Cert.SqreluBwd.τ) (Cert.SqreluBwd.main (F := Bits))) ⟨m, fun _ => 0, g⟩ (fun r => (∀ c : Dev Cert.SqreluBwd.nD,
      r.2.mem ((c.tc : Thread Cert.SqreluBwd.nD Cert.SqreluBwd.τ).loc Cert.SqreluBwd.main_arg0) = m ((c.tc : Thread Cert.SqreluBwd.nD Cert.SqreluBwd.τ).loc Cert.SqreluBwd.main_arg0)
      ∧ r.2.mem ((c.tc : Thread Cert.SqreluBwd.nD Cert.SqreluBwd.τ).loc Cert.SqreluBwd.main_arg1) = m ((c.tc : Thread Cert.SqreluBwd.nD Cert.SqreluBwd.τ).loc Cert.SqreluBwd.main_arg1)
      ∧ r.2.mem ((c.tc : Thread Cert.SqreluBwd.nD Cert.SqreluBwd.τ).loc Cert.SqreluBwd.main_arg2) = m ((c.tc : Thread Cert.SqreluBwd.nD Cert.SqreluBwd.τ).loc Cert.SqreluBwd.main_arg2))
      ∧ r.2.sem = fun _ => 0)

def quiescent_SqreluBwdIdeal [hSqreluBwdIdeal : Cert.SqreluBwdIdeal.Facts] : Prop :=
  ∀ (m : (ℓ : Loc Cert.SqreluBwdIdeal.nD Cert.SqreluBwdIdeal.τ Cert.SqreluBwdIdeal.sig) → Buf (Elt Ideal) ℓ) (g : Dev Cert.SqreluBwdIdeal.nD → PrngReg), Pre_SqreluBwdIdeal m →
    θ_run (Cert.SqreluBwdIdeal.defs (F := Ideal)) (onTc (τ := Cert.SqreluBwdIdeal.τ) (Cert.SqreluBwdIdeal.main (F := Ideal))) ⟨m, fun _ => 0, g⟩ (fun r => (∀ c : Dev Cert.SqreluBwdIdeal.nD,
      r.2.mem ((c.tc : Thread Cert.SqreluBwdIdeal.nD Cert.SqreluBwdIdeal.τ).loc Cert.SqreluBwdIdeal.main_arg0) = m ((c.tc : Thread Cert.SqreluBwdIdeal.nD Cert.SqreluBwdIdeal.τ).loc Cert.SqreluBwdIdeal.main_arg0)
      ∧ r.2.mem ((c.tc : Thread Cert.SqreluBwdIdeal.nD Cert.SqreluBwdIdeal.τ).loc Cert.SqreluBwdIdeal.main_arg1) = m ((c.tc : Thread Cert.SqreluBwdIdeal.nD Cert.SqreluBwdIdeal.τ).loc Cert.SqreluBwdIdeal.main_arg1)
      ∧ r.2.mem ((c.tc : Thread Cert.SqreluBwdIdeal.nD Cert.SqreluBwdIdeal.τ).loc Cert.SqreluBwdIdeal.main_arg2) = m ((c.tc : Thread Cert.SqreluBwdIdeal.nD Cert.SqreluBwdIdeal.τ).loc Cert.SqreluBwdIdeal.main_arg2))
      ∧ r.2.sem = fun _ => 0)

def quiescent_SqreluGradIdeal [hSqreluGradIdeal : Cert.SqreluGradIdeal.Facts] : Prop :=
  ∀ (m : (ℓ : Loc Cert.SqreluGradIdeal.nD Cert.SqreluGradIdeal.τ Cert.SqreluGradIdeal.sig) → Buf (Elt Ideal) ℓ) (g : Dev Cert.SqreluGradIdeal.nD → PrngReg), Pre_SqreluGradIdeal m →
    θ_run (Cert.SqreluGradIdeal.defs (F := Ideal)) (onTc (τ := Cert.SqreluGradIdeal.τ) (Cert.SqreluGradIdeal.main (F := Ideal))) ⟨m, fun _ => 0, g⟩ (fun r => (∀ c : Dev Cert.SqreluGradIdeal.nD,
      r.2.mem ((c.tc : Thread Cert.SqreluGradIdeal.nD Cert.SqreluGradIdeal.τ).loc Cert.SqreluGradIdeal.main_arg0) = m ((c.tc : Thread Cert.SqreluGradIdeal.nD Cert.SqreluGradIdeal.τ).loc Cert.SqreluGradIdeal.main_arg0)
      ∧ r.2.mem ((c.tc : Thread Cert.SqreluGradIdeal.nD Cert.SqreluGradIdeal.τ).loc Cert.SqreluGradIdeal.main_arg1) = m ((c.tc : Thread Cert.SqreluGradIdeal.nD Cert.SqreluGradIdeal.τ).loc Cert.SqreluGradIdeal.main_arg1)
      ∧ r.2.mem ((c.tc : Thread Cert.SqreluGradIdeal.nD Cert.SqreluGradIdeal.τ).loc Cert.SqreluGradIdeal.main_arg2) = m ((c.tc : Thread Cert.SqreluGradIdeal.nD Cert.SqreluGradIdeal.τ).loc Cert.SqreluGradIdeal.main_arg2))
      ∧ r.2.sem = fun _ => 0)

def quiescent_RmsMemBwd [hRmsMemBwd : Cert.RmsMemBwd.Facts] : Prop :=
  ∀ (m : (ℓ : Loc Cert.RmsMemBwd.nD Cert.RmsMemBwd.τ Cert.RmsMemBwd.sig) → Buf (Elt Bits) ℓ) (g : Dev Cert.RmsMemBwd.nD → PrngReg), Pre_RmsMemBwd m →
    θ_run (Cert.RmsMemBwd.defs (F := Bits)) (onTc (τ := Cert.RmsMemBwd.τ) (Cert.RmsMemBwd.main (F := Bits))) ⟨m, fun _ => 0, g⟩ (fun r => (∀ c : Dev Cert.RmsMemBwd.nD,
      r.2.mem ((c.tc : Thread Cert.RmsMemBwd.nD Cert.RmsMemBwd.τ).loc Cert.RmsMemBwd.main_arg0) = m ((c.tc : Thread Cert.RmsMemBwd.nD Cert.RmsMemBwd.τ).loc Cert.RmsMemBwd.main_arg0)
      ∧ r.2.mem ((c.tc : Thread Cert.RmsMemBwd.nD Cert.RmsMemBwd.τ).loc Cert.RmsMemBwd.main_arg1) = m ((c.tc : Thread Cert.RmsMemBwd.nD Cert.RmsMemBwd.τ).loc Cert.RmsMemBwd.main_arg1)
      ∧ r.2.mem ((c.tc : Thread Cert.RmsMemBwd.nD Cert.RmsMemBwd.τ).loc Cert.RmsMemBwd.main_arg2) = m ((c.tc : Thread Cert.RmsMemBwd.nD Cert.RmsMemBwd.τ).loc Cert.RmsMemBwd.main_arg2))
      ∧ r.2.sem = fun _ => 0)

def quiescent_RmsMemBwdIdeal [hRmsMemBwdIdeal : Cert.RmsMemBwdIdeal.Facts] : Prop :=
  ∀ (m : (ℓ : Loc Cert.RmsMemBwdIdeal.nD Cert.RmsMemBwdIdeal.τ Cert.RmsMemBwdIdeal.sig) → Buf (Elt Ideal) ℓ) (g : Dev Cert.RmsMemBwdIdeal.nD → PrngReg), Pre_RmsMemBwdIdeal m →
    θ_run (Cert.RmsMemBwdIdeal.defs (F := Ideal)) (onTc (τ := Cert.RmsMemBwdIdeal.τ) (Cert.RmsMemBwdIdeal.main (F := Ideal))) ⟨m, fun _ => 0, g⟩ (fun r => (∀ c : Dev Cert.RmsMemBwdIdeal.nD,
      r.2.mem ((c.tc : Thread Cert.RmsMemBwdIdeal.nD Cert.RmsMemBwdIdeal.τ).loc Cert.RmsMemBwdIdeal.main_arg0) = m ((c.tc : Thread Cert.RmsMemBwdIdeal.nD Cert.RmsMemBwdIdeal.τ).loc Cert.RmsMemBwdIdeal.main_arg0)
      ∧ r.2.mem ((c.tc : Thread Cert.RmsMemBwdIdeal.nD Cert.RmsMemBwdIdeal.τ).loc Cert.RmsMemBwdIdeal.main_arg1) = m ((c.tc : Thread Cert.RmsMemBwdIdeal.nD Cert.RmsMemBwdIdeal.τ).loc Cert.RmsMemBwdIdeal.main_arg1)
      ∧ r.2.mem ((c.tc : Thread Cert.RmsMemBwdIdeal.nD Cert.RmsMemBwdIdeal.τ).loc Cert.RmsMemBwdIdeal.main_arg2) = m ((c.tc : Thread Cert.RmsMemBwdIdeal.nD Cert.RmsMemBwdIdeal.τ).loc Cert.RmsMemBwdIdeal.main_arg2))
      ∧ r.2.sem = fun _ => 0)

def quiescent_RmsMemGradIdeal [hRmsMemGradIdeal : Cert.RmsMemGradIdeal.Facts] : Prop :=
  ∀ (m : (ℓ : Loc Cert.RmsMemGradIdeal.nD Cert.RmsMemGradIdeal.τ Cert.RmsMemGradIdeal.sig) → Buf (Elt Ideal) ℓ) (g : Dev Cert.RmsMemGradIdeal.nD → PrngReg), Pre_RmsMemGradIdeal m →
    θ_run (Cert.RmsMemGradIdeal.defs (F := Ideal)) (onTc (τ := Cert.RmsMemGradIdeal.τ) (Cert.RmsMemGradIdeal.main (F := Ideal))) ⟨m, fun _ => 0, g⟩ (fun r => (∀ c : Dev Cert.RmsMemGradIdeal.nD,
      r.2.mem ((c.tc : Thread Cert.RmsMemGradIdeal.nD Cert.RmsMemGradIdeal.τ).loc Cert.RmsMemGradIdeal.main_arg0) = m ((c.tc : Thread Cert.RmsMemGradIdeal.nD Cert.RmsMemGradIdeal.τ).loc Cert.RmsMemGradIdeal.main_arg0)
      ∧ r.2.mem ((c.tc : Thread Cert.RmsMemGradIdeal.nD Cert.RmsMemGradIdeal.τ).loc Cert.RmsMemGradIdeal.main_arg1) = m ((c.tc : Thread Cert.RmsMemGradIdeal.nD Cert.RmsMemGradIdeal.τ).loc Cert.RmsMemGradIdeal.main_arg1)
      ∧ r.2.mem ((c.tc : Thread Cert.RmsMemGradIdeal.nD Cert.RmsMemGradIdeal.τ).loc Cert.RmsMemGradIdeal.main_arg2) = m ((c.tc : Thread Cert.RmsMemGradIdeal.nD Cert.RmsMemGradIdeal.τ).loc Cert.RmsMemGradIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ r.2.sem = fun _ => 0)

def quiescent_ConformerFwd [hConformerFwd : Cert.ConformerFwd.Facts] : Prop :=
  ∀ (m : (ℓ : Loc Cert.ConformerFwd.nD Cert.ConformerFwd.τ Cert.ConformerFwd.sig) → Buf (Elt Bits) ℓ) (g : Dev Cert.ConformerFwd.nD → PrngReg), Pre_ConformerFwd m →
    θ_run (Cert.ConformerFwd.defs (F := Bits)) (onTc (τ := Cert.ConformerFwd.τ) (Cert.ConformerFwd.main (F := Bits))) ⟨m, fun _ => 0, g⟩ (fun r => (∀ c : Dev Cert.ConformerFwd.nD,
      r.2.mem ((c.tc : Thread Cert.ConformerFwd.nD Cert.ConformerFwd.τ).loc Cert.ConformerFwd.main_arg0) = m ((c.tc : Thread Cert.ConformerFwd.nD Cert.ConformerFwd.τ).loc Cert.ConformerFwd.main_arg0)
      ∧ r.2.mem ((c.tc : Thread Cert.ConformerFwd.nD Cert.ConformerFwd.τ).loc Cert.ConformerFwd.main_arg1) = m ((c.tc : Thread Cert.ConformerFwd.nD Cert.ConformerFwd.τ).loc Cert.ConformerFwd.main_arg1)
      ∧ r.2.mem ((c.tc : Thread Cert.ConformerFwd.nD Cert.ConformerFwd.τ).loc Cert.ConformerFwd.main_arg2) = m ((c.tc : Thread Cert.ConformerFwd.nD Cert.ConformerFwd.τ).loc Cert.ConformerFwd.main_arg2))
      ∧ r.2.sem = fun _ => 0)

def quiescent_ConformerFwdIdeal [hConformerFwdIdeal : Cert.ConformerFwdIdeal.Facts] : Prop :=
  ∀ (m : (ℓ : Loc Cert.ConformerFwdIdeal.nD Cert.ConformerFwdIdeal.τ Cert.ConformerFwdIdeal.sig) → Buf (Elt Ideal) ℓ) (g : Dev Cert.ConformerFwdIdeal.nD → PrngReg), Pre_ConformerFwdIdeal m →
    θ_run (Cert.ConformerFwdIdeal.defs (F := Ideal)) (onTc (τ := Cert.ConformerFwdIdeal.τ) (Cert.ConformerFwdIdeal.main (F := Ideal))) ⟨m, fun _ => 0, g⟩ (fun r => (∀ c : Dev Cert.ConformerFwdIdeal.nD,
      r.2.mem ((c.tc : Thread Cert.ConformerFwdIdeal.nD Cert.ConformerFwdIdeal.τ).loc Cert.ConformerFwdIdeal.main_arg0) = m ((c.tc : Thread Cert.ConformerFwdIdeal.nD Cert.ConformerFwdIdeal.τ).loc Cert.ConformerFwdIdeal.main_arg0)
      ∧ r.2.mem ((c.tc : Thread Cert.ConformerFwdIdeal.nD Cert.ConformerFwdIdeal.τ).loc Cert.ConformerFwdIdeal.main_arg1) = m ((c.tc : Thread Cert.ConformerFwdIdeal.nD Cert.ConformerFwdIdeal.τ).loc Cert.ConformerFwdIdeal.main_arg1)
      ∧ r.2.mem ((c.tc : Thread Cert.ConformerFwdIdeal.nD Cert.ConformerFwdIdeal.τ).loc Cert.ConformerFwdIdeal.main_arg2) = m ((c.tc : Thread Cert.ConformerFwdIdeal.nD Cert.ConformerFwdIdeal.τ).loc Cert.ConformerFwdIdeal.main_arg2))
      ∧ r.2.sem = fun _ => 0)

def quiescent_ConformerOutIdeal [hConformerOutIdeal : Cert.ConformerOutIdeal.Facts] : Prop :=
  ∀ (m : (ℓ : Loc Cert.ConformerOutIdeal.nD Cert.ConformerOutIdeal.τ Cert.ConformerOutIdeal.sig) → Buf (Elt Ideal) ℓ) (g : Dev Cert.ConformerOutIdeal.nD → PrngReg), Pre_ConformerOutIdeal m →
    θ_run (Cert.ConformerOutIdeal.defs (F := Ideal)) (onTc (τ := Cert.ConformerOutIdeal.τ) (Cert.ConformerOutIdeal.main (F := Ideal))) ⟨m, fun _ => 0, g⟩ (fun r => (∀ c : Dev Cert.ConformerOutIdeal.nD,
      r.2.mem ((c.tc : Thread Cert.ConformerOutIdeal.nD Cert.ConformerOutIdeal.τ).loc Cert.ConformerOutIdeal.main_arg0) = m ((c.tc : Thread Cert.ConformerOutIdeal.nD Cert.ConformerOutIdeal.τ).loc Cert.ConformerOutIdeal.main_arg0)
      ∧ r.2.mem ((c.tc : Thread Cert.ConformerOutIdeal.nD Cert.ConformerOutIdeal.τ).loc Cert.ConformerOutIdeal.main_arg1) = m ((c.tc : Thread Cert.ConformerOutIdeal.nD Cert.ConformerOutIdeal.τ).loc Cert.ConformerOutIdeal.main_arg1)
      ∧ r.2.mem ((c.tc : Thread Cert.ConformerOutIdeal.nD Cert.ConformerOutIdeal.τ).loc Cert.ConformerOutIdeal.main_arg2) = m ((c.tc : Thread Cert.ConformerOutIdeal.nD Cert.ConformerOutIdeal.τ).loc Cert.ConformerOutIdeal.main_arg2))
      ∧ r.2.sem = fun _ => 0)

def quiescent_LnSiluFwd [hLnSiluFwd : Cert.LnSiluFwd.Facts] : Prop :=
  ∀ (m : (ℓ : Loc Cert.LnSiluFwd.nD Cert.LnSiluFwd.τ Cert.LnSiluFwd.sig) → Buf (Elt Bits) ℓ) (g : Dev Cert.LnSiluFwd.nD → PrngReg), Pre_LnSiluFwd m →
    θ_run (Cert.LnSiluFwd.defs (F := Bits)) (onTc (τ := Cert.LnSiluFwd.τ) (Cert.LnSiluFwd.main (F := Bits))) ⟨m, fun _ => 0, g⟩ (fun r => (∀ c : Dev Cert.LnSiluFwd.nD,
      r.2.mem ((c.tc : Thread Cert.LnSiluFwd.nD Cert.LnSiluFwd.τ).loc Cert.LnSiluFwd.main_arg0) = m ((c.tc : Thread Cert.LnSiluFwd.nD Cert.LnSiluFwd.τ).loc Cert.LnSiluFwd.main_arg0)
      ∧ r.2.mem ((c.tc : Thread Cert.LnSiluFwd.nD Cert.LnSiluFwd.τ).loc Cert.LnSiluFwd.main_arg1) = m ((c.tc : Thread Cert.LnSiluFwd.nD Cert.LnSiluFwd.τ).loc Cert.LnSiluFwd.main_arg1)
      ∧ r.2.mem ((c.tc : Thread Cert.LnSiluFwd.nD Cert.LnSiluFwd.τ).loc Cert.LnSiluFwd.main_arg2) = m ((c.tc : Thread Cert.LnSiluFwd.nD Cert.LnSiluFwd.τ).loc Cert.LnSiluFwd.main_arg2)
      ∧ r.2.mem ((c.tc : Thread Cert.LnSiluFwd.nD Cert.LnSiluFwd.τ).loc Cert.LnSiluFwd.main_arg3) = m ((c.tc : Thread Cert.LnSiluFwd.nD Cert.LnSiluFwd.τ).loc Cert.LnSiluFwd.main_arg3))
      ∧ r.2.sem = fun _ => 0)

def quiescent_LnSiluFwdIdeal [hLnSiluFwdIdeal : Cert.LnSiluFwdIdeal.Facts] : Prop :=
  ∀ (m : (ℓ : Loc Cert.LnSiluFwdIdeal.nD Cert.LnSiluFwdIdeal.τ Cert.LnSiluFwdIdeal.sig) → Buf (Elt Ideal) ℓ) (g : Dev Cert.LnSiluFwdIdeal.nD → PrngReg), Pre_LnSiluFwdIdeal m →
    θ_run (Cert.LnSiluFwdIdeal.defs (F := Ideal)) (onTc (τ := Cert.LnSiluFwdIdeal.τ) (Cert.LnSiluFwdIdeal.main (F := Ideal))) ⟨m, fun _ => 0, g⟩ (fun r => (∀ c : Dev Cert.LnSiluFwdIdeal.nD,
      r.2.mem ((c.tc : Thread Cert.LnSiluFwdIdeal.nD Cert.LnSiluFwdIdeal.τ).loc Cert.LnSiluFwdIdeal.main_arg0) = m ((c.tc : Thread Cert.LnSiluFwdIdeal.nD Cert.LnSiluFwdIdeal.τ).loc Cert.LnSiluFwdIdeal.main_arg0)
      ∧ r.2.mem ((c.tc : Thread Cert.LnSiluFwdIdeal.nD Cert.LnSiluFwdIdeal.τ).loc Cert.LnSiluFwdIdeal.main_arg1) = m ((c.tc : Thread Cert.LnSiluFwdIdeal.nD Cert.LnSiluFwdIdeal.τ).loc Cert.LnSiluFwdIdeal.main_arg1)
      ∧ r.2.mem ((c.tc : Thread Cert.LnSiluFwdIdeal.nD Cert.LnSiluFwdIdeal.τ).loc Cert.LnSiluFwdIdeal.main_arg2) = m ((c.tc : Thread Cert.LnSiluFwdIdeal.nD Cert.LnSiluFwdIdeal.τ).loc Cert.LnSiluFwdIdeal.main_arg2)
      ∧ r.2.mem ((c.tc : Thread Cert.LnSiluFwdIdeal.nD Cert.LnSiluFwdIdeal.τ).loc Cert.LnSiluFwdIdeal.main_arg3) = m ((c.tc : Thread Cert.LnSiluFwdIdeal.nD Cert.LnSiluFwdIdeal.τ).loc Cert.LnSiluFwdIdeal.main_arg3))
      ∧ r.2.sem = fun _ => 0)

def quiescent_LnSiluOutIdeal [hLnSiluOutIdeal : Cert.LnSiluOutIdeal.Facts] : Prop :=
  ∀ (m : (ℓ : Loc Cert.LnSiluOutIdeal.nD Cert.LnSiluOutIdeal.τ Cert.LnSiluOutIdeal.sig) → Buf (Elt Ideal) ℓ) (g : Dev Cert.LnSiluOutIdeal.nD → PrngReg), Pre_LnSiluOutIdeal m →
    θ_run (Cert.LnSiluOutIdeal.defs (F := Ideal)) (onTc (τ := Cert.LnSiluOutIdeal.τ) (Cert.LnSiluOutIdeal.main (F := Ideal))) ⟨m, fun _ => 0, g⟩ (fun r => (∀ c : Dev Cert.LnSiluOutIdeal.nD,
      r.2.mem ((c.tc : Thread Cert.LnSiluOutIdeal.nD Cert.LnSiluOutIdeal.τ).loc Cert.LnSiluOutIdeal.main_arg0) = m ((c.tc : Thread Cert.LnSiluOutIdeal.nD Cert.LnSiluOutIdeal.τ).loc Cert.LnSiluOutIdeal.main_arg0)
      ∧ r.2.mem ((c.tc : Thread Cert.LnSiluOutIdeal.nD Cert.LnSiluOutIdeal.τ).loc Cert.LnSiluOutIdeal.main_arg1) = m ((c.tc : Thread Cert.LnSiluOutIdeal.nD Cert.LnSiluOutIdeal.τ).loc Cert.LnSiluOutIdeal.main_arg1)
      ∧ r.2.mem ((c.tc : Thread Cert.LnSiluOutIdeal.nD Cert.LnSiluOutIdeal.τ).loc Cert.LnSiluOutIdeal.main_arg2) = m ((c.tc : Thread Cert.LnSiluOutIdeal.nD Cert.LnSiluOutIdeal.τ).loc Cert.LnSiluOutIdeal.main_arg2)
      ∧ r.2.mem ((c.tc : Thread Cert.LnSiluOutIdeal.nD Cert.LnSiluOutIdeal.τ).loc Cert.LnSiluOutIdeal.main_arg3) = m ((c.tc : Thread Cert.LnSiluOutIdeal.nD Cert.LnSiluOutIdeal.τ).loc Cert.LnSiluOutIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsOutIdeal [hRmsOutIdeal : Cert.RmsOutIdeal.Facts] : Prop :=
  ∀ (m : (ℓ : Loc Cert.RmsOutIdeal.nD Cert.RmsOutIdeal.τ Cert.RmsOutIdeal.sig) → Buf (Elt Ideal) ℓ) (g : Dev Cert.RmsOutIdeal.nD → PrngReg), Pre_RmsOutIdeal m →
    θ_run (Cert.RmsOutIdeal.defs (F := Ideal)) (onTc (τ := Cert.RmsOutIdeal.τ) (Cert.RmsOutIdeal.main (F := Ideal))) ⟨m, fun _ => 0, g⟩ (fun r => (∀ c : Dev Cert.RmsOutIdeal.nD,
      r.2.mem ((c.tc : Thread Cert.RmsOutIdeal.nD Cert.RmsOutIdeal.τ).loc Cert.RmsOutIdeal.main_arg0) = m ((c.tc : Thread Cert.RmsOutIdeal.nD Cert.RmsOutIdeal.τ).loc Cert.RmsOutIdeal.main_arg0)
      ∧ r.2.mem ((c.tc : Thread Cert.RmsOutIdeal.nD Cert.RmsOutIdeal.τ).loc Cert.RmsOutIdeal.main_arg1) = m ((c.tc : Thread Cert.RmsOutIdeal.nD Cert.RmsOutIdeal.τ).loc Cert.RmsOutIdeal.main_arg1))
      ∧ r.2.sem = fun _ => 0)

def quiescent_NormOutFwd [hNormOutFwd : Cert.NormOutFwd.Facts] : Prop :=
  ∀ (m : (ℓ : Loc Cert.NormOutFwd.nD Cert.NormOutFwd.τ Cert.NormOutFwd.sig) → Buf (Elt Bits) ℓ) (g : Dev Cert.NormOutFwd.nD → PrngReg), Pre_NormOutFwd m →
    θ_run (Cert.NormOutFwd.defs (F := Bits)) (onTc (τ := Cert.NormOutFwd.τ) (Cert.NormOutFwd.main (F := Bits))) ⟨m, fun _ => 0, g⟩ (fun r => (∀ c : Dev Cert.NormOutFwd.nD,
      r.2.mem ((c.tc : Thread Cert.NormOutFwd.nD Cert.NormOutFwd.τ).loc Cert.NormOutFwd.main_arg0) = m ((c.tc : Thread Cert.NormOutFwd.nD Cert.NormOutFwd.τ).loc Cert.NormOutFwd.main_arg0)
      ∧ r.2.mem ((c.tc : Thread Cert.NormOutFwd.nD Cert.NormOutFwd.τ).loc Cert.NormOutFwd.main_arg1) = m ((c.tc : Thread Cert.NormOutFwd.nD Cert.NormOutFwd.τ).loc Cert.NormOutFwd.main_arg1)
      ∧ r.2.mem ((c.tc : Thread Cert.NormOutFwd.nD Cert.NormOutFwd.τ).loc Cert.NormOutFwd.main_arg2) = m ((c.tc : Thread Cert.NormOutFwd.nD Cert.NormOutFwd.τ).loc Cert.NormOutFwd.main_arg2)
      ∧ r.2.mem ((c.tc : Thread Cert.NormOutFwd.nD Cert.NormOutFwd.τ).loc Cert.NormOutFwd.main_arg3) = m ((c.tc : Thread Cert.NormOutFwd.nD Cert.NormOutFwd.τ).loc Cert.NormOutFwd.main_arg3))
      ∧ r.2.sem = fun _ => 0)

def quiescent_NormOutFwdIdeal [hNormOutFwdIdeal : Cert.NormOutFwdIdeal.Facts] : Prop :=
  ∀ (m : (ℓ : Loc Cert.NormOutFwdIdeal.nD Cert.NormOutFwdIdeal.τ Cert.NormOutFwdIdeal.sig) → Buf (Elt Ideal) ℓ) (g : Dev Cert.NormOutFwdIdeal.nD → PrngReg), Pre_NormOutFwdIdeal m →
    θ_run (Cert.NormOutFwdIdeal.defs (F := Ideal)) (onTc (τ := Cert.NormOutFwdIdeal.τ) (Cert.NormOutFwdIdeal.main (F := Ideal))) ⟨m, fun _ => 0, g⟩ (fun r => (∀ c : Dev Cert.NormOutFwdIdeal.nD,
      r.2.mem ((c.tc : Thread Cert.NormOutFwdIdeal.nD Cert.NormOutFwdIdeal.τ).loc Cert.NormOutFwdIdeal.main_arg0) = m ((c.tc : Thread Cert.NormOutFwdIdeal.nD Cert.NormOutFwdIdeal.τ).loc Cert.NormOutFwdIdeal.main_arg0)
      ∧ r.2.mem ((c.tc : Thread Cert.NormOutFwdIdeal.nD Cert.NormOutFwdIdeal.τ).loc Cert.NormOutFwdIdeal.main_arg1) = m ((c.tc : Thread Cert.NormOutFwdIdeal.nD Cert.NormOutFwdIdeal.τ).loc Cert.NormOutFwdIdeal.main_arg1)
      ∧ r.2.mem ((c.tc : Thread Cert.NormOutFwdIdeal.nD Cert.NormOutFwdIdeal.τ).loc Cert.NormOutFwdIdeal.main_arg2) = m ((c.tc : Thread Cert.NormOutFwdIdeal.nD Cert.NormOutFwdIdeal.τ).loc Cert.NormOutFwdIdeal.main_arg2)
      ∧ r.2.mem ((c.tc : Thread Cert.NormOutFwdIdeal.nD Cert.NormOutFwdIdeal.τ).loc Cert.NormOutFwdIdeal.main_arg3) = m ((c.tc : Thread Cert.NormOutFwdIdeal.nD Cert.NormOutFwdIdeal.τ).loc Cert.NormOutFwdIdeal.main_arg3))
      ∧ r.2.sem = fun _ => 0)

def quiescent_NormOutOutIdeal [hNormOutOutIdeal : Cert.NormOutOutIdeal.Facts] : Prop :=
  ∀ (m : (ℓ : Loc Cert.NormOutOutIdeal.nD Cert.NormOutOutIdeal.τ Cert.NormOutOutIdeal.sig) → Buf (Elt Ideal) ℓ) (g : Dev Cert.NormOutOutIdeal.nD → PrngReg), Pre_NormOutOutIdeal m →
    θ_run (Cert.NormOutOutIdeal.defs (F := Ideal)) (onTc (τ := Cert.NormOutOutIdeal.τ) (Cert.NormOutOutIdeal.main (F := Ideal))) ⟨m, fun _ => 0, g⟩ (fun r => (∀ c : Dev Cert.NormOutOutIdeal.nD,
      r.2.mem ((c.tc : Thread Cert.NormOutOutIdeal.nD Cert.NormOutOutIdeal.τ).loc Cert.NormOutOutIdeal.main_arg0) = m ((c.tc : Thread Cert.NormOutOutIdeal.nD Cert.NormOutOutIdeal.τ).loc Cert.NormOutOutIdeal.main_arg0)
      ∧ r.2.mem ((c.tc : Thread Cert.NormOutOutIdeal.nD Cert.NormOutOutIdeal.τ).loc Cert.NormOutOutIdeal.main_arg1) = m ((c.tc : Thread Cert.NormOutOutIdeal.nD Cert.NormOutOutIdeal.τ).loc Cert.NormOutOutIdeal.main_arg1)
      ∧ r.2.mem ((c.tc : Thread Cert.NormOutOutIdeal.nD Cert.NormOutOutIdeal.τ).loc Cert.NormOutOutIdeal.main_arg2) = m ((c.tc : Thread Cert.NormOutOutIdeal.nD Cert.NormOutOutIdeal.τ).loc Cert.NormOutOutIdeal.main_arg2)
      ∧ r.2.mem ((c.tc : Thread Cert.NormOutOutIdeal.nD Cert.NormOutOutIdeal.τ).loc Cert.NormOutOutIdeal.main_arg3) = m ((c.tc : Thread Cert.NormOutOutIdeal.nD Cert.NormOutOutIdeal.τ).loc Cert.NormOutOutIdeal.main_arg3))
      ∧ r.2.sem = fun _ => 0)

def quiescent_NormDownFwd [hNormDownFwd : Cert.NormDownFwd.Facts] : Prop :=
  ∀ (m : (ℓ : Loc Cert.NormDownFwd.nD Cert.NormDownFwd.τ Cert.NormDownFwd.sig) → Buf (Elt Bits) ℓ) (g : Dev Cert.NormDownFwd.nD → PrngReg), Pre_NormDownFwd m →
    θ_run (Cert.NormDownFwd.defs (F := Bits)) (onTc (τ := Cert.NormDownFwd.τ) (Cert.NormDownFwd.main (F := Bits))) ⟨m, fun _ => 0, g⟩ (fun r => (∀ c : Dev Cert.NormDownFwd.nD,
      r.2.mem ((c.tc : Thread Cert.NormDownFwd.nD Cert.NormDownFwd.τ).loc Cert.NormDownFwd.main_arg0) = m ((c.tc : Thread Cert.NormDownFwd.nD Cert.NormDownFwd.τ).loc Cert.NormDownFwd.main_arg0)
      ∧ r.2.mem ((c.tc : Thread Cert.NormDownFwd.nD Cert.NormDownFwd.τ).loc Cert.NormDownFwd.main_arg1) = m ((c.tc : Thread Cert.NormDownFwd.nD Cert.NormDownFwd.τ).loc Cert.NormDownFwd.main_arg1)
      ∧ r.2.mem ((c.tc : Thread Cert.NormDownFwd.nD Cert.NormDownFwd.τ).loc Cert.NormDownFwd.main_arg2) = m ((c.tc : Thread Cert.NormDownFwd.nD Cert.NormDownFwd.τ).loc Cert.NormDownFwd.main_arg2)
      ∧ r.2.mem ((c.tc : Thread Cert.NormDownFwd.nD Cert.NormDownFwd.τ).loc Cert.NormDownFwd.main_arg3) = m ((c.tc : Thread Cert.NormDownFwd.nD Cert.NormDownFwd.τ).loc Cert.NormDownFwd.main_arg3))
      ∧ r.2.sem = fun _ => 0)

def quiescent_NormDownFwdIdeal [hNormDownFwdIdeal : Cert.NormDownFwdIdeal.Facts] : Prop :=
  ∀ (m : (ℓ : Loc Cert.NormDownFwdIdeal.nD Cert.NormDownFwdIdeal.τ Cert.NormDownFwdIdeal.sig) → Buf (Elt Ideal) ℓ) (g : Dev Cert.NormDownFwdIdeal.nD → PrngReg), Pre_NormDownFwdIdeal m →
    θ_run (Cert.NormDownFwdIdeal.defs (F := Ideal)) (onTc (τ := Cert.NormDownFwdIdeal.τ) (Cert.NormDownFwdIdeal.main (F := Ideal))) ⟨m, fun _ => 0, g⟩ (fun r => (∀ c : Dev Cert.NormDownFwdIdeal.nD,
      r.2.mem ((c.tc : Thread Cert.NormDownFwdIdeal.nD Cert.NormDownFwdIdeal.τ).loc Cert.NormDownFwdIdeal.main_arg0) = m ((c.tc : Thread Cert.NormDownFwdIdeal.nD Cert.NormDownFwdIdeal.τ).loc Cert.NormDownFwdIdeal.main_arg0)
      ∧ r.2.mem ((c.tc : Thread Cert.NormDownFwdIdeal.nD Cert.NormDownFwdIdeal.τ).loc Cert.NormDownFwdIdeal.main_arg1) = m ((c.tc : Thread Cert.NormDownFwdIdeal.nD Cert.NormDownFwdIdeal.τ).loc Cert.NormDownFwdIdeal.main_arg1)
      ∧ r.2.mem ((c.tc : Thread Cert.NormDownFwdIdeal.nD Cert.NormDownFwdIdeal.τ).loc Cert.NormDownFwdIdeal.main_arg2) = m ((c.tc : Thread Cert.NormDownFwdIdeal.nD Cert.NormDownFwdIdeal.τ).loc Cert.NormDownFwdIdeal.main_arg2)
      ∧ r.2.mem ((c.tc : Thread Cert.NormDownFwdIdeal.nD Cert.NormDownFwdIdeal.τ).loc Cert.NormDownFwdIdeal.main_arg3) = m ((c.tc : Thread Cert.NormDownFwdIdeal.nD Cert.NormDownFwdIdeal.τ).loc Cert.NormDownFwdIdeal.main_arg3))
      ∧ r.2.sem = fun _ => 0)

def quiescent_NormDownOutIdeal [hNormDownOutIdeal : Cert.NormDownOutIdeal.Facts] : Prop :=
  ∀ (m : (ℓ : Loc Cert.NormDownOutIdeal.nD Cert.NormDownOutIdeal.τ Cert.NormDownOutIdeal.sig) → Buf (Elt Ideal) ℓ) (g : Dev Cert.NormDownOutIdeal.nD → PrngReg), Pre_NormDownOutIdeal m →
    θ_run (Cert.NormDownOutIdeal.defs (F := Ideal)) (onTc (τ := Cert.NormDownOutIdeal.τ) (Cert.NormDownOutIdeal.main (F := Ideal))) ⟨m, fun _ => 0, g⟩ (fun r => (∀ c : Dev Cert.NormDownOutIdeal.nD,
      r.2.mem ((c.tc : Thread Cert.NormDownOutIdeal.nD Cert.NormDownOutIdeal.τ).loc Cert.NormDownOutIdeal.main_arg0) = m ((c.tc : Thread Cert.NormDownOutIdeal.nD Cert.NormDownOutIdeal.τ).loc Cert.NormDownOutIdeal.main_arg0)
      ∧ r.2.mem ((c.tc : Thread Cert.NormDownOutIdeal.nD Cert.NormDownOutIdeal.τ).loc Cert.NormDownOutIdeal.main_arg1) = m ((c.tc : Thread Cert.NormDownOutIdeal.nD Cert.NormDownOutIdeal.τ).loc Cert.NormDownOutIdeal.main_arg1)
      ∧ r.2.mem ((c.tc : Thread Cert.NormDownOutIdeal.nD Cert.NormDownOutIdeal.τ).loc Cert.NormDownOutIdeal.main_arg2) = m ((c.tc : Thread Cert.NormDownOutIdeal.nD Cert.NormDownOutIdeal.τ).loc Cert.NormDownOutIdeal.main_arg2)
      ∧ r.2.mem ((c.tc : Thread Cert.NormDownOutIdeal.nD Cert.NormDownOutIdeal.τ).loc Cert.NormDownOutIdeal.main_arg3) = m ((c.tc : Thread Cert.NormDownOutIdeal.nD Cert.NormDownOutIdeal.τ).loc Cert.NormDownOutIdeal.main_arg3))
      ∧ r.2.sem = fun _ => 0)

def quiescent_SqreluFwd [hSqreluFwd : Cert.SqreluFwd.Facts] : Prop :=
  ∀ (m : (ℓ : Loc Cert.SqreluFwd.nD Cert.SqreluFwd.τ Cert.SqreluFwd.sig) → Buf (Elt Bits) ℓ) (g : Dev Cert.SqreluFwd.nD → PrngReg), Pre_SqreluFwd m →
    θ_run (Cert.SqreluFwd.defs (F := Bits)) (onTc (τ := Cert.SqreluFwd.τ) (Cert.SqreluFwd.main (F := Bits))) ⟨m, fun _ => 0, g⟩ (fun r => (∀ c : Dev Cert.SqreluFwd.nD,
      r.2.mem ((c.tc : Thread Cert.SqreluFwd.nD Cert.SqreluFwd.τ).loc Cert.SqreluFwd.main_arg0) = m ((c.tc : Thread Cert.SqreluFwd.nD Cert.SqreluFwd.τ).loc Cert.SqreluFwd.main_arg0)
      ∧ r.2.mem ((c.tc : Thread Cert.SqreluFwd.nD Cert.SqreluFwd.τ).loc Cert.SqreluFwd.main_arg1) = m ((c.tc : Thread Cert.SqreluFwd.nD Cert.SqreluFwd.τ).loc Cert.SqreluFwd.main_arg1))
      ∧ r.2.sem = fun _ => 0)

def quiescent_SqreluFwdIdeal [hSqreluFwdIdeal : Cert.SqreluFwdIdeal.Facts] : Prop :=
  ∀ (m : (ℓ : Loc Cert.SqreluFwdIdeal.nD Cert.SqreluFwdIdeal.τ Cert.SqreluFwdIdeal.sig) → Buf (Elt Ideal) ℓ) (g : Dev Cert.SqreluFwdIdeal.nD → PrngReg), Pre_SqreluFwdIdeal m →
    θ_run (Cert.SqreluFwdIdeal.defs (F := Ideal)) (onTc (τ := Cert.SqreluFwdIdeal.τ) (Cert.SqreluFwdIdeal.main (F := Ideal))) ⟨m, fun _ => 0, g⟩ (fun r => (∀ c : Dev Cert.SqreluFwdIdeal.nD,
      r.2.mem ((c.tc : Thread Cert.SqreluFwdIdeal.nD Cert.SqreluFwdIdeal.τ).loc Cert.SqreluFwdIdeal.main_arg0) = m ((c.tc : Thread Cert.SqreluFwdIdeal.nD Cert.SqreluFwdIdeal.τ).loc Cert.SqreluFwdIdeal.main_arg0)
      ∧ r.2.mem ((c.tc : Thread Cert.SqreluFwdIdeal.nD Cert.SqreluFwdIdeal.τ).loc Cert.SqreluFwdIdeal.main_arg1) = m ((c.tc : Thread Cert.SqreluFwdIdeal.nD Cert.SqreluFwdIdeal.τ).loc Cert.SqreluFwdIdeal.main_arg1))
      ∧ r.2.sem = fun _ => 0)

def quiescent_SqreluOutIdeal [hSqreluOutIdeal : Cert.SqreluOutIdeal.Facts] : Prop :=
  ∀ (m : (ℓ : Loc Cert.SqreluOutIdeal.nD Cert.SqreluOutIdeal.τ Cert.SqreluOutIdeal.sig) → Buf (Elt Ideal) ℓ) (g : Dev Cert.SqreluOutIdeal.nD → PrngReg), Pre_SqreluOutIdeal m →
    θ_run (Cert.SqreluOutIdeal.defs (F := Ideal)) (onTc (τ := Cert.SqreluOutIdeal.τ) (Cert.SqreluOutIdeal.main (F := Ideal))) ⟨m, fun _ => 0, g⟩ (fun r => (∀ c : Dev Cert.SqreluOutIdeal.nD,
      r.2.mem ((c.tc : Thread Cert.SqreluOutIdeal.nD Cert.SqreluOutIdeal.τ).loc Cert.SqreluOutIdeal.main_arg0) = m ((c.tc : Thread Cert.SqreluOutIdeal.nD Cert.SqreluOutIdeal.τ).loc Cert.SqreluOutIdeal.main_arg0)
      ∧ r.2.mem ((c.tc : Thread Cert.SqreluOutIdeal.nD Cert.SqreluOutIdeal.τ).loc Cert.SqreluOutIdeal.main_arg1) = m ((c.tc : Thread Cert.SqreluOutIdeal.nD Cert.SqreluOutIdeal.τ).loc Cert.SqreluOutIdeal.main_arg1))
      ∧ r.2.sem = fun _ => 0)

def quiescent_ShortConvBwd [hShortConvBwd : Cert.ShortConvBwd.Facts] : Prop :=
  ∀ (m : (ℓ : Loc Cert.ShortConvBwd.nD Cert.ShortConvBwd.τ Cert.ShortConvBwd.sig) → Buf (Elt Bits) ℓ) (g : Dev Cert.ShortConvBwd.nD → PrngReg), Pre_ShortConvBwd m →
    θ_run (Cert.ShortConvBwd.defs (F := Bits)) (onTc (τ := Cert.ShortConvBwd.τ) (Cert.ShortConvBwd.main (F := Bits))) ⟨m, fun _ => 0, g⟩ (fun r => (∀ c : Dev Cert.ShortConvBwd.nD,
      r.2.mem ((c.tc : Thread Cert.ShortConvBwd.nD Cert.ShortConvBwd.τ).loc Cert.ShortConvBwd.main_arg0) = m ((c.tc : Thread Cert.ShortConvBwd.nD Cert.ShortConvBwd.τ).loc Cert.ShortConvBwd.main_arg0)
      ∧ r.2.mem ((c.tc : Thread Cert.ShortConvBwd.nD Cert.ShortConvBwd.τ).loc Cert.ShortConvBwd.main_arg1) = m ((c.tc : Thread Cert.ShortConvBwd.nD Cert.ShortConvBwd.τ).loc Cert.ShortConvBwd.main_arg1)
      ∧ r.2.mem ((c.tc : Thread Cert.ShortConvBwd.nD Cert.ShortConvBwd.τ).loc Cert.ShortConvBwd.main_arg2) = m ((c.tc : Thread Cert.ShortConvBwd.nD Cert.ShortConvBwd.τ).loc Cert.ShortConvBwd.main_arg2))
      ∧ r.2.sem = fun _ => 0)

def quiescent_ShortConvBwdIdeal [hShortConvBwdIdeal : Cert.ShortConvBwdIdeal.Facts] : Prop :=
  ∀ (m : (ℓ : Loc Cert.ShortConvBwdIdeal.nD Cert.ShortConvBwdIdeal.τ Cert.ShortConvBwdIdeal.sig) → Buf (Elt Ideal) ℓ) (g : Dev Cert.ShortConvBwdIdeal.nD → PrngReg), Pre_ShortConvBwdIdeal m →
    θ_run (Cert.ShortConvBwdIdeal.defs (F := Ideal)) (onTc (τ := Cert.ShortConvBwdIdeal.τ) (Cert.ShortConvBwdIdeal.main (F := Ideal))) ⟨m, fun _ => 0, g⟩ (fun r => (∀ c : Dev Cert.ShortConvBwdIdeal.nD,
      r.2.mem ((c.tc : Thread Cert.ShortConvBwdIdeal.nD Cert.ShortConvBwdIdeal.τ).loc Cert.ShortConvBwdIdeal.main_arg0) = m ((c.tc : Thread Cert.ShortConvBwdIdeal.nD Cert.ShortConvBwdIdeal.τ).loc Cert.ShortConvBwdIdeal.main_arg0)
      ∧ r.2.mem ((c.tc : Thread Cert.ShortConvBwdIdeal.nD Cert.ShortConvBwdIdeal.τ).loc Cert.ShortConvBwdIdeal.main_arg1) = m ((c.tc : Thread Cert.ShortConvBwdIdeal.nD Cert.ShortConvBwdIdeal.τ).loc Cert.ShortConvBwdIdeal.main_arg1)
      ∧ r.2.mem ((c.tc : Thread Cert.ShortConvBwdIdeal.nD Cert.ShortConvBwdIdeal.τ).loc Cert.ShortConvBwdIdeal.main_arg2) = m ((c.tc : Thread Cert.ShortConvBwdIdeal.nD Cert.ShortConvBwdIdeal.τ).loc Cert.ShortConvBwdIdeal.main_arg2))
      ∧ r.2.sem = fun _ => 0)

def quiescent_ShortConvGradIdeal [hShortConvGradIdeal : Cert.ShortConvGradIdeal.Facts] : Prop :=
  ∀ (m : (ℓ : Loc Cert.ShortConvGradIdeal.nD Cert.ShortConvGradIdeal.τ Cert.ShortConvGradIdeal.sig) → Buf (Elt Ideal) ℓ) (g : Dev Cert.ShortConvGradIdeal.nD → PrngReg), Pre_ShortConvGradIdeal m →
    θ_run (Cert.ShortConvGradIdeal.defs (F := Ideal)) (onTc (τ := Cert.ShortConvGradIdeal.τ) (Cert.ShortConvGradIdeal.main (F := Ideal))) ⟨m, fun _ => 0, g⟩ (fun r => (∀ c : Dev Cert.ShortConvGradIdeal.nD,
      r.2.mem ((c.tc : Thread Cert.ShortConvGradIdeal.nD Cert.ShortConvGradIdeal.τ).loc Cert.ShortConvGradIdeal.main_arg0) = m ((c.tc : Thread Cert.ShortConvGradIdeal.nD Cert.ShortConvGradIdeal.τ).loc Cert.ShortConvGradIdeal.main_arg0)
      ∧ r.2.mem ((c.tc : Thread Cert.ShortConvGradIdeal.nD Cert.ShortConvGradIdeal.τ).loc Cert.ShortConvGradIdeal.main_arg1) = m ((c.tc : Thread Cert.ShortConvGradIdeal.nD Cert.ShortConvGradIdeal.τ).loc Cert.ShortConvGradIdeal.main_arg1)
      ∧ r.2.mem ((c.tc : Thread Cert.ShortConvGradIdeal.nD Cert.ShortConvGradIdeal.τ).loc Cert.ShortConvGradIdeal.main_arg2) = m ((c.tc : Thread Cert.ShortConvGradIdeal.nD Cert.ShortConvGradIdeal.τ).loc Cert.ShortConvGradIdeal.main_arg2))
      ∧ r.2.sem = fun _ => 0)

def quiescent_ShortConvFwd [hShortConvFwd : Cert.ShortConvFwd.Facts] : Prop :=
  ∀ (m : (ℓ : Loc Cert.ShortConvFwd.nD Cert.ShortConvFwd.τ Cert.ShortConvFwd.sig) → Buf (Elt Bits) ℓ) (g : Dev Cert.ShortConvFwd.nD → PrngReg), Pre_ShortConvFwd m →
    θ_run (Cert.ShortConvFwd.defs (F := Bits)) (onTc (τ := Cert.ShortConvFwd.τ) (Cert.ShortConvFwd.main (F := Bits))) ⟨m, fun _ => 0, g⟩ (fun r => (∀ c : Dev Cert.ShortConvFwd.nD,
      r.2.mem ((c.tc : Thread Cert.ShortConvFwd.nD Cert.ShortConvFwd.τ).loc Cert.ShortConvFwd.main_arg0) = m ((c.tc : Thread Cert.ShortConvFwd.nD Cert.ShortConvFwd.τ).loc Cert.ShortConvFwd.main_arg0)
      ∧ r.2.mem ((c.tc : Thread Cert.ShortConvFwd.nD Cert.ShortConvFwd.τ).loc Cert.ShortConvFwd.main_arg1) = m ((c.tc : Thread Cert.ShortConvFwd.nD Cert.ShortConvFwd.τ).loc Cert.ShortConvFwd.main_arg1))
      ∧ r.2.sem = fun _ => 0)

def quiescent_ShortConvFwdIdeal [hShortConvFwdIdeal : Cert.ShortConvFwdIdeal.Facts] : Prop :=
  ∀ (m : (ℓ : Loc Cert.ShortConvFwdIdeal.nD Cert.ShortConvFwdIdeal.τ Cert.ShortConvFwdIdeal.sig) → Buf (Elt Ideal) ℓ) (g : Dev Cert.ShortConvFwdIdeal.nD → PrngReg), Pre_ShortConvFwdIdeal m →
    θ_run (Cert.ShortConvFwdIdeal.defs (F := Ideal)) (onTc (τ := Cert.ShortConvFwdIdeal.τ) (Cert.ShortConvFwdIdeal.main (F := Ideal))) ⟨m, fun _ => 0, g⟩ (fun r => (∀ c : Dev Cert.ShortConvFwdIdeal.nD,
      r.2.mem ((c.tc : Thread Cert.ShortConvFwdIdeal.nD Cert.ShortConvFwdIdeal.τ).loc Cert.ShortConvFwdIdeal.main_arg0) = m ((c.tc : Thread Cert.ShortConvFwdIdeal.nD Cert.ShortConvFwdIdeal.τ).loc Cert.ShortConvFwdIdeal.main_arg0)
      ∧ r.2.mem ((c.tc : Thread Cert.ShortConvFwdIdeal.nD Cert.ShortConvFwdIdeal.τ).loc Cert.ShortConvFwdIdeal.main_arg1) = m ((c.tc : Thread Cert.ShortConvFwdIdeal.nD Cert.ShortConvFwdIdeal.τ).loc Cert.ShortConvFwdIdeal.main_arg1))
      ∧ r.2.sem = fun _ => 0)

def quiescent_ShortConvOutIdeal [hShortConvOutIdeal : Cert.ShortConvOutIdeal.Facts] : Prop :=
  ∀ (m : (ℓ : Loc Cert.ShortConvOutIdeal.nD Cert.ShortConvOutIdeal.τ Cert.ShortConvOutIdeal.sig) → Buf (Elt Ideal) ℓ) (g : Dev Cert.ShortConvOutIdeal.nD → PrngReg), Pre_ShortConvOutIdeal m →
    θ_run (Cert.ShortConvOutIdeal.defs (F := Ideal)) (onTc (τ := Cert.ShortConvOutIdeal.τ) (Cert.ShortConvOutIdeal.main (F := Ideal))) ⟨m, fun _ => 0, g⟩ (fun r => (∀ c : Dev Cert.ShortConvOutIdeal.nD,
      r.2.mem ((c.tc : Thread Cert.ShortConvOutIdeal.nD Cert.ShortConvOutIdeal.τ).loc Cert.ShortConvOutIdeal.main_arg0) = m ((c.tc : Thread Cert.ShortConvOutIdeal.nD Cert.ShortConvOutIdeal.τ).loc Cert.ShortConvOutIdeal.main_arg0)
      ∧ r.2.mem ((c.tc : Thread Cert.ShortConvOutIdeal.nD Cert.ShortConvOutIdeal.τ).loc Cert.ShortConvOutIdeal.main_arg1) = m ((c.tc : Thread Cert.ShortConvOutIdeal.nD Cert.ShortConvOutIdeal.τ).loc Cert.ShortConvOutIdeal.main_arg1))
      ∧ r.2.sem = fun _ => 0)

def quiescent_SwapHalves [hSwapHalves : Cert.SwapHalves.Facts] : Prop :=
  ∀ (m : (ℓ : Loc Cert.SwapHalves.nD Cert.SwapHalves.τ Cert.SwapHalves.sig) → Buf (Elt Bits) ℓ) (g : Dev Cert.SwapHalves.nD → PrngReg), Pre_SwapHalves m →
    θ_run (Cert.SwapHalves.defs (F := Bits)) (onTc (τ := Cert.SwapHalves.τ) (Cert.SwapHalves.main (F := Bits))) ⟨m, fun _ => 0, g⟩ (fun r => (∀ c : Dev Cert.SwapHalves.nD,
      r.2.mem ((c.tc : Thread Cert.SwapHalves.nD Cert.SwapHalves.τ).loc Cert.SwapHalves.main_arg0) = m ((c.tc : Thread Cert.SwapHalves.nD Cert.SwapHalves.τ).loc Cert.SwapHalves.main_arg0)
      ∧ r.2.mem ((c.tc : Thread Cert.SwapHalves.nD Cert.SwapHalves.τ).loc Cert.SwapHalves.main_arg1) = m ((c.tc : Thread Cert.SwapHalves.nD Cert.SwapHalves.τ).loc Cert.SwapHalves.main_arg1))
      ∧ r.2.sem = fun _ => 0)

def quiescent_SwapHalvesIdeal [hSwapHalvesIdeal : Cert.SwapHalvesIdeal.Facts] : Prop :=
  ∀ (m : (ℓ : Loc Cert.SwapHalvesIdeal.nD Cert.SwapHalvesIdeal.τ Cert.SwapHalvesIdeal.sig) → Buf (Elt Ideal) ℓ) (g : Dev Cert.SwapHalvesIdeal.nD → PrngReg), Pre_SwapHalvesIdeal m →
    θ_run (Cert.SwapHalvesIdeal.defs (F := Ideal)) (onTc (τ := Cert.SwapHalvesIdeal.τ) (Cert.SwapHalvesIdeal.main (F := Ideal))) ⟨m, fun _ => 0, g⟩ (fun r => (∀ c : Dev Cert.SwapHalvesIdeal.nD,
      r.2.mem ((c.tc : Thread Cert.SwapHalvesIdeal.nD Cert.SwapHalvesIdeal.τ).loc Cert.SwapHalvesIdeal.main_arg0) = m ((c.tc : Thread Cert.SwapHalvesIdeal.nD Cert.SwapHalvesIdeal.τ).loc Cert.SwapHalvesIdeal.main_arg0)
      ∧ r.2.mem ((c.tc : Thread Cert.SwapHalvesIdeal.nD Cert.SwapHalvesIdeal.τ).loc Cert.SwapHalvesIdeal.main_arg1) = m ((c.tc : Thread Cert.SwapHalvesIdeal.nD Cert.SwapHalvesIdeal.τ).loc Cert.SwapHalvesIdeal.main_arg1))
      ∧ r.2.sem = fun _ => 0)

def quiescent_SwapOutIdeal [hSwapOutIdeal : Cert.SwapOutIdeal.Facts] : Prop :=
  ∀ (m : (ℓ : Loc Cert.SwapOutIdeal.nD Cert.SwapOutIdeal.τ Cert.SwapOutIdeal.sig) → Buf (Elt Ideal) ℓ) (g : Dev Cert.SwapOutIdeal.nD → PrngReg), Pre_SwapOutIdeal m →
    θ_run (Cert.SwapOutIdeal.defs (F := Ideal)) (onTc (τ := Cert.SwapOutIdeal.τ) (Cert.SwapOutIdeal.main (F := Ideal))) ⟨m, fun _ => 0, g⟩ (fun r => (∀ c : Dev Cert.SwapOutIdeal.nD,
      r.2.mem ((c.tc : Thread Cert.SwapOutIdeal.nD Cert.SwapOutIdeal.τ).loc Cert.SwapOutIdeal.main_arg0) = m ((c.tc : Thread Cert.SwapOutIdeal.nD Cert.SwapOutIdeal.τ).loc Cert.SwapOutIdeal.main_arg0)
      ∧ r.2.mem ((c.tc : Thread Cert.SwapOutIdeal.nD Cert.SwapOutIdeal.τ).loc Cert.SwapOutIdeal.main_arg1) = m ((c.tc : Thread Cert.SwapOutIdeal.nD Cert.SwapOutIdeal.τ).loc Cert.SwapOutIdeal.main_arg1))
      ∧ r.2.sem = fun _ => 0)

def quiescent_SwapFive [hSwapFive : Cert.SwapFive.Facts] : Prop :=
  ∀ (m : (ℓ : Loc Cert.SwapFive.nD Cert.SwapFive.τ Cert.SwapFive.sig) → Buf (Elt Bits) ℓ) (g : Dev Cert.SwapFive.nD → PrngReg), Pre_SwapFive m →
    θ_run (Cert.SwapFive.defs (F := Bits)) (onTc (τ := Cert.SwapFive.τ) (Cert.SwapFive.main (F := Bits))) ⟨m, fun _ => 0, g⟩ (fun r => (∀ c : Dev Cert.SwapFive.nD,
      r.2.mem ((c.tc : Thread Cert.SwapFive.nD Cert.SwapFive.τ).loc Cert.SwapFive.main_arg0) = m ((c.tc : Thread Cert.SwapFive.nD Cert.SwapFive.τ).loc Cert.SwapFive.main_arg0)
      ∧ r.2.mem ((c.tc : Thread Cert.SwapFive.nD Cert.SwapFive.τ).loc Cert.SwapFive.main_arg1) = m ((c.tc : Thread Cert.SwapFive.nD Cert.SwapFive.τ).loc Cert.SwapFive.main_arg1)
      ∧ r.2.mem ((c.tc : Thread Cert.SwapFive.nD Cert.SwapFive.τ).loc Cert.SwapFive.main_arg2) = m ((c.tc : Thread Cert.SwapFive.nD Cert.SwapFive.τ).loc Cert.SwapFive.main_arg2)
      ∧ r.2.mem ((c.tc : Thread Cert.SwapFive.nD Cert.SwapFive.τ).loc Cert.SwapFive.main_arg3) = m ((c.tc : Thread Cert.SwapFive.nD Cert.SwapFive.τ).loc Cert.SwapFive.main_arg3)
      ∧ r.2.mem ((c.tc : Thread Cert.SwapFive.nD Cert.SwapFive.τ).loc Cert.SwapFive.main_arg4) = m ((c.tc : Thread Cert.SwapFive.nD Cert.SwapFive.τ).loc Cert.SwapFive.main_arg4))
      ∧ r.2.sem = fun _ => 0)

def quiescent_SwapFiveIdeal [hSwapFiveIdeal : Cert.SwapFiveIdeal.Facts] : Prop :=
  ∀ (m : (ℓ : Loc Cert.SwapFiveIdeal.nD Cert.SwapFiveIdeal.τ Cert.SwapFiveIdeal.sig) → Buf (Elt Ideal) ℓ) (g : Dev Cert.SwapFiveIdeal.nD → PrngReg), Pre_SwapFiveIdeal m →
    θ_run (Cert.SwapFiveIdeal.defs (F := Ideal)) (onTc (τ := Cert.SwapFiveIdeal.τ) (Cert.SwapFiveIdeal.main (F := Ideal))) ⟨m, fun _ => 0, g⟩ (fun r => (∀ c : Dev Cert.SwapFiveIdeal.nD,
      r.2.mem ((c.tc : Thread Cert.SwapFiveIdeal.nD Cert.SwapFiveIdeal.τ).loc Cert.SwapFiveIdeal.main_arg0) = m ((c.tc : Thread Cert.SwapFiveIdeal.nD Cert.SwapFiveIdeal.τ).loc Cert.SwapFiveIdeal.main_arg0)
      ∧ r.2.mem ((c.tc : Thread Cert.SwapFiveIdeal.nD Cert.SwapFiveIdeal.τ).loc Cert.SwapFiveIdeal.main_arg1) = m ((c.tc : Thread Cert.SwapFiveIdeal.nD Cert.SwapFiveIdeal.τ).loc Cert.SwapFiveIdeal.main_arg1)
      ∧ r.2.mem ((c.tc : Thread Cert.SwapFiveIdeal.nD Cert.SwapFiveIdeal.τ).loc Cert.SwapFiveIdeal.main_arg2) = m ((c.tc : Thread Cert.SwapFiveIdeal.nD Cert.SwapFiveIdeal.τ).loc Cert.SwapFiveIdeal.main_arg2)
      ∧ r.2.mem ((c.tc : Thread Cert.SwapFiveIdeal.nD Cert.SwapFiveIdeal.τ).loc Cert.SwapFiveIdeal.main_arg3) = m ((c.tc : Thread Cert.SwapFiveIdeal.nD Cert.SwapFiveIdeal.τ).loc Cert.SwapFiveIdeal.main_arg3)
      ∧ r.2.mem ((c.tc : Thread Cert.SwapFiveIdeal.nD Cert.SwapFiveIdeal.τ).loc Cert.SwapFiveIdeal.main_arg4) = m ((c.tc : Thread Cert.SwapFiveIdeal.nD Cert.SwapFiveIdeal.τ).loc Cert.SwapFiveIdeal.main_arg4))
      ∧ r.2.sem = fun _ => 0)

def quiescent_SwapFiveOutIdeal [hSwapFiveOutIdeal : Cert.SwapFiveOutIdeal.Facts] : Prop :=
  ∀ (m : (ℓ : Loc Cert.SwapFiveOutIdeal.nD Cert.SwapFiveOutIdeal.τ Cert.SwapFiveOutIdeal.sig) → Buf (Elt Ideal) ℓ) (g : Dev Cert.SwapFiveOutIdeal.nD → PrngReg), Pre_SwapFiveOutIdeal m →
    θ_run (Cert.SwapFiveOutIdeal.defs (F := Ideal)) (onTc (τ := Cert.SwapFiveOutIdeal.τ) (Cert.SwapFiveOutIdeal.main (F := Ideal))) ⟨m, fun _ => 0, g⟩ (fun r => (∀ c : Dev Cert.SwapFiveOutIdeal.nD,
      r.2.mem ((c.tc : Thread Cert.SwapFiveOutIdeal.nD Cert.SwapFiveOutIdeal.τ).loc Cert.SwapFiveOutIdeal.main_arg0) = m ((c.tc : Thread Cert.SwapFiveOutIdeal.nD Cert.SwapFiveOutIdeal.τ).loc Cert.SwapFiveOutIdeal.main_arg0)
      ∧ r.2.mem ((c.tc : Thread Cert.SwapFiveOutIdeal.nD Cert.SwapFiveOutIdeal.τ).loc Cert.SwapFiveOutIdeal.main_arg1) = m ((c.tc : Thread Cert.SwapFiveOutIdeal.nD Cert.SwapFiveOutIdeal.τ).loc Cert.SwapFiveOutIdeal.main_arg1)
      ∧ r.2.mem ((c.tc : Thread Cert.SwapFiveOutIdeal.nD Cert.SwapFiveOutIdeal.τ).loc Cert.SwapFiveOutIdeal.main_arg2) = m ((c.tc : Thread Cert.SwapFiveOutIdeal.nD Cert.SwapFiveOutIdeal.τ).loc Cert.SwapFiveOutIdeal.main_arg2)
      ∧ r.2.mem ((c.tc : Thread Cert.SwapFiveOutIdeal.nD Cert.SwapFiveOutIdeal.τ).loc Cert.SwapFiveOutIdeal.main_arg3) = m ((c.tc : Thread Cert.SwapFiveOutIdeal.nD Cert.SwapFiveOutIdeal.τ).loc Cert.SwapFiveOutIdeal.main_arg3)
      ∧ r.2.mem ((c.tc : Thread Cert.SwapFiveOutIdeal.nD Cert.SwapFiveOutIdeal.τ).loc Cert.SwapFiveOutIdeal.main_arg4) = m ((c.tc : Thread Cert.SwapFiveOutIdeal.nD Cert.SwapFiveOutIdeal.τ).loc Cert.SwapFiveOutIdeal.main_arg4))
      ∧ r.2.sem = fun _ => 0)

def quiescent_MatDown [hMatDown : Cert.MatDown.Facts] : Prop :=
  ∀ (m : (ℓ : Loc Cert.MatDown.nD Cert.MatDown.τ Cert.MatDown.sig) → Buf (Elt Bits) ℓ) (g : Dev Cert.MatDown.nD → PrngReg), Pre_MatDown m →
    θ_run (Cert.MatDown.defs (F := Bits)) (onTc (τ := Cert.MatDown.τ) (Cert.MatDown.main (F := Bits))) ⟨m, fun _ => 0, g⟩ (fun r => (∀ c : Dev Cert.MatDown.nD,
      r.2.mem ((c.tc : Thread Cert.MatDown.nD Cert.MatDown.τ).loc Cert.MatDown.main_arg0) = m ((c.tc : Thread Cert.MatDown.nD Cert.MatDown.τ).loc Cert.MatDown.main_arg0)
      ∧ r.2.mem ((c.tc : Thread Cert.MatDown.nD Cert.MatDown.τ).loc Cert.MatDown.main_arg1) = m ((c.tc : Thread Cert.MatDown.nD Cert.MatDown.τ).loc Cert.MatDown.main_arg1))
      ∧ r.2.sem = fun _ => 0)

def quiescent_MatDownIdeal [hMatDownIdeal : Cert.MatDownIdeal.Facts] : Prop :=
  ∀ (m : (ℓ : Loc Cert.MatDownIdeal.nD Cert.MatDownIdeal.τ Cert.MatDownIdeal.sig) → Buf (Elt Ideal) ℓ) (g : Dev Cert.MatDownIdeal.nD → PrngReg), Pre_MatDownIdeal m →
    θ_run (Cert.MatDownIdeal.defs (F := Ideal)) (onTc (τ := Cert.MatDownIdeal.τ) (Cert.MatDownIdeal.main (F := Ideal))) ⟨m, fun _ => 0, g⟩ (fun r => (∀ c : Dev Cert.MatDownIdeal.nD,
      r.2.mem ((c.tc : Thread Cert.MatDownIdeal.nD Cert.MatDownIdeal.τ).loc Cert.MatDownIdeal.main_arg0) = m ((c.tc : Thread Cert.MatDownIdeal.nD Cert.MatDownIdeal.τ).loc Cert.MatDownIdeal.main_arg0)
      ∧ r.2.mem ((c.tc : Thread Cert.MatDownIdeal.nD Cert.MatDownIdeal.τ).loc Cert.MatDownIdeal.main_arg1) = m ((c.tc : Thread Cert.MatDownIdeal.nD Cert.MatDownIdeal.τ).loc Cert.MatDownIdeal.main_arg1))
      ∧ r.2.sem = fun _ => 0)

def quiescent_MatDownGradIdeal [hMatDownGradIdeal : Cert.MatDownGradIdeal.Facts] : Prop :=
  ∀ (m : (ℓ : Loc Cert.MatDownGradIdeal.nD Cert.MatDownGradIdeal.τ Cert.MatDownGradIdeal.sig) → Buf (Elt Ideal) ℓ) (g : Dev Cert.MatDownGradIdeal.nD → PrngReg), Pre_MatDownGradIdeal m →
    θ_run (Cert.MatDownGradIdeal.defs (F := Ideal)) (onTc (τ := Cert.MatDownGradIdeal.τ) (Cert.MatDownGradIdeal.main (F := Ideal))) ⟨m, fun _ => 0, g⟩ (fun r => (∀ c : Dev Cert.MatDownGradIdeal.nD,
      r.2.mem ((c.tc : Thread Cert.MatDownGradIdeal.nD Cert.MatDownGradIdeal.τ).loc Cert.MatDownGradIdeal.main_arg0) = m ((c.tc : Thread Cert.MatDownGradIdeal.nD Cert.MatDownGradIdeal.τ).loc Cert.MatDownGradIdeal.main_arg0)
      ∧ r.2.mem ((c.tc : Thread Cert.MatDownGradIdeal.nD Cert.MatDownGradIdeal.τ).loc Cert.MatDownGradIdeal.main_arg1) = m ((c.tc : Thread Cert.MatDownGradIdeal.nD Cert.MatDownGradIdeal.τ).loc Cert.MatDownGradIdeal.main_arg1))
      ∧ r.2.sem = fun _ => 0)

def quiescent_AdamLayers [hAdamLayers : Cert.AdamLayers.Facts] : Prop :=
  ∀ (m : (ℓ : Loc Cert.AdamLayers.nD Cert.AdamLayers.τ Cert.AdamLayers.sig) → Buf (Elt Bits) ℓ) (g : Dev Cert.AdamLayers.nD → PrngReg), Pre_AdamLayers m →
    θ_run (Cert.AdamLayers.defs (F := Bits)) (onTc (τ := Cert.AdamLayers.τ) (Cert.AdamLayers.main (F := Bits))) ⟨m, fun _ => 0, g⟩ (fun r => (∀ c : Dev Cert.AdamLayers.nD,
      r.2.mem ((c.tc : Thread Cert.AdamLayers.nD Cert.AdamLayers.τ).loc Cert.AdamLayers.main_arg0) = m ((c.tc : Thread Cert.AdamLayers.nD Cert.AdamLayers.τ).loc Cert.AdamLayers.main_arg0)
      ∧ r.2.mem ((c.tc : Thread Cert.AdamLayers.nD Cert.AdamLayers.τ).loc Cert.AdamLayers.main_arg1) = m ((c.tc : Thread Cert.AdamLayers.nD Cert.AdamLayers.τ).loc Cert.AdamLayers.main_arg1)
      ∧ r.2.mem ((c.tc : Thread Cert.AdamLayers.nD Cert.AdamLayers.τ).loc Cert.AdamLayers.main_arg2) = m ((c.tc : Thread Cert.AdamLayers.nD Cert.AdamLayers.τ).loc Cert.AdamLayers.main_arg2)
      ∧ r.2.mem ((c.tc : Thread Cert.AdamLayers.nD Cert.AdamLayers.τ).loc Cert.AdamLayers.main_arg3) = m ((c.tc : Thread Cert.AdamLayers.nD Cert.AdamLayers.τ).loc Cert.AdamLayers.main_arg3)
      ∧ r.2.mem ((c.tc : Thread Cert.AdamLayers.nD Cert.AdamLayers.τ).loc Cert.AdamLayers.main_arg4) = m ((c.tc : Thread Cert.AdamLayers.nD Cert.AdamLayers.τ).loc Cert.AdamLayers.main_arg4))
      ∧ r.2.sem = fun _ => 0)

def quiescent_AdamLayersIdeal [hAdamLayersIdeal : Cert.AdamLayersIdeal.Facts] : Prop :=
  ∀ (m : (ℓ : Loc Cert.AdamLayersIdeal.nD Cert.AdamLayersIdeal.τ Cert.AdamLayersIdeal.sig) → Buf (Elt Ideal) ℓ) (g : Dev Cert.AdamLayersIdeal.nD → PrngReg), Pre_AdamLayersIdeal m →
    θ_run (Cert.AdamLayersIdeal.defs (F := Ideal)) (onTc (τ := Cert.AdamLayersIdeal.τ) (Cert.AdamLayersIdeal.main (F := Ideal))) ⟨m, fun _ => 0, g⟩ (fun r => (∀ c : Dev Cert.AdamLayersIdeal.nD,
      r.2.mem ((c.tc : Thread Cert.AdamLayersIdeal.nD Cert.AdamLayersIdeal.τ).loc Cert.AdamLayersIdeal.main_arg0) = m ((c.tc : Thread Cert.AdamLayersIdeal.nD Cert.AdamLayersIdeal.τ).loc Cert.AdamLayersIdeal.main_arg0)
      ∧ r.2.mem ((c.tc : Thread Cert.AdamLayersIdeal.nD Cert.AdamLayersIdeal.τ).loc Cert.AdamLayersIdeal.main_arg1) = m ((c.tc : Thread Cert.AdamLayersIdeal.nD Cert.AdamLayersIdeal.τ).loc Cert.AdamLayersIdeal.main_arg1)
      ∧ r.2.mem ((c.tc : Thread Cert.AdamLayersIdeal.nD Cert.AdamLayersIdeal.τ).loc Cert.AdamLayersIdeal.main_arg2) = m ((c.tc : Thread Cert.AdamLayersIdeal.nD Cert.AdamLayersIdeal.τ).loc Cert.AdamLayersIdeal.main_arg2)
      ∧ r.2.mem ((c.tc : Thread Cert.AdamLayersIdeal.nD Cert.AdamLayersIdeal.τ).loc Cert.AdamLayersIdeal.main_arg3) = m ((c.tc : Thread Cert.AdamLayersIdeal.nD Cert.AdamLayersIdeal.τ).loc Cert.AdamLayersIdeal.main_arg3)
      ∧ r.2.mem ((c.tc : Thread Cert.AdamLayersIdeal.nD Cert.AdamLayersIdeal.τ).loc Cert.AdamLayersIdeal.main_arg4) = m ((c.tc : Thread Cert.AdamLayersIdeal.nD Cert.AdamLayersIdeal.τ).loc Cert.AdamLayersIdeal.main_arg4))
      ∧ r.2.sem = fun _ => 0)

def quiescent_AdamLayersOutIdeal [hAdamLayersOutIdeal : Cert.AdamLayersOutIdeal.Facts] : Prop :=
  ∀ (m : (ℓ : Loc Cert.AdamLayersOutIdeal.nD Cert.AdamLayersOutIdeal.τ Cert.AdamLayersOutIdeal.sig) → Buf (Elt Ideal) ℓ) (g : Dev Cert.AdamLayersOutIdeal.nD → PrngReg), Pre_AdamLayersOutIdeal m →
    θ_run (Cert.AdamLayersOutIdeal.defs (F := Ideal)) (onTc (τ := Cert.AdamLayersOutIdeal.τ) (Cert.AdamLayersOutIdeal.main (F := Ideal))) ⟨m, fun _ => 0, g⟩ (fun r => (∀ c : Dev Cert.AdamLayersOutIdeal.nD,
      r.2.mem ((c.tc : Thread Cert.AdamLayersOutIdeal.nD Cert.AdamLayersOutIdeal.τ).loc Cert.AdamLayersOutIdeal.main_arg0) = m ((c.tc : Thread Cert.AdamLayersOutIdeal.nD Cert.AdamLayersOutIdeal.τ).loc Cert.AdamLayersOutIdeal.main_arg0)
      ∧ r.2.mem ((c.tc : Thread Cert.AdamLayersOutIdeal.nD Cert.AdamLayersOutIdeal.τ).loc Cert.AdamLayersOutIdeal.main_arg1) = m ((c.tc : Thread Cert.AdamLayersOutIdeal.nD Cert.AdamLayersOutIdeal.τ).loc Cert.AdamLayersOutIdeal.main_arg1)
      ∧ r.2.mem ((c.tc : Thread Cert.AdamLayersOutIdeal.nD Cert.AdamLayersOutIdeal.τ).loc Cert.AdamLayersOutIdeal.main_arg2) = m ((c.tc : Thread Cert.AdamLayersOutIdeal.nD Cert.AdamLayersOutIdeal.τ).loc Cert.AdamLayersOutIdeal.main_arg2)
      ∧ r.2.mem ((c.tc : Thread Cert.AdamLayersOutIdeal.nD Cert.AdamLayersOutIdeal.τ).loc Cert.AdamLayersOutIdeal.main_arg3) = m ((c.tc : Thread Cert.AdamLayersOutIdeal.nD Cert.AdamLayersOutIdeal.τ).loc Cert.AdamLayersOutIdeal.main_arg3)
      ∧ r.2.mem ((c.tc : Thread Cert.AdamLayersOutIdeal.nD Cert.AdamLayersOutIdeal.τ).loc Cert.AdamLayersOutIdeal.main_arg4) = m ((c.tc : Thread Cert.AdamLayersOutIdeal.nD Cert.AdamLayersOutIdeal.τ).loc Cert.AdamLayersOutIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallOutIdeal [hAdamSmallOutIdeal : Cert.AdamSmallOutIdeal.Facts] : Prop :=
  ∀ (m : (ℓ : Loc Cert.AdamSmallOutIdeal.nD Cert.AdamSmallOutIdeal.τ Cert.AdamSmallOutIdeal.sig) → Buf (Elt Ideal) ℓ) (g : Dev Cert.AdamSmallOutIdeal.nD → PrngReg), Pre_AdamSmallOutIdeal m →
    θ_run (Cert.AdamSmallOutIdeal.defs (F := Ideal)) (onTc (τ := Cert.AdamSmallOutIdeal.τ) (Cert.AdamSmallOutIdeal.main (F := Ideal))) ⟨m, fun _ => 0, g⟩ (fun r => (∀ c : Dev Cert.AdamSmallOutIdeal.nD,
      r.2.mem ((c.tc : Thread Cert.AdamSmallOutIdeal.nD Cert.AdamSmallOutIdeal.τ).loc Cert.AdamSmallOutIdeal.main_arg0) = m ((c.tc : Thread Cert.AdamSmallOutIdeal.nD Cert.AdamSmallOutIdeal.τ).loc Cert.AdamSmallOutIdeal.main_arg0)
      ∧ r.2.mem ((c.tc : Thread Cert.AdamSmallOutIdeal.nD Cert.AdamSmallOutIdeal.τ).loc Cert.AdamSmallOutIdeal.main_arg1) = m ((c.tc : Thread Cert.AdamSmallOutIdeal.nD Cert.AdamSmallOutIdeal.τ).loc Cert.AdamSmallOutIdeal.main_arg1)
      ∧ r.2.mem ((c.tc : Thread Cert.AdamSmallOutIdeal.nD Cert.AdamSmallOutIdeal.τ).loc Cert.AdamSmallOutIdeal.main_arg2) = m ((c.tc : Thread Cert.AdamSmallOutIdeal.nD Cert.AdamSmallOutIdeal.τ).loc Cert.AdamSmallOutIdeal.main_arg2)
      ∧ r.2.mem ((c.tc : Thread Cert.AdamSmallOutIdeal.nD Cert.AdamSmallOutIdeal.τ).loc Cert.AdamSmallOutIdeal.main_arg3) = m ((c.tc : Thread Cert.AdamSmallOutIdeal.nD Cert.AdamSmallOutIdeal.τ).loc Cert.AdamSmallOutIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallOutIdeal [hSumSmallOutIdeal : Cert.SumSmallOutIdeal.Facts] : Prop :=
  ∀ (m : (ℓ : Loc Cert.SumSmallOutIdeal.nD Cert.SumSmallOutIdeal.τ Cert.SumSmallOutIdeal.sig) → Buf (Elt Ideal) ℓ) (g : Dev Cert.SumSmallOutIdeal.nD → PrngReg), Pre_SumSmallOutIdeal m →
    θ_run (Cert.SumSmallOutIdeal.defs (F := Ideal)) (onTc (τ := Cert.SumSmallOutIdeal.τ) (Cert.SumSmallOutIdeal.main (F := Ideal))) ⟨m, fun _ => 0, g⟩ (fun r => (∀ c : Dev Cert.SumSmallOutIdeal.nD,
      r.2.mem ((c.tc : Thread Cert.SumSmallOutIdeal.nD Cert.SumSmallOutIdeal.τ).loc Cert.SumSmallOutIdeal.main_arg0) = m ((c.tc : Thread Cert.SumSmallOutIdeal.nD Cert.SumSmallOutIdeal.τ).loc Cert.SumSmallOutIdeal.main_arg0))
      ∧ r.2.sem = fun _ => 0)

def quiescent_PairSum [hPairSum : Cert.PairSum.Facts] [hPre_core_named : Cert.Pre_core_named.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1)
      ∧ r.2.mem ((c.tc : Thread Cert.PairSum.nD Cert.PairSum.τ).loc Cert.PairSum.main_arg2) = m ((c.tc : Thread Cert.PairSum.nD Cert.PairSum.τ).loc Cert.PairSum.main_arg2))
      ∧ r.2.sem = fun _ => 0)

def quiescent_PairSumIdeal [hPairSumIdeal : Cert.PairSumIdeal.Facts] [hPre_core_named : Cert.Pre_core_named.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
      ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ r.2.sem = fun _ => 0)

def quiescent_PairSumOutIdeal [hPairSumOutIdeal : Cert.PairSumOutIdeal.Facts] : Prop :=
  ∀ (m : (ℓ : Loc Cert.PairSumOutIdeal.nD Cert.PairSumOutIdeal.τ Cert.PairSumOutIdeal.sig) → Buf (Elt Ideal) ℓ) (g : Dev Cert.PairSumOutIdeal.nD → PrngReg), Pre_PairSumOutIdeal m →
    θ_run (Cert.PairSumOutIdeal.defs (F := Ideal)) (onTc (τ := Cert.PairSumOutIdeal.τ) (Cert.PairSumOutIdeal.main (F := Ideal))) ⟨m, fun _ => 0, g⟩ (fun r => (∀ c : Dev Cert.PairSumOutIdeal.nD,
      r.2.mem ((c.tc : Thread Cert.PairSumOutIdeal.nD Cert.PairSumOutIdeal.τ).loc Cert.PairSumOutIdeal.main_arg0) = m ((c.tc : Thread Cert.PairSumOutIdeal.nD Cert.PairSumOutIdeal.τ).loc Cert.PairSumOutIdeal.main_arg0)
      ∧ r.2.mem ((c.tc : Thread Cert.PairSumOutIdeal.nD Cert.PairSumOutIdeal.τ).loc Cert.PairSumOutIdeal.main_arg1) = m ((c.tc : Thread Cert.PairSumOutIdeal.nD Cert.PairSumOutIdeal.τ).loc Cert.PairSumOutIdeal.main_arg1)
      ∧ r.2.mem ((c.tc : Thread Cert.PairSumOutIdeal.nD Cert.PairSumOutIdeal.τ).loc Cert.PairSumOutIdeal.main_arg2) = m ((c.tc : Thread Cert.PairSumOutIdeal.nD Cert.PairSumOutIdeal.τ).loc Cert.PairSumOutIdeal.main_arg2))
      ∧ r.2.sem = fun _ => 0)

def quiescent_PairSumOutIdeal_pre_core_named [hPairSumOutIdeal : Cert.PairSumOutIdeal.Facts] [hPre_core_named : Cert.Pre_core_named.Facts] : Prop :=
  ∀ (m : (ℓ : Loc Cert.PairSumOutIdeal.nD Cert.PairSumOutIdeal.τ Cert.PairSumOutIdeal.sig) → Buf (Elt Ideal) ℓ) (g : Dev Cert.PairSumOutIdeal.nD → PrngReg), Pre_PairSumOutIdeal_core_named m →
    θ_run (Cert.PairSumOutIdeal.defs (F := Ideal)) (onTc (τ := Cert.PairSumOutIdeal.τ) (Cert.PairSumOutIdeal.main (F := Ideal))) ⟨m, fun _ => 0, g⟩ (fun r => (∀ c : Dev Cert.PairSumOutIdeal.nD,
      r.2.mem ((c.tc : Thread Cert.PairSumOutIdeal.nD Cert.PairSumOutIdeal.τ).loc Cert.PairSumOutIdeal.main_arg0) = m ((c.tc : Thread Cert.PairSumOutIdeal.nD Cert.PairSumOutIdeal.τ).loc Cert.PairSumOutIdeal.main_arg0)
      ∧ r.2.mem ((c.tc : Thread Cert.PairSumOutIdeal.nD Cert.PairSumOutIdeal.τ).loc Cert.PairSumOutIdeal.main_arg1) = m ((c.tc : Thread Cert.PairSumOutIdeal.nD Cert.PairSumOutIdeal.τ).loc Cert.PairSumOutIdeal.main_arg1)
      ∧ r.2.mem ((c.tc : Thread Cert.PairSumOutIdeal.nD Cert.PairSumOutIdeal.τ).loc Cert.PairSumOutIdeal.main_arg2) = m ((c.tc : Thread Cert.PairSumOutIdeal.nD Cert.PairSumOutIdeal.τ).loc Cert.PairSumOutIdeal.main_arg2))
      ∧ r.2.sem = fun _ => 0)

def preserves_ConformerBwd_ConformerBwdIdeal : Prop :=
  True

def algebraic_ConformerBwdIdeal_ConformerGradIdeal [hConformerBwdIdeal : Cert.ConformerBwdIdeal.Facts] [hConformerGradIdeal : Cert.ConformerGradIdeal.Facts] : Prop :=
  ∀ (m : (ℓ : Loc Cert.ConformerBwdIdeal.nD Cert.ConformerBwdIdeal.τ Cert.ConformerBwdIdeal.sig) → Buf (Elt Ideal) ℓ) (g : Dev Cert.ConformerBwdIdeal.nD → PrngReg)
    (m' : (ℓ : Loc Cert.ConformerGradIdeal.nD Cert.ConformerGradIdeal.τ Cert.ConformerGradIdeal.sig) → Buf (Elt Ideal) ℓ) (g' : Dev Cert.ConformerGradIdeal.nD → PrngReg), Pre_ConformerBwdIdeal m →
    (∀ c : Dev Cert.ConformerBwdIdeal.nD,
      m' ((c.tc : Thread Cert.ConformerGradIdeal.nD Cert.ConformerGradIdeal.τ).loc Cert.ConformerGradIdeal.main_arg0) = m ((c.tc : Thread Cert.ConformerBwdIdeal.nD Cert.ConformerBwdIdeal.τ).loc Cert.ConformerBwdIdeal.main_arg0)
      ∧ m' ((c.tc : Thread Cert.ConformerGradIdeal.nD Cert.ConformerGradIdeal.τ).loc Cert.ConformerGradIdeal.main_arg1) = m ((c.tc : Thread Cert.ConformerBwdIdeal.nD Cert.ConformerBwdIdeal.τ).loc Cert.ConformerBwdIdeal.main_arg1)
      ∧ m' ((c.tc : Thread Cert.ConformerGradIdeal.nD Cert.ConformerGradIdeal.τ).loc Cert.ConformerGradIdeal.main_arg2) = m ((c.tc : Thread Cert.ConformerBwdIdeal.nD Cert.ConformerBwdIdeal.τ).loc Cert.ConformerBwdIdeal.main_arg2)) →
    ∃ (v0 : (c : Dev Cert.ConformerBwdIdeal.nD) → Buf (Elt Ideal) ((c.tc : Thread Cert.ConformerBwdIdeal.nD Cert.ConformerBwdIdeal.τ).loc Cert.ConformerBwdIdeal.main_v0_0)) (v1 : (c : Dev Cert.ConformerBwdIdeal.nD) → Buf (Elt Ideal) ((c.tc : Thread Cert.ConformerBwdIdeal.nD Cert.ConformerBwdIdeal.τ).loc Cert.ConformerBwdIdeal.main_v0_1)) (v2 : (c : Dev Cert.ConformerBwdIdeal.nD) → Buf (Elt Ideal) ((c.tc : Thread Cert.ConformerBwdIdeal.nD Cert.ConformerBwdIdeal.τ).loc Cert.ConformerBwdIdeal.main_v0_2)) (v3 : (c : Dev Cert.ConformerBwdIdeal.nD) → Buf (Elt Ideal) ((c.tc : Thread Cert.ConformerBwdIdeal.nD Cert.ConformerBwdIdeal.τ).loc Cert.ConformerBwdIdeal.main_v0_3)),
      θ_run (Cert.ConformerBwdIdeal.defs (F := Ideal)) (onTc (τ := Cert.ConformerBwdIdeal.τ) (Cert.ConformerBwdIdeal.main (F := Ideal))) ⟨m, fun _ => 0, g⟩ (fun r => ∀ c : Dev Cert.ConformerBwdIdeal.nD,
          r.2.mem ((c.tc : Thread Cert.ConformerBwdIdeal.nD Cert.ConformerBwdIdeal.τ).loc Cert.ConformerBwdIdeal.main_v0_0) = v0 c
          ∧ r.2.mem ((c.tc : Thread Cert.ConformerBwdIdeal.nD Cert.ConformerBwdIdeal.τ).loc Cert.ConformerBwdIdeal.main_v0_1) = v1 c
          ∧ r.2.mem ((c.tc : Thread Cert.ConformerBwdIdeal.nD Cert.ConformerBwdIdeal.τ).loc Cert.ConformerBwdIdeal.main_v0_2) = v2 c
          ∧ r.2.mem ((c.tc : Thread Cert.ConformerBwdIdeal.nD Cert.ConformerBwdIdeal.τ).loc Cert.ConformerBwdIdeal.main_v0_3) = v3 c
          ∧ r.2.mem ((c.tc : Thread Cert.ConformerBwdIdeal.nD Cert.ConformerBwdIdeal.τ).loc Cert.ConformerBwdIdeal.main_arg0) = m ((c.tc : Thread Cert.ConformerBwdIdeal.nD Cert.ConformerBwdIdeal.τ).loc Cert.ConformerBwdIdeal.main_arg0)
          ∧ r.2.mem ((c.tc : Thread Cert.ConformerBwdIdeal.nD Cert.ConformerBwdIdeal.τ).loc Cert.ConformerBwdIdeal.main_arg1) = m ((c.tc : Thread Cert.ConformerBwdIdeal.nD Cert.ConformerBwdIdeal.τ).loc Cert.ConformerBwdIdeal.main_arg1)
          ∧ r.2.mem ((c.tc : Thread Cert.ConformerBwdIdeal.nD Cert.ConformerBwdIdeal.τ).loc Cert.ConformerBwdIdeal.main_arg2) = m ((c.tc : Thread Cert.ConformerBwdIdeal.nD Cert.ConformerBwdIdeal.τ).loc Cert.ConformerBwdIdeal.main_arg2))
      ∧ θ_run (Cert.ConformerGradIdeal.defs (F := Ideal)) (onTc (τ := Cert.ConformerGradIdeal.τ) (Cert.ConformerGradIdeal.main (F := Ideal))) ⟨m', fun _ => 0, g'⟩ (fun r => ∀ c : Dev Cert.ConformerGradIdeal.nD,
          r.2.mem ((c.tc : Thread Cert.ConformerGradIdeal.nD Cert.ConformerGradIdeal.τ).loc Cert.ConformerGradIdeal.main_v43) = v0 c
          ∧ r.2.mem ((c.tc : Thread Cert.ConformerGradIdeal.nD Cert.ConformerGradIdeal.τ).loc Cert.ConformerGradIdeal.main_v44) = v1 c
          ∧ r.2.mem ((c.tc : Thread Cert.ConformerGradIdeal.nD Cert.ConformerGradIdeal.τ).loc Cert.ConformerGradIdeal.main_v37) = v2 c
          ∧ r.2.mem ((c.tc : Thread Cert.ConformerGradIdeal.nD Cert.ConformerGradIdeal.τ).loc Cert.ConformerGradIdeal.main_v30) = v3 c
          ∧ r.2.mem ((c.tc : Thread Cert.ConformerGradIdeal.nD Cert.ConformerGradIdeal.τ).loc Cert.ConformerGradIdeal.main_arg0) = m' ((c.tc : Thread Cert.ConformerGradIdeal.nD Cert.ConformerGradIdeal.τ).loc Cert.ConformerGradIdeal.main_arg0)
          ∧ r.2.mem ((c.tc : Thread Cert.ConformerGradIdeal.nD Cert.ConformerGradIdeal.τ).loc Cert.ConformerGradIdeal.main_arg1) = m' ((c.tc : Thread Cert.ConformerGradIdeal.nD Cert.ConformerGradIdeal.τ).loc Cert.ConformerGradIdeal.main_arg1)
          ∧ r.2.mem ((c.tc : Thread Cert.ConformerGradIdeal.nD Cert.ConformerGradIdeal.τ).loc Cert.ConformerGradIdeal.main_arg2) = m' ((c.tc : Thread Cert.ConformerGradIdeal.nD Cert.ConformerGradIdeal.τ).loc Cert.ConformerGradIdeal.main_arg2))

def preserves_AttnBwd_AttnBwdIdeal : Prop :=
  True

def algebraic_AttnBwdIdeal_AttnGradIdeal_pre_attn_finite [hAttnBwdIdeal : Cert.AttnBwdIdeal.Facts] [hAttnGradIdeal : Cert.AttnGradIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnGradIdeal.nD Cert.AttnGradIdeal.τ Cert.AttnGradIdeal.sig) → Buf (Elt Ideal) ℓ) (g' : Dev Cert.AttnGradIdeal.nD → PrngReg), Pre_AttnBwdIdeal_attn_finite m →
    (∀ c : Dev Cert.AttnBwdIdeal.nD,
      m' ((c.tc : Thread Cert.AttnGradIdeal.nD Cert.AttnGradIdeal.τ).loc Cert.AttnGradIdeal.main_arg0) = m ((c.tc : Thread Cert.AttnBwdIdeal.nD Cert.AttnBwdIdeal.τ).loc Cert.AttnBwdIdeal.main_arg0)
      ∧ m' ((c.tc : Thread Cert.AttnGradIdeal.nD Cert.AttnGradIdeal.τ).loc Cert.AttnGradIdeal.main_arg1) = m ((c.tc : Thread Cert.AttnBwdIdeal.nD Cert.AttnBwdIdeal.τ).loc Cert.AttnBwdIdeal.main_arg1)
      ∧ m' ((c.tc : Thread Cert.AttnGradIdeal.nD Cert.AttnGradIdeal.τ).loc Cert.AttnGradIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v0_0)) (v1 : (c : Dev Cert.AttnBwdIdeal.nD) → Buf (Elt Ideal) ((c.tc : Thread Cert.AttnBwdIdeal.nD Cert.AttnBwdIdeal.τ).loc Cert.AttnBwdIdeal.main_v0_1)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v0_0) = v0 c
          ∧ r.2.mem ((c.tc : Thread Cert.AttnBwdIdeal.nD Cert.AttnBwdIdeal.τ).loc Cert.AttnBwdIdeal.main_v0_1) = v1 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnGradIdeal.defs (F := Ideal)) (onTc (τ := Cert.AttnGradIdeal.τ) (Cert.AttnGradIdeal.main (F := Ideal))) ⟨m', fun _ => 0, g'⟩ (fun r => ∀ c : Dev Cert.AttnGradIdeal.nD,
          r.2.mem ((c.tc : Thread Cert.AttnGradIdeal.nD Cert.AttnGradIdeal.τ).loc Cert.AttnGradIdeal.main_v69) = v0 c
          ∧ r.2.mem ((c.tc : Thread Cert.AttnGradIdeal.nD Cert.AttnGradIdeal.τ).loc Cert.AttnGradIdeal.main_v67) = v1 c
          ∧ r.2.mem ((c.tc : Thread Cert.AttnGradIdeal.nD Cert.AttnGradIdeal.τ).loc Cert.AttnGradIdeal.main_arg0) = m' ((c.tc : Thread Cert.AttnGradIdeal.nD Cert.AttnGradIdeal.τ).loc Cert.AttnGradIdeal.main_arg0)
          ∧ r.2.mem ((c.tc : Thread Cert.AttnGradIdeal.nD Cert.AttnGradIdeal.τ).loc Cert.AttnGradIdeal.main_arg1) = m' ((c.tc : Thread Cert.AttnGradIdeal.nD Cert.AttnGradIdeal.τ).loc Cert.AttnGradIdeal.main_arg1)
          ∧ r.2.mem ((c.tc : Thread Cert.AttnGradIdeal.nD Cert.AttnGradIdeal.τ).loc Cert.AttnGradIdeal.main_arg2) = m' ((c.tc : Thread Cert.AttnGradIdeal.nD Cert.AttnGradIdeal.τ).loc Cert.AttnGradIdeal.main_arg2))

def preserves_LnSiluBwd_LnSiluBwdIdeal : Prop :=
  True

def algebraic_LnSiluBwdIdeal_LnSiluGradIdeal_pre_ln_finite [hLnSiluBwdIdeal : Cert.LnSiluBwdIdeal.Facts] [hLnSiluGradIdeal : Cert.LnSiluGradIdeal.Facts] [hPre_ln_finite : Cert.Pre_ln_finite.Facts] : Prop :=
  ∀ (m : (ℓ : Loc Cert.LnSiluBwdIdeal.nD Cert.LnSiluBwdIdeal.τ Cert.LnSiluBwdIdeal.sig) → Buf (Elt Ideal) ℓ) (g : Dev Cert.LnSiluBwdIdeal.nD → PrngReg)
    (m' : (ℓ : Loc Cert.LnSiluGradIdeal.nD Cert.LnSiluGradIdeal.τ Cert.LnSiluGradIdeal.sig) → Buf (Elt Ideal) ℓ) (g' : Dev Cert.LnSiluGradIdeal.nD → PrngReg), Pre_LnSiluBwdIdeal_ln_finite m →
    (∀ c : Dev Cert.LnSiluBwdIdeal.nD,
      m' ((c.tc : Thread Cert.LnSiluGradIdeal.nD Cert.LnSiluGradIdeal.τ).loc Cert.LnSiluGradIdeal.main_arg0) = m ((c.tc : Thread Cert.LnSiluBwdIdeal.nD Cert.LnSiluBwdIdeal.τ).loc Cert.LnSiluBwdIdeal.main_arg0)
      ∧ m' ((c.tc : Thread Cert.LnSiluGradIdeal.nD Cert.LnSiluGradIdeal.τ).loc Cert.LnSiluGradIdeal.main_arg1) = m ((c.tc : Thread Cert.LnSiluBwdIdeal.nD Cert.LnSiluBwdIdeal.τ).loc Cert.LnSiluBwdIdeal.main_arg1)
      ∧ m' ((c.tc : Thread Cert.LnSiluGradIdeal.nD Cert.LnSiluGradIdeal.τ).loc Cert.LnSiluGradIdeal.main_arg2) = m ((c.tc : Thread Cert.LnSiluBwdIdeal.nD Cert.LnSiluBwdIdeal.τ).loc Cert.LnSiluBwdIdeal.main_arg2)
      ∧ m' ((c.tc : Thread Cert.LnSiluGradIdeal.nD Cert.LnSiluGradIdeal.τ).loc Cert.LnSiluGradIdeal.main_arg3) = m ((c.tc : Thread Cert.LnSiluBwdIdeal.nD Cert.LnSiluBwdIdeal.τ).loc Cert.LnSiluBwdIdeal.main_arg3)) →
    ∃ (v0 : (c : Dev Cert.LnSiluBwdIdeal.nD) → Buf (Elt Ideal) ((c.tc : Thread Cert.LnSiluBwdIdeal.nD Cert.LnSiluBwdIdeal.τ).loc Cert.LnSiluBwdIdeal.main_v0_0)) (v1 : (c : Dev Cert.LnSiluBwdIdeal.nD) → Buf (Elt Ideal) ((c.tc : Thread Cert.LnSiluBwdIdeal.nD Cert.LnSiluBwdIdeal.τ).loc Cert.LnSiluBwdIdeal.main_v0_1)) (v2 : (c : Dev Cert.LnSiluBwdIdeal.nD) → Buf (Elt Ideal) ((c.tc : Thread Cert.LnSiluBwdIdeal.nD Cert.LnSiluBwdIdeal.τ).loc Cert.LnSiluBwdIdeal.main_v0_2)),
      θ_run (Cert.LnSiluBwdIdeal.defs (F := Ideal)) (onTc (τ := Cert.LnSiluBwdIdeal.τ) (Cert.LnSiluBwdIdeal.main (F := Ideal))) ⟨m, fun _ => 0, g⟩ (fun r => ∀ c : Dev Cert.LnSiluBwdIdeal.nD,
          r.2.mem ((c.tc : Thread Cert.LnSiluBwdIdeal.nD Cert.LnSiluBwdIdeal.τ).loc Cert.LnSiluBwdIdeal.main_v0_0) = v0 c
          ∧ r.2.mem ((c.tc : Thread Cert.LnSiluBwdIdeal.nD Cert.LnSiluBwdIdeal.τ).loc Cert.LnSiluBwdIdeal.main_v0_1) = v1 c
          ∧ r.2.mem ((c.tc : Thread Cert.LnSiluBwdIdeal.nD Cert.LnSiluBwdIdeal.τ).loc Cert.LnSiluBwdIdeal.main_v0_2) = v2 c
          ∧ r.2.mem ((c.tc : Thread Cert.LnSiluBwdIdeal.nD Cert.LnSiluBwdIdeal.τ).loc Cert.LnSiluBwdIdeal.main_arg0) = m ((c.tc : Thread Cert.LnSiluBwdIdeal.nD Cert.LnSiluBwdIdeal.τ).loc Cert.LnSiluBwdIdeal.main_arg0)
          ∧ r.2.mem ((c.tc : Thread Cert.LnSiluBwdIdeal.nD Cert.LnSiluBwdIdeal.τ).loc Cert.LnSiluBwdIdeal.main_arg1) = m ((c.tc : Thread Cert.LnSiluBwdIdeal.nD Cert.LnSiluBwdIdeal.τ).loc Cert.LnSiluBwdIdeal.main_arg1)
          ∧ r.2.mem ((c.tc : Thread Cert.LnSiluBwdIdeal.nD Cert.LnSiluBwdIdeal.τ).loc Cert.LnSiluBwdIdeal.main_arg2) = m ((c.tc : Thread Cert.LnSiluBwdIdeal.nD Cert.LnSiluBwdIdeal.τ).loc Cert.LnSiluBwdIdeal.main_arg2)
          ∧ r.2.mem ((c.tc : Thread Cert.LnSiluBwdIdeal.nD Cert.LnSiluBwdIdeal.τ).loc Cert.LnSiluBwdIdeal.main_arg3) = m ((c.tc : Thread Cert.LnSiluBwdIdeal.nD Cert.LnSiluBwdIdeal.τ).loc Cert.LnSiluBwdIdeal.main_arg3))
      ∧ θ_run (Cert.LnSiluGradIdeal.defs (F := Ideal)) (onTc (τ := Cert.LnSiluGradIdeal.τ) (Cert.LnSiluGradIdeal.main (F := Ideal))) ⟨m', fun _ => 0, g'⟩ (fun r => ∀ c : Dev Cert.LnSiluGradIdeal.nD,
          r.2.mem ((c.tc : Thread Cert.LnSiluGradIdeal.nD Cert.LnSiluGradIdeal.τ).loc Cert.LnSiluGradIdeal.main_v60) = v0 c
          ∧ r.2.mem ((c.tc : Thread Cert.LnSiluGradIdeal.nD Cert.LnSiluGradIdeal.τ).loc Cert.LnSiluGradIdeal.main_v34) = v1 c
          ∧ r.2.mem ((c.tc : Thread Cert.LnSiluGradIdeal.nD Cert.LnSiluGradIdeal.τ).loc Cert.LnSiluGradIdeal.main_v31) = v2 c
          ∧ r.2.mem ((c.tc : Thread Cert.LnSiluGradIdeal.nD Cert.LnSiluGradIdeal.τ).loc Cert.LnSiluGradIdeal.main_arg0) = m' ((c.tc : Thread Cert.LnSiluGradIdeal.nD Cert.LnSiluGradIdeal.τ).loc Cert.LnSiluGradIdeal.main_arg0)
          ∧ r.2.mem ((c.tc : Thread Cert.LnSiluGradIdeal.nD Cert.LnSiluGradIdeal.τ).loc Cert.LnSiluGradIdeal.main_arg1) = m' ((c.tc : Thread Cert.LnSiluGradIdeal.nD Cert.LnSiluGradIdeal.τ).loc Cert.LnSiluGradIdeal.main_arg1)
          ∧ r.2.mem ((c.tc : Thread Cert.LnSiluGradIdeal.nD Cert.LnSiluGradIdeal.τ).loc Cert.LnSiluGradIdeal.main_arg2) = m' ((c.tc : Thread Cert.LnSiluGradIdeal.nD Cert.LnSiluGradIdeal.τ).loc Cert.LnSiluGradIdeal.main_arg2)
          ∧ r.2.mem ((c.tc : Thread Cert.LnSiluGradIdeal.nD Cert.LnSiluGradIdeal.τ).loc Cert.LnSiluGradIdeal.main_arg3) = m' ((c.tc : Thread Cert.LnSiluGradIdeal.nD Cert.LnSiluGradIdeal.τ).loc Cert.LnSiluGradIdeal.main_arg3))

def preserves_LossHead_LossHeadIdeal : Prop :=
  True

def algebraic_LossHeadIdeal_LossGradIdeal [hLossHeadIdeal : Cert.LossHeadIdeal.Facts] [hLossGradIdeal : Cert.LossGradIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossGradIdeal.nD Cert.LossGradIdeal.τ Cert.LossGradIdeal.sig) → Buf (Elt Ideal) ℓ) (g' : Dev Cert.LossGradIdeal.nD → PrngReg), Pre_LossHeadIdeal m →
    (∀ c : Dev Cert.LossHeadIdeal.nD,
      m' ((c.tc : Thread Cert.LossGradIdeal.nD Cert.LossGradIdeal.τ).loc Cert.LossGradIdeal.main_arg0) = m ((c.tc : Thread Cert.LossHeadIdeal.nD Cert.LossHeadIdeal.τ).loc Cert.LossHeadIdeal.main_arg0)
      ∧ m' ((c.tc : Thread Cert.LossGradIdeal.nD Cert.LossGradIdeal.τ).loc Cert.LossGradIdeal.main_arg1) = m ((c.tc : Thread Cert.LossHeadIdeal.nD Cert.LossHeadIdeal.τ).loc Cert.LossHeadIdeal.main_arg1)
      ∧ m' ((c.tc : Thread Cert.LossGradIdeal.nD Cert.LossGradIdeal.τ).loc Cert.LossGradIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossGradIdeal.defs (F := Ideal)) (onTc (τ := Cert.LossGradIdeal.τ) (Cert.LossGradIdeal.main (F := Ideal))) ⟨m', fun _ => 0, g'⟩ (fun r => ∀ c : Dev Cert.LossGradIdeal.nD,
          r.2.mem ((c.tc : Thread Cert.LossGradIdeal.nD Cert.LossGradIdeal.τ).loc Cert.LossGradIdeal.main_v49) = v0 c
          ∧ r.2.mem ((c.tc : Thread Cert.LossGradIdeal.nD Cert.LossGradIdeal.τ).loc Cert.LossGradIdeal.main_v48) = v1 c
          ∧ r.2.mem ((c.tc : Thread Cert.LossGradIdeal.nD Cert.LossGradIdeal.τ).loc Cert.LossGradIdeal.main_v50) = v2 c
          ∧ r.2.mem ((c.tc : Thread Cert.LossGradIdeal.nD Cert.LossGradIdeal.τ).loc Cert.LossGradIdeal.main_v32) = v3 c
          ∧ r.2.mem ((c.tc : Thread Cert.LossGradIdeal.nD Cert.LossGradIdeal.τ).loc Cert.LossGradIdeal.main_arg0) = m' ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m' ((c.tc : Thread Cert.LossGradIdeal.nD Cert.LossGradIdeal.τ).loc Cert.LossGradIdeal.main_arg1)
          ∧ r.2.mem ((c.tc : Thread Cert.LossGradIdeal.nD Cert.LossGradIdeal.τ).loc Cert.LossGradIdeal.main_arg2) = m' ((c.tc : Thread Cert.LossGradIdeal.nD Cert.LossGradIdeal.τ).loc Cert.LossGradIdeal.main_arg2))

def preserves_NormUpBwd_NormUpBwdIdeal : Prop :=
  True

def algebraic_NormUpBwdIdeal_NormUpGradIdeal [hNormUpBwdIdeal : Cert.NormUpBwdIdeal.Facts] [hNormUpGradIdeal : Cert.NormUpGradIdeal.Facts] : Prop :=
  ∀ (m : (ℓ : Loc Cert.NormUpBwdIdeal.nD Cert.NormUpBwdIdeal.τ Cert.NormUpBwdIdeal.sig) → Buf (Elt Ideal) ℓ) (g : Dev Cert.NormUpBwdIdeal.nD → PrngReg)
    (m' : (ℓ : Loc Cert.NormUpGradIdeal.nD Cert.NormUpGradIdeal.τ Cert.NormUpGradIdeal.sig) → Buf (Elt Ideal) ℓ) (g' : Dev Cert.NormUpGradIdeal.nD → PrngReg), Pre_NormUpBwdIdeal m →
    (∀ c : Dev Cert.NormUpBwdIdeal.nD,
      m' ((c.tc : Thread Cert.NormUpGradIdeal.nD Cert.NormUpGradIdeal.τ).loc Cert.NormUpGradIdeal.main_arg0) = m ((c.tc : Thread Cert.NormUpBwdIdeal.nD Cert.NormUpBwdIdeal.τ).loc Cert.NormUpBwdIdeal.main_arg0)
      ∧ m' ((c.tc : Thread Cert.NormUpGradIdeal.nD Cert.NormUpGradIdeal.τ).loc Cert.NormUpGradIdeal.main_arg1) = m ((c.tc : Thread Cert.NormUpBwdIdeal.nD Cert.NormUpBwdIdeal.τ).loc Cert.NormUpBwdIdeal.main_arg1)
      ∧ m' ((c.tc : Thread Cert.NormUpGradIdeal.nD Cert.NormUpGradIdeal.τ).loc Cert.NormUpGradIdeal.main_arg2) = m ((c.tc : Thread Cert.NormUpBwdIdeal.nD Cert.NormUpBwdIdeal.τ).loc Cert.NormUpBwdIdeal.main_arg2)
      ∧ m' ((c.tc : Thread Cert.NormUpGradIdeal.nD Cert.NormUpGradIdeal.τ).loc Cert.NormUpGradIdeal.main_arg3) = m ((c.tc : Thread Cert.NormUpBwdIdeal.nD Cert.NormUpBwdIdeal.τ).loc Cert.NormUpBwdIdeal.main_arg3)
      ∧ m' ((c.tc : Thread Cert.NormUpGradIdeal.nD Cert.NormUpGradIdeal.τ).loc Cert.NormUpGradIdeal.main_arg4) = m ((c.tc : Thread Cert.NormUpBwdIdeal.nD Cert.NormUpBwdIdeal.τ).loc Cert.NormUpBwdIdeal.main_arg4)) →
    ∃ (v0 : (c : Dev Cert.NormUpBwdIdeal.nD) → Buf (Elt Ideal) ((c.tc : Thread Cert.NormUpBwdIdeal.nD Cert.NormUpBwdIdeal.τ).loc Cert.NormUpBwdIdeal.main_v0_0)) (v1 : (c : Dev Cert.NormUpBwdIdeal.nD) → Buf (Elt Ideal) ((c.tc : Thread Cert.NormUpBwdIdeal.nD Cert.NormUpBwdIdeal.τ).loc Cert.NormUpBwdIdeal.main_v0_1)) (v2 : (c : Dev Cert.NormUpBwdIdeal.nD) → Buf (Elt Ideal) ((c.tc : Thread Cert.NormUpBwdIdeal.nD Cert.NormUpBwdIdeal.τ).loc Cert.NormUpBwdIdeal.main_v0_2)),
      θ_run (Cert.NormUpBwdIdeal.defs (F := Ideal)) (onTc (τ := Cert.NormUpBwdIdeal.τ) (Cert.NormUpBwdIdeal.main (F := Ideal))) ⟨m, fun _ => 0, g⟩ (fun r => ∀ c : Dev Cert.NormUpBwdIdeal.nD,
          r.2.mem ((c.tc : Thread Cert.NormUpBwdIdeal.nD Cert.NormUpBwdIdeal.τ).loc Cert.NormUpBwdIdeal.main_v0_0) = v0 c
          ∧ r.2.mem ((c.tc : Thread Cert.NormUpBwdIdeal.nD Cert.NormUpBwdIdeal.τ).loc Cert.NormUpBwdIdeal.main_v0_1) = v1 c
          ∧ r.2.mem ((c.tc : Thread Cert.NormUpBwdIdeal.nD Cert.NormUpBwdIdeal.τ).loc Cert.NormUpBwdIdeal.main_v0_2) = v2 c
          ∧ r.2.mem ((c.tc : Thread Cert.NormUpBwdIdeal.nD Cert.NormUpBwdIdeal.τ).loc Cert.NormUpBwdIdeal.main_arg0) = m ((c.tc : Thread Cert.NormUpBwdIdeal.nD Cert.NormUpBwdIdeal.τ).loc Cert.NormUpBwdIdeal.main_arg0)
          ∧ r.2.mem ((c.tc : Thread Cert.NormUpBwdIdeal.nD Cert.NormUpBwdIdeal.τ).loc Cert.NormUpBwdIdeal.main_arg1) = m ((c.tc : Thread Cert.NormUpBwdIdeal.nD Cert.NormUpBwdIdeal.τ).loc Cert.NormUpBwdIdeal.main_arg1)
          ∧ r.2.mem ((c.tc : Thread Cert.NormUpBwdIdeal.nD Cert.NormUpBwdIdeal.τ).loc Cert.NormUpBwdIdeal.main_arg2) = m ((c.tc : Thread Cert.NormUpBwdIdeal.nD Cert.NormUpBwdIdeal.τ).loc Cert.NormUpBwdIdeal.main_arg2)
          ∧ r.2.mem ((c.tc : Thread Cert.NormUpBwdIdeal.nD Cert.NormUpBwdIdeal.τ).loc Cert.NormUpBwdIdeal.main_arg3) = m ((c.tc : Thread Cert.NormUpBwdIdeal.nD Cert.NormUpBwdIdeal.τ).loc Cert.NormUpBwdIdeal.main_arg3)
          ∧ r.2.mem ((c.tc : Thread Cert.NormUpBwdIdeal.nD Cert.NormUpBwdIdeal.τ).loc Cert.NormUpBwdIdeal.main_arg4) = m ((c.tc : Thread Cert.NormUpBwdIdeal.nD Cert.NormUpBwdIdeal.τ).loc Cert.NormUpBwdIdeal.main_arg4))
      ∧ θ_run (Cert.NormUpGradIdeal.defs (F := Ideal)) (onTc (τ := Cert.NormUpGradIdeal.τ) (Cert.NormUpGradIdeal.main (F := Ideal))) ⟨m', fun _ => 0, g'⟩ (fun r => ∀ c : Dev Cert.NormUpGradIdeal.nD,
          r.2.mem ((c.tc : Thread Cert.NormUpGradIdeal.nD Cert.NormUpGradIdeal.τ).loc Cert.NormUpGradIdeal.main_v40) = v0 c
          ∧ r.2.mem ((c.tc : Thread Cert.NormUpGradIdeal.nD Cert.NormUpGradIdeal.τ).loc Cert.NormUpGradIdeal.main_v41) = v1 c
          ∧ r.2.mem ((c.tc : Thread Cert.NormUpGradIdeal.nD Cert.NormUpGradIdeal.τ).loc Cert.NormUpGradIdeal.main_v23) = v2 c
          ∧ r.2.mem ((c.tc : Thread Cert.NormUpGradIdeal.nD Cert.NormUpGradIdeal.τ).loc Cert.NormUpGradIdeal.main_arg0) = m' ((c.tc : Thread Cert.NormUpGradIdeal.nD Cert.NormUpGradIdeal.τ).loc Cert.NormUpGradIdeal.main_arg0)
          ∧ r.2.mem ((c.tc : Thread Cert.NormUpGradIdeal.nD Cert.NormUpGradIdeal.τ).loc Cert.NormUpGradIdeal.main_arg1) = m' ((c.tc : Thread Cert.NormUpGradIdeal.nD Cert.NormUpGradIdeal.τ).loc Cert.NormUpGradIdeal.main_arg1)
          ∧ r.2.mem ((c.tc : Thread Cert.NormUpGradIdeal.nD Cert.NormUpGradIdeal.τ).loc Cert.NormUpGradIdeal.main_arg2) = m' ((c.tc : Thread Cert.NormUpGradIdeal.nD Cert.NormUpGradIdeal.τ).loc Cert.NormUpGradIdeal.main_arg2)
          ∧ r.2.mem ((c.tc : Thread Cert.NormUpGradIdeal.nD Cert.NormUpGradIdeal.τ).loc Cert.NormUpGradIdeal.main_arg3) = m' ((c.tc : Thread Cert.NormUpGradIdeal.nD Cert.NormUpGradIdeal.τ).loc Cert.NormUpGradIdeal.main_arg3)
          ∧ r.2.mem ((c.tc : Thread Cert.NormUpGradIdeal.nD Cert.NormUpGradIdeal.τ).loc Cert.NormUpGradIdeal.main_arg4) = m' ((c.tc : Thread Cert.NormUpGradIdeal.nD Cert.NormUpGradIdeal.τ).loc Cert.NormUpGradIdeal.main_arg4))

def preserves_NormQBwd_NormQBwdIdeal : Prop :=
  True

def algebraic_NormQBwdIdeal_NormQGradIdeal [hNormQBwdIdeal : Cert.NormQBwdIdeal.Facts] [hNormQGradIdeal : Cert.NormQGradIdeal.Facts] : Prop :=
  ∀ (m : (ℓ : Loc Cert.NormQBwdIdeal.nD Cert.NormQBwdIdeal.τ Cert.NormQBwdIdeal.sig) → Buf (Elt Ideal) ℓ) (g : Dev Cert.NormQBwdIdeal.nD → PrngReg)
    (m' : (ℓ : Loc Cert.NormQGradIdeal.nD Cert.NormQGradIdeal.τ Cert.NormQGradIdeal.sig) → Buf (Elt Ideal) ℓ) (g' : Dev Cert.NormQGradIdeal.nD → PrngReg), Pre_NormQBwdIdeal m →
    (∀ c : Dev Cert.NormQBwdIdeal.nD,
      m' ((c.tc : Thread Cert.NormQGradIdeal.nD Cert.NormQGradIdeal.τ).loc Cert.NormQGradIdeal.main_arg0) = m ((c.tc : Thread Cert.NormQBwdIdeal.nD Cert.NormQBwdIdeal.τ).loc Cert.NormQBwdIdeal.main_arg0)
      ∧ m' ((c.tc : Thread Cert.NormQGradIdeal.nD Cert.NormQGradIdeal.τ).loc Cert.NormQGradIdeal.main_arg1) = m ((c.tc : Thread Cert.NormQBwdIdeal.nD Cert.NormQBwdIdeal.τ).loc Cert.NormQBwdIdeal.main_arg1)
      ∧ m' ((c.tc : Thread Cert.NormQGradIdeal.nD Cert.NormQGradIdeal.τ).loc Cert.NormQGradIdeal.main_arg2) = m ((c.tc : Thread Cert.NormQBwdIdeal.nD Cert.NormQBwdIdeal.τ).loc Cert.NormQBwdIdeal.main_arg2)
      ∧ m' ((c.tc : Thread Cert.NormQGradIdeal.nD Cert.NormQGradIdeal.τ).loc Cert.NormQGradIdeal.main_arg3) = m ((c.tc : Thread Cert.NormQBwdIdeal.nD Cert.NormQBwdIdeal.τ).loc Cert.NormQBwdIdeal.main_arg3)
      ∧ m' ((c.tc : Thread Cert.NormQGradIdeal.nD Cert.NormQGradIdeal.τ).loc Cert.NormQGradIdeal.main_arg4) = m ((c.tc : Thread Cert.NormQBwdIdeal.nD Cert.NormQBwdIdeal.τ).loc Cert.NormQBwdIdeal.main_arg4)) →
    ∃ (v0 : (c : Dev Cert.NormQBwdIdeal.nD) → Buf (Elt Ideal) ((c.tc : Thread Cert.NormQBwdIdeal.nD Cert.NormQBwdIdeal.τ).loc Cert.NormQBwdIdeal.main_v0_0)) (v1 : (c : Dev Cert.NormQBwdIdeal.nD) → Buf (Elt Ideal) ((c.tc : Thread Cert.NormQBwdIdeal.nD Cert.NormQBwdIdeal.τ).loc Cert.NormQBwdIdeal.main_v0_1)) (v2 : (c : Dev Cert.NormQBwdIdeal.nD) → Buf (Elt Ideal) ((c.tc : Thread Cert.NormQBwdIdeal.nD Cert.NormQBwdIdeal.τ).loc Cert.NormQBwdIdeal.main_v0_2)),
      θ_run (Cert.NormQBwdIdeal.defs (F := Ideal)) (onTc (τ := Cert.NormQBwdIdeal.τ) (Cert.NormQBwdIdeal.main (F := Ideal))) ⟨m, fun _ => 0, g⟩ (fun r => ∀ c : Dev Cert.NormQBwdIdeal.nD,
          r.2.mem ((c.tc : Thread Cert.NormQBwdIdeal.nD Cert.NormQBwdIdeal.τ).loc Cert.NormQBwdIdeal.main_v0_0) = v0 c
          ∧ r.2.mem ((c.tc : Thread Cert.NormQBwdIdeal.nD Cert.NormQBwdIdeal.τ).loc Cert.NormQBwdIdeal.main_v0_1) = v1 c
          ∧ r.2.mem ((c.tc : Thread Cert.NormQBwdIdeal.nD Cert.NormQBwdIdeal.τ).loc Cert.NormQBwdIdeal.main_v0_2) = v2 c
          ∧ r.2.mem ((c.tc : Thread Cert.NormQBwdIdeal.nD Cert.NormQBwdIdeal.τ).loc Cert.NormQBwdIdeal.main_arg0) = m ((c.tc : Thread Cert.NormQBwdIdeal.nD Cert.NormQBwdIdeal.τ).loc Cert.NormQBwdIdeal.main_arg0)
          ∧ r.2.mem ((c.tc : Thread Cert.NormQBwdIdeal.nD Cert.NormQBwdIdeal.τ).loc Cert.NormQBwdIdeal.main_arg1) = m ((c.tc : Thread Cert.NormQBwdIdeal.nD Cert.NormQBwdIdeal.τ).loc Cert.NormQBwdIdeal.main_arg1)
          ∧ r.2.mem ((c.tc : Thread Cert.NormQBwdIdeal.nD Cert.NormQBwdIdeal.τ).loc Cert.NormQBwdIdeal.main_arg2) = m ((c.tc : Thread Cert.NormQBwdIdeal.nD Cert.NormQBwdIdeal.τ).loc Cert.NormQBwdIdeal.main_arg2)
          ∧ r.2.mem ((c.tc : Thread Cert.NormQBwdIdeal.nD Cert.NormQBwdIdeal.τ).loc Cert.NormQBwdIdeal.main_arg3) = m ((c.tc : Thread Cert.NormQBwdIdeal.nD Cert.NormQBwdIdeal.τ).loc Cert.NormQBwdIdeal.main_arg3)
          ∧ r.2.mem ((c.tc : Thread Cert.NormQBwdIdeal.nD Cert.NormQBwdIdeal.τ).loc Cert.NormQBwdIdeal.main_arg4) = m ((c.tc : Thread Cert.NormQBwdIdeal.nD Cert.NormQBwdIdeal.τ).loc Cert.NormQBwdIdeal.main_arg4))
      ∧ θ_run (Cert.NormQGradIdeal.defs (F := Ideal)) (onTc (τ := Cert.NormQGradIdeal.τ) (Cert.NormQGradIdeal.main (F := Ideal))) ⟨m', fun _ => 0, g'⟩ (fun r => ∀ c : Dev Cert.NormQGradIdeal.nD,
          r.2.mem ((c.tc : Thread Cert.NormQGradIdeal.nD Cert.NormQGradIdeal.τ).loc Cert.NormQGradIdeal.main_v38) = v0 c
          ∧ r.2.mem ((c.tc : Thread Cert.NormQGradIdeal.nD Cert.NormQGradIdeal.τ).loc Cert.NormQGradIdeal.main_v39) = v1 c
          ∧ r.2.mem ((c.tc : Thread Cert.NormQGradIdeal.nD Cert.NormQGradIdeal.τ).loc Cert.NormQGradIdeal.main_v21) = v2 c
          ∧ r.2.mem ((c.tc : Thread Cert.NormQGradIdeal.nD Cert.NormQGradIdeal.τ).loc Cert.NormQGradIdeal.main_arg0) = m' ((c.tc : Thread Cert.NormQGradIdeal.nD Cert.NormQGradIdeal.τ).loc Cert.NormQGradIdeal.main_arg0)
          ∧ r.2.mem ((c.tc : Thread Cert.NormQGradIdeal.nD Cert.NormQGradIdeal.τ).loc Cert.NormQGradIdeal.main_arg1) = m' ((c.tc : Thread Cert.NormQGradIdeal.nD Cert.NormQGradIdeal.τ).loc Cert.NormQGradIdeal.main_arg1)
          ∧ r.2.mem ((c.tc : Thread Cert.NormQGradIdeal.nD Cert.NormQGradIdeal.τ).loc Cert.NormQGradIdeal.main_arg2) = m' ((c.tc : Thread Cert.NormQGradIdeal.nD Cert.NormQGradIdeal.τ).loc Cert.NormQGradIdeal.main_arg2)
          ∧ r.2.mem ((c.tc : Thread Cert.NormQGradIdeal.nD Cert.NormQGradIdeal.τ).loc Cert.NormQGradIdeal.main_arg3) = m' ((c.tc : Thread Cert.NormQGradIdeal.nD Cert.NormQGradIdeal.τ).loc Cert.NormQGradIdeal.main_arg3)
          ∧ r.2.mem ((c.tc : Thread Cert.NormQGradIdeal.nD Cert.NormQGradIdeal.τ).loc Cert.NormQGradIdeal.main_arg4) = m' ((c.tc : Thread Cert.NormQGradIdeal.nD Cert.NormQGradIdeal.τ).loc Cert.NormQGradIdeal.main_arg4))

def preserves_NormInBwd_NormInBwdIdeal : Prop :=
  True

def algebraic_NormInBwdIdeal_NormInGradIdeal [hNormInBwdIdeal : Cert.NormInBwdIdeal.Facts] [hNormInGradIdeal : Cert.NormInGradIdeal.Facts] : Prop :=
  ∀ (m : (ℓ : Loc Cert.NormInBwdIdeal.nD Cert.NormInBwdIdeal.τ Cert.NormInBwdIdeal.sig) → Buf (Elt Ideal) ℓ) (g : Dev Cert.NormInBwdIdeal.nD → PrngReg)
    (m' : (ℓ : Loc Cert.NormInGradIdeal.nD Cert.NormInGradIdeal.τ Cert.NormInGradIdeal.sig) → Buf (Elt Ideal) ℓ) (g' : Dev Cert.NormInGradIdeal.nD → PrngReg), Pre_NormInBwdIdeal m →
    (∀ c : Dev Cert.NormInBwdIdeal.nD,
      m' ((c.tc : Thread Cert.NormInGradIdeal.nD Cert.NormInGradIdeal.τ).loc Cert.NormInGradIdeal.main_arg0) = m ((c.tc : Thread Cert.NormInBwdIdeal.nD Cert.NormInBwdIdeal.τ).loc Cert.NormInBwdIdeal.main_arg0)
      ∧ m' ((c.tc : Thread Cert.NormInGradIdeal.nD Cert.NormInGradIdeal.τ).loc Cert.NormInGradIdeal.main_arg1) = m ((c.tc : Thread Cert.NormInBwdIdeal.nD Cert.NormInBwdIdeal.τ).loc Cert.NormInBwdIdeal.main_arg1)
      ∧ m' ((c.tc : Thread Cert.NormInGradIdeal.nD Cert.NormInGradIdeal.τ).loc Cert.NormInGradIdeal.main_arg2) = m ((c.tc : Thread Cert.NormInBwdIdeal.nD Cert.NormInBwdIdeal.τ).loc Cert.NormInBwdIdeal.main_arg2)
      ∧ m' ((c.tc : Thread Cert.NormInGradIdeal.nD Cert.NormInGradIdeal.τ).loc Cert.NormInGradIdeal.main_arg3) = m ((c.tc : Thread Cert.NormInBwdIdeal.nD Cert.NormInBwdIdeal.τ).loc Cert.NormInBwdIdeal.main_arg3)
      ∧ m' ((c.tc : Thread Cert.NormInGradIdeal.nD Cert.NormInGradIdeal.τ).loc Cert.NormInGradIdeal.main_arg4) = m ((c.tc : Thread Cert.NormInBwdIdeal.nD Cert.NormInBwdIdeal.τ).loc Cert.NormInBwdIdeal.main_arg4)) →
    ∃ (v0 : (c : Dev Cert.NormInBwdIdeal.nD) → Buf (Elt Ideal) ((c.tc : Thread Cert.NormInBwdIdeal.nD Cert.NormInBwdIdeal.τ).loc Cert.NormInBwdIdeal.main_v0_0)) (v1 : (c : Dev Cert.NormInBwdIdeal.nD) → Buf (Elt Ideal) ((c.tc : Thread Cert.NormInBwdIdeal.nD Cert.NormInBwdIdeal.τ).loc Cert.NormInBwdIdeal.main_v0_1)) (v2 : (c : Dev Cert.NormInBwdIdeal.nD) → Buf (Elt Ideal) ((c.tc : Thread Cert.NormInBwdIdeal.nD Cert.NormInBwdIdeal.τ).loc Cert.NormInBwdIdeal.main_v0_2)),
      θ_run (Cert.NormInBwdIdeal.defs (F := Ideal)) (onTc (τ := Cert.NormInBwdIdeal.τ) (Cert.NormInBwdIdeal.main (F := Ideal))) ⟨m, fun _ => 0, g⟩ (fun r => ∀ c : Dev Cert.NormInBwdIdeal.nD,
          r.2.mem ((c.tc : Thread Cert.NormInBwdIdeal.nD Cert.NormInBwdIdeal.τ).loc Cert.NormInBwdIdeal.main_v0_0) = v0 c
          ∧ r.2.mem ((c.tc : Thread Cert.NormInBwdIdeal.nD Cert.NormInBwdIdeal.τ).loc Cert.NormInBwdIdeal.main_v0_1) = v1 c
          ∧ r.2.mem ((c.tc : Thread Cert.NormInBwdIdeal.nD Cert.NormInBwdIdeal.τ).loc Cert.NormInBwdIdeal.main_v0_2) = v2 c
          ∧ r.2.mem ((c.tc : Thread Cert.NormInBwdIdeal.nD Cert.NormInBwdIdeal.τ).loc Cert.NormInBwdIdeal.main_arg0) = m ((c.tc : Thread Cert.NormInBwdIdeal.nD Cert.NormInBwdIdeal.τ).loc Cert.NormInBwdIdeal.main_arg0)
          ∧ r.2.mem ((c.tc : Thread Cert.NormInBwdIdeal.nD Cert.NormInBwdIdeal.τ).loc Cert.NormInBwdIdeal.main_arg1) = m ((c.tc : Thread Cert.NormInBwdIdeal.nD Cert.NormInBwdIdeal.τ).loc Cert.NormInBwdIdeal.main_arg1)
          ∧ r.2.mem ((c.tc : Thread Cert.NormInBwdIdeal.nD Cert.NormInBwdIdeal.τ).loc Cert.NormInBwdIdeal.main_arg2) = m ((c.tc : Thread Cert.NormInBwdIdeal.nD Cert.NormInBwdIdeal.τ).loc Cert.NormInBwdIdeal.main_arg2)
          ∧ r.2.mem ((c.tc : Thread Cert.NormInBwdIdeal.nD Cert.NormInBwdIdeal.τ).loc Cert.NormInBwdIdeal.main_arg3) = m ((c.tc : Thread Cert.NormInBwdIdeal.nD Cert.NormInBwdIdeal.τ).loc Cert.NormInBwdIdeal.main_arg3)
          ∧ r.2.mem ((c.tc : Thread Cert.NormInBwdIdeal.nD Cert.NormInBwdIdeal.τ).loc Cert.NormInBwdIdeal.main_arg4) = m ((c.tc : Thread Cert.NormInBwdIdeal.nD Cert.NormInBwdIdeal.τ).loc Cert.NormInBwdIdeal.main_arg4))
      ∧ θ_run (Cert.NormInGradIdeal.defs (F := Ideal)) (onTc (τ := Cert.NormInGradIdeal.τ) (Cert.NormInGradIdeal.main (F := Ideal))) ⟨m', fun _ => 0, g'⟩ (fun r => ∀ c : Dev Cert.NormInGradIdeal.nD,
          r.2.mem ((c.tc : Thread Cert.NormInGradIdeal.nD Cert.NormInGradIdeal.τ).loc Cert.NormInGradIdeal.main_v40) = v0 c
          ∧ r.2.mem ((c.tc : Thread Cert.NormInGradIdeal.nD Cert.NormInGradIdeal.τ).loc Cert.NormInGradIdeal.main_v41) = v1 c
          ∧ r.2.mem ((c.tc : Thread Cert.NormInGradIdeal.nD Cert.NormInGradIdeal.τ).loc Cert.NormInGradIdeal.main_v23) = v2 c
          ∧ r.2.mem ((c.tc : Thread Cert.NormInGradIdeal.nD Cert.NormInGradIdeal.τ).loc Cert.NormInGradIdeal.main_arg0) = m' ((c.tc : Thread Cert.NormInGradIdeal.nD Cert.NormInGradIdeal.τ).loc Cert.NormInGradIdeal.main_arg0)
          ∧ r.2.mem ((c.tc : Thread Cert.NormInGradIdeal.nD Cert.NormInGradIdeal.τ).loc Cert.NormInGradIdeal.main_arg1) = m' ((c.tc : Thread Cert.NormInGradIdeal.nD Cert.NormInGradIdeal.τ).loc Cert.NormInGradIdeal.main_arg1)
          ∧ r.2.mem ((c.tc : Thread Cert.NormInGradIdeal.nD Cert.NormInGradIdeal.τ).loc Cert.NormInGradIdeal.main_arg2) = m' ((c.tc : Thread Cert.NormInGradIdeal.nD Cert.NormInGradIdeal.τ).loc Cert.NormInGradIdeal.main_arg2)
          ∧ r.2.mem ((c.tc : Thread Cert.NormInGradIdeal.nD Cert.NormInGradIdeal.τ).loc Cert.NormInGradIdeal.main_arg3) = m' ((c.tc : Thread Cert.NormInGradIdeal.nD Cert.NormInGradIdeal.τ).loc Cert.NormInGradIdeal.main_arg3)
          ∧ r.2.mem ((c.tc : Thread Cert.NormInGradIdeal.nD Cert.NormInGradIdeal.τ).loc Cert.NormInGradIdeal.main_arg4) = m' ((c.tc : Thread Cert.NormInGradIdeal.nD Cert.NormInGradIdeal.τ).loc Cert.NormInGradIdeal.main_arg4))

def preserves_SqreluBwd_SqreluBwdIdeal : Prop :=
  True

def algebraic_SqreluBwdIdeal_SqreluGradIdeal [hSqreluBwdIdeal : Cert.SqreluBwdIdeal.Facts] [hSqreluGradIdeal : Cert.SqreluGradIdeal.Facts] : Prop :=
  ∀ (m : (ℓ : Loc Cert.SqreluBwdIdeal.nD Cert.SqreluBwdIdeal.τ Cert.SqreluBwdIdeal.sig) → Buf (Elt Ideal) ℓ) (g : Dev Cert.SqreluBwdIdeal.nD → PrngReg)
    (m' : (ℓ : Loc Cert.SqreluGradIdeal.nD Cert.SqreluGradIdeal.τ Cert.SqreluGradIdeal.sig) → Buf (Elt Ideal) ℓ) (g' : Dev Cert.SqreluGradIdeal.nD → PrngReg), Pre_SqreluBwdIdeal m →
    (∀ c : Dev Cert.SqreluBwdIdeal.nD,
      m' ((c.tc : Thread Cert.SqreluGradIdeal.nD Cert.SqreluGradIdeal.τ).loc Cert.SqreluGradIdeal.main_arg0) = m ((c.tc : Thread Cert.SqreluBwdIdeal.nD Cert.SqreluBwdIdeal.τ).loc Cert.SqreluBwdIdeal.main_arg0)
      ∧ m' ((c.tc : Thread Cert.SqreluGradIdeal.nD Cert.SqreluGradIdeal.τ).loc Cert.SqreluGradIdeal.main_arg1) = m ((c.tc : Thread Cert.SqreluBwdIdeal.nD Cert.SqreluBwdIdeal.τ).loc Cert.SqreluBwdIdeal.main_arg1)
      ∧ m' ((c.tc : Thread Cert.SqreluGradIdeal.nD Cert.SqreluGradIdeal.τ).loc Cert.SqreluGradIdeal.main_arg2) = m ((c.tc : Thread Cert.SqreluBwdIdeal.nD Cert.SqreluBwdIdeal.τ).loc Cert.SqreluBwdIdeal.main_arg2)) →
    ∃ (v0 : (c : Dev Cert.SqreluBwdIdeal.nD) → Buf (Elt Ideal) ((c.tc : Thread Cert.SqreluBwdIdeal.nD Cert.SqreluBwdIdeal.τ).loc Cert.SqreluBwdIdeal.main_v0)),
      θ_run (Cert.SqreluBwdIdeal.defs (F := Ideal)) (onTc (τ := Cert.SqreluBwdIdeal.τ) (Cert.SqreluBwdIdeal.main (F := Ideal))) ⟨m, fun _ => 0, g⟩ (fun r => ∀ c : Dev Cert.SqreluBwdIdeal.nD,
          r.2.mem ((c.tc : Thread Cert.SqreluBwdIdeal.nD Cert.SqreluBwdIdeal.τ).loc Cert.SqreluBwdIdeal.main_v0) = v0 c
          ∧ r.2.mem ((c.tc : Thread Cert.SqreluBwdIdeal.nD Cert.SqreluBwdIdeal.τ).loc Cert.SqreluBwdIdeal.main_arg0) = m ((c.tc : Thread Cert.SqreluBwdIdeal.nD Cert.SqreluBwdIdeal.τ).loc Cert.SqreluBwdIdeal.main_arg0)
          ∧ r.2.mem ((c.tc : Thread Cert.SqreluBwdIdeal.nD Cert.SqreluBwdIdeal.τ).loc Cert.SqreluBwdIdeal.main_arg1) = m ((c.tc : Thread Cert.SqreluBwdIdeal.nD Cert.SqreluBwdIdeal.τ).loc Cert.SqreluBwdIdeal.main_arg1)
          ∧ r.2.mem ((c.tc : Thread Cert.SqreluBwdIdeal.nD Cert.SqreluBwdIdeal.τ).loc Cert.SqreluBwdIdeal.main_arg2) = m ((c.tc : Thread Cert.SqreluBwdIdeal.nD Cert.SqreluBwdIdeal.τ).loc Cert.SqreluBwdIdeal.main_arg2))
      ∧ θ_run (Cert.SqreluGradIdeal.defs (F := Ideal)) (onTc (τ := Cert.SqreluGradIdeal.τ) (Cert.SqreluGradIdeal.main (F := Ideal))) ⟨m', fun _ => 0, g'⟩ (fun r => ∀ c : Dev Cert.SqreluGradIdeal.nD,
          r.2.mem ((c.tc : Thread Cert.SqreluGradIdeal.nD Cert.SqreluGradIdeal.τ).loc Cert.SqreluGradIdeal.main_v15) = v0 c
          ∧ r.2.mem ((c.tc : Thread Cert.SqreluGradIdeal.nD Cert.SqreluGradIdeal.τ).loc Cert.SqreluGradIdeal.main_arg0) = m' ((c.tc : Thread Cert.SqreluGradIdeal.nD Cert.SqreluGradIdeal.τ).loc Cert.SqreluGradIdeal.main_arg0)
          ∧ r.2.mem ((c.tc : Thread Cert.SqreluGradIdeal.nD Cert.SqreluGradIdeal.τ).loc Cert.SqreluGradIdeal.main_arg1) = m' ((c.tc : Thread Cert.SqreluGradIdeal.nD Cert.SqreluGradIdeal.τ).loc Cert.SqreluGradIdeal.main_arg1)
          ∧ r.2.mem ((c.tc : Thread Cert.SqreluGradIdeal.nD Cert.SqreluGradIdeal.τ).loc Cert.SqreluGradIdeal.main_arg2) = m' ((c.tc : Thread Cert.SqreluGradIdeal.nD Cert.SqreluGradIdeal.τ).loc Cert.SqreluGradIdeal.main_arg2))

def preserves_RmsMemBwd_RmsMemBwdIdeal : Prop :=
  True

def algebraic_RmsMemBwdIdeal_RmsMemGradIdeal [hRmsMemBwdIdeal : Cert.RmsMemBwdIdeal.Facts] [hRmsMemGradIdeal : Cert.RmsMemGradIdeal.Facts] : Prop :=
  ∀ (m : (ℓ : Loc Cert.RmsMemBwdIdeal.nD Cert.RmsMemBwdIdeal.τ Cert.RmsMemBwdIdeal.sig) → Buf (Elt Ideal) ℓ) (g : Dev Cert.RmsMemBwdIdeal.nD → PrngReg)
    (m' : (ℓ : Loc Cert.RmsMemGradIdeal.nD Cert.RmsMemGradIdeal.τ Cert.RmsMemGradIdeal.sig) → Buf (Elt Ideal) ℓ) (g' : Dev Cert.RmsMemGradIdeal.nD → PrngReg), Pre_RmsMemBwdIdeal m →
    (∀ c : Dev Cert.RmsMemBwdIdeal.nD,
      m' ((c.tc : Thread Cert.RmsMemGradIdeal.nD Cert.RmsMemGradIdeal.τ).loc Cert.RmsMemGradIdeal.main_arg0) = m ((c.tc : Thread Cert.RmsMemBwdIdeal.nD Cert.RmsMemBwdIdeal.τ).loc Cert.RmsMemBwdIdeal.main_arg0)
      ∧ m' ((c.tc : Thread Cert.RmsMemGradIdeal.nD Cert.RmsMemGradIdeal.τ).loc Cert.RmsMemGradIdeal.main_arg1) = m ((c.tc : Thread Cert.RmsMemBwdIdeal.nD Cert.RmsMemBwdIdeal.τ).loc Cert.RmsMemBwdIdeal.main_arg1)
      ∧ m' ((c.tc : Thread Cert.RmsMemGradIdeal.nD Cert.RmsMemGradIdeal.τ).loc Cert.RmsMemGradIdeal.main_arg2) = m ((c.tc : Thread Cert.RmsMemBwdIdeal.nD Cert.RmsMemBwdIdeal.τ).loc Cert.RmsMemBwdIdeal.main_arg2)) →
    ∃ (v0 : (c : Dev Cert.RmsMemBwdIdeal.nD) → Buf (Elt Ideal) ((c.tc : Thread Cert.RmsMemBwdIdeal.nD Cert.RmsMemBwdIdeal.τ).loc Cert.RmsMemBwdIdeal.main_v0_0)) (v1 : (c : Dev Cert.RmsMemBwdIdeal.nD) → Buf (Elt Ideal) ((c.tc : Thread Cert.RmsMemBwdIdeal.nD Cert.RmsMemBwdIdeal.τ).loc Cert.RmsMemBwdIdeal.main_v0_1)) (v2 : (c : Dev Cert.RmsMemBwdIdeal.nD) → Buf (Elt Ideal) ((c.tc : Thread Cert.RmsMemBwdIdeal.nD Cert.RmsMemBwdIdeal.τ).loc Cert.RmsMemBwdIdeal.main_v0_2)),
      θ_run (Cert.RmsMemBwdIdeal.defs (F := Ideal)) (onTc (τ := Cert.RmsMemBwdIdeal.τ) (Cert.RmsMemBwdIdeal.main (F := Ideal))) ⟨m, fun _ => 0, g⟩ (fun r => ∀ c : Dev Cert.RmsMemBwdIdeal.nD,
          r.2.mem ((c.tc : Thread Cert.RmsMemBwdIdeal.nD Cert.RmsMemBwdIdeal.τ).loc Cert.RmsMemBwdIdeal.main_v0_0) = v0 c
          ∧ r.2.mem ((c.tc : Thread Cert.RmsMemBwdIdeal.nD Cert.RmsMemBwdIdeal.τ).loc Cert.RmsMemBwdIdeal.main_v0_1) = v1 c
          ∧ r.2.mem ((c.tc : Thread Cert.RmsMemBwdIdeal.nD Cert.RmsMemBwdIdeal.τ).loc Cert.RmsMemBwdIdeal.main_v0_2) = v2 c
          ∧ r.2.mem ((c.tc : Thread Cert.RmsMemBwdIdeal.nD Cert.RmsMemBwdIdeal.τ).loc Cert.RmsMemBwdIdeal.main_arg0) = m ((c.tc : Thread Cert.RmsMemBwdIdeal.nD Cert.RmsMemBwdIdeal.τ).loc Cert.RmsMemBwdIdeal.main_arg0)
          ∧ r.2.mem ((c.tc : Thread Cert.RmsMemBwdIdeal.nD Cert.RmsMemBwdIdeal.τ).loc Cert.RmsMemBwdIdeal.main_arg1) = m ((c.tc : Thread Cert.RmsMemBwdIdeal.nD Cert.RmsMemBwdIdeal.τ).loc Cert.RmsMemBwdIdeal.main_arg1)
          ∧ r.2.mem ((c.tc : Thread Cert.RmsMemBwdIdeal.nD Cert.RmsMemBwdIdeal.τ).loc Cert.RmsMemBwdIdeal.main_arg2) = m ((c.tc : Thread Cert.RmsMemBwdIdeal.nD Cert.RmsMemBwdIdeal.τ).loc Cert.RmsMemBwdIdeal.main_arg2))
      ∧ θ_run (Cert.RmsMemGradIdeal.defs (F := Ideal)) (onTc (τ := Cert.RmsMemGradIdeal.τ) (Cert.RmsMemGradIdeal.main (F := Ideal))) ⟨m', fun _ => 0, g'⟩ (fun r => ∀ c : Dev Cert.RmsMemGradIdeal.nD,
          r.2.mem ((c.tc : Thread Cert.RmsMemGradIdeal.nD Cert.RmsMemGradIdeal.τ).loc Cert.RmsMemGradIdeal.main_v33) = v0 c
          ∧ r.2.mem ((c.tc : Thread Cert.RmsMemGradIdeal.nD Cert.RmsMemGradIdeal.τ).loc Cert.RmsMemGradIdeal.main_v34) = v1 c
          ∧ r.2.mem ((c.tc : Thread Cert.RmsMemGradIdeal.nD Cert.RmsMemGradIdeal.τ).loc Cert.RmsMemGradIdeal.main_v17) = v2 c
          ∧ r.2.mem ((c.tc : Thread Cert.RmsMemGradIdeal.nD Cert.RmsMemGradIdeal.τ).loc Cert.RmsMemGradIdeal.main_arg0) = m' ((c.tc : Thread Cert.RmsMemGradIdeal.nD Cert.RmsMemGradIdeal.τ).loc Cert.RmsMemGradIdeal.main_arg0)
          ∧ r.2.mem ((c.tc : Thread Cert.RmsMemGradIdeal.nD Cert.RmsMemGradIdeal.τ).loc Cert.RmsMemGradIdeal.main_arg1) = m' ((c.tc : Thread Cert.RmsMemGradIdeal.nD Cert.RmsMemGradIdeal.τ).loc Cert.RmsMemGradIdeal.main_arg1)
          ∧ r.2.mem ((c.tc : Thread Cert.RmsMemGradIdeal.nD Cert.RmsMemGradIdeal.τ).loc Cert.RmsMemGradIdeal.main_arg2) = m' ((c.tc : Thread Cert.RmsMemGradIdeal.nD Cert.RmsMemGradIdeal.τ).loc Cert.RmsMemGradIdeal.main_arg2))

def preserves_AttnFwd_AttnFwdIdeal : Prop :=
  True

def algebraic_AttnFwdIdeal_AttnOutIdeal [hAttnFwdIdeal : Cert.AttnFwdIdeal.Facts] [hAttnOutIdeal : Cert.AttnOutIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnOutIdeal.nD Cert.AttnOutIdeal.τ Cert.AttnOutIdeal.sig) → Buf (Elt Ideal) ℓ) (g' : Dev Cert.AttnOutIdeal.nD → PrngReg), Pre_AttnFwdIdeal m →
    (∀ c : Dev Cert.AttnFwdIdeal.nD,
      m' ((c.tc : Thread Cert.AttnOutIdeal.nD Cert.AttnOutIdeal.τ).loc Cert.AttnOutIdeal.main_arg0) = m ((c.tc : Thread Cert.AttnFwdIdeal.nD Cert.AttnFwdIdeal.τ).loc Cert.AttnFwdIdeal.main_arg0)
      ∧ m' ((c.tc : Thread Cert.AttnOutIdeal.nD Cert.AttnOutIdeal.τ).loc Cert.AttnOutIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnOutIdeal.defs (F := Ideal)) (onTc (τ := Cert.AttnOutIdeal.τ) (Cert.AttnOutIdeal.main (F := Ideal))) ⟨m', fun _ => 0, g'⟩ (fun r => ∀ c : Dev Cert.AttnOutIdeal.nD,
          r.2.mem ((c.tc : Thread Cert.AttnOutIdeal.nD Cert.AttnOutIdeal.τ).loc Cert.AttnOutIdeal.main_v24) = v0 c
          ∧ r.2.mem ((c.tc : Thread Cert.AttnOutIdeal.nD Cert.AttnOutIdeal.τ).loc Cert.AttnOutIdeal.main_arg0) = m' ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m' ((c.tc : Thread Cert.AttnOutIdeal.nD Cert.AttnOutIdeal.τ).loc Cert.AttnOutIdeal.main_arg1))

def preserves_ConformerFwd_ConformerFwdIdeal : Prop :=
  True

def algebraic_ConformerFwdIdeal_ConformerOutIdeal [hConformerFwdIdeal : Cert.ConformerFwdIdeal.Facts] [hConformerOutIdeal : Cert.ConformerOutIdeal.Facts] : Prop :=
  ∀ (m : (ℓ : Loc Cert.ConformerFwdIdeal.nD Cert.ConformerFwdIdeal.τ Cert.ConformerFwdIdeal.sig) → Buf (Elt Ideal) ℓ) (g : Dev Cert.ConformerFwdIdeal.nD → PrngReg)
    (m' : (ℓ : Loc Cert.ConformerOutIdeal.nD Cert.ConformerOutIdeal.τ Cert.ConformerOutIdeal.sig) → Buf (Elt Ideal) ℓ) (g' : Dev Cert.ConformerOutIdeal.nD → PrngReg), Pre_ConformerFwdIdeal m →
    (∀ c : Dev Cert.ConformerFwdIdeal.nD,
      m' ((c.tc : Thread Cert.ConformerOutIdeal.nD Cert.ConformerOutIdeal.τ).loc Cert.ConformerOutIdeal.main_arg0) = m ((c.tc : Thread Cert.ConformerFwdIdeal.nD Cert.ConformerFwdIdeal.τ).loc Cert.ConformerFwdIdeal.main_arg0)
      ∧ m' ((c.tc : Thread Cert.ConformerOutIdeal.nD Cert.ConformerOutIdeal.τ).loc Cert.ConformerOutIdeal.main_arg1) = m ((c.tc : Thread Cert.ConformerFwdIdeal.nD Cert.ConformerFwdIdeal.τ).loc Cert.ConformerFwdIdeal.main_arg1)
      ∧ m' ((c.tc : Thread Cert.ConformerOutIdeal.nD Cert.ConformerOutIdeal.τ).loc Cert.ConformerOutIdeal.main_arg2) = m ((c.tc : Thread Cert.ConformerFwdIdeal.nD Cert.ConformerFwdIdeal.τ).loc Cert.ConformerFwdIdeal.main_arg2)) →
    ∃ (v0 : (c : Dev Cert.ConformerFwdIdeal.nD) → Buf (Elt Ideal) ((c.tc : Thread Cert.ConformerFwdIdeal.nD Cert.ConformerFwdIdeal.τ).loc Cert.ConformerFwdIdeal.main_v0)),
      θ_run (Cert.ConformerFwdIdeal.defs (F := Ideal)) (onTc (τ := Cert.ConformerFwdIdeal.τ) (Cert.ConformerFwdIdeal.main (F := Ideal))) ⟨m, fun _ => 0, g⟩ (fun r => ∀ c : Dev Cert.ConformerFwdIdeal.nD,
          r.2.mem ((c.tc : Thread Cert.ConformerFwdIdeal.nD Cert.ConformerFwdIdeal.τ).loc Cert.ConformerFwdIdeal.main_v0) = v0 c
          ∧ r.2.mem ((c.tc : Thread Cert.ConformerFwdIdeal.nD Cert.ConformerFwdIdeal.τ).loc Cert.ConformerFwdIdeal.main_arg0) = m ((c.tc : Thread Cert.ConformerFwdIdeal.nD Cert.ConformerFwdIdeal.τ).loc Cert.ConformerFwdIdeal.main_arg0)
          ∧ r.2.mem ((c.tc : Thread Cert.ConformerFwdIdeal.nD Cert.ConformerFwdIdeal.τ).loc Cert.ConformerFwdIdeal.main_arg1) = m ((c.tc : Thread Cert.ConformerFwdIdeal.nD Cert.ConformerFwdIdeal.τ).loc Cert.ConformerFwdIdeal.main_arg1)
          ∧ r.2.mem ((c.tc : Thread Cert.ConformerFwdIdeal.nD Cert.ConformerFwdIdeal.τ).loc Cert.ConformerFwdIdeal.main_arg2) = m ((c.tc : Thread Cert.ConformerFwdIdeal.nD Cert.ConformerFwdIdeal.τ).loc Cert.ConformerFwdIdeal.main_arg2))
      ∧ θ_run (Cert.ConformerOutIdeal.defs (F := Ideal)) (onTc (τ := Cert.ConformerOutIdeal.τ) (Cert.ConformerOutIdeal.main (F := Ideal))) ⟨m', fun _ => 0, g'⟩ (fun r => ∀ c : Dev Cert.ConformerOutIdeal.nD,
          r.2.mem ((c.tc : Thread Cert.ConformerOutIdeal.nD Cert.ConformerOutIdeal.τ).loc Cert.ConformerOutIdeal.main_v23) = v0 c
          ∧ r.2.mem ((c.tc : Thread Cert.ConformerOutIdeal.nD Cert.ConformerOutIdeal.τ).loc Cert.ConformerOutIdeal.main_arg0) = m' ((c.tc : Thread Cert.ConformerOutIdeal.nD Cert.ConformerOutIdeal.τ).loc Cert.ConformerOutIdeal.main_arg0)
          ∧ r.2.mem ((c.tc : Thread Cert.ConformerOutIdeal.nD Cert.ConformerOutIdeal.τ).loc Cert.ConformerOutIdeal.main_arg1) = m' ((c.tc : Thread Cert.ConformerOutIdeal.nD Cert.ConformerOutIdeal.τ).loc Cert.ConformerOutIdeal.main_arg1)
          ∧ r.2.mem ((c.tc : Thread Cert.ConformerOutIdeal.nD Cert.ConformerOutIdeal.τ).loc Cert.ConformerOutIdeal.main_arg2) = m' ((c.tc : Thread Cert.ConformerOutIdeal.nD Cert.ConformerOutIdeal.τ).loc Cert.ConformerOutIdeal.main_arg2))

def preserves_LnSiluFwd_LnSiluFwdIdeal : Prop :=
  True

def algebraic_LnSiluFwdIdeal_LnSiluOutIdeal [hLnSiluFwdIdeal : Cert.LnSiluFwdIdeal.Facts] [hLnSiluOutIdeal : Cert.LnSiluOutIdeal.Facts] : Prop :=
  ∀ (m : (ℓ : Loc Cert.LnSiluFwdIdeal.nD Cert.LnSiluFwdIdeal.τ Cert.LnSiluFwdIdeal.sig) → Buf (Elt Ideal) ℓ) (g : Dev Cert.LnSiluFwdIdeal.nD → PrngReg)
    (m' : (ℓ : Loc Cert.LnSiluOutIdeal.nD Cert.LnSiluOutIdeal.τ Cert.LnSiluOutIdeal.sig) → Buf (Elt Ideal) ℓ) (g' : Dev Cert.LnSiluOutIdeal.nD → PrngReg), Pre_LnSiluFwdIdeal m →
    (∀ c : Dev Cert.LnSiluFwdIdeal.nD,
      m' ((c.tc : Thread Cert.LnSiluOutIdeal.nD Cert.LnSiluOutIdeal.τ).loc Cert.LnSiluOutIdeal.main_arg0) = m ((c.tc : Thread Cert.LnSiluFwdIdeal.nD Cert.LnSiluFwdIdeal.τ).loc Cert.LnSiluFwdIdeal.main_arg0)
      ∧ m' ((c.tc : Thread Cert.LnSiluOutIdeal.nD Cert.LnSiluOutIdeal.τ).loc Cert.LnSiluOutIdeal.main_arg1) = m ((c.tc : Thread Cert.LnSiluFwdIdeal.nD Cert.LnSiluFwdIdeal.τ).loc Cert.LnSiluFwdIdeal.main_arg1)
      ∧ m' ((c.tc : Thread Cert.LnSiluOutIdeal.nD Cert.LnSiluOutIdeal.τ).loc Cert.LnSiluOutIdeal.main_arg2) = m ((c.tc : Thread Cert.LnSiluFwdIdeal.nD Cert.LnSiluFwdIdeal.τ).loc Cert.LnSiluFwdIdeal.main_arg2)
      ∧ m' ((c.tc : Thread Cert.LnSiluOutIdeal.nD Cert.LnSiluOutIdeal.τ).loc Cert.LnSiluOutIdeal.main_arg3) = m ((c.tc : Thread Cert.LnSiluFwdIdeal.nD Cert.LnSiluFwdIdeal.τ).loc Cert.LnSiluFwdIdeal.main_arg3)) →
    ∃ (v0 : (c : Dev Cert.LnSiluFwdIdeal.nD) → Buf (Elt Ideal) ((c.tc : Thread Cert.LnSiluFwdIdeal.nD Cert.LnSiluFwdIdeal.τ).loc Cert.LnSiluFwdIdeal.main_v0)),
      θ_run (Cert.LnSiluFwdIdeal.defs (F := Ideal)) (onTc (τ := Cert.LnSiluFwdIdeal.τ) (Cert.LnSiluFwdIdeal.main (F := Ideal))) ⟨m, fun _ => 0, g⟩ (fun r => ∀ c : Dev Cert.LnSiluFwdIdeal.nD,
          r.2.mem ((c.tc : Thread Cert.LnSiluFwdIdeal.nD Cert.LnSiluFwdIdeal.τ).loc Cert.LnSiluFwdIdeal.main_v0) = v0 c
          ∧ r.2.mem ((c.tc : Thread Cert.LnSiluFwdIdeal.nD Cert.LnSiluFwdIdeal.τ).loc Cert.LnSiluFwdIdeal.main_arg0) = m ((c.tc : Thread Cert.LnSiluFwdIdeal.nD Cert.LnSiluFwdIdeal.τ).loc Cert.LnSiluFwdIdeal.main_arg0)
          ∧ r.2.mem ((c.tc : Thread Cert.LnSiluFwdIdeal.nD Cert.LnSiluFwdIdeal.τ).loc Cert.LnSiluFwdIdeal.main_arg1) = m ((c.tc : Thread Cert.LnSiluFwdIdeal.nD Cert.LnSiluFwdIdeal.τ).loc Cert.LnSiluFwdIdeal.main_arg1)
          ∧ r.2.mem ((c.tc : Thread Cert.LnSiluFwdIdeal.nD Cert.LnSiluFwdIdeal.τ).loc Cert.LnSiluFwdIdeal.main_arg2) = m ((c.tc : Thread Cert.LnSiluFwdIdeal.nD Cert.LnSiluFwdIdeal.τ).loc Cert.LnSiluFwdIdeal.main_arg2)
          ∧ r.2.mem ((c.tc : Thread Cert.LnSiluFwdIdeal.nD Cert.LnSiluFwdIdeal.τ).loc Cert.LnSiluFwdIdeal.main_arg3) = m ((c.tc : Thread Cert.LnSiluFwdIdeal.nD Cert.LnSiluFwdIdeal.τ).loc Cert.LnSiluFwdIdeal.main_arg3))
      ∧ θ_run (Cert.LnSiluOutIdeal.defs (F := Ideal)) (onTc (τ := Cert.LnSiluOutIdeal.τ) (Cert.LnSiluOutIdeal.main (F := Ideal))) ⟨m', fun _ => 0, g'⟩ (fun r => ∀ c : Dev Cert.LnSiluOutIdeal.nD,
          r.2.mem ((c.tc : Thread Cert.LnSiluOutIdeal.nD Cert.LnSiluOutIdeal.τ).loc Cert.LnSiluOutIdeal.main_v25) = v0 c
          ∧ r.2.mem ((c.tc : Thread Cert.LnSiluOutIdeal.nD Cert.LnSiluOutIdeal.τ).loc Cert.LnSiluOutIdeal.main_arg0) = m' ((c.tc : Thread Cert.LnSiluOutIdeal.nD Cert.LnSiluOutIdeal.τ).loc Cert.LnSiluOutIdeal.main_arg0)
          ∧ r.2.mem ((c.tc : Thread Cert.LnSiluOutIdeal.nD Cert.LnSiluOutIdeal.τ).loc Cert.LnSiluOutIdeal.main_arg1) = m' ((c.tc : Thread Cert.LnSiluOutIdeal.nD Cert.LnSiluOutIdeal.τ).loc Cert.LnSiluOutIdeal.main_arg1)
          ∧ r.2.mem ((c.tc : Thread Cert.LnSiluOutIdeal.nD Cert.LnSiluOutIdeal.τ).loc Cert.LnSiluOutIdeal.main_arg2) = m' ((c.tc : Thread Cert.LnSiluOutIdeal.nD Cert.LnSiluOutIdeal.τ).loc Cert.LnSiluOutIdeal.main_arg2)
          ∧ r.2.mem ((c.tc : Thread Cert.LnSiluOutIdeal.nD Cert.LnSiluOutIdeal.τ).loc Cert.LnSiluOutIdeal.main_arg3) = m' ((c.tc : Thread Cert.LnSiluOutIdeal.nD Cert.LnSiluOutIdeal.τ).loc Cert.LnSiluOutIdeal.main_arg3))

def preserves_RmsFwd_RmsFwdIdeal : Prop :=
  True

def algebraic_RmsFwdIdeal_RmsOutIdeal [hRmsFwdIdeal : Cert.RmsFwdIdeal.Facts] [hRmsOutIdeal : Cert.RmsOutIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsOutIdeal.nD Cert.RmsOutIdeal.τ Cert.RmsOutIdeal.sig) → Buf (Elt Ideal) ℓ) (g' : Dev Cert.RmsOutIdeal.nD → PrngReg), Pre_RmsFwdIdeal m →
    (∀ c : Dev Cert.RmsFwdIdeal.nD,
      m' ((c.tc : Thread Cert.RmsOutIdeal.nD Cert.RmsOutIdeal.τ).loc Cert.RmsOutIdeal.main_arg0) = m ((c.tc : Thread Cert.RmsFwdIdeal.nD Cert.RmsFwdIdeal.τ).loc Cert.RmsFwdIdeal.main_arg0)
      ∧ m' ((c.tc : Thread Cert.RmsOutIdeal.nD Cert.RmsOutIdeal.τ).loc Cert.RmsOutIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsOutIdeal.defs (F := Ideal)) (onTc (τ := Cert.RmsOutIdeal.τ) (Cert.RmsOutIdeal.main (F := Ideal))) ⟨m', fun _ => 0, g'⟩ (fun r => ∀ c : Dev Cert.RmsOutIdeal.nD,
          r.2.mem ((c.tc : Thread Cert.RmsOutIdeal.nD Cert.RmsOutIdeal.τ).loc Cert.RmsOutIdeal.main_v12) = v0 c
          ∧ r.2.mem ((c.tc : Thread Cert.RmsOutIdeal.nD Cert.RmsOutIdeal.τ).loc Cert.RmsOutIdeal.main_arg0) = m' ((c.tc : Thread Cert.RmsOutIdeal.nD Cert.RmsOutIdeal.τ).loc Cert.RmsOutIdeal.main_arg0)
          ∧ r.2.mem ((c.tc : Thread Cert.RmsOutIdeal.nD Cert.RmsOutIdeal.τ).loc Cert.RmsOutIdeal.main_arg1) = m' ((c.tc : Thread Cert.RmsOutIdeal.nD Cert.RmsOutIdeal.τ).loc Cert.RmsOutIdeal.main_arg1))

def preserves_NormOutFwd_NormOutFwdIdeal : Prop :=
  True

def algebraic_NormOutFwdIdeal_NormOutOutIdeal [hNormOutFwdIdeal : Cert.NormOutFwdIdeal.Facts] [hNormOutOutIdeal : Cert.NormOutOutIdeal.Facts] : Prop :=
  ∀ (m : (ℓ : Loc Cert.NormOutFwdIdeal.nD Cert.NormOutFwdIdeal.τ Cert.NormOutFwdIdeal.sig) → Buf (Elt Ideal) ℓ) (g : Dev Cert.NormOutFwdIdeal.nD → PrngReg)
    (m' : (ℓ : Loc Cert.NormOutOutIdeal.nD Cert.NormOutOutIdeal.τ Cert.NormOutOutIdeal.sig) → Buf (Elt Ideal) ℓ) (g' : Dev Cert.NormOutOutIdeal.nD → PrngReg), Pre_NormOutFwdIdeal m →
    (∀ c : Dev Cert.NormOutFwdIdeal.nD,
      m' ((c.tc : Thread Cert.NormOutOutIdeal.nD Cert.NormOutOutIdeal.τ).loc Cert.NormOutOutIdeal.main_arg0) = m ((c.tc : Thread Cert.NormOutFwdIdeal.nD Cert.NormOutFwdIdeal.τ).loc Cert.NormOutFwdIdeal.main_arg0)
      ∧ m' ((c.tc : Thread Cert.NormOutOutIdeal.nD Cert.NormOutOutIdeal.τ).loc Cert.NormOutOutIdeal.main_arg1) = m ((c.tc : Thread Cert.NormOutFwdIdeal.nD Cert.NormOutFwdIdeal.τ).loc Cert.NormOutFwdIdeal.main_arg1)
      ∧ m' ((c.tc : Thread Cert.NormOutOutIdeal.nD Cert.NormOutOutIdeal.τ).loc Cert.NormOutOutIdeal.main_arg2) = m ((c.tc : Thread Cert.NormOutFwdIdeal.nD Cert.NormOutFwdIdeal.τ).loc Cert.NormOutFwdIdeal.main_arg2)
      ∧ m' ((c.tc : Thread Cert.NormOutOutIdeal.nD Cert.NormOutOutIdeal.τ).loc Cert.NormOutOutIdeal.main_arg3) = m ((c.tc : Thread Cert.NormOutFwdIdeal.nD Cert.NormOutFwdIdeal.τ).loc Cert.NormOutFwdIdeal.main_arg3)) →
    ∃ (v0 : (c : Dev Cert.NormOutFwdIdeal.nD) → Buf (Elt Ideal) ((c.tc : Thread Cert.NormOutFwdIdeal.nD Cert.NormOutFwdIdeal.τ).loc Cert.NormOutFwdIdeal.main_v0_0)) (v1 : (c : Dev Cert.NormOutFwdIdeal.nD) → Buf (Elt Ideal) ((c.tc : Thread Cert.NormOutFwdIdeal.nD Cert.NormOutFwdIdeal.τ).loc Cert.NormOutFwdIdeal.main_v0_1)),
      θ_run (Cert.NormOutFwdIdeal.defs (F := Ideal)) (onTc (τ := Cert.NormOutFwdIdeal.τ) (Cert.NormOutFwdIdeal.main (F := Ideal))) ⟨m, fun _ => 0, g⟩ (fun r => ∀ c : Dev Cert.NormOutFwdIdeal.nD,
          r.2.mem ((c.tc : Thread Cert.NormOutFwdIdeal.nD Cert.NormOutFwdIdeal.τ).loc Cert.NormOutFwdIdeal.main_v0_0) = v0 c
          ∧ r.2.mem ((c.tc : Thread Cert.NormOutFwdIdeal.nD Cert.NormOutFwdIdeal.τ).loc Cert.NormOutFwdIdeal.main_v0_1) = v1 c
          ∧ r.2.mem ((c.tc : Thread Cert.NormOutFwdIdeal.nD Cert.NormOutFwdIdeal.τ).loc Cert.NormOutFwdIdeal.main_arg0) = m ((c.tc : Thread Cert.NormOutFwdIdeal.nD Cert.NormOutFwdIdeal.τ).loc Cert.NormOutFwdIdeal.main_arg0)
          ∧ r.2.mem ((c.tc : Thread Cert.NormOutFwdIdeal.nD Cert.NormOutFwdIdeal.τ).loc Cert.NormOutFwdIdeal.main_arg1) = m ((c.tc : Thread Cert.NormOutFwdIdeal.nD Cert.NormOutFwdIdeal.τ).loc Cert.NormOutFwdIdeal.main_arg1)
          ∧ r.2.mem ((c.tc : Thread Cert.NormOutFwdIdeal.nD Cert.NormOutFwdIdeal.τ).loc Cert.NormOutFwdIdeal.main_arg2) = m ((c.tc : Thread Cert.NormOutFwdIdeal.nD Cert.NormOutFwdIdeal.τ).loc Cert.NormOutFwdIdeal.main_arg2)
          ∧ r.2.mem ((c.tc : Thread Cert.NormOutFwdIdeal.nD Cert.NormOutFwdIdeal.τ).loc Cert.NormOutFwdIdeal.main_arg3) = m ((c.tc : Thread Cert.NormOutFwdIdeal.nD Cert.NormOutFwdIdeal.τ).loc Cert.NormOutFwdIdeal.main_arg3))
      ∧ θ_run (Cert.NormOutOutIdeal.defs (F := Ideal)) (onTc (τ := Cert.NormOutOutIdeal.τ) (Cert.NormOutOutIdeal.main (F := Ideal))) ⟨m', fun _ => 0, g'⟩ (fun r => ∀ c : Dev Cert.NormOutOutIdeal.nD,
          r.2.mem ((c.tc : Thread Cert.NormOutOutIdeal.nD Cert.NormOutOutIdeal.τ).loc Cert.NormOutOutIdeal.main_v3) = v0 c
          ∧ r.2.mem ((c.tc : Thread Cert.NormOutOutIdeal.nD Cert.NormOutOutIdeal.τ).loc Cert.NormOutOutIdeal.main_v16) = v1 c
          ∧ r.2.mem ((c.tc : Thread Cert.NormOutOutIdeal.nD Cert.NormOutOutIdeal.τ).loc Cert.NormOutOutIdeal.main_arg0) = m' ((c.tc : Thread Cert.NormOutOutIdeal.nD Cert.NormOutOutIdeal.τ).loc Cert.NormOutOutIdeal.main_arg0)
          ∧ r.2.mem ((c.tc : Thread Cert.NormOutOutIdeal.nD Cert.NormOutOutIdeal.τ).loc Cert.NormOutOutIdeal.main_arg1) = m' ((c.tc : Thread Cert.NormOutOutIdeal.nD Cert.NormOutOutIdeal.τ).loc Cert.NormOutOutIdeal.main_arg1)
          ∧ r.2.mem ((c.tc : Thread Cert.NormOutOutIdeal.nD Cert.NormOutOutIdeal.τ).loc Cert.NormOutOutIdeal.main_arg2) = m' ((c.tc : Thread Cert.NormOutOutIdeal.nD Cert.NormOutOutIdeal.τ).loc Cert.NormOutOutIdeal.main_arg2)
          ∧ r.2.mem ((c.tc : Thread Cert.NormOutOutIdeal.nD Cert.NormOutOutIdeal.τ).loc Cert.NormOutOutIdeal.main_arg3) = m' ((c.tc : Thread Cert.NormOutOutIdeal.nD Cert.NormOutOutIdeal.τ).loc Cert.NormOutOutIdeal.main_arg3))

def preserves_NormDownFwd_NormDownFwdIdeal : Prop :=
  True

def algebraic_NormDownFwdIdeal_NormDownOutIdeal [hNormDownFwdIdeal : Cert.NormDownFwdIdeal.Facts] [hNormDownOutIdeal : Cert.NormDownOutIdeal.Facts] : Prop :=
  ∀ (m : (ℓ : Loc Cert.NormDownFwdIdeal.nD Cert.NormDownFwdIdeal.τ Cert.NormDownFwdIdeal.sig) → Buf (Elt Ideal) ℓ) (g : Dev Cert.NormDownFwdIdeal.nD → PrngReg)
    (m' : (ℓ : Loc Cert.NormDownOutIdeal.nD Cert.NormDownOutIdeal.τ Cert.NormDownOutIdeal.sig) → Buf (Elt Ideal) ℓ) (g' : Dev Cert.NormDownOutIdeal.nD → PrngReg), Pre_NormDownFwdIdeal m →
    (∀ c : Dev Cert.NormDownFwdIdeal.nD,
      m' ((c.tc : Thread Cert.NormDownOutIdeal.nD Cert.NormDownOutIdeal.τ).loc Cert.NormDownOutIdeal.main_arg0) = m ((c.tc : Thread Cert.NormDownFwdIdeal.nD Cert.NormDownFwdIdeal.τ).loc Cert.NormDownFwdIdeal.main_arg0)
      ∧ m' ((c.tc : Thread Cert.NormDownOutIdeal.nD Cert.NormDownOutIdeal.τ).loc Cert.NormDownOutIdeal.main_arg1) = m ((c.tc : Thread Cert.NormDownFwdIdeal.nD Cert.NormDownFwdIdeal.τ).loc Cert.NormDownFwdIdeal.main_arg1)
      ∧ m' ((c.tc : Thread Cert.NormDownOutIdeal.nD Cert.NormDownOutIdeal.τ).loc Cert.NormDownOutIdeal.main_arg2) = m ((c.tc : Thread Cert.NormDownFwdIdeal.nD Cert.NormDownFwdIdeal.τ).loc Cert.NormDownFwdIdeal.main_arg2)
      ∧ m' ((c.tc : Thread Cert.NormDownOutIdeal.nD Cert.NormDownOutIdeal.τ).loc Cert.NormDownOutIdeal.main_arg3) = m ((c.tc : Thread Cert.NormDownFwdIdeal.nD Cert.NormDownFwdIdeal.τ).loc Cert.NormDownFwdIdeal.main_arg3)) →
    ∃ (v0 : (c : Dev Cert.NormDownFwdIdeal.nD) → Buf (Elt Ideal) ((c.tc : Thread Cert.NormDownFwdIdeal.nD Cert.NormDownFwdIdeal.τ).loc Cert.NormDownFwdIdeal.main_v0_0)) (v1 : (c : Dev Cert.NormDownFwdIdeal.nD) → Buf (Elt Ideal) ((c.tc : Thread Cert.NormDownFwdIdeal.nD Cert.NormDownFwdIdeal.τ).loc Cert.NormDownFwdIdeal.main_v0_1)),
      θ_run (Cert.NormDownFwdIdeal.defs (F := Ideal)) (onTc (τ := Cert.NormDownFwdIdeal.τ) (Cert.NormDownFwdIdeal.main (F := Ideal))) ⟨m, fun _ => 0, g⟩ (fun r => ∀ c : Dev Cert.NormDownFwdIdeal.nD,
          r.2.mem ((c.tc : Thread Cert.NormDownFwdIdeal.nD Cert.NormDownFwdIdeal.τ).loc Cert.NormDownFwdIdeal.main_v0_0) = v0 c
          ∧ r.2.mem ((c.tc : Thread Cert.NormDownFwdIdeal.nD Cert.NormDownFwdIdeal.τ).loc Cert.NormDownFwdIdeal.main_v0_1) = v1 c
          ∧ r.2.mem ((c.tc : Thread Cert.NormDownFwdIdeal.nD Cert.NormDownFwdIdeal.τ).loc Cert.NormDownFwdIdeal.main_arg0) = m ((c.tc : Thread Cert.NormDownFwdIdeal.nD Cert.NormDownFwdIdeal.τ).loc Cert.NormDownFwdIdeal.main_arg0)
          ∧ r.2.mem ((c.tc : Thread Cert.NormDownFwdIdeal.nD Cert.NormDownFwdIdeal.τ).loc Cert.NormDownFwdIdeal.main_arg1) = m ((c.tc : Thread Cert.NormDownFwdIdeal.nD Cert.NormDownFwdIdeal.τ).loc Cert.NormDownFwdIdeal.main_arg1)
          ∧ r.2.mem ((c.tc : Thread Cert.NormDownFwdIdeal.nD Cert.NormDownFwdIdeal.τ).loc Cert.NormDownFwdIdeal.main_arg2) = m ((c.tc : Thread Cert.NormDownFwdIdeal.nD Cert.NormDownFwdIdeal.τ).loc Cert.NormDownFwdIdeal.main_arg2)
          ∧ r.2.mem ((c.tc : Thread Cert.NormDownFwdIdeal.nD Cert.NormDownFwdIdeal.τ).loc Cert.NormDownFwdIdeal.main_arg3) = m ((c.tc : Thread Cert.NormDownFwdIdeal.nD Cert.NormDownFwdIdeal.τ).loc Cert.NormDownFwdIdeal.main_arg3))
      ∧ θ_run (Cert.NormDownOutIdeal.defs (F := Ideal)) (onTc (τ := Cert.NormDownOutIdeal.τ) (Cert.NormDownOutIdeal.main (F := Ideal))) ⟨m', fun _ => 0, g'⟩ (fun r => ∀ c : Dev Cert.NormDownOutIdeal.nD,
          r.2.mem ((c.tc : Thread Cert.NormDownOutIdeal.nD Cert.NormDownOutIdeal.τ).loc Cert.NormDownOutIdeal.main_v3) = v0 c
          ∧ r.2.mem ((c.tc : Thread Cert.NormDownOutIdeal.nD Cert.NormDownOutIdeal.τ).loc Cert.NormDownOutIdeal.main_v16) = v1 c
          ∧ r.2.mem ((c.tc : Thread Cert.NormDownOutIdeal.nD Cert.NormDownOutIdeal.τ).loc Cert.NormDownOutIdeal.main_arg0) = m' ((c.tc : Thread Cert.NormDownOutIdeal.nD Cert.NormDownOutIdeal.τ).loc Cert.NormDownOutIdeal.main_arg0)
          ∧ r.2.mem ((c.tc : Thread Cert.NormDownOutIdeal.nD Cert.NormDownOutIdeal.τ).loc Cert.NormDownOutIdeal.main_arg1) = m' ((c.tc : Thread Cert.NormDownOutIdeal.nD Cert.NormDownOutIdeal.τ).loc Cert.NormDownOutIdeal.main_arg1)
          ∧ r.2.mem ((c.tc : Thread Cert.NormDownOutIdeal.nD Cert.NormDownOutIdeal.τ).loc Cert.NormDownOutIdeal.main_arg2) = m' ((c.tc : Thread Cert.NormDownOutIdeal.nD Cert.NormDownOutIdeal.τ).loc Cert.NormDownOutIdeal.main_arg2)
          ∧ r.2.mem ((c.tc : Thread Cert.NormDownOutIdeal.nD Cert.NormDownOutIdeal.τ).loc Cert.NormDownOutIdeal.main_arg3) = m' ((c.tc : Thread Cert.NormDownOutIdeal.nD Cert.NormDownOutIdeal.τ).loc Cert.NormDownOutIdeal.main_arg3))

def preserves_SqreluFwd_SqreluFwdIdeal : Prop :=
  True

def algebraic_SqreluFwdIdeal_SqreluOutIdeal [hSqreluFwdIdeal : Cert.SqreluFwdIdeal.Facts] [hSqreluOutIdeal : Cert.SqreluOutIdeal.Facts] : Prop :=
  ∀ (m : (ℓ : Loc Cert.SqreluFwdIdeal.nD Cert.SqreluFwdIdeal.τ Cert.SqreluFwdIdeal.sig) → Buf (Elt Ideal) ℓ) (g : Dev Cert.SqreluFwdIdeal.nD → PrngReg)
    (m' : (ℓ : Loc Cert.SqreluOutIdeal.nD Cert.SqreluOutIdeal.τ Cert.SqreluOutIdeal.sig) → Buf (Elt Ideal) ℓ) (g' : Dev Cert.SqreluOutIdeal.nD → PrngReg), Pre_SqreluFwdIdeal m →
    (∀ c : Dev Cert.SqreluFwdIdeal.nD,
      m' ((c.tc : Thread Cert.SqreluOutIdeal.nD Cert.SqreluOutIdeal.τ).loc Cert.SqreluOutIdeal.main_arg0) = m ((c.tc : Thread Cert.SqreluFwdIdeal.nD Cert.SqreluFwdIdeal.τ).loc Cert.SqreluFwdIdeal.main_arg0)
      ∧ m' ((c.tc : Thread Cert.SqreluOutIdeal.nD Cert.SqreluOutIdeal.τ).loc Cert.SqreluOutIdeal.main_arg1) = m ((c.tc : Thread Cert.SqreluFwdIdeal.nD Cert.SqreluFwdIdeal.τ).loc Cert.SqreluFwdIdeal.main_arg1)) →
    ∃ (v0 : (c : Dev Cert.SqreluFwdIdeal.nD) → Buf (Elt Ideal) ((c.tc : Thread Cert.SqreluFwdIdeal.nD Cert.SqreluFwdIdeal.τ).loc Cert.SqreluFwdIdeal.main_v0_0)) (v1 : (c : Dev Cert.SqreluFwdIdeal.nD) → Buf (Elt Ideal) ((c.tc : Thread Cert.SqreluFwdIdeal.nD Cert.SqreluFwdIdeal.τ).loc Cert.SqreluFwdIdeal.main_v0_1)),
      θ_run (Cert.SqreluFwdIdeal.defs (F := Ideal)) (onTc (τ := Cert.SqreluFwdIdeal.τ) (Cert.SqreluFwdIdeal.main (F := Ideal))) ⟨m, fun _ => 0, g⟩ (fun r => ∀ c : Dev Cert.SqreluFwdIdeal.nD,
          r.2.mem ((c.tc : Thread Cert.SqreluFwdIdeal.nD Cert.SqreluFwdIdeal.τ).loc Cert.SqreluFwdIdeal.main_v0_0) = v0 c
          ∧ r.2.mem ((c.tc : Thread Cert.SqreluFwdIdeal.nD Cert.SqreluFwdIdeal.τ).loc Cert.SqreluFwdIdeal.main_v0_1) = v1 c
          ∧ r.2.mem ((c.tc : Thread Cert.SqreluFwdIdeal.nD Cert.SqreluFwdIdeal.τ).loc Cert.SqreluFwdIdeal.main_arg0) = m ((c.tc : Thread Cert.SqreluFwdIdeal.nD Cert.SqreluFwdIdeal.τ).loc Cert.SqreluFwdIdeal.main_arg0)
          ∧ r.2.mem ((c.tc : Thread Cert.SqreluFwdIdeal.nD Cert.SqreluFwdIdeal.τ).loc Cert.SqreluFwdIdeal.main_arg1) = m ((c.tc : Thread Cert.SqreluFwdIdeal.nD Cert.SqreluFwdIdeal.τ).loc Cert.SqreluFwdIdeal.main_arg1))
      ∧ θ_run (Cert.SqreluOutIdeal.defs (F := Ideal)) (onTc (τ := Cert.SqreluOutIdeal.τ) (Cert.SqreluOutIdeal.main (F := Ideal))) ⟨m', fun _ => 0, g'⟩ (fun r => ∀ c : Dev Cert.SqreluOutIdeal.nD,
          r.2.mem ((c.tc : Thread Cert.SqreluOutIdeal.nD Cert.SqreluOutIdeal.τ).loc Cert.SqreluOutIdeal.main_v4) = v0 c
          ∧ r.2.mem ((c.tc : Thread Cert.SqreluOutIdeal.nD Cert.SqreluOutIdeal.τ).loc Cert.SqreluOutIdeal.main_v7) = v1 c
          ∧ r.2.mem ((c.tc : Thread Cert.SqreluOutIdeal.nD Cert.SqreluOutIdeal.τ).loc Cert.SqreluOutIdeal.main_arg0) = m' ((c.tc : Thread Cert.SqreluOutIdeal.nD Cert.SqreluOutIdeal.τ).loc Cert.SqreluOutIdeal.main_arg0)
          ∧ r.2.mem ((c.tc : Thread Cert.SqreluOutIdeal.nD Cert.SqreluOutIdeal.τ).loc Cert.SqreluOutIdeal.main_arg1) = m' ((c.tc : Thread Cert.SqreluOutIdeal.nD Cert.SqreluOutIdeal.τ).loc Cert.SqreluOutIdeal.main_arg1))

def preserves_ShortConvBwd_ShortConvBwdIdeal : Prop :=
  True

def algebraic_ShortConvBwdIdeal_ShortConvGradIdeal [hShortConvBwdIdeal : Cert.ShortConvBwdIdeal.Facts] [hShortConvGradIdeal : Cert.ShortConvGradIdeal.Facts] : Prop :=
  ∀ (m : (ℓ : Loc Cert.ShortConvBwdIdeal.nD Cert.ShortConvBwdIdeal.τ Cert.ShortConvBwdIdeal.sig) → Buf (Elt Ideal) ℓ) (g : Dev Cert.ShortConvBwdIdeal.nD → PrngReg)
    (m' : (ℓ : Loc Cert.ShortConvGradIdeal.nD Cert.ShortConvGradIdeal.τ Cert.ShortConvGradIdeal.sig) → Buf (Elt Ideal) ℓ) (g' : Dev Cert.ShortConvGradIdeal.nD → PrngReg), Pre_ShortConvBwdIdeal m →
    (∀ c : Dev Cert.ShortConvBwdIdeal.nD,
      m' ((c.tc : Thread Cert.ShortConvGradIdeal.nD Cert.ShortConvGradIdeal.τ).loc Cert.ShortConvGradIdeal.main_arg0) = m ((c.tc : Thread Cert.ShortConvBwdIdeal.nD Cert.ShortConvBwdIdeal.τ).loc Cert.ShortConvBwdIdeal.main_arg0)
      ∧ m' ((c.tc : Thread Cert.ShortConvGradIdeal.nD Cert.ShortConvGradIdeal.τ).loc Cert.ShortConvGradIdeal.main_arg1) = m ((c.tc : Thread Cert.ShortConvBwdIdeal.nD Cert.ShortConvBwdIdeal.τ).loc Cert.ShortConvBwdIdeal.main_arg1)
      ∧ m' ((c.tc : Thread Cert.ShortConvGradIdeal.nD Cert.ShortConvGradIdeal.τ).loc Cert.ShortConvGradIdeal.main_arg2) = m ((c.tc : Thread Cert.ShortConvBwdIdeal.nD Cert.ShortConvBwdIdeal.τ).loc Cert.ShortConvBwdIdeal.main_arg2)) →
    ∃ (v0 : (c : Dev Cert.ShortConvBwdIdeal.nD) → Buf (Elt Ideal) ((c.tc : Thread Cert.ShortConvBwdIdeal.nD Cert.ShortConvBwdIdeal.τ).loc Cert.ShortConvBwdIdeal.main_v0_0)) (v1 : (c : Dev Cert.ShortConvBwdIdeal.nD) → Buf (Elt Ideal) ((c.tc : Thread Cert.ShortConvBwdIdeal.nD Cert.ShortConvBwdIdeal.τ).loc Cert.ShortConvBwdIdeal.main_v0_1)) (v2 : (c : Dev Cert.ShortConvBwdIdeal.nD) → Buf (Elt Ideal) ((c.tc : Thread Cert.ShortConvBwdIdeal.nD Cert.ShortConvBwdIdeal.τ).loc Cert.ShortConvBwdIdeal.main_v0_2)) (v3 : (c : Dev Cert.ShortConvBwdIdeal.nD) → Buf (Elt Ideal) ((c.tc : Thread Cert.ShortConvBwdIdeal.nD Cert.ShortConvBwdIdeal.τ).loc Cert.ShortConvBwdIdeal.main_v0_3)),
      θ_run (Cert.ShortConvBwdIdeal.defs (F := Ideal)) (onTc (τ := Cert.ShortConvBwdIdeal.τ) (Cert.ShortConvBwdIdeal.main (F := Ideal))) ⟨m, fun _ => 0, g⟩ (fun r => ∀ c : Dev Cert.ShortConvBwdIdeal.nD,
          r.2.mem ((c.tc : Thread Cert.ShortConvBwdIdeal.nD Cert.ShortConvBwdIdeal.τ).loc Cert.ShortConvBwdIdeal.main_v0_0) = v0 c
          ∧ r.2.mem ((c.tc : Thread Cert.ShortConvBwdIdeal.nD Cert.ShortConvBwdIdeal.τ).loc Cert.ShortConvBwdIdeal.main_v0_1) = v1 c
          ∧ r.2.mem ((c.tc : Thread Cert.ShortConvBwdIdeal.nD Cert.ShortConvBwdIdeal.τ).loc Cert.ShortConvBwdIdeal.main_v0_2) = v2 c
          ∧ r.2.mem ((c.tc : Thread Cert.ShortConvBwdIdeal.nD Cert.ShortConvBwdIdeal.τ).loc Cert.ShortConvBwdIdeal.main_v0_3) = v3 c
          ∧ r.2.mem ((c.tc : Thread Cert.ShortConvBwdIdeal.nD Cert.ShortConvBwdIdeal.τ).loc Cert.ShortConvBwdIdeal.main_arg0) = m ((c.tc : Thread Cert.ShortConvBwdIdeal.nD Cert.ShortConvBwdIdeal.τ).loc Cert.ShortConvBwdIdeal.main_arg0)
          ∧ r.2.mem ((c.tc : Thread Cert.ShortConvBwdIdeal.nD Cert.ShortConvBwdIdeal.τ).loc Cert.ShortConvBwdIdeal.main_arg1) = m ((c.tc : Thread Cert.ShortConvBwdIdeal.nD Cert.ShortConvBwdIdeal.τ).loc Cert.ShortConvBwdIdeal.main_arg1)
          ∧ r.2.mem ((c.tc : Thread Cert.ShortConvBwdIdeal.nD Cert.ShortConvBwdIdeal.τ).loc Cert.ShortConvBwdIdeal.main_arg2) = m ((c.tc : Thread Cert.ShortConvBwdIdeal.nD Cert.ShortConvBwdIdeal.τ).loc Cert.ShortConvBwdIdeal.main_arg2))
      ∧ θ_run (Cert.ShortConvGradIdeal.defs (F := Ideal)) (onTc (τ := Cert.ShortConvGradIdeal.τ) (Cert.ShortConvGradIdeal.main (F := Ideal))) ⟨m', fun _ => 0, g'⟩ (fun r => ∀ c : Dev Cert.ShortConvGradIdeal.nD,
          r.2.mem ((c.tc : Thread Cert.ShortConvGradIdeal.nD Cert.ShortConvGradIdeal.τ).loc Cert.ShortConvGradIdeal.main_v32) = v0 c
          ∧ r.2.mem ((c.tc : Thread Cert.ShortConvGradIdeal.nD Cert.ShortConvGradIdeal.τ).loc Cert.ShortConvGradIdeal.main_v33) = v1 c
          ∧ r.2.mem ((c.tc : Thread Cert.ShortConvGradIdeal.nD Cert.ShortConvGradIdeal.τ).loc Cert.ShortConvGradIdeal.main_v34) = v2 c
          ∧ r.2.mem ((c.tc : Thread Cert.ShortConvGradIdeal.nD Cert.ShortConvGradIdeal.τ).loc Cert.ShortConvGradIdeal.main_v27) = v3 c
          ∧ r.2.mem ((c.tc : Thread Cert.ShortConvGradIdeal.nD Cert.ShortConvGradIdeal.τ).loc Cert.ShortConvGradIdeal.main_arg0) = m' ((c.tc : Thread Cert.ShortConvGradIdeal.nD Cert.ShortConvGradIdeal.τ).loc Cert.ShortConvGradIdeal.main_arg0)
          ∧ r.2.mem ((c.tc : Thread Cert.ShortConvGradIdeal.nD Cert.ShortConvGradIdeal.τ).loc Cert.ShortConvGradIdeal.main_arg1) = m' ((c.tc : Thread Cert.ShortConvGradIdeal.nD Cert.ShortConvGradIdeal.τ).loc Cert.ShortConvGradIdeal.main_arg1)
          ∧ r.2.mem ((c.tc : Thread Cert.ShortConvGradIdeal.nD Cert.ShortConvGradIdeal.τ).loc Cert.ShortConvGradIdeal.main_arg2) = m' ((c.tc : Thread Cert.ShortConvGradIdeal.nD Cert.ShortConvGradIdeal.τ).loc Cert.ShortConvGradIdeal.main_arg2))

def preserves_ShortConvFwd_ShortConvFwdIdeal : Prop :=
  True

def algebraic_ShortConvFwdIdeal_ShortConvOutIdeal [hShortConvFwdIdeal : Cert.ShortConvFwdIdeal.Facts] [hShortConvOutIdeal : Cert.ShortConvOutIdeal.Facts] : Prop :=
  ∀ (m : (ℓ : Loc Cert.ShortConvFwdIdeal.nD Cert.ShortConvFwdIdeal.τ Cert.ShortConvFwdIdeal.sig) → Buf (Elt Ideal) ℓ) (g : Dev Cert.ShortConvFwdIdeal.nD → PrngReg)
    (m' : (ℓ : Loc Cert.ShortConvOutIdeal.nD Cert.ShortConvOutIdeal.τ Cert.ShortConvOutIdeal.sig) → Buf (Elt Ideal) ℓ) (g' : Dev Cert.ShortConvOutIdeal.nD → PrngReg), Pre_ShortConvFwdIdeal m →
    (∀ c : Dev Cert.ShortConvFwdIdeal.nD,
      m' ((c.tc : Thread Cert.ShortConvOutIdeal.nD Cert.ShortConvOutIdeal.τ).loc Cert.ShortConvOutIdeal.main_arg0) = m ((c.tc : Thread Cert.ShortConvFwdIdeal.nD Cert.ShortConvFwdIdeal.τ).loc Cert.ShortConvFwdIdeal.main_arg0)
      ∧ m' ((c.tc : Thread Cert.ShortConvOutIdeal.nD Cert.ShortConvOutIdeal.τ).loc Cert.ShortConvOutIdeal.main_arg1) = m ((c.tc : Thread Cert.ShortConvFwdIdeal.nD Cert.ShortConvFwdIdeal.τ).loc Cert.ShortConvFwdIdeal.main_arg1)) →
    ∃ (v0 : (c : Dev Cert.ShortConvFwdIdeal.nD) → Buf (Elt Ideal) ((c.tc : Thread Cert.ShortConvFwdIdeal.nD Cert.ShortConvFwdIdeal.τ).loc Cert.ShortConvFwdIdeal.main_v1)),
      θ_run (Cert.ShortConvFwdIdeal.defs (F := Ideal)) (onTc (τ := Cert.ShortConvFwdIdeal.τ) (Cert.ShortConvFwdIdeal.main (F := Ideal))) ⟨m, fun _ => 0, g⟩ (fun r => ∀ c : Dev Cert.ShortConvFwdIdeal.nD,
          r.2.mem ((c.tc : Thread Cert.ShortConvFwdIdeal.nD Cert.ShortConvFwdIdeal.τ).loc Cert.ShortConvFwdIdeal.main_v1) = v0 c
          ∧ r.2.mem ((c.tc : Thread Cert.ShortConvFwdIdeal.nD Cert.ShortConvFwdIdeal.τ).loc Cert.ShortConvFwdIdeal.main_arg0) = m ((c.tc : Thread Cert.ShortConvFwdIdeal.nD Cert.ShortConvFwdIdeal.τ).loc Cert.ShortConvFwdIdeal.main_arg0)
          ∧ r.2.mem ((c.tc : Thread Cert.ShortConvFwdIdeal.nD Cert.ShortConvFwdIdeal.τ).loc Cert.ShortConvFwdIdeal.main_arg1) = m ((c.tc : Thread Cert.ShortConvFwdIdeal.nD Cert.ShortConvFwdIdeal.τ).loc Cert.ShortConvFwdIdeal.main_arg1))
      ∧ θ_run (Cert.ShortConvOutIdeal.defs (F := Ideal)) (onTc (τ := Cert.ShortConvOutIdeal.τ) (Cert.ShortConvOutIdeal.main (F := Ideal))) ⟨m', fun _ => 0, g'⟩ (fun r => ∀ c : Dev Cert.ShortConvOutIdeal.nD,
          r.2.mem ((c.tc : Thread Cert.ShortConvOutIdeal.nD Cert.ShortConvOutIdeal.τ).loc Cert.ShortConvOutIdeal.main_v18) = v0 c
          ∧ r.2.mem ((c.tc : Thread Cert.ShortConvOutIdeal.nD Cert.ShortConvOutIdeal.τ).loc Cert.ShortConvOutIdeal.main_arg0) = m' ((c.tc : Thread Cert.ShortConvOutIdeal.nD Cert.ShortConvOutIdeal.τ).loc Cert.ShortConvOutIdeal.main_arg0)
          ∧ r.2.mem ((c.tc : Thread Cert.ShortConvOutIdeal.nD Cert.ShortConvOutIdeal.τ).loc Cert.ShortConvOutIdeal.main_arg1) = m' ((c.tc : Thread Cert.ShortConvOutIdeal.nD Cert.ShortConvOutIdeal.τ).loc Cert.ShortConvOutIdeal.main_arg1))

def preserves_SwapHalves_SwapHalvesIdeal : Prop :=
  True

def algebraic_SwapHalvesIdeal_SwapOutIdeal [hSwapHalvesIdeal : Cert.SwapHalvesIdeal.Facts] [hSwapOutIdeal : Cert.SwapOutIdeal.Facts] : Prop :=
  ∀ (m : (ℓ : Loc Cert.SwapHalvesIdeal.nD Cert.SwapHalvesIdeal.τ Cert.SwapHalvesIdeal.sig) → Buf (Elt Ideal) ℓ) (g : Dev Cert.SwapHalvesIdeal.nD → PrngReg)
    (m' : (ℓ : Loc Cert.SwapOutIdeal.nD Cert.SwapOutIdeal.τ Cert.SwapOutIdeal.sig) → Buf (Elt Ideal) ℓ) (g' : Dev Cert.SwapOutIdeal.nD → PrngReg), Pre_SwapHalvesIdeal m →
    (∀ c : Dev Cert.SwapHalvesIdeal.nD,
      m ((c.tc : Thread Cert.SwapHalvesIdeal.nD Cert.SwapHalvesIdeal.τ).loc Cert.SwapHalvesIdeal.main_arg0) = Layout.block ⟨3, ![4, 256, 1024]⟩ ⟨3, ![32, 256, 1024]⟩ 0 8 c (m' (((0 : Dev Cert.SwapOutIdeal.nD).tc : Thread Cert.SwapOutIdeal.nD Cert.SwapOutIdeal.τ).loc Cert.SwapOutIdeal.main_arg0))
      ∧ m ((c.tc : Thread Cert.SwapHalvesIdeal.nD Cert.SwapHalvesIdeal.τ).loc Cert.SwapHalvesIdeal.main_arg1) = Layout.block ⟨3, ![4, 1024, 640]⟩ ⟨3, ![32, 1024, 640]⟩ 0 8 c (m' (((0 : Dev Cert.SwapOutIdeal.nD).tc : Thread Cert.SwapOutIdeal.nD Cert.SwapOutIdeal.τ).loc Cert.SwapOutIdeal.main_arg1))) →
    ∃ (v0 : Buf (Elt Ideal) (((0 : Dev Cert.SwapOutIdeal.nD).tc : Thread Cert.SwapOutIdeal.nD Cert.SwapOutIdeal.τ).loc Cert.SwapOutIdeal.main_v8)) (v1 : Buf (Elt Ideal) (((0 : Dev Cert.SwapOutIdeal.nD).tc : Thread Cert.SwapOutIdeal.nD Cert.SwapOutIdeal.τ).loc Cert.SwapOutIdeal.main_v17)),
      θ_run (Cert.SwapHalvesIdeal.defs (F := Ideal)) (onTc (τ := Cert.SwapHalvesIdeal.τ) (Cert.SwapHalvesIdeal.main (F := Ideal))) ⟨m, fun _ => 0, g⟩ (fun r => ∀ c : Dev Cert.SwapHalvesIdeal.nD,
          r.2.mem ((c.tc : Thread Cert.SwapHalvesIdeal.nD Cert.SwapHalvesIdeal.τ).loc Cert.SwapHalvesIdeal.main_v1_0) = Layout.block ⟨3, ![4, 128, 1024]⟩ ⟨3, ![32, 128, 1024]⟩ 0 8 c v0
          ∧ r.2.mem ((c.tc : Thread Cert.SwapHalvesIdeal.nD Cert.SwapHalvesIdeal.τ).loc Cert.SwapHalvesIdeal.main_v1_1) = Layout.block ⟨3, ![4, 512, 640]⟩ ⟨3, ![32, 512, 640]⟩ 0 8 c v1
          ∧ r.2.mem ((c.tc : Thread Cert.SwapHalvesIdeal.nD Cert.SwapHalvesIdeal.τ).loc Cert.SwapHalvesIdeal.main_arg0) = m ((c.tc : Thread Cert.SwapHalvesIdeal.nD Cert.SwapHalvesIdeal.τ).loc Cert.SwapHalvesIdeal.main_arg0)
          ∧ r.2.mem ((c.tc : Thread Cert.SwapHalvesIdeal.nD Cert.SwapHalvesIdeal.τ).loc Cert.SwapHalvesIdeal.main_arg1) = m ((c.tc : Thread Cert.SwapHalvesIdeal.nD Cert.SwapHalvesIdeal.τ).loc Cert.SwapHalvesIdeal.main_arg1))
      ∧ θ_run (Cert.SwapOutIdeal.defs (F := Ideal)) (onTc (τ := Cert.SwapOutIdeal.τ) (Cert.SwapOutIdeal.main (F := Ideal))) ⟨m', fun _ => 0, g'⟩ (fun r =>
          r.2.mem (((0 : Dev Cert.SwapOutIdeal.nD).tc : Thread Cert.SwapOutIdeal.nD Cert.SwapOutIdeal.τ).loc Cert.SwapOutIdeal.main_v8) = v0
          ∧ r.2.mem (((0 : Dev Cert.SwapOutIdeal.nD).tc : Thread Cert.SwapOutIdeal.nD Cert.SwapOutIdeal.τ).loc Cert.SwapOutIdeal.main_v17) = v1
          ∧ r.2.mem (((0 : Dev Cert.SwapOutIdeal.nD).tc : Thread Cert.SwapOutIdeal.nD Cert.SwapOutIdeal.τ).loc Cert.SwapOutIdeal.main_arg0) = m' (((0 : Dev Cert.SwapOutIdeal.nD).tc : Thread Cert.SwapOutIdeal.nD Cert.SwapOutIdeal.τ).loc Cert.SwapOutIdeal.main_arg0)
          ∧ r.2.mem (((0 : Dev Cert.SwapOutIdeal.nD).tc : Thread Cert.SwapOutIdeal.nD Cert.SwapOutIdeal.τ).loc Cert.SwapOutIdeal.main_arg1) = m' (((0 : Dev Cert.SwapOutIdeal.nD).tc : Thread Cert.SwapOutIdeal.nD Cert.SwapOutIdeal.τ).loc Cert.SwapOutIdeal.main_arg1))

def preserves_SwapFive_SwapFiveIdeal : Prop :=
  True

def algebraic_SwapFiveIdeal_SwapFiveOutIdeal [hSwapFiveIdeal : Cert.SwapFiveIdeal.Facts] [hSwapFiveOutIdeal : Cert.SwapFiveOutIdeal.Facts] : Prop :=
  ∀ (m : (ℓ : Loc Cert.SwapFiveIdeal.nD Cert.SwapFiveIdeal.τ Cert.SwapFiveIdeal.sig) → Buf (Elt Ideal) ℓ) (g : Dev Cert.SwapFiveIdeal.nD → PrngReg)
    (m' : (ℓ : Loc Cert.SwapFiveOutIdeal.nD Cert.SwapFiveOutIdeal.τ Cert.SwapFiveOutIdeal.sig) → Buf (Elt Ideal) ℓ) (g' : Dev Cert.SwapFiveOutIdeal.nD → PrngReg), Pre_SwapFiveIdeal m →
    (∀ c : Dev Cert.SwapFiveIdeal.nD,
      m ((c.tc : Thread Cert.SwapFiveIdeal.nD Cert.SwapFiveIdeal.τ).loc Cert.SwapFiveIdeal.main_arg0) = Layout.block ⟨3, ![4, 1024, 1024]⟩ ⟨3, ![32, 1024, 1024]⟩ 0 8 c (m' (((0 : Dev Cert.SwapFiveOutIdeal.nD).tc : Thread Cert.SwapFiveOutIdeal.nD Cert.SwapFiveOutIdeal.τ).loc Cert.SwapFiveOutIdeal.main_arg0))
      ∧ m ((c.tc : Thread Cert.SwapFiveIdeal.nD Cert.SwapFiveIdeal.τ).loc Cert.SwapFiveIdeal.main_arg1) = Layout.block ⟨3, ![4, 1024, 1024]⟩ ⟨3, ![32, 1024, 1024]⟩ 0 8 c (m' (((0 : Dev Cert.SwapFiveOutIdeal.nD).tc : Thread Cert.SwapFiveOutIdeal.nD Cert.SwapFiveOutIdeal.τ).loc Cert.SwapFiveOutIdeal.main_arg1))
      ∧ m ((c.tc : Thread Cert.SwapFiveIdeal.nD Cert.SwapFiveIdeal.τ).loc Cert.SwapFiveIdeal.main_arg2) = Layout.block ⟨3, ![4, 256, 1024]⟩ ⟨3, ![32, 256, 1024]⟩ 0 8 c (m' (((0 : Dev Cert.SwapFiveOutIdeal.nD).tc : Thread Cert.SwapFiveOutIdeal.nD Cert.SwapFiveOutIdeal.τ).loc Cert.SwapFiveOutIdeal.main_arg2))
      ∧ m ((c.tc : Thread Cert.SwapFiveIdeal.nD Cert.SwapFiveIdeal.τ).loc Cert.SwapFiveIdeal.main_arg3) = Layout.block ⟨3, ![4, 256, 1024]⟩ ⟨3, ![32, 256, 1024]⟩ 0 8 c (m' (((0 : Dev Cert.SwapFiveOutIdeal.nD).tc : Thread Cert.SwapFiveOutIdeal.nD Cert.SwapFiveOutIdeal.τ).loc Cert.SwapFiveOutIdeal.main_arg3))
      ∧ m ((c.tc : Thread Cert.SwapFiveIdeal.nD Cert.SwapFiveIdeal.τ).loc Cert.SwapFiveIdeal.main_arg4) = Layout.block ⟨3, ![4, 1024, 512]⟩ ⟨3, ![32, 1024, 512]⟩ 0 8 c (m' (((0 : Dev Cert.SwapFiveOutIdeal.nD).tc : Thread Cert.SwapFiveOutIdeal.nD Cert.SwapFiveOutIdeal.τ).loc Cert.SwapFiveOutIdeal.main_arg4))) →
    ∃ (v0 : Buf (Elt Ideal) (((0 : Dev Cert.SwapFiveOutIdeal.nD).tc : Thread Cert.SwapFiveOutIdeal.nD Cert.SwapFiveOutIdeal.τ).loc Cert.SwapFiveOutIdeal.main_v8)) (v1 : Buf (Elt Ideal) (((0 : Dev Cert.SwapFiveOutIdeal.nD).tc : Thread Cert.SwapFiveOutIdeal.nD Cert.SwapFiveOutIdeal.τ).loc Cert.SwapFiveOutIdeal.main_v17)) (v2 : Buf (Elt Ideal) (((0 : Dev Cert.SwapFiveOutIdeal.nD).tc : Thread Cert.SwapFiveOutIdeal.nD Cert.SwapFiveOutIdeal.τ).loc Cert.SwapFiveOutIdeal.main_v26)) (v3 : Buf (Elt Ideal) (((0 : Dev Cert.SwapFiveOutIdeal.nD).tc : Thread Cert.SwapFiveOutIdeal.nD Cert.SwapFiveOutIdeal.τ).loc Cert.SwapFiveOutIdeal.main_v35)) (v4 : Buf (Elt Ideal) (((0 : Dev Cert.SwapFiveOutIdeal.nD).tc : Thread Cert.SwapFiveOutIdeal.nD Cert.SwapFiveOutIdeal.τ).loc Cert.SwapFiveOutIdeal.main_v44)),
      θ_run (Cert.SwapFiveIdeal.defs (F := Ideal)) (onTc (τ := Cert.SwapFiveIdeal.τ) (Cert.SwapFiveIdeal.main (F := Ideal))) ⟨m, fun _ => 0, g⟩ (fun r => ∀ c : Dev Cert.SwapFiveIdeal.nD,
          r.2.mem ((c.tc : Thread Cert.SwapFiveIdeal.nD Cert.SwapFiveIdeal.τ).loc Cert.SwapFiveIdeal.main_v1_0) = Layout.block ⟨3, ![4, 512, 1024]⟩ ⟨3, ![32, 512, 1024]⟩ 0 8 c v0
          ∧ r.2.mem ((c.tc : Thread Cert.SwapFiveIdeal.nD Cert.SwapFiveIdeal.τ).loc Cert.SwapFiveIdeal.main_v1_1) = Layout.block ⟨3, ![4, 512, 1024]⟩ ⟨3, ![32, 512, 1024]⟩ 0 8 c v1
          ∧ r.2.mem ((c.tc : Thread Cert.SwapFiveIdeal.nD Cert.SwapFiveIdeal.τ).loc Cert.SwapFiveIdeal.main_v1_2) = Layout.block ⟨3, ![4, 128, 1024]⟩ ⟨3, ![32, 128, 1024]⟩ 0 8 c v2
          ∧ r.2.mem ((c.tc : Thread Cert.SwapFiveIdeal.nD Cert.SwapFiveIdeal.τ).loc Cert.SwapFiveIdeal.main_v1_3) = Layout.block ⟨3, ![4, 128, 1024]⟩ ⟨3, ![32, 128, 1024]⟩ 0 8 c v3
          ∧ r.2.mem ((c.tc : Thread Cert.SwapFiveIdeal.nD Cert.SwapFiveIdeal.τ).loc Cert.SwapFiveIdeal.main_v1_4) = Layout.block ⟨3, ![4, 512, 512]⟩ ⟨3, ![32, 512, 512]⟩ 0 8 c v4
          ∧ r.2.mem ((c.tc : Thread Cert.SwapFiveIdeal.nD Cert.SwapFiveIdeal.τ).loc Cert.SwapFiveIdeal.main_arg0) = m ((c.tc : Thread Cert.SwapFiveIdeal.nD Cert.SwapFiveIdeal.τ).loc Cert.SwapFiveIdeal.main_arg0)
          ∧ r.2.mem ((c.tc : Thread Cert.SwapFiveIdeal.nD Cert.SwapFiveIdeal.τ).loc Cert.SwapFiveIdeal.main_arg1) = m ((c.tc : Thread Cert.SwapFiveIdeal.nD Cert.SwapFiveIdeal.τ).loc Cert.SwapFiveIdeal.main_arg1)
          ∧ r.2.mem ((c.tc : Thread Cert.SwapFiveIdeal.nD Cert.SwapFiveIdeal.τ).loc Cert.SwapFiveIdeal.main_arg2) = m ((c.tc : Thread Cert.SwapFiveIdeal.nD Cert.SwapFiveIdeal.τ).loc Cert.SwapFiveIdeal.main_arg2)
          ∧ r.2.mem ((c.tc : Thread Cert.SwapFiveIdeal.nD Cert.SwapFiveIdeal.τ).loc Cert.SwapFiveIdeal.main_arg3) = m ((c.tc : Thread Cert.SwapFiveIdeal.nD Cert.SwapFiveIdeal.τ).loc Cert.SwapFiveIdeal.main_arg3)
          ∧ r.2.mem ((c.tc : Thread Cert.SwapFiveIdeal.nD Cert.SwapFiveIdeal.τ).loc Cert.SwapFiveIdeal.main_arg4) = m ((c.tc : Thread Cert.SwapFiveIdeal.nD Cert.SwapFiveIdeal.τ).loc Cert.SwapFiveIdeal.main_arg4))
      ∧ θ_run (Cert.SwapFiveOutIdeal.defs (F := Ideal)) (onTc (τ := Cert.SwapFiveOutIdeal.τ) (Cert.SwapFiveOutIdeal.main (F := Ideal))) ⟨m', fun _ => 0, g'⟩ (fun r =>
          r.2.mem (((0 : Dev Cert.SwapFiveOutIdeal.nD).tc : Thread Cert.SwapFiveOutIdeal.nD Cert.SwapFiveOutIdeal.τ).loc Cert.SwapFiveOutIdeal.main_v8) = v0
          ∧ r.2.mem (((0 : Dev Cert.SwapFiveOutIdeal.nD).tc : Thread Cert.SwapFiveOutIdeal.nD Cert.SwapFiveOutIdeal.τ).loc Cert.SwapFiveOutIdeal.main_v17) = v1
          ∧ r.2.mem (((0 : Dev Cert.SwapFiveOutIdeal.nD).tc : Thread Cert.SwapFiveOutIdeal.nD Cert.SwapFiveOutIdeal.τ).loc Cert.SwapFiveOutIdeal.main_v26) = v2
          ∧ r.2.mem (((0 : Dev Cert.SwapFiveOutIdeal.nD).tc : Thread Cert.SwapFiveOutIdeal.nD Cert.SwapFiveOutIdeal.τ).loc Cert.SwapFiveOutIdeal.main_v35) = v3
          ∧ r.2.mem (((0 : Dev Cert.SwapFiveOutIdeal.nD).tc : Thread Cert.SwapFiveOutIdeal.nD Cert.SwapFiveOutIdeal.τ).loc Cert.SwapFiveOutIdeal.main_v44) = v4
          ∧ r.2.mem (((0 : Dev Cert.SwapFiveOutIdeal.nD).tc : Thread Cert.SwapFiveOutIdeal.nD Cert.SwapFiveOutIdeal.τ).loc Cert.SwapFiveOutIdeal.main_arg0) = m' (((0 : Dev Cert.SwapFiveOutIdeal.nD).tc : Thread Cert.SwapFiveOutIdeal.nD Cert.SwapFiveOutIdeal.τ).loc Cert.SwapFiveOutIdeal.main_arg0)
          ∧ r.2.mem (((0 : Dev Cert.SwapFiveOutIdeal.nD).tc : Thread Cert.SwapFiveOutIdeal.nD Cert.SwapFiveOutIdeal.τ).loc Cert.SwapFiveOutIdeal.main_arg1) = m' (((0 : Dev Cert.SwapFiveOutIdeal.nD).tc : Thread Cert.SwapFiveOutIdeal.nD Cert.SwapFiveOutIdeal.τ).loc Cert.SwapFiveOutIdeal.main_arg1)
          ∧ r.2.mem (((0 : Dev Cert.SwapFiveOutIdeal.nD).tc : Thread Cert.SwapFiveOutIdeal.nD Cert.SwapFiveOutIdeal.τ).loc Cert.SwapFiveOutIdeal.main_arg2) = m' (((0 : Dev Cert.SwapFiveOutIdeal.nD).tc : Thread Cert.SwapFiveOutIdeal.nD Cert.SwapFiveOutIdeal.τ).loc Cert.SwapFiveOutIdeal.main_arg2)
          ∧ r.2.mem (((0 : Dev Cert.SwapFiveOutIdeal.nD).tc : Thread Cert.SwapFiveOutIdeal.nD Cert.SwapFiveOutIdeal.τ).loc Cert.SwapFiveOutIdeal.main_arg3) = m' (((0 : Dev Cert.SwapFiveOutIdeal.nD).tc : Thread Cert.SwapFiveOutIdeal.nD Cert.SwapFiveOutIdeal.τ).loc Cert.SwapFiveOutIdeal.main_arg3)
          ∧ r.2.mem (((0 : Dev Cert.SwapFiveOutIdeal.nD).tc : Thread Cert.SwapFiveOutIdeal.nD Cert.SwapFiveOutIdeal.τ).loc Cert.SwapFiveOutIdeal.main_arg4) = m' (((0 : Dev Cert.SwapFiveOutIdeal.nD).tc : Thread Cert.SwapFiveOutIdeal.nD Cert.SwapFiveOutIdeal.τ).loc Cert.SwapFiveOutIdeal.main_arg4))

def preserves_MatDown_MatDownIdeal : Prop :=
  True

def algebraic_MatDownIdeal_MatDownGradIdeal [hMatDownIdeal : Cert.MatDownIdeal.Facts] [hMatDownGradIdeal : Cert.MatDownGradIdeal.Facts] : Prop :=
  ∀ (m : (ℓ : Loc Cert.MatDownIdeal.nD Cert.MatDownIdeal.τ Cert.MatDownIdeal.sig) → Buf (Elt Ideal) ℓ) (g : Dev Cert.MatDownIdeal.nD → PrngReg)
    (m' : (ℓ : Loc Cert.MatDownGradIdeal.nD Cert.MatDownGradIdeal.τ Cert.MatDownGradIdeal.sig) → Buf (Elt Ideal) ℓ) (g' : Dev Cert.MatDownGradIdeal.nD → PrngReg), Pre_MatDownIdeal m →
    (∀ c : Dev Cert.MatDownIdeal.nD,
      m' ((c.tc : Thread Cert.MatDownGradIdeal.nD Cert.MatDownGradIdeal.τ).loc Cert.MatDownGradIdeal.main_arg0) = m ((c.tc : Thread Cert.MatDownIdeal.nD Cert.MatDownIdeal.τ).loc Cert.MatDownIdeal.main_arg0)
      ∧ m' ((c.tc : Thread Cert.MatDownGradIdeal.nD Cert.MatDownGradIdeal.τ).loc Cert.MatDownGradIdeal.main_arg1) = m ((c.tc : Thread Cert.MatDownIdeal.nD Cert.MatDownIdeal.τ).loc Cert.MatDownIdeal.main_arg1)) →
    ∃ (v0 : (c : Dev Cert.MatDownIdeal.nD) → Buf (Elt Ideal) ((c.tc : Thread Cert.MatDownIdeal.nD Cert.MatDownIdeal.τ).loc Cert.MatDownIdeal.main_v0_0)) (v1 : (c : Dev Cert.MatDownIdeal.nD) → Buf (Elt Ideal) ((c.tc : Thread Cert.MatDownIdeal.nD Cert.MatDownIdeal.τ).loc Cert.MatDownIdeal.main_v0_1)),
      θ_run (Cert.MatDownIdeal.defs (F := Ideal)) (onTc (τ := Cert.MatDownIdeal.τ) (Cert.MatDownIdeal.main (F := Ideal))) ⟨m, fun _ => 0, g⟩ (fun r => ∀ c : Dev Cert.MatDownIdeal.nD,
          r.2.mem ((c.tc : Thread Cert.MatDownIdeal.nD Cert.MatDownIdeal.τ).loc Cert.MatDownIdeal.main_v0_0) = v0 c
          ∧ r.2.mem ((c.tc : Thread Cert.MatDownIdeal.nD Cert.MatDownIdeal.τ).loc Cert.MatDownIdeal.main_v0_1) = v1 c
          ∧ r.2.mem ((c.tc : Thread Cert.MatDownIdeal.nD Cert.MatDownIdeal.τ).loc Cert.MatDownIdeal.main_arg0) = m ((c.tc : Thread Cert.MatDownIdeal.nD Cert.MatDownIdeal.τ).loc Cert.MatDownIdeal.main_arg0)
          ∧ r.2.mem ((c.tc : Thread Cert.MatDownIdeal.nD Cert.MatDownIdeal.τ).loc Cert.MatDownIdeal.main_arg1) = m ((c.tc : Thread Cert.MatDownIdeal.nD Cert.MatDownIdeal.τ).loc Cert.MatDownIdeal.main_arg1))
      ∧ θ_run (Cert.MatDownGradIdeal.defs (F := Ideal)) (onTc (τ := Cert.MatDownGradIdeal.τ) (Cert.MatDownGradIdeal.main (F := Ideal))) ⟨m', fun _ => 0, g'⟩ (fun r => ∀ c : Dev Cert.MatDownGradIdeal.nD,
          r.2.mem ((c.tc : Thread Cert.MatDownGradIdeal.nD Cert.MatDownGradIdeal.τ).loc Cert.MatDownGradIdeal.main_v5) = v0 c
          ∧ r.2.mem ((c.tc : Thread Cert.MatDownGradIdeal.nD Cert.MatDownGradIdeal.τ).loc Cert.MatDownGradIdeal.main_v6) = v1 c
          ∧ r.2.mem ((c.tc : Thread Cert.MatDownGradIdeal.nD Cert.MatDownGradIdeal.τ).loc Cert.MatDownGradIdeal.main_arg0) = m' ((c.tc : Thread Cert.MatDownGradIdeal.nD Cert.MatDownGradIdeal.τ).loc Cert.MatDownGradIdeal.main_arg0)
          ∧ r.2.mem ((c.tc : Thread Cert.MatDownGradIdeal.nD Cert.MatDownGradIdeal.τ).loc Cert.MatDownGradIdeal.main_arg1) = m' ((c.tc : Thread Cert.MatDownGradIdeal.nD Cert.MatDownGradIdeal.τ).loc Cert.MatDownGradIdeal.main_arg1))

def preserves_AdamLayers_AdamLayersIdeal : Prop :=
  True

def algebraic_AdamLayersIdeal_AdamLayersOutIdeal [hAdamLayersIdeal : Cert.AdamLayersIdeal.Facts] [hAdamLayersOutIdeal : Cert.AdamLayersOutIdeal.Facts] : Prop :=
  ∀ (m : (ℓ : Loc Cert.AdamLayersIdeal.nD Cert.AdamLayersIdeal.τ Cert.AdamLayersIdeal.sig) → Buf (Elt Ideal) ℓ) (g : Dev Cert.AdamLayersIdeal.nD → PrngReg)
    (m' : (ℓ : Loc Cert.AdamLayersOutIdeal.nD Cert.AdamLayersOutIdeal.τ Cert.AdamLayersOutIdeal.sig) → Buf (Elt Ideal) ℓ) (g' : Dev Cert.AdamLayersOutIdeal.nD → PrngReg), Pre_AdamLayersIdeal m →
    (∀ c : Dev Cert.AdamLayersIdeal.nD,
      m' ((c.tc : Thread Cert.AdamLayersOutIdeal.nD Cert.AdamLayersOutIdeal.τ).loc Cert.AdamLayersOutIdeal.main_arg0) = m ((c.tc : Thread Cert.AdamLayersIdeal.nD Cert.AdamLayersIdeal.τ).loc Cert.AdamLayersIdeal.main_arg0)
      ∧ m' ((c.tc : Thread Cert.AdamLayersOutIdeal.nD Cert.AdamLayersOutIdeal.τ).loc Cert.AdamLayersOutIdeal.main_arg1) = m ((c.tc : Thread Cert.AdamLayersIdeal.nD Cert.AdamLayersIdeal.τ).loc Cert.AdamLayersIdeal.main_arg1)
      ∧ m' ((c.tc : Thread Cert.AdamLayersOutIdeal.nD Cert.AdamLayersOutIdeal.τ).loc Cert.AdamLayersOutIdeal.main_arg2) = m ((c.tc : Thread Cert.AdamLayersIdeal.nD Cert.AdamLayersIdeal.τ).loc Cert.AdamLayersIdeal.main_arg2)
      ∧ m' ((c.tc : Thread Cert.AdamLayersOutIdeal.nD Cert.AdamLayersOutIdeal.τ).loc Cert.AdamLayersOutIdeal.main_arg3) = m ((c.tc : Thread Cert.AdamLayersIdeal.nD Cert.AdamLayersIdeal.τ).loc Cert.AdamLayersIdeal.main_arg3)
      ∧ m' ((c.tc : Thread Cert.AdamLayersOutIdeal.nD Cert.AdamLayersOutIdeal.τ).loc Cert.AdamLayersOutIdeal.main_arg4) = m ((c.tc : Thread Cert.AdamLayersIdeal.nD Cert.AdamLayersIdeal.τ).loc Cert.AdamLayersIdeal.main_arg4)) →
    ∃ (v0 : (c : Dev Cert.AdamLayersIdeal.nD) → Buf (Elt Ideal) ((c.tc : Thread Cert.AdamLayersIdeal.nD Cert.AdamLayersIdeal.τ).loc Cert.AdamLayersIdeal.main_v0_0)) (v1 : (c : Dev Cert.AdamLayersIdeal.nD) → Buf (Elt Ideal) ((c.tc : Thread Cert.AdamLayersIdeal.nD Cert.AdamLayersIdeal.τ).loc Cert.AdamLayersIdeal.main_v0_1)) (v2 : (c : Dev Cert.AdamLayersIdeal.nD) → Buf (Elt Ideal) ((c.tc : Thread Cert.AdamLayersIdeal.nD Cert.AdamLayersIdeal.τ).loc Cert.AdamLayersIdeal.main_v0_2)) (v3 : (c : Dev Cert.AdamLayersIdeal.nD) → Buf (Elt Ideal) ((c.tc : Thread Cert.AdamLayersIdeal.nD Cert.AdamLayersIdeal.τ).loc Cert.AdamLayersIdeal.main_v0_3)),
      θ_run (Cert.AdamLayersIdeal.defs (F := Ideal)) (onTc (τ := Cert.AdamLayersIdeal.τ) (Cert.AdamLayersIdeal.main (F := Ideal))) ⟨m, fun _ => 0, g⟩ (fun r => ∀ c : Dev Cert.AdamLayersIdeal.nD,
          r.2.mem ((c.tc : Thread Cert.AdamLayersIdeal.nD Cert.AdamLayersIdeal.τ).loc Cert.AdamLayersIdeal.main_v0_0) = v0 c
          ∧ r.2.mem ((c.tc : Thread Cert.AdamLayersIdeal.nD Cert.AdamLayersIdeal.τ).loc Cert.AdamLayersIdeal.main_v0_1) = v1 c
          ∧ r.2.mem ((c.tc : Thread Cert.AdamLayersIdeal.nD Cert.AdamLayersIdeal.τ).loc Cert.AdamLayersIdeal.main_v0_2) = v2 c
          ∧ r.2.mem ((c.tc : Thread Cert.AdamLayersIdeal.nD Cert.AdamLayersIdeal.τ).loc Cert.AdamLayersIdeal.main_v0_3) = v3 c
          ∧ r.2.mem ((c.tc : Thread Cert.AdamLayersIdeal.nD Cert.AdamLayersIdeal.τ).loc Cert.AdamLayersIdeal.main_arg0) = m ((c.tc : Thread Cert.AdamLayersIdeal.nD Cert.AdamLayersIdeal.τ).loc Cert.AdamLayersIdeal.main_arg0)
          ∧ r.2.mem ((c.tc : Thread Cert.AdamLayersIdeal.nD Cert.AdamLayersIdeal.τ).loc Cert.AdamLayersIdeal.main_arg1) = m ((c.tc : Thread Cert.AdamLayersIdeal.nD Cert.AdamLayersIdeal.τ).loc Cert.AdamLayersIdeal.main_arg1)
          ∧ r.2.mem ((c.tc : Thread Cert.AdamLayersIdeal.nD Cert.AdamLayersIdeal.τ).loc Cert.AdamLayersIdeal.main_arg2) = m ((c.tc : Thread Cert.AdamLayersIdeal.nD Cert.AdamLayersIdeal.τ).loc Cert.AdamLayersIdeal.main_arg2)
          ∧ r.2.mem ((c.tc : Thread Cert.AdamLayersIdeal.nD Cert.AdamLayersIdeal.τ).loc Cert.AdamLayersIdeal.main_arg3) = m ((c.tc : Thread Cert.AdamLayersIdeal.nD Cert.AdamLayersIdeal.τ).loc Cert.AdamLayersIdeal.main_arg3)
          ∧ r.2.mem ((c.tc : Thread Cert.AdamLayersIdeal.nD Cert.AdamLayersIdeal.τ).loc Cert.AdamLayersIdeal.main_arg4) = m ((c.tc : Thread Cert.AdamLayersIdeal.nD Cert.AdamLayersIdeal.τ).loc Cert.AdamLayersIdeal.main_arg4))
      ∧ θ_run (Cert.AdamLayersOutIdeal.defs (F := Ideal)) (onTc (τ := Cert.AdamLayersOutIdeal.τ) (Cert.AdamLayersOutIdeal.main (F := Ideal))) ⟨m', fun _ => 0, g'⟩ (fun r => ∀ c : Dev Cert.AdamLayersOutIdeal.nD,
          r.2.mem ((c.tc : Thread Cert.AdamLayersOutIdeal.nD Cert.AdamLayersOutIdeal.τ).loc Cert.AdamLayersOutIdeal.main_v2) = v0 c
          ∧ r.2.mem ((c.tc : Thread Cert.AdamLayersOutIdeal.nD Cert.AdamLayersOutIdeal.τ).loc Cert.AdamLayersOutIdeal.main_v26) = v1 c
          ∧ r.2.mem ((c.tc : Thread Cert.AdamLayersOutIdeal.nD Cert.AdamLayersOutIdeal.τ).loc Cert.AdamLayersOutIdeal.main_v7) = v2 c
          ∧ r.2.mem ((c.tc : Thread Cert.AdamLayersOutIdeal.nD Cert.AdamLayersOutIdeal.τ).loc Cert.AdamLayersOutIdeal.main_v13) = v3 c
          ∧ r.2.mem ((c.tc : Thread Cert.AdamLayersOutIdeal.nD Cert.AdamLayersOutIdeal.τ).loc Cert.AdamLayersOutIdeal.main_arg0) = m' ((c.tc : Thread Cert.AdamLayersOutIdeal.nD Cert.AdamLayersOutIdeal.τ).loc Cert.AdamLayersOutIdeal.main_arg0)
          ∧ r.2.mem ((c.tc : Thread Cert.AdamLayersOutIdeal.nD Cert.AdamLayersOutIdeal.τ).loc Cert.AdamLayersOutIdeal.main_arg1) = m' ((c.tc : Thread Cert.AdamLayersOutIdeal.nD Cert.AdamLayersOutIdeal.τ).loc Cert.AdamLayersOutIdeal.main_arg1)
          ∧ r.2.mem ((c.tc : Thread Cert.AdamLayersOutIdeal.nD Cert.AdamLayersOutIdeal.τ).loc Cert.AdamLayersOutIdeal.main_arg2) = m' ((c.tc : Thread Cert.AdamLayersOutIdeal.nD Cert.AdamLayersOutIdeal.τ).loc Cert.AdamLayersOutIdeal.main_arg2)
          ∧ r.2.mem ((c.tc : Thread Cert.AdamLayersOutIdeal.nD Cert.AdamLayersOutIdeal.τ).loc Cert.AdamLayersOutIdeal.main_arg3) = m' ((c.tc : Thread Cert.AdamLayersOutIdeal.nD Cert.AdamLayersOutIdeal.τ).loc Cert.AdamLayersOutIdeal.main_arg3)
          ∧ r.2.mem ((c.tc : Thread Cert.AdamLayersOutIdeal.nD Cert.AdamLayersOutIdeal.τ).loc Cert.AdamLayersOutIdeal.main_arg4) = m' ((c.tc : Thread Cert.AdamLayersOutIdeal.nD Cert.AdamLayersOutIdeal.τ).loc Cert.AdamLayersOutIdeal.main_arg4))

def preserves_AdamSmall_AdamSmallIdeal : Prop :=
  True

def algebraic_AdamSmallIdeal_AdamSmallOutIdeal [hAdamSmallIdeal : Cert.AdamSmallIdeal.Facts] [hAdamSmallOutIdeal : Cert.AdamSmallOutIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallOutIdeal.nD Cert.AdamSmallOutIdeal.τ Cert.AdamSmallOutIdeal.sig) → Buf (Elt Ideal) ℓ) (g' : Dev Cert.AdamSmallOutIdeal.nD → PrngReg), Pre_AdamSmallIdeal m →
    (∀ c : Dev Cert.AdamSmallIdeal.nD,
      m' ((c.tc : Thread Cert.AdamSmallOutIdeal.nD Cert.AdamSmallOutIdeal.τ).loc Cert.AdamSmallOutIdeal.main_arg0) = m ((c.tc : Thread Cert.AdamSmallIdeal.nD Cert.AdamSmallIdeal.τ).loc Cert.AdamSmallIdeal.main_arg0)
      ∧ m' ((c.tc : Thread Cert.AdamSmallOutIdeal.nD Cert.AdamSmallOutIdeal.τ).loc Cert.AdamSmallOutIdeal.main_arg1) = m ((c.tc : Thread Cert.AdamSmallIdeal.nD Cert.AdamSmallIdeal.τ).loc Cert.AdamSmallIdeal.main_arg1)
      ∧ m' ((c.tc : Thread Cert.AdamSmallOutIdeal.nD Cert.AdamSmallOutIdeal.τ).loc Cert.AdamSmallOutIdeal.main_arg2) = m ((c.tc : Thread Cert.AdamSmallIdeal.nD Cert.AdamSmallIdeal.τ).loc Cert.AdamSmallIdeal.main_arg2)
      ∧ m' ((c.tc : Thread Cert.AdamSmallOutIdeal.nD Cert.AdamSmallOutIdeal.τ).loc Cert.AdamSmallOutIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallOutIdeal.defs (F := Ideal)) (onTc (τ := Cert.AdamSmallOutIdeal.τ) (Cert.AdamSmallOutIdeal.main (F := Ideal))) ⟨m', fun _ => 0, g'⟩ (fun r => ∀ c : Dev Cert.AdamSmallOutIdeal.nD,
          r.2.mem ((c.tc : Thread Cert.AdamSmallOutIdeal.nD Cert.AdamSmallOutIdeal.τ).loc Cert.AdamSmallOutIdeal.main_v23) = v0 c
          ∧ r.2.mem ((c.tc : Thread Cert.AdamSmallOutIdeal.nD Cert.AdamSmallOutIdeal.τ).loc Cert.AdamSmallOutIdeal.main_v4) = v1 c
          ∧ r.2.mem ((c.tc : Thread Cert.AdamSmallOutIdeal.nD Cert.AdamSmallOutIdeal.τ).loc Cert.AdamSmallOutIdeal.main_v10) = v2 c
          ∧ r.2.mem ((c.tc : Thread Cert.AdamSmallOutIdeal.nD Cert.AdamSmallOutIdeal.τ).loc Cert.AdamSmallOutIdeal.main_arg0) = m' ((c.tc : Thread Cert.AdamSmallOutIdeal.nD Cert.AdamSmallOutIdeal.τ).loc Cert.AdamSmallOutIdeal.main_arg0)
          ∧ r.2.mem ((c.tc : Thread Cert.AdamSmallOutIdeal.nD Cert.AdamSmallOutIdeal.τ).loc Cert.AdamSmallOutIdeal.main_arg1) = m' ((c.tc : Thread Cert.AdamSmallOutIdeal.nD Cert.AdamSmallOutIdeal.τ).loc Cert.AdamSmallOutIdeal.main_arg1)
          ∧ r.2.mem ((c.tc : Thread Cert.AdamSmallOutIdeal.nD Cert.AdamSmallOutIdeal.τ).loc Cert.AdamSmallOutIdeal.main_arg2) = m' ((c.tc : Thread Cert.AdamSmallOutIdeal.nD Cert.AdamSmallOutIdeal.τ).loc Cert.AdamSmallOutIdeal.main_arg2)
          ∧ r.2.mem ((c.tc : Thread Cert.AdamSmallOutIdeal.nD Cert.AdamSmallOutIdeal.τ).loc Cert.AdamSmallOutIdeal.main_arg3) = m' ((c.tc : Thread Cert.AdamSmallOutIdeal.nD Cert.AdamSmallOutIdeal.τ).loc Cert.AdamSmallOutIdeal.main_arg3))

def preserves_SumSmall_SumSmallIdeal : Prop :=
  True

def algebraic_SumSmallIdeal_SumSmallOutIdeal [hSumSmallIdeal : Cert.SumSmallIdeal.Facts] [hSumSmallOutIdeal : Cert.SumSmallOutIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallOutIdeal.nD Cert.SumSmallOutIdeal.τ Cert.SumSmallOutIdeal.sig) → Buf (Elt Ideal) ℓ) (g' : Dev Cert.SumSmallOutIdeal.nD → PrngReg), Pre_SumSmallIdeal m →
    (∀ c : Dev Cert.SumSmallIdeal.nD,
      m' ((c.tc : Thread Cert.SumSmallOutIdeal.nD Cert.SumSmallOutIdeal.τ).loc Cert.SumSmallOutIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallOutIdeal.defs (F := Ideal)) (onTc (τ := Cert.SumSmallOutIdeal.τ) (Cert.SumSmallOutIdeal.main (F := Ideal))) ⟨m', fun _ => 0, g'⟩ (fun r => ∀ c : Dev Cert.SumSmallOutIdeal.nD,
          r.2.mem ((c.tc : Thread Cert.SumSmallOutIdeal.nD Cert.SumSmallOutIdeal.τ).loc Cert.SumSmallOutIdeal.main_v0) = v0 c
          ∧ r.2.mem ((c.tc : Thread Cert.SumSmallOutIdeal.nD Cert.SumSmallOutIdeal.τ).loc Cert.SumSmallOutIdeal.main_arg0) = m' ((c.tc : Thread Cert.SumSmallOutIdeal.nD Cert.SumSmallOutIdeal.τ).loc Cert.SumSmallOutIdeal.main_arg0))

def preserves_PairSum_PairSumIdeal : Prop :=
  True

def algebraic_PairSumIdeal_PairSumOutIdeal [hPairSumIdeal : Cert.PairSumIdeal.Facts] [hPairSumOutIdeal : Cert.PairSumOutIdeal.Facts] [hPre_core_named : Cert.Pre_core_named.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumOutIdeal.nD Cert.PairSumOutIdeal.τ Cert.PairSumOutIdeal.sig) → Buf (Elt Ideal) ℓ) (g' : Dev Cert.PairSumOutIdeal.nD → PrngReg), Pre_PairSumIdeal m →
    (∀ c : Dev Cert.PairSumIdeal.nD,
      m' ((c.tc : Thread Cert.PairSumOutIdeal.nD Cert.PairSumOutIdeal.τ).loc Cert.PairSumOutIdeal.main_arg0) = m ((c.tc : Thread Cert.PairSumIdeal.nD Cert.PairSumIdeal.τ).loc Cert.PairSumIdeal.main_arg0)
      ∧ m' ((c.tc : Thread Cert.PairSumOutIdeal.nD Cert.PairSumOutIdeal.τ).loc Cert.PairSumOutIdeal.main_arg1) = m ((c.tc : Thread Cert.PairSumIdeal.nD Cert.PairSumIdeal.τ).loc Cert.PairSumIdeal.main_arg1)
      ∧ m' ((c.tc : Thread Cert.PairSumOutIdeal.nD Cert.PairSumOutIdeal.τ).loc Cert.PairSumOutIdeal.main_arg2) = m ((c.tc : Thread Cert.PairSumIdeal.nD Cert.PairSumIdeal.τ).loc Cert.PairSumIdeal.main_arg2)) →
    ∃ (v0 : (c : Dev Cert.PairSumIdeal.nD) → Buf (Elt Ideal) ((c.tc : Thread Cert.PairSumIdeal.nD Cert.PairSumIdeal.τ).loc Cert.PairSumIdeal.main_v0)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v0) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
          ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ θ_run (Cert.PairSumOutIdeal.defs (F := Ideal)) (onTc (τ := Cert.PairSumOutIdeal.τ) (Cert.PairSumOutIdeal.main (F := Ideal))) ⟨m', fun _ => 0, g'⟩ (fun r => ∀ c : Dev Cert.PairSumOutIdeal.nD,
          r.2.mem ((c.tc : Thread Cert.PairSumOutIdeal.nD Cert.PairSumOutIdeal.τ).loc Cert.PairSumOutIdeal.main_v8) = v0 c
          ∧ r.2.mem ((c.tc : Thread Cert.PairSumOutIdeal.nD Cert.PairSumOutIdeal.τ).loc Cert.PairSumOutIdeal.main_arg0) = m' ((c.tc : Thread Cert.PairSumOutIdeal.nD Cert.PairSumOutIdeal.τ).loc Cert.PairSumOutIdeal.main_arg0)
          ∧ r.2.mem ((c.tc : Thread Cert.PairSumOutIdeal.nD Cert.PairSumOutIdeal.τ).loc Cert.PairSumOutIdeal.main_arg1) = m' ((c.tc : Thread Cert.PairSumOutIdeal.nD Cert.PairSumOutIdeal.τ).loc Cert.PairSumOutIdeal.main_arg1)
          ∧ r.2.mem ((c.tc : Thread Cert.PairSumOutIdeal.nD Cert.PairSumOutIdeal.τ).loc Cert.PairSumOutIdeal.main_arg2) = m' ((c.tc : Thread Cert.PairSumOutIdeal.nD Cert.PairSumOutIdeal.τ).loc Cert.PairSumOutIdeal.main_arg2))

def Claim : Prop :=
  ∃ (hConformerBwd : Cert.ConformerBwd.Facts) (hConformerBwdIdeal : Cert.ConformerBwdIdeal.Facts) (hConformerGradIdeal : Cert.ConformerGradIdeal.Facts) (hAttnBwd : Cert.AttnBwd.Facts) (hAttnBwdIdeal : Cert.AttnBwdIdeal.Facts) (hAttnGradIdeal : Cert.AttnGradIdeal.Facts) (hLnSiluBwd : Cert.LnSiluBwd.Facts) (hLnSiluBwdIdeal : Cert.LnSiluBwdIdeal.Facts) (hLnSiluGradIdeal : Cert.LnSiluGradIdeal.Facts) (hLossHead : Cert.LossHead.Facts) (hLossHeadIdeal : Cert.LossHeadIdeal.Facts) (hLossGradIdeal : Cert.LossGradIdeal.Facts) (hNormUpBwd : Cert.NormUpBwd.Facts) (hNormUpBwdIdeal : Cert.NormUpBwdIdeal.Facts) (hNormUpGradIdeal : Cert.NormUpGradIdeal.Facts) (hNormQBwd : Cert.NormQBwd.Facts) (hNormQBwdIdeal : Cert.NormQBwdIdeal.Facts) (hNormQGradIdeal : Cert.NormQGradIdeal.Facts) (hNormInBwd : Cert.NormInBwd.Facts) (hNormInBwdIdeal : Cert.NormInBwdIdeal.Facts) (hNormInGradIdeal : Cert.NormInGradIdeal.Facts) (hSqreluBwd : Cert.SqreluBwd.Facts) (hSqreluBwdIdeal : Cert.SqreluBwdIdeal.Facts) (hSqreluGradIdeal : Cert.SqreluGradIdeal.Facts) (hRmsMemBwd : Cert.RmsMemBwd.Facts) (hRmsMemBwdIdeal : Cert.RmsMemBwdIdeal.Facts) (hRmsMemGradIdeal : Cert.RmsMemGradIdeal.Facts) (hAttnFwd : Cert.AttnFwd.Facts) (hAttnFwdIdeal : Cert.AttnFwdIdeal.Facts) (hAttnOutIdeal : Cert.AttnOutIdeal.Facts) (hConformerFwd : Cert.ConformerFwd.Facts) (hConformerFwdIdeal : Cert.ConformerFwdIdeal.Facts) (hConformerOutIdeal : Cert.ConformerOutIdeal.Facts) (hLnSiluFwd : Cert.LnSiluFwd.Facts) (hLnSiluFwdIdeal : Cert.LnSiluFwdIdeal.Facts) (hLnSiluOutIdeal : Cert.LnSiluOutIdeal.Facts) (hRmsFwd : Cert.RmsFwd.Facts) (hRmsFwdIdeal : Cert.RmsFwdIdeal.Facts) (hRmsOutIdeal : Cert.RmsOutIdeal.Facts) (hNormOutFwd : Cert.NormOutFwd.Facts) (hNormOutFwdIdeal : Cert.NormOutFwdIdeal.Facts) (hNormOutOutIdeal : Cert.NormOutOutIdeal.Facts) (hNormDownFwd : Cert.NormDownFwd.Facts) (hNormDownFwdIdeal : Cert.NormDownFwdIdeal.Facts) (hNormDownOutIdeal : Cert.NormDownOutIdeal.Facts) (hSqreluFwd : Cert.SqreluFwd.Facts) (hSqreluFwdIdeal : Cert.SqreluFwdIdeal.Facts) (hSqreluOutIdeal : Cert.SqreluOutIdeal.Facts) (hShortConvBwd : Cert.ShortConvBwd.Facts) (hShortConvBwdIdeal : Cert.ShortConvBwdIdeal.Facts) (hShortConvGradIdeal : Cert.ShortConvGradIdeal.Facts) (hShortConvFwd : Cert.ShortConvFwd.Facts) (hShortConvFwdIdeal : Cert.ShortConvFwdIdeal.Facts) (hShortConvOutIdeal : Cert.ShortConvOutIdeal.Facts) (hSwapHalves : Cert.SwapHalves.Facts) (hSwapHalvesIdeal : Cert.SwapHalvesIdeal.Facts) (hSwapOutIdeal : Cert.SwapOutIdeal.Facts) (hSwapFive : Cert.SwapFive.Facts) (hSwapFiveIdeal : Cert.SwapFiveIdeal.Facts) (hSwapFiveOutIdeal : Cert.SwapFiveOutIdeal.Facts) (hMatDown : Cert.MatDown.Facts) (hMatDownIdeal : Cert.MatDownIdeal.Facts) (hMatDownGradIdeal : Cert.MatDownGradIdeal.Facts) (hAdamLayers : Cert.AdamLayers.Facts) (hAdamLayersIdeal : Cert.AdamLayersIdeal.Facts) (hAdamLayersOutIdeal : Cert.AdamLayersOutIdeal.Facts) (hAdamSmall : Cert.AdamSmall.Facts) (hAdamSmallIdeal : Cert.AdamSmallIdeal.Facts) (hAdamSmallOutIdeal : Cert.AdamSmallOutIdeal.Facts) (hSumSmall : Cert.SumSmall.Facts) (hSumSmallIdeal : Cert.SumSmallIdeal.Facts) (hSumSmallOutIdeal : Cert.SumSmallOutIdeal.Facts) (hPairSum : Cert.PairSum.Facts) (hPairSumIdeal : Cert.PairSumIdeal.Facts) (hPairSumOutIdeal : Cert.PairSumOutIdeal.Facts) (hPre_attn_finite : Cert.Pre_attn_finite.Facts) (hPre_ln_finite : Cert.Pre_ln_finite.Facts) (hPre_core_named : Cert.Pre_core_named.Facts),
    quiescent_ConformerBwd (hConformerBwd := hConformerBwd)
    ∧ quiescent_ConformerBwdIdeal (hConformerBwdIdeal := hConformerBwdIdeal)
    ∧ quiescent_ConformerGradIdeal (hConformerGradIdeal := hConformerGradIdeal)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnGradIdeal (hAttnGradIdeal := hAttnGradIdeal)
    ∧ quiescent_AttnGradIdeal_pre_attn_finite (hAttnGradIdeal := hAttnGradIdeal) (hPre_attn_finite := hPre_attn_finite)
    ∧ quiescent_LnSiluBwd (hLnSiluBwd := hLnSiluBwd)
    ∧ quiescent_LnSiluBwdIdeal (hLnSiluBwdIdeal := hLnSiluBwdIdeal)
    ∧ quiescent_LnSiluBwdIdeal_pre_ln_finite (hLnSiluBwdIdeal := hLnSiluBwdIdeal) (hPre_ln_finite := hPre_ln_finite)
    ∧ quiescent_LnSiluGradIdeal (hLnSiluGradIdeal := hLnSiluGradIdeal)
    ∧ quiescent_LnSiluGradIdeal_pre_ln_finite (hLnSiluGradIdeal := hLnSiluGradIdeal) (hPre_ln_finite := hPre_ln_finite)
    ∧ quiescent_LossHead (hLossHead := hLossHead)
    ∧ quiescent_LossHeadIdeal (hLossHeadIdeal := hLossHeadIdeal)
    ∧ quiescent_LossGradIdeal (hLossGradIdeal := hLossGradIdeal)
    ∧ quiescent_NormUpBwd (hNormUpBwd := hNormUpBwd)
    ∧ quiescent_NormUpBwdIdeal (hNormUpBwdIdeal := hNormUpBwdIdeal)
    ∧ quiescent_NormUpGradIdeal (hNormUpGradIdeal := hNormUpGradIdeal)
    ∧ quiescent_NormQBwd (hNormQBwd := hNormQBwd)
    ∧ quiescent_NormQBwdIdeal (hNormQBwdIdeal := hNormQBwdIdeal)
    ∧ quiescent_NormQGradIdeal (hNormQGradIdeal := hNormQGradIdeal)
    ∧ quiescent_NormInBwd (hNormInBwd := hNormInBwd)
    ∧ quiescent_NormInBwdIdeal (hNormInBwdIdeal := hNormInBwdIdeal)
    ∧ quiescent_NormInGradIdeal (hNormInGradIdeal := hNormInGradIdeal)
    ∧ quiescent_SqreluBwd (hSqreluBwd := hSqreluBwd)
    ∧ quiescent_SqreluBwdIdeal (hSqreluBwdIdeal := hSqreluBwdIdeal)
    ∧ quiescent_SqreluGradIdeal (hSqreluGradIdeal := hSqreluGradIdeal)
    ∧ quiescent_RmsMemBwd (hRmsMemBwd := hRmsMemBwd)
    ∧ quiescent_RmsMemBwdIdeal (hRmsMemBwdIdeal := hRmsMemBwdIdeal)
    ∧ quiescent_RmsMemGradIdeal (hRmsMemGradIdeal := hRmsMemGradIdeal)
    ∧ quiescent_AttnFwd (hAttnFwd := hAttnFwd)
    ∧ quiescent_AttnFwdIdeal (hAttnFwdIdeal := hAttnFwdIdeal)
    ∧ quiescent_AttnOutIdeal (hAttnOutIdeal := hAttnOutIdeal)
    ∧ quiescent_ConformerFwd (hConformerFwd := hConformerFwd)
    ∧ quiescent_ConformerFwdIdeal (hConformerFwdIdeal := hConformerFwdIdeal)
    ∧ quiescent_ConformerOutIdeal (hConformerOutIdeal := hConformerOutIdeal)
    ∧ quiescent_LnSiluFwd (hLnSiluFwd := hLnSiluFwd)
    ∧ quiescent_LnSiluFwdIdeal (hLnSiluFwdIdeal := hLnSiluFwdIdeal)
    ∧ quiescent_LnSiluOutIdeal (hLnSiluOutIdeal := hLnSiluOutIdeal)
    ∧ quiescent_RmsFwd (hRmsFwd := hRmsFwd)
    ∧ quiescent_RmsFwdIdeal (hRmsFwdIdeal := hRmsFwdIdeal)
    ∧ quiescent_RmsOutIdeal (hRmsOutIdeal := hRmsOutIdeal)
    ∧ quiescent_NormOutFwd (hNormOutFwd := hNormOutFwd)
    ∧ quiescent_NormOutFwdIdeal (hNormOutFwdIdeal := hNormOutFwdIdeal)
    ∧ quiescent_NormOutOutIdeal (hNormOutOutIdeal := hNormOutOutIdeal)
    ∧ quiescent_NormDownFwd (hNormDownFwd := hNormDownFwd)
    ∧ quiescent_NormDownFwdIdeal (hNormDownFwdIdeal := hNormDownFwdIdeal)
    ∧ quiescent_NormDownOutIdeal (hNormDownOutIdeal := hNormDownOutIdeal)
    ∧ quiescent_SqreluFwd (hSqreluFwd := hSqreluFwd)
    ∧ quiescent_SqreluFwdIdeal (hSqreluFwdIdeal := hSqreluFwdIdeal)
    ∧ quiescent_SqreluOutIdeal (hSqreluOutIdeal := hSqreluOutIdeal)
    ∧ quiescent_ShortConvBwd (hShortConvBwd := hShortConvBwd)
    ∧ quiescent_ShortConvBwdIdeal (hShortConvBwdIdeal := hShortConvBwdIdeal)
    ∧ quiescent_ShortConvGradIdeal (hShortConvGradIdeal := hShortConvGradIdeal)
    ∧ quiescent_ShortConvFwd (hShortConvFwd := hShortConvFwd)
    ∧ quiescent_ShortConvFwdIdeal (hShortConvFwdIdeal := hShortConvFwdIdeal)
    ∧ quiescent_ShortConvOutIdeal (hShortConvOutIdeal := hShortConvOutIdeal)
    ∧ quiescent_SwapHalves (hSwapHalves := hSwapHalves)
    ∧ quiescent_SwapHalvesIdeal (hSwapHalvesIdeal := hSwapHalvesIdeal)
    ∧ quiescent_SwapOutIdeal (hSwapOutIdeal := hSwapOutIdeal)
    ∧ quiescent_SwapFive (hSwapFive := hSwapFive)
    ∧ quiescent_SwapFiveIdeal (hSwapFiveIdeal := hSwapFiveIdeal)
    ∧ quiescent_SwapFiveOutIdeal (hSwapFiveOutIdeal := hSwapFiveOutIdeal)
    ∧ quiescent_MatDown (hMatDown := hMatDown)
    ∧ quiescent_MatDownIdeal (hMatDownIdeal := hMatDownIdeal)
    ∧ quiescent_MatDownGradIdeal (hMatDownGradIdeal := hMatDownGradIdeal)
    ∧ quiescent_AdamLayers (hAdamLayers := hAdamLayers)
    ∧ quiescent_AdamLayersIdeal (hAdamLayersIdeal := hAdamLayersIdeal)
    ∧ quiescent_AdamLayersOutIdeal (hAdamLayersOutIdeal := hAdamLayersOutIdeal)
    ∧ quiescent_AdamSmall (hAdamSmall := hAdamSmall)
    ∧ quiescent_AdamSmallIdeal (hAdamSmallIdeal := hAdamSmallIdeal)
    ∧ quiescent_AdamSmallOutIdeal (hAdamSmallOutIdeal := hAdamSmallOutIdeal)
    ∧ quiescent_SumSmall (hSumSmall := hSumSmall)
    ∧ quiescent_SumSmallIdeal (hSumSmallIdeal := hSumSmallIdeal)
    ∧ quiescent_SumSmallOutIdeal (hSumSmallOutIdeal := hSumSmallOutIdeal)
    ∧ quiescent_PairSum (hPairSum := hPairSum) (hPre_core_named := hPre_core_named)
    ∧ quiescent_PairSumIdeal (hPairSumIdeal := hPairSumIdeal) (hPre_core_named := hPre_core_named)
    ∧ quiescent_PairSumOutIdeal (hPairSumOutIdeal := hPairSumOutIdeal)
    ∧ quiescent_PairSumOutIdeal_pre_core_named (hPairSumOutIdeal := hPairSumOutIdeal) (hPre_core_named := hPre_core_named)
    ∧ preserves_ConformerBwd_ConformerBwdIdeal
    ∧ algebraic_ConformerBwdIdeal_ConformerGradIdeal (hConformerBwdIdeal := hConformerBwdIdeal) (hConformerGradIdeal := hConformerGradIdeal)
    ∧ preserves_AttnBwd_AttnBwdIdeal
    ∧ algebraic_AttnBwdIdeal_AttnGradIdeal_pre_attn_finite (hAttnBwdIdeal := hAttnBwdIdeal) (hAttnGradIdeal := hAttnGradIdeal) (hPre_attn_finite := hPre_attn_finite)
    ∧ preserves_LnSiluBwd_LnSiluBwdIdeal
    ∧ algebraic_LnSiluBwdIdeal_LnSiluGradIdeal_pre_ln_finite (hLnSiluBwdIdeal := hLnSiluBwdIdeal) (hLnSiluGradIdeal := hLnSiluGradIdeal) (hPre_ln_finite := hPre_ln_finite)
    ∧ preserves_LossHead_LossHeadIdeal
    ∧ algebraic_LossHeadIdeal_LossGradIdeal (hLossHeadIdeal := hLossHeadIdeal) (hLossGradIdeal := hLossGradIdeal)
    ∧ preserves_NormUpBwd_NormUpBwdIdeal
    ∧ algebraic_NormUpBwdIdeal_NormUpGradIdeal (hNormUpBwdIdeal := hNormUpBwdIdeal) (hNormUpGradIdeal := hNormUpGradIdeal)
    ∧ preserves_NormQBwd_NormQBwdIdeal
    ∧ algebraic_NormQBwdIdeal_NormQGradIdeal (hNormQBwdIdeal := hNormQBwdIdeal) (hNormQGradIdeal := hNormQGradIdeal)
    ∧ preserves_NormInBwd_NormInBwdIdeal
    ∧ algebraic_NormInBwdIdeal_NormInGradIdeal (hNormInBwdIdeal := hNormInBwdIdeal) (hNormInGradIdeal := hNormInGradIdeal)
    ∧ preserves_SqreluBwd_SqreluBwdIdeal
    ∧ algebraic_SqreluBwdIdeal_SqreluGradIdeal (hSqreluBwdIdeal := hSqreluBwdIdeal) (hSqreluGradIdeal := hSqreluGradIdeal)
    ∧ preserves_RmsMemBwd_RmsMemBwdIdeal
    ∧ algebraic_RmsMemBwdIdeal_RmsMemGradIdeal (hRmsMemBwdIdeal := hRmsMemBwdIdeal) (hRmsMemGradIdeal := hRmsMemGradIdeal)
    ∧ preserves_AttnFwd_AttnFwdIdeal
    ∧ algebraic_AttnFwdIdeal_AttnOutIdeal (hAttnFwdIdeal := hAttnFwdIdeal) (hAttnOutIdeal := hAttnOutIdeal)
    ∧ preserves_ConformerFwd_ConformerFwdIdeal
    ∧ algebraic_ConformerFwdIdeal_ConformerOutIdeal (hConformerFwdIdeal := hConformerFwdIdeal) (hConformerOutIdeal := hConformerOutIdeal)
    ∧ preserves_LnSiluFwd_LnSiluFwdIdeal
    ∧ algebraic_LnSiluFwdIdeal_LnSiluOutIdeal (hLnSiluFwdIdeal := hLnSiluFwdIdeal) (hLnSiluOutIdeal := hLnSiluOutIdeal)
    ∧ preserves_RmsFwd_RmsFwdIdeal
    ∧ algebraic_RmsFwdIdeal_RmsOutIdeal (hRmsFwdIdeal := hRmsFwdIdeal) (hRmsOutIdeal := hRmsOutIdeal)
    ∧ preserves_NormOutFwd_NormOutFwdIdeal
    ∧ algebraic_NormOutFwdIdeal_NormOutOutIdeal (hNormOutFwdIdeal := hNormOutFwdIdeal) (hNormOutOutIdeal := hNormOutOutIdeal)
    ∧ preserves_NormDownFwd_NormDownFwdIdeal
    ∧ algebraic_NormDownFwdIdeal_NormDownOutIdeal (hNormDownFwdIdeal := hNormDownFwdIdeal) (hNormDownOutIdeal := hNormDownOutIdeal)
    ∧ preserves_SqreluFwd_SqreluFwdIdeal
    ∧ algebraic_SqreluFwdIdeal_SqreluOutIdeal (hSqreluFwdIdeal := hSqreluFwdIdeal) (hSqreluOutIdeal := hSqreluOutIdeal)
    ∧ preserves_ShortConvBwd_ShortConvBwdIdeal
    ∧ algebraic_ShortConvBwdIdeal_ShortConvGradIdeal (hShortConvBwdIdeal := hShortConvBwdIdeal) (hShortConvGradIdeal := hShortConvGradIdeal)
    ∧ preserves_ShortConvFwd_ShortConvFwdIdeal
    ∧ algebraic_ShortConvFwdIdeal_ShortConvOutIdeal (hShortConvFwdIdeal := hShortConvFwdIdeal) (hShortConvOutIdeal := hShortConvOutIdeal)
    ∧ preserves_SwapHalves_SwapHalvesIdeal
    ∧ algebraic_SwapHalvesIdeal_SwapOutIdeal (hSwapHalvesIdeal := hSwapHalvesIdeal) (hSwapOutIdeal := hSwapOutIdeal)
    ∧ preserves_SwapFive_SwapFiveIdeal
    ∧ algebraic_SwapFiveIdeal_SwapFiveOutIdeal (hSwapFiveIdeal := hSwapFiveIdeal) (hSwapFiveOutIdeal := hSwapFiveOutIdeal)
    ∧ preserves_MatDown_MatDownIdeal
    ∧ algebraic_MatDownIdeal_MatDownGradIdeal (hMatDownIdeal := hMatDownIdeal) (hMatDownGradIdeal := hMatDownGradIdeal)
    ∧ preserves_AdamLayers_AdamLayersIdeal
    ∧ algebraic_AdamLayersIdeal_AdamLayersOutIdeal (hAdamLayersIdeal := hAdamLayersIdeal) (hAdamLayersOutIdeal := hAdamLayersOutIdeal)
    ∧ preserves_AdamSmall_AdamSmallIdeal
    ∧ algebraic_AdamSmallIdeal_AdamSmallOutIdeal (hAdamSmallIdeal := hAdamSmallIdeal) (hAdamSmallOutIdeal := hAdamSmallOutIdeal)
    ∧ preserves_SumSmall_SumSmallIdeal
    ∧ algebraic_SumSmallIdeal_SumSmallOutIdeal (hSumSmallIdeal := hSumSmallIdeal) (hSumSmallOutIdeal := hSumSmallOutIdeal)
    ∧ preserves_PairSum_PairSumIdeal
    ∧ algebraic_PairSumIdeal_PairSumOutIdeal (hPairSumIdeal := hPairSumIdeal) (hPairSumOutIdeal := hPairSumOutIdeal) (hPre_core_named := hPre_core_named)
-- ==== Pre_attn_finite.lean ====
abbrev S4096x1024 : Shape := ⟨2, ![4096, 1024]⟩
abbrev S256x2048 : Shape := ⟨2, ![256, 2048]⟩
abbrev S_ : Shape := ⟨0, ![]⟩
abbrev S256x1024 : Shape := ⟨2, ![256, 1024]⟩

class Facts : Prop where
  bcast_S_S4096x1024 : S_.BroadcastsInDim S4096x1024 (![] : Fin 0 → Fin S4096x1024.rank)
  slices_S256x2048_S256x1024_0_0 : S256x2048.Slices ![0, 0] S256x1024
  bcast_S_S256x1024 : S_.BroadcastsInDim S256x1024 (![] : Fin 0 → Fin S256x1024.rank)

variable [Facts]

def fn {F : FTy → Type} [FloatOps F] (main_arg0 : FVec F S4096x1024 .bf16) (main_arg1 : FVec F S256x2048 .bf16) (main_arg2 : FVec F S4096x1024 .bf16) : IVec S4096x1024 1 × IVec S256x1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S256x1024 .bf16 := (extractStridedSlice S256x1024 ![0, 0] · slices_S256x2048_S256x1024_0_0) main_arg1
  let main_v4 : FVec F S256x1024 .bf16 := Host.absf main_v3
  let main_cst_0 : FVec F S_ .bf16 := constant S_ .bf16 0x7F80#16
  let main_v5 : FVec F S256x1024 .bf16 := broadcastInDim S256x1024 ![] bcast_S_S256x1024 main_cst_0
  let main_v6 : IVec S256x1024 1 := cmpf .olt main_v4 main_v5
  (main_v2, main_v6)
-- ==== Pre_core_named.lean ====
abbrev S4x1024x1024 : Shape := ⟨3, ![4, 1024, 1024]⟩
abbrev S4x512x1024 : Shape := ⟨3, ![4, 512, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : FVec F S4x1024x1024 .f32) (main_arg1 : FVec F S4x512x1024 .bf16) (main_arg2 : IVec S2 32) : IVec S_ 1 :=
  let main_v0 : IVec S1 32 := (extractStridedSlice S1 ![0] · slices_S2_S1_0) main_arg2
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S2_S1_0) main_arg2
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_ln_finite.lean ====
abbrev S4096x512 : Shape := ⟨2, ![4096, 512]⟩
abbrev S1x512 : Shape := ⟨2, ![1, 512]⟩
abbrev S4096x1024 : Shape := ⟨2, ![4096, 1024]⟩
abbrev S_ : Shape := ⟨0, ![]⟩

class Facts : Prop where
  bcast_S_S1x512 : S_.BroadcastsInDim S1x512 (![] : Fin 0 → Fin S1x512.rank)
  slices_S4096x1024_S4096x512_0_512 : S4096x1024.Slices ![0, 512] S4096x512
  bcast_S_S4096x512 : S_.BroadcastsInDim S4096x512 (![] : Fin 0 → Fin S4096x512.rank)

variable [Facts]

def fn {F : FTy → Type} [FloatOps F] (main_arg0 : FVec F S4096x512 .f32) (main_arg1 : FVec F S1x512 .f32) (main_arg2 : FVec F S1x512 .f32) (main_arg3 : FVec F S4096x1024 .f32) : IVec S1x512 1 × IVec S4096x512 1 :=
  let main_v0 : FVec F S1x512 .f32 := Host.absf main_arg1
  let main_cst : FVec F S_ .f32 := constant S_ .f32 0x7F800000#32
  let main_v1 : FVec F S1x512 .f32 := broadcastInDim S1x512 ![] bcast_S_S1x512 main_cst
  let main_v2 : IVec S1x512 1 := cmpf .olt main_v0 main_v1
  let main_v3 : FVec F S4096x512 .f32 := (extractStridedSlice S4096x512 ![0, 512] · slices_S4096x1024_S4096x512_0_512) main_arg3
  let main_v4 : FVec F S4096x512 .f32 := Host.absf main_v3
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  (main_v2, main_v6)
-- ==== ConformerBwd.lean ====
abbrev S4096x2560 : Shape := ⟨2, ![4096, 2560]⟩
abbrev S31x512 : Shape := ⟨2, ![31, 512]⟩
abbrev S4096x512 : Shape := ⟨2, ![4096, 512]⟩
abbrev S1x512 : Shape := ⟨2, ![1, 512]⟩
abbrev S4096x128 : Shape := ⟨2, ![4096, 128]⟩
abbrev S31x128 : Shape := ⟨2, ![31, 128]⟩
abbrev S1x128 : Shape := ⟨2, ![1, 128]⟩
abbrev S4128x128 : Shape := ⟨2, ![4128, 128]⟩
abbrev S32x128 : Shape := ⟨2, ![32, 128]⟩
abbrev S128 : Shape := ⟨1, ![128]⟩
abbrev S288x128 : Shape := ⟨2, ![288, 128]⟩
abbrev S256x128 : Shape := ⟨2, ![256, 128]⟩

abbrev nBuf : Space → Nat
  | .hbm => 7
  | .vmem => 18
  | .smem => 0
  | _ => 0

abbrev bufTy : (tb : Table) → Fin (tcTables nBuf tb) → BufTy
  | .hbm, ⟨0, _⟩ => ⟨S4096x2560, .f32⟩
  | .hbm, ⟨1, _⟩ => ⟨S31x512, .f32⟩
  | .hbm, ⟨2, _⟩ => ⟨S4096x512, .f32⟩
  | .hbm, ⟨3, _⟩ => ⟨S4096x512, .bf16⟩
  | .hbm, ⟨4, _⟩ => ⟨S4096x512, .bf16⟩
  | .hbm, ⟨5, _⟩ => ⟨S31x512, .f32⟩
  | .hbm, ⟨6, _⟩ => ⟨S1x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S31x128, .f32⟩
  | .local _ .vmem, ⟨5, _⟩ => ⟨S31x128, .f32⟩
  | .local _ .vmem, ⟨6, _⟩ => ⟨S4096x128, .f32⟩
  | .local _ .vmem, ⟨7, _⟩ => ⟨S4096x128, .f32⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S31x128, .f32⟩
  | .local _ .vmem, ⟨13, _⟩ => ⟨S31x128, .f32⟩
  | .local _ .vmem, ⟨14, _⟩ => ⟨S1x128, .f32⟩
  | .local _ .vmem, ⟨15, _⟩ => ⟨S1x128, .f32⟩
  | .local _ .vmem, ⟨16, _⟩ => ⟨S4128x128, .f32⟩
  | .local _ .vmem, ⟨17, _⟩ => ⟨S4128x128, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v31 : BitVec 32 := Scalar.addi c0_i32 c16_i32
  let c1_i32 : BitVec 32 := 1#32
  ⟨c0_i32, v31, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v33 : BitVec 32 := Scalar.muli arg11 c256_i32
  v33
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v33 : BitVec 32 := Scalar.muli arg11 c256_i32
  let v34 : BitVec 32 := v33
  let v35 : Index := Scalar.indexCast v34
  let c0_28 : Index := 0#32
  ![v35.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v33 : BitVec 32 := Scalar.muli arg11 c256_i32
  let v34 : BitVec 32 := v33
  let v37 : Index := Scalar.indexCast v34
  let c0_29 : Index := 0#32
  ![v37.toNat, 0]
@[reducible] def k0_t2_loop : Scf.Loop 32 :=
  let c0_i32_24 : BitVec 32 := 0#32
  let c16_i32_25 : BitVec 32 := 16#32
  let v32 : BitVec 32 := Scalar.addi c0_i32_24 c16_i32_25
  let c1_i32_26 : BitVec 32 := 1#32
  ⟨c0_i32_24, v32, c1_i32_26⟩
def k0_mult2 (k0_t2 : Fin k0_t2_loop.trips) : BitVec 32 :=
  let c0_i32_24 : BitVec 32 := 0#32
  let c1_i32_26 : BitVec 32 := 1#32
  let arg11 : BitVec 32 := Scf.iv c0_i32_24 c1_i32_26 k0_t2
  let c256_i32 : BitVec 32 := 256#32
  let v33 : BitVec 32 := Scalar.muli arg11 c256_i32
  v33
def k0_off3 (k0_t2 : Fin k0_t2_loop.trips) : Fin 2 → Nat :=
  let c0_i32_24 : BitVec 32 := 0#32
  let c1_i32_26 : BitVec 32 := 1#32
  let arg11 : BitVec 32 := Scf.iv c0_i32_24 c1_i32_26 k0_t2
  let c256_i32 : BitVec 32 := 256#32
  let v33 : BitVec 32 := Scalar.muli arg11 c256_i32
  let v34 : BitVec 32 := v33
  let v35 : Index := Scalar.indexCast v34
  let c0_28 : Index := 0#32
  ![v35.toNat, 0]
def k0_off4 (k0_t2 : Fin k0_t2_loop.trips) : Fin 2 → Nat :=
  let c0_i32_24 : BitVec 32 := 0#32
  let c1_i32_26 : BitVec 32 := 1#32
  let arg11 : BitVec 32 := Scf.iv c0_i32_24 c1_i32_26 k0_t2
  let c256_i32 : BitVec 32 := 256#32
  let v33 : BitVec 32 := Scalar.muli arg11 c256_i32
  let v34 : BitVec 32 := v33
  let v221 : Index := Scalar.indexCast v34
  let c0_61 : Index := 0#32
  ![v221.toNat, 0]
def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S31x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConformerGradIdeal.lean ====
abbrev S4096x2560 : Shape := ⟨2, ![4096, 2560]⟩
abbrev S31x512 : Shape := ⟨2, ![31, 512]⟩
abbrev S4096x512 : Shape := ⟨2, ![4096, 512]⟩
abbrev S_ : Shape := ⟨0, ![]⟩
abbrev S1x512 : Shape := ⟨2, ![1, 512]⟩
abbrev S31x4096x4096 : Shape := ⟨3, ![31, 4096, 4096]⟩
abbrev S31x4096x512 : Shape := ⟨3, ![31, 4096, 512]⟩
abbrev S31x1x512 : Shape := ⟨3, ![31, 1, 512]⟩
abbrev S512 : Shape := ⟨1, ![512]⟩
abbrev S512x4096 : Shape := ⟨2, ![512, 4096]⟩

abbrev nBuf : Space → Nat
  | .hbm => 57
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S31x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S1x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S31x4096x4096, .i32⟩
  | .hbm, ⟨21, _⟩ => ⟨S31x4096x4096, .i32⟩
  | .hbm, ⟨22, _⟩ => ⟨S_, .i32⟩
  | .hbm, ⟨23, _⟩ => ⟨S31x4096x4096, .i32⟩
  | .hbm, ⟨24, _⟩ => ⟨S31x4096x4096, .i32⟩
  | .hbm, ⟨25, _⟩ => ⟨S31x4096x4096, .i32⟩
  | .hbm, ⟨26, _⟩ => ⟨S31x4096x4096, .i32⟩
  | .hbm, ⟨27, _⟩ => ⟨S31x4096x4096, .i1⟩
  | .hbm, ⟨28, _⟩ => ⟨S31x4096x4096, .f32⟩
  | .hbm, ⟨29, _⟩ => ⟨S31x4096x512, .f32⟩
  | .hbm, ⟨30, _⟩ => ⟨S31x1x512, .f32⟩
  | .hbm, ⟨31, _⟩ => ⟨S31x4096x512, .f32⟩
  | .hbm, ⟨32, _⟩ => ⟨S31x4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S512, .f32⟩
  | .hbm, ⟨40, _⟩ => ⟨S1x512, .f32⟩
  | .hbm, ⟨41, _⟩ => ⟨S31x4096x512, .f32⟩
  | .hbm, ⟨42, _⟩ => ⟨S31x4096x512, .f32⟩
  | .hbm, ⟨43, _⟩ => ⟨S_, .f32⟩
  | .hbm, ⟨44, _⟩ => ⟨S31x512, .f32⟩
  | .hbm, ⟨45, _⟩ => ⟨S31x1x512, .f32⟩
  | .hbm, ⟨46, _⟩ => ⟨S31x4096x512, .f32⟩
  | .hbm, ⟨47, _⟩ => ⟨S31x4096x512, .f32⟩
  | .hbm, ⟨48, _⟩ => ⟨S_, .f32⟩
  | .hbm, ⟨49, _⟩ => ⟨S31x512, .f32⟩
  | .hbm, ⟨50, _⟩ => ⟨S512x4096, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .bf16⟩
  | .hbm, ⟨56, _⟩ => ⟨S4096x512, .bf16⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== AttnBwd.lean ====
abbrev S4096x1024 : Shape := ⟨2, ![4096, 1024]⟩
abbrev S256x2048 : Shape := ⟨2, ![256, 2048]⟩
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .bf16⟩
  | .hbm, ⟨4, _⟩ => ⟨S256x2048, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== AttnGradIdeal.lean ====
abbrev S4096x1024 : Shape := ⟨2, ![4096, 1024]⟩
abbrev S256x2048 : Shape := ⟨2, ![256, 2048]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .f32⟩
  | .hbm, ⟨4, _⟩ => ⟨S256x2048, .f32⟩
  | .hbm, ⟨5, _⟩ => ⟨S4096x4x256, .f32⟩
  | .hbm, ⟨6, _⟩ => ⟨S256x1024, .f32⟩
  | .hbm, ⟨7, _⟩ => ⟨S256x1024, .f32⟩
  | .hbm, ⟨8, _⟩ => ⟨S256x4x256, .f32⟩
  | .hbm, ⟨9, _⟩ => ⟨S256x4x256, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x256x4096, .f32⟩
  | .hbm, ⟨53, _⟩ => ⟨S4096x4x256, .f32⟩
  | .hbm, ⟨54, _⟩ => ⟨S4096x1024, .f32⟩
  | .hbm, ⟨55, _⟩ => ⟨S4096x1024, .f32⟩
  | .hbm, ⟨56, _⟩ => ⟨S4096x4x256, .f32⟩
  | .hbm, ⟨57, _⟩ => ⟨S4x256x4096, .f32⟩
  | .hbm, ⟨58, _⟩ => ⟨S4x4096x256, .f32⟩
  | .hbm, ⟨59, _⟩ => ⟨S4x256x256, .f32⟩
  | .hbm, ⟨60, _⟩ => ⟨S256x4x256, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x256, .f32⟩
  | .hbm, ⟨79, _⟩ => ⟨S256x4x256, .f32⟩
  | .hbm, ⟨80, _⟩ => ⟨S4x4096x256, .f32⟩
  | .hbm, ⟨81, _⟩ => ⟨S4096x4x256, .f32⟩
  | .hbm, ⟨82, _⟩ => ⟨S256x1024, .f32⟩
  | .hbm, ⟨83, _⟩ => ⟨S256x1024, .f32⟩
  | .hbm, ⟨84, _⟩ => ⟨S256x2048, .f32⟩
  | .hbm, ⟨85, _⟩ => ⟨S4096x1024, .f32⟩
  | .hbm, ⟨86, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== LnSiluBwd.lean ====
abbrev S4096x512 : Shape := ⟨2, ![4096, 512]⟩
abbrev S1x512 : Shape := ⟨2, ![1, 512]⟩
abbrev S4096x1024 : Shape := ⟨2, ![4096, 1024]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S4096x1024, .f32⟩
  | .hbm, ⟨4, _⟩ => ⟨S4096x512, .f32⟩
  | .hbm, ⟨5, _⟩ => ⟨S1x512, .f32⟩
  | .hbm, ⟨6, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnSiluGradIdeal.lean ====
abbrev S4096x512 : Shape := ⟨2, ![4096, 512]⟩
abbrev S1x512 : Shape := ⟨2, ![1, 512]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S512 : Shape := ⟨1, ![512]⟩

abbrev nBuf : Space → Nat
  | .hbm => 96
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S4096x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x512, .f32⟩
  | .hbm, ⟨70, _⟩ => ⟨S4096x512, .f32⟩
  | .hbm, ⟨71, _⟩ => ⟨S4096x1, .f32⟩
  | .hbm, ⟨72, _⟩ => ⟨S4096x512, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x512, .f32⟩
  | .hbm, ⟨82, _⟩ => ⟨S4096x512, .f32⟩
  | .hbm, ⟨83, _⟩ => ⟨S4096x512, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x512, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x512, .f32⟩
  | .hbm, ⟨95, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v27_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v27_1 : Ref sig .tc := ⟨.hbm, 49, rfl⟩
abbrev main_v27_0 : Ref sig .tc := ⟨.hbm, 50, rfl⟩
abbrev main_v28 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_v57 : Ref sig .tc := ⟨.hbm, 91, rfl⟩
abbrev main_cst_14 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩

abbrev nD : Nat := 1
abbrev τ : Topo := Topo.v7x

variable {F : FTy → Type} [FloatOps F]
-- ==== LossHead.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x128, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossGradIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x128, .f32⟩
  | .hbm, ⟨69, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== NormUpBwd.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_26 : BitVec 32 := 0#32
  let v46 : BitVec 1 := Scalar.cmpi .eq arg0 c0_i32_26
  let v47 : BitVec 32 := Scalar.extui v46
  let c0_i32_27 : BitVec 32 := 0#32
  let v48 : BitVec 1 := Scalar.cmpi .ne v47 c0_i32_27
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== NormUpGradIdeal.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4x1024 : Shape := ⟨3, ![4096, 4, 1024]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4x1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x4x1024, .f32⟩
  | .hbm, ⟨26, _⟩ => ⟨S4096x4096, .f32⟩
  | .hbm, ⟨27, _⟩ => ⟨S4096x4096, .f32⟩
  | .hbm, ⟨28, _⟩ => ⟨S4096x4x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== NormQBwd.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== NormQGradIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== NormInBwd.lean ====
abbrev S4096x2560 : Shape := ⟨2, ![4096, 2560]⟩
abbrev S4x1024x640 : Shape := ⟨3, ![4, 1024, 640]⟩
abbrev S4096x1024 : Shape := ⟨2, ![4096, 1024]⟩
abbrev S1x1024 : Shape := ⟨2, ![1, 1024]⟩
abbrev S512x640 : Shape := ⟨2, ![512, 640]⟩
abbrev S1x1024x640 : Shape := ⟨3, ![1, 1024, 640]⟩
abbrev S512x1024 : Shape := ⟨2, ![512, 1024]⟩
abbrev S1024x640 : Shape := ⟨2, ![1024, 640]⟩
abbrev S512 : Shape := ⟨1, ![512]⟩
abbrev S512x1 : Shape := ⟨2, ![512, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S4096x2560, .bf16⟩
  | .hbm, ⟨1, _⟩ => ⟨S4x1024x640, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x640, .bf16⟩
  | .local _ .vmem, ⟨1, _⟩ => ⟨S512x640, .bf16⟩
  | .local _ .vmem, ⟨2, _⟩ => ⟨S1x1024x640, .bf16⟩
  | .local _ .vmem, ⟨3, _⟩ => ⟨S1x1024x640, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_26 : BitVec 32 := 0#32
  let v46 : BitVec 1 := Scalar.cmpi .eq arg0 c0_i32_26
  let v47 : BitVec 32 := Scalar.extui v46
  let c0_i32_27 : BitVec 32 := 0#32
  let v48 : BitVec 1 := Scalar.cmpi .ne v47 c0_i32_27
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== NormInGradIdeal.lean ====
abbrev S4096x2560 : Shape := ⟨2, ![4096, 2560]⟩
abbrev S4x1024x640 : Shape := ⟨3, ![4, 1024, 640]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4x640 : Shape := ⟨3, ![4096, 4, 640]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4x1024x640, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4x1024x640, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x4x640, .f32⟩
  | .hbm, ⟨26, _⟩ => ⟨S4096x2560, .f32⟩
  | .hbm, ⟨27, _⟩ => ⟨S4096x2560, .f32⟩
  | .hbm, ⟨28, _⟩ => ⟨S4096x4x640, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== SqreluBwd.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SqreluGradIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== RmsMemBwd.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S256x1024, .bf16⟩
  | .hbm, ⟨5, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsMemGradIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x1024, .f32⟩
  | .hbm, ⟨33, _⟩ => ⟨S256x1024, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== AttnFwd.lean ====
abbrev S4096x1024 : Shape := ⟨2, ![4096, 1024]⟩
abbrev S256x2048 : Shape := ⟨2, ![256, 2048]⟩
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnOutIdeal.lean ====
abbrev S4096x1024 : Shape := ⟨2, ![4096, 1024]⟩
abbrev S256x2048 : Shape := ⟨2, ![256, 2048]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .f32⟩
  | .hbm, ⟨3, _⟩ => ⟨S4096x4x256, .f32⟩
  | .hbm, ⟨4, _⟩ => ⟨S256x2048, .f32⟩
  | .hbm, ⟨5, _⟩ => ⟨S256x1024, .f32⟩
  | .hbm, ⟨6, _⟩ => ⟨S256x1024, .f32⟩
  | .hbm, ⟨7, _⟩ => ⟨S256x4x256, .f32⟩
  | .hbm, ⟨8, _⟩ => ⟨S256x4x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x256x4096, .f32⟩
  | .hbm, ⟨28, _⟩ => ⟨S4096x4x256, .f32⟩
  | .hbm, ⟨29, _⟩ => ⟨S4096x1024, .f32⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== ConformerFwd.lean ====
abbrev S4096x2560 : Shape := ⟨2, ![4096, 2560]⟩
abbrev S31x512 : Shape := ⟨2, ![31, 512]⟩
abbrev S1x512 : Shape := ⟨2, ![1, 512]⟩
abbrev S4096x512 : Shape := ⟨2, ![4096, 512]⟩
abbrev S4096x128 : Shape := ⟨2, ![4096, 128]⟩
abbrev S31x128 : Shape := ⟨2, ![31, 128]⟩
abbrev S1x128 : Shape := ⟨2, ![1, 128]⟩
abbrev S4128x128 : Shape := ⟨2, ![4128, 128]⟩
abbrev S32x128 : Shape := ⟨2, ![32, 128]⟩
abbrev S288x128 : Shape := ⟨2, ![288, 128]⟩
abbrev S256x128 : Shape := ⟨2, ![256, 128]⟩

abbrev nBuf : Space → Nat
  | .hbm => 4
  | .vmem => 11
  | .smem => 0
  | _ => 0

abbrev bufTy : (tb : Table) → Fin (tcTables nBuf tb) → BufTy
  | .hbm, ⟨0, _⟩ => ⟨S4096x2560, .f32⟩
  | .hbm, ⟨1, _⟩ => ⟨S31x512, .f32⟩
  | .hbm, ⟨2, _⟩ => ⟨S1x512, .f32⟩
  | .hbm, ⟨3, _⟩ => ⟨S4096x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S31x128, .f32⟩
  | .local _ .vmem, ⟨5, _⟩ => ⟨S31x128, .f32⟩
  | .local _ .vmem, ⟨6, _⟩ => ⟨S1x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | .local _ .vmem, ⟨10, _⟩ => ⟨S4128x128, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v17 : BitVec 32 := Scalar.addi c0_i32 c16_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v18 : BitVec 32 := Scalar.muli arg7 c256_i32
  v18
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v18 : BitVec 32 := Scalar.muli arg7 c256_i32
  let v19 : BitVec 32 := v18
  let v20 : Index := Scalar.indexCast v19
  let c0_10 : Index := 0#32
  ![v20.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v18 : BitVec 32 := Scalar.muli arg7 c256_i32
  let v19 : BitVec 32 := v18
  let v209 : Index := Scalar.indexCast v19
  let c0_47 : Index := 0#32
  ![v209.toNat, 0]
def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConformerOutIdeal.lean ====
abbrev S4096x2560 : Shape := ⟨2, ![4096, 2560]⟩
abbrev S31x512 : Shape := ⟨2, ![31, 512]⟩
abbrev S1x512 : Shape := ⟨2, ![1, 512]⟩
abbrev S4096x512 : Shape := ⟨2, ![4096, 512]⟩
abbrev S_ : Shape := ⟨0, ![]⟩
abbrev S31x4096x4096 : Shape := ⟨3, ![31, 4096, 4096]⟩
abbrev S31x4096x512 : Shape := ⟨3, ![31, 4096, 512]⟩
abbrev S31x1x512 : Shape := ⟨3, ![31, 1, 512]⟩

abbrev nBuf : Space → Nat
  | .hbm => 31
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S31x512, .f32⟩
  | .hbm, ⟨2, _⟩ => ⟨S1x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S31x4096x4096, .i32⟩
  | .hbm, ⟨15, _⟩ => ⟨S31x4096x4096, .i32⟩
  | .hbm, ⟨16, _⟩ => ⟨S_, .i32⟩
  | .hbm, ⟨17, _⟩ => ⟨S31x4096x4096, .i32⟩
  | .hbm, ⟨18, _⟩ => ⟨S31x4096x4096, .i32⟩
  | .hbm, ⟨19, _⟩ => ⟨S31x4096x4096, .i32⟩
  | .hbm, ⟨20, _⟩ => ⟨S31x4096x4096, .i32⟩
  | .hbm, ⟨21, _⟩ => ⟨S31x4096x4096, .i1⟩
  | .hbm, ⟨22, _⟩ => ⟨S31x4096x4096, .f32⟩
  | .hbm, ⟨23, _⟩ => ⟨S31x4096x512, .f32⟩
  | .hbm, ⟨24, _⟩ => ⟨S31x1x512, .f32⟩
  | .hbm, ⟨25, _⟩ => ⟨S31x4096x512, .f32⟩
  | .hbm, ⟨26, _⟩ => ⟨S31x4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S4096x512, .f32⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== LnSiluFwd.lean ====
abbrev S4096x512 : Shape := ⟨2, ![4096, 512]⟩
abbrev S1x512 : Shape := ⟨2, ![1, 512]⟩
abbrev S4096x1024 : Shape := ⟨2, ![4096, 1024]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S4096x1024, .bf16⟩
  | .hbm, ⟨4, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LnSiluOutIdeal.lean ====
abbrev S4096x512 : Shape := ⟨2, ![4096, 512]⟩
abbrev S1x512 : Shape := ⟨2, ![1, 512]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S4096x1024, .bf16⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S_, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .bf16⟩
  | .hbm, ⟨41, _⟩ => ⟨S4096x512, .bf16⟩
  | .hbm, ⟨42, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== RmsFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsOutIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormOutFwd.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== NormOutOutIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== NormDownFwd.lean ====
abbrev S4096x4096 : Shape := ⟨2, ![4096, 4096]⟩
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== NormDownOutIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== SqreluFwd.lean ====
abbrev S4096x1024 : Shape := ⟨2, ![4096, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SqreluOutIdeal.lean ====
abbrev S4096x1024 : Shape := ⟨2, ![4096, 1024]⟩
abbrev S4x1024x1024 : Shape := ⟨3, ![4, 1024, 1024]⟩
abbrev S4096x4x1024 : Shape := ⟨3, ![4096, 4, 1024]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S4x1024x1024, .f32⟩
  | .hbm, ⟨4, _⟩ => ⟨S4096x4x1024, .f32⟩
  | .hbm, ⟨5, _⟩ => ⟨S4096x4096, .f32⟩
  | .hbm, ⟨6, _⟩ => ⟨S4096x4096, .bf16⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== ShortConvBwd.lean ====
abbrev S4096x2560 : Shape := ⟨2, ![4096, 2560]⟩
abbrev S3x512 : Shape := ⟨2, ![3, 512]⟩
abbrev S4096x1024 : Shape := ⟨2, ![4096, 1024]⟩
abbrev S4096x512 : Shape := ⟨2, ![4096, 512]⟩
abbrev S4096x128 : Shape := ⟨2, ![4096, 128]⟩
abbrev S3x128 : Shape := ⟨2, ![3, 128]⟩
abbrev S4104x128 : Shape := ⟨2, ![4104, 128]⟩
abbrev S8x128 : Shape := ⟨2, ![8, 128]⟩
abbrev S264x128 : Shape := ⟨2, ![264, 128]⟩
abbrev S256x128 : Shape := ⟨2, ![256, 128]⟩
abbrev S1x128 : Shape := ⟨2, ![1, 128]⟩
abbrev S128 : Shape := ⟨1, ![128]⟩

abbrev nBuf : Space → Nat
  | .hbm => 7
  | .vmem => 20
  | .smem => 0
  | _ => 0

abbrev bufTy : (tb : Table) → Fin (tcTables nBuf tb) → BufTy
  | .hbm, ⟨0, _⟩ => ⟨S4096x2560, .f32⟩
  | .hbm, ⟨1, _⟩ => ⟨S3x512, .f32⟩
  | .hbm, ⟨2, _⟩ => ⟨S4096x1024, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S3x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S3x128, .f32⟩
  | .local _ .vmem, ⟨7, _⟩ => ⟨S3x128, .f32⟩
  | .local _ .vmem, ⟨8, _⟩ => ⟨S4096x128, .f32⟩
  | .local _ .vmem, ⟨9, _⟩ => ⟨S4096x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S3x128, .f32⟩
  | .local _ .vmem, ⟨17, _⟩ => ⟨S3x128, .f32⟩
  | .local _ .vmem, ⟨18, _⟩ => ⟨S4104x128, .f32⟩
  | .local _ .vmem, ⟨19, _⟩ => ⟨S4104x128, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v16 : BitVec 32 := Scalar.addi c0_i32 c16_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v18 : BitVec 32 := Scalar.muli arg12 c256_i32
  v18
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v18 : BitVec 32 := Scalar.muli arg12 c256_i32
  let v19 : BitVec 32 := v18
  let v20 : Index := Scalar.indexCast v19
  let c0_16 : Index := 0#32
  ![v20.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v18 : BitVec 32 := Scalar.muli arg12 c256_i32
  let v19 : BitVec 32 := v18
  let v22 : Index := Scalar.indexCast v19
  let c0_17 : Index := 0#32
  ![v22.toNat, 0]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v18 : BitVec 32 := Scalar.muli arg12 c256_i32
  let v19 : BitVec 32 := v18
  let v27 : Index := Scalar.indexCast v19
  let c0_19 : Index := 0#32
  ![v27.toNat, 0]
@[reducible] def k0_t2_loop : Scf.Loop 32 :=
  let c0_i32_12 : BitVec 32 := 0#32
  let c16_i32_13 : BitVec 32 := 16#32
  let v17 : BitVec 32 := Scalar.addi c0_i32_12 c16_i32_13
  let c1_i32_14 : BitVec 32 := 1#32
  ⟨c0_i32_12, v17, c1_i32_14⟩
def k0_mult2 (k0_t2 : Fin k0_t2_loop.trips) : BitVec 32 :=
  let c0_i32_12 : BitVec 32 := 0#32
  let c1_i32_14 : BitVec 32 := 1#32
  let arg12 : BitVec 32 := Scf.iv c0_i32_12 c1_i32_14 k0_t2
  let c256_i32 : BitVec 32 := 256#32
  let v18 : BitVec 32 := Scalar.muli arg12 c256_i32
  v18
def k0_off4 (k0_t2 : Fin k0_t2_loop.trips) : Fin 2 → Nat :=
  let c0_i32_12 : BitVec 32 := 0#32
  let c1_i32_14 : BitVec 32 := 1#32
  let arg12 : BitVec 32 := Scf.iv c0_i32_12 c1_i32_14 k0_t2
  let c256_i32 : BitVec 32 := 256#32
  let v18 : BitVec 32 := Scalar.muli arg12 c256_i32
  let v19 : BitVec 32 := v18
  let v20 : Index := Scalar.indexCast v19
  let c0_16 : Index := 0#32
  ![v20.toNat, 0]
def k0_off5 (k0_t2 : Fin k0_t2_loop.trips) : Fin 2 → Nat :=
  let c0_i32_12 : BitVec 32 := 0#32
  let c1_i32_14 : BitVec 32 := 1#32
  let arg12 : BitVec 32 := Scf.iv c0_i32_12 c1_i32_14 k0_t2
  let c256_i32 : BitVec 32 := 256#32
  let v18 : BitVec 32 := Scalar.muli arg12 c256_i32
  let v19 : BitVec 32 := v18
  let v38 : Index := Scalar.indexCast v19
  let c0_21 : Index := 0#32
  ![v38.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ShortConvGradIdeal.lean ====
abbrev S4096x2560 : Shape := ⟨2, ![4096, 2560]⟩
abbrev S3x512 : Shape := ⟨2, ![3, 512]⟩
abbrev S4096x1024 : Shape := ⟨2, ![4096, 1024]⟩
abbrev S4096x512 : Shape := ⟨2, ![4096, 512]⟩
abbrev S3x4096x4096 : Shape := ⟨3, ![3, 4096, 4096]⟩
abbrev S_ : Shape := ⟨0, ![]⟩
abbrev S3x4096x512 : Shape := ⟨3, ![3, 4096, 512]⟩
abbrev S3x1x512 : Shape := ⟨3, ![3, 1, 512]⟩
abbrev S512x4096 : Shape := ⟨2, ![512, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S3x512, .f32⟩
  | .hbm, ⟨2, _⟩ => ⟨S4096x1024, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S3x4096x4096, .i32⟩
  | .hbm, ⟨8, _⟩ => ⟨S3x4096x4096, .i32⟩
  | .hbm, ⟨9, _⟩ => ⟨S_, .i32⟩
  | .hbm, ⟨10, _⟩ => ⟨S3x4096x4096, .i32⟩
  | .hbm, ⟨11, _⟩ => ⟨S3x4096x4096, .i32⟩
  | .hbm, ⟨12, _⟩ => ⟨S3x4096x4096, .i32⟩
  | .hbm, ⟨13, _⟩ => ⟨S3x4096x4096, .i32⟩
  | .hbm, ⟨14, _⟩ => ⟨S3x4096x4096, .i1⟩
  | .hbm, ⟨15, _⟩ => ⟨S3x4096x4096, .f32⟩
  | .hbm, ⟨16, _⟩ => ⟨S3x4096x512, .f32⟩
  | .hbm, ⟨17, _⟩ => ⟨S3x1x512, .f32⟩
  | .hbm, ⟨18, _⟩ => ⟨S3x4096x512, .f32⟩
  | .hbm, ⟨19, _⟩ => ⟨S3x4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S3x4096x512, .f32⟩
  | .hbm, ⟨27, _⟩ => ⟨S3x4096x512, .f32⟩
  | .hbm, ⟨28, _⟩ => ⟨S_, .f32⟩
  | .hbm, ⟨29, _⟩ => ⟨S3x512, .f32⟩
  | .hbm, ⟨30, _⟩ => ⟨S3x1x512, .f32⟩
  | .hbm, ⟨31, _⟩ => ⟨S3x4096x512, .f32⟩
  | .hbm, ⟨32, _⟩ => ⟨S3x4096x512, .f32⟩
  | .hbm, ⟨33, _⟩ => ⟨S_, .f32⟩
  | .hbm, ⟨34, _⟩ => ⟨S3x512, .f32⟩
  | .hbm, ⟨35, _⟩ => ⟨S512x4096, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .bf16⟩
  | .hbm, ⟨40, _⟩ => ⟨S4096x512, .bf16⟩
  | .hbm, ⟨41, _⟩ => ⟨S4096x512, .bf16⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== ShortConvFwd.lean ====
abbrev S4096x2560 : Shape := ⟨2, ![4096, 2560]⟩
abbrev S3x512 : Shape := ⟨2, ![3, 512]⟩
abbrev S4096x1024 : Shape := ⟨2, ![4096, 1024]⟩
abbrev S4096x128 : Shape := ⟨2, ![4096, 128]⟩
abbrev S3x128 : Shape := ⟨2, ![3, 128]⟩
abbrev S4104x128 : Shape := ⟨2, ![4104, 128]⟩
abbrev S8x128 : Shape := ⟨2, ![8, 128]⟩
abbrev S264x128 : Shape := ⟨2, ![264, 128]⟩
abbrev S256x128 : Shape := ⟨2, ![256, 128]⟩
abbrev S1x128 : Shape := ⟨2, ![1, 128]⟩
abbrev S4096x512 : Shape := ⟨2, ![4096, 512]⟩

abbrev nBuf : Space → Nat
  | .hbm => 4
  | .vmem => 11
  | .smem => 0
  | _ => 0

abbrev bufTy : (tb : Table) → Fin (tcTables nBuf tb) → BufTy
  | .hbm, ⟨0, _⟩ => ⟨S4096x2560, .f32⟩
  | .hbm, ⟨1, _⟩ => ⟨S3x512, .f32⟩
  | .hbm, ⟨2, _⟩ => ⟨S4096x1024, .bf16⟩
  | .hbm, ⟨3, _⟩ => ⟨S4096x512, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | .local _ .vmem, ⟨10, _⟩ => ⟨S4104x128, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v10 : BitVec 32 := Scalar.addi c0_i32 c16_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v11 : BitVec 32 := Scalar.muli arg7 c256_i32
  v11
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v11 : BitVec 32 := Scalar.muli arg7 c256_i32
  let v12 : BitVec 32 := v11
  let v13 : Index := Scalar.indexCast v12
  let c0_7 : Index := 0#32
  ![v13.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v11 : BitVec 32 := Scalar.muli arg7 c256_i32
  let v12 : BitVec 32 := v11
  let v31 : Index := Scalar.indexCast v12
  let c0_13 : Index := 0#32
  ![v31.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ShortConvOutIdeal.lean ====
abbrev S4096x2560 : Shape := ⟨2, ![4096, 2560]⟩
abbrev S3x512 : Shape := ⟨2, ![3, 512]⟩
abbrev S4096x512 : Shape := ⟨2, ![4096, 512]⟩
abbrev S3x4096x4096 : Shape := ⟨3, ![3, 4096, 4096]⟩
abbrev S_ : Shape := ⟨0, ![]⟩
abbrev S3x4096x512 : Shape := ⟨3, ![3, 4096, 512]⟩
abbrev S3x1x512 : Shape := ⟨3, ![3, 1, 512]⟩

abbrev nBuf : Space → Nat
  | .hbm => 23
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S3x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S3x4096x4096, .i32⟩
  | .hbm, ⟨7, _⟩ => ⟨S3x4096x4096, .i32⟩
  | .hbm, ⟨8, _⟩ => ⟨S_, .i32⟩
  | .hbm, ⟨9, _⟩ => ⟨S3x4096x4096, .i32⟩
  | .hbm, ⟨10, _⟩ => ⟨S3x4096x4096, .i32⟩
  | .hbm, ⟨11, _⟩ => ⟨S3x4096x4096, .i32⟩
  | .hbm, ⟨12, _⟩ => ⟨S3x4096x4096, .i32⟩
  | .hbm, ⟨13, _⟩ => ⟨S3x4096x4096, .i1⟩
  | .hbm, ⟨14, _⟩ => ⟨S3x4096x4096, .f32⟩
  | .hbm, ⟨15, _⟩ => ⟨S3x4096x512, .f32⟩
  | .hbm, ⟨16, _⟩ => ⟨S3x1x512, .f32⟩
  | .hbm, ⟨17, _⟩ => ⟨S3x4096x512, .f32⟩
  | .hbm, ⟨18, _⟩ => ⟨S3x4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S4096x512, .bf16⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== SwapHalves.lean ====
abbrev S4x256x1024 : Shape := ⟨3, ![4, 256, 1024]⟩
abbrev S4x1024x640 : Shape := ⟨3, ![4, 1024, 640]⟩
abbrev S4x128x1024 : Shape := ⟨3, ![4, 128, 1024]⟩
abbrev S4x512x640 : Shape := ⟨3, ![4, 512, 640]⟩
abbrev S2 : Shape := ⟨1, ![2]⟩
abbrev S_ : Shape := ⟨0, ![]⟩
abbrev S1 : Shape := ⟨1, ![1]⟩

abbrev nBuf : Space → Nat
  | .hbm => 4
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S4x1024x640, .bf16⟩
  | .hbm, ⟨2, _⟩ => ⟨S4x128x1024, .bf16⟩
  | .hbm, ⟨3, _⟩ => ⟨S4x512x640, .bf16⟩
  | _, _ => ⟨S4x256x1024, .bf16⟩

abbrev bufScoped : (cs : CoreSpace) → Fin (nBuf (.core cs)) → Bool
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_3 v8
  let c1_i32_7 : BitVec 32 := 1#32
  let v15 : BitVec 32 := Scalar.muli v10 c1_i32_7
  let v16 : BitVec 32 := Scalar.addi v14 v15
  v16.toNat
def k0_off1 (d0 : Dev nD) : Fin 3 → Nat :=
  let c0_i32_17 : BitVec 32 := 0#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c128_i32 : BitVec 32 := 128#32
  let v18 : BitVec 32 := Scalar.muli v17 c128_i32
  let c0_i32_18 : BitVec 32 := 0#32
  ![0, v18.toNat, 0]
def k0_dev2 (d0 : Dev nD) : Nat :=
  let c0_i32_14 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_13 : BitVec 32 := 4#32
  let v20 : BitVec 32 := Scalar.muli v2 c4_i32_13
  let v21 : BitVec 32 := Scalar.addi c0_i32_14 v20
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v22 : BitVec 32 := Scalar.muli v5 c2_i32_15
  let v23 : BitVec 32 := Scalar.addi v21 v22
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c1_i32_16 : BitVec 32 := 1#32
  let v24 : BitVec 32 := Scalar.muli v19 c1_i32_16
  let v25 : BitVec 32 := Scalar.addi v23 v24
  v25.toNat
def k0_off2 (d0 : Dev nD) : Fin 3 → Nat :=
  let c0_i32_27 : BitVec 32 := 0#32
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.subi c1_i32_19 v8
  let c512_i32 : BitVec 32 := 512#32
  let v32 : BitVec 32 := Scalar.muli v31 c512_i32
  let c0_i32_28 : BitVec 32 := 0#32
  ![0, v32.toNat, 0]
def k0_dev3 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v34 : BitVec 32 := Scalar.muli v2 c4_i32_23
  let v35 : BitVec 32 := Scalar.addi c0_i32_24 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v36 : BitVec 32 := Scalar.muli v5 c2_i32_25
  let v37 : BitVec 32 := Scalar.addi v35 v36
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.subi c1_i32_20 v8
  let c1_i32_26 : BitVec 32 := 1#32
  let v38 : BitVec 32 := Scalar.muli v33 c1_i32_26
  let v39 : BitVec 32 := Scalar.addi v37 v38
  v39.toNat
-- ==== SwapOutIdeal.lean ====
abbrev S32x256x1024 : Shape := ⟨3, ![32, 256, 1024]⟩
abbrev S32x1024x640 : Shape := ⟨3, ![32, 1024, 640]⟩
abbrev S4x2x4x2x128x1024 : Shape := ⟨6, ![4, 2, 4, 2, 128, 1024]⟩
abbrev S4x1x4x1x128x1024 : Shape := ⟨6, ![4, 1, 4, 1, 128, 1024]⟩
abbrev S4x4x128x1024 : Shape := ⟨4, ![4, 4, 128, 1024]⟩
abbrev S4x1x4x128x1024 : Shape := ⟨5, ![4, 1, 4, 128, 1024]⟩
abbrev S4x2x4x128x1024 : Shape := ⟨5, ![4, 2, 4, 128, 1024]⟩
abbrev S32x128x1024 : Shape := ⟨3, ![32, 128, 1024]⟩
abbrev S4x2x4x2x512x640 : Shape := ⟨6, ![4, 2, 4, 2, 512, 640]⟩
abbrev S4x1x4x1x512x640 : Shape := ⟨6, ![4, 1, 4, 1, 512, 640]⟩
abbrev S4x4x512x640 : Shape := ⟨4, ![4, 4, 512, 640]⟩
abbrev S4x1x4x512x640 : Shape := ⟨5, ![4, 1, 4, 512, 640]⟩
abbrev S4x2x4x512x640 : Shape := ⟨5, ![4, 2, 4, 512, 640]⟩
abbrev S32x512x640 : Shape := ⟨3, ![32, 512, 640]⟩

abbrev nBuf : Space → Nat
  | .hbm => 20
  | .vmem => 0
  | .smem => 0
  | _ => 0

abbrev bufTy : (tb : Table) → Fin (tcTables nBuf tb) → BufTy
  | .hbm, ⟨0, _⟩ => ⟨S32x256x1024, .bf16⟩
  | .hbm, ⟨1, _⟩ => ⟨S32x1024x640, .bf16⟩
  | .hbm, ⟨2, _⟩ => ⟨S4x2x4x2x128x1024, .bf16⟩
  | .hbm, ⟨3, _⟩ => ⟨S4x1x4x1x128x1024, .bf16⟩
  | .hbm, ⟨4, _⟩ => ⟨S4x4x128x1024, .bf16⟩
  | .hbm, ⟨5, _⟩ => ⟨S4x1x4x1x128x1024, .bf16⟩
  | .hbm, ⟨6, _⟩ => ⟨S4x4x128x1024, .bf16⟩
  | .hbm, ⟨7, _⟩ => ⟨S4x1x4x128x1024, .bf16⟩
  | .hbm, ⟨8, _⟩ => ⟨S4x1x4x128x1024, .bf16⟩
  | .hbm, ⟨9, _⟩ => ⟨S4x2x4x128x1024, .bf16⟩
  | .hbm, ⟨10, _⟩ => ⟨S32x128x1024, .bf16⟩
  | .hbm, ⟨11, _⟩ => ⟨S4x2x4x2x512x640, .bf16⟩
  | .hbm, ⟨12, _⟩ => ⟨S4x1x4x1x512x640, .bf16⟩
  | .hbm, ⟨13, _⟩ => ⟨S4x4x512x640, .bf16⟩
  | .hbm, ⟨14, _⟩ => ⟨S4x1x4x1x512x640, .bf16⟩
  | .hbm, ⟨15, _⟩ => ⟨S4x4x512x640, .bf16⟩
  | .hbm, ⟨16, _⟩ => ⟨S4x1x4x512x640, .bf16⟩
  | .hbm, ⟨17, _⟩ => ⟨S4x1x4x512x640, .bf16⟩
  | .hbm, ⟨18, _⟩ => ⟨S4x2x4x512x640, .bf16⟩
  | .hbm, ⟨19, _⟩ => ⟨S32x512x640, .bf16⟩
  | _, _ => ⟨S32x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== SwapFive.lean ====
abbrev S4x1024x1024 : Shape := ⟨3, ![4, 1024, 1024]⟩
abbrev S4x256x1024 : Shape := ⟨3, ![4, 256, 1024]⟩
abbrev S4x1024x512 : Shape := ⟨3, ![4, 1024, 512]⟩
abbrev S4x512x1024 : Shape := ⟨3, ![4, 512, 1024]⟩
abbrev S4x128x1024 : Shape := ⟨3, ![4, 128, 1024]⟩
abbrev S4x512x512 : Shape := ⟨3, ![4, 512, 512]⟩
abbrev S5 : Shape := ⟨1, ![5]⟩
abbrev S_ : Shape := ⟨0, ![]⟩
abbrev S1 : Shape := ⟨1, ![1]⟩

abbrev nBuf : Space → Nat
  | .hbm => 10
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S4x1024x1024, .bf16⟩
  | .hbm, ⟨2, _⟩ => ⟨S4x256x1024, .bf16⟩
  | .hbm, ⟨3, _⟩ => ⟨S4x256x1024, .bf16⟩
  | .hbm, ⟨4, _⟩ => ⟨S4x1024x512, .bf16⟩
  | .hbm, ⟨5, _⟩ => ⟨S4x512x1024, .bf16⟩
  | .hbm, ⟨6, _⟩ => ⟨S4x512x1024, .bf16⟩
  | .hbm, ⟨7, _⟩ => ⟨S4x128x1024, .bf16⟩
  | .hbm, ⟨8, _⟩ => ⟨S4x128x1024, .bf16⟩
  | .hbm, ⟨9, _⟩ => ⟨S4x512x512, .bf16⟩
  | _, _ => ⟨S4x1024x1024, .bf16⟩

abbrev bufScoped : (cs : CoreSpace) → Fin (nBuf (.core cs)) → Bool
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_3 v8
  let c1_i32_7 : BitVec 32 := 1#32
  let v15 : BitVec 32 := Scalar.muli v10 c1_i32_7
  let v16 : BitVec 32 := Scalar.addi v14 v15
  v16.toNat
def k0_off1 (d0 : Dev nD) : Fin 3 → Nat :=
  let c0_i32_17 : BitVec 32 := 0#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c512_i32 : BitVec 32 := 512#32
  let v18 : BitVec 32 := Scalar.muli v17 c512_i32
  let c0_i32_18 : BitVec 32 := 0#32
  ![0, v18.toNat, 0]
def k0_dev2 (d0 : Dev nD) : Nat :=
  let c0_i32_14 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_13 : BitVec 32 := 4#32
  let v20 : BitVec 32 := Scalar.muli v2 c4_i32_13
  let v21 : BitVec 32 := Scalar.addi c0_i32_14 v20
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v22 : BitVec 32 := Scalar.muli v5 c2_i32_15
  let v23 : BitVec 32 := Scalar.addi v21 v22
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c1_i32_16 : BitVec 32 := 1#32
  let v24 : BitVec 32 := Scalar.muli v19 c1_i32_16
  let v25 : BitVec 32 := Scalar.addi v23 v24
  v25.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v34 : BitVec 32 := Scalar.muli v2 c4_i32_24
  let v35 : BitVec 32 := Scalar.addi c0_i32_25 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v36 : BitVec 32 := Scalar.muli v5 c2_i32_26
  let v37 : BitVec 32 := Scalar.addi v35 v36
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.subi c1_i32_21 v8
  let c1_i32_27 : BitVec 32 := 1#32
  let v38 : BitVec 32 := Scalar.muli v33 c1_i32_27
  let v39 : BitVec 32 := Scalar.addi v37 v38
  v39.toNat
def k0_off2 (d0 : Dev nD) : Fin 3 → Nat :=
  let c0_i32_38 : BitVec 32 := 0#32
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.subi c1_i32_30 v8
  let c128_i32 : BitVec 32 := 128#32
  let v46 : BitVec 32 := Scalar.muli v45 c128_i32
  let c0_i32_39 : BitVec 32 := 0#32
  ![0, v46.toNat, 0]
def k0_dev4 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v48 : BitVec 32 := Scalar.muli v2 c4_i32_34
  let v49 : BitVec 32 := Scalar.addi c0_i32_35 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v50 : BitVec 32 := Scalar.muli v5 c2_i32_36
  let v51 : BitVec 32 := Scalar.addi v49 v50
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.subi c1_i32_31 v8
  let c1_i32_37 : BitVec 32 := 1#32
  let v52 : BitVec 32 := Scalar.muli v47 c1_i32_37
  let v53 : BitVec 32 := Scalar.addi v51 v52
  v53.toNat
def k0_dev5 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v62 : BitVec 32 := Scalar.muli v2 c4_i32_44
  let v63 : BitVec 32 := Scalar.addi c0_i32_45 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v64 : BitVec 32 := Scalar.muli v5 c2_i32_46
  let v65 : BitVec 32 := Scalar.addi v63 v64
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v61 : BitVec 32 := Scalar.subi c1_i32_42 v8
  let c1_i32_47 : BitVec 32 := 1#32
  let v66 : BitVec 32 := Scalar.muli v61 c1_i32_47
  let v67 : BitVec 32 := Scalar.addi v65 v66
  v67.toNat
def k0_off3 (d0 : Dev nD) : Fin 3 → Nat :=
  let c0_i32_59 : BitVec 32 := 0#32
  let c1_i32_50 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v73 : BitVec 32 := Scalar.subi c1_i32_50 v8
  let c512_i32_51 : BitVec 32 := 512#32
  let v74 : BitVec 32 := Scalar.muli v73 c512_i32_51
  let c0_i32_60 : BitVec 32 := 0#32
  ![0, v74.toNat, 0]
def k0_dev6 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v76 : BitVec 32 := Scalar.muli v2 c4_i32_55
  let v77 : BitVec 32 := Scalar.addi c0_i32_56 v76
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v78 : BitVec 32 := Scalar.muli v5 c2_i32_57
  let v79 : BitVec 32 := Scalar.addi v77 v78
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v75 : BitVec 32 := Scalar.subi c1_i32_52 v8
  let c1_i32_58 : BitVec 32 := 1#32
  let v80 : BitVec 32 := Scalar.muli v75 c1_i32_58
  let v81 : BitVec 32 := Scalar.addi v79 v80
  v81.toNat
-- ==== SwapFiveOutIdeal.lean ====
abbrev S32x1024x1024 : Shape := ⟨3, ![32, 1024, 1024]⟩
abbrev S32x256x1024 : Shape := ⟨3, ![32, 256, 1024]⟩
abbrev S32x1024x512 : Shape := ⟨3, ![32, 1024, 512]⟩
abbrev S4x2x4x2x512x1024 : Shape := ⟨6, ![4, 2, 4, 2, 512, 1024]⟩
abbrev S4x1x4x1x512x1024 : Shape := ⟨6, ![4, 1, 4, 1, 512, 1024]⟩
abbrev S4x4x512x1024 : Shape := ⟨4, ![4, 4, 512, 1024]⟩
abbrev S4x1x4x512x1024 : Shape := ⟨5, ![4, 1, 4, 512, 1024]⟩
abbrev S4x2x4x512x1024 : Shape := ⟨5, ![4, 2, 4, 512, 1024]⟩
abbrev S32x512x1024 : Shape := ⟨3, ![32, 512, 1024]⟩
abbrev S4x2x4x2x128x1024 : Shape := ⟨6, ![4, 2, 4, 2, 128, 1024]⟩
abbrev S4x1x4x1x128x1024 : Shape := ⟨6, ![4, 1, 4, 1, 128, 1024]⟩
abbrev S4x4x128x1024 : Shape := ⟨4, ![4, 4, 128, 1024]⟩
abbrev S4x1x4x128x1024 : Shape := ⟨5, ![4, 1, 4, 128, 1024]⟩
abbrev S4x2x4x128x1024 : Shape := ⟨5, ![4, 2, 4, 128, 1024]⟩
abbrev S32x128x1024 : Shape := ⟨3, ![32, 128, 1024]⟩
abbrev S4x2x4x2x512x512 : Shape := ⟨6, ![4, 2, 4, 2, 512, 512]⟩
abbrev S4x1x4x1x512x512 : Shape := ⟨6, ![4, 1, 4, 1, 512, 512]⟩
abbrev S4x4x512x512 : Shape := ⟨4, ![4, 4, 512, 512]⟩
abbrev S4x1x4x512x512 : Shape := ⟨5, ![4, 1, 4, 512, 512]⟩
abbrev S4x2x4x512x512 : Shape := ⟨5, ![4, 2, 4, 512, 512]⟩
abbrev S32x512x512 : Shape := ⟨3, ![32, 512, 512]⟩

abbrev nBuf : Space → Nat
  | .hbm => 50
  | .vmem => 0
  | .smem => 0
  | _ => 0

abbrev bufTy : (tb : Table) → Fin (tcTables nBuf tb) → BufTy
  | .hbm, ⟨0, _⟩ => ⟨S32x1024x1024, .bf16⟩
  | .hbm, ⟨1, _⟩ => ⟨S32x1024x1024, .bf16⟩
  | .hbm, ⟨2, _⟩ => ⟨S32x256x1024, .bf16⟩
  | .hbm, ⟨3, _⟩ => ⟨S32x256x1024, .bf16⟩
  | .hbm, ⟨4, _⟩ => ⟨S32x1024x512, .bf16⟩
  | .hbm, ⟨5, _⟩ => ⟨S4x2x4x2x512x1024, .bf16⟩
  | .hbm, ⟨6, _⟩ => ⟨S4x1x4x1x512x1024, .bf16⟩
  | .hbm, ⟨7, _⟩ => ⟨S4x4x512x1024, .bf16⟩
  | .hbm, ⟨8, _⟩ => ⟨S4x1x4x1x512x1024, .bf16⟩
  | .hbm, ⟨9, _⟩ => ⟨S4x4x512x1024, .bf16⟩
  | .hbm, ⟨10, _⟩ => ⟨S4x1x4x512x1024, .bf16⟩
  | .hbm, ⟨11, _⟩ => ⟨S4x1x4x512x1024, .bf16⟩
  | .hbm, ⟨12, _⟩ => ⟨S4x2x4x512x1024, .bf16⟩
  | .hbm, ⟨13, _⟩ => ⟨S32x512x1024, .bf16⟩
  | .hbm, ⟨14, _⟩ => ⟨S4x2x4x2x512x1024, .bf16⟩
  | .hbm, ⟨15, _⟩ => ⟨S4x1x4x1x512x1024, .bf16⟩
  | .hbm, ⟨16, _⟩ => ⟨S4x4x512x1024, .bf16⟩
  | .hbm, ⟨17, _⟩ => ⟨S4x1x4x1x512x1024, .bf16⟩
  | .hbm, ⟨18, _⟩ => ⟨S4x4x512x1024, .bf16⟩
  | .hbm, ⟨19, _⟩ => ⟨S4x1x4x512x1024, .bf16⟩
  | .hbm, ⟨20, _⟩ => ⟨S4x1x4x512x1024, .bf16⟩
  | .hbm, ⟨21, _⟩ => ⟨S4x2x4x512x1024, .bf16⟩
  | .hbm, ⟨22, _⟩ => ⟨S32x512x1024, .bf16⟩
  | .hbm, ⟨23, _⟩ => ⟨S4x2x4x2x128x1024, .bf16⟩
  | .hbm, ⟨24, _⟩ => ⟨S4x1x4x1x128x1024, .bf16⟩
  | .hbm, ⟨25, _⟩ => ⟨S4x4x128x1024, .bf16⟩
  | .hbm, ⟨26, _⟩ => ⟨S4x1x4x1x128x1024, .bf16⟩
  | .hbm, ⟨27, _⟩ => ⟨S4x4x128x1024, .bf16⟩
  | .hbm, ⟨28, _⟩ => ⟨S4x1x4x128x1024, .bf16⟩
  | .hbm, ⟨29, _⟩ => ⟨S4x1x4x128x1024, .bf16⟩
  | .hbm, ⟨30, _⟩ => ⟨S4x2x4x128x1024, .bf16⟩
  | .hbm, ⟨31, _⟩ => ⟨S32x128x1024, .bf16⟩
  | .hbm, ⟨32, _⟩ => ⟨S4x2x4x2x128x1024, .bf16⟩
  | .hbm, ⟨33, _⟩ => ⟨S4x1x4x1x128x1024, .bf16⟩
  | .hbm, ⟨34, _⟩ => ⟨S4x4x128x1024, .bf16⟩
  | .hbm, ⟨35, _⟩ => ⟨S4x1x4x1x128x1024, .bf16⟩
  | .hbm, ⟨36, _⟩ => ⟨S4x4x128x1024, .bf16⟩
  | .hbm, ⟨37, _⟩ => ⟨S4x1x4x128x1024, .bf16⟩
  | .hbm, ⟨38, _⟩ => ⟨S4x1x4x128x1024, .bf16⟩
  | .hbm, ⟨39, _⟩ => ⟨S4x2x4x128x1024, .bf16⟩
  | .hbm, ⟨40, _⟩ => ⟨S32x128x1024, .bf16⟩
  | .hbm, ⟨41, _⟩ => ⟨S4x2x4x2x512x512, .bf16⟩
  | .hbm, ⟨42, _⟩ => ⟨S4x1x4x1x512x512, .bf16⟩
  | .hbm, ⟨43, _⟩ => ⟨S4x4x512x512, .bf16⟩
  | .hbm, ⟨44, _⟩ => ⟨S4x1x4x1x512x512, .bf16⟩
  | .hbm, ⟨45, _⟩ => ⟨S4x4x512x512, .bf16⟩
  | .hbm, ⟨46, _⟩ => ⟨S4x1x4x512x512, .bf16⟩
  | .hbm, ⟨47, _⟩ => ⟨S4x1x4x512x512, .bf16⟩
  | .hbm, ⟨48, _⟩ => ⟨S4x2x4x512x512, .bf16⟩
  | .hbm, ⟨49, _⟩ => ⟨S32x512x512, .bf16⟩
  | _, _ => ⟨S32x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩

abbrev nD : Nat := 1
abbrev τ : Topo := Topo.v7x

variable {F : FTy → Type} [FloatOps F]
-- ==== MatDown.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MatDownGradIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdamLayers.lean ====
abbrev S2x1024x1024 : Shape := ⟨3, ![2, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamLayersOutIdeal.lean ====
abbrev S2x1024x1024 : Shape := ⟨3, ![2, 1024, 1024]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024x1024, .f32⟩
  | .hbm, ⟨3, _⟩ => ⟨S2x1024x1024, .f32⟩
  | .hbm, ⟨4, _⟩ => ⟨S2x1024x1024, .f32⟩
  | .hbm, ⟨5, _⟩ => ⟨S1x1024x1024, .f32⟩
  | .hbm, ⟨6, _⟩ => ⟨S1x1024x1024, .f32⟩
  | .hbm, ⟨7, _⟩ => ⟨S2x1024x1024, .f32⟩
  | .hbm, ⟨8, _⟩ => ⟨S_, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S2x1024x1024, .f32⟩
  | .hbm, ⟨23, _⟩ => ⟨S_, .f32⟩
  | .hbm, ⟨24, _⟩ => ⟨S2x1024x1024, .f32⟩
  | .hbm, ⟨25, _⟩ => ⟨S2x1024x1024, .f32⟩
  | .hbm, ⟨26, _⟩ => ⟨S_, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | .hbm, ⟨37, _⟩ => ⟨S2x1024x1024, .f32⟩
  | .hbm, ⟨38, _⟩ => ⟨S_, .f32⟩
  | .hbm, ⟨39, _⟩ => ⟨S2x1024x1024, .f32⟩
  | .hbm, ⟨40, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamSmall.lean ====
abbrev S168x128 : Shape := ⟨2, ![168, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S168x128, .f32⟩
  | .hbm, ⟨1, _⟩ => ⟨S168x128, .f32⟩
  | .hbm, ⟨2, _⟩ => ⟨S168x128, .f32⟩
  | .hbm, ⟨3, _⟩ => ⟨S168x128, .f32⟩
  | .hbm, ⟨4, _⟩ => ⟨S168x128, .f32⟩
  | .hbm, ⟨5, _⟩ => ⟨S168x128, .f32⟩
  | .hbm, ⟨6, _⟩ => ⟨S168x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S168x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallOutIdeal.lean ====
abbrev S168x128 : Shape := ⟨2, ![168, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S168x128, .f32⟩
  | .hbm, ⟨1, _⟩ => ⟨S168x128, .f32⟩
  | .hbm, ⟨2, _⟩ => ⟨S168x128, .f32⟩
  | .hbm, ⟨3, _⟩ => ⟨S168x128, .f32⟩
  | .hbm, ⟨4, _⟩ => ⟨S_, .f32⟩
  | .hbm, ⟨5, _⟩ => ⟨S168x128, .f32⟩
  | .hbm, ⟨6, _⟩ => ⟨S168x128, .f32⟩
  | .hbm, ⟨7, _⟩ => ⟨S_, .f32⟩
  | .hbm, ⟨8, _⟩ => ⟨S168x128, .f32⟩
  | .hbm, ⟨9, _⟩ => ⟨S168x128, .f32⟩
  | .hbm, ⟨10, _⟩ => ⟨S168x128, .f32⟩
  | .hbm, ⟨11, _⟩ => ⟨S_, .f32⟩
  | .hbm, ⟨12, _⟩ => ⟨S168x128, .f32⟩
  | .hbm, ⟨13, _⟩ => ⟨S168x128, .f32⟩
  | .hbm, ⟨14, _⟩ => ⟨S168x128, .f32⟩
  | .hbm, ⟨15, _⟩ => ⟨S_, .f32⟩
  | .hbm, ⟨16, _⟩ => ⟨S168x128, .f32⟩
  | .hbm, ⟨17, _⟩ => ⟨S168x128, .f32⟩
  | .hbm, ⟨18, _⟩ => ⟨S168x128, .f32⟩
  | .hbm, ⟨19, _⟩ => ⟨S_, .f32⟩
  | .hbm, ⟨20, _⟩ => ⟨S168x128, .f32⟩
  | .hbm, ⟨21, _⟩ => ⟨S168x128, .f32⟩
  | .hbm, ⟨22, _⟩ => ⟨S_, .f32⟩
  | .hbm, ⟨23, _⟩ => ⟨S168x128, .f32⟩
  | .hbm, ⟨24, _⟩ => ⟨S168x128, .f32⟩
  | .hbm, ⟨25, _⟩ => ⟨S168x128, .f32⟩
  | .hbm, ⟨26, _⟩ => ⟨S_, .f32⟩
  | .hbm, ⟨27, _⟩ => ⟨S168x128, .f32⟩
  | .hbm, ⟨28, _⟩ => ⟨S168x128, .f32⟩
  | .hbm, ⟨29, _⟩ => ⟨S168x128, .f32⟩
  | .hbm, ⟨30, _⟩ => ⟨S_, .f32⟩
  | .hbm, ⟨31, _⟩ => ⟨S168x128, .f32⟩
  | .hbm, ⟨32, _⟩ => ⟨S168x128, .f32⟩
  | .hbm, ⟨33, _⟩ => ⟨S168x128, .f32⟩
  | .hbm, ⟨34, _⟩ => ⟨S_, .f32⟩
  | .hbm, ⟨35, _⟩ => ⟨S168x128, .f32⟩
  | .hbm, ⟨36, _⟩ => ⟨S168x128, .f32⟩
  | _, _ => ⟨S168x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S8x48x1024 : Shape := ⟨3, ![8, 48, 1024]⟩
abbrev S48x1024 : Shape := ⟨2, ![48, 1024]⟩
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .local _ .vmem, ⟨0, _⟩ => ⟨S8x16x1024, .f32⟩
  | .local _ .vmem, ⟨1, _⟩ => ⟨S8x16x1024, .f32⟩
  | .local _ .vmem, ⟨2, _⟩ => ⟨S16x1024, .f32⟩
  | .local _ .vmem, ⟨3, _⟩ => ⟨S16x1024, .f32⟩
  | _, _ => ⟨S8x48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallOutIdeal.lean ====
abbrev S8x48x1024 : Shape := ⟨3, ![8, 48, 1024]⟩
abbrev S_ : Shape := ⟨0, ![]⟩
abbrev S48x1024 : Shape := ⟨2, ![48, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x48x1024, .f32⟩
  | .hbm, ⟨1, _⟩ => ⟨S_, .f32⟩
  | .hbm, ⟨2, _⟩ => ⟨S48x1024, .f32⟩
  | _, _ => ⟨S8x48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PairSum.lean ====
abbrev S4x1024x1024 : Shape := ⟨3, ![4, 1024, 1024]⟩
abbrev S4x512x1024 : Shape := ⟨3, ![4, 512, 1024]⟩
abbrev S2 : Shape := ⟨1, ![2]⟩
abbrev S1x256x1024 : Shape := ⟨3, ![1, 256, 1024]⟩
abbrev S1 : Shape := ⟨1, ![1]⟩
abbrev S256x1024 : Shape := ⟨2, ![256, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x1024x1024, .f32⟩
  | .hbm, ⟨1, _⟩ => ⟨S4x512x1024, .bf16⟩
  | .hbm, ⟨2, _⟩ => ⟨S4x512x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .smem, ⟨0, _⟩ => ⟨S2, .i32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumOutIdeal.lean ====
abbrev S4x1024x1024 : Shape := ⟨3, ![4, 1024, 1024]⟩
abbrev S4x512x1024 : Shape := ⟨3, ![4, 512, 1024]⟩
abbrev S2 : Shape := ⟨1, ![2]⟩
abbrev S1 : Shape := ⟨1, ![1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x512x1024, .bf16⟩
  | .hbm, ⟨2, _⟩ => ⟨S2, .i32⟩
  | .hbm, ⟨3, _⟩ => ⟨S4x512x1024, .f32⟩
  | .hbm, ⟨4, _⟩ => ⟨S4x512x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x512x1024, .f32⟩
  | .hbm, ⟨10, _⟩ => ⟨S4x512x1024, .f32⟩
  | .hbm, ⟨11, _⟩ => ⟨S4x512x1024, .f32⟩
  | .hbm, ⟨12, _⟩ => ⟨S4x512x1024, .bf16⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.ShortConv.Run.lean ====
/-
  The short convolution's backward body, run once: what it stores in each of its four results, as a function of what the
  buffers it overwrites held before.
-/
module

public import proofs.«01_k».proof.Proof.Gen.ShortConvBwdIdeal.Frame.Runs
public import Idealize.ShloMosaic.Lib.Claim

@[expose] public section

set_option maxRecDepth 16384

noncomputable section

namespace Cert.ShortConvBwdIdeal.Body

open Cert.ShortConvBwdIdeal Cert.ShortConvBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S3x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S3x128 .f32) (harg9 : arg9.IsWhole) (arg10 : Memref sig .tc .vmem S4104x128 .f32) (harg10 : arg10.IsWhole) (arg11 : Memref sig .tc .vmem S4104x128 .f32) (harg11 : arg11.IsWhole)
variable (x0 x1 x2 : Vec F S4096x128 .f32) (x3 : Vec F S3x128 .f32) (x4 : Vec F S4096x128 .f32)

set_option maxHeartbeats 1000000 in
/-- The body's triple. `y5` and `ys` are what the first result's buffer and the scratch of the cotangents hold before; the lists of stores are read off the run. -/
def run (y5 : Vec F S4096x128 .bf16) (ys : Vec F S4104x128 .f32) :
    Σ' (L5 L6 L7 : List (View.Piece (Elt F) S4096x128 .bf16)), { L8 : List (View.Piece (Elt F) S3x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare y5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare ys
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
              ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)
              ∗ (∃ d, owns (c : Thread nD τ) arg10 fullShare d) ∗ (∃ d, owns (c : Thread nD τ) arg11 fullShare d)) -∗ K ⟨⟩))
          ⊢ wp frame (wpE (defs₀ (F := F)) Variants.none c none) E (cc0_mixer_a i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_mixer_a_eq_skeleton]; unfold cc0_mixer_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg11.eq_unread hfs1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [HS0]
    · iexists _, _; isplitr; swap; · iexact HS0
      ipureintro; rfl
    iexists _, _; isplitr; swap; · iexact HS1
    ipureintro; rfl

end Cert.ShortConvBwdIdeal.Body

end
-- ==== Proof.ShortConv.Stores.lean ====
/-
  What the short convolution's backward body stores does not depend on what it overwrites, and fills its results' blocks.
-/
module

public import proofs.«01_k».proof.Proof.ShortConv.Run
public import Idealize.ShloMosaic.Lib.Claim

@[expose] public section

set_option maxRecDepth 16384

noncomputable section

namespace Cert.ShortConvBwdIdeal.Body

open Cert.ShortConvBwdIdeal Cert.ShortConvBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S3x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S3x128 .f32) (harg9 : arg9.IsWhole) (arg10 : Memref sig .tc .vmem S4104x128 .f32) (harg10 : arg10.IsWhole) (arg11 : Memref sig .tc .vmem S4104x128 .f32) (harg11 : arg11.IsWhole)
variable (x0 x1 x2 : Vec F S4096x128 .f32) (x3 : Vec F S3x128 .f32) (x4 : Vec F S4096x128 .f32)

section Loop

variable (𝒱 : Variants) (bd : Option 𝒱.V) (X1 : BufTy.Contents (Elt F) arg1.view.ty) (X4 : BufTy.Contents (Elt F) arg4.view.ty)
  (X5 : BufTy.Contents (Elt F) arg5.view.ty) (X10 : BufTy.Contents (Elt F) arg10.view.ty)

/-- A trip of the first loop reads, of what it overwrites, only the taps' sums. -/
theorem trip_of (k : Fin k0_t1_loop.trips) (f6 g6 : BufTy.Contents (Elt F) arg6.view.ty) (f9 : BufTy.Contents (Elt F) arg9.view.ty)
    (f11 g11 : BufTy.Contents (Elt F) arg11.view.ty) :
    tripL_k0_t1 (F := F) 𝒱 c bd i arg1 harg1 arg2 harg2 arg3 harg3 arg4 harg4 arg5 harg5 arg6 harg6 arg7 harg7 arg8 harg8 arg9 harg9 arg10 harg10 arg11 harg11 X1 X4 X5 X10 k f6 f9 f11 = tripL_k0_t1 (F := F) 𝒱 c bd i arg1 harg1 arg2 harg2 arg3 harg3 arg4 harg4 arg5 harg5 arg6 harg6 arg7 harg7 arg8 harg8 arg9 harg9 arg10 harg10 arg11 harg11 X1 X4 X5 X10 k g6 f9 g11 := by
  unfold tripL_k0_t1 trip_k0_t1
  rfl

/-- So its stores are the same whatever the first result's buffer and the cotangents' scratch held. -/
theorem loop_of (f6 g6 : BufTy.Contents (Elt F) arg6.view.ty) (f9 : BufTy.Contents (Elt F) arg9.view.ty)
    (f11 g11 : BufTy.Contents (Elt F) arg11.view.ty) : ∀ n ≤ k0_t1_loop.trips,
    pb_k0_t1 (F := F) 𝒱 c bd i arg1 harg1 arg2 harg2 arg3 harg3 arg4 harg4 arg5 harg5 arg6 harg6 arg7 harg7 arg8 harg8 arg9 harg9 arg10 harg10 arg11 harg11 X1 X4 X5 X10 f6 f9 f11 n = pb_k0_t1 (F := F) 𝒱 c bd i arg1 harg1 arg2 harg2 arg3 harg3 arg4 harg4 arg5 harg5 arg6 harg6 arg7 harg7 arg8 harg8 arg9 harg9 arg10 harg10 arg11 harg11 X1 X4 X5 X10 g6 f9 g11 n
  | 0, _ => rfl
  | n + 1, hn => by
    have e := pb_k0_t1_succ (F := F) 𝒱 c bd i arg1 harg1 arg2 harg2 arg3 harg3 arg4 harg4 arg5 harg5 arg6 harg6 arg7 harg7 arg8 harg8 arg9 harg9 arg10 harg10 arg11 harg11 X1 X4 X5 X10 f6 f9 f11 ⟨n, hn⟩
    have e' := pb_k0_t1_succ (F := F) 𝒱 c bd i arg1 harg1 arg2 harg2 arg3 harg3 arg4 harg4 arg5 harg5 arg6 harg6 arg7 harg7 arg8 harg8 arg9 harg9 arg10 harg10 arg11 harg11 X1 X4 X5 X10 g6 f9 g11 ⟨n, hn⟩
    refine e.trans (Eq.trans ?_ e'.symm)
    rw [loop_of f6 g6 f9 f11 g11 n (Nat.le_of_lt hn)]
    exact congrArg (fun T : List (View.Piece (Elt F) S4096x128 .bf16) × List (View.Piece (Elt F) S3x128 .f32) × List (View.Piece (Elt F) S4104x128 .f32) =>
      (T.1 ++ (pb_k0_t1 (F := F) 𝒱 c bd i arg1 harg1 arg2 harg2 arg3 harg3 arg4 harg4 arg5 harg5 arg6 harg6 arg7 harg7 arg8 harg8 arg9 harg9 arg10 harg10 arg11 harg11 X1 X4 X5 X10 g6 f9 g11 n).1, T.2.1 ++ (pb_k0_t1 (F := F) 𝒱 c bd i arg1 harg1 arg2 harg2 arg3 harg3 arg4 harg4 arg5 harg5 arg6 harg6 arg7 harg7 arg8 harg8 arg9 harg9 arg10 harg10 arg11 harg11 X1 X4 X5 X10 g6 f9 g11 n).2.1, T.2.2 ++ (pb_k0_t1 (F := F) 𝒱 c bd i arg1 harg1 arg2 harg2 arg3 harg3 arg4 harg4 arg5 harg5 arg6 harg6 arg7 harg7 arg8 harg8 arg9 harg9 arg10 harg10 arg11 harg11 X1 X4 X5 X10 g6 f9 g11 n).2.2))
      (trip_of c i arg1 harg1 arg2 harg2 arg3 harg3 arg4 harg4 arg5 harg5 arg6 harg6 arg7 harg7 arg8 harg8 arg9 harg9 arg10 harg10 arg11 harg11 𝒱 bd X1 X4 X5 X10 ⟨n, hn⟩ _ _ _ _ _)

/-- The first loop's stores and the rows of zeros are the whole of the cotangents' scratch. -/
theorem cover_dp (f6 : BufTy.Contents (Elt F) arg6.view.ty) (f9 : BufTy.Contents (Elt F) arg9.view.ty) (f11 : BufTy.Contents (Elt F) arg11.view.ty) (y : S4104x128.Idx) :
    ∃ p ∈ (pb_k0_t1 (F := F) 𝒱 c bd i arg1 harg1 arg2 harg2 arg3 harg3 arg4 harg4 arg5 harg5 arg6 harg6 arg7 harg7 arg8 harg8 arg9 harg9 arg10 harg10 arg11 harg11 X1 X4 X5 X10 f6 f9 f11 k0_t1_loop.trips).2.2 ++ [⟨Rect.unit ![4096, 0] ![8, 128] inb_S4104x128_S8x128_4096_0, k0_pay3⟩], y ∈ p.1.set :=
  View.cover_of_tiledBy ((pb_k0_t1 (F := F) 𝒱 c bd i arg1 harg1 arg2 harg2 arg3 harg3 arg4 harg4 arg5 harg5 arg6 harg6 arg7 harg7 arg8 harg8 arg9 harg9 arg10 harg10 arg11 harg11 X1 X4 X5 X10 f6 f9 f11 k0_t1_loop.trips).2.2 ++ [⟨Rect.unit ![4096, 0] ![8, 128] inb_S4104x128_S8x128_4096_0, k0_pay3⟩]) ![8, 128] (by sl_kernel_rfl) y

/-- So what the second loop reads there does not depend on what the scratch held. -/
theorem dp_of (f6 g6 : BufTy.Contents (Elt F) arg6.view.ty) (f9 : BufTy.Contents (Elt F) arg9.view.ty) (f11 g11 e11 e11' : BufTy.Contents (Elt F) arg11.view.ty) :
    arg11.view.writes (Elt F) e11 ((pb_k0_t1 (F := F) 𝒱 c bd i arg1 harg1 arg2 harg2 arg3 harg3 arg4 harg4 arg5 harg5 arg6 harg6 arg7 harg7 arg8 harg8 arg9 harg9 arg10 harg10 arg11 harg11 X1 X4 X5 X10 f6 f9 f11 k0_t1_loop.trips).2.2 ++ [⟨Rect.unit ![4096, 0] ![8, 128] inb_S4104x128_S8x128_4096_0, k0_pay3⟩])
      = arg11.view.writes (Elt F) e11' ((pb_k0_t1 (F := F) 𝒱 c bd i arg1 harg1 arg2 harg2 arg3 harg3 arg4 harg4 arg5 harg5 arg6 harg6 arg7 harg7 arg8 harg8 arg9 harg9 arg10 harg10 arg11 harg11 X1 X4 X5 X10 g6 f9 g11 k0_t1_loop.trips).2.2 ++ [⟨Rect.unit ![4096, 0] ![8, 128] inb_S4104x128_S8x128_4096_0, k0_pay3⟩]) := by
  rw [loop_of c i arg1 harg1 arg2 harg2 arg3 harg3 arg4 harg4 arg5 harg5 arg6 harg6 arg7 harg7 arg8 harg8 arg9 harg9 arg10 harg10 arg11 harg11 𝒱 bd X1 X4 X5 X10 f6 g6 f9 f11 g11 _ le_rfl]
  refine (harg11.eq_unread ?_).trans (harg11.unread_read _)
  exact View.read_writes_of_cover _ _ _ _ _ (cover_dp c i arg1 harg1 arg2 harg2 arg3 harg3 arg4 harg4 arg5 harg5 arg6 harg6 arg7 harg7 arg8 harg8 arg9 harg9 arg10 harg10 arg11 harg11 𝒱 bd X1 X4 X5 X10 g6 f9 g11)

end Loop

variable (y5 z5 : Vec F S4096x128 .bf16) (ys zs : Vec F S4104x128 .f32)

/-- The run's stores do not depend on what it overwrites. -/
theorem run_db : (run c i arg1 harg1 arg2 harg2 arg3 harg3 arg4 harg4 arg5 harg5 arg6 harg6 arg7 harg7 arg8 harg8 arg9 harg9 arg10 harg10 arg11 harg11 x0 x1 x2 x3 x4 y5 ys).1 = (run c i arg1 harg1 arg2 harg2 arg3 harg3 arg4 harg4 arg5 harg5 arg6 harg6 arg7 harg7 arg8 harg8 arg9 harg9 arg10 harg10 arg11 harg11 x0 x1 x2 x3 x4 z5 zs).1 := by
  unfold run; dsimp only
  exact congrArg Prod.fst (loop_of c i arg1 harg1 arg2 harg2 arg3 harg3 arg4 harg4 arg5 harg5 arg6 harg6 arg7 harg7 arg8 harg8 arg9 harg9 arg10 harg10 arg11 harg11 _ _ _ _ _ _ _ _ _ _ _ _ le_rfl)

theorem run_dc : (run c i arg1 harg1 arg2 harg2 arg3 harg3 arg4 harg4 arg5 harg5 arg6 harg6 arg7 harg7 arg8 harg8 arg9 harg9 arg10 harg10 arg11 harg11 x0 x1 x2 x3 x4 y5 ys).2.1 = (run c i arg1 harg1 arg2 harg2 arg3 harg3 arg4 harg4 arg5 harg5 arg6 harg6 arg7 harg7 arg8 harg8 arg9 harg9 arg10 harg10 arg11 harg11 x0 x1 x2 x3 x4 z5 zs).2.1 := by
  unfold run; dsimp only
  exact congrArg (fun X => (pb_k0_t2 (F := F) Variants.none c none i arg1 harg1 arg2 harg2 arg3 harg3 arg4 harg4 arg5 harg5 arg6 harg6 arg7 harg7 arg8 harg8 arg9 harg9 arg10 harg10 arg11 harg11 (harg2.unread x1) (harg3.unread x2) (harg4.unread x3) X k0_t2_loop.trips).1) (dp_of c i arg1 harg1 arg2 harg2 arg3 harg3 arg4 harg4 arg5 harg5 arg6 harg6 arg7 harg7 arg8 harg8 arg9 harg9 arg10 harg10 arg11 harg11 _ _ _ _ _ _ _ _ _ _ _ _ _)

theorem run_dh : (run c i arg1 harg1 arg2 harg2 arg3 harg3 arg4 harg4 arg5 harg5 arg6 harg6 arg7 harg7 arg8 harg8 arg9 harg9 arg10 harg10 arg11 harg11 x0 x1 x2 x3 x4 y5 ys).2.2.1 = (run c i arg1 harg1 arg2 harg2 arg3 harg3 arg4 harg4 arg5 harg5 arg6 harg6 arg7 harg7 arg8 harg8 arg9 harg9 arg10 harg10 arg11 harg11 x0 x1 x2 x3 x4 z5 zs).2.2.1 := by
  unfold run; dsimp only
  exact congrArg (fun X => (pb_k0_t2 (F := F) Variants.none c none i arg1 harg1 arg2 harg2 arg3 harg3 arg4 harg4 arg5 harg5 arg6 harg6 arg7 harg7 arg8 harg8 arg9 harg9 arg10 harg10 arg11 harg11 (harg2.unread x1) (harg3.unread x2) (harg4.unread x3) X k0_t2_loop.trips).2) (dp_of c i arg1 harg1 arg2 harg2 arg3 harg3 arg4 harg4 arg5 harg5 arg6 harg6 arg7 harg7 arg8 harg8 arg9 harg9 arg10 harg10 arg11 harg11 _ _ _ _ _ _ _ _ _ _ _ _ _)

theorem run_dw : (run c i arg1 harg1 arg2 harg2 arg3 harg3 arg4 harg4 arg5 harg5 arg6 harg6 arg7 harg7 arg8 harg8 arg9 harg9 arg10 harg10 arg11 harg11 x0 x1 x2 x3 x4 y5 ys).2.2.2.1 = (run c i arg1 harg1 arg2 harg2 arg3 harg3 arg4 harg4 arg5 harg5 arg6 harg6 arg7 harg7 arg8 harg8 arg9 harg9 arg10 harg10 arg11 harg11 x0 x1 x2 x3 x4 z5 zs).2.2.2.1 := by
  unfold run; dsimp only
  exact congrArg (fun p => p.2.1 ++ run.sl.H8_1 (F := F)) (loop_of c i arg1 harg1 arg2 harg2 arg3 harg3 arg4 harg4 arg5 harg5 arg6 harg6 arg7 harg7 arg8 harg8 arg9 harg9 arg10 harg10 arg11 harg11 _ _ _ _ _ _ _ _ _ _ _ _ le_rfl)

/-! The stores are the whole of each result's block. -/

theorem cover_db (y : S4096x128.Idx) : ∃ p ∈ (run c i arg1 harg1 arg2 harg2 arg3 harg3 arg4 harg4 arg5 harg5 arg6 harg6 arg7 harg7 arg8 harg8 arg9 harg9 arg10 harg10 arg11 harg11 x0 x1 x2 x3 x4 y5 ys).1, y ∈ p.1.set :=
  View.cover_of_tiledL (run c i arg1 harg1 arg2 harg2 arg3 harg3 arg4 harg4 arg5 harg5 arg6 harg6 arg7 harg7 arg8 harg8 arg9 harg9 arg10 harg10 arg11 harg11 x0 x1 x2 x3 x4 y5 ys).1 S256x128.size (by sl_kernel_rfl) y

theorem cover_dc (y : S4096x128.Idx) : ∃ p ∈ (run c i arg1 harg1 arg2 harg2 arg3 harg3 arg4 harg4 arg5 harg5 arg6 harg6 arg7 harg7 arg8 harg8 arg9 harg9 arg10 harg10 arg11 harg11 x0 x1 x2 x3 x4 y5 ys).2.1, y ∈ p.1.set :=
  View.cover_of_tiledL (run c i arg1 harg1 arg2 harg2 arg3 harg3 arg4 harg4 arg5 harg5 arg6 harg6 arg7 harg7 arg8 harg8 arg9 harg9 arg10 harg10 arg11 harg11 x0 x1 x2 x3 x4 y5 ys).2.1 S256x128.size (by sl_kernel_rfl) y

theorem cover_dh (y : S4096x128.Idx) : ∃ p ∈ (run c i arg1 harg1 arg2 harg2 arg3 harg3 arg4 harg4 arg5 harg5 arg6 harg6 arg7 harg7 arg8 harg8 arg9 harg9 arg10 harg10 arg11 harg11 x0 x1 x2 x3 x4 y5 ys).2.2.1, y ∈ p.1.set :=
  View.cover_of_tiledL (run c i arg1 harg1 arg2 harg2 arg3 harg3 arg4 harg4 arg5 harg5 arg6 harg6 arg7 harg7 arg8 harg8 arg9 harg9 arg10 harg10 arg11 harg11 x0 x1 x2 x3 x4 y5 ys).2.2.1 S256x128.size (by sl_kernel_rfl) y

theorem cover_dw (y : S3x128.Idx) : ∃ p ∈ (run c i arg1 harg1 arg2 harg2 arg3 harg3 arg4 harg4 arg5 harg5 arg6 harg6 arg7 harg7 arg8 harg8 arg9 harg9 arg10 harg10 arg11 harg11 x0 x1 x2 x3 x4 y5 ys).2.2.2.1, y ∈ p.1.set :=
  View.cover_of_tiledBy (run c i arg1 harg1 arg2 harg2 arg3 harg3 arg4 harg4 arg5 harg5 arg6 harg6 arg7 harg7 arg8 harg8 arg9 harg9 arg10 harg10 arg11 harg11 x0 x1 x2 x3 x4 y5 ys).2.2.2.1 ![1, 128] (by sl_kernel_rfl) y

end Cert.ShortConvBwdIdeal.Body

end
-- ==== Proof.ShortConv.Frame.lean ====
/-
  The short convolution's backward call: its pipeline's proof data, its run, its frame.
-/
module

public import proofs.«01_k».proof.Proof.ShortConv.Stores
public import Idealize.ShloMosaic.Lib.Claim

@[expose] public section

set_option maxRecDepth 16384

noncomputable section

namespace Cert.ShortConvBwdIdeal.Body

open Cert.ShortConvBwdIdeal Cert.ShortConvBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at a point: on the point's staging buffers and blocks. -/
def runAt (c : Dev nD) (t : Fin cfg0.N) (y5 : Vec F S4096x128 .bf16) (ys : Vec F S4104x128 .f32) :=
  run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) y5 ys

/-- The lists of stores at a point, with nothing in particular overwritten. -/
def stores (c : Dev nD) (t : Fin cfg0.N) := runAt m c t (VO0_5.read (Elt F) VO0_5.junk) (scM0_1.view.read (Elt F) scM0_1.view.junk)

/-- What the four results' staging buffers hold after a point. -/
def left5 (c : Dev nD) (t : Fin cfg0.N) : Vec F S4096x128 .bf16 := VO0_5.read (Elt F) (VO0_5.writes (Elt F) VO0_5.junk (stores m c t).1)
def left6 (c : Dev nD) (t : Fin cfg0.N) : Vec F S4096x128 .bf16 := VO0_6.read (Elt F) (VO0_6.writes (Elt F) VO0_6.junk (stores m c t).2.1)
def left7 (c : Dev nD) (t : Fin cfg0.N) : Vec F S4096x128 .bf16 := VO0_7.read (Elt F) (VO0_7.writes (Elt F) VO0_7.junk (stores m c t).2.2.1)
def left8 (c : Dev nD) (t : Fin cfg0.N) : Vec F S3x128 .f32 := VO0_8.read (Elt F) (VO0_8.writes (Elt F) VO0_8.junk (stores m c t).2.2.2.1)

theorem left5_eq (c : Dev nD) (t : Fin cfg0.N) (y5 ys) (f : BufTy.Contents (Elt F) (ms0_5 t).view.ty) :
    (ms0_5 t).view.read (Elt F) ((ms0_5 t).view.writes (Elt F) f (runAt m c t y5 ys).1) = left5 m c t :=
  (congrArg (fun L => (ms0_5 t).view.read (Elt F) ((ms0_5 t).view.writes (Elt F) f L)) (run_db c (grid0.coords t) _ _ _ _ _ _ _ _ _ _ _ _ _ _ _ _ _ _ _ _ _ _ (iblk m c 0 t) (iblk m c 1 t) (iblk m c 2 t) (iblk m c 3 t) (iblk m c 4 t) _ _ _ _)).trans
    (View.read_writes_of_cover _ _ _ _ _ (cover_db c (grid0.coords t) _ _ _ _ _ _ _ _ _ _ _ _ _ _ _ _ _ _ _ _ _ _ (iblk m c 0 t) (iblk m c 1 t) (iblk m c 2 t) (iblk m c 3 t) (iblk m c 4 t) _ _))

theorem left6_eq (c : Dev nD) (t : Fin cfg0.N) (y5 ys) (f : BufTy.Contents (Elt F) (ms0_6 t).view.ty) :
    (ms0_6 t).view.read (Elt F) ((ms0_6 t).view.writes (Elt F) f (runAt m c t y5 ys).2.1) = left6 m c t :=
  (congrArg (fun L => (ms0_6 t).view.read (Elt F) ((ms0_6 t).view.writes (Elt F) f L)) (run_dc c (grid0.coords t) _ _ _ _ _ _ _ _ _ _ _ _ _ _ _ _ _ _ _ _ _ _ (iblk m c 0 t) (iblk m c 1 t) (iblk m c 2 t) (iblk m c 3 t) (iblk m c 4 t) _ _ _ _)).trans
    (View.read_writes_of_cover _ _ _ _ _ (cover_dc c (grid0.coords t) _ _ _ _ _ _ _ _ _ _ _ _ _ _ _ _ _ _ _ _ _ _ (iblk m c 0 t) (iblk m c 1 t) (iblk m c 2 t) (iblk m c 3 t) (iblk m c 4 t) _ _))

theorem left7_eq (c : Dev nD) (t : Fin cfg0.N) (y5 ys) (f : BufTy.Contents (Elt F) (ms0_7 t).view.ty) :
    (ms0_7 t).view.read (Elt F) ((ms0_7 t).view.writes (Elt F) f (runAt m c t y5 ys).2.2.1) = left7 m c t :=
  (congrArg (fun L => (ms0_7 t).view.read (Elt F) ((ms0_7 t).view.writes (Elt F) f L)) (run_dh c (grid0.coords t) _ _ _ _ _ _ _ _ _ _ _ _ _ _ _ _ _ _ _ _ _ _ (iblk m c 0 t) (iblk m c 1 t) (iblk m c 2 t) (iblk m c 3 t) (iblk m c 4 t) _ _ _ _)).trans
    (View.read_writes_of_cover _ _ _ _ _ (cover_dh c (grid0.coords t) _ _ _ _ _ _ _ _ _ _ _ _ _ _ _ _ _ _ _ _ _ _ (iblk m c 0 t) (iblk m c 1 t) (iblk m c 2 t) (iblk m c 3 t) (iblk m c 4 t) _ _))

theorem left8_eq (c : Dev nD) (t : Fin cfg0.N) (y5 ys) (f : BufTy.Contents (Elt F) (ms0_8 t).view.ty) :
    (ms0_8 t).view.read (Elt F) ((ms0_8 t).view.writes (Elt F) f (runAt m c t y5 ys).2.2.2.1) = left8 m c t :=
  (congrArg (fun L => (ms0_8 t).view.read (Elt F) ((ms0_8 t).view.writes (Elt F) f L)) (run_dw c (grid0.coords t) _ _ _ _ _ _ _ _ _ _ _ _ _ _ _ _ _ _ _ _ _ _ (iblk m c 0 t) (iblk m c 1 t) (iblk m c 2 t) (iblk m c 3 t) (iblk m c 4 t) _ _ _ _)).trans
    (View.read_writes_of_cover _ _ _ _ _ (cover_dw c (grid0.coords t) _ _ _ _ _ _ _ _ _ _ _ _ _ _ _ _ _ _ _ _ _ _ (iblk m c 0 t) (iblk m c 1 t) (iblk m c 2 t) (iblk m c 3 t) (iblk m c 4 t) _ _))

/-- The pipeline's proof data: every input's buffer keeps its block, every result's holds what the run left. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left5 m c t
    | ⟨6, _⟩ => left6 m c t
    | ⟨7, _⟩ => left7 m c t
    | ⟨8, _⟩ => left8 m c t
  Φ _ := Pipeline.ΦA spec0 c
  q w := Pipeline.shareOf spec0 w
  owed _ := 0

theorem data_A (c : Dev nD) (w : Fin cfg0.W) : (data m 0 c).A w = V m c (Pipeline.arrRef spec0 w) := by
  dsimp only [data]

/-- What the buffers hold after a point. -/
theorem data_after (c : Dev nD) (t : Fin cfg0.N) : ((data m 0 c).after 0 t = iblk m c 0 t ∧ (data m 0 c).after 1 t = iblk m c 1 t ∧ (data m 0 c).after 2 t = iblk m c 2 t
    ∧ (data m 0 c).after 3 t = iblk m c 3 t ∧ (data m 0 c).after 4 t = iblk m c 4 t) ∧ (data m 0 c).after 5 t = left5 m c t ∧ (data m 0 c).after 6 t = left6 m c t
    ∧ (data m 0 c).after 7 t = left7 m c t ∧ (data m 0 c).after 8 t = left8 m c t := by
  dsimp only [data]
  exact ⟨⟨rfl, rfl, rfl, rfl, rfl⟩, rfl, rfl, rfl, rfl⟩

/-- Every input's buffer holds its block before a point. -/
theorem data_before (c : Dev nD) (t : Fin cfg0.N) : (∀ d, (data m 0 c).before 0 t d = iblk m c 0 t) ∧ (∀ d, (data m 0 c).before 1 t d = iblk m c 1 t)
    ∧ (∀ d, (data m 0 c).before 2 t d = iblk m c 2 t) ∧ (∀ d, (data m 0 c).before 3 t d = iblk m c 3 t) ∧ ∀ d, (data m 0 c).before 4 t d = iblk m c 4 t :=
  ⟨before0_0_of m (data m 0 c) (data_A m c 0) (fun t => (data_after m c t).1.1) t, before0_1_of m (data m 0 c) (data_A m c 1) (fun t => (data_after m c t).1.2.1) t,
    before0_2_of m (data m 0 c) (data_A m c 2) (fun t => (data_after m c t).1.2.2.1) t, before0_3_of m (data m 0 c) (data_A m c 3) (fun t => (data_after m c t).1.2.2.2.1) t,
    before0_4_of m (data m 0 c) (data_A m c 4) (fun t => (data_after m c t).1.2.2.2.2) t⟩

set_option maxHeartbeats 800000 in
/-- The body at a point: the inputs' buffers hold their blocks, so the run applies; the scratch is handed over and taken back at some contents. -/
theorem body_at (c : Dev nD) (t : Fin cfg0.N) :
    iprop((data m 0 c).Φ t.castSucc ∗ (data m 0 c).owesAt () t.castSucc
      ∗ (∃ d, owns (c : Thread nD τ) (ms0_0 t) fullShare ((data m 0 c).before 0 t d))
      ∗ (∃ d, owns (c : Thread nD τ) (ms0_1 t) fullShare ((data m 0 c).before 1 t d))
      ∗ (∃ d, owns (c : Thread nD τ) (ms0_2 t) fullShare ((data m 0 c).before 2 t d))
      ∗ (∃ d, owns (c : Thread nD τ) (ms0_3 t) fullShare ((data m 0 c).before 3 t d))
      ∗ (∃ d, owns (c : Thread nD τ) (ms0_4 t) fullShare ((data m 0 c).before 4 t d))
      ∗ (∃ d, owns (c : Thread nD τ) (ms0_5 t) fullShare ((data m 0 c).before 5 t d))
      ∗ (∃ d, owns (c : Thread nD τ) (ms0_6 t) fullShare ((data m 0 c).before 6 t d))
      ∗ (∃ d, owns (c : Thread nD τ) (ms0_7 t) fullShare ((data m 0 c).before 7 t d))
      ∗ (∃ d, owns (c : Thread nD τ) (ms0_8 t) fullShare ((data m 0 c).before 8 t d)))
    ⊢ wp frame (wpE (defs₀ (F := F)) Variants.none c none) Set.univ (bodyAt0 t) (fun _ => iprop((data m 0 c).Φ t.succ ∗ (data m 0 c).owesAt () t.succ
      ∗ owns (c : Thread nD τ) (ms0_0 t) fullShare ((data m 0 c).after 0 t)
      ∗ owns (c : Thread nD τ) (ms0_1 t) fullShare ((data m 0 c).after 1 t)
      ∗ owns (c : Thread nD τ) (ms0_2 t) fullShare ((data m 0 c).after 2 t)
      ∗ owns (c : Thread nD τ) (ms0_3 t) fullShare ((data m 0 c).after 3 t)
      ∗ owns (c : Thread nD τ) (ms0_4 t) fullShare ((data m 0 c).after 4 t)
      ∗ owns (c : Thread nD τ) (ms0_5 t) fullShare ((data m 0 c).after 5 t)
      ∗ owns (c : Thread nD τ) (ms0_6 t) fullShare ((data m 0 c).after 6 t)
      ∗ owns (c : Thread nD τ) (ms0_7 t) fullShare ((data m 0 c).after 7 t)
      ∗ owns (c : Thread nD τ) (ms0_8 t) fullShare ((data m 0 c).after 8 t))) := by
  unfold bodyAt0
  obtain ⟨b0, b1, b2, b3, b4⟩ := data_before m c t
  obtain ⟨⟨a0, a1, a2, a3, a4⟩, a5, a6, a7, a8⟩ := data_after m c t
  simp only [b0, b1, b2, b3, b4, a0, a1, a2, a3, a4, a5, a6, a7, a8]
  rw [show (data m 0 c).Φ t.succ = (data m 0 c).Φ t.castSucc from rfl,
    show (data m 0 c).owesAt () t.succ = (data m 0 c).owesAt () t.castSucc from rfl,
    show (data m 0 c).Φ t.castSucc = Pipeline.ΦA spec0 c from rfl, PhiA0_eq]
  iintro ⟨⟨⟨HS0, ⟨%ys, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runAt m c t ((data m 0 c).before 5 t d5) ys).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  iintro ⟨H0, H1, H2, H3, H4, ⟨%e5, H5⟩, ⟨%e6, H6⟩, ⟨%e7, H7⟩, ⟨%e8, H8⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact left5_eq m c t _ _ _
  isplitl [H6]
  · unfold owns; iexists _; isplitr
    swap; · iexact H6
    ipureintro; exact left6_eq m c t _ _ _
  isplitl [H7]
  · unfold owns; iexists _; isplitr
    swap; · iexact H7
    ipureintro; exact left7_eq m c t _ _ _
  unfold owns; iexists _; isplitr
  swap; · iexact H8
  ipureintro; exact left8_eq m c t _ _ _

/-- The pipeline's obligation at every point. -/
theorem obligation (c : Dev nD) : BodyObligation (data (F := F) m 0 c) (defs₀ (F := F)) Variants.none () Set.univ := fun t => by
  rw [bigSep_W0, bigSep_W0]
  rw [show defs₀ (F := F) .tc cfg0.body (cfg0.bodyArgs t (cfg0.slots t)) = bodyAt0 t from by unfold defs₀; rw [Defs.onTc_tc]]
  exact triple_restated (body_at m c t) rfl .rfl fun _ => .rfl

set_option backward.isDefEq.respectTransparency.types false in
/-- The whole call: every array ends at what the proof data says, every semaphore at zero. -/
theorem whole : θ_run defs (onTc (τ := τ) (main (F := F))) (s₀ m ρ) (fun r => (Pipeline.FramePost cfgs (data m) 0 (V m)) r ∧ r.2.sem = fun _ => 0) :=
  Pipeline.θ_run_frame_shared (Q' := _) cfgs (data m) (0 : Fin 1) launch₀0 defs₀ Variants.none m ρ main
    (hbody := fun c => (obligation m c).loose) (hq := fun _ _ _ => rfl)
    (howed := fun _ _ => rfl) (V := V m) (hmain := hmain m Variants.none) (hA := data_A m) (hΦ := fun _ _ => rfl)

theorem whole_post : θ_run defs (onTc (τ := τ) (main (F := F))) (s₀ m ρ) (Pipeline.FramePost cfgs (data m) 0 (V m)) :=
  (θ_run defs _ _).mono (fun _ h => h.1) (whole m ρ)

/-- The call's frame: its arguments end unchanged and the machine is quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (data m) (data_A m) (whole_post m ρ)) ((θ_run defs _ _).mono (fun _ h => h.2) (whole m ρ))

end Cert.ShortConvBwdIdeal.Body

end
-- ==== Proof.ShortConv.Printed.lean ====
/-
  The short convolution's backward program as printed and the one read over the reals are one text: one frame serves both.
-/
module

public import proofs.«01_k».proof.Proof.ShortConv.Frame
public import proofs.«01_k».proof.Proof.Gen.ShortConvBwd.Launch
public import proofs.«01_k».proof.Defs

@[expose] public section
set_option maxRecDepth 65536
noncomputable section
namespace Cert.ShortConvBwdIdeal.Body
open Cert.ShortConvBwdIdeal Cert.ShortConvBwdIdeal.Gen
open Idealize.ShloMosaic Idealize.ShloMosaic.TcCoe Idealize.SL.Sem

/-- The two programs' body tables are the same. -/
theorem table_eq : (Cert.ShortConvBwd.defs₀ (F := Bits) : Defs nD τ sig (Elt Bits) Λ₀) = defs₀ (F := Bits) := by
  unfold Cert.ShortConvBwd.defs₀ defs₀
  refine congrArg Defs.onTc (funext fun (l : Fin 1) => ?_)
  obtain rfl : l = 0 := Subsingleton.elim _ _
  exact funext fun p => rfl

theorem defs_eq : (Cert.ShortConvBwd.defs (F := Bits) : Defs nD τ sig (Elt Bits) (Pipeline.Sig Λ₀ (Fin 1) fun p => (pcfgs (F := Bits) p).Adm)) = defs (F := Bits) :=
  congrArg (Pipeline.defs (pcfgs (F := Bits))) table_eq

/-- The frame of the program as printed, which is the same text. -/
theorem frame_printed : Cert.quiescent_ShortConvBwd := fun m g _ => by
  have h := frame (F := Bits) m g
  rw [← defs_eq] at h
  exact h

end Cert.ShortConvBwdIdeal.Body
end
-- ==== Proof.Swap.Run.lean ====
/-
  The exchange of gradient halves between the two cores of a chip: every device runs, ends with its own gradients as they
  were and with the half its sibling sent. One round of the rounds library: the sibling's signal on the barrier semaphore
  hands over the buffers the copies land in, each copy hands its source back on the send semaphore and the landed half on
  the receive semaphore.
-/
module

public import proofs.«01_k».proof.Proof.Gen.SwapHalvesIdeal
public import proofs.«01_k».proof.Proof.Gen.SwapHalvesIdeal.Skeleton
public import proofs.«01_k».proof.Proof.Gen.SwapHalvesIdeal.Launch
public import proofs.«01_k».proof.Proof.Gen.SwapHalvesIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section
noncomputable section
namespace Cert.SwapHalvesIdeal.Body
open Cert.SwapHalvesIdeal Cert.SwapHalvesIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The pipeline's ghost state beside that of the exchange, whose cells have one duty each. -/
abbrev Ghost : Type := UR sig nD τ × URounds (GSem nD τ sig) Unit

local notation "𝕄" => MT nD τ sig Unit (Elt F) ℕ Ghost ℕ

abbrev EX : Emb (URounds (GSem nD τ sig) Unit) (MT nD τ sig Unit (Elt F) ℕ Ghost ℕ) := embR

variable (m : (ℓ : Loc nD τ sig) → Buf (Elt F) ℓ) (ρ : Dev nD → PrngReg)

/-! ## The sibling -/

/-- The other core of the same chip. -/
def sib (c : Dev nD) : Dev nD := ⟨2 * (c.val / 2) + (1 - c.val % 2), by have h : c.val < 8 := c.isLt; show _ < 8; omega⟩

theorem sib_sib (c : Dev nD) : sib (sib c) = c := by revert c; decide
theorem dev1_sib (c : Dev nD) : (⟨k0_dev1 c, k0_dev1_lt c⟩ : Dev nD) = sib c := by revert c; decide +kernel
theorem dev2_sib (c : Dev nD) : (⟨k0_dev2 c, k0_dev2_lt c⟩ : Dev nD) = sib c := by revert c; decide +kernel
theorem dev3_sib (c : Dev nD) : (⟨k0_dev3 c, k0_dev3_lt c⟩ : Dev nD) = sib c := by revert c; decide +kernel

/-! ## The cells -/

/-- The barrier semaphore, the two send semaphores, the two receive semaphores. -/
abbrev sems : Fin 5 → SemLoc sig := fun | 0 => .reg 0 | 1 => .dma 0 | 2 => .dma 1 | 3 => .dma 2 | 4 => .dma 3
abbrev cell (cj : Dev nD × Fin 5) : GSem nD τ sig := ((cj.1 : Thread nD τ), sems cj.2)

theorem sems_inj : Function.Injective sems := by decide
theorem cell_inj : Function.Injective (cell : Dev nD × Fin 5 → GSem nD τ sig) := by
  rintro ⟨c, j⟩ ⟨d, k⟩ h
  have h1 : c = d := congrArg (fun g : GSem nD τ sig => g.1.1) h
  have h2 : j = k := sems_inj (congrArg Prod.snd h)
  rw [h1, h2]

abbrev outM : Memref sig .tc .hbm S4x128x1024 .bf16 := Memref.whole main_v1_0
abbrev inM : Memref sig .tc .hbm S4x512x640 .bf16 := Memref.whole main_v1_1
/-- The half a device sends of each array: the one its sibling keeps. -/
abbrev outHalf (c : Dev nD) : Memref sig .tc .hbm S4x128x1024 .bf16 :=
  (Memref.whole main_arg0).slice (Rect.unit (s := S4x256x1024) (k0_off1 c) S4x128x1024.size (k0_off1_inb c)) (fun _ => rfl)
abbrev inHalf (c : Dev nD) : Memref sig .tc .hbm S4x512x640 .bf16 :=
  (Memref.whole main_arg1).slice (Rect.unit (s := S4x1024x640) (k0_off2 c) S4x512x640.size (k0_off2_inb c)) (fun _ => rfl)

/-- What a device receives. -/
def outGot (c : Dev nD) : Buf (Elt F) ((c : Thread nD τ).loc main_v1_0) :=
  (outHalf (sib c)).view.read (Elt F) (m (((sib c : Dev nD) : Thread nD τ).loc main_arg0))
def inGot (c : Dev nD) : Buf (Elt F) ((c : Thread nD τ).loc main_v1_1) :=
  (inHalf (sib c)).view.read (Elt F) (m (((sib c : Dev nD) : Thread nD τ).loc main_arg1))

def outPts (c : Dev nD) (f : Buf (Elt F) (outM.view.loc (c : Thread nD τ))) : sProp 𝕄 := outM.view.loc (c : Thread nD τ) ↦[outM.view.set]{fullShare} f
def inPts (c : Dev nD) (f : Buf (Elt F) (inM.view.loc (c : Thread nD τ))) : sProp 𝕄 := inM.view.loc (c : Thread nD τ) ↦[inM.view.set]{fullShare} f
def outSrc (c : Dev nD) : sProp 𝕄 := (outHalf c).view.loc (c : Thread nD τ) ↦[(outHalf c).view.set]{fullShare} m ((c : Thread nD τ).loc main_arg0)
def inSrc (c : Dev nD) : sProp 𝕄 := (inHalf c).view.loc (c : Thread nD τ) ↦[(inHalf c).view.set]{fullShare} m ((c : Thread nD τ).loc main_arg1)

omit [FloatOps F] in
instance outPts_storable (c : Dev nD) (f) : BI.Storable (upEmb : UEmb _ 𝕄) (outPts (F := F) c f) := by unfold outPts; infer_instance
omit [FloatOps F] in
instance inPts_storable (c : Dev nD) (f) : BI.Storable (upEmb : UEmb _ 𝕄) (inPts (F := F) c f) := by unfold inPts; infer_instance
omit [FloatOps F] in
instance outSrc_storable (c : Dev nD) : BI.Storable (upEmb : UEmb _ 𝕄) (outSrc m c) := by unfold outSrc; infer_instance
omit [FloatOps F] in
instance inSrc_storable (c : Dev nD) : BI.Storable (upEmb : UEmb _ 𝕄) (inSrc m c) := by unfold inSrc; infer_instance

/-! ## The schedule -/

/-- The credit of each cell's one payment. -/
def amt : SemLoc sig → ℕ
  | .reg _ => 1
  | .dma q => ![outM.view.dmaCredit, inM.view.dmaCredit, outM.view.dmaCredit, inM.view.dmaCredit] q

/-- What each cell's payment brings: the barrier the sibling's landing buffers, a send semaphore the source again, a receive
    semaphore the half that landed. -/
def pay (c : Dev nD) : SemLoc sig → sProp 𝕄
  | .reg _ => iprop((∃ f, outPts (sib c) f) ∗ ∃ f, inPts (sib c) f)
  | .dma q => (![outSrc m c, inSrc m c, outPts c (outGot m c), inPts c (inGot m c)] : Fin 4 → sProp 𝕄) q

omit [FloatOps F] in
instance pay_storable (c : Dev nD) (s : SemLoc sig) : BI.Storable (upEmb : UEmb _ 𝕄) (pay m c s) := by
  cases s with
  | reg q => show BI.Storable upEmb (iprop((∃ f, outPts (sib c) f) ∗ ∃ f, inPts (sib c) f) : sProp 𝕄); infer_instance
  | dma q =>
    show BI.Storable upEmb ((![outSrc m c, inSrc m c, outPts c (outGot m c), inPts c (inGot m c)] : Fin 4 → sProp 𝕄) q)
    match q with
    | 0 => exact outSrc_storable m c
    | 1 => exact inSrc_storable m c
    | 2 => exact outPts_storable c _
    | 3 => exact inPts_storable c _

theorem amt_pos (s : SemLoc sig) : 0 < amt s := by
  cases s with
  | reg q => exact Nat.one_pos
  | dma q =>
    show 0 < (![outM.view.dmaCredit, inM.view.dmaCredit, outM.view.dmaCredit, inM.view.dmaCredit] : Fin 4 → ℕ) q
    match q with
    | 0 => exact View.dmaCredit_pos _ (by decide)
    | 1 => exact View.dmaCredit_pos _ (by decide)
    | 2 => exact View.dmaCredit_pos _ (by decide)
    | 3 => exact View.dmaCredit_pos _ (by decide)

def sched : Rounds.Schedule (GSem nD τ sig) Unit 𝕄 where
  duties g r := if r = 0 then {()} else ∅
  unitless _ := False
  amount g _ _ := amt g.2
  payload g _ _ := pay m g.1.1 g.2
  amount_pos g _ _ _ := amt_pos g.2

omit [FloatOps F] in
instance sched_storable (g : GSem nD τ sig) (r : ℕ) (d : Unit) : BI.Storable (upEmb : UEmb _ 𝕄) ((sched m).payload g r d) :=
  pay_storable m g.1.1 g.2

omit [FloatOps F] in
theorem duties_first (g : GSem nD τ sig) : (sched m).duties g 0 = {()} := rfl
omit [FloatOps F] in
theorem duties_later (g : GSem nD τ sig) : ∀ r, 1 ≤ r → (sched m).duties g r = ∅ := fun r hr => if_neg (by omega)
omit [FloatOps F] in
theorem duty (g : GSem nD τ sig) : () ∈ (sched m).duties g 0 := Finset.mem_singleton_self _
omit [FloatOps F] in
theorem expect_first (g : GSem nD τ sig) : (sched m).expect g 0 = amt g.2 := by
  unfold Schedule.expect Schedule.amountOf; rw [duties_first, Finset.sum_singleton]; rfl
omit [FloatOps F] in
theorem rest_first (g : GSem nD τ sig) :
    bigSep ((sched m).duties g 0 \ ∅) (fun d => (sched m).payload g 0 d) = pay m g.1.1 g.2 := by
  rw [Finset.sdiff_empty, duties_first, bigSep_singleton]; rfl

/-! ## What a device owes, and the levels -/

/-- The second copy's credit, with the first copy's, with the signal. -/
def owe₂ (c : Dev nD) : CellTallies nD τ sig Unit := 0 + tallyAt (cell (sib c, 4)) () (amt (sems 4))
def owe₁ (c : Dev nD) : CellTallies nD τ sig Unit := owe₂ c + tallyAt (cell (sib c, 3)) () (amt (sems 3))
def owe₀ (c : Dev nD) : CellTallies nD τ sig Unit := owe₁ c + tallyAt (cell (sib c, 0)) () (amt (sems 0))

def lab (g : GSem nD τ sig) : Finset Unit := if g.1.2 = .tc then {()} else ∅
/-- The barrier below the copies. -/
def lev (g : GSem nD τ sig) (_ : Unit) : ℕ := match g.2 with | .reg _ => 1 | .dma _ => 2

theorem lab_tc (c : Dev nD) (s : SemLoc sig) : lab ((c : Thread nD τ), s) = {()} := if_pos rfl

theorem owe₁_cells {c : Dev nD} {g : GSem nD τ sig} {u : Unit} (h : 0 < owe₁ c g u) : g = cell (sib c, 4) ∨ g = cell (sib c, 3) := by
  unfold owe₁ owe₂ at h
  rw [zero_add, Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- At its barrier a device owes the two copies only, both above. -/
theorem mayWait_bar (c : Dev nD) : (levAts lab lev : sProp 𝕄) ⊢ MayWait (c : Thread nD τ) (sems 0) () (owe₁ c) :=
  MayOwe.of_cut (L := lab) (lev := lev) 1 (fun p hp => by rw [Finset.mem_singleton.mp hp, lab_tc]; exact Finset.mem_singleton_self _)
    (fun g u hg => by rcases owe₁_cells hg with rfl | rfl <;> exact Finset.mem_singleton_self _)
    (fun p hp => by rw [Finset.mem_singleton.mp hp]; exact le_refl 1)
    (fun g u hg => by rcases owe₁_cells hg with rfl | rfl <;> exact Nat.lt_succ_self 1)

/-! ## A device's share of the ghost state -/

section Body
variable (K : Dev nD × Fin 5 → ℕ)

/-- Every cell's invariant and that it has reached its first round. -/
def records : sProp 𝕄 :=
  iprop((bigSep Finset.univ fun cj : Dev nD × Fin 5 => cellInv EX (sched m) (K cj) (cell cj))
    ∗ bigSep Finset.univ fun cj : Dev nD × Fin 5 => reached EX (cell cj) 0)

omit [FloatOps F] in
instance records_persistent : BI.Persistent (records m K) := by unfold records; infer_instance

omit [FloatOps F] in
theorem inv_of (cj : Dev nD × Fin 5) : records m K ⊢ cellInv EX (sched m) (K cj) (cell cj) := by
  unfold records
  iintro ⟨H, -⟩
  have h : (bigSep Finset.univ fun cj : Dev nD × Fin 5 => (cellInv EX (sched m) (K cj) (cell cj) : sProp 𝕄)) ⊢ (cellInv EX (sched m) (K cj) (cell cj) : sProp 𝕄) := bigSep_elim (Finset.mem_univ cj)
  iapply h $$ H
omit [FloatOps F] in
theorem reached_of (cj : Dev nD × Fin 5) : records m K ⊢ reached EX (cell cj) 0 := by
  unfold records
  iintro ⟨-, H⟩
  have h : (bigSep Finset.univ fun cj : Dev nD × Fin 5 => (reached EX (cell cj) 0 : sProp 𝕄)) ⊢ (reached EX (cell cj) 0 : sProp 𝕄) := bigSep_elim (Finset.mem_univ cj)
  iapply h $$ H

/-- Whose cell `j` a device pays: its own send semaphores, the sibling's others. -/
def payee (cj : Dev nD × Fin 5) : Dev nD × Fin 5 := (if cj.2 = 1 ∨ cj.2 = 2 then cj.1 else sib cj.1, cj.2)

theorem payee_payee (cj : Dev nD × Fin 5) : payee (payee cj) = cj := by
  obtain ⟨c, j⟩ := cj
  unfold payee
  dsimp only
  split
  · rfl
  · rw [sib_sib]

def payees : Dev nD × Fin 5 ≃ Dev nD × Fin 5 := ⟨payee, payee, payee_payee, payee_payee⟩

/-- A device's positions and the tokens of the duties it pays. -/
def linear (c : Dev nD) : sProp 𝕄 :=
  iprop((bigSep Finset.univ fun j : Fin 5 => atPos EX (cell (c, j)) 0 ∅ 0)
    ∗ bigSep Finset.univ fun j : Fin 5 => dutyTok EX (cell (payee (c, j))) 0 ())

omit [FloatOps F] in
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The credit a device starts with: its barrier's and its two receive semaphores'. -/
def credit (c : Dev nD) : sProp 𝕄 :=
  iprop(cred (tallyAt (cell (c, 0)) () (amt (sems 0))) ∗ cred (tallyAt (cell (c, 3)) () (amt (sems 3)))
    ∗ cred (tallyAt (cell (c, 4)) () (amt (sems 4))))

/-- The two arguments of a device, as launched. -/
def argPts (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)))

def first (c : Dev nD) : sProp 𝕄 :=
  iprop((∃ K, records m K ∗ linear c) ∗ credit c ∗ levAts lab lev ∗ argPts m c ∗ (∃ f, outPts c f) ∗ ∃ f, inPts c f)
def final (c : Dev nD) : sProp 𝕄 :=
  iprop((bigSep Finset.univ fun j : Fin 5 => semVal (cell (c, j)) 0) ∗ argPts m c ∗ outPts c (outGot m c) ∗ inPts c (inGot m c))

def dats (_ : Fin 1) (c : Dev nD) : Dat τ (Elt F) Unit ℕ Ghost ℕ cfg0 c where
  A w := w.elim0
  after w _ := w.elim0
  Φ t := match t with
    | ⟨0, _⟩ => first m c
    | ⟨_ + 1, _⟩ => final m c
  q _ := fullShare
  owed t := match t with
    | ⟨0, _⟩ => owe₀ c
    | ⟨_ + 1, _⟩ => 0

abbrev vars : Variants := Variants.none

/-! ## The steps of the body -/

/-- Waiting for one of its cells and closing it: what was paid in, and the counter at zero. -/
theorem wait_cell (c : Dev nD) (j : Fin 5) {w : TpuEff nD τ sig (Elt F) Λ₀ (c : Thread nD τ).2 PUnit}
    (hw : ∀ R : PUnit → sProp 𝕄, wpE (defs₀ (F := F)) vars (c : Thread nD τ) none Set.univ w R = waitSpec (c : Thread nD τ) Set.univ (sems j) (amt (sems j)) R)
    (O : CellTallies nD τ sig Unit) (W : Waits sig Unit) {P : sProp 𝕄} (hP : pay m c (sems j) ⊢ P)
    {α : Type} {Q : α → sProp 𝕄} {k : PUnit → Prog (TpuEff nD τ sig (Elt F) Λ₀ (c : Thread nD τ).2) α} :
    iprop(records m K ∗ cred (tallyAt (cell (c, j)) () (amt (sems j))) ∗ owes (c : Thread nD τ) O W ∗ MayWait (c : Thread nD τ) (sems j) () O
        ∗ atPos EX (cell (c, j)) 0 ∅ 0)
      ⊢ iprop(((owes (c : Thread nD τ) O (insert (sems j, ()) W) ∗ semVal (cell (c, j)) 0 ∗ P)
            -∗ wp frame (wpE (defs₀ (F := F)) vars (c : Thread nD τ) none) Set.univ (k ⟨⟩) Q)
          -∗ wp frame (wpE (defs₀ (F := F)) vars (c : Thread nD τ) none) Set.univ (.op w k) Q) := by
  iintro ⟨#HR, Hc, HO, Hm, Hat⟩ Hk
  ihave #HI := (inv_of m K (c, j)) $$ HR
  iapply (Rounds.wp_wait_rest_token vars EX (sched m) (c : Thread nD τ) none (κ := K (c, j)) hw (Set.mem_univ _) () (O := O) (W := W) (R := 0)
      (m := 0) (T := ∅) (by rw [Nat.zero_add, expect_first])) $$ [Hc HO Hm Hat]
  · isplitr; · iexact HI
    isplitl [Hc]; · iexact Hc
    isplitl [HO]; · iexact HO
    isplitl [Hm]; · iexact Hm
    iexact Hat
  iintro ⟨HO, Hat, -, Hpay⟩
  ihave Hp := (Entails.of_eq (rest_first m (cell (c, j)))) $$ Hpay
  imod (Rounds.cell_close EX (sched m) (Set.mem_univ (K (c, j))) (fun h => h) (R := 0 + 1) (duties_later m (cell (c, j)))) $$ [Hat] with Hz
  · isplitr; · iexact HI
    iexact Hat
  iapply Hk
  isplitl [HO]; · iexact HO
  isplitl [Hz]; · iexact Hz
  iapply hP; iexact Hp

/-- Waiting for one of its copies, owing nothing. -/
theorem wait_copy (c : Dev nD) (j : Fin 5) {q : DmaSem sig} (hq : sems j = .dma q) {s s' : Shape}
    {src : Memref sig .tc .hbm s .bf16} {dst : Memref sig .tc .hbm s' .bf16} {hsrc : src.view.WordExact} {hdst : dst.view.WordExact}
    (hN : dst.view.dmaCredit = amt (sems j)) (W : Waits sig Unit) {P : sProp 𝕄} (hP : pay m c (sems j) ⊢ P)
    {α : Type} {Q : α → sProp 𝕄} {k : PUnit → Prog (TpuEff nD τ sig (Elt F) Λ₀ .tc) α} :
    iprop(records m K ∗ cred (tallyAt (cell (c, j)) () (amt (sems j))) ∗ owes (c : Thread nD τ) 0 W ∗ atPos EX (cell (c, j)) 0 ∅ 0)
      ⊢ iprop(((owes (c : Thread nD τ) 0 (insert (sems j, ()) W) ∗ semVal (cell (c, j)) 0 ∗ P)
            -∗ wp frame (wpE (defs₀ (F := F)) vars (c : Thread nD τ) none) Set.univ (k ⟨⟩) Q)
          -∗ wp frame (wpE (defs₀ (F := F)) vars (c : Thread nD τ) none) Set.univ (.op (.waitDma2 q src dst hsrc hdst) k) Q) := by
  iintro ⟨#HR, Hc, HO, Ha⟩
  iapply (wait_cell m K c j (fun R => by rw [wpE_waitDma2_eq, hN, hq]) 0 W hP) $$ [Hc HO Ha]
  isplitr; · iexact HR
  isplitl [Hc]; · iexact Hc
  isplitl [HO]; · iexact HO
  isplitr; · rw [MayWait_zero]; iempintro
  iexact Ha

/-- A copy to the sibling: the source becomes the send payload, the landing buffer rewritten the receive payload; the send
    credit comes back and the receive credit is no longer owed. -/
theorem copy_cell (c p : Dev nD) (hp : p = sib c) (j i : Fin 5) (hj : payee (c, j) = (c, j)) (hi : payee (c, i) = (sib c, i)) {s : Shape}
    {src dst : Memref sig .tc .hbm s .bf16} {hsc : (dst : Memref sig (Dev.tc p : Thread nD τ).2.kind .hbm s .bf16).view.ref.isScScratch = false}
    {hsrc : src.view.WordExact} {hdst : dst.view.WordExact}
    {hsem : DmaTarget.Typed .hbm (sems i) (.remote (Dev.tc p : Thread nD τ) (dst : Memref sig .tc .hbm s .bf16) (sems j) hsc)}
    (hN : dst.view.amount (sems i) = amt (sems i)) (hji : amt (sems j) = amt (sems i))
    (fs : Buf (Elt F) (src.view.loc (c : Thread nD τ))) (fd : Buf (Elt F) (dst.view.loc (sib c : Thread nD τ)))
    (hs : (src.view.loc (c : Thread nD τ) ↦[src.view.set]{fullShare} fs) ⊢ pay m c (sems j))
    (hd : (dst.view.loc (sib c : Thread nD τ) ↦[dst.view.set]{fullShare} (dst.view.write (Elt F) fd (src.view.read (Elt F) fs) Finset.univ))
      ⊢ pay m (sib c) (sems i))
    {S D : sProp 𝕄} (hS : S ⊢ (src.view.loc (c : Thread nD τ) ↦[src.view.set]{fullShare} fs))
    (hD : D ⊢ (dst.view.loc (sib c : Thread nD τ) ↦[dst.view.set]{fullShare} fd))
    (O O' : CellTallies nD τ sig Unit) (hO : O' = O + tallyAt (cell (sib c, i)) () (amt (sems i))) (W : Waits sig Unit)
    {α : Type} {Q : α → sProp 𝕄} {k : PUnit → Prog (TpuEff nD τ sig (Elt F) Λ₀ .tc) α} :
    iprop(records m K ∗ S ∗ D ∗ owes (c : Thread nD τ) O' W ∗ dutyTok EX (cell (payee (c, j))) 0 () ∗ dutyTok EX (cell (payee (c, i))) 0 ())
      ⊢ iprop(((cred (tallyAt (cell (c, j)) () (amt (sems j))) ∗ owes (c : Thread nD τ) O W)
            -∗ wp frame (wpE (defs₀ (F := F)) vars (c : Thread nD τ) none) Set.univ (k ⟨⟩) Q)
          -∗ wp frame (wpE (defs₀ (F := F)) vars (c : Thread nD τ) none) Set.univ
              (.op (.enqueueDma src (.remote (Dev.tc p : Thread nD τ) dst (sems j) hsc) (sems i) hsrc hdst hsem) k) Q) := by
  subst hp
  rw [hj, hi, hji]
  iintro ⟨#HR, Hs, Hd, HO, Hj, Hi⟩
  iapply (Rounds.wp_send_pointsTo vars EX (sched m) (c : Thread nD τ) none (κ₁ := K (c, j)) (κ₂ := K (sib c, i)) (r₁ := 0) (r₂ := 0) (d₁ := ()) (d₂ := ())
      (fd := fd) (duty m (cell (c, j))) (duty m (cell (sib c, i))) () () (amt (sems i)) hN hji rfl O hO (W := W) hs hd) $$ [Hs Hd HO Hj Hi]
  isplitr; · iapply (inv_of m K (c, j)); iexact HR
  isplitr; · iapply (inv_of m K (sib c, i)); iexact HR
  isplitl [Hs]; · iapply hS; iexact Hs
  isplitl [Hd]; · iapply hD; iexact Hd
  isplitl [HO]; · iexact HO
  isplitl [Hj]; · iexact Hj
  isplitr; · iapply (reached_of m K (c, j)); iexact HR
  isplitl [Hi]; · iexact Hi
  iapply (reached_of m K (sib c, i)); iexact HR

omit [FloatOps F] in
/-- An argument split into the half sent and the half kept. -/
theorem out_split (c : Dev nD) : ((((c : Thread nD τ).loc main_arg0) ↦{fullShare} m ((c : Thread nD τ).loc main_arg0)) : sProp 𝕄)
    ⊣⊢ iprop(outSrc m c ∗ (((c : Thread nD τ).loc main_arg0) ↦[Finset.univ \ (outHalf c).view.set]{fullShare} m ((c : Thread nD τ).loc main_arg0))) :=
  pointsTo_split_subset (Finset.subset_univ _)
omit [FloatOps F] in
theorem in_split (c : Dev nD) : ((((c : Thread nD τ).loc main_arg1) ↦{fullShare} m ((c : Thread nD τ).loc main_arg1)) : sProp 𝕄)
    ⊣⊢ iprop(inSrc m c ∗ (((c : Thread nD τ).loc main_arg1) ↦[Finset.univ \ (inHalf c).view.set]{fullShare} m ((c : Thread nD τ).loc main_arg1))) :=
  pointsTo_split_subset (Finset.subset_univ _)

/-- What has landed is what the sibling sent. -/
theorem out_lands (c : Dev nD) (f : Buf (Elt F) (outM.view.loc (sib c : Thread nD τ))) :
    (outM.view.loc (sib c : Thread nD τ) ↦[outM.view.set]{fullShare} (outM.view.write (Elt F) f
        ((outHalf c).view.read (Elt F) (m ((c : Thread nD τ).loc main_arg0))) Finset.univ) : sProp 𝕄) ⊢ pay m (sib c) (sems 3) := by
  show _ ⊢ outPts (sib c) (outGot m (sib c))
  unfold outPts outGot
  rw [sib_sib]
  exact Entails.of_eq (by rw [View.write_whole_univ])
theorem in_lands (c : Dev nD) (f : Buf (Elt F) (inM.view.loc (sib c : Thread nD τ))) :
    (inM.view.loc (sib c : Thread nD τ) ↦[inM.view.set]{fullShare} (inM.view.write (Elt F) f
        ((inHalf c).view.read (Elt F) (m ((c : Thread nD τ).loc main_arg1))) Finset.univ) : sProp 𝕄) ⊢ pay m (sib c) (sems 4) := by
  show _ ⊢ inPts (sib c) (inGot m (sib c))
  unfold inPts inGot
  rw [sib_sib]
  exact Entails.of_eq (by rw [View.write_whole_univ])

omit [FloatOps F] in
/-- A device's signal brings the sibling its own landing buffers. -/
theorem buffers_given (c : Dev nD) : iprop((∃ f, outPts c f) ∗ ∃ f, inPts c f) ⊢ (sched m).payload (cell (sib c, 0)) 0 () := by
  show _ ⊢ iprop((∃ f, outPts (sib (sib c)) f) ∗ ∃ f, inPts (sib (sib c)) f)
  rw [sib_sib]
omit [FloatOps F] in
theorem buffers_got (c : Dev nD) : pay m c (sems 0) ⊢ iprop((∃ f, outPts (sib c) f) ∗ ∃ f, inPts (sib c) f) := Entails.refl _
theorem final_of (c : Dev nD) : final m c ⊢ (dats m 0 c).Φ t0_0.succ := Entails.refl _

def after (c : Dev nD) : sProp 𝕄 := iprop(final m c ∗ (dats m 0 c).owesAt () t0_0.succ)

set_option maxHeartbeats 1600000 in
/-- The body from `first` to `final`: signal the sibling, wait for its signal, start both copies, wait for all four. -/
theorem body_runs (c : Dev nD) (Kt : PUnit → sProp 𝕄) :
    iprop((first m c ∗ (dats m 0 c).owesAt () t0_0.castSucc) ∗ (after m c -∗ Kt ⟨⟩))
      ⊢ wp frame (wpE (defs₀ (F := F)) vars (c : Thread nD τ) none) Set.univ (bodyAt0 (F := F) t0_0) Kt := by
  unfold bodyAt0
  simp only [cc0_grad_swap_sibling_eq_skeleton]; unfold cc0_grad_swap_sibling_skel
  simp only [k0_part1_eq_skeleton, k0_part2_eq_skeleton]; unfold k0_part1_skel k0_part2_skel
  simp only [semSignalWord, semWaitWord, Prog.lift, Prog.bind_op, Prog.bind_ret, Prog.pure_eq_ret, wp_deviceId]
  unfold first credit linear argPts
  rw [bigSep_five, bigSep_five]
  iintro ⟨⟨⟨⟨%K, #HR, ⟨Ha0, Ha1, Ha2, Ha3, Ha4⟩, Ht0, Ht1, Ht2, Ht3, Ht4⟩, ⟨Hc0, Hc3, Hc4⟩, #Hlev, ⟨Hg, Hh⟩, Ho, Hi⟩, HO⟩, Hk⟩
  unfold Dat.owesAt Pipeline.owesWithin
  icases HO with ⟨%W, %hW, HO⟩
  rw [show (dats m 0 c).owed t0_0.castSucc = owe₀ c from rfl]
  simp only [dev1_sib c]
  -- the signal, with the buffers the sibling copies into
  iapply (Rounds.wp_signal vars EX (sched m) (c : Thread nD τ) none (dst := (sib c : Thread nD τ)) (κ := K (sib c, 0)) (d := ())
      (duty m (cell (sib c, 0))) rfl () (owe₁ c) rfl) $$ [HO Ht0 Ho Hi]
  · isplitr; · iapply (inv_of m K (sib c, 0)); iexact HR
    isplitl [HO]; · iexact HO
    isplitl [Ht0]; · iexact Ht0
    isplitl [Ho Hi]
    · iapply (buffers_given m c)
      isplitl [Ho] <;> iassumption
    iapply (reached_of m K (sib c, 0)); iexact HR
  iintro HO
  -- the sibling's signal, with its landing buffers
  iapply (wait_cell m K c 0 (wpE_semWait_eq vars (c : Thread nD τ) none Set.univ) (owe₁ c) W (buffers_got m c)) $$ [Hc0 HO Ha0]
  · isplitr; · iexact HR
    isplitl [Hc0]; · iexact Hc0
    isplitl [HO]; · iexact HO
    isplitr; · iapply (mayWait_bar c); iexact Hlev
    iexact Ha0
  iintro ⟨HO, Hz0, ⟨%fo, Ho⟩, ⟨%fi, Hi⟩⟩
  ihave Hg := (out_split m c).1 $$ Hg
  ihave Hh := (in_split m c).1 $$ Hh
  icases Hg with ⟨Hg, Hgr⟩
  icases Hh with ⟨Hh, Hhr⟩
  -- the two copies
  iapply (copy_cell m K c _ (dev2_sib c) 1 3 rfl rfl rfl rfl _ fo (Entails.refl _) (out_lands m c fo) (S := outSrc m c) (D := outPts (sib c) fo) (Entails.refl _) (Entails.refl _) (owe₂ c) (owe₁ c) rfl _) $$ [Hg Ho HO Ht1 Ht3]
  · isplitr; · iexact HR
    isplitl [Hg]; · iexact Hg
    isplitl [Ho]; · iexact Ho
    isplitl [HO]; · iexact HO
    isplitl [Ht1] <;> iassumption
  iintro ⟨Hc1, HO⟩
  iapply (copy_cell m K c _ (dev3_sib c) 2 4 rfl rfl rfl rfl _ fi (Entails.refl _) (in_lands m c fi) (S := inSrc m c) (D := inPts (sib c) fi) (Entails.refl _) (Entails.refl _) 0 (owe₂ c) rfl _) $$ [Hh Hi HO Ht2 Ht4]
  · isplitr; · iexact HR
    isplitl [Hh]; · iexact Hh
    isplitl [Hi]; · iexact Hi
    isplitl [HO]; · iexact HO
    isplitl [Ht2] <;> iassumption
  iintro ⟨Hc2, HO⟩
  -- the first array's two waits, then the second's
  iapply (wait_copy m K c 1 (q := 0) rfl (dst := outHalf c) rfl _ (P := outSrc m c) (Entails.refl _)) $$ [Hc1 HO Ha1]
  · isplitr; · iexact HR
    isplitl [Hc1]; · iexact Hc1
    isplitl [HO]; · iexact HO
    iexact Ha1
  iintro ⟨HO, Hz1, Hg⟩
  iapply (wait_copy m K c 3 (q := 2) rfl (dst := outM) rfl _ (P := outPts c (outGot m c)) (Entails.refl _)) $$ [Hc3 HO Ha3]
  · isplitr; · iexact HR
    isplitl [Hc3]; · iexact Hc3
    isplitl [HO]; · iexact HO
    iexact Ha3
  iintro ⟨HO, Hz3, Ho⟩
  iapply (wait_copy m K c 2 (q := 1) rfl (dst := inHalf c) rfl _ (P := inSrc m c) (Entails.refl _)) $$ [Hc2 HO Ha2]
  · isplitr; · iexact HR
    isplitl [Hc2]; · iexact Hc2
    isplitl [HO]; · iexact HO
    iexact Ha2
  iintro ⟨HO, Hz2, Hh⟩
  iapply (wait_copy m K c 4 (q := 3) rfl (dst := inM) rfl _ (P := inPts c (inGot m c)) (Entails.refl _)) $$ [Hc4 HO Ha4]
  · isplitr; · iexact HR
    isplitl [Hc4]; · iexact Hc4
    isplitl [HO]; · iexact HO
    iexact Ha4
  iintro ⟨HO, Hz4, Hi⟩
  rw [wp_ret]; imodintro
  iapply Hk
  unfold after final argPts Dat.owesAt Pipeline.owesWithin
  rw [show (dats m 0 c).owed t0_0.succ = 0 from rfl, bigSep_five]
  isplitr [HO]
  · isplitl [Hz0 Hz1 Hz2 Hz3 Hz4]
    · isplitl [Hz0]; · iexact Hz0
      isplitl [Hz1]; · iexact Hz1
      isplitl [Hz2]; · iexact Hz2
      isplitl [Hz3] <;> iassumption
    isplitl [Hg Hgr Hh Hhr]
    · isplitl [Hg Hgr]
      · iapply (out_split m c).2
        isplitl [Hg]; · iexact Hg
        iexact Hgr
      · iapply (in_split m c).2
        isplitl [Hh]; · iexact Hh
        iexact Hhr
    isplitl [Ho]; · iexact Ho
    iexact Hi
  iexists (insert (sems 4, ()) (insert (sems 2, ()) (insert (sems 3, ()) (insert (sems 1, ()) (insert (sems 0, ()) W)))))
  isplitr; · ipureintro; exact fun _ _ => Or.inl trivial
  iexact HO

theorem body_obligation (c : Dev nD) : BodyObligation (dats (F := F) m 0 c) (defs₀ (F := F)) vars () Set.univ := fun t => by
  rw [fin_N0 t]
  show iprop(first m c ∗ (dats m 0 c).owesAt () t0_0.castSucc ∗ bigSep Finset.univ _) ⊢ _
  iintro ⟨H1, H2, -⟩
  iapply (body_runs m c)
  isplitl
  · isplitl [H1] <;> iassumption
  · unfold after
    iintro ⟨H1, H2⟩
    isplitl [H1]; · iapply (final_of m c); iexact H1
    isplitl [H2]; · iexact H2
    rw [Finset.univ_eq_empty, bigSep_empty]; iempintro

end Body

/-! ## The launch -/

/-- The kernel's own semaphores: all but the barrier. -/
abbrev own : Fin 4 → SemLoc sig := fun | 0 => .dma 0 | 1 => .dma 1 | 2 => .dma 2 | 3 => .dma 3
theorem own_facts : Pipeline.OwnSemFacts cfg0.spec own := by decide

def cells : Finset (GSem nD τ sig) := Finset.univ.map ⟨cell, cell_inj⟩
def tokens : Finset (GSem nD τ sig × ℕ × Unit) :=
  Finset.univ.map ⟨fun cj : Dev nD × Fin 5 => (cell cj, 0, ()), fun a b h => cell_inj (congrArg Prod.fst h)⟩

def launched : Ghost := (initOf (Pipeline.cells cfgs cellOf_inj) (Pipeline.launchToks cfgs cellOf_inj), initOf cells tokens)

/-- What the launch deals a device: its cells' states, its positions, its cells' tokens. -/
def dealt (c : Dev nD) : sProp 𝕄 :=
  iprop((bigSep Finset.univ fun j : Fin 5 => roundState EX (sched m) (cell (c, j)) 0)
    ∗ (bigSep Finset.univ fun j : Fin 5 => atPos EX (cell (c, j)) 0 ∅ 0)
    ∗ (bigSep Finset.univ fun j : Fin 5 => reached EX (cell (c, j)) 0)
    ∗ bigSep Finset.univ fun j : Fin 5 => dutyTok EX (cell (c, j)) 0 ())

/-- What a device's body starts from. -/
def share (c : Dev nD) : sProp 𝕄 := iprop(∃ K, records m K ∗ linear c)

omit [FloatOps F] in
theorem over_cells (Φ : GSem nD τ sig → sProp 𝕄) :
    bigSep cells Φ = bigSep Finset.univ fun c : Dev nD => bigSep Finset.univ fun j : Fin 5 => Φ (cell (c, j)) := by
  unfold cells; rw [bigSep_map, bigSep_univ_prod]; rfl

omit [FloatOps F] in
theorem deal : BI.own (EX (initOf cells tokens)) ⊢ (|==> bigSep Finset.univ (dealt m) : sProp 𝕄) := by
  have ht : bigSep tokens (fun x => (dutyTok EX x.1 x.2.1 x.2.2 : sProp 𝕄))
      = bigSep Finset.univ fun c : Dev nD => bigSep Finset.univ fun j : Fin 5 => dutyTok EX (cell (c, j)) 0 () := by
    unfold tokens; rw [bigSep_map, bigSep_univ_prod]; rfl
  iintro H
  imod (Rounds.fund EX (sched m) cells tokens) $$ H with ⟨Hst, Hr, Hat, Htok⟩
  imodintro
  ihave Hst := (Entails.of_eq (over_cells fun g => roundState EX (sched m) g 0)) $$ Hst
  ihave Hat := (Entails.of_eq (over_cells (F := F) fun g => atPos EX g 0 ∅ 0)) $$ Hat
  ihave Hr := (Entails.of_eq (over_cells (F := F) fun g => reached EX g 0)) $$ Hr
  ihave Htok := (Entails.of_eq ht) $$ Htok
  unfold dealt; simp only [bigSep_sep']
  isplitl [Hst]; · iexact Hst
  isplitl [Hat]; · iexact Hat
  isplitl [Hr]; · iexact Hr
  iexact Htok

omit [FloatOps F] in
theorem own_sems (c : Dev nD) : (Pipeline.ownSems0 (Ix := Unit) (Name := ℕ) (U := Ghost) (Lvl := ℕ) (Val := Elt F) (τ := τ) own c : sProp 𝕄)
    = iprop(semVal (cell (c, 1)) 0 ∗ semVal (cell (c, 2)) 0 ∗ semVal (cell (c, 3)) 0 ∗ semVal (cell (c, 4)) 0) := by
  rw [Pipeline.ownSems0_eq_of_list c own [0, 1, 2, 3] (by decide) (by decide)]; rfl
omit [FloatOps F] in
theorem launch_sems (c : Dev nD) : (unscopedSems0 c : sProp 𝕄) = semVal (cell (c, 0)) 0 := by
  unfold unscopedSems0; rw [bigSep_eq_bigSepL_of_eq [SemLoc.reg 0] (by decide) (by decide)]; rfl
omit [FloatOps F] in
/-- The barrier is the launch's, the rest are the kernel's own. -/
theorem counters (c : Dev nD) :
    iprop(unscopedSems0 c ∗ Pipeline.ownSems0 (Ix := Unit) (Name := ℕ) (U := Ghost) (Lvl := ℕ) (Val := Elt F) (τ := τ) own c)
      = (bigSep Finset.univ fun j : Fin 5 => semVal (cell (c, j)) 0 : sProp 𝕄) := by
  rw [own_sems, launch_sems, bigSep_five]

omit [FloatOps F] in
/-- A device's cells opened as invariants. -/
theorem open_cells (c : Dev nD) :
    iprop(Pipeline.ownSems0 (Ix := Unit) (Name := ℕ) (U := Ghost) (Lvl := ℕ) (Val := Elt F) (τ := τ) own c ∗ unscopedSems0 c ∗ dealt m c)
      ⊢ |={Set.univ}=> iprop((bigSep Finset.univ fun j => iprop(∃ κ : ℕ, cellInv EX (sched m) κ (cell (c, j))))
          ∗ (bigSep Finset.univ fun j : Fin 5 => atPos EX (cell (c, j)) 0 ∅ 0)
          ∗ (bigSep Finset.univ fun j : Fin 5 => reached EX (cell (c, j)) 0)
          ∗ bigSep Finset.univ fun j : Fin 5 => dutyTok EX (cell (c, j)) 0 ()) := by
  unfold dealt
  iintro ⟨Hos, Hus, Hst, Hrest⟩
  ihave Hv := (Entails.of_eq (counters (F := F) c)) $$ [Hos Hus]
  · isplitl [Hus] <;> iassumption
  imod (show iprop((bigSep Finset.univ fun j : Fin 5 => semVal (cell (c, j)) 0) ∗ bigSep Finset.univ fun j : Fin 5 => roundState EX (sched m) (cell (c, j)) 0)
      ⊢ (|={Set.univ}=> bigSep Finset.univ fun j => iprop(∃ κ : ℕ, cellInv EX (sched m) κ (cell (c, j))) : sProp 𝕄) from by
        rw [← bigSep_sep']
        exact (bigSep_mono fun j _ => (Rounds.body_intro EX (sched m) (cell (c, j))).trans inv_alloc).trans (bigSep_fupd _ _)) $$ [Hv Hst] with Hinv
  · isplitl [Hv] <;> iassumption
  imodintro
  isplitl [Hinv]; · iexact Hinv
  iexact Hrest

omit [FloatOps F] in
/-- Every cell's token goes to the device that pays it. -/
theorem tokens_dealt : (bigSep Finset.univ fun c : Dev nD => bigSep Finset.univ fun j : Fin 5 => (dutyTok EX (cell (c, j)) 0 () : sProp 𝕄))
    = bigSep Finset.univ fun c : Dev nD => bigSep Finset.univ fun j : Fin 5 => dutyTok EX (cell (payee (c, j))) 0 () := by
  rw [← bigSep_univ_prod (fun cj : Dev nD × Fin 5 => (dutyTok EX (cell cj) 0 () : sProp 𝕄)),
    ← bigSep_univ_prod (fun cj : Dev nD × Fin 5 => (dutyTok EX (cell (payee cj)) 0 () : sProp 𝕄)),
    bigSep_univ_equiv payees (fun cj : Dev nD × Fin 5 => (dutyTok EX (cell cj) 0 () : sProp 𝕄))]
  rfl

omit [FloatOps F] in
theorem share_of (K : Dev nD × Fin 5 → ℕ) (c : Dev nD) : iprop(records m K ∗ linear c) ⊢ share m c := by
  unfold share
  iintro ⟨H, Hl⟩
  iexists K
  isplitl [H] <;> iassumption

omit [FloatOps F] in
theorem shares (K : Dev nD × Fin 5 → ℕ) : iprop(records m K ∗ bigSep Finset.univ fun c : Dev nD => (linear c : sProp 𝕄)) ⊢ bigSep Finset.univ (share m) :=
  (sep_mono_left (BI.bigSep_of_persistent Finset.univ (records m K))).trans (by
    rw [← bigSep_sep']
    exact bigSep_mono fun c _ => share_of m K c)

omit [FloatOps F] in
/-- Every device's cells, positions and tokens regrouped into the shares. -/
theorem regroup :
    (bigSep Finset.univ fun c : Dev nD => iprop((bigSep Finset.univ fun j => iprop(∃ κ : ℕ, cellInv EX (sched m) κ (cell (c, j))))
          ∗ (bigSep Finset.univ fun j : Fin 5 => atPos EX (cell (c, j)) 0 ∅ 0)
          ∗ (bigSep Finset.univ fun j : Fin 5 => reached EX (cell (c, j)) 0)
          ∗ bigSep Finset.univ fun j : Fin 5 => dutyTok EX (cell (c, j)) 0 ()) : sProp 𝕄)
      ⊢ bigSep Finset.univ (share m) := by
  rw [bigSep_sep', bigSep_sep', bigSep_sep', tokens_dealt,
    ← bigSep_univ_prod (fun cj : Dev nD × Fin 5 => iprop(∃ κ : ℕ, cellInv EX (sched m) κ (cell cj))),
    ← bigSep_univ_prod (fun cj : Dev nD × Fin 5 => (reached EX (cell cj) 0 : sProp 𝕄))]
  iintro ⟨HI, Hat, #HR, Htok⟩
  ihave HK := (BI.bigSep_exists_pi Finset.univ (fun (cj : Dev nD × Fin 5) (κ : ℕ) => (cellInv EX (sched m) κ (cell cj) : sProp 𝕄))) $$ HI
  icases HK with ⟨%K, #HI⟩
  iapply (shares m K)
  isplitr
  · unfold records; isplitl; · iexact HI
    iexact HR
  · unfold linear; rw [bigSep_sep']
    isplitl [Hat] <;> iassumption

omit [FloatOps F] in
/-- All the devices' semaphores at once into all their shares. -/
theorem all_open : (bigSep Finset.univ fun c => iprop(Pipeline.ownSems0 (Ix := Unit) (Name := ℕ) (U := Ghost) (Lvl := ℕ) (Val := Elt F) (τ := τ) own c ∗ unscopedSems0 c ∗ dealt m c) : sProp 𝕄)
    ⊢ |={Set.univ}=> bigSep Finset.univ (share m) :=
  ((bigSep_mono fun c _ => open_cells m c).trans (bigSep_fupd _ _)).trans (BI.fupd_mono (regroup m))

/-! ## The credit at launch -/

theorem cell_eq {a b : Dev nD × Fin 5} : Iff (cell a = cell b) (a = b) := ⟨fun h => cell_inj h, fun h => h ▸ rfl⟩
theorem sib_eq {a b : Dev nD} : Iff (sib a = b) (a = sib b) := ⟨fun h => by rw [← h, sib_sib], fun h => by rw [h, sib_sib]⟩

/-- A device owes its sibling's barrier and receive semaphores. -/
theorem owe₀_at (d c : Dev nD) (j : Fin 5) : owe₀ d (cell (c, j)) () = if d = sib c then (if j = 1 ∨ j = 2 then 0 else amt (sems j)) else 0 := by
  unfold owe₀ owe₁ owe₂
  rw [zero_add, Pi.add_apply, Finsupp.add_apply, Pi.add_apply, Finsupp.add_apply, tallyAt_apply, tallyAt_apply, tallyAt_apply]
  simp only [cell_eq, Prod.mk.injEq, and_true]
  by_cases h : d = sib c
  · subst h
    rw [sib_sib]
    simp only [true_and, if_true]
    fin_cases j <;> rfl
  · have h' : ¬ c = sib d := fun hc => h (sib_eq.mp hc.symm)
    simp only [h, h', false_and, if_false, Nat.add_zero]

theorem launch_credit (c : Dev nD) (j : Fin 5) (hj : ¬ (j = 1 ∨ j = 2)) :
    tallyOn (cell (c, j)) (launchCredit (Pipeline.owing owe₀) 0 (cell (c, j))) = (tallyAt (cell (c, j)) () (amt (sems j)) : CellTallies nD τ sig Unit) := by
  unfold tallyAt; refine congrArg _ (Finsupp.ext fun u => ?_); cases u
  rw [Pipeline.launchCredit_owing, Finsupp.single_eq_same, Finset.sum_congr rfl fun d _ => owe₀_at d c j,
    Finset.sum_ite_eq' Finset.univ (sib c) fun _ => _, if_pos (Finset.mem_univ _), if_neg hj]

omit [FloatOps F] in
theorem credits (c : Dev nD) : (Pipeline.launchCred owe₀ c : sProp 𝕄) ⊢ credit c := by
  unfold Pipeline.launchCred credit
  rw [bigSep_univ_eq_bigSepL [SemLoc.reg 0, SemLoc.dma 2, SemLoc.dma 3, SemLoc.dma 0, SemLoc.dma 1] (by decide) (by decide),
    ← launch_credit c 0 (by decide), ← launch_credit c 3 (by decide), ← launch_credit c 4 (by decide)]
  show iprop(_ ∗ _ ∗ _ ∗ _ ∗ _) ⊢ _
  iintro ⟨H0, H3, H4, -, -⟩
  isplitl [H0]; · iexact H0
  isplitl [H3] <;> iassumption

/-! ## The launch's conditions -/

omit [FloatOps F] in
theorem enter (c : Dev nD) :
    iprop(Pipeline.unscopedRestP Pipeline.Prefetch.none cfg0.spec c (fun b => m ((c : Thread nD τ).loc b)) ∗ levAts lab lev
        ∗ Pipeline.launchCred owe₀ c ∗ prngReg c (ρ c) ∗ share m c)
      ⊢ |={Set.univ}=> iprop(first m c ∗ emp) := by
  rw [Pipeline.unscopedRestP_none, unscopedRest0_eq]
  iintro ⟨⟨Hg, Hh, Ho, Hi⟩, Hlev, Hcr, -, HS⟩
  ihave Hc := (credits (F := F) c) $$ Hcr
  imodintro
  isplitl
  · unfold first share argPts
    isplitl [HS]; · iexact HS
    isplitl [Hc]; · iexact Hc
    isplitl [Hlev]; · iexact Hlev
    isplitl [Hg Hh]
    · isplitl [Hg] <;> iassumption
    unfold outPts inPts
    isplitl [Ho]
    · iexists (m ((c : Thread nD τ).loc main_v1_0)); rw [View.set_whole]; iexact Ho
    · iexists (m ((c : Thread nD τ).loc main_v1_1)); rw [View.set_whole]; iexact Hi
  · iempintro

theorem enter_body (c : Dev nD) :
    iprop(first m c ∗ Pipeline.prefHeld Pipeline.Prefetch.none c (fun _ => fullShare.right) (fun k => k.elim0) ∗ Pipeline.scopedRest cfg0.spec c)
      ⊢ (dats m 0 c).Φ 0 := by
  show _ ⊢ first m c
  iintro ⟨H, -, -⟩
  iexact H

/-- What a device still holds after the region: its counters the launch reads, its arguments and what landed. -/
def left (c : Dev nD) : sProp 𝕄 := iprop(unscopedSems0 c ∗ argPts m c ∗ outPts c (outGot m c) ∗ inPts c (inGot m c))

theorem leave (c : Dev nD) :
    (dats m 0 c).Φ (Fin.last cfg0.N) ⊢ iprop(left m c ∗ Pipeline.ownSems0 own c ∗ Pipeline.scopedRest cfg0.spec c) := by
  rw [scopedRest0_eq]
  show final m c ⊢ _
  unfold final left
  rw [← counters]
  iintro ⟨⟨Hu, Hos⟩, H⟩
  isplitl [Hu H]
  · isplitl [Hu] <;> iassumption
  isplitl [Hos]; · iexact Hos
  iempintro

theorem waits (c : Dev nD) : (levAts lab lev : sProp 𝕄) ⊢ Pipeline.cellsWaits cfgs (dats m) () 0 c :=
  Pipeline.cellsWaits_intro cfgs (dats m) () 0 c fun w => w.elim0

/-- What a device ends with. -/
def ends (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ s.mem ((c : Thread nD τ).loc main_v1_0) = outGot m c ∧ s.mem ((c : Thread nD τ).loc main_v1_1) = inGot m c

omit [FloatOps F] in
/-- A buffer held whole is what the memory has. -/
theorem read_whole (ℓ : Loc nD τ sig) (f : Buf (Elt F) ℓ) (s : Phys nD τ sig (Elt F)) :
    iprop((ℓ ↦{fullShare} f) ∗ SI s) ⊢ (⌜s.mem.mem ℓ = f⌝ : sProp 𝕄) :=
  (sep_comm.1.trans SI_pointsTo_agree).trans (BI.pure_mono Buf.eq_of_forall_mem_univ)

theorem read_end (c : Dev nD) (s : Phys nD τ sig (Elt F)) :
    iprop(left m c ∗ emp ∗ SI s) ⊢ |={Set.univ}=> iprop(⌜ends m c s.mem ∧ ∀ sm : SemLoc sig, sm.isScoped .tc = false → s.mem.sem ((c.tc : Thread nD τ), sm) = 0⌝ ∗ (SI s : sProp 𝕄)) := by
  unfold left argPts outPts inPts
  rw [View.set_whole, View.set_whole]
  iintro ⟨⟨Hu, ⟨Hg, Hh⟩, Ho, Hi⟩, -, HS⟩
  icombine HS Hg gives %hg
  icombine HS Hh gives %hh
  icombine HS Ho gives %ho
  icombine HS Hi gives %hi
  imod (Pipeline.unscopedSems0_read (X := unscopedSems0 c) (c := c) fupd_intro s) $$ [Hu HS] with ⟨%hz, HS⟩
  · isplitl [Hu] <;> iassumption
  imodintro
  isplitr
  · ipureintro
    exact ⟨⟨⟨Buf.eq_of_forall_mem_univ hg, Buf.eq_of_forall_mem_univ hh⟩, Buf.eq_of_forall_mem_univ ho, Buf.eq_of_forall_mem_univ hi⟩, hz⟩
  iexact HS

set_option maxRecDepth 8000 in
/-- Every weakly fair execution of the eight devices ends, each with its own gradients as they were, the sibling's halves
    landed and every semaphore at zero. -/
theorem runs : θ_run defs (onTc (τ := τ) (main (F := F))) ⟨m, fun _ => 0, ρ⟩ (fun r => (∀ c, ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) embL defs₀ vars m ρ main
    (hmain := fun _ => rfl)
    (hbody := body_obligation m) (hne := fun w => w.elim0) (harr := arr_whole0) (hstage := stage_whole0) (hshare := fun _ w => w.elim0)
    (hdistinct := winFacts0.arr_inj)
    (O₀ := owe₀) (howed₀ := fun _ => rfl) (howedN := fun _ => rfl)
    (L := lab) (lv := lev) (hL := fun g h => if_neg h) (hwaits := waits m)
    (G := dealt m) (G' := share m) (u₀ := launched)
    (hu₀ := by
      unfold launched
      iintro Hu
      ihave H := (ownU_pair _ _) $$ Hu
      icases H with ⟨HP, HX⟩
      imod (deal m) $$ HX with HG
      imodintro
      isplitl [HP] <;> iassumption)
    (hglob := all_open m)
    (hA := fun _ w => w.elim0) (hpf := fun _ k => k.elim0)
    (X := first m) (Y := left m) (Z := fun _ => iprop(emp))
    (hX := enter m ρ) (hin := enter_body m) (hout := leave m)
    (QY := fun c s => ends m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Cert.SwapHalvesIdeal.Body
end
-- ==== Proof.Swap.Printed.lean ====
/-
  The frames of the exchange. The program as printed and the one read over the reals are one text: one run serves both.
-/
module

public import proofs.«01_k».proof.Proof.Swap.Run
public import proofs.«01_k».proof.Proof.Gen.SwapHalves.Launch
public import proofs.«01_k».proof.Defs

@[expose] public section
set_option maxRecDepth 65536
noncomputable section
namespace Cert.SwapHalvesIdeal.Body
open Cert.SwapHalvesIdeal Cert.SwapHalvesIdeal.Gen
open Idealize.ShloMosaic Idealize.ShloMosaic.TcCoe Idealize.SL.Sem

/-- The two programs' body tables are the same. -/
theorem table_eq : (Cert.SwapHalves.defs₀ (F := Bits) : Defs nD τ sig (Elt Bits) Λ₀) = defs₀ (F := Bits) := by
  unfold Cert.SwapHalves.defs₀ defs₀
  refine congrArg Defs.onTc (funext fun (l : Fin 1) => ?_)
  obtain rfl : l = 0 := Subsingleton.elim _ _
  exact funext fun p => rfl

theorem defs_eq : (Cert.SwapHalves.defs (F := Bits) : Defs nD τ sig (Elt Bits) (Pipeline.Sig Λ₀ (Fin 1) fun p => (pcfgs (F := Bits) p).Adm)) = defs (F := Bits) :=
  congrArg (Pipeline.defs (pcfgs (F := Bits))) table_eq

theorem frame_ideal : Cert.quiescent_SwapHalvesIdeal := fun m g _ =>
  (θ_run _ _ _).mono (fun _ h => ⟨fun c => (h.1 c).1, h.2⟩) (runs (F := Ideal) m g)

/-- The frame of the program as printed, which is the same text. -/
theorem frame_printed : Cert.quiescent_SwapHalves := fun m g _ => by
  have h := (θ_run _ _ _).mono (fun (r : PUnit × MemSt nD τ sig (Elt Bits)) h => (⟨fun c => (h.1 c).1, h.2⟩ :
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0)) (runs (F := Bits) m g)
  rw [← defs_eq] at h
  exact h

end Cert.SwapHalvesIdeal.Body
end
-- ==== Proof.SwapFive.Run.lean ====
/-
  The exchange of gradient halves of five arrays: as for two arrays, with the arrays, the halves sent and the buffers they
  land in as families over the five. Every device ends with its own gradients as they were and with its sibling's halves.
-/
module

public import proofs.«01_k».proof.Proof.Gen.SwapFiveIdeal
public import proofs.«01_k».proof.Proof.Gen.SwapFiveIdeal.Skeleton
public import proofs.«01_k».proof.Proof.Gen.SwapFiveIdeal.Launch
public import proofs.«01_k».proof.Proof.Gen.SwapFiveIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section
noncomputable section
namespace Cert.SwapFiveIdeal.Body
open Cert.SwapFiveIdeal Cert.SwapFiveIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The pipeline's ghost state beside that of the exchange, whose cells have one duty each. -/
abbrev Ghost : Type := UR sig nD τ × URounds (GSem nD τ sig) Unit

local notation "𝕄" => MT nD τ sig Unit (Elt F) ℕ Ghost ℕ

abbrev EX : Emb (URounds (GSem nD τ sig) Unit) (MT nD τ sig Unit (Elt F) ℕ Ghost ℕ) := embR

variable (m : (ℓ : Loc nD τ sig) → Buf (Elt F) ℓ) (ρ : Dev nD → PrngReg)

/-! ## The sibling -/

/-- The other core of the same chip. -/
def sib (c : Dev nD) : Dev nD := ⟨2 * (c.val / 2) + (1 - c.val % 2), by have h : c.val < 8 := c.isLt; show _ < 8; omega⟩

theorem sib_sib (c : Dev nD) : sib (sib c) = c := by revert c; decide
theorem dev1_sib (c : Dev nD) : (⟨k0_dev1 c, k0_dev1_lt c⟩ : Dev nD) = sib c := by revert c; decide +kernel
theorem dev2_sib (c : Dev nD) : (⟨k0_dev2 c, k0_dev2_lt c⟩ : Dev nD) = sib c := by revert c; decide +kernel
theorem dev3_sib (c : Dev nD) : (⟨k0_dev3 c, k0_dev3_lt c⟩ : Dev nD) = sib c := by revert c; decide +kernel
theorem dev4_sib (c : Dev nD) : (⟨k0_dev4 c, k0_dev4_lt c⟩ : Dev nD) = sib c := by revert c; decide +kernel
theorem dev5_sib (c : Dev nD) : (⟨k0_dev5 c, k0_dev5_lt c⟩ : Dev nD) = sib c := by revert c; decide +kernel
theorem dev6_sib (c : Dev nD) : (⟨k0_dev6 c, k0_dev6_lt c⟩ : Dev nD) = sib c := by revert c; decide +kernel

/-! ## The cells -/

/-- The barrier semaphore, the five send semaphores, the five receive semaphores. -/
abbrev sems : Fin 11 → SemLoc sig := fun
  | 0 => .reg 0 | 1 => .dma 0 | 2 => .dma 1 | 3 => .dma 2 | 4 => .dma 3 | 5 => .dma 4
  | 6 => .dma 5 | 7 => .dma 6 | 8 => .dma 7 | 9 => .dma 8 | 10 => .dma 9
/-- The cells of an array's copy. -/
abbrev sent (i : Fin 5) : Fin 11 := ⟨i.val + 1, by omega⟩
abbrev landed (i : Fin 5) : Fin 11 := ⟨i.val + 6, by omega⟩
abbrev cell (cj : Dev nD × Fin 11) : GSem nD τ sig := ((cj.1 : Thread nD τ), sems cj.2)

theorem sems_inj : Function.Injective sems := by decide
theorem cell_inj : Function.Injective (cell : Dev nD × Fin 11 → GSem nD τ sig) := by
  rintro ⟨c, j⟩ ⟨d, k⟩ h
  have h1 : c = d := congrArg (fun g : GSem nD τ sig => g.1.1) h
  have h2 : j = k := sems_inj (congrArg Prod.snd h)
  rw [h1, h2]

/-- The shape of an array's half, the buffer it lands in, and the half a device sends: the one its sibling keeps. -/
abbrev shp : Fin 5 → Shape := fun | 0 => S4x512x1024 | 1 => S4x512x1024 | 2 => S4x128x1024 | 3 => S4x128x1024 | 4 => S4x512x512
abbrev land : (i : Fin 5) → Memref sig .tc .hbm (shp i) .bf16 := fun
  | 0 => Memref.whole main_v1_0 | 1 => Memref.whole main_v1_1 | 2 => Memref.whole main_v1_2 | 3 => Memref.whole main_v1_3 | 4 => Memref.whole main_v1_4
abbrev half (c : Dev nD) : (i : Fin 5) → Memref sig .tc .hbm (shp i) .bf16 := fun
  | 0 => (Memref.whole main_arg0).slice (Rect.unit (s := S4x1024x1024) (k0_off1 c) S4x512x1024.size (k0_off1_inb c)) (fun _ => rfl)
  | 1 => (Memref.whole main_arg1).slice (Rect.unit (s := S4x1024x1024) (k0_off1 c) S4x512x1024.size (k0_off1_inb c)) (fun _ => rfl)
  | 2 => (Memref.whole main_arg2).slice (Rect.unit (s := S4x256x1024) (k0_off2 c) S4x128x1024.size (k0_off2_inb c)) (fun _ => rfl)
  | 3 => (Memref.whole main_arg3).slice (Rect.unit (s := S4x256x1024) (k0_off2 c) S4x128x1024.size (k0_off2_inb c)) (fun _ => rfl)
  | 4 => (Memref.whole main_arg4).slice (Rect.unit (s := S4x1024x512) (k0_off3 c) S4x512x512.size (k0_off3_inb c)) (fun _ => rfl)

/-- What a device receives of an array. -/
def got (c : Dev nD) (i : Fin 5) : Buf (Elt F) ((land i).view.loc (c : Thread nD τ)) :=
  (land i).view.write (Elt F) (m ((land i).view.loc (c : Thread nD τ)))
    ((half (sib c) i).view.read (Elt F) (m ((half (sib c) i).view.loc ((sib c : Dev nD) : Thread nD τ)))) Finset.univ

def pts (c : Dev nD) (i : Fin 5) (f : Buf (Elt F) ((land i).view.loc (c : Thread nD τ))) : sProp 𝕄 :=
  (land i).view.loc (c : Thread nD τ) ↦[(land i).view.set]{fullShare} f
def src (c : Dev nD) (i : Fin 5) : sProp 𝕄 :=
  (half c i).view.loc (c : Thread nD τ) ↦[(half c i).view.set]{fullShare} m ((half c i).view.loc (c : Thread nD τ))

omit [FloatOps F] in
instance pts_storable (c : Dev nD) (i) (f) : BI.Storable (upEmb : UEmb _ 𝕄) (pts (F := F) c i f) := by unfold pts; infer_instance
omit [FloatOps F] in
instance src_storable (c : Dev nD) (i) : BI.Storable (upEmb : UEmb _ 𝕄) (src m c i) := by unfold src; infer_instance

omit [FloatOps F] in
theorem bigSep_arrays (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The five buffers of a device that its sibling copies into. -/
def free (c : Dev nD) : sProp 𝕄 :=
  iprop((∃ f, pts c 0 f) ∗ (∃ f, pts c 1 f) ∗ (∃ f, pts c 2 f) ∗ (∃ f, pts c 3 f) ∗ ∃ f, pts c 4 f)

omit [FloatOps F] in
instance free_storable (c : Dev nD) : BI.Storable (upEmb : UEmb _ 𝕄) (free (F := F) c) := by unfold free; infer_instance

/-! ## The schedule -/

/-- The array of a copy's semaphore. -/
abbrev arr : Fin 10 → Fin 5 := ![0, 1, 2, 3, 4, 0, 1, 2, 3, 4]
/-- The credit of each cell's one payment. -/
def amt : SemLoc sig → ℕ
  | .reg _ => 1
  | .dma q => (land (arr q)).view.dmaCredit

/-- What each cell's payment brings: the barrier the sibling's landing buffers, a send semaphore the source again, a receive
    semaphore the half that landed. -/
def pay (c : Dev nD) : SemLoc sig → sProp 𝕄
  | .reg _ => free (sib c)
  | .dma q => if q.val < 5 then src m c (arr q) else pts c (arr q) (got m c (arr q))

omit [FloatOps F] in
instance pay_storable (c : Dev nD) (s : SemLoc sig) : BI.Storable (upEmb : UEmb _ 𝕄) (pay m c s) := by
  cases s with
  | reg q => exact free_storable (sib c)
  | dma q =>
    unfold pay
    dsimp only
    split
    · exact src_storable m c _
    · exact pts_storable c _ _

theorem amt_pos (s : SemLoc sig) : 0 < amt s := by
  cases s with
  | reg q => exact Nat.one_pos
  | dma q =>
    show 0 < (land (arr q)).view.dmaCredit
    generalize arr q = i
    fin_cases i <;> exact View.dmaCredit_pos _ (by decide)

def sched : Rounds.Schedule (GSem nD τ sig) Unit 𝕄 where
  duties g r := if r = 0 then {()} else ∅
  unitless _ := False
  amount g _ _ := amt g.2
  payload g _ _ := pay m g.1.1 g.2
  amount_pos g _ _ _ := amt_pos g.2

omit [FloatOps F] in
instance sched_storable (g : GSem nD τ sig) (r : ℕ) (d : Unit) : BI.Storable (upEmb : UEmb _ 𝕄) ((sched m).payload g r d) :=
  pay_storable m g.1.1 g.2

omit [FloatOps F] in
theorem duties_first (g : GSem nD τ sig) : (sched m).duties g 0 = {()} := rfl
omit [FloatOps F] in
theorem duties_later (g : GSem nD τ sig) : ∀ r, 1 ≤ r → (sched m).duties g r = ∅ := fun r hr => if_neg (by omega)
omit [FloatOps F] in
theorem duty (g : GSem nD τ sig) : () ∈ (sched m).duties g 0 := Finset.mem_singleton_self _
omit [FloatOps F] in
theorem expect_first (g : GSem nD τ sig) : (sched m).expect g 0 = amt g.2 := by
  unfold Schedule.expect Schedule.amountOf; rw [duties_first, Finset.sum_singleton]; rfl
omit [FloatOps F] in
theorem rest_first (g : GSem nD τ sig) :
    bigSep ((sched m).duties g 0 \ ∅) (fun d => (sched m).payload g 0 d) = pay m g.1.1 g.2 := by
  rw [Finset.sdiff_empty, duties_first, bigSep_singleton]; rfl

/-! ## What a device owes, and the levels -/

/-- The credits of a list of the sibling's cells. -/
def owing (c : Dev nD) : List (Fin 11) → CellTallies nD τ sig Unit
  | [] => 0
  | j :: l => owing c l + tallyAt (cell (sib c, j)) () (amt (sems j))
abbrev owe₁ (c : Dev nD) : CellTallies nD τ sig Unit := owing c [6, 7, 8, 9, 10]
abbrev owe₀ (c : Dev nD) : CellTallies nD τ sig Unit := owing c [0, 6, 7, 8, 9, 10]

def lab (g : GSem nD τ sig) : Finset Unit := if g.1.2 = .tc then {()} else ∅
/-- The barrier below the copies. -/
def lev (g : GSem nD τ sig) (_ : Unit) : ℕ := match g.2 with | .reg _ => 1 | .dma _ => 2

theorem lab_tc (c : Dev nD) (s : SemLoc sig) : lab ((c : Thread nD τ), s) = {()} := if_pos rfl

theorem owing_cells {c : Dev nD} {g : GSem nD τ sig} {u : Unit} : (l : List (Fin 11)) → 0 < owing c l g u → ∃ j ∈ l, g = cell (sib c, j)
  | [], h => absurd h (Nat.lt_irrefl 0)
  | j :: l, h => by
    unfold owing at h
    rw [Pi.add_apply, Finsupp.add_apply, tallyAt_apply] at h
    by_cases hg : g = cell (sib c, j)
    · exact ⟨j, List.mem_cons_self, hg⟩
    · rw [if_neg (fun h' => hg h'.1), Nat.add_zero] at h
      obtain ⟨i, hi, e⟩ := owing_cells l h
      exact ⟨i, List.mem_cons_of_mem _ hi, e⟩

theorem lev_copies (c : Dev nD) : ∀ j ∈ ([6, 7, 8, 9, 10] : List (Fin 11)), lev (cell (c, j)) () = 2 := by
  intro j hj; fin_cases hj <;> rfl

omit [FloatOps F] in
/-- At its barrier a device owes the copies only, all above. -/
theorem mayWait_bar (c : Dev nD) : (levAts lab lev : sProp 𝕄) ⊢ MayWait (c : Thread nD τ) (sems 0) () (owe₁ c) :=
  MayOwe.of_cut (L := lab) (lev := lev) 1 (fun p hp => by rw [Finset.mem_singleton.mp hp, lab_tc]; exact Finset.mem_singleton_self _)
    (fun g u hg => by obtain ⟨j, -, rfl⟩ := owing_cells _ hg; exact Finset.mem_singleton_self _)
    (fun p hp => by rw [Finset.mem_singleton.mp hp]; exact le_refl 1)
    (fun g u hg => by obtain ⟨j, hj, rfl⟩ := owing_cells _ hg; exact lt_of_lt_of_eq (Nat.lt_succ_self 1) (lev_copies (sib c) j hj).symm)

/-! ## A device's share of the ghost state -/

section Body
variable (K : Dev nD × Fin 11 → ℕ)

/-- Every cell's invariant and that it has reached its first round. -/
def records : sProp 𝕄 :=
  iprop((bigSep Finset.univ fun cj : Dev nD × Fin 11 => cellInv EX (sched m) (K cj) (cell cj))
    ∗ bigSep Finset.univ fun cj : Dev nD × Fin 11 => reached EX (cell cj) 0)

omit [FloatOps F] in
instance records_persistent : BI.Persistent (records m K) := by unfold records; infer_instance

omit [FloatOps F] in
theorem inv_of (cj : Dev nD × Fin 11) : records m K ⊢ cellInv EX (sched m) (K cj) (cell cj) := by
  unfold records
  iintro ⟨H, -⟩
  have h : (bigSep Finset.univ fun cj : Dev nD × Fin 11 => (cellInv EX (sched m) (K cj) (cell cj) : sProp 𝕄)) ⊢ (cellInv EX (sched m) (K cj) (cell cj) : sProp 𝕄) := bigSep_elim (Finset.mem_univ cj)
  iapply h $$ H
omit [FloatOps F] in
theorem reached_of (cj : Dev nD × Fin 11) : records m K ⊢ reached EX (cell cj) 0 := by
  unfold records
  iintro ⟨-, H⟩
  have h : (bigSep Finset.univ fun cj : Dev nD × Fin 11 => (reached EX (cell cj) 0 : sProp 𝕄)) ⊢ (reached EX (cell cj) 0 : sProp 𝕄) := bigSep_elim (Finset.mem_univ cj)
  iapply h $$ H

/-- Whose cell `j` a device pays: its own send semaphores, the sibling's others. -/
abbrev own_cell : Fin 11 → Bool := ![false, true, true, true, true, true, false, false, false, false, false]
def payee (cj : Dev nD × Fin 11) : Dev nD × Fin 11 := (bif own_cell cj.2 then cj.1 else sib cj.1, cj.2)

theorem payee_payee (cj : Dev nD × Fin 11) : payee (payee cj) = cj := by
  obtain ⟨c, j⟩ := cj
  unfold payee
  dsimp only
  cases own_cell j
  · exact congrArg (·, j) (sib_sib c)
  · rfl

def payees : Dev nD × Fin 11 ≃ Dev nD × Fin 11 := ⟨payee, payee, payee_payee, payee_payee⟩

/-- A device's positions and the tokens of the duties it pays. -/
def linear (c : Dev nD) : sProp 𝕄 :=
  iprop((bigSep Finset.univ fun j : Fin 11 => atPos EX (cell (c, j)) 0 ∅ 0)
    ∗ bigSep Finset.univ fun j : Fin 11 => dutyTok EX (cell (payee (c, j))) 0 ())

omit [FloatOps F] in
theorem bigSep_eleven (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

/-- The credit a device starts with: its barrier's and its receive semaphores'. -/
def due (c : Dev nD) (j : Fin 11) : sProp 𝕄 := cred (tallyAt (cell (c, j)) () (amt (sems j)))
def credit (c : Dev nD) : sProp 𝕄 := iprop(due c 0 ∗ due c 6 ∗ due c 7 ∗ due c 8 ∗ due c 9 ∗ due c 10)

/-- An argument of a device, as launched. -/
def arg (c : Dev nD) (i : Fin 5) : sProp 𝕄 := (half c i).view.loc (c : Thread nD τ) ↦{fullShare} m ((half c i).view.loc (c : Thread nD τ))

def first (c : Dev nD) : sProp 𝕄 :=
  iprop((∃ K, records m K ∗ linear c) ∗ credit c ∗ levAts lab lev ∗ (bigSep Finset.univ fun i => arg m c i) ∗ free c)
/-- The arguments again and the halves landed. -/
def done (c : Dev nD) : sProp 𝕄 :=
  iprop((bigSep Finset.univ fun i => arg m c i) ∗ bigSep Finset.univ fun i => pts c i (got m c i))
def final (c : Dev nD) : sProp 𝕄 := iprop((bigSep Finset.univ fun j : Fin 11 => semVal (cell (c, j)) 0) ∗ done m c)

def dats (_ : Fin 1) (c : Dev nD) : Dat τ (Elt F) Unit ℕ Ghost ℕ cfg0 c where
  A w := w.elim0
  after w _ := w.elim0
  Φ t := match t with
    | ⟨0, _⟩ => first m c
    | ⟨_ + 1, _⟩ => final m c
  q _ := fullShare
  owed t := match t with
    | ⟨0, _⟩ => owe₀ c
    | ⟨_ + 1, _⟩ => 0

abbrev vars : Variants := Variants.none

/-! ## The steps of the body -/

/-- Waiting for one of its cells and closing it: what was paid in, and the counter at zero. -/
theorem wait_cell (c : Dev nD) (j : Fin 11) {w : TpuEff nD τ sig (Elt F) Λ₀ (c : Thread nD τ).2 PUnit}
    (hw : ∀ R : PUnit → sProp 𝕄, wpE (defs₀ (F := F)) vars (c : Thread nD τ) none Set.univ w R = waitSpec (c : Thread nD τ) Set.univ (sems j) (amt (sems j)) R)
    (O : CellTallies nD τ sig Unit) (W : Waits sig Unit) {P : sProp 𝕄} (hP : pay m c (sems j) ⊢ P)
    {α : Type} {Q : α → sProp 𝕄} {k : PUnit → Prog (TpuEff nD τ sig (Elt F) Λ₀ (c : Thread nD τ).2) α} :
    iprop(records m K ∗ cred (tallyAt (cell (c, j)) () (amt (sems j))) ∗ owes (c : Thread nD τ) O W ∗ MayWait (c : Thread nD τ) (sems j) () O
        ∗ atPos EX (cell (c, j)) 0 ∅ 0)
      ⊢ iprop(((owes (c : Thread nD τ) O (insert (sems j, ()) W) ∗ semVal (cell (c, j)) 0 ∗ P)
            -∗ wp frame (wpE (defs₀ (F := F)) vars (c : Thread nD τ) none) Set.univ (k ⟨⟩) Q)
          -∗ wp frame (wpE (defs₀ (F := F)) vars (c : Thread nD τ) none) Set.univ (.op w k) Q) := by
  iintro ⟨#HR, Hc, HO, Hm, Hat⟩ Hk
  ihave #HI := (inv_of m K (c, j)) $$ HR
  iapply (Rounds.wp_wait_rest_token vars EX (sched m) (c : Thread nD τ) none (κ := K (c, j)) hw (Set.mem_univ _) () (O := O) (W := W) (R := 0)
      (m := 0) (T := ∅) (by rw [Nat.zero_add, expect_first])) $$ [Hc HO Hm Hat]
  · isplitr; · iexact HI
    isplitl [Hc]; · iexact Hc
    isplitl [HO]; · iexact HO
    isplitl [Hm]; · iexact Hm
    iexact Hat
  iintro ⟨HO, Hat, -, Hpay⟩
  ihave Hp := (Entails.of_eq (rest_first m (cell (c, j)))) $$ Hpay
  imod (Rounds.cell_close EX (sched m) (Set.mem_univ (K (c, j))) (fun h => h) (R := 0 + 1) (duties_later m (cell (c, j)))) $$ [Hat] with Hz
  · isplitr; · iexact HI
    iexact Hat
  iapply Hk
  isplitl [HO]; · iexact HO
  isplitl [Hz]; · iexact Hz
  iapply hP; iexact Hp

/-- Waiting for one of its copies, owing nothing. -/
theorem wait_copy (c : Dev nD) (j : Fin 11) {q : DmaSem sig} (hq : sems j = .dma q) {s s' : Shape}
    {src : Memref sig .tc .hbm s .bf16} {dst : Memref sig .tc .hbm s' .bf16} {hsrc : src.view.WordExact} {hdst : dst.view.WordExact}
    (hN : dst.view.dmaCredit = amt (sems j)) (W : Waits sig Unit) {P : sProp 𝕄} (hP : pay m c (sems j) ⊢ P)
    {α : Type} {Q : α → sProp 𝕄} {k : PUnit → Prog (TpuEff nD τ sig (Elt F) Λ₀ .tc) α} :
    iprop(records m K ∗ cred (tallyAt (cell (c, j)) () (amt (sems j))) ∗ owes (c : Thread nD τ) 0 W ∗ atPos EX (cell (c, j)) 0 ∅ 0)
      ⊢ iprop(((owes (c : Thread nD τ) 0 (insert (sems j, ()) W) ∗ semVal (cell (c, j)) 0 ∗ P)
            -∗ wp frame (wpE (defs₀ (F := F)) vars (c : Thread nD τ) none) Set.univ (k ⟨⟩) Q)
          -∗ wp frame (wpE (defs₀ (F := F)) vars (c : Thread nD τ) none) Set.univ (.op (.waitDma2 q src dst hsrc hdst) k) Q) := by
  iintro ⟨#HR, Hc, HO, Ha⟩
  iapply (wait_cell m K c j (fun R => by rw [wpE_waitDma2_eq, hN, hq]) 0 W hP) $$ [Hc HO Ha]
  isplitr; · iexact HR
  isplitl [Hc]; · iexact Hc
  isplitl [HO]; · iexact HO
  isplitr; · rw [MayWait_zero]; iempintro
  iexact Ha

/-- A copy to the sibling: the source becomes the send payload, the landing buffer rewritten the receive payload; the send
    credit comes back and the receive credit is no longer owed. -/
theorem copy_cell (c p : Dev nD) (hp : p = sib c) (j i : Fin 11) (hj : payee (c, j) = (c, j)) (hi : payee (c, i) = (sib c, i)) {s : Shape}
    {src dst : Memref sig .tc .hbm s .bf16} {hsc : (dst : Memref sig (Dev.tc p : Thread nD τ).2.kind .hbm s .bf16).view.ref.isScScratch = false}
    {hsrc : src.view.WordExact} {hdst : dst.view.WordExact}
    {hsem : DmaTarget.Typed .hbm (sems i) (.remote (Dev.tc p : Thread nD τ) (dst : Memref sig .tc .hbm s .bf16) (sems j) hsc)}
    (hN : dst.view.amount (sems i) = amt (sems i)) (hji : amt (sems j) = amt (sems i))
    (fs : Buf (Elt F) (src.view.loc (c : Thread nD τ))) (fd : Buf (Elt F) (dst.view.loc (sib c : Thread nD τ)))
    (hs : (src.view.loc (c : Thread nD τ) ↦[src.view.set]{fullShare} fs) ⊢ pay m c (sems j))
    (hd : (dst.view.loc (sib c : Thread nD τ) ↦[dst.view.set]{fullShare} (dst.view.write (Elt F) fd (src.view.read (Elt F) fs) Finset.univ))
      ⊢ pay m (sib c) (sems i))
    {S D : sProp 𝕄} (hS : S ⊢ (src.view.loc (c : Thread nD τ) ↦[src.view.set]{fullShare} fs))
    (hD : D ⊢ (dst.view.loc (sib c : Thread nD τ) ↦[dst.view.set]{fullShare} fd))
    (O O' : CellTallies nD τ sig Unit) (hO : O' = O + tallyAt (cell (sib c, i)) () (amt (sems i))) (W : Waits sig Unit)
    {α : Type} {Q : α → sProp 𝕄} {k : PUnit → Prog (TpuEff nD τ sig (Elt F) Λ₀ .tc) α} :
    iprop(records m K ∗ S ∗ D ∗ owes (c : Thread nD τ) O' W ∗ dutyTok EX (cell (payee (c, j))) 0 () ∗ dutyTok EX (cell (payee (c, i))) 0 ())
      ⊢ iprop(((cred (tallyAt (cell (c, j)) () (amt (sems j))) ∗ owes (c : Thread nD τ) O W)
            -∗ wp frame (wpE (defs₀ (F := F)) vars (c : Thread nD τ) none) Set.univ (k ⟨⟩) Q)
          -∗ wp frame (wpE (defs₀ (F := F)) vars (c : Thread nD τ) none) Set.univ
              (.op (.enqueueDma src (.remote (Dev.tc p : Thread nD τ) dst (sems j) hsc) (sems i) hsrc hdst hsem) k) Q) := by
  subst hp
  rw [hj, hi, hji]
  iintro ⟨#HR, Hs, Hd, HO, Hj, Hi⟩
  iapply (Rounds.wp_send_pointsTo vars EX (sched m) (c : Thread nD τ) none (κ₁ := K (c, j)) (κ₂ := K (sib c, i)) (r₁ := 0) (r₂ := 0) (d₁ := ()) (d₂ := ())
      (fd := fd) (duty m (cell (c, j))) (duty m (cell (sib c, i))) () () (amt (sems i)) hN hji rfl O hO (W := W) hs hd) $$ [Hs Hd HO Hj Hi]
  isplitr; · iapply (inv_of m K (c, j)); iexact HR
  isplitr; · iapply (inv_of m K (sib c, i)); iexact HR
  isplitl [Hs]; · iapply hS; iexact Hs
  isplitl [Hd]; · iapply hD; iexact Hd
  isplitl [HO]; · iexact HO
  isplitl [Hj]; · iexact Hj
  isplitr; · iapply (reached_of m K (c, j)); iexact HR
  isplitl [Hi]; · iexact Hi
  iapply (reached_of m K (sib c, i)); iexact HR

omit [FloatOps F] in
theorem pay_sent (c : Dev nD) (i : Fin 5) : pay m c (sems (sent i)) = src m c i := by fin_cases i <;> rfl
omit [FloatOps F] in
theorem pay_landed (c : Dev nD) (i : Fin 5) : pay m c (sems (landed i)) = pts c i (got m c i) := by fin_cases i <;> rfl

omit [FloatOps F] in
/-- An argument split into the half sent and the half kept. -/
theorem arg_split (c : Dev nD) (i : Fin 5) : arg m c i
    ⊣⊢ iprop(src m c i ∗ ((half c i).view.loc (c : Thread nD τ) ↦[Finset.univ \ (half c i).view.set]{fullShare} m ((half c i).view.loc (c : Thread nD τ)))) :=
  pointsTo_split_subset (Finset.subset_univ _)

omit [FloatOps F] in
/-- What a whole buffer is overwritten with does not depend on what it held. -/
theorem overwritten (c : Dev nD) (i : Fin 5) (f f' : Buf (Elt F) ((land i).view.loc (c : Thread nD τ))) (w) :
    (land i).view.write (Elt F) f w Finset.univ = (land i).view.write (Elt F) f' w Finset.univ := by
  fin_cases i <;> exact (View.write_whole_univ _ _ _).trans (View.write_whole_univ _ _ _).symm

omit [FloatOps F] in
/-- What has landed is what the sibling sent. -/
theorem lands (c : Dev nD) (i : Fin 5) (f : Buf (Elt F) ((land i).view.loc (sib c : Thread nD τ))) :
    ((land i).view.loc (sib c : Thread nD τ) ↦[(land i).view.set]{fullShare} ((land i).view.write (Elt F) f
        ((half c i).view.read (Elt F) (m ((half c i).view.loc (c : Thread nD τ)))) Finset.univ) : sProp 𝕄) ⊢ pay m (sib c) (sems (landed i)) := by
  rw [pay_landed]
  unfold pts got
  rw [sib_sib]
  exact Entails.of_eq (by rw [overwritten (sib c) i f])

omit [FloatOps F] in
/-- A device's signal brings the sibling its own landing buffers. -/
theorem buffers_given (c : Dev nD) : free c ⊢ (sched m).payload (cell (sib c, 0)) 0 () := by
  show _ ⊢ free (sib (sib c))
  rw [sib_sib]
omit [FloatOps F] in
theorem buffers_got (c : Dev nD) : pay m c (sems 0) ⊢ free (sib c) := Entails.refl _

/-- A device's waits with those of an array's copy. -/
abbrev seen (W : Waits sig Unit) (i : Fin 5) : Waits sig Unit := insert (sems (landed i), ()) (insert (sems (sent i), ()) W)

/-- The two waits of an array's copy: the source again, and the half landed. -/
theorem wait_both (c : Dev nD) (i : Fin 5) {q q' : DmaSem sig} (hq : sems (sent i) = .dma q) (hq' : sems (landed i) = .dma q') {s₁ s₂ s₃ s₄ : Shape}
    {a : Memref sig .tc .hbm s₁ .bf16} {b : Memref sig .tc .hbm s₂ .bf16} {a' : Memref sig .tc .hbm s₃ .bf16} {b' : Memref sig .tc .hbm s₄ .bf16}
    {ha : a.view.WordExact} {hb : b.view.WordExact} {ha' : a'.view.WordExact} {hb' : b'.view.WordExact}
    (hN : b.view.dmaCredit = amt (sems (sent i))) (hN' : b'.view.dmaCredit = amt (sems (landed i))) (W : Waits sig Unit)
    {α : Type} {Q : α → sProp 𝕄} {k : PUnit → Prog (TpuEff nD τ sig (Elt F) Λ₀ .tc) α} :
    iprop(records m K ∗ due c (sent i) ∗ due c (landed i) ∗ owes (c : Thread nD τ) 0 W ∗ atPos EX (cell (c, sent i)) 0 ∅ 0 ∗ atPos EX (cell (c, landed i)) 0 ∅ 0)
      ⊢ iprop(((owes (c : Thread nD τ) 0 (insert (sems (landed i), ()) (insert (sems (sent i), ()) W))
              ∗ semVal (cell (c, sent i)) 0 ∗ semVal (cell (c, landed i)) 0 ∗ src m c i ∗ pts c i (got m c i))
            -∗ wp frame (wpE (defs₀ (F := F)) vars (c : Thread nD τ) none) Set.univ (k ⟨⟩) Q)
          -∗ wp frame (wpE (defs₀ (F := F)) vars (c : Thread nD τ) none) Set.univ
              (.op (.waitDma2 q a b ha hb) fun _ => .op (.waitDma2 q' a' b' ha' hb') k) Q) := by
  unfold due
  iintro ⟨#HR, Hc, Hc', HO, Ha, Ha'⟩ Hk
  iapply (wait_copy m K c (sent i) hq hN W (Entails.of_eq (pay_sent m c i))) $$ [Hc HO Ha]
  · isplitr; · iexact HR
    isplitl [Hc]; · iexact Hc
    isplitl [HO]; · iexact HO
    iexact Ha
  iintro ⟨HO, Hz, Hs⟩
  iapply (wait_copy m K c (landed i) hq' hN' _ (Entails.of_eq (pay_landed m c i))) $$ [Hc' HO Ha']
  · isplitr; · iexact HR
    isplitl [Hc']; · iexact Hc'
    isplitl [HO]; · iexact HO
    iexact Ha'
  iintro ⟨HO, Hz', Hl⟩
  iapply Hk
  isplitl [HO]; · iexact HO
  isplitl [Hz]; · iexact Hz
  isplitl [Hz']; · iexact Hz'
  isplitl [Hs] <;> iassumption

theorem final_of (c : Dev nD) : final m c ⊢ (dats m 0 c).Φ t0_0.succ := Entails.refl _

def after (c : Dev nD) : sProp 𝕄 := iprop(final m c ∗ (dats m 0 c).owesAt () t0_0.succ)

set_option maxHeartbeats 3200000 in
/-- The body from `first` to `final`: signal the sibling, wait for its signal, start the copies, wait for all. -/
theorem body_runs (c : Dev nD) (Kt : PUnit → sProp 𝕄) :
    iprop((first m c ∗ (dats m 0 c).owesAt () t0_0.castSucc) ∗ (after m c -∗ Kt ⟨⟩))
      ⊢ wp frame (wpE (defs₀ (F := F)) vars (c : Thread nD τ) none) Set.univ (bodyAt0 (F := F) t0_0) Kt := by
  unfold bodyAt0
  simp only [cc0_grad_swap_sibling_eq_skeleton]; unfold cc0_grad_swap_sibling_skel
  simp only [k0_part5_eq_skeleton]; unfold k0_part5_skel
  simp only [k0_part4_eq_skeleton]; unfold k0_part4_skel
  simp only [k0_part3_eq_skeleton]; unfold k0_part3_skel
  simp only [k0_part2_eq_skeleton]; unfold k0_part2_skel
  simp only [k0_part1_eq_skeleton]; unfold k0_part1_skel
  simp only [semSignalWord, semWaitWord, Prog.lift, Prog.bind_op, Prog.bind_ret, Prog.pure_eq_ret, wp_deviceId]
  unfold first credit linear
  rw [bigSep_eleven, bigSep_eleven, bigSep_arrays]
  iintro ⟨⟨⟨⟨%K, #HR, ⟨Ha0, Ha1, Ha2, Ha3, Ha4, Ha5, Ha6, Ha7, Ha8, Ha9, Ha10⟩, Ht0, Ht1, Ht2, Ht3, Ht4, Ht5, Ht6, Ht7, Ht8, Ht9, Ht10⟩, ⟨Hc0, Hc6, Hc7, Hc8, Hc9, Hc10⟩, #Hlev, ⟨Hg0, Hg1, Hg2, Hg3, Hg4⟩, Hl⟩, HO⟩, Hk⟩
  unfold Dat.owesAt Pipeline.owesWithin
  icases HO with ⟨%W, %hW, HO⟩
  rw [show (dats m 0 c).owed t0_0.castSucc = owe₀ c from rfl]
  simp only [dev1_sib c]
  -- the signal, with the buffers the sibling copies into
  iapply (Rounds.wp_signal vars EX (sched m) (c : Thread nD τ) none (dst := (sib c : Thread nD τ)) (κ := K (sib c, 0)) (d := ())
      (duty m (cell (sib c, 0))) rfl () (owe₁ c) rfl) $$ [HO Ht0 Hl]
  · isplitr; · iapply (inv_of m K (sib c, 0)); iexact HR
    isplitl [HO]; · iexact HO
    isplitl [Ht0]; · iexact Ht0
    isplitl [Hl]
    · iapply (buffers_given m c); iexact Hl
    iapply (reached_of m K (sib c, 0)); iexact HR
  iintro HO
  -- the sibling's signal, with its landing buffers
  iapply (wait_cell m K c 0 (wpE_semWait_eq vars (c : Thread nD τ) none Set.univ) (owe₁ c) W (buffers_got m c)) $$ [Hc0 HO Ha0]
  · isplitr; · iexact HR
    isplitl [Hc0]; · unfold due; iexact Hc0
    isplitl [HO]; · iexact HO
    isplitr; · iapply (mayWait_bar c); iexact Hlev
    iexact Ha0
  unfold free
  iintro ⟨HO, Hz0, ⟨%f0, Hl0⟩, ⟨%f1, Hl1⟩, ⟨%f2, Hl2⟩, ⟨%f3, Hl3⟩, ⟨%f4, Hl4⟩⟩
  ihave Hg0 := (arg_split m c 0).1 $$ Hg0
  ihave Hg1 := (arg_split m c 1).1 $$ Hg1
  ihave Hg2 := (arg_split m c 2).1 $$ Hg2
  ihave Hg3 := (arg_split m c 3).1 $$ Hg3
  ihave Hg4 := (arg_split m c 4).1 $$ Hg4
  icases Hg0 with ⟨Hg0, Hr0⟩
  icases Hg1 with ⟨Hg1, Hr1⟩
  icases Hg2 with ⟨Hg2, Hr2⟩
  icases Hg3 with ⟨Hg3, Hr3⟩
  icases Hg4 with ⟨Hg4, Hr4⟩
  -- the copies
  iapply (copy_cell m K c _ (dev2_sib c) 1 6 rfl rfl rfl rfl _ f0 (Entails.refl _) (lands m c 0 f0) (S := src m c 0) (D := pts (sib c) 0 f0) (Entails.refl _) (Entails.refl _) (owing c [7, 8, 9, 10]) (owing c [6, 7, 8, 9, 10]) rfl _) $$ [Hg0 Hl0 HO Ht1 Ht6]
  · isplitr; · iexact HR
    isplitl [Hg0]; · iexact Hg0
    isplitl [Hl0]; · iexact Hl0
    isplitl [HO]; · iexact HO
    isplitl [Ht1] <;> iassumption
  iintro ⟨Hc1, HO⟩
  iapply (copy_cell m K c _ (dev3_sib c) 2 7 rfl rfl rfl rfl _ f1 (Entails.refl _) (lands m c 1 f1) (S := src m c 1) (D := pts (sib c) 1 f1) (Entails.refl _) (Entails.refl _) (owing c [8, 9, 10]) (owing c [7, 8, 9, 10]) rfl _) $$ [Hg1 Hl1 HO Ht2 Ht7]
  · isplitr; · iexact HR
    isplitl [Hg1]; · iexact Hg1
    isplitl [Hl1]; · iexact Hl1
    isplitl [HO]; · iexact HO
    isplitl [Ht2] <;> iassumption
  iintro ⟨Hc2, HO⟩
  iapply (copy_cell m K c _ (dev4_sib c) 3 8 rfl rfl rfl rfl _ f2 (Entails.refl _) (lands m c 2 f2) (S := src m c 2) (D := pts (sib c) 2 f2) (Entails.refl _) (Entails.refl _) (owing c [9, 10]) (owing c [8, 9, 10]) rfl _) $$ [Hg2 Hl2 HO Ht3 Ht8]
  · isplitr; · iexact HR
    isplitl [Hg2]; · iexact Hg2
    isplitl [Hl2]; · iexact Hl2
    isplitl [HO]; · iexact HO
    isplitl [Ht3] <;> iassumption
  iintro ⟨Hc3, HO⟩
  iapply (copy_cell m K c _ (dev5_sib c) 4 9 rfl rfl rfl rfl _ f3 (Entails.refl _) (lands m c 3 f3) (S := src m c 3) (D := pts (sib c) 3 f3) (Entails.refl _) (Entails.refl _) (owing c [10]) (owing c [9, 10]) rfl _) $$ [Hg3 Hl3 HO Ht4 Ht9]
  · isplitr; · iexact HR
    isplitl [Hg3]; · iexact Hg3
    isplitl [Hl3]; · iexact Hl3
    isplitl [HO]; · iexact HO
    isplitl [Ht4] <;> iassumption
  iintro ⟨Hc4, HO⟩
  iapply (copy_cell m K c _ (dev6_sib c) 5 10 rfl rfl rfl rfl _ f4 (Entails.refl _) (lands m c 4 f4) (S := src m c 4) (D := pts (sib c) 4 f4) (Entails.refl _) (Entails.refl _) (owing c []) (owing c [10]) rfl _) $$ [Hg4 Hl4 HO Ht5 Ht10]
  · isplitr; · iexact HR
    isplitl [Hg4]; · iexact Hg4
    isplitl [Hl4]; · iexact Hl4
    isplitl [HO]; · iexact HO
    isplitl [Ht5] <;> iassumption
  iintro ⟨Hc5, HO⟩
  -- each copy's two waits
  iapply (wait_both m K c 0 (q := 0) (q' := 5) rfl rfl (b := half c 0) (b' := land 0) rfl rfl _) $$ [Hc1 Hc6 HO Ha1 Ha6]
  · isplitr; · iexact HR
    unfold due
    isplitl [Hc1]; · iexact Hc1
    isplitl [Hc6]; · iexact Hc6
    isplitl [HO]; · iexact HO
    isplitl [Ha1] <;> iassumption
  iintro ⟨HO, Hz1, Hz6, Hg0, Hl0⟩
  iapply (wait_both m K c 1 (q := 1) (q' := 6) rfl rfl (b := half c 1) (b' := land 1) rfl rfl _) $$ [Hc2 Hc7 HO Ha2 Ha7]
  · isplitr; · iexact HR
    unfold due
    isplitl [Hc2]; · iexact Hc2
    isplitl [Hc7]; · iexact Hc7
    isplitl [HO]; · iexact HO
    isplitl [Ha2] <;> iassumption
  iintro ⟨HO, Hz2, Hz7, Hg1, Hl1⟩
  iapply (wait_both m K c 2 (q := 2) (q' := 7) rfl rfl (b := half c 2) (b' := land 2) rfl rfl _) $$ [Hc3 Hc8 HO Ha3 Ha8]
  · isplitr; · iexact HR
    unfold due
    isplitl [Hc3]; · iexact Hc3
    isplitl [Hc8]; · iexact Hc8
    isplitl [HO]; · iexact HO
    isplitl [Ha3] <;> iassumption
  iintro ⟨HO, Hz3, Hz8, Hg2, Hl2⟩
  iapply (wait_both m K c 3 (q := 3) (q' := 8) rfl rfl (b := half c 3) (b' := land 3) rfl rfl _) $$ [Hc4 Hc9 HO Ha4 Ha9]
  · isplitr; · iexact HR
    unfold due
    isplitl [Hc4]; · iexact Hc4
    isplitl [Hc9]; · iexact Hc9
    isplitl [HO]; · iexact HO
    isplitl [Ha4] <;> iassumption
  iintro ⟨HO, Hz4, Hz9, Hg3, Hl3⟩
  iapply (wait_both m K c 4 (q := 4) (q' := 9) rfl rfl (b := half c 4) (b' := land 4) rfl rfl _) $$ [Hc5 Hc10 HO Ha5 Ha10]
  · isplitr; · iexact HR
    unfold due
    isplitl [Hc5]; · iexact Hc5
    isplitl [Hc10]; · iexact Hc10
    isplitl [HO]; · iexact HO
    isplitl [Ha5] <;> iassumption
  iintro ⟨HO, Hz5, Hz10, Hg4, Hl4⟩
  rw [wp_ret]; imodintro
  iapply Hk
  unfold after final done Dat.owesAt Pipeline.owesWithin
  rw [show (dats m 0 c).owed t0_0.succ = 0 from rfl, bigSep_eleven, bigSep_arrays, bigSep_arrays]
  isplitr [HO]
  · isplitl [Hz0 Hz1 Hz2 Hz3 Hz4 Hz5 Hz6 Hz7 Hz8 Hz9 Hz10]
    · iframe
    isplitr [Hl0 Hl1 Hl2 Hl3 Hl4]
    · isplitl [Hg0 Hr0]; · iapply (arg_split m c 0).2; iframe
      isplitl [Hg1 Hr1]; · iapply (arg_split m c 1).2; iframe
      isplitl [Hg2 Hr2]; · iapply (arg_split m c 2).2; iframe
      isplitl [Hg3 Hr3]; · iapply (arg_split m c 3).2; iframe
      iapply (arg_split m c 4).2; iframe
    iframe
  iexists (seen (seen (seen (seen (seen (insert (sems 0, ()) W) 0) 1) 2) 3) 4)
  isplitr; · ipureintro; exact fun _ _ => Or.inl trivial
  iexact HO

theorem body_obligation (c : Dev nD) : BodyObligation (dats (F := F) m 0 c) (defs₀ (F := F)) vars () Set.univ := fun t => by
  rw [fin_N0 t]
  show iprop(first m c ∗ (dats m 0 c).owesAt () t0_0.castSucc ∗ bigSep Finset.univ _) ⊢ _
  iintro ⟨H1, H2, -⟩
  iapply (body_runs m c)
  isplitl
  · isplitl [H1] <;> iassumption
  · unfold after
    iintro ⟨H1, H2⟩
    isplitl [H1]; · iapply (final_of m c); iexact H1
    isplitl [H2]; · iexact H2
    rw [Finset.univ_eq_empty, bigSep_empty]; iempintro

end Body

/-! ## The launch -/

/-- The kernel's own semaphores: all but the barrier. -/
abbrev own : Fin 10 → SemLoc sig := fun q => .dma q
theorem own_facts : Pipeline.OwnSemFacts cfg0.spec own := by decide

def cells : Finset (GSem nD τ sig) := Finset.univ.map ⟨cell, cell_inj⟩
def tokens : Finset (GSem nD τ sig × ℕ × Unit) :=
  Finset.univ.map ⟨fun cj : Dev nD × Fin 11 => (cell cj, 0, ()), fun a b h => cell_inj (congrArg Prod.fst h)⟩

def launched : Ghost := (initOf (Pipeline.cells cfgs cellOf_inj) (Pipeline.launchToks cfgs cellOf_inj), initOf cells tokens)

/-- What the launch deals a device: its cells' states, its positions, its cells' tokens. -/
def dealt (c : Dev nD) : sProp 𝕄 :=
  iprop((bigSep Finset.univ fun j : Fin 11 => roundState EX (sched m) (cell (c, j)) 0)
    ∗ (bigSep Finset.univ fun j : Fin 11 => atPos EX (cell (c, j)) 0 ∅ 0)
    ∗ (bigSep Finset.univ fun j : Fin 11 => reached EX (cell (c, j)) 0)
    ∗ bigSep Finset.univ fun j : Fin 11 => dutyTok EX (cell (c, j)) 0 ())

/-- What a device's body starts from. -/
def share (c : Dev nD) : sProp 𝕄 := iprop(∃ K, records m K ∗ linear c)

omit [FloatOps F] in
theorem over_cells (Φ : GSem nD τ sig → sProp 𝕄) :
    bigSep cells Φ = bigSep Finset.univ fun c : Dev nD => bigSep Finset.univ fun j : Fin 11 => Φ (cell (c, j)) := by
  unfold cells; rw [bigSep_map, bigSep_univ_prod]; rfl

omit [FloatOps F] in
theorem deal : BI.own (EX (initOf cells tokens)) ⊢ (|==> bigSep Finset.univ (dealt m) : sProp 𝕄) := by
  have ht : bigSep tokens (fun x => (dutyTok EX x.1 x.2.1 x.2.2 : sProp 𝕄))
      = bigSep Finset.univ fun c : Dev nD => bigSep Finset.univ fun j : Fin 11 => dutyTok EX (cell (c, j)) 0 () := by
    unfold tokens; rw [bigSep_map, bigSep_univ_prod]; rfl
  iintro H
  imod (Rounds.fund EX (sched m) cells tokens) $$ H with ⟨Hst, Hr, Hat, Htok⟩
  imodintro
  ihave Hst := (Entails.of_eq (over_cells fun g => roundState EX (sched m) g 0)) $$ Hst
  ihave Hat := (Entails.of_eq (over_cells (F := F) fun g => atPos EX g 0 ∅ 0)) $$ Hat
  ihave Hr := (Entails.of_eq (over_cells (F := F) fun g => reached EX g 0)) $$ Hr
  ihave Htok := (Entails.of_eq ht) $$ Htok
  unfold dealt; simp only [bigSep_sep']
  isplitl [Hst]; · iexact Hst
  isplitl [Hat]; · iexact Hat
  isplitl [Hr]; · iexact Hr
  iexact Htok

omit [FloatOps F] in
theorem own_sems (c : Dev nD) : (Pipeline.ownSems0 (Ix := Unit) (Name := ℕ) (U := Ghost) (Lvl := ℕ) (Val := Elt F) (τ := τ) own c : sProp 𝕄)
    = iprop(semVal (cell (c, 1)) 0 ∗ semVal (cell (c, 2)) 0 ∗ semVal (cell (c, 3)) 0 ∗ semVal (cell (c, 4)) 0 ∗ semVal (cell (c, 5)) 0
        ∗ semVal (cell (c, 6)) 0 ∗ semVal (cell (c, 7)) 0 ∗ semVal (cell (c, 8)) 0 ∗ semVal (cell (c, 9)) 0 ∗ semVal (cell (c, 10)) 0) := by
  rw [Pipeline.ownSems0_eq_of_list c own [0, 1, 2, 3, 4, 5, 6, 7, 8, 9] (by decide) (by decide)]; rfl
omit [FloatOps F] in
theorem launch_sems (c : Dev nD) : (unscopedSems0 c : sProp 𝕄) = semVal (cell (c, 0)) 0 := by
  unfold unscopedSems0; rw [bigSep_eq_bigSepL_of_eq [SemLoc.reg 0] (by decide) (by decide)]; rfl
omit [FloatOps F] in
/-- The barrier is the launch's, the rest are the kernel's own. -/
theorem counters (c : Dev nD) :
    iprop(unscopedSems0 c ∗ Pipeline.ownSems0 (Ix := Unit) (Name := ℕ) (U := Ghost) (Lvl := ℕ) (Val := Elt F) (τ := τ) own c)
      = (bigSep Finset.univ fun j : Fin 11 => semVal (cell (c, j)) 0 : sProp 𝕄) := by
  rw [own_sems, launch_sems, bigSep_eleven]

omit [FloatOps F] in
/-- A device's cells opened as invariants. -/
theorem open_cells (c : Dev nD) :
    iprop(Pipeline.ownSems0 (Ix := Unit) (Name := ℕ) (U := Ghost) (Lvl := ℕ) (Val := Elt F) (τ := τ) own c ∗ unscopedSems0 c ∗ dealt m c)
      ⊢ |={Set.univ}=> iprop((bigSep Finset.univ fun j => iprop(∃ κ : ℕ, cellInv EX (sched m) κ (cell (c, j))))
          ∗ (bigSep Finset.univ fun j : Fin 11 => atPos EX (cell (c, j)) 0 ∅ 0)
          ∗ (bigSep Finset.univ fun j : Fin 11 => reached EX (cell (c, j)) 0)
          ∗ bigSep Finset.univ fun j : Fin 11 => dutyTok EX (cell (c, j)) 0 ()) := by
  unfold dealt
  iintro ⟨Hos, Hus, Hst, Hrest⟩
  ihave Hv := (Entails.of_eq (counters (F := F) c)) $$ [Hos Hus]
  · isplitl [Hus] <;> iassumption
  imod (show iprop((bigSep Finset.univ fun j : Fin 11 => semVal (cell (c, j)) 0) ∗ bigSep Finset.univ fun j : Fin 11 => roundState EX (sched m) (cell (c, j)) 0)
      ⊢ (|={Set.univ}=> bigSep Finset.univ fun j => iprop(∃ κ : ℕ, cellInv EX (sched m) κ (cell (c, j))) : sProp 𝕄) from by
        rw [← bigSep_sep']
        exact (bigSep_mono fun j _ => (Rounds.body_intro EX (sched m) (cell (c, j))).trans inv_alloc).trans (bigSep_fupd _ _)) $$ [Hv Hst] with Hinv
  · isplitl [Hv] <;> iassumption
  imodintro
  isplitl [Hinv]; · iexact Hinv
  iexact Hrest

omit [FloatOps F] in
/-- Every cell's token goes to the device that pays it. -/
theorem tokens_dealt : (bigSep Finset.univ fun c : Dev nD => bigSep Finset.univ fun j : Fin 11 => (dutyTok EX (cell (c, j)) 0 () : sProp 𝕄))
    = bigSep Finset.univ fun c : Dev nD => bigSep Finset.univ fun j : Fin 11 => dutyTok EX (cell (payee (c, j))) 0 () := by
  rw [← bigSep_univ_prod (fun cj : Dev nD × Fin 11 => (dutyTok EX (cell cj) 0 () : sProp 𝕄)),
    ← bigSep_univ_prod (fun cj : Dev nD × Fin 11 => (dutyTok EX (cell (payee cj)) 0 () : sProp 𝕄)),
    bigSep_univ_equiv payees (fun cj : Dev nD × Fin 11 => (dutyTok EX (cell cj) 0 () : sProp 𝕄))]
  rfl

omit [FloatOps F] in
theorem share_of (K : Dev nD × Fin 11 → ℕ) (c : Dev nD) : iprop(records m K ∗ linear c) ⊢ share m c := by
  unfold share
  iintro ⟨H, Hl⟩
  iexists K
  isplitl [H] <;> iassumption

omit [FloatOps F] in
theorem shares (K : Dev nD × Fin 11 → ℕ) : iprop(records m K ∗ bigSep Finset.univ fun c : Dev nD => (linear c : sProp 𝕄)) ⊢ bigSep Finset.univ (share m) :=
  (sep_mono_left (BI.bigSep_of_persistent Finset.univ (records m K))).trans (by
    rw [← bigSep_sep']
    exact bigSep_mono fun c _ => share_of m K c)

omit [FloatOps F] in
/-- Every device's cells, positions and tokens regrouped into the shares. -/
theorem regroup :
    (bigSep Finset.univ fun c : Dev nD => iprop((bigSep Finset.univ fun j => iprop(∃ κ : ℕ, cellInv EX (sched m) κ (cell (c, j))))
          ∗ (bigSep Finset.univ fun j : Fin 11 => atPos EX (cell (c, j)) 0 ∅ 0)
          ∗ (bigSep Finset.univ fun j : Fin 11 => reached EX (cell (c, j)) 0)
          ∗ bigSep Finset.univ fun j : Fin 11 => dutyTok EX (cell (c, j)) 0 ()) : sProp 𝕄)
      ⊢ bigSep Finset.univ (share m) := by
  rw [bigSep_sep', bigSep_sep', bigSep_sep', tokens_dealt,
    ← bigSep_univ_prod (fun cj : Dev nD × Fin 11 => iprop(∃ κ : ℕ, cellInv EX (sched m) κ (cell cj))),
    ← bigSep_univ_prod (fun cj : Dev nD × Fin 11 => (reached EX (cell cj) 0 : sProp 𝕄))]
  iintro ⟨HI, Hat, #HR, Htok⟩
  ihave HK := (BI.bigSep_exists_pi Finset.univ (fun (cj : Dev nD × Fin 11) (κ : ℕ) => (cellInv EX (sched m) κ (cell cj) : sProp 𝕄))) $$ HI
  icases HK with ⟨%K, #HI⟩
  iapply (shares m K)
  isplitr
  · unfold records; isplitl; · iexact HI
    iexact HR
  · unfold linear; rw [bigSep_sep']
    isplitl [Hat] <;> iassumption

omit [FloatOps F] in
/-- All the devices' semaphores at once into all their shares. -/
theorem all_open : (bigSep Finset.univ fun c => iprop(Pipeline.ownSems0 (Ix := Unit) (Name := ℕ) (U := Ghost) (Lvl := ℕ) (Val := Elt F) (τ := τ) own c ∗ unscopedSems0 c ∗ dealt m c) : sProp 𝕄)
    ⊢ |={Set.univ}=> bigSep Finset.univ (share m) :=
  ((bigSep_mono fun c _ => open_cells m c).trans (bigSep_fupd _ _)).trans (BI.fupd_mono (regroup m))

/-! ## The credit at launch -/

theorem cell_eq {a b : Dev nD × Fin 11} : Iff (cell a = cell b) (a = b) := ⟨fun h => cell_inj h, fun h => h ▸ rfl⟩
theorem sib_eq {a b : Dev nD} : Iff (sib a = b) (a = sib b) := ⟨fun h => by rw [← h, sib_sib], fun h => by rw [h, sib_sib]⟩

theorem dev_thread {a b : Dev nD} : Iff ((a : Thread nD τ) = (b : Thread nD τ)) (a = b) := ⟨fun h => congrArg Prod.fst h, fun h => h ▸ rfl⟩

/-- What a device owes a cell: once for each time the list has it, the sibling's only. -/
theorem owing_at (d c : Dev nD) (j : Fin 11) : (l : List (Fin 11)) → owing d l (cell (c, j)) () = if d = sib c then l.count j * amt (sems j) else 0
  | [] => by rw [List.count_nil, Nat.zero_mul, ite_self]; rfl
  | i :: l => by
    unfold owing
    rw [Pi.add_apply, Finsupp.add_apply, tallyAt_apply, owing_at d c j l, List.count_cons]
    simp only [Prod.mk.injEq, sems_inj.eq_iff, dev_thread]
    by_cases h : d = sib c
    · subst h
      rw [sib_sib]
      by_cases hij : i = j
      · subst hij; simp only [true_and, if_true, beq_self_eq_true]; rw [Nat.add_mul, Nat.one_mul]
      · have hji : ¬ j = i := fun e => hij e.symm
        simp only [true_and, _root_.false_and, hij, hji, beq_iff_eq, if_true, if_false, Nat.add_zero]
    · have h' : ¬ c = sib d := fun hc => h (sib_eq.mp hc.symm)
      simp only [h, h', _root_.false_and, if_false, Nat.add_zero]

omit [FloatOps F] in
theorem launch_credit (c : Dev nD) (j : Fin 11) (hj : [0, 6, 7, 8, 9, 10].count j = 1) :
    cred (tallyOn (cell (c, j)) (launchCredit (Pipeline.owing owe₀) 0 (cell (c, j)))) = (due c j : sProp 𝕄) := by
  unfold due tallyAt; refine congrArg (fun x => cred (tallyOn (cell (c, j)) x)) (Finsupp.ext fun u => ?_); cases u
  rw [Pipeline.launchCredit_owing, Finsupp.single_eq_same, Finset.sum_congr rfl fun d _ => owing_at d c j _,
    Finset.sum_ite_eq' Finset.univ (sib c) fun _ => _, if_pos (Finset.mem_univ _), hj, Nat.one_mul]

omit [FloatOps F] in
theorem credits (c : Dev nD) : (Pipeline.launchCred owe₀ c : sProp 𝕄) ⊢ credit c := by
  unfold Pipeline.launchCred credit
  rw [bigSep_univ_eq_bigSepL [SemLoc.reg 0, SemLoc.dma 5, SemLoc.dma 6, SemLoc.dma 7, SemLoc.dma 8, SemLoc.dma 9,
      SemLoc.dma 0, SemLoc.dma 1, SemLoc.dma 2, SemLoc.dma 3, SemLoc.dma 4] (by decide) (by decide),
    ← launch_credit c 0 (by decide), ← launch_credit c 6 (by decide), ← launch_credit c 7 (by decide), ← launch_credit c 8 (by decide),
    ← launch_credit c 9 (by decide), ← launch_credit c 10 (by decide)]
  show iprop(_ ∗ _ ∗ _ ∗ _ ∗ _ ∗ _ ∗ _) ⊢ _
  iintro ⟨H0, H1, H2, H3, H4, H5, -⟩
  isplitl [H0]; · iexact H0
  isplitl [H1]; · iexact H1
  isplitl [H2]; · iexact H2
  isplitl [H3]; · iexact H3
  isplitl [H4] <;> iassumption

/-! ## The launch's conditions -/

omit [FloatOps F] in
theorem enter (c : Dev nD) :
    iprop(Pipeline.unscopedRestP Pipeline.Prefetch.none cfg0.spec c (fun b => m ((c : Thread nD τ).loc b)) ∗ levAts lab lev
        ∗ Pipeline.launchCred owe₀ c ∗ prngReg c (ρ c) ∗ share m c)
      ⊢ |={Set.univ}=> iprop(first m c ∗ emp) := by
  rw [Pipeline.unscopedRestP_none, unscopedRest0_eq]
  iintro ⟨⟨Hg0, Hg1, Hg2, Hg3, Hg4, Hl0, Hl1, Hl2, Hl3, Hl4⟩, Hlev, Hcr, -, HS⟩
  ihave Hc := (credits (F := F) c) $$ Hcr
  imodintro
  isplitl
  · unfold first share arg free pts
    rw [bigSep_arrays]
    isplitl [HS]; · iexact HS
    isplitl [Hc]; · iexact Hc
    isplitl [Hlev]; · iexact Hlev
    isplitl [Hg0 Hg1 Hg2 Hg3 Hg4]
    · isplitl [Hg0]; · iexact Hg0
      isplitl [Hg1]; · iexact Hg1
      isplitl [Hg2]; · iexact Hg2
      isplitl [Hg3] <;> iassumption
    simp only [View.set_whole]
    isplitl [Hl0]; · iexists (m ((c : Thread nD τ).loc main_v1_0)); iexact Hl0
    isplitl [Hl1]; · iexists (m ((c : Thread nD τ).loc main_v1_1)); iexact Hl1
    isplitl [Hl2]; · iexists (m ((c : Thread nD τ).loc main_v1_2)); iexact Hl2
    isplitl [Hl3]; · iexists (m ((c : Thread nD τ).loc main_v1_3)); iexact Hl3
    iexists (m ((c : Thread nD τ).loc main_v1_4)); iexact Hl4
  · iempintro

theorem enter_body (c : Dev nD) :
    iprop(first m c ∗ Pipeline.prefHeld Pipeline.Prefetch.none c (fun _ => fullShare.right) (fun k => k.elim0) ∗ Pipeline.scopedRest cfg0.spec c)
      ⊢ (dats m 0 c).Φ 0 := by
  show _ ⊢ first m c
  iintro ⟨H, -, -⟩
  iexact H

/-- What a device still holds after the region: its counters the launch reads, its arguments and what landed. -/
def left (c : Dev nD) : sProp 𝕄 := iprop(unscopedSems0 c ∗ done m c)

theorem leave (c : Dev nD) :
    (dats m 0 c).Φ (Fin.last cfg0.N) ⊢ iprop(left m c ∗ Pipeline.ownSems0 own c ∗ Pipeline.scopedRest cfg0.spec c) := by
  rw [scopedRest0_eq]
  show final m c ⊢ _
  unfold final left
  rw [← counters]
  iintro ⟨⟨Hu, Hos⟩, H⟩
  isplitl [Hu H]
  · isplitl [Hu] <;> iassumption
  isplitl [Hos]; · iexact Hos
  iempintro

theorem waits (c : Dev nD) : (levAts lab lev : sProp 𝕄) ⊢ Pipeline.cellsWaits cfgs (dats m) () 0 c :=
  Pipeline.cellsWaits_intro cfgs (dats m) () 0 c fun w => w.elim0

/-- What a device ends with. -/
def ends (c : Dev nD) (s : MemSt nD τ sig (Elt F)) : Prop :=
  ∀ i : Fin 5, s.mem ((half c i).view.loc (c : Thread nD τ)) = m ((half c i).view.loc (c : Thread nD τ))
    ∧ s.mem ((land i).view.loc (c : Thread nD τ)) = got m c i

omit [FloatOps F] in
theorem land_whole (c : Dev nD) (i : Fin 5) (f) : pts (F := F) c i f = ((land i).view.loc (c : Thread nD τ) ↦{fullShare} f) := by
  unfold pts; fin_cases i <;> exact congrArg (fun S => (_ ↦[S]{fullShare} f : sProp 𝕄)) (View.set_whole _)

theorem read_end (c : Dev nD) (s : Phys nD τ sig (Elt F)) :
    iprop(left m c ∗ emp ∗ SI s) ⊢ |={Set.univ}=> iprop(⌜ends m c s.mem ∧ ∀ sm : SemLoc sig, sm.isScoped .tc = false → s.mem.sem ((c.tc : Thread nD τ), sm) = 0⌝ ∗ (SI s : sProp 𝕄)) := by
  unfold left done arg
  rw [bigSep_arrays, bigSep_arrays]
  simp only [land_whole]
  iintro ⟨⟨Hu, ⟨Hg0, Hg1, Hg2, Hg3, Hg4⟩, Hl0, Hl1, Hl2, Hl3, Hl4⟩, -, HS⟩
  icombine HS Hg0 gives %hg0
  icombine HS Hg1 gives %hg1
  icombine HS Hg2 gives %hg2
  icombine HS Hg3 gives %hg3
  icombine HS Hg4 gives %hg4
  icombine HS Hl0 gives %hl0
  icombine HS Hl1 gives %hl1
  icombine HS Hl2 gives %hl2
  icombine HS Hl3 gives %hl3
  icombine HS Hl4 gives %hl4
  imod (Pipeline.unscopedSems0_read (X := unscopedSems0 c) (c := c) fupd_intro s) $$ [Hu HS] with ⟨%hz, HS⟩
  · isplitl [Hu] <;> iassumption
  imodintro
  isplitr
  · ipureintro
    exact ⟨fun
      | 0 => ⟨Buf.eq_of_forall_mem_univ hg0, Buf.eq_of_forall_mem_univ hl0⟩
      | 1 => ⟨Buf.eq_of_forall_mem_univ hg1, Buf.eq_of_forall_mem_univ hl1⟩
      | 2 => ⟨Buf.eq_of_forall_mem_univ hg2, Buf.eq_of_forall_mem_univ hl2⟩
      | 3 => ⟨Buf.eq_of_forall_mem_univ hg3, Buf.eq_of_forall_mem_univ hl3⟩
      | 4 => ⟨Buf.eq_of_forall_mem_univ hg4, Buf.eq_of_forall_mem_univ hl4⟩, hz⟩
  iexact HS

set_option maxRecDepth 8000 in
/-- Every weakly fair execution of the eight devices ends, each with its own gradients as they were, the sibling's halves
    landed and every semaphore at zero. -/
theorem runs : θ_run defs (onTc (τ := τ) (main (F := F))) ⟨m, fun _ => 0, ρ⟩ (fun r => (∀ c, ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) embL defs₀ vars m ρ main
    (hmain := fun _ => rfl)
    (hbody := body_obligation m) (hne := fun w => w.elim0) (harr := arr_whole0) (hstage := stage_whole0) (hshare := fun _ w => w.elim0)
    (hdistinct := winFacts0.arr_inj)
    (O₀ := owe₀) (howed₀ := fun _ => rfl) (howedN := fun _ => rfl)
    (L := lab) (lv := lev) (hL := fun g h => if_neg h) (hwaits := waits m)
    (G := dealt m) (G' := share m) (u₀ := launched)
    (hu₀ := by
      unfold launched
      iintro Hu
      ihave H := (ownU_pair _ _) $$ Hu
      icases H with ⟨HP, HX⟩
      imod (deal m) $$ HX with HG
      imodintro
      isplitl [HP] <;> iassumption)
    (hglob := all_open m)
    (hA := fun _ w => w.elim0) (hpf := fun _ k => k.elim0)
    (X := first m) (Y := left m) (Z := fun _ => iprop(emp))
    (hX := enter m ρ) (hin := enter_body m) (hout := leave m)
    (QY := fun c s => ends m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Cert.SwapFiveIdeal.Body
end
-- ==== Proof.SwapFive.Printed.lean ====
/-
  The frames of the exchange of five arrays. The program as printed and the one read over the reals are one text: one run serves both.
-/
module

public import proofs.«01_k».proof.Proof.SwapFive.Run
public import proofs.«01_k».proof.Proof.Gen.SwapFive.Launch
public import proofs.«01_k».proof.Defs

@[expose] public section
set_option maxRecDepth 65536
noncomputable section
namespace Cert.SwapFiveIdeal.Body
open Cert.SwapFiveIdeal Cert.SwapFiveIdeal.Gen
open Idealize.ShloMosaic Idealize.ShloMosaic.TcCoe Idealize.SL.Sem

/-- The two programs' body tables are the same. -/
theorem table_eq : (Cert.SwapFive.defs₀ (F := Bits) : Defs nD τ sig (Elt Bits) Λ₀) = defs₀ (F := Bits) := by
  unfold Cert.SwapFive.defs₀ defs₀
  refine congrArg Defs.onTc (funext fun (l : Fin 1) => ?_)
  obtain rfl : l = 0 := Subsingleton.elim _ _
  exact funext fun p => rfl

theorem defs_eq : (Cert.SwapFive.defs (F := Bits) : Defs nD τ sig (Elt Bits) (Pipeline.Sig Λ₀ (Fin 1) fun p => (pcfgs (F := Bits) p).Adm)) = defs (F := Bits) :=
  congrArg (Pipeline.defs (pcfgs (F := Bits))) table_eq

/-- The five arguments are as they were. -/
theorem ends_args {F : FTy → Type} [FloatOps F] {m : (ℓ : Loc nD τ sig) → Buf (Elt F) ℓ} {c : Dev nD} {s : MemSt nD τ sig (Elt F)} (h : ends m c s) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4) :=
  ⟨(h 0).1, (h 1).1, (h 2).1, (h 3).1, (h 4).1⟩

theorem frame_ideal : Cert.quiescent_SwapFiveIdeal := fun m g _ =>
  (θ_run _ _ _).mono (fun _ h => ⟨fun c => ends_args (h.1 c), h.2⟩) (runs (F := Ideal) m g)

/-- The frame of the program as printed, which is the same text. -/
theorem frame_printed : Cert.quiescent_SwapFive := fun m g _ => by
  have h := (θ_run _ _ _).mono (fun (r : PUnit × MemSt nD τ sig (Elt Bits)) (h : (∀ c, ends m c r.2) ∧ r.2.sem = fun _ => 0) =>
    (⟨fun c => ends_args (h.1 c), h.2⟩ : (∀ c, _) ∧ _)) (runs (F := Bits) m g)
  rw [← defs_eq] at h
  exact h

end Cert.SwapFiveIdeal.Body
end
-- ==== Proof.Pieces.lean ====
/-
  What the modules about the convolutions share: a matrix read at two numbers, and the stores of a counted loop.
-/
module

public import Idealize.ShloMosaic.Lib.Pipeline.ValueKit
public import Idealize.ShloMosaic.Lib.Pointwise

@[expose] public section

noncomputable section

namespace Cert.Pieces

open Idealize.ShloMosaic

/-- A matrix read at two numbers: zero outside. -/
def at2 {m n : ℕ} (X : (⟨2, ![m, n]⟩ : Shape).Idx → EReal) (a b : ℕ) : EReal :=
  if h : a < m ∧ b < n then X (ix2 ⟨a, h.1⟩ ⟨b, h.2⟩) else 0

theorem at2_ix2 {m n : ℕ} (X : (⟨2, ![m, n]⟩ : Shape).Idx → EReal) (a : Fin m) (b : Fin n) : X (ix2 a b) = at2 X a.val b.val := by
  unfold at2; rw [dif_pos ⟨a.isLt, b.isLt⟩]

theorem at2_of_lt {m n : ℕ} (X : (⟨2, ![m, n]⟩ : Shape).Idx → EReal) (a b : ℕ) (ha : a < m) (hb : b < n) : at2 X a b = X (ix2 ⟨a, ha⟩ ⟨b, hb⟩) :=
  (at2_ix2 X ⟨a, ha⟩ ⟨b, hb⟩).symm

theorem apply_at2 {m n : ℕ} (X : (⟨2, ![m, n]⟩ : Shape).Idx → EReal) (y : (⟨2, ![m, n]⟩ : Shape).Idx) : X y = at2 X (y 0).val (y 1).val :=
  (congrArg X (eq_ix2 y)).trans (at2_ix2 X _ _)

/-- A matrix given at every index, read at two numbers. -/
theorem at2_eq {m n : ℕ} {X : (⟨2, ![m, n]⟩ : Shape).Idx → EReal} {f : ℕ → ℕ → EReal} (h : ∀ y, X y = f (y 0).val (y 1).val) {a b : ℕ} (ha : a < m) (hb : b < n) :
    at2 X a b = f a b :=
  (at2_of_lt X a b ha hb).trans (h _)

theorem at2_of_le {m n : ℕ} (X : (⟨2, ![m, n]⟩ : Shape).Idx → EReal) (a b : ℕ) (ha : m ≤ a) : at2 X a b = 0 :=
  dif_neg fun h => absurd h.1 (Nat.not_lt.mpr ha)

/-- A block of a wider matrix's columns, read at two numbers. -/
theorem at2_cols {m n N : ℕ} {X : (⟨2, ![m, n]⟩ : Shape).Idx → EReal} {Z : (⟨2, ![m, N]⟩ : Shape).Idx → EReal} {o : ℕ}
    (h : ∀ (r : Fin m) (l : Fin n), X (ix2 r l) = at2 Z r.val (o + l.val)) (a : ℕ) {b : ℕ} (hb : b < n) : at2 X a b = at2 Z a (o + b) := by
  by_cases ha : a < m
  · exact (at2_of_lt X a b ha hb).trans (h _ _)
  · rw [at2_of_le X a b (by omega), at2_of_le Z a _ (by omega)]

/-- An index among a band of whole rows. -/
theorem mem_rows {m n o k : ℕ} {inb} (y : (⟨2, ![m, n]⟩ : Shape).Idx) (h1 : o ≤ (y 0).val) (h2 : (y 0).val < o + k) :
    y ∈ (Rect.unit (s := ⟨2, ![m, n]⟩) ![o, 0] ![k, n] inb).set :=
  Rect.mem_set_unit.mpr fun a => by
    fin_cases a
    · exact ⟨h1, h2⟩
    · exact ⟨Nat.zero_le _, (Nat.zero_add n).symm ▸ (y 1).isLt⟩

/-- Of a row of one-hot factors the one at `q` is left. -/
theorem sum_pick {n : ℕ} (f : ℕ → EReal) (q : ℕ) : ∑ t : Fin n, (if t.val = q then f t.val else 0) = if q < n then f q else 0 := by
  by_cases h : q < n
  · rw [if_pos h, Finset.sum_eq_single (⟨q, h⟩ : Fin n) (fun t _ ht => if_neg fun e => ht (Fin.ext e)) fun hn => absurd (Finset.mem_univ _) hn]
    exact if_pos rfl
  · rw [if_neg h]
    exact Finset.sum_eq_zero fun t _ => if_neg fun e => h (lt_of_eq_of_lt e.symm t.isLt)

/-- Chunks of equal length are the whole range. -/
theorem sum_chunks (f : ℕ → EReal) (m : ℕ) : ∀ n, ∑ k ∈ Finset.range n, ∑ r : Fin m, f (m * k + r.val) = ∑ t ∈ Finset.range (m * n), f t
  | 0 => by simp
  | n + 1 => by
    rw [Finset.sum_range_succ, sum_chunks f m n, Nat.mul_succ, Finset.sum_range_add]
    exact congrArg₂ (· + ·) rfl (Fin.sum_univ_eq_sum_range (fun r => f (m * n + r)) m)

/-- Where a rectangle places an index. -/
theorem emb_val {s : Shape} (r : Rect s) (x : r.shape.Idx) (a : Fin s.rank) : (r.emb x a).val = r.off a + r.stride a * (x a).val := rfl

/-- Where the first stores cover an index, what came before them is not seen. -/
theorem canon_left {Val : EltTy → Type} [∀ e, Nonempty (Val e)] {S : Shape} {e : EltTy} (L L' : List (View.Piece Val S e)) (y : S.Idx)
    (h : ∃ p ∈ L, y ∈ p.1.set) : View.canon (L ++ L') y = View.canon L y := by
  induction L with
  | nil => obtain ⟨p, hp, _⟩ := h; exact absurd hp List.not_mem_nil
  | cons p L ih =>
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      obtain ⟨q, hq, hyq⟩ := h
      rcases List.mem_cons.mp hq with rfl | hq'
      · exact absurd hyq hm
      · exact ih ⟨q, hq', hyq⟩

/-- A load of a rectangle, at an index. -/
theorem ld_at {Val : EltTy → Type} {e : EltTy} {m n a b o p : ℕ} (A : (⟨2, ![m, n]⟩ : Shape).Idx → Val e) (inb) (x0 : Fin a) (x1 : Fin b)
    (y : (⟨2, ![m, n]⟩ : Shape).Idx) (h0 : (y 0).val = o + x0.val) (h1 : (y 1).val = p + x1.val) :
    View.ld A (Rect.unit (s := ⟨2, ![m, n]⟩) ![o, p] ![a, b] inb) (ix2 x0 x1) = A y := by
  refine congrArg A (funext fun k => Fin.ext ?_)
  show _ + 1 * _ = _
  match k with
  | 0 => show o + 1 * x0.val = _; omega
  | 1 => show p + 1 * x1.val = _; omega

/-- The logistic function, written with the exponential. -/
def sg (x : EReal) : EReal := Ideal.div 1 (1 + Ideal.exp (0 - x))

section Loop

variable {α : Type*} {N : ℕ} (L : ℕ → List α) (T : Fin N → List α)

/-- What holds of every trip's stores holds of all the stores before trip `n`. -/
theorem forall_trips (h0 : L 0 = []) (hs : ∀ k : Fin N, L (k.val + 1) = T k ++ L k.val) (P : α → Prop) (hP : ∀ k, ∀ p ∈ T k, P p) :
    ∀ n ≤ N, ∀ p ∈ L n, P p
  | 0, _, p, hp => by rw [h0] at hp; exact absurd hp List.not_mem_nil
  | n + 1, hn, p, hp => by
    rw [hs ⟨n, hn⟩, List.mem_append] at hp
    rcases hp with hp | hp
    · exact hP _ p hp
    · exact forall_trips h0 hs P hP n (Nat.le_of_lt hn) p hp

/-- A trip's stores are among the stores before any later trip. -/
theorem mem_trips (hs : ∀ k : Fin N, L (k.val + 1) = T k ++ L k.val) (k : Fin N) (p : α) (hp : p ∈ T k) :
    ∀ n ≤ N, k.val < n → p ∈ L n
  | 0, _, h => absurd h (Nat.not_lt_zero _)
  | n + 1, hn, h => by
    rw [hs ⟨n, hn⟩, List.mem_append]
    by_cases e : k.val = n
    · obtain rfl : k = ⟨n, hn⟩ := Fin.ext e
      exact .inl hp
    · exact .inr (mem_trips hs k p hp n (Nat.le_of_lt hn) (by omega))

end Loop

end Cert.Pieces

end
-- ==== Proof.Conformer.Loops.lean ====
/-
  What the two counted loops of the convolution's backward body store, read at an index.
-/
module

public import proofs.«01_k».proof.Proof.Gen.ConformerBwdIdeal.Value
public import proofs.«01_k».proof.Proof.Pieces

@[expose] public section

set_option maxRecDepth 16384

noncomputable section

namespace Cert.ConformerBwdIdeal.Value

open Cert.ConformerBwdIdeal Cert.ConformerBwdIdeal.Gen Cert.Pieces
open Idealize.ShloMosaic Idealize.ShloMosaic.TcCoe Idealize.SL.Sem

/-- One position of the convolution's transpose: thirty-one later cotangents, each times its tap. -/
def conv (dp : FVec Ideal S4128x128 .f32) (w : FVec Ideal S31x128 .f32) (r l : ℕ) : EReal :=
  ∑ j ∈ Finset.range 31, at2 dp (r + j) l * at2 w (30 - j) l

/-- The value's gradient at a position. -/
def dvAt (g : FVec Ideal S4096x128 .f32) (w : FVec Ideal S31x128 .f32) (dp : FVec Ideal S4128x128 .f32) (r l : ℕ) : EReal :=
  conv dp w r l * sg (at2 g r l)

/-- The gate's gradient at a position. -/
def dgAt (v g : FVec Ideal S4096x128 .f32) (w : FVec Ideal S31x128 .f32) (dp : FVec Ideal S4128x128 .f32) (r l : ℕ) : EReal :=
  conv dp w r l * at2 v r l * sg (at2 g r l) * (1 - sg (at2 g r l))

/-- What one trip adds to a tap's gradient: 256 cotangents, each times the input that the tap read there. -/
def dwTrip (d : FVec Ideal S4096x128 .f32) (xp : FVec Ideal S4128x128 .f32) (k t l : ℕ) : EReal :=
  ∑ r : Fin 256, at2 d (256 * k + r.val) l * at2 xp (256 * k + r.val + 2 + t) l

variable (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S31x128 .f32) (harg3 : arg3.IsWhole) (arg4 : Memref sig .tc .vmem S4096x128 .f32) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S4128x128 .f32) (harg9 : arg9.IsWhole) (arg10 : Memref sig .tc .vmem S4128x128 .f32) (harg10 : arg10.IsWhole)
variable (X_arg1 : BufTy.Contents (Elt Ideal) arg1.view.ty) (X_arg2 : BufTy.Contents (Elt Ideal) arg2.view.ty) (X_arg3 : BufTy.Contents (Elt Ideal) arg3.view.ty) (X_arg10 : BufTy.Contents (Elt Ideal) arg10.view.ty)

set_option maxHeartbeats 1600000 in
/-- The second loop's store into the value's gradient. -/
theorem trip2_dv (k : Fin k0_t2_loop.trips) : ∀ p ∈ (trip_k0_t2 (F := Ideal) 𝒱 c bd i arg1 harg1 arg2 harg2 arg3 harg3 arg4 harg4 arg5 harg5 arg6 harg6 arg7 harg7 arg8 harg8 arg9 harg9 arg10 harg10 X_arg1 X_arg2 X_arg3 X_arg10 k).1,
    ∀ x : p.1.shape.Idx, p.2 x = dvAt (arg2.view.read (Elt Ideal) X_arg2) (arg3.view.read (Elt Ideal) X_arg3) (arg10.view.read (Elt Ideal) X_arg10) (p.1.emb x 0).val (p.1.emb x 1).val := by
  unfold trip_k0_t2
  dsimp only
  intro p hp x
  rw [List.mem_singleton] at hp
  subst hp
  revert x
  refine fun (x : S256x128.Idx) => ?_
  unfold trip_k0_t2.sl.r_12 trip_k0_t2.sl.r_8 trip_k0_t2.sl.r_7 trip_k0_t2.sl.r_6 trip_k0_t2.sl.r_5 trip_k0_t2.sl.r_4 trip_k0_t2.sl.r_3 trip_k0_t2.sl.r_2 trip_k0_t2.sl.r_1 trip_k0_t2.sl.r
  idx_vars x
  show _ = dvAt _ _ _ (k0_off4 k 0 + 1 * x0.val) (k0_off4 k 1 + 1 * x1.val)
  simp only [View.readAt_eq_ld]
  pointwise [k0_off3_eq, k0_off4_eq, k0_pay4, k0_pay51, k0_pay50, k0_pay49, k0_pay48, k0_pay47, k0_pay46, k0_pay45, k0_pay44, k0_pay43, k0_pay42, k0_pay41]
  have hx := x0.isLt
  have e (n : ℕ) (h1 : 257 < n) (h2 : n ≤ 288) : 256 * k.val + (x0.val + 288 - n) % 288 = 256 * k.val + x0.val + (288 - n) := by omega
  simp (disch := omega) only [at2_ix2, dvAt, sg, conv, e, Finset.sum_range_succ, Finset.sum_range_zero, Nat.reduceSub, Nat.reduceMod, Fin.isValue, Fin.coe_ofNat_eq_mod, zero_add, Nat.add_zero, Nat.zero_add, Nat.one_mul, Fin.val_zero]

set_option maxHeartbeats 1600000 in
/-- The second loop's store into the gate's gradient. -/
theorem trip2_dg (k : Fin k0_t2_loop.trips) : ∀ p ∈ (trip_k0_t2 (F := Ideal) 𝒱 c bd i arg1 harg1 arg2 harg2 arg3 harg3 arg4 harg4 arg5 harg5 arg6 harg6 arg7 harg7 arg8 harg8 arg9 harg9 arg10 harg10 X_arg1 X_arg2 X_arg3 X_arg10 k).2.1,
    ∀ x : p.1.shape.Idx, p.2 x = dgAt (arg1.view.read (Elt Ideal) X_arg1) (arg2.view.read (Elt Ideal) X_arg2) (arg3.view.read (Elt Ideal) X_arg3) (arg10.view.read (Elt Ideal) X_arg10) (p.1.emb x 0).val (p.1.emb x 1).val := by
  unfold trip_k0_t2
  dsimp only
  intro p hp x
  rw [List.mem_singleton] at hp
  subst hp
  revert x
  refine fun (x : S256x128.Idx) => ?_
  unfold trip_k0_t2.sl.r_9 trip_k0_t2.sl.r_10 trip_k0_t2.sl.r_11 trip_k0_t2.sl.r_8 trip_k0_t2.sl.r_7 trip_k0_t2.sl.r_6 trip_k0_t2.sl.r_5 trip_k0_t2.sl.r_4 trip_k0_t2.sl.r_3 trip_k0_t2.sl.r_2 trip_k0_t2.sl.r_1 trip_k0_t2.sl.r
  idx_vars x
  show _ = dgAt _ _ _ _ (k0_off4 k 0 + 1 * x0.val) (k0_off4 k 1 + 1 * x1.val)
  simp only [View.readAt_eq_ld]
  pointwise [k0_off3_eq, k0_off4_eq, k0_pay5, k0_pay51, k0_pay50, k0_pay49, k0_pay48, k0_pay47, k0_pay46, k0_pay45, k0_pay44, k0_pay43, k0_pay42, k0_pay41]
  have hx := x0.isLt
  have e (n : ℕ) (h1 : 257 < n) (h2 : n ≤ 288) : 256 * k.val + (x0.val + 288 - n) % 288 = 256 * k.val + x0.val + (288 - n) := by omega
  simp (disch := omega) only [at2_ix2, dgAt, sg, conv, e, Finset.sum_range_succ, Finset.sum_range_zero, Nat.reduceSub, Nat.reduceMod, Fin.isValue, Fin.coe_ofNat_eq_mod, zero_add, Nat.add_zero, Nat.zero_add, Nat.one_mul, Fin.val_zero]

/-- Where the second loop stores. -/
theorem trip2_at (k : Fin k0_t2_loop.trips) :
    (∃ p ∈ (trip_k0_t2 (F := Ideal) 𝒱 c bd i arg1 harg1 arg2 harg2 arg3 harg3 arg4 harg4 arg5 harg5 arg6 harg6 arg7 harg7 arg8 harg8 arg9 harg9 arg10 harg10 X_arg1 X_arg2 X_arg3 X_arg10 k).1,
      (∀ a, p.1.off a = k0_off4 k a) ∧ (∀ a, p.1.size a = (![256, 128] : Fin 2 → ℕ) a) ∧ ∀ a, p.1.stride a = 1) ∧
    ∃ p ∈ (trip_k0_t2 (F := Ideal) 𝒱 c bd i arg1 harg1 arg2 harg2 arg3 harg3 arg4 harg4 arg5 harg5 arg6 harg6 arg7 harg7 arg8 harg8 arg9 harg9 arg10 harg10 X_arg1 X_arg2 X_arg3 X_arg10 k).2.1,
      (∀ a, p.1.off a = k0_off4 k a) ∧ (∀ a, p.1.size a = (![256, 128] : Fin 2 → ℕ) a) ∧ ∀ a, p.1.stride a = 1 := by
  unfold trip_k0_t2
  dsimp only
  exact ⟨⟨_, List.mem_singleton_self _, fun _ => rfl, fun _ => rfl, fun _ => rfl⟩,
    ⟨_, List.mem_singleton_self _, fun _ => rfl, fun _ => rfl, fun _ => rfl⟩⟩

variable (X_arg4 : BufTy.Contents (Elt Ideal) arg4.view.ty) (X_arg9 : BufTy.Contents (Elt Ideal) arg9.view.ty)

set_option maxHeartbeats 1600000 in
/-- The first loop's stores: every tap's row takes what it held and the trip's sum. -/
theorem trip1_dw (k : Fin k0_t1_loop.trips) (f : BufTy.Contents (Elt Ideal) arg7.view.ty) : ∀ p ∈ (trip_k0_t1 (F := Ideal) 𝒱 c bd i arg1 harg1 arg2 harg2 arg3 harg3 arg4 harg4 arg5 harg5 arg6 harg6 arg7 harg7 arg8 harg8 arg9 harg9 arg10 harg10 X_arg4 X_arg9 k).1 f,
    ∀ x : p.1.shape.Idx, p.2 x = at2 (m := 31) (n := 128) (arg7.view.read (Elt Ideal) f) (p.1.emb x 0).val (p.1.emb x 1).val
      + dwTrip (arg4.view.read (Elt Ideal) X_arg4) (arg9.view.read (Elt Ideal) X_arg9) k.val (p.1.emb x 0).val (p.1.emb x 1).val := by
  unfold trip_k0_t1
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
  all_goals
    intro x
    rw [emb_val, emb_val]
    revert x
    refine fun (x : S1x128.Idx) => ?_
    idx_vars x
    obtain rfl : x0 = 0 := Subsingleton.elim _ _
    simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.v101, trip_k0_t1.sl.v110, trip_k0_t1.sl.v119, trip_k0_t1.sl.v128, trip_k0_t1.sl.v137, trip_k0_t1.sl.v146, trip_k0_t1.sl.v155, trip_k0_t1.sl.v164, trip_k0_t1.sl.v173, trip_k0_t1.sl.v182, trip_k0_t1.sl.v191, trip_k0_t1.sl.v200, trip_k0_t1.sl.v209, trip_k0_t1.sl.v218, trip_k0_t1.sl.v227, trip_k0_t1.sl.v236, trip_k0_t1.sl.v245, trip_k0_t1.sl.v254, trip_k0_t1.sl.v263, trip_k0_t1.sl.v272, trip_k0_t1.sl.v281, trip_k0_t1.sl.v290, trip_k0_t1.sl.v299, trip_k0_t1.sl.v308, trip_k0_t1.sl.v47, trip_k0_t1.sl.v56, trip_k0_t1.sl.v65, trip_k0_t1.sl.v74, trip_k0_t1.sl.v83, trip_k0_t1.sl.v92, View.readAt_eq_ld]
    pointwise [k0_off1_eq, k0_off2_eq, dwTrip, k0_pay2, k0_pay3, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
    simp only [at2_ix2]
    refine congrArg₂ (· + ·) rfl (Finset.sum_congr rfl fun r _ => ?_)
    refine congrArg₂ (· * ·) rfl (congrArg (fun a => at2 _ a _) ?_)
    have := r.isLt
    omega

end Cert.ConformerBwdIdeal.Value

end
-- ==== Proof.Conformer.Sweep.lean ====
/-
  The two counted loops of the convolution's backward body run to the end: what their output buffers hold.
-/
module

public import proofs.«01_k».proof.Proof.Conformer.Loops

@[expose] public section

set_option maxRecDepth 16384

noncomputable section

namespace Cert.ConformerBwdIdeal.Value

open Cert.ConformerBwdIdeal Cert.ConformerBwdIdeal.Gen Cert.Pieces
open Idealize.ShloMosaic Idealize.ShloMosaic.TcCoe Idealize.SL.Sem

variable (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S31x128 .f32) (harg3 : arg3.IsWhole) (arg4 : Memref sig .tc .vmem S4096x128 .f32) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S4128x128 .f32) (harg9 : arg9.IsWhole) (arg10 : Memref sig .tc .vmem S4128x128 .f32) (harg10 : arg10.IsWhole)
variable (X_arg1 : BufTy.Contents (Elt Ideal) arg1.view.ty) (X_arg2 : BufTy.Contents (Elt Ideal) arg2.view.ty) (X_arg3 : BufTy.Contents (Elt Ideal) arg3.view.ty) (X_arg10 : BufTy.Contents (Elt Ideal) arg10.view.ty)

/-- Sixteen blocks of 256 rows are all the rows. -/
theorem rows_cover {e : EltTy} (L : List (View.Piece (Elt Ideal) S4096x128 e))
    (h : ∀ k : Fin k0_t2_loop.trips, ∃ p ∈ L, (∀ a, p.1.off a = k0_off4 k a) ∧ (∀ a, p.1.size a = (![256, 128] : Fin 2 → ℕ) a) ∧ ∀ a, p.1.stride a = 1) :
    ∀ y, ∃ p ∈ L, y ∈ p.1.set := by
  refine View.cover_of_blocks L ![256, 128] (by decide) fun ix => ?_
  obtain ⟨p, hp, ho, hz, hs⟩ := h (Fin.cast (by decide) (ix 0))
  refine ⟨p, hp, fun a => ?_, hz, hs⟩
  rw [ho a, k0_off4_eq]
  fin_cases a
  · exact Nat.mul_comm _ _
  · have h1 : (ix 1).val = 0 := Nat.lt_one_iff.mp (ix 1).isLt
    show 0 = (ix 1).val * 128
    rw [h1]

/-- The value's gradient after the second loop. -/
theorem loop2_dv (f : BufTy.Contents (Elt Ideal) arg5.view.ty) (y : S4096x128.Idx) :
    arg5.view.read (Elt Ideal) (arg5.view.writes (Elt Ideal) f (pb_k0_t2 (F := Ideal) 𝒱 c bd i arg1 harg1 arg2 harg2 arg3 harg3 arg4 harg4 arg5 harg5 arg6 harg6 arg7 harg7 arg8 harg8 arg9 harg9 arg10 harg10 X_arg1 X_arg2 X_arg3 X_arg10 k0_t2_loop.trips).1) y
      = dvAt (arg2.view.read (Elt Ideal) X_arg2) (arg3.view.read (Elt Ideal) X_arg3) (arg10.view.read (Elt Ideal) X_arg10) (y 0).val (y 1).val := by
  let L (n : ℕ) := (pb_k0_t2 (F := Ideal) 𝒱 c bd i arg1 harg1 arg2 harg2 arg3 harg3 arg4 harg4 arg5 harg5 arg6 harg6 arg7 harg7 arg8 harg8 arg9 harg9 arg10 harg10 X_arg1 X_arg2 X_arg3 X_arg10 n).1
  let T (k : Fin k0_t2_loop.trips) := (tripL_k0_t2 (F := Ideal) 𝒱 c bd i arg1 harg1 arg2 harg2 arg3 harg3 arg4 harg4 arg5 harg5 arg6 harg6 arg7 harg7 arg8 harg8 arg9 harg9 arg10 harg10 X_arg1 X_arg2 X_arg3 X_arg10 k).1
  have hs (k : Fin k0_t2_loop.trips) : L (k.val + 1) = T k ++ L k.val := congrArg Prod.fst (pb_k0_t2_succ (F := Ideal) 𝒱 c bd i arg1 harg1 arg2 harg2 arg3 harg3 arg4 harg4 arg5 harg5 arg6 harg6 arg7 harg7 arg8 harg8 arg9 harg9 arg10 harg10 X_arg1 X_arg2 X_arg3 X_arg10 k)
  refine View.read_writes_apply_of_pieces _ f (fun y : S4096x128.Idx => dvAt _ _ _ (y 0).val (y 1).val) _
    (forall_trips L T rfl hs _ (trip2_dv 𝒱 c bd i arg1 harg1 arg2 harg2 arg3 harg3 arg4 harg4 arg5 harg5 arg6 harg6 arg7 harg7 arg8 harg8 arg9 harg9 arg10 harg10 X_arg1 X_arg2 X_arg3 X_arg10) _ le_rfl) y (rows_cover _ (fun k => ?_) y)
  obtain ⟨p, hp, h⟩ := (trip2_at 𝒱 c bd i arg1 harg1 arg2 harg2 arg3 harg3 arg4 harg4 arg5 harg5 arg6 harg6 arg7 harg7 arg8 harg8 arg9 harg9 arg10 harg10 X_arg1 X_arg2 X_arg3 X_arg10 k).1
  exact ⟨p, mem_trips L T hs k p hp _ le_rfl k.isLt, h⟩

/-- The gate's gradient after the second loop. -/
theorem loop2_dg (f : BufTy.Contents (Elt Ideal) arg6.view.ty) (y : S4096x128.Idx) :
    arg6.view.read (Elt Ideal) (arg6.view.writes (Elt Ideal) f (pb_k0_t2 (F := Ideal) 𝒱 c bd i arg1 harg1 arg2 harg2 arg3 harg3 arg4 harg4 arg5 harg5 arg6 harg6 arg7 harg7 arg8 harg8 arg9 harg9 arg10 harg10 X_arg1 X_arg2 X_arg3 X_arg10 k0_t2_loop.trips).2) y
      = dgAt (arg1.view.read (Elt Ideal) X_arg1) (arg2.view.read (Elt Ideal) X_arg2) (arg3.view.read (Elt Ideal) X_arg3) (arg10.view.read (Elt Ideal) X_arg10) (y 0).val (y 1).val := by
  let L (n : ℕ) := (pb_k0_t2 (F := Ideal) 𝒱 c bd i arg1 harg1 arg2 harg2 arg3 harg3 arg4 harg4 arg5 harg5 arg6 harg6 arg7 harg7 arg8 harg8 arg9 harg9 arg10 harg10 X_arg1 X_arg2 X_arg3 X_arg10 n).2
  let T (k : Fin k0_t2_loop.trips) := (tripL_k0_t2 (F := Ideal) 𝒱 c bd i arg1 harg1 arg2 harg2 arg3 harg3 arg4 harg4 arg5 harg5 arg6 harg6 arg7 harg7 arg8 harg8 arg9 harg9 arg10 harg10 X_arg1 X_arg2 X_arg3 X_arg10 k).2
  have hs (k : Fin k0_t2_loop.trips) : L (k.val + 1) = T k ++ L k.val := congrArg Prod.snd (pb_k0_t2_succ (F := Ideal) 𝒱 c bd i arg1 harg1 arg2 harg2 arg3 harg3 arg4 harg4 arg5 harg5 arg6 harg6 arg7 harg7 arg8 harg8 arg9 harg9 arg10 harg10 X_arg1 X_arg2 X_arg3 X_arg10 k)
  refine View.read_writes_apply_of_pieces _ f (fun y : S4096x128.Idx => dgAt _ _ _ _ (y 0).val (y 1).val) _
    (forall_trips L T rfl hs _ (trip2_dg 𝒱 c bd i arg1 harg1 arg2 harg2 arg3 harg3 arg4 harg4 arg5 harg5 arg6 harg6 arg7 harg7 arg8 harg8 arg9 harg9 arg10 harg10 X_arg1 X_arg2 X_arg3 X_arg10) _ le_rfl) y (rows_cover _ (fun k => ?_) y)
  obtain ⟨p, hp, h⟩ := (trip2_at 𝒱 c bd i arg1 harg1 arg2 harg2 arg3 harg3 arg4 harg4 arg5 harg5 arg6 harg6 arg7 harg7 arg8 harg8 arg9 harg9 arg10 harg10 X_arg1 X_arg2 X_arg3 X_arg10 k).2
  exact ⟨p, mem_trips L T hs k p hp _ le_rfl k.isLt, h⟩

variable (X_arg4 : BufTy.Contents (Elt Ideal) arg4.view.ty) (X_arg9 : BufTy.Contents (Elt Ideal) arg9.view.ty)

set_option maxHeartbeats 1000000 in
/-- One trip of the first loop stores every tap's row. -/
theorem trip1_cover (k : Fin k0_t1_loop.trips) (f : BufTy.Contents (Elt Ideal) arg7.view.ty) (y : S31x128.Idx) :
    ∃ p ∈ tripL_k0_t1 (F := Ideal) 𝒱 c bd i arg1 harg1 arg2 harg2 arg3 harg3 arg4 harg4 arg5 harg5 arg6 harg6 arg7 harg7 arg8 harg8 arg9 harg9 arg10 harg10 X_arg4 X_arg9 k f, y ∈ p.1.set := by
  unfold tripL_k0_t1 trip_k0_t1
  dsimp only
  exact View.cover_of_tiled _ ![1, 128] rfl y

/-- The taps' gradients before trip `n` of the first loop. -/
theorem loop1_dw (f : BufTy.Contents (Elt Ideal) arg7.view.ty) : ∀ n ≤ k0_t1_loop.trips, ∀ y : S31x128.Idx,
    arg7.view.read (Elt Ideal) (arg7.view.writes (Elt Ideal) f (pb_k0_t1 (F := Ideal) 𝒱 c bd i arg1 harg1 arg2 harg2 arg3 harg3 arg4 harg4 arg5 harg5 arg6 harg6 arg7 harg7 arg8 harg8 arg9 harg9 arg10 harg10 X_arg4 X_arg9 f n)) y
      = at2 (m := 31) (n := 128) (arg7.view.read (Elt Ideal) f) (y 0).val (y 1).val
        + ∑ k ∈ Finset.range n, dwTrip (arg4.view.read (Elt Ideal) X_arg4) (arg9.view.read (Elt Ideal) X_arg9) k (y 0).val (y 1).val
  | 0, _, y => by
    rw [Finset.sum_range_zero, add_zero]
    exact (apply_at2 _ y)
  | n + 1, hn, y => by
    rw [pb_k0_t1_succ 𝒱 c bd i arg1 harg1 arg2 harg2 arg3 harg3 arg4 harg4 arg5 harg5 arg6 harg6 arg7 harg7 arg8 harg8 arg9 harg9 arg10 harg10 X_arg4 X_arg9 f ⟨n, hn⟩, View.writes_append]
    refine (View.read_writes_apply_of_pieces _ _ (fun y : S31x128.Idx => at2 (m := 31) (n := 128) (arg7.view.read (Elt Ideal) (arg7.view.writes (Elt Ideal) f (pb_k0_t1 (F := Ideal) 𝒱 c bd i arg1 harg1 arg2 harg2 arg3 harg3 arg4 harg4 arg5 harg5 arg6 harg6 arg7 harg7 arg8 harg8 arg9 harg9 arg10 harg10 X_arg4 X_arg9 f n))) (y 0).val (y 1).val
      + dwTrip (arg4.view.read (Elt Ideal) X_arg4) (arg9.view.read (Elt Ideal) X_arg9) n (y 0).val (y 1).val) _
      (trip1_dw 𝒱 c bd i arg1 harg1 arg2 harg2 arg3 harg3 arg4 harg4 arg5 harg5 arg6 harg6 arg7 harg7 arg8 harg8 arg9 harg9 arg10 harg10 X_arg4 X_arg9 ⟨n, hn⟩ _) y (trip1_cover 𝒱 c bd i arg1 harg1 arg2 harg2 arg3 harg3 arg4 harg4 arg5 harg5 arg6 harg6 arg7 harg7 arg8 harg8 arg9 harg9 arg10 harg10 X_arg4 X_arg9 ⟨n, hn⟩ _ y)).trans ?_
    rw [Finset.sum_range_succ, ← add_assoc]
    refine congrArg₂ (· + ·) ?_ rfl
    exact (apply_at2 _ y).symm.trans (loop1_dw f n (Nat.le_of_lt hn) y)

end Cert.ConformerBwdIdeal.Value

end
-- ==== Proof.Conformer.Value.lean ====
module

public import proofs.«01_k».proof.Proof.Conformer.Sweep
public import proofs.«01_k».proof.Proof.Gen.ConformerGradIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.ConformerGradIdeal.Run

@[expose] public section

set_option maxRecDepth 16384

noncomputable section

namespace Cert.ConformerBwdIdeal.Value

open Cert.ConformerBwdIdeal Cert.ConformerBwdIdeal.Gen Cert.Pieces Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 12 + t.val] ∧ win0_1.index t = ![0, 16 + t.val] ∧ win0_2.index t = ![0, t.val] ∧ win0_3.index t = ![0, t.val]
    ∧ win0_4.index t = ![0, t.val] ∧ win0_5.index t = ![0, t.val] ∧ win0_6.index t = ![0, t.val] ∧ win0_7.index t = ![0, t.val] := (by decide +kernel : ∀ t : Fin grid0.N, _)

/-- The padded cotangent: the block, then rows of zeros. -/
theorem dp_read (d : FVec Ideal S4096x128 .f32) (y : S4128x128.Idx) :
    View.read (Elt Ideal) scM0_1.view ((View.whole cc0_scratch1).writes (Elt Ideal) (View.whole cc0_scratch1).junk
      [⟨Rect.unit ![4096, 0] ![32, 128] inb_S4128x128_S32x128_4096_0, k0_pay55 (F := Ideal)⟩,
        ⟨Rect.unit ![0, 0] ![4096, 128] inb_S4128x128_S4096x128_0_0, k0_pay54 (F := Ideal) d⟩]) y
      = at2 d (y 0).val (y 1).val := by
  refine View.read_writes_apply_of_pieces (Val := Elt Ideal) scM0_1.view _ (fun y : S4128x128.Idx => at2 d (y 0).val (y 1).val) _ ?_ y ?_
  · simp only [List.forall_mem_cons]
    refine ⟨?_, ?_, fun p hp => absurd hp List.not_mem_nil⟩ <;> intro x <;> rw [emb_val, emb_val] <;> revert x
    · refine fun (x : S32x128.Idx) => ?_
      idx_vars x
      pointwise [k0_pay55]
      exact (at2_of_le d _ _ (Nat.le_add_right _ _)).symm
    · refine fun (x : S4096x128.Idx) => ?_
      idx_vars x
      pointwise [k0_pay54]
      exact at2_ix2 d _ _
  · by_cases h : (y 0).val < 4096
    · exact ⟨_, List.mem_cons_of_mem _ List.mem_cons_self, mem_rows (inb := inb_S4128x128_S4096x128_0_0) y (Nat.zero_le _) (by omega)⟩
    · exact ⟨_, List.mem_cons_self, mem_rows (inb := inb_S4128x128_S32x128_4096_0) y (by omega) (by have : (y 0).val < 4128 := (y 0).isLt; omega)⟩

/-- The padded input of the convolution: thirty-two rows of zeros, then the gated value. -/
def xpAt (v g : ℕ → ℕ → EReal) (r l : ℕ) : EReal := if r < 32 then 0 else v (r - 32) l * sg (g (r - 32) l)

theorem xp_read (v g : FVec Ideal S4096x128 .f32) (y : S4128x128.Idx) :
    View.read (Elt Ideal) scM0_0.view ((View.whole cc0_scratch0).writes (Elt Ideal) (View.whole cc0_scratch0).junk
      [⟨Rect.unit ![32, 0] ![4096, 128] inb_S4128x128_S4096x128_32_0, k0_pay53 (F := Ideal) v g⟩,
        ⟨Rect.unit ![0, 0] ![32, 128] inb_S4128x128_S32x128_0_0, k0_pay52 (F := Ideal)⟩]) y
      = xpAt (at2 v) (at2 g) (y 0).val (y 1).val := by
  refine View.read_writes_apply_of_pieces (Val := Elt Ideal) scM0_0.view _ (fun y : S4128x128.Idx => xpAt (at2 v) (at2 g) (y 0).val (y 1).val) _ ?_ y ?_
  · simp only [List.forall_mem_cons]
    refine ⟨?_, ?_, fun p hp => absurd hp List.not_mem_nil⟩ <;> intro x <;> rw [emb_val, emb_val] <;> revert x
    · refine fun (x : S4096x128.Idx) => ?_
      idx_vars x
      pointwise [k0_pay53, xpAt, sg]
      simp only [at2_ix2]
    · refine fun (x : S32x128.Idx) => ?_
      idx_vars x
      pointwise [k0_pay52, xpAt]
  · by_cases h : (y 0).val < 32
    · exact ⟨_, List.mem_cons_of_mem _ List.mem_cons_self, mem_rows (inb := inb_S4128x128_S32x128_0_0) y (Nat.zero_le _) (by omega)⟩
    · exact ⟨_, List.mem_cons_self, mem_rows (inb := inb_S4128x128_S4096x128_32_0) y (by omega) (by have : (y 0).val < 4128 := (y 0).isLt; omega)⟩

theorem out4 (c : Dev nD) (t : Fin cfg0.N) (y : S4096x128.Idx) : (dats m 0 c).after 4 t y
    = (∑ j ∈ Finset.range 31, at2 (m := 4096) (n := 128) (iblk m c 3 t) ((y 0).val + j) (y 1).val * at2 (m := 31) (n := 128) (iblk m c 2 t) (30 - j) (y 1).val)
      * sg (at2 (m := 4096) (n := 128) (iblk m c 1 t) (y 0).val (y 1).val) := by
  rw [after0_4]; unfold outsAt0; frame_out
  refine (View.read_writes_junk_apply_eq_canon (ms0_4 t).view y _).symm.trans ((loop2_dv ..).trans ?_)
  rw [Memref.IsWhole.read_unread, Memref.IsWhole.read_unread]
  unfold dvAt conv
  refine congrArg₂ (· * ·) (Finset.sum_congr rfl fun j hj => ?_) rfl
  have hj := Finset.mem_range.mp hj
  have h0 : (y 0).val < 4096 := (y 0).isLt
  exact congrArg₂ (· * ·) (at2_eq (dp_read _) (by omega) (y 1).isLt) rfl

theorem out5 (c : Dev nD) (t : Fin cfg0.N) (y : S4096x128.Idx) : (dats m 0 c).after 5 t y
    = (∑ j ∈ Finset.range 31, at2 (m := 4096) (n := 128) (iblk m c 3 t) ((y 0).val + j) (y 1).val * at2 (m := 31) (n := 128) (iblk m c 2 t) (30 - j) (y 1).val)
      * at2 (m := 4096) (n := 128) (iblk m c 0 t) (y 0).val (y 1).val
      * sg (at2 (m := 4096) (n := 128) (iblk m c 1 t) (y 0).val (y 1).val) * (1 - sg (at2 (m := 4096) (n := 128) (iblk m c 1 t) (y 0).val (y 1).val)) := by
  rw [after0_5]; unfold outsAt0; frame_out
  refine (View.read_writes_junk_apply_eq_canon (ms0_5 t).view y _).symm.trans ((loop2_dg ..).trans ?_)
  rw [Memref.IsWhole.read_unread, Memref.IsWhole.read_unread, Memref.IsWhole.read_unread]
  unfold dgAt conv
  refine congrArg₂ (· * ·) (congrArg₂ (· * ·) (congrArg₂ (· * ·) (Finset.sum_congr rfl fun j hj => ?_) rfl) rfl) rfl
  have hj := Finset.mem_range.mp hj
  have h0 : (y 0).val < 4096 := (y 0).isLt
  exact congrArg₂ (· * ·) (at2_eq (dp_read _) (by omega) (y 1).isLt) rfl

theorem out6 (c : Dev nD) (t : Fin cfg0.N) (y : S31x128.Idx) : (dats m 0 c).after 6 t y
    = ∑ k ∈ Finset.range 16, ∑ r : Fin 256, at2 (m := 4096) (n := 128) (iblk m c 3 t) (256 * k + r.val) (y 1).val
      * xpAt (at2 (m := 4096) (n := 128) (iblk m c 0 t)) (at2 (m := 4096) (n := 128) (iblk m c 1 t)) (256 * k + r.val + 2 + (y 0).val) (y 1).val := by
  rw [after0_6]; unfold outsAt0; frame_out
  refine (View.read_writes_junk_apply_eq_canon (ms0_6 t).view y _).symm.trans ?_
  rw [View.writes_append]
  refine (loop1_dw _ _ _ _ _ _ _ _ _ _ _ _ _ _ _ _ _ _ _ _ _ _ _ _ _ _ _ _ le_rfl _).trans ?_
  rw [Memref.IsWhole.read_unread]
  refine (congrArg₂ (· + ·) (at2_eq (f := fun _ _ => 0) (fun z => ?_) (y 0).isLt (y 1).isLt) ?_).trans (zero_add _)
  · refine View.read_writes_apply_of_pieces (Val := Elt Ideal) (ms0_6 t).view _ (fun _ => 0) _ ?_ z ⟨_, List.mem_cons_self, mem_rows (inb := inb_S31x128_S31x128_0_0) z (Nat.zero_le _) ?_⟩
    · simp only [List.forall_mem_cons]
      refine ⟨fun x => ?_, fun p hp => absurd hp List.not_mem_nil⟩
      revert x
      refine fun (x : S31x128.Idx) => ?_
      idx_vars x
      pointwise [k0_pay56]
    · exact (Nat.zero_add 31).symm ▸ (z 0).isLt
  · refine Finset.sum_congr (congrArg Finset.range (by decide)) fun k hk => Finset.sum_congr rfl fun r _ => congrArg₂ (· * ·) rfl ?_
    have hk := Finset.mem_range.mp hk
    have h0 : (y 0).val < 31 := (y 0).isLt
    have hr := r.isLt
    have ht : k0_t1_loop.trips = 16 := by decide
    exact at2_eq (xp_read _ _) (by omega) (y 1).isLt

theorem out7 (c : Dev nD) (t : Fin cfg0.N) (y : S1x128.Idx) : (dats m 0 c).after 7 t y
    = (∑ r : Fin 4096, at2 (m := 4096) (n := 128) (iblk m c 3 t) r.val (y 1).val : EReal) := by
  rw [after0_7]; unfold outsAt0; frame_out
  idx_vars y
  obtain rfl : y0 = 0 := Subsingleton.elim _ _
  generalize iblk m c 3 t = d
  revert d
  intro (d : FVec Ideal S4096x128 .f32)
  pointwise [k0_pay1, k0_pay57]
  exact (Finset.sum_congr rfl fun r _ => at2_ix2 d r y1 : (∑ r : Fin 4096, d (ix2 r y1) : EReal) = ∑ r : Fin 4096, at2 d r.val y1.val)

/-! The blocks the points stage, as columns of the arrays. -/

theorem blk0 (c : Dev nD) (t : Fin cfg0.N) (a : ℕ) {b : ℕ} (hb : b < 128) : at2 (m := 4096) (n := 128) (iblk m c 0 t) a b
    = at2 (m := 4096) (n := 2560) (m ((c : Thread nD τ).loc main_arg0)) a (128 * (12 + t.val) + b) := by
  refine at2_cols (fun r l => ?_) a hb
  have ht : t.val < 4 := t.isLt
  rw [at2_of_lt _ _ _ r.isLt (by have := l.isLt; omega)]
  blk_point [iblk, V, idx t]

theorem blk1 (c : Dev nD) (t : Fin cfg0.N) (a : ℕ) {b : ℕ} (hb : b < 128) : at2 (m := 4096) (n := 128) (iblk m c 1 t) a b
    = at2 (m := 4096) (n := 2560) (m ((c : Thread nD τ).loc main_arg0)) a (128 * (16 + t.val) + b) := by
  refine at2_cols (fun r l => ?_) a hb
  have ht : t.val < 4 := t.isLt
  rw [at2_of_lt _ _ _ r.isLt (by have := l.isLt; omega)]
  blk_point [iblk, V, idx t]

theorem blk2 (c : Dev nD) (t : Fin cfg0.N) (a : ℕ) {b : ℕ} (hb : b < 128) : at2 (m := 31) (n := 128) (iblk m c 2 t) a b
    = at2 (m := 31) (n := 512) (m ((c : Thread nD τ).loc main_arg1)) a (128 * t.val + b) := by
  refine at2_cols (fun r l => ?_) a hb
  have ht : t.val < 4 := t.isLt
  rw [at2_of_lt _ _ _ r.isLt (by have := l.isLt; omega)]
  blk_point [iblk, V, idx t]

theorem blk3 (c : Dev nD) (t : Fin cfg0.N) (a : ℕ) {b : ℕ} (hb : b < 128) : at2 (m := 4096) (n := 128) (iblk m c 3 t) a b
    = at2 (m := 4096) (n := 512) (m ((c : Thread nD τ).loc main_arg2)) a (128 * t.val + b) := by
  refine at2_cols (fun r l => ?_) a hb
  have ht : t.val < 4 := t.isLt
  rw [at2_of_lt _ _ _ r.isLt (by have := l.isLt; omega)]
  blk_point [iblk, V, idx t]

/-- The derivative of the causal convolution in its input, at a position. -/
def cvAt (d : FVec Ideal S4096x512 .f32) (w : FVec Ideal S31x512 .f32) (r l : ℕ) : EReal :=
  ∑ j ∈ Finset.range 31, at2 d (r + j) l * at2 w (30 - j) l

/-- The gate at a position. -/
def gate (z : FVec Ideal S4096x2560 .f32) (r l : ℕ) : EReal := sg (at2 z r (2048 + l))

/-- The convolution's padded input over the whole array. -/
def xin (z : FVec Ideal S4096x2560 .f32) (r l : ℕ) : EReal :=
  xpAt (fun r l => at2 z r (1536 + l)) (fun r l => at2 z r (2048 + l)) r l

/-- A tap's gradient, gathered in sixteen chunks of 256 rows. -/
def dwAt (z : FVec Ideal S4096x2560 .f32) (d : FVec Ideal S4096x512 .f32) (t l : ℕ) : EReal :=
  ∑ k ∈ Finset.range 16, ∑ r : Fin 256, at2 d (256 * k + r.val) l * xin z (256 * k + r.val + 2 + t) l

theorem col0 (t l : ℕ) : (12 + t) * 128 + l = 1536 + (t * 128 + l) := by omega
theorem col1 (t l : ℕ) : (16 + t) * 128 + l = 2048 + (t * 128 + l) := by omega
theorem col2 (t l : ℕ) : 128 * t + l = t * 128 + l := by omega

theorem final4 (c : Dev nD) : (dats m 0 c).arrAt 4 (cfgs 0).N
    = fun y : S4096x512.Idx => cvAt (m ((c : Thread nD τ).loc main_arg2)) (m ((c : Thread nD τ).loc main_arg1)) (y 0).val (y 1).val
      * gate (m ((c : Thread nD τ).loc main_arg0)) (y 0).val (y 1).val := by
  refine (dats m 0 c).arrAt_eq_of_covers 4 _ (by decide +kernel) fun t _ y => ?_
  blk_simp
  rw [out4]
  have ht : t.val < 4 := t.isLt
  have hl : (y 1).val < 128 := (y 1).isLt
  obtain ⟨-, -, -, -, h4, h5, h6, h7⟩ := idx t
  rw [h4]
  show _ = cvAt _ _ (0 * 4096 + (y 0).val) (t.val * 128 + (y 1).val) * gate _ (0 * 4096 + (y 0).val) (t.val * 128 + (y 1).val)
  simp only [blk1 m c t _ hl, blk2 m c t _ hl, blk3 m c t _ hl, cvAt, gate, Nat.zero_mul, Nat.zero_add, col1, col2]

theorem final5 (c : Dev nD) : (dats m 0 c).arrAt 5 (cfgs 0).N
    = fun y : S4096x512.Idx => cvAt (m ((c : Thread nD τ).loc main_arg2)) (m ((c : Thread nD τ).loc main_arg1)) (y 0).val (y 1).val
      * at2 (m := 4096) (n := 2560) (m ((c : Thread nD τ).loc main_arg0)) (y 0).val (1536 + (y 1).val)
      * gate (m ((c : Thread nD τ).loc main_arg0)) (y 0).val (y 1).val * (1 - gate (m ((c : Thread nD τ).loc main_arg0)) (y 0).val (y 1).val) := by
  refine (dats m 0 c).arrAt_eq_of_covers 5 _ (by decide +kernel) fun t _ y => ?_
  blk_simp
  rw [out5]
  have ht : t.val < 4 := t.isLt
  have hl : (y 1).val < 128 := (y 1).isLt
  obtain ⟨-, -, -, -, h4, h5, h6, h7⟩ := idx t
  rw [h5]
  show _ = cvAt _ _ (0 * 4096 + (y 0).val) (t.val * 128 + (y 1).val) * at2 _ (0 * 4096 + (y 0).val) (1536 + (t.val * 128 + (y 1).val))
    * gate _ (0 * 4096 + (y 0).val) (t.val * 128 + (y 1).val) * (1 - gate _ (0 * 4096 + (y 0).val) (t.val * 128 + (y 1).val))
  simp only [blk0 m c t _ hl, blk1 m c t _ hl, blk2 m c t _ hl, blk3 m c t _ hl, cvAt, gate, Nat.zero_mul, Nat.zero_add, col0, col1, col2]

theorem final6 (c : Dev nD) : (dats m 0 c).arrAt 6 (cfgs 0).N
    = fun y : S31x512.Idx => dwAt (m ((c : Thread nD τ).loc main_arg0)) (m ((c : Thread nD τ).loc main_arg2)) (y 0).val (y 1).val := by
  refine (dats m 0 c).arrAt_eq_of_covers 6 _ (by decide +kernel) fun t _ y => ?_
  blk_simp
  rw [out6]
  have ht : t.val < 4 := t.isLt
  have hl : (y 1).val < 128 := (y 1).isLt
  obtain ⟨-, -, -, -, h4, h5, h6, h7⟩ := idx t
  rw [h6]
  show _ = dwAt _ _ (0 * 31 + (y 0).val) (t.val * 128 + (y 1).val)
  simp only [blk0 m c t _ hl, blk1 m c t _ hl, blk3 m c t _ hl, dwAt, xin, xpAt, Nat.zero_mul, Nat.zero_add, col0, col1, col2]

theorem final7 (c : Dev nD) : (dats m 0 c).arrAt 7 (cfgs 0).N
    = fun y : S1x512.Idx => (∑ r : Fin 4096, at2 (m := 4096) (n := 512) (m ((c : Thread nD τ).loc main_arg2)) r.val (y 1).val : EReal) := by
  refine (dats m 0 c).arrAt_eq_of_covers 7 _ (by decide +kernel) fun t _ y => ?_
  blk_simp
  rw [out7]
  have ht : t.val < 4 := t.isLt
  have hl : (y 1).val < 128 := (y 1).isLt
  obtain ⟨-, -, -, -, h4, h5, h6, h7⟩ := idx t
  rw [h7]
  show _ = ∑ r : Fin 4096, at2 (m := 4096) (n := 512) _ r.val (t.val * 128 + (y 1).val)
  simp only [blk3 m c t _ hl, col2]

open Cert.ConformerGradIdeal.Read

/-- The reference's tap is one where the input's row is the tap's distance before the output's. -/
theorem tap_eq (r t k : ℕ) (hr : r < 4096) (ht : t < 4096) (hk : k < 31) :
    FloatOps.uitofp (F := Ideal) FTy.f32 (IntOp.cmpi CmpIPredicate.eq (BitVec.ofNat 32 r)
      (IntOp.addi (IntOp.subi (BitVec.ofNat 32 t) 30#32) (BitVec.ofNat 32 k))) = if r + 30 = t + k then 1 else 0 := by
  have e : (BitVec.ofNat 32 r = BitVec.ofNat 32 t - 30#32 + BitVec.ofNat 32 k) ↔ r + 30 = t + k := by
    rw [← BitVec.toNat_inj]
    simp only [BitVec.toNat_add, BitVec.toNat_sub, BitVec.toNat_ofNat]
    omega
  by_cases h : r + 30 = t + k
  · rw [if_pos h]
    have e' := e.mpr h
    simp only [IntOp.cmpi, IntOp.addi, IntOp.subi, ← e']
    rw [beq_self_eq_true]
    exact (congrArg _ (rfl : (BitVec.ofBool true).toNat = 1)).trans Nat.cast_one
  · rw [if_neg h]
    have e' := mt e.mp h
    simp only [IntOp.cmpi, IntOp.addi, IntOp.subi]
    rw [beq_false_of_ne e']
    exact (congrArg _ (rfl : (BitVec.ofBool false).toNat = 0)).trans Nat.cast_zero

/-- The reference's transpose of the convolution gathers the same products. -/
theorem conv_eq (d : FVec Ideal S4096x512 .f32) (w : FVec Ideal S31x512 .f32) (r : Fin 4096) (l : Fin 512) :
    ∑ k : Fin 31, ∑ t : Fin 4096, at2 d t.val l.val * at2 w k.val l.val * (if r.val + 30 = t.val + k.val then 1 else 0) = cvAt d w r.val l.val := by
  unfold cvAt
  rw [← Finset.sum_range_reflect]
  rw [← Fin.sum_univ_eq_sum_range (fun j => at2 d (r.val + (31 - 1 - j)) l.val * at2 w (30 - (31 - 1 - j)) l.val) 31]
  refine Finset.sum_congr rfl fun k _ => ?_
  have hk := k.isLt
  have e (t : Fin 4096) : at2 d t.val l.val * at2 w k.val l.val * (if r.val + 30 = t.val + k.val then 1 else 0)
      = if t.val = r.val + (30 - k.val) then at2 d t.val l.val * at2 w k.val l.val else 0 := by
    rw [mul_ite, mul_one, mul_zero]
    exact if_congr (by omega) rfl rfl
  rw [Finset.sum_congr rfl fun t _ => e t, sum_pick (fun t => at2 d t l.val * at2 w k.val l.val)]
  have e' : 30 - (31 - 1 - k.val) = k.val := by omega
  rw [e']
  by_cases h : r.val + (30 - k.val) < 4096
  · exact if_pos h
  · rw [if_neg h, at2_of_le d _ _ (by omega), zero_mul]

theorem pure_dv (z : FVec Ideal S4096x2560 .f32) (w : FVec Ideal S31x512 .f32) (d : FVec Ideal S4096x512 .f32) (r : Fin 4096) (l : Fin 512) :
    cvAt d w r.val l.val * gate z r.val l.val = val_main_v43 (F := Ideal) z w d (ix2 r l) := by
  rw [← val_main_v43_eq, ← conv_eq]
  pointwise []
  simp only [at2_ix2, gate, sg, zero_sub]
  exact congrArg₂ (· * ·) (Finset.sum_congr rfl fun k _ => Finset.sum_congr rfl fun t _ => congrArg₂ (· * ·) rfl (tap_eq _ _ _ r.isLt t.isLt k.isLt).symm) rfl

theorem pure_dg (z : FVec Ideal S4096x2560 .f32) (w : FVec Ideal S31x512 .f32) (d : FVec Ideal S4096x512 .f32) (r : Fin 4096) (l : Fin 512) :
    cvAt d w r.val l.val * at2 z r.val (1536 + l.val) * gate z r.val l.val * (1 - gate z r.val l.val) = val_main_v44 (F := Ideal) z w d (ix2 r l) := by
  rw [← val_main_v44_eq, ← conv_eq]
  pointwise []
  simp only [at2_ix2, gate, sg, zero_sub]
  rw [← mul_assoc, mul_comm (at2 z r.val (1536 + l.val))]
  exact congrArg₂ (· * ·) (congrArg₂ (· * ·) (congrArg₂ (· * ·) (Finset.sum_congr rfl fun k _ => Finset.sum_congr rfl fun t _ => congrArg₂ (· * ·) rfl (tap_eq _ _ _ r.isLt t.isLt k.isLt).symm) rfl) rfl) rfl

/-- The reference's sum over a tap's row finds the padded input. -/
theorem tap_sum (z : FVec Ideal S4096x2560 .f32) (t : Fin 4096) (k : Fin 31) (l : Fin 512) :
    ∑ s : Fin 4096, (if s.val + 30 = t.val + k.val then (1 : EReal) else 0) * (at2 z s.val (1536 + l.val) * sg (at2 z s.val (2048 + l.val))) = xin z (t.val + 2 + k.val) l.val := by
  have ht := t.isLt
  have hk := k.isLt
  have e (s : Fin 4096) : (if s.val + 30 = t.val + k.val then (1 : EReal) else 0) * (at2 z s.val (1536 + l.val) * sg (at2 z s.val (2048 + l.val)))
      = if s.val = t.val + k.val - 30 then (if t.val + k.val < 30 then 0 else at2 z s.val (1536 + l.val) * sg (at2 z s.val (2048 + l.val))) else 0 := by
    rw [ite_mul, one_mul, zero_mul]
    by_cases h : t.val + k.val < 30
    · rw [if_pos h, ite_self, if_neg (by omega)]
    · rw [if_neg h]
      exact if_congr (by omega) rfl rfl
  rw [Finset.sum_congr rfl fun s _ => e s,
    sum_pick (fun s => if t.val + k.val < 30 then 0 else at2 z s (1536 + l.val) * sg (at2 z s (2048 + l.val))), if_pos (by omega)]
  unfold xin xpAt
  have e2 : t.val + 2 + k.val - 32 = t.val + k.val - 30 := by omega
  rw [e2]
  exact if_congr (by omega) rfl rfl

theorem pure_dw (z : FVec Ideal S4096x2560 .f32) (d : FVec Ideal S4096x512 .f32) (r : Fin 31) (l : Fin 512) :
    dwAt z d r.val l.val = val_main_v37 (F := Ideal) z d (ix2 r l) := by
  rw [← val_main_v37_eq]
  pointwise []
  simp only [Finset.univ_unique, Finset.sum_singleton]
  unfold dwAt
  rw [sum_chunks (fun t => at2 d t l.val * xin z (t + 2 + r.val) l.val) 256 16, ← Fin.sum_univ_eq_sum_range]
  refine Finset.sum_congr rfl fun t _ => ?_
  rw [mul_comm]
  simp only [at2_ix2]
  refine congrArg₂ (· * ·) ((tap_sum z t r l).symm.trans (Finset.sum_congr rfl fun s _ => congrArg₂ (· * ·) (tap_eq _ _ _ s.isLt t.isLt r.isLt).symm ?_)) rfl
  rw [sg, zero_sub]

theorem pure_db (d : FVec Ideal S4096x512 .f32) (l : Fin 512) :
    ∑ r : Fin 4096, at2 d r.val l.val = val_main_v30 (F := Ideal) d (ix2 0 l) := by
  rw [← val_main_v30_eq]
  pointwise []
  exact Finset.sum_congr rfl fun r _ => (at2_ix2 d r l).symm

end Cert.ConformerBwdIdeal.Value

namespace Cert.Proof

open Idealize.ShloMosaic Idealize.SL.Sem

/-- The convolution module's backward call computes the derivative of the gated causal convolution: no precondition. -/
theorem algebraic_Conformer : Cert.algebraic_ConformerBwdIdeal_ConformerGradIdeal := by
  pair_intro
  · run_from Cert.ConformerBwdIdeal.Gen.run_main m g
  · refine (θ_run _ _ _).mono (fun r h c => ?_) (Cert.ConformerGradIdeal.Value.run m' g')
    obtain ⟨h0, h1, h2, h3, hargs⟩ := h c
    obtain ⟨e0, e1, e2⟩ := hagree c
    rw [Cert.ConformerGradIdeal.Read.val_main_v43_eq, e0, e1, e2] at h0
    rw [Cert.ConformerGradIdeal.Read.val_main_v44_eq, e0, e1, e2] at h1
    rw [Cert.ConformerGradIdeal.Read.val_main_v37_eq, e0, e2] at h2
    rw [Cert.ConformerGradIdeal.Read.val_main_v30_eq, e2] at h3
    refine ⟨h0.trans ?_, h1.trans ?_, h2.trans ?_, h3.trans ?_, hargs⟩
    · refine Eq.trans ?_ (Cert.ConformerBwdIdeal.Value.final4 m c).symm
      funext j; idx_vars j; exact (Cert.ConformerBwdIdeal.Value.pure_dv _ _ _ _ _).symm
    · refine Eq.trans ?_ (Cert.ConformerBwdIdeal.Value.final5 m c).symm
      funext j; idx_vars j; exact (Cert.ConformerBwdIdeal.Value.pure_dg _ _ _ _ _).symm
    · refine Eq.trans ?_ (Cert.ConformerBwdIdeal.Value.final6 m c).symm
      funext j; idx_vars j; exact (Cert.ConformerBwdIdeal.Value.pure_dw _ _ _ _).symm
    · refine Eq.trans ?_ (Cert.ConformerBwdIdeal.Value.final7 m c).symm
      funext j; idx_vars j; obtain rfl : j0 = 0 := Subsingleton.elim _ _
      exact (Cert.ConformerBwdIdeal.Value.pure_db _ _).symm

end Cert.Proof

end
-- ==== Proof.NormMath.lean ====
module

public import Idealize.ShloMosaic.Lib.IdealHost
public import Idealize.ShloMosaic.Lib.Pointwise

@[expose] public section

/-! Extended-real facts shared by the normalisation gradients: constants, positive factors of sums, and the
    gradient of the root-mean-square norm in its row form. -/

noncomputable section

namespace Cert.NormMath

open Idealize.ShloMosaic
open scoped BigOperators

/-- The row length 1024 as the reference's constant. -/
theorem c1024 : Ideal.ofBits .f32 0x44800000#32 = ((1024 : ℝ) : EReal) := by
  simp [Ideal.ofBits, Ideal.ieee, -EReal.coe_mul]; norm_num

/-- The factor −1/2 of the derivative of the reciprocal root. -/
theorem cNegHalf : Ideal.ofBits .f32 0xBF000000#32 = ((-(1 / 2) : ℝ) : EReal) := by
  simp [Ideal.ofBits, Ideal.ieee, -EReal.coe_mul, -EReal.coe_neg]; norm_num

/-- The norms' epsilon is a positive real. -/
theorem cEps : ∃ e : ℝ, 0 < e ∧ Ideal.ofBits .f32 0x358637BD#32 = (e : EReal) := by
  refine ⟨(8796093 : ℝ) * (2 : ℝ) ^ (-43 : ℤ), by positivity, ?_⟩
  simp [Ideal.ofBits, Ideal.ieee, -EReal.coe_mul]

/-- A nonnegative real factor comes out of a sum. -/
theorem sum_mul_real {n : ℕ} (f : Fin n → EReal) {s : ℝ} (hs : 0 ≤ s) : ∑ k, f k * (s : EReal) = (∑ k, f k) * (s : EReal) := by
  have h0 : (0 : EReal) ≤ (s : EReal) := by exact_mod_cast hs
  have key : ∀ t : Finset (Fin n), ∑ k ∈ t, f k * (s : EReal) = (∑ k ∈ t, f k) * (s : EReal) := by
    intro t
    induction t using Finset.cons_induction with
    | empty => simp
    | cons a t ha ih => rw [Finset.sum_cons, Finset.sum_cons, ih, EReal.right_distrib_of_nonneg_of_ne_top h0 (EReal.coe_ne_top s)]
  exact key _

/-- Twice a real multiple. -/
theorem mul_real_add_self (S : EReal) (c : ℝ) : S * (c : EReal) + S * (c : EReal) = S * ((2 * c : ℝ) : EReal) := by
  induction S with
  | coe x => norm_cast; ring
  | top =>
    rcases lt_trichotomy c 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy c 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- A sum of coerced reals is the coerced sum. -/
theorem coe_sum {ι : Type} (s : Finset ι) (f : ι → ℝ) : ∑ k ∈ s, (f k : EReal) = ((∑ k ∈ s, f k : ℝ) : EReal) := by
  classical
  induction s using Finset.cons_induction with
  | empty => simp
  | cons a t ha ih => rw [Finset.sum_cons, Finset.sum_cons, ih, EReal.coe_add]

/-- The row's mean square plus epsilon: infinite, or the row is real and it is a positive real. -/
theorem mean_sq_cases {n : ℕ} (X : Fin n → EReal) {N e : ℝ} (hN : 0 < N) (he : 0 < e) :
    Ideal.div (∑ k, X k * X k) (N : EReal) + (e : EReal) = ⊤ ∨
      ∃ (x : Fin n → ℝ) (ρ : ℝ), 0 < ρ ∧ (∀ k, X k = (x k : EReal)) ∧
        Ideal.div (∑ k, X k * X k) (N : EReal) + (e : EReal) = (ρ : EReal) := by
  have nn : ∀ a : EReal, 0 ≤ a * a := fun a => by
    rcases le_total 0 a with h | h
    · exact mul_nonneg h h
    · have := EReal.neg_nonneg.mpr h
      simpa using mul_nonneg this this
  by_cases hX : ∀ k, X k ≠ ⊤ ∧ X k ≠ ⊥
  · right
    refine ⟨fun k => (X k).toReal, (∑ k, (X k).toReal * (X k).toReal) * (1 / N) + e, ?_, fun k => (EReal.coe_toReal (hX k).1 (hX k).2).symm, ?_⟩
    · have : 0 ≤ ∑ k, (X k).toReal * (X k).toReal := Finset.sum_nonneg fun k _ => mul_self_nonneg _
      positivity
    · rw [Ideal.div_coe hN.ne']
      have : ∑ k, X k * X k = ((∑ k, (X k).toReal * (X k).toReal : ℝ) : EReal) := by
        rw [← coe_sum]
        exact Finset.sum_congr rfl fun k _ => by rw [EReal.coe_mul, EReal.coe_toReal (hX k).1 (hX k).2]
      rw [this, EReal.coe_add, EReal.coe_mul]
  · left
    obtain ⟨k0, hk⟩ := not_forall.mp hX
    have hsq : X k0 * X k0 = ⊤ := by
      rcases not_and_or.mp hk with h | h
      · rw [not_not.mp h]; rfl
      · rw [not_not.mp h]; rfl
    have htop : ∑ k, X k * X k = ⊤ := top_le_iff.mp (hsq ▸ Finset.single_le_sum (f := fun k => X k * X k) (fun k _ => nn _) (Finset.mem_univ k0))
    rw [htop, Ideal.div_coe hN.ne', EReal.top_mul_coe_of_pos (by positivity)]
    exact EReal.top_add_coe e

/-- The reciprocal root of a positive real, and its quotient by the real: the cube. -/
theorem rsqrt_pos {ρ : ℝ} (h : 0 < ρ) : ∃ s : ℝ, 0 < s ∧ s * s * ρ = 1 ∧ Ideal.rsqrt (ρ : EReal) = (s : EReal) ∧
    Ideal.div (s : EReal) (ρ : EReal) = ((s * s * s : ℝ) : EReal) := by
  have hs : 0 < Real.sqrt ρ := Real.sqrt_pos.mpr h
  have h1 : (Real.sqrt ρ)⁻¹ * (Real.sqrt ρ)⁻¹ * ρ = 1 := by
    rw [← mul_inv, Real.mul_self_sqrt h.le, inv_mul_cancel₀ h.ne']
  refine ⟨(Real.sqrt ρ)⁻¹, inv_pos.mpr hs, h1, ?_, ?_⟩
  · rw [Ideal.rsqrt_coe, if_neg (not_lt.mpr h.le), if_neg h.ne']
  · rw [Ideal.div_coe h.ne', ← EReal.coe_mul]
    congr 1
    rw [mul_assoc, mul_left_cancel_iff_of_pos (inv_pos.mpr hs)]
    field_simp
    rw [Real.sq_sqrt h.le]

/-- THE ROW GRADIENT OF THE ROOT-MEAN-SQUARE NORM. With `ms` the row's mean square plus epsilon, the closed form
    `r · (d − x · r · mean (d · x · r))` is the sum of the derivative's parts: through the product, and twice
    through the square under the root. -/
theorem rms_row {n : ℕ} (X D : Fin n → EReal) (N e ms : EReal) {N' e' : ℝ} (hN' : N = (N' : EReal)) (he' : e = (e' : EReal))
    (hN : 0 < N') (he : 0 < e') (hms : ms = Ideal.div (∑ k, X k * X k) N + e) (l : Fin n) :
    Ideal.rsqrt ms * (D l - X l * Ideal.rsqrt ms * Ideal.div (∑ k, D k * (X k * Ideal.rsqrt ms)) N)
      = D l * Ideal.rsqrt ms
        + X l * Ideal.div ((∑ k, X k * D k) * (((-(1 / 2) : ℝ) : EReal) * Ideal.div (Ideal.rsqrt ms) ms)) N
        + Ideal.div ((∑ k, X k * D k) * (((-(1 / 2) : ℝ) : EReal) * Ideal.div (Ideal.rsqrt ms) ms)) N * X l := by
  subst hN' he'
  rcases mean_sq_cases X hN he with h | ⟨x, ρ, hρ, hx, h⟩
  · rw [← hms] at h
    have h0 : Ideal.div (0 : EReal) ⊤ = 0 := Ideal.zero_div (by simp)
    have h1 : Ideal.div (0 : EReal) (N' : EReal) = 0 := Ideal.zero_div (by exact_mod_cast hN.ne')
    simp only [h, Ideal.rsqrt_top, h0, h1, zero_mul, mul_zero, add_zero]
  · rw [← hms] at h
    obtain ⟨s, hs, hs1, hr, hd⟩ := rsqrt_pos hρ
    simp only [h, hr, hd, hx, Ideal.div_coe hN.ne']
    have e1 : ∑ k, D k * ((x k : EReal) * (s : EReal)) = (∑ k, (x k : EReal) * D k) * (s : EReal) := by
      rw [← sum_mul_real _ hs.le]
      exact Finset.sum_congr rfl fun k _ => by rw [← mul_assoc, mul_comm (D k)]
    rw [e1]
    generalize (∑ k, (x k : EReal) * D k) = S
    have e2 : ((x l : ℝ) : EReal) * (S * (((-(1 / 2) : ℝ) : EReal) * ((s * s * s : ℝ) : EReal)) * ((1 / N' : ℝ) : EReal))
        = S * ((x l * (-(1 / 2) * (s * s * s)) * (1 / N') : ℝ) : EReal) := by
      simp only [EReal.coe_mul]; ac_rfl
    have e3 : (x l : EReal) * (s : EReal) * (S * (s : EReal) * ((1 / N' : ℝ) : EReal))
        = S * ((x l * s * s * (1 / N') : ℝ) : EReal) := by
      simp only [EReal.coe_mul]; ac_rfl
    rw [add_assoc, mul_comm (S * _ * _), e2, mul_real_add_self, e3, sub_eq_add_neg,
      EReal.left_distrib_of_nonneg_of_ne_top (by exact_mod_cast hs.le) (EReal.coe_ne_top s), mul_comm (s : EReal) (D l), ← mul_neg,
      ← EReal.coe_neg, mul_left_comm, ← EReal.coe_mul]
    congr 3
    ring

end Cert.NormMath

end
-- ==== Proof.AttnRow.lean ====
/-
  Softmax attention of one row of queries and its gradient, over the extended reals.
-/
module

public import Idealize.ShloMosaic.Lib.Pointwise
public import proofs.«01_k».proof.Proof.NormMath

@[expose] public section

noncomputable section

namespace Cert.AttnRow

open Idealize.ShloMosaic

/-- The scale of the scores. -/
def c : EReal := Ideal.ofBits .f32 0x3D800000#32

/-- A row of queries against the keys. -/
def sc (q : Fin 256 → EReal) (K : Fin 256 → Fin 256 → EReal) (j : Fin 256) : EReal := (∑ d, q d * K j d) * c

/-- Softmax of a row of scores. -/
def sm (s : Fin 256 → EReal) (j : Fin 256) : EReal :=
  Ideal.div (Ideal.exp (s j - Finset.fold max (Ideal.ofBits .f32 0xFF800000#32) s Finset.univ))
    (∑ x, Ideal.exp (s x - Finset.fold max (Ideal.ofBits .f32 0xFF800000#32) s Finset.univ))

/-- The weights of a row. -/
def P (q : Fin 256 → EReal) (K : Fin 256 → Fin 256 → EReal) (j : Fin 256) : EReal := sm (sc q K) j

/-- The cotangent of the weights. -/
def dP (D : Fin 256 → EReal) (V : Fin 256 → Fin 256 → EReal) (j : Fin 256) : EReal := ∑ d, D d * V j d

/-- The cotangent of the unscaled scores. -/
def dS (q : Fin 256 → EReal) (K V : Fin 256 → Fin 256 → EReal) (D : Fin 256 → EReal) (j : Fin 256) : EReal :=
  P q K j * (dP D V j - ∑ x, dP D V x * P q K x) * c

/-- The largest entry along the last of three axes. -/
theorem host_max {a b n : ℕ} {u : Shape} (v : FVec Ideal ⟨3, ![a, b, n]⟩ .f32) (w : FVec Ideal u .f32) (h : (⟨3, ![a, b, n]⟩ : Shape).ReducesTo [2] ⟨2, ![a, b]⟩)
    (hu : 0 < u.numel) (i : Fin a) (j : Fin b) : Host.reduce FloatOps.maximumf v w h hu (ix2 i j)
      = Finset.univ.fold max (w (Shape.Idx.first hu)) fun k : Fin n => v (ix3 i j k) := by
  simp only [pointwise]

/-- The largest of finitely many reals is a real. -/
theorem fold_real {n : ℕ} [NeZero n] (s : Fin n → EReal) (f : Fin n → ℝ) (hs : ∀ x, s x = (f x : EReal)) :
    ∃ r : ℝ, Finset.fold max (Ideal.ofBits .f32 0xFF800000#32) s Finset.univ = (r : EReal) := by
  have hb : Ideal.ofBits .f32 0xFF800000#32 = (⊥ : EReal) := by simp [Ideal.ofBits, Ideal.ieee]
  have h : ∀ S : Finset (Fin n), S = ∅ ∧ Finset.fold max (⊥ : EReal) s S = ⊥ ∨ ∃ r : ℝ, Finset.fold max (⊥ : EReal) s S = (r : EReal) := fun S => by
    induction S using Finset.induction_on with
    | empty => exact .inl ⟨rfl, Finset.fold_empty⟩
    | insert x S hx ih =>
      refine .inr ?_
      rw [Finset.fold_insert hx, hs]
      rcases ih with ⟨-, e⟩ | ⟨r, e⟩
      · exact ⟨f x, by rw [e]; exact max_eq_left bot_le⟩
      · exact ⟨max (f x) r, by rw [e]; norm_cast⟩
  rw [hb]
  rcases h Finset.univ with ⟨e, -⟩ | h
  · exact absurd (e ▸ Finset.mem_univ (0 : Fin n)) (Finset.notMem_empty _)
  · exact h

/-- The gradient of a quotient of exponentials by their sum, written through the quotient. -/
theorem quot_grad {n : ℕ} [NeZero n] (e : Fin n → ℝ) (he : ∀ x, 0 < e x) (E dp : Fin n → EReal) (hE : ∀ x, E x = (e x : EReal)) (j : Fin n) :
    (Ideal.div (dp j) (∑ x, E x) + -∑ x, dp x * Ideal.div 1 ((∑ x, E x) * ∑ x, E x) * E x) * E j
      = Ideal.div (E j) (∑ x, E x) * (dp j - ∑ x, dp x * Ideal.div (E x) (∑ x, E x)) := by
  have hs : (0 : ℝ) < ∑ x, e x := Finset.sum_pos (fun x _ => he x) ⟨0, Finset.mem_univ _⟩
  have hS : ∑ x, E x = ((∑ x, e x : ℝ) : EReal) := by
    simp only [hE]
    exact NormMath.coe_sum _ _
  rw [hS]
  generalize (∑ x, e x : ℝ) = s at hs
  rw [← EReal.coe_mul, Ideal.div_coe hs.ne', Ideal.div_coe hs.ne']
  simp only [Ideal.div_coe hs.ne', Ideal.div_coe (mul_pos hs hs).ne', hE]
  have e1 : ∀ x, dp x * (1 * ((s * s)⁻¹ : ℝ)) * (e x : EReal) = dp x * ((e x : EReal) * (s⁻¹ : ℝ)) * (s⁻¹ : ℝ) := fun x => by
    rw [one_mul, mul_assoc, mul_assoc]
    norm_cast
    congr 2
    field_simp
  have hi : (0 : EReal) ≤ (s⁻¹ : ℝ) := EReal.coe_nonneg.mpr (inv_pos.mpr hs).le
  simp only [one_div, e1]
  rw [NormMath.sum_mul_real _ (inv_pos.mpr hs).le, ← EReal.neg_mul, ← EReal.right_distrib_of_nonneg_of_ne_top hi (EReal.coe_ne_top _), sub_eq_add_neg]
  ac_rfl

/-- Where the scores are real the gradient through the normalised exponentials is `dS`. -/
theorem grad_eq (q : Fin 256 → EReal) (K V : Fin 256 → Fin 256 → EReal) (D : Fin 256 → EReal) (q' : Fin 256 → ℝ) (K' : Fin 256 → Fin 256 → ℝ)
    (hq : ∀ d, q d = (q' d : EReal)) (hK : ∀ j d, K j d = (K' j d : EReal)) (E : Fin 256 → EReal)
    (hE : ∀ x, E x = Ideal.exp (sc q K x - Finset.fold max (Ideal.ofBits .f32 0xFF800000#32) (sc q K) Finset.univ)) (j : Fin 256) :
    (Ideal.div (dP D V j) (∑ x, E x) + -∑ x, dP D V x * Ideal.div 1 ((∑ x, E x) * ∑ x, E x) * E x) * E j * c = dS q K V D j := by
  have hc : c = ((1 / 16 : ℝ) : EReal) := by
    unfold c
    simp [Ideal.ofBits, Ideal.ieee, -EReal.coe_mul]; norm_num
  have hs : ∀ x, sc q K x = (((∑ d, q' d * K' x d) * (1 / 16) : ℝ) : EReal) := fun x => by
    unfold sc
    simp only [hq, hK, hc, ← EReal.coe_mul, NormMath.coe_sum]
  obtain ⟨M, hM⟩ := fold_real (sc q K) _ hs
  rw [quot_grad (fun x => Real.exp ((∑ d, q' d * K' x d) * (1 / 16) - M)) (fun x => Real.exp_pos _) E (dP D V) (fun x => by
    rw [hE, hM, hs, ← EReal.coe_sub, Ideal.exp_coe]) j]
  unfold dS P sm
  simp only [hE]

end Cert.AttnRow

end
-- ==== Proof.Finite.lean ====
module

public import Idealize.ShloMosaic.Lib.Pointwise

/-! What a finiteness mask says of an entry. -/

@[expose] public section

noncomputable section

namespace Cert.Finite

open Idealize.ShloMosaic

theorem real_of_abs_lt {a : EReal} (h : max a (-a) < ⊤) : ∃ d : ℝ, a = (d : EReal) := by
  induction a with
  | coe x => exact ⟨x, rfl⟩
  | top => simp at h
  | bot => simp at h

/-- An entry whose absolute value is below infinity is a real. -/
theorem real_of_mask {a : Ideal .f32} (h : BitVec.ofBool (decide ((FloatOps.absf a : Ideal .f32) < Ideal.ofBits .f32 0x7F800000#32)) = 1#1) :
    ∃ d : ℝ, (a : EReal) = (d : EReal) := by
  have e : Ideal.ofBits .f32 0x7F800000#32 = (⊤ : EReal) := by simp [Ideal.ofBits, Ideal.ieee]
  rw [e] at h
  refine real_of_abs_lt ?_
  by_contra hc
  have : decide ((FloatOps.absf a : Ideal .f32) < (⊤ : EReal)) = false := decide_eq_false hc
  rw [this] at h
  exact absurd h (by decide)

/-- The same of a narrow entry. -/
theorem real_of_mask_bf16 {a : Ideal .bf16} (h : BitVec.ofBool (decide ((FloatOps.absf a : Ideal .bf16) < Ideal.ofBits .bf16 0x7F80#16)) = 1#1) :
    ∃ d : ℝ, (a : EReal) = (d : EReal) := by
  have e : Ideal.ofBits .bf16 0x7F80#16 = (⊤ : EReal) := by simp [Ideal.ofBits, Ideal.ieee]
  rw [e] at h
  refine real_of_abs_lt ?_
  by_contra hc
  have : decide ((FloatOps.absf a : Ideal .bf16) < (⊤ : EReal)) = false := decide_eq_false hc
  rw [this] at h
  exact absurd h (by decide)

end Cert.Finite

end
-- ==== Proof.Attn.lean ====
module

public import proofs.«01_k».proof.Proof.Gen.AttnBwdIdeal.Value
public import proofs.«01_k».proof.Proof.Gen.AttnGradIdeal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Defs
public import proofs.«01_k».proof.Proof.Gen.AttnGradIdeal.Run
public import proofs.«01_k».proof.Proof.Pieces
public import proofs.«01_k».proof.Proof.AttnRow
public import proofs.«01_k».proof.Proof.Finite

@[expose] public section

set_option maxRecDepth 16384

noncomputable section

namespace Cert.Proof

theorem attn_finite_facts : Cert.Pre_attn_finite.Facts := by
  constructor <;> decide

end Cert.Proof

namespace Cert.AttnBwdIdeal.Value

instance attn_facts : Cert.Pre_attn_finite.Facts := Cert.Proof.attn_finite_facts

open Cert.AttnBwdIdeal Cert.AttnBwdIdeal.Gen Cert.Pieces Idealize.ShloMosaic Idealize.ShloMosaic.TcCoe Idealize.SL.Sem
open Idealize.ShloMosaic.Pipeline (Dat)

variable (m : (ℓ : Loc nD τ sig) → Buf (Elt Ideal) ℓ)

open Cert.AttnRow (P dP dS)

/-- The part of a row that a head takes. -/
def row (X : ℕ → ℕ → EReal) (o n : ℕ) (d : Fin 256) : EReal := X n (o + d.val)

/-- The keys' or values' columns that a head takes. -/
def head (X : ℕ → ℕ → EReal) (o : ℕ) (j d : Fin 256) : EReal := X j.val (o + d.val)

/-- A row's gradient in the queries. -/
def dq (Q K V D : ℕ → ℕ → EReal) (n l : ℕ) : EReal :=
  ∑ j : Fin 256, dS (row Q (l / 256 * 256) n) (head K (l / 256 * 256)) (head V (l / 256 * 256)) (row D (l / 256 * 256) n) j * K j.val l

/-- The part that a row has in the gradient of the keys and values. -/
def dkv (Q K V D : ℕ → ℕ → EReal) (j : Fin 256) (l n : ℕ) : EReal :=
  if l < 1024 then dS (row Q (l / 256 * 256) n) (head K (l / 256 * 256)) (head V (l / 256 * 256)) (row D (l / 256 * 256) n) j * Q n l
  else P (row Q ((l - 1024) / 256 * 256) n) (head K ((l - 1024) / 256 * 256)) j * D n (l - 1024)

section Tiles

variable (Q : FVec Ideal S1024x256 .bf16) (K V : FVec Ideal S256x256 .bf16) (D : FVec Ideal S1024x256 .bf16) (p : FVec Ideal S256x256 .f32)

/-- A row and a table of a tile. -/
def tr (X : FVec Ideal S1024x256 .bf16) (r : Fin 1024) (d : Fin 256) : EReal := X (ix2 r d)
def tt (X : FVec Ideal S256x256 .bf16) (j d : Fin 256) : EReal := X (ix2 j d)

theorem p0 (r : Fin 1024) (j : Fin 256) : k0_pay7 (F := Ideal) Q K (ix2 r j) = P (tr Q r) (tt K) j := by
  pointwise [k0_pay7]; rfl

theorem p1 (r : Fin 1024) (j : Fin 256) : k0_pay14 (F := Ideal) Q K (ix2 r j) = P (tr Q r) (tt K) j := by
  pointwise [k0_pay14]; rfl

theorem p2 (r : Fin 1024) (j : Fin 256) : k0_pay20 (F := Ideal) Q K (ix2 r j) = P (tr Q r) (tt K) j := by
  pointwise [k0_pay20]; rfl

theorem p3 (r : Fin 1024) (j : Fin 256) : k0_pay1 (F := Ideal) (k0_pay27 Q K) (k0_pay28 Q K) (ix2 r j) = P (tr Q r) (tt K) j := by
  pointwise [k0_pay1, k0_pay27, k0_pay28]; rfl

theorem s0 (r : Fin 1024) (j : Fin 256) : k0_pay9 (F := Ideal) Q K V D (ix2 r j) = dS (tr Q r) (tt K) (tt V) (tr D r) j := by
  pointwise [k0_pay9]; simp only [p0]; rfl

theorem s1 (r : Fin 1024) (j : Fin 256) : k0_pay16 (F := Ideal) Q K V D (ix2 r j) = dS (tr Q r) (tt K) (tt V) (tr D r) j := by
  pointwise [k0_pay16]; simp only [p1]; rfl

theorem s2 (r : Fin 1024) (j : Fin 256) : k0_pay23 (F := Ideal) (k0_pay20 Q K) (k0_pay22 V D) (ix2 r j) = dS (tr Q r) (tt K) (tt V) (tr D r) j := by
  pointwise [k0_pay23, k0_pay22]; simp only [p2]; rfl

theorem s3 (r : Fin 1024) (j : Fin 256) : k0_pay2 (F := Ideal) V D (k0_pay27 Q K) (k0_pay28 Q K) (ix2 r j) = dS (tr Q r) (tt K) (tt V) (tr D r) j := by
  pointwise [k0_pay2]; simp only [p3]; rfl

/-- What a tile stores for the queries. -/
def tq (r : Fin 1024) (d : Fin 256) : EReal := ∑ j : Fin 256, dS (tr Q r) (tt K) (tt V) (tr D r) j * tt K j d

theorem q0 (r : Fin 1024) (d : Fin 256) : k0_pay10 (F := Ideal) Q K V D (ix2 r d) = tq Q K V D r d := by
  pointwise [k0_pay10]; simp only [s0]; rfl

theorem q1 (r : Fin 1024) (d : Fin 256) : k0_pay17 (F := Ideal) K (k0_pay16 Q K V D) (ix2 r d) = tq Q K V D r d := by
  pointwise [k0_pay17]; simp only [s1]; rfl

theorem q2 (r : Fin 1024) (d : Fin 256) : k0_pay24 (F := Ideal) K (k0_pay20 Q K) (k0_pay22 V D) (ix2 r d) = tq Q K V D r d := by
  pointwise [k0_pay24]; simp only [s2]; rfl

theorem q3 (r : Fin 1024) (d : Fin 256) : k0_pay3 (F := Ideal) K V D (k0_pay27 Q K) (k0_pay28 Q K) (ix2 r d) = tq Q K V D r d := by
  pointwise [k0_pay3]; simp only [s3]; rfl

/-- What a tile adds for the keys, and for the values. -/
def tk (j d : Fin 256) : EReal := ∑ r : Fin 1024, dS (tr Q r) (tt K) (tt V) (tr D r) j * tr Q r d
def tv (j d : Fin 256) : EReal := ∑ r : Fin 1024, P (tr Q r) (tt K) j * tr D r d

theorem k0 (j d : Fin 256) : k0_pay12 (F := Ideal) Q (k0_pay9 Q K V D) (k0_pay11 p) (ix2 j d) = p (ix2 j d) + tk Q K V D j d := by
  pointwise [k0_pay12, k0_pay11]; simp only [s0]; rfl

theorem k1 (j d : Fin 256) : k0_pay18 (F := Ideal) Q (k0_pay16 Q K V D) p (ix2 j d) = p (ix2 j d) + tk Q K V D j d := by
  pointwise [k0_pay18]; simp only [s1]; rfl

theorem k2 (j d : Fin 256) : k0_pay25 (F := Ideal) Q (k0_pay20 Q K) (k0_pay22 V D) p (ix2 j d) = p (ix2 j d) + tk Q K V D j d := by
  pointwise [k0_pay25]; simp only [s2]; rfl

theorem k3 (j d : Fin 256) : k0_pay4 (F := Ideal) Q V D (k0_pay27 Q K) (k0_pay28 Q K) p (ix2 j d) = p (ix2 j d) + tk Q K V D j d := by
  pointwise [k0_pay4]; simp only [s3]; rfl

theorem v0 (j d : Fin 256) : k0_pay13 (F := Ideal) D (k0_pay8 Q K) p (ix2 j d) = p (ix2 j d) + tv Q K D j d := by
  pointwise [k0_pay13, k0_pay8]; simp only [p0]; rfl

theorem v1 (j d : Fin 256) : k0_pay19 (F := Ideal) D (k0_pay15 Q K) p (ix2 j d) = p (ix2 j d) + tv Q K D j d := by
  pointwise [k0_pay19, k0_pay15]; simp only [p1]; rfl

theorem v2 (j d : Fin 256) : k0_pay26 (F := Ideal) D (k0_pay21 Q K) p (ix2 j d) = p (ix2 j d) + tv Q K D j d := by
  pointwise [k0_pay26, k0_pay21]; simp only [p2]; rfl

theorem v3 (j d : Fin 256) : k0_pay5 (F := Ideal) D (k0_pay27 Q K) (k0_pay28 Q K) p (ix2 j d) = p (ix2 j d) + tv Q K D j d := by
  pointwise [k0_pay5]; simp only [p3]; rfl

end Tiles

section Heads

variable (X0 : Vec Ideal S1024x1024 .bf16) (X1 X2 : Vec Ideal S256x1024 .bf16) (X3 : Vec Ideal S1024x1024 .bf16) (o : ℕ)

/-- A head's columns of a block. -/
abbrev hx (X : Vec Ideal S1024x1024 .bf16) (o : ℕ) (inb : ∀ a, (![0, o] : Fin 2 → ℕ) a + (![1024, 256] : Fin 2 → ℕ) a ≤ S1024x1024.size a) :
    FVec Ideal S1024x256 .bf16 := View.ld (Val := Elt Ideal) X (Rect.unit (s := S1024x1024) ![0, o] ![1024, 256] inb)
abbrev hy (X : Vec Ideal S256x1024 .bf16) (o : ℕ) (inb : ∀ a, (![0, o] : Fin 2 → ℕ) a + (![256, 256] : Fin 2 → ℕ) a ≤ S256x1024.size a) :
    FVec Ideal S256x256 .bf16 := View.ld (Val := Elt Ideal) X (Rect.unit (s := S256x1024) ![0, o] ![256, 256] inb)

theorem tr_ld (inb) (r : Fin 1024) : tr (hx X0 o inb) r = row (at2 (m := 1024) (n := 1024) X0) o r.val := by
  funext d
  have h : o + 256 ≤ 1024 := inb 1
  unfold tr row
  rw [at2_of_lt _ _ _ r.isLt (by have := d.isLt; omega)]
  exact ld_at X0 inb r d _ (Nat.zero_add _).symm rfl

theorem tt_ld (inb) : tt (hy X1 o inb) = head (at2 (m := 256) (n := 1024) X1) o := by
  funext j d
  have h : o + 256 ≤ 1024 := inb 1
  unfold tt head
  rw [at2_of_lt _ _ _ j.isLt (by have := d.isLt; omega)]
  exact ld_at X1 inb j d _ (Nat.zero_add _).symm rfl

variable (i0 i1 i2 i3)

theorem tq_ld (ho : o % 256 = 0) (r : Fin 1024) (d : Fin 256) {n l : ℕ} (hn : n = r.val) (hl : l = o + d.val) : tq (hx X0 o i0) (hy X1 o i1) (hy X2 o i2) (hx X3 o i3) r d
    = dq (at2 (m := 1024) (n := 1024) X0) (at2 (m := 256) (n := 1024) X1) (at2 (m := 256) (n := 1024) X2) (at2 (m := 1024) (n := 1024) X3) n l := by
  have hd := d.isLt
  have e : l / 256 * 256 = o := by omega
  unfold tq dq
  rw [e, tr_ld, tr_ld, tt_ld, tt_ld, hn, hl]
  rfl

theorem tk_ld (ho : o % 256 = 0) (hlt : o < 1024) (j d : Fin 256) {l : ℕ} (hl : l = o + d.val) : tk (hx X0 o i0) (hy X1 o i1) (hy X2 o i2) (hx X3 o i3) j d
    = ∑ r : Fin 1024, dkv (at2 (m := 1024) (n := 1024) X0) (at2 (m := 256) (n := 1024) X1) (at2 (m := 256) (n := 1024) X2) (at2 (m := 1024) (n := 1024) X3) j l r.val := by
  have hd := d.isLt
  have e : l / 256 * 256 = o := by omega
  unfold tk dkv
  refine Finset.sum_congr rfl fun r _ => ?_
  rw [if_pos (by omega), e, tr_ld, tr_ld, tt_ld, tt_ld, hl]
  rfl

theorem tv_ld (ho : o % 256 = 0) (j d : Fin 256) {l : ℕ} (hl : l = 1024 + o + d.val) : tv (hx X0 o i0) (hy X1 o i1) (hx X3 o i3) j d
    = ∑ r : Fin 1024, dkv (at2 (m := 1024) (n := 1024) X0) (at2 (m := 256) (n := 1024) X1) (at2 (m := 256) (n := 1024) X2) (at2 (m := 1024) (n := 1024) X3) j l r.val := by
  have hd := d.isLt
  have e : (l - 1024) / 256 * 256 = o := by omega
  have e' : l - 1024 = o + d.val := by omega
  unfold tv dkv
  refine Finset.sum_congr rfl fun r _ => ?_
  rw [if_neg (by omega), e, tr_ld, tr_ld, tt_ld, e']
  rfl

end Heads

theorem out4 (c : Dev nD) (t : Fin cfg0.N) (y : S1024x1024.Idx) : (outsAt0 m c t.val t.isLt).1 y
    = dq (at2 (m := 1024) (n := 1024) (iblk m c 0 t)) (at2 (m := 256) (n := 1024) (iblk m c 1 t)) (at2 (m := 256) (n := 1024) (iblk m c 2 t))
      (at2 (m := 1024) (n := 1024) (iblk m c 3 t)) (y 0).val (y 1).val := by
  by_cases h : t.val % 4 = 0
  · rw [outsAt0_A m c t h]
    frame_out
    clear h
    canon_tiles x h <;> idx_vars x
    · exact (q3 _ _ _ _ x0 x1).trans (tq_ld _ _ _ _ 768 _ _ _ _ rfl x0 x1 h0 h1)
    · exact (q2 _ _ _ _ x0 x1).trans (tq_ld _ _ _ _ 512 _ _ _ _ rfl x0 x1 h0 h1)
    · exact (q1 _ _ _ _ x0 x1).trans (tq_ld _ _ _ _ 256 _ _ _ _ rfl x0 x1 h0 h1)
    · exact (q0 _ _ _ _ x0 x1).trans (tq_ld _ _ _ _ 0 _ _ _ _ rfl x0 x1 h0 (h1.trans (Nat.zero_add _).symm))
  · rw [outsAt0_B m c t h]
    frame_out
    clear h
    canon_tiles x h <;> idx_vars x
    · exact (q3 _ _ _ _ x0 x1).trans (tq_ld _ _ _ _ 768 _ _ _ _ rfl x0 x1 h0 h1)
    · exact (q2 _ _ _ _ x0 x1).trans (tq_ld _ _ _ _ 512 _ _ _ _ rfl x0 x1 h0 h1)
    · exact (q1 _ _ _ _ x0 x1).trans (tq_ld _ _ _ _ 256 _ _ _ _ rfl x0 x1 h0 h1)
    · exact (q0 _ _ _ _ x0 x1).trans (tq_ld _ _ _ _ 0 _ _ _ _ rfl x0 x1 h0 (h1.trans (Nat.zero_add _).symm))

/-- What a point adds to the gradient of the keys and values. -/
def add (c : Dev nD) (t : Fin cfg0.N) (y : S256x2048.Idx) : EReal :=
  ∑ r : Fin 1024, dkv (at2 (m := 1024) (n := 1024) (iblk m c 0 t)) (at2 (m := 256) (n := 1024) (iblk m c 1 t)) (at2 (m := 256) (n := 1024) (iblk m c 2 t))
      (at2 (m := 1024) (n := 1024) (iblk m c 3 t)) (y 0) (y 1).val r.val

theorem out5_step (c : Dev nD) (t : Fin cfg0.N) (h : ¬ t.val % 4 = 0) (y : S256x2048.Idx) : (outsAt0 m c t.val t.isLt).2 y
    = (outsAt0 m c (t.val - 1) (Nat.lt_of_le_of_lt (Nat.sub_le _ _) t.isLt)).2 y + add m c t y := by
  rw [outsAt0_B m c t h]
  frame_out
  clear h
  unfold add
  canon_tiles x h <;> idx_vars x <;> rw [show y 0 = x0 from Fin.ext h0]
  · refine (v3 _ _ _ _ x0 x1).trans (congrArg₂ (· + ·) ?_ (tv_ld _ _ _ _ 768 _ _ _ rfl x0 x1 h1))
    exact ld_at _ _ x0 x1 y (h0.trans (Nat.zero_add _).symm) h1
  · refine (k3 _ _ _ _ _ x0 x1).trans (congrArg₂ (· + ·) ?_ (tk_ld _ _ _ _ 768 _ _ _ _ rfl (by decide) x0 x1 h1))
    exact ld_at _ _ x0 x1 y (h0.trans (Nat.zero_add _).symm) h1
  · refine (v2 _ _ _ _ x0 x1).trans (congrArg₂ (· + ·) ?_ (tv_ld _ _ _ _ 512 _ _ _ rfl x0 x1 h1))
    exact ld_at _ _ x0 x1 y (h0.trans (Nat.zero_add _).symm) h1
  · refine (k2 _ _ _ _ _ x0 x1).trans (congrArg₂ (· + ·) ?_ (tk_ld _ _ _ _ 512 _ _ _ _ rfl (by decide) x0 x1 h1))
    exact ld_at _ _ x0 x1 y (h0.trans (Nat.zero_add _).symm) h1
  · refine (v1 _ _ _ _ x0 x1).trans (congrArg₂ (· + ·) ?_ (tv_ld _ _ _ _ 256 _ _ _ rfl x0 x1 h1))
    exact ld_at _ _ x0 x1 y (h0.trans (Nat.zero_add _).symm) h1
  · refine (k1 _ _ _ _ _ x0 x1).trans (congrArg₂ (· + ·) ?_ (tk_ld _ _ _ _ 256 _ _ _ _ rfl (by decide) x0 x1 h1))
    exact ld_at _ _ x0 x1 y (h0.trans (Nat.zero_add _).symm) h1
  · refine (v0 _ _ _ _ x0 x1).trans (congrArg₂ (· + ·) ?_ (tv_ld _ _ _ _ 0 _ _ _ rfl x0 x1 h1))
    exact ld_at _ _ x0 x1 y (h0.trans (Nat.zero_add _).symm) h1
  · refine (k0 _ _ _ _ _ x0 x1).trans (congrArg₂ (· + ·) ?_ (tk_ld _ _ _ _ 0 _ _ _ _ rfl (by decide) x0 x1 (h1.trans (Nat.zero_add _).symm)))
    exact ld_at _ _ x0 x1 y (h0.trans (Nat.zero_add _).symm) (h1.trans (Nat.zero_add _).symm)

theorem fill (r : Rect S256x2048) (x : r.shape.Idx) : View.ld (Val := Elt Ideal) (e' := .f32) (k0_pay6 (F := Ideal)) r x = (0 : EReal) := by
  show k0_pay6 (F := Ideal) (r.emb x) = (0 : EReal)
  pointwise [k0_pay6]

theorem out5_zero (c : Dev nD) (t : Fin cfg0.N) (h : t.val % 4 = 0) (y : S256x2048.Idx) : (outsAt0 m c t.val t.isLt).2 y = add m c t y := by
  rw [outsAt0_A m c t h]
  frame_out
  clear h
  unfold add
  refine (canon_left [_, _, _, _, _, _, _, _] [_] y (View.cover_of_tiledBy _ ![256, 256] (by sl_kernel_rfl) y)).trans ?_
  canon_tiles x h <;> idx_vars x <;> rw [show y 0 = x0 from Fin.ext h0]
  · refine (v3 _ _ _ _ x0 x1).trans ((congrArg₂ (· + ·) ?_ (tv_ld _ _ _ _ 768 _ _ _ rfl x0 x1 h1)).trans (zero_add _))
    repeat rw [View.readCov_skip _ _ _ _ _ (by decide)]
    rw [View.readCov_fill _ _ _ _ _ (by decide)]
    exact fill _ _
  · refine (k3 _ _ _ _ _ x0 x1).trans ((congrArg₂ (· + ·) ?_ (tk_ld _ _ _ _ 768 _ _ _ _ rfl (by decide) x0 x1 h1)).trans (zero_add _))
    repeat rw [View.readCov_skip _ _ _ _ _ (by decide)]
    rw [View.readCov_fill _ _ _ _ _ (by decide)]
    exact fill _ _
  · refine (v2 _ _ _ _ x0 x1).trans ((congrArg₂ (· + ·) ?_ (tv_ld _ _ _ _ 512 _ _ _ rfl x0 x1 h1)).trans (zero_add _))
    repeat rw [View.readCov_skip _ _ _ _ _ (by decide)]
    rw [View.readCov_fill _ _ _ _ _ (by decide)]
    exact fill _ _
  · refine (k2 _ _ _ _ _ x0 x1).trans ((congrArg₂ (· + ·) ?_ (tk_ld _ _ _ _ 512 _ _ _ _ rfl (by decide) x0 x1 h1)).trans (zero_add _))
    repeat rw [View.readCov_skip _ _ _ _ _ (by decide)]
    rw [View.readCov_fill _ _ _ _ _ (by decide)]
    exact fill _ _
  · refine (v1 _ _ _ _ x0 x1).trans ((congrArg₂ (· + ·) ?_ (tv_ld _ _ _ _ 256 _ _ _ rfl x0 x1 h1)).trans (zero_add _))
    repeat rw [View.readCov_skip _ _ _ _ _ (by decide)]
    rw [View.readCov_fill _ _ _ _ _ (by decide)]
    exact fill _ _
  · refine (k1 _ _ _ _ _ x0 x1).trans ((congrArg₂ (· + ·) ?_ (tk_ld _ _ _ _ 256 _ _ _ _ rfl (by decide) x0 x1 h1)).trans (zero_add _))
    repeat rw [View.readCov_skip _ _ _ _ _ (by decide)]
    rw [View.readCov_fill _ _ _ _ _ (by decide)]
    exact fill _ _
  · refine (v0 _ _ _ _ x0 x1).trans ((congrArg₂ (· + ·) ?_ (tv_ld _ _ _ _ 0 _ _ _ rfl x0 x1 h1)).trans (zero_add _))
    repeat rw [View.readCov_skip _ _ _ _ _ (by decide)]
    rw [View.readCov_fill _ _ _ _ _ (by decide)]
    exact fill _ _
  · refine (k0 _ _ _ _ _ x0 x1).trans ((congrArg₂ (· + ·) ?_ (tk_ld _ _ _ _ 0 _ _ _ _ rfl (by decide) x0 x1 (h1.trans (Nat.zero_add _).symm))).trans (zero_add _))
    repeat rw [View.readCov_skip _ _ _ _ _ (by decide)]
    rw [View.readCov_fill _ _ _ _ _ (by decide)]
    exact fill _ _

/-! The blocks the points stage, as parts of the arrays. -/

theorem idx : ∀ t : Fin cfg0.N, win0_0.index t = ![t.val, 0] ∧ win0_1.index t = ![0, 0] ∧ win0_2.index t = ![0, 1]
    ∧ win0_3.index t = ![t.val, 0] ∧ win0_4.index t = ![t.val, 0] ∧ win0_5.index t = ![0, 0] :=
  (by decide +kernel : ∀ t : Fin grid0.N, _)

/-- The values' half of the keys and values. -/
def half (KV : ℕ → ℕ → EReal) (j l : ℕ) : EReal := KV j (1024 + l)

/-- The arrays the call is given. -/
def aQ (c : Dev nD) : ℕ → ℕ → EReal := at2 (m := 4096) (n := 1024) (m ((c : Thread nD τ).loc main_arg0))
def aK (c : Dev nD) : ℕ → ℕ → EReal := at2 (m := 256) (n := 2048) (m ((c : Thread nD τ).loc main_arg1))
def aD (c : Dev nD) : ℕ → ℕ → EReal := at2 (m := 4096) (n := 1024) (m ((c : Thread nD τ).loc main_arg2))

theorem blk0 (c : Dev nD) (t : Fin cfg0.N) (r : Fin 1024) {l : ℕ} (hl : l < 1024) : at2 (m := 1024) (n := 1024) (iblk m c 0 t) r.val l
    = aQ m c (1024 * t.val + r.val) l := by
  have ht : t.val < 4 := t.isLt
  unfold aQ
  rw [at2_of_lt _ _ _ r.isLt hl, at2_of_lt _ _ _ (by have := r.isLt; omega) hl]
  blk_point [iblk, V, idx t, Nat.mul_comm]

theorem blk1 (c : Dev nD) (t : Fin cfg0.N) (j : Fin 256) {l : ℕ} (hl : l < 1024) : at2 (m := 256) (n := 1024) (iblk m c 1 t) j.val l
    = aK m c j.val l := by
  unfold aK
  rw [at2_of_lt _ _ _ j.isLt hl, at2_of_lt _ _ _ j.isLt (by omega)]
  blk_point [iblk, V, idx t]

theorem blk2 (c : Dev nD) (t : Fin cfg0.N) (j : Fin 256) {l : ℕ} (hl : l < 1024) : at2 (m := 256) (n := 1024) (iblk m c 2 t) j.val l
    = half (aK m c) j.val l := by
  unfold half aK
  rw [at2_of_lt _ _ _ j.isLt hl, at2_of_lt _ _ _ j.isLt (by omega)]
  blk_point [iblk, V, idx t]

theorem blk3 (c : Dev nD) (t : Fin cfg0.N) (r : Fin 1024) {l : ℕ} (hl : l < 1024) : at2 (m := 1024) (n := 1024) (iblk m c 3 t) r.val l
    = aD m c (1024 * t.val + r.val) l := by
  have ht : t.val < 4 := t.isLt
  unfold aD
  rw [at2_of_lt _ _ _ r.isLt hl, at2_of_lt _ _ _ (by have := r.isLt; omega) hl]
  blk_point [iblk, V, idx t, Nat.mul_comm]

section Blocks

variable (c : Dev nD) (t : Fin cfg0.N) (r : Fin 1024) {o : ℕ} (ho : o + 256 ≤ 1024)
include ho

theorem row0 : row (at2 (m := 1024) (n := 1024) (iblk m c 0 t)) o r.val = row (aQ m c) o (1024 * t.val + r.val) :=
  funext fun d => blk0 m c t r (by have := d.isLt; omega)

theorem head1 : head (at2 (m := 256) (n := 1024) (iblk m c 1 t)) o = head (aK m c) o :=
  funext fun j => funext fun d => blk1 m c t j (by have := d.isLt; omega)

theorem head2 : head (at2 (m := 256) (n := 1024) (iblk m c 2 t)) o = head (half (aK m c)) o :=
  funext fun j => funext fun d => blk2 m c t j (by have := d.isLt; omega)

theorem row3 : row (at2 (m := 1024) (n := 1024) (iblk m c 3 t)) o r.val = row (aD m c) o (1024 * t.val + r.val) :=
  funext fun d => blk3 m c t r (by have := d.isLt; omega)

end Blocks

theorem dq_blk (c : Dev nD) (t : Fin cfg0.N) (r l : Fin 1024) :
    dq (at2 (m := 1024) (n := 1024) (iblk m c 0 t)) (at2 (m := 256) (n := 1024) (iblk m c 1 t)) (at2 (m := 256) (n := 1024) (iblk m c 2 t))
      (at2 (m := 1024) (n := 1024) (iblk m c 3 t)) r.val l.val = dq (aQ m c) (aK m c) (half (aK m c)) (aD m c) (1024 * t.val + r.val) l.val := by
  have ho : l.val / 256 * 256 + 256 ≤ 1024 := by have := l.isLt; omega
  unfold dq
  rw [row0 m c t r ho, head1 m c t ho, head2 m c t ho, row3 m c t r ho]
  exact Finset.sum_congr rfl fun j _ => congrArg₂ (· * ·) rfl (blk1 m c t j l.isLt)

theorem dkv_blk (c : Dev nD) (t : Fin cfg0.N) (r : Fin 1024) (j : Fin 256) (l : Fin 2048) :
    dkv (at2 (m := 1024) (n := 1024) (iblk m c 0 t)) (at2 (m := 256) (n := 1024) (iblk m c 1 t)) (at2 (m := 256) (n := 1024) (iblk m c 2 t))
      (at2 (m := 1024) (n := 1024) (iblk m c 3 t)) j l.val r.val = dkv (aQ m c) (aK m c) (half (aK m c)) (aD m c) j l.val (1024 * t.val + r.val) := by
  have hl := l.isLt
  unfold dkv
  by_cases h : l.val < 1024
  · have ho : l.val / 256 * 256 + 256 ≤ 1024 := by omega
    rw [if_pos h, if_pos h, row0 m c t r ho, head1 m c t ho, head2 m c t ho, row3 m c t r ho, blk0 m c t r h]
  · have ho : (l.val - 1024) / 256 * 256 + 256 ≤ 1024 := by omega
    rw [if_neg h, if_neg h, row0 m c t r ho, head1 m c t ho, blk3 m c t r (by omega)]

theorem final4 (c : Dev nD) : (dats m 0 c).arrAt 4 (cfgs 0).N
    = fun y : S4096x1024.Idx => dq (aQ m c) (aK m c) (half (aK m c)) (aD m c) (y 0).val (y 1).val := by
  refine (dats m 0 c).arrAt_eq_of_covers 4 _ (by decide +kernel) fun t _ y => ?_
  blk_simp
  rw [after0_4]
  revert y
  refine fun (y : S1024x1024.Idx) => ?_
  obtain ⟨-, -, -, -, h4, -⟩ := idx t
  idx_vars y
  refine (out4 m c t (ix2 y0 y1)).trans ((dq_blk m c t y0 y1).trans (congrArg₂ (dq _ _ _ _) ?_ ?_))
  · rw [h4, Nat.mul_comm]; rfl
  · rw [h4]
    exact (Nat.zero_add _).symm

theorem sum5 (c : Dev nD) (j : Fin 256) (l : Fin 2048) : ∀ (n : ℕ) (hn : n < 4), (outsAt0 m c n hn).2 (ix2 j l)
    = ∑ k ∈ Finset.range (n + 1), ∑ r : Fin 1024, dkv (aQ m c) (aK m c) (half (aK m c)) (aD m c) j l.val (1024 * k + r.val)
  | 0, hn => by
    rw [out5_zero m c ⟨0, hn⟩ rfl, Finset.sum_range_one]
    exact Finset.sum_congr rfl fun r _ => dkv_blk m c ⟨0, hn⟩ r j l
  | n + 1, hn => by
    rw [out5_step m c ⟨n + 1, hn⟩ (by show ¬ (n + 1) % 4 = 0; omega), Finset.sum_range_succ]
    exact congrArg₂ (· + ·) (sum5 c j l n (by omega)) (Finset.sum_congr rfl fun r _ => dkv_blk m c ⟨n + 1, hn⟩ r j l)

/-- The sum of all rows' parts. -/
def total (f : ℕ → EReal) : EReal := ∑ r : Fin 4096, f r.val

theorem final5 (c : Dev nD) : (dats m 0 c).arrAt 5 (cfgs 0).N
    = fun y : S256x2048.Idx => total (dkv (aQ m c) (aK m c) (half (aK m c)) (aD m c) (y 0) (y 1).val) := by
  refine (dats m 0 c).arrAt_eq_of_after_last 5 t0_3 (by decide +kernel) _ fun j => ?_
  blk_simp
  rw [after0_5]
  revert j
  refine fun (j : S256x2048.Idx) => ?_
  idx_vars j
  refine (sum5 m c j0 j1 3 (by decide)).trans ?_
  exact (sum_chunks _ 1024 4).trans (Fin.sum_univ_eq_sum_range (dkv _ _ _ _ j0 j1.val) 4096).symm

open Cert.AttnGradIdeal.Read
open Cert.AttnRow (sc)

section Reference

variable (q : FVec Ideal S4096x1024 .bf16) (kv : FVec Ideal S256x2048 .bf16) (d : FVec Ideal S4096x1024 .bf16)

theorem scores (h : Fin 4) (r : Fin 4096) (j : Fin 256) : val_main_v9 (F := Ideal) q kv (ix3 h r j)
    = sc (row (at2 q) (h.val * 256) r.val) (head (at2 kv) (h.val * 256)) j := by
  pointwise [val_main_v0, val_main_v1, val_main_v2, val_main_v3, val_main_v4, val_main_v5, val_main_v6, val_main_v7, val_main_cst, val_main_v8, val_main_v9]
  simp only [at2_ix2]
  rfl

theorem largest (h : Fin 4) (r : Fin 4096) : val_main_v10 (F := Ideal) q kv (ix2 h r)
    = Finset.fold max (Ideal.ofBits .f32 0xFF800000#32) (sc (row (at2 q) (h.val * 256) r.val) (head (at2 kv) (h.val * 256))) Finset.univ := by
  rw [← funext (scores q kv h r)]
  exact Cert.AttnRow.host_max _ _ _ _ h r

theorem largest' (h : Fin 4) (r : Fin 4096) : val_main_v17 (F := Ideal) q kv (ix2 h r) = val_main_v10 (F := Ideal) q kv (ix2 h r) := by
  have hb : Ideal.ofBits .f32 0xFF800000#32 = (⊥ : EReal) := by simp [Ideal.ofBits, Ideal.ieee]
  have e : val_main_v16 (F := Ideal) (ix2 h r) = (⊥ : EReal) := by
    pointwise [val_main_v16, val_main_cst_2]
    exact hb
  rw [val_main_v17_apply, e]
  generalize val_main_v10 (F := Ideal) q kv (ix2 h r) = z
  exact max_eq_right (α := EReal) bot_le

theorem shifted (h : Fin 4) (r : Fin 4096) (j : Fin 256) : val_main_v29 (F := Ideal) q kv (ix3 h r j)
    = sc (row (at2 q) (h.val * 256) r.val) (head (at2 kv) (h.val * 256)) j
      - Finset.fold max (Ideal.ofBits .f32 0xFF800000#32) (sc (row (at2 q) (h.val * 256) r.val) (head (at2 kv) (h.val * 256))) Finset.univ := by
  rw [← largest, ← scores, ← largest']
  pointwise [val_main_v29, val_main_v28, val_main_v27, val_main_v26, val_main_v25, val_main_v24, val_main_v23]

theorem weights (h : Fin 4) (r : Fin 4096) (j : Fin 256) : val_main_v34 (F := Ideal) q kv (ix3 h r j)
    = P (row (at2 q) (h.val * 256) r.val) (head (at2 kv) (h.val * 256)) j := by
  pointwise [val_main_v30, val_main_cst_8, val_main_v31, val_main_v32, val_main_v33, val_main_v34]
  simp only [shifted]
  rfl

theorem cot (h : Fin 4) (r : Fin 4096) (j : Fin 256) : val_main_v44 (F := Ideal) kv d (ix3 h r j)
    = dP (row (at2 d) (h.val * 256) r.val) (head (half (at2 kv)) (h.val * 256)) j := by
  pointwise [val_main_v44, val_main_v43, val_main_v42, val_main_v41, val_main_v6, val_main_v4, val_main_v1]
  simp only [at2_ix2]
  rfl

variable (hq : ∀ r l, ∃ a : ℝ, at2 q r l = (a : EReal)) (hk : ∀ j l, l < 1024 → ∃ a : ℝ, at2 kv j l = (a : EReal))
include hq hk

theorem inner (h : Fin 4) (r : Fin 4096) (j : Fin 256) : val_main_v60 (F := Ideal) q kv d (ix3 h r j)
    = dS (row (at2 q) (h.val * 256) r.val) (head (at2 kv) (h.val * 256)) (head (half (at2 kv)) (h.val * 256)) (row (at2 d) (h.val * 256) r.val) j := by
  choose q' hq using hq
  have hk : ∀ (j x : Fin 256), ∃ a : ℝ, at2 kv j.val (h.val * 256 + x.val) = (a : EReal) := fun j x => hk _ _ (by have := h.isLt; have := x.isLt; omega)
  choose k' hk using hk
  have g := Cert.AttnRow.grad_eq (row (at2 q) (h.val * 256) r.val) (head (at2 kv) (h.val * 256)) (head (half (at2 kv)) (h.val * 256)) (row (at2 d) (h.val * 256) r.val)
    (fun x => q' r.val (h.val * 256 + x.val)) k' (fun x => hq _ _) (fun j x => hk j x) (fun x => val_main_v30 (F := Ideal) q kv (ix3 h r x)) (fun x => ?_) j
  · rw [← g]
    simp only [← cot]
    pointwise [val_main_v47, val_main_v48, val_main_v49, val_main_cst_10, val_main_v50, val_main_v51, val_main_v52, val_main_v53, val_main_v54, val_main_cst_11, val_main_v55, val_main_v56, val_main_v57, val_main_v58, val_main_cst_12, val_main_v59, val_main_v60, val_main_v35, val_main_v36, val_main_v37, val_main_cst_9, val_main_v32, val_main_v31, val_main_cst_8]
    simp only [Finset.univ_unique, Finset.sum_singleton]
    rfl
  · rw [← shifted]
    pointwise [val_main_v30]

theorem ref4 (r : Fin 4096) (l : Fin 1024) : val_main_v69 (F := Ideal) q kv d (ix2 r l) = dq (at2 q) (at2 kv) (half (at2 kv)) (at2 d) r.val l.val := by
  pointwise [val_main_v69, val_main_v68, val_main_v64, val_main_v63, val_main_v5, val_main_v3, val_main_v1]
  simp only [inner q kv d hq hk, at2_ix2]
  rfl

theorem ref5 (j : Fin 256) (l : Fin 2048) : val_main_v67 (F := Ideal) q kv d (ix2 j l) = total (dkv (at2 q) (at2 kv) (half (at2 kv)) (at2 d) j l.val) := by
  pointwise [val_main_v67, val_main_v66, val_main_v65, val_main_v62, val_main_v61, val_main_v46, val_main_v45, val_main_v43, val_main_v42, val_main_v41, val_main_v2, val_main_v0]
  simp only [inner q kv d hq hk, weights, at2_ix2, Nat.div_add_mod']
  unfold total dkv
  by_cases h : l.val < 1024
  · simp only [h, dif_pos, if_true]
  · simp only [h, dif_neg, if_false, not_false_eq_true]
    exact Finset.sum_congr (M := EReal) rfl fun r _ => mul_comm (G := EReal) _ _

end Reference

theorem pre_q (q : FVec Ideal S4096x1024 .bf16) (kv : FVec Ideal S256x2048 .bf16) (d : FVec Ideal S4096x1024 .bf16)
    (h : (Cert.Pre_attn_finite.fn (F := Ideal) q kv d).1 = fun _ => 1#1) (r l : ℕ) : ∃ a : ℝ, at2 q r l = (a : EReal) := by
  by_cases hb : r < 4096 ∧ l < 1024
  · have h := congrFun h (ix2 ⟨r, hb.1⟩ ⟨l, hb.2⟩)
    unfold Cert.Pre_attn_finite.fn at h
    pointwise [] at h
    obtain ⟨a, ha⟩ := Cert.Finite.real_of_mask_bf16 h
    exact ⟨a, (at2_of_lt q r l hb.1 hb.2).trans ha⟩
  · exact ⟨0, dif_neg hb⟩

theorem pre_k (q : FVec Ideal S4096x1024 .bf16) (kv : FVec Ideal S256x2048 .bf16) (d : FVec Ideal S4096x1024 .bf16)
    (h : (Cert.Pre_attn_finite.fn (F := Ideal) q kv d).2 = fun _ => 1#1) (j l : ℕ) (hl : l < 1024) : ∃ a : ℝ, at2 kv j l = (a : EReal) := by
  by_cases hb : j < 256
  · have h := congrFun h (ix2 ⟨j, hb⟩ ⟨l, hl⟩)
    unfold Cert.Pre_attn_finite.fn at h
    pointwise [] at h
    obtain ⟨a, ha⟩ := Cert.Finite.real_of_mask_bf16 h
    exact ⟨a, (at2_of_lt kv j l hb (by omega)).trans ha⟩
  · exact ⟨0, dif_neg fun h => hb h.1⟩

end Cert.AttnBwdIdeal.Value

namespace Cert.Proof

open Idealize.ShloMosaic Idealize.SL.Sem

instance attn_facts : Cert.Pre_attn_finite.Facts := attn_finite_facts

/-- The attention's backward call computes the reference's gradients, of finite queries and keys. -/
theorem algebraic_Attn : Cert.algebraic_AttnBwdIdeal_AttnGradIdeal_pre_attn_finite := by
  pair_intro
  · run_from Cert.AttnBwdIdeal.Gen.run_main m g
  · refine (θ_run _ _ _).mono (fun r h c => ?_) (Cert.AttnGradIdeal.Value.run m' g')
    obtain ⟨h0, h1, hargs⟩ := h c
    obtain ⟨e0, e1, e2⟩ := hagree c
    have hq := Cert.AttnBwdIdeal.Value.pre_q _ _ _ (hpre c).1
    have hk := Cert.AttnBwdIdeal.Value.pre_k _ _ _ (hpre c).2
    rw [Cert.AttnGradIdeal.Read.val_main_v69_eq, e0, e1, e2] at h0
    rw [Cert.AttnGradIdeal.Read.val_main_v67_eq, e0, e1, e2] at h1
    refine ⟨h0.trans ?_, h1.trans ?_, hargs⟩
    · refine Eq.trans ?_ (Cert.AttnBwdIdeal.Value.final4 m c).symm
      funext j; idx_vars j; exact Cert.AttnBwdIdeal.Value.ref4 _ _ _ hq hk _ _
    · refine Eq.trans ?_ (Cert.AttnBwdIdeal.Value.final5 m c).symm
      funext j; idx_vars j; exact Cert.AttnBwdIdeal.Value.ref5 _ _ _ hq hk _ _

end Cert.Proof

end
-- ==== Proof.LnRow.lean ====
module

public import Idealize.ShloMosaic.Lib.Pointwise
public import proofs.«01_k».proof.Proof.NormMath
public import proofs.«01_k».proof.Proof.Pieces

/-! The gradient of a layer norm and of the gate behind it, a row at a time. -/

@[expose] public section

noncomputable section

namespace Cert.LnRow

open Idealize.ShloMosaic Cert.NormMath

/-- The row length, as the programs divide by it. -/
abbrev len : EReal := Ideal.ofBits .f32 0x44000000#32

theorem len_eq : len = ((512 : ℝ) : EReal) := by
  simp [len, Ideal.ofBits, Ideal.ieee, -EReal.coe_mul]
  norm_num

theorem two_eq : Ideal.ofBits .f32 0x40000000#32 = ((2 : ℝ) : EReal) := by
  simp [Ideal.ofBits, Ideal.ieee, -EReal.coe_mul]
  norm_num

/-- The row less its mean. -/
def xc (X : Fin 512 → EReal) (l : Fin 512) : EReal := X l - Ideal.div (∑ k, X k) len

/-- The row's variance plus epsilon. -/
def ms (X : Fin 512 → EReal) : EReal := Ideal.div (∑ k, xc X k * xc X k) len + Ideal.ofBits .f32 0x358637BD#32

/-- The normalised row. -/
def xh (X : Fin 512 → EReal) (l : Fin 512) : EReal := xc X l * Ideal.rsqrt (ms X)

/-- The row's gradient, of the cotangent `Y` of the normalised row. -/
def dx (X Y : Fin 512 → EReal) (l : Fin 512) : EReal :=
  Ideal.rsqrt (ms X) * (Y l - Ideal.div (∑ k, Y k) len - xh X l * Ideal.div (∑ k, Y k * xh X k) len)

theorem xc_not_real {X : Fin 512 → EReal} {k : Fin 512} (hk : X k = ⊤ ∨ X k = ⊥) : xc X k = ⊤ ∨ xc X k = ⊥ := by
  have hm : ∑ k, X k = ⊤ ∨ ∑ k, X k = ⊥ := by
    by_cases hb : ∃ j, X j = ⊥
    · obtain ⟨j, hj⟩ := hb
      right
      rw [← Finset.add_sum_erase _ _ (Finset.mem_univ j), hj, EReal.bot_add]
    · left
      have hnb : ∀ j, X j ≠ ⊥ := fun j h => hb ⟨j, h⟩
      have ht : X k = ⊤ := hk.resolve_right (hnb k)
      rw [← Finset.add_sum_erase _ _ (Finset.mem_univ k), ht]
      refine EReal.top_add_of_ne_bot ?_
      refine Finset.sum_induction _ (fun a : EReal => a ≠ ⊥) (fun a b ha hb' h => ?_) (by simp) fun j _ => hnb j
      rcases EReal.add_eq_bot_iff.mp h with h | h
      · exact ha h
      · exact hb' h
  unfold xc
  rw [len_eq, Ideal.div_coe (by norm_num)]
  rcases hm with h | h <;> rcases hk with h' | h' <;> rw [h, h']
  · rw [EReal.top_mul_coe_of_pos (by norm_num)]; right; rfl
  · rw [EReal.top_mul_coe_of_pos (by norm_num)]; right; rfl
  · rw [EReal.bot_mul_coe_of_pos (by norm_num)]; left; rfl
  · rw [EReal.bot_mul_coe_of_pos (by norm_num)]; right; rfl

/-- Either the row is infinite somewhere and its variance infinite, or all is real. -/
theorem cases (X : Fin 512 → EReal) : ms X = ⊤ ∨
    ∃ (x : Fin 512 → ℝ) (ρ : ℝ), 0 < ρ ∧ ∑ k, x k = 0 ∧ (∀ k, xc X k = (x k : EReal)) ∧ ms X = (ρ : EReal) := by
  obtain ⟨e, he, hE⟩ := cEps
  have h := mean_sq_cases (xc X) (N := 512) (e := e) (by norm_num) he
  rw [← hE, ← len_eq] at h
  rcases h with h | ⟨x, ρ, hρ, hx, h⟩
  · exact .inl h
  · refine .inr ⟨x, ρ, hρ, ?_, hx, h⟩
    have hX : ∀ k, X k = ((X k).toReal : EReal) := fun k => by
      refine (EReal.coe_toReal ?_ ?_).symm <;> intro hk
      · rcases xc_not_real (.inl hk) with h' | h' <;> rw [hx] at h' <;> simp at h'
      · rcases xc_not_real (.inr hk) with h' | h' <;> rw [hx] at h' <;> simp at h'
    have hs : ∑ k, X k = ((∑ k, (X k).toReal : ℝ) : EReal) := by
      rw [← coe_sum]; exact Finset.sum_congr rfl fun k _ => hX k
    have e1 : ∀ k, x k = (X k).toReal - (∑ k, (X k).toReal) * (1 / 512) := fun k => by
      have := hx k
      unfold xc at this
      rw [hs, len_eq, Ideal.div_coe (by norm_num), hX k] at this
      exact_mod_cast this.symm
    rw [Finset.sum_congr rfl fun k _ => e1 k, Finset.sum_sub_distrib, Finset.sum_const, Finset.card_univ, Fintype.card_fin]
    ring

/-- The reference's derivative of the layer norm, of a real cotangent, is the closed form. -/
theorem dx_eq (X Y : Fin 512 → EReal) (hY : ∀ k, ∃ y : ℝ, Y k = (y : EReal)) (S : EReal) (l : Fin 512)
    (hS : S = Ideal.div ((∑ k, xc X k * Y k) * (Ideal.ofBits .f32 0xBF000000#32 * Ideal.div (Ideal.rsqrt (ms X)) (ms X))) len) :
    Y l * Ideal.rsqrt (ms X) + S * (Ideal.ofBits .f32 0x40000000#32 * xc X l)
        + Ideal.div (∑ k, -(Y k * Ideal.rsqrt (ms X)) + ∑ k, -(S * (Ideal.ofBits .f32 0x40000000#32 * xc X k))) len
      = dx X Y l := by
  choose y hy using hY
  unfold dx xh
  rw [cNegHalf] at hS
  rw [two_eq]
  rcases cases X with h | ⟨x, ρ, hρ, hx0, hx, h⟩
  · have h0 : Ideal.div (0 : EReal) ⊤ = 0 := Ideal.zero_div (by simp)
    have h1 : Ideal.div (0 : EReal) len = 0 := by rw [len_eq]; exact Ideal.zero_div (by norm_num)
    simp only [h, Ideal.rsqrt_top, h0, h1, zero_mul, mul_zero, add_zero] at hS
    subst hS
    simp only [h, Ideal.rsqrt_top, h0, h1, zero_mul, mul_zero, add_zero, neg_zero, Finset.sum_const_zero]
  · obtain ⟨s, hs, hs1, hr, hd⟩ := rsqrt_pos hρ
    simp only [h, hr, hd, hx, hy, len_eq, Ideal.div_coe (show (512 : ℝ) ≠ 0 by norm_num), ← EReal.coe_mul, ← EReal.coe_neg, coe_sum, ← EReal.coe_add, ← EReal.coe_sub] at hS ⊢
    subst hS
    simp only [← EReal.coe_mul, ← EReal.coe_neg, coe_sum, ← EReal.coe_add, ← EReal.coe_sub]
    norm_cast
    have e1 : ∑ k, -(y k * s) = -((∑ k, y k) * s) := by rw [Finset.sum_neg_distrib, Finset.sum_mul]
    have e2 : ∀ c : ℝ, ∑ k, -(c * (2 * x k)) = 0 := fun c => by
      rw [Finset.sum_neg_distrib, ← Finset.mul_sum, ← Finset.mul_sum, hx0]; ring
    have e3 : ∑ k, y k * (x k * s) = (∑ k, x k * y k) * s := by
      rw [Finset.sum_mul]; exact Finset.sum_congr rfl fun k _ => by ring
    rw [e1, e2, e3]
    ring

/-- The gate's derivative is real, whatever its argument. -/
theorem gate_real (l : EReal) : ∃ a b : ℝ, Cert.Pieces.sg l = (a : EReal) ∧ l * Cert.Pieces.sg l * (1 - Cert.Pieces.sg l) = (b : EReal) := by
  unfold Cert.Pieces.sg
  induction l with
  | coe x =>
    have hp : (1 + Real.exp (0 - x) : ℝ) ≠ 0 := by positivity
    refine ⟨1 * (1 / (1 + Real.exp (0 - x))), x * (1 * (1 / (1 + Real.exp (0 - x)))) * (1 - 1 * (1 / (1 + Real.exp (0 - x)))), ?_⟩
    have e : Ideal.div 1 (1 + Ideal.exp (0 - (x : EReal))) = ((1 * (1 / (1 + Real.exp (0 - x))) : ℝ) : EReal) := by
      have : (1 : EReal) + Ideal.exp (0 - (x : EReal)) = ((1 + Real.exp (0 - x) : ℝ) : EReal) := by
        rw [show (0 : EReal) - (x : EReal) = ((0 - x : ℝ) : EReal) by norm_cast, Ideal.exp_coe]; norm_cast
      rw [this, Ideal.div_coe hp]; norm_cast
    rw [e]
    exact ⟨rfl, by norm_cast⟩
  | top =>
    refine ⟨1, 0, ?_⟩
    have e : Ideal.div 1 (1 + Ideal.exp (0 - (⊤ : EReal))) = 1 := by
      rw [show (0 : EReal) - ⊤ = ⊥ from rfl, Ideal.exp_bot, add_zero]
      have := Ideal.div_coe (y := 1) one_ne_zero 1
      simpa using this
    rw [e]
    refine ⟨rfl, ?_⟩
    rw [show (1 : EReal) - 1 = 0 by rw [← EReal.coe_one, ← EReal.coe_sub, sub_self]; rfl, mul_zero]; rfl
  | bot =>
    refine ⟨0, 0, ?_⟩
    have e : Ideal.div 1 (1 + Ideal.exp (0 - (⊥ : EReal))) = 0 := by
      rw [show (0 : EReal) - ⊥ = ⊤ from rfl, Ideal.exp_top, show (1 : EReal) + ⊤ = ⊤ from EReal.coe_add_top 1]
      simp [Ideal.div]
    rw [e]
    exact ⟨rfl, by simp⟩

/-- The cotangent through the gate. -/
def dl (d l : EReal) : EReal := d * (Cert.Pieces.sg l + l * Cert.Pieces.sg l * (1 - Cert.Pieces.sg l))

theorem dl_real {d : EReal} (hd : ∃ d' : ℝ, d = (d' : EReal)) (l : EReal) : ∃ y : ℝ, dl d l = (y : EReal) := by
  obtain ⟨d, rfl⟩ := hd
  obtain ⟨a, b, ha, hb⟩ := gate_real l
  exact ⟨d * (a + b), by unfold dl; rw [hb, ha]; norm_cast⟩

theorem dl_eq {d : EReal} (hd : ∃ d' : ℝ, d = (d' : EReal)) (l : EReal) :
    d * Cert.Pieces.sg l + l * d * (Cert.Pieces.sg l * (1 - Cert.Pieces.sg l)) = dl d l := by
  obtain ⟨d, rfl⟩ := hd
  obtain ⟨a, b, ha, hb⟩ := gate_real l
  unfold dl
  rw [show l * (d : EReal) * (Cert.Pieces.sg l * (1 - Cert.Pieces.sg l)) = d * (l * Cert.Pieces.sg l * (1 - Cert.Pieces.sg l)) by ac_rfl, hb, ha]
  norm_cast
  ring

end Cert.LnRow

end
-- ==== Proof.LnSilu.lean ====
module

public import proofs.«01_k».proof.Proof.Gen.LnSiluBwdIdeal.Value
public import proofs.«01_k».proof.Proof.Gen.LnSiluGradIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.LnSiluGradIdeal.Run
public import proofs.«01_k».proof.Proof.Pieces
public import proofs.«01_k».proof.Proof.LnRow
public import proofs.«01_k».proof.Proof.Finite

@[expose] public section

set_option maxRecDepth 16384

noncomputable section

namespace Cert.Proof

theorem ln_finite_facts : Cert.Pre_ln_finite.Facts := by
  constructor <;> decide

end Cert.Proof

namespace Cert.LnSiluBwdIdeal.Value

instance ln_facts : Cert.Pre_ln_finite.Facts := Cert.Proof.ln_finite_facts

open Cert.LnSiluBwdIdeal Cert.LnSiluBwdIdeal.Gen Cert.Pieces Idealize.ShloMosaic Idealize.ShloMosaic.TcCoe Idealize.SL.Sem
open Idealize.ShloMosaic.Pipeline (Dat)

variable (m : (ℓ : Loc nD τ sig) → Buf (Elt Ideal) ℓ)

open Cert.LnRow (xc ms xh dx dl)

theorem idx : ∀ t : Fin cfg0.N, win0_0.index t = ![t.val, 0] ∧ win0_1.index t = ![0, 0] ∧ win0_2.index t = ![0, 0]
    ∧ win0_3.index t = ![t.val, 1] ∧ win0_4.index t = ![t.val, 0] ∧ win0_5.index t = ![0, 0] ∧ win0_6.index t = ![0, 0] :=
  (by decide +kernel : ∀ t : Fin grid0.N, _)

/-- A row of an array. -/
def row (X : ℕ → ℕ → EReal) (r : ℕ) (k : Fin 512) : EReal := X r k.val

/-- The cotangent through the gate, at row `r`. -/
def gate (X g b D : ℕ → ℕ → EReal) (r : ℕ) (l : Fin 512) : EReal := dl (D r l.val) (xh (row X r) l * g 0 l.val + b 0 l.val)

/-- The part that a row has in the gain's gradient. -/
def gain (X g b D : ℕ → ℕ → EReal) (l : Fin 512) (r : ℕ) : EReal := gate X g b D r l * xh (row X r) l

/-- The part that a row has in the shift's gradient. -/
def shift (X g b D : ℕ → ℕ → EReal) (l : Fin 512) (r : ℕ) : EReal := gate X g b D r l

/-- The input's gradient at row `r`. -/
def want (X g b D : ℕ → ℕ → EReal) (r : ℕ) (l : Fin 512) : EReal := dx (row X r) (fun k => gate X g b D r k * g 0 k.val) l

theorem tile4 (X : FVec Ideal S512x512 .f32) (g b : FVec Ideal S1x512 .f32) (D : FVec Ideal S512x512 .f32) (r : Fin 512) (l : Fin 512) :
    k0_pay1 (F := Ideal) (k0_pay7 (F := Ideal) X) (k0_pay8 (F := Ideal) X) (k0_pay10 (F := Ideal) X g b D) (k0_pay11 (F := Ideal) X g b D) (ix2 r l)
      = want (at2 X) (at2 g) (at2 b) (at2 D) r.val l := by
  pointwise [k0_pay1, k0_pay11, k0_pay10, k0_pay9, k0_pay8, k0_pay7, k0_pay6]
  simp only [at2_ix2]
  rfl

theorem tile5 (X : FVec Ideal S512x512 .f32) (g b : FVec Ideal S1x512 .f32) (D : FVec Ideal S512x512 .f32) (p : FVec Ideal S1x512 .f32) (l : Fin 512) :
    k0_pay4 (F := Ideal) (k0_pay8 (F := Ideal) X) (k0_pay9 (F := Ideal) X g b D) p (ix2 0 l)
      = p (ix2 0 l) + ∑ r : Fin 512, gain (at2 X) (at2 g) (at2 b) (at2 D) l r.val := by
  pointwise [k0_pay4, k0_pay9, k0_pay8, k0_pay7, k0_pay6]
  simp only [at2_ix2]
  rfl

theorem tile6 (X : FVec Ideal S512x512 .f32) (g b : FVec Ideal S1x512 .f32) (D : FVec Ideal S512x512 .f32) (p : FVec Ideal S1x512 .f32) (l : Fin 512) :
    k0_pay5 (F := Ideal) (k0_pay9 (F := Ideal) X g b D) p (ix2 0 l)
      = p (ix2 0 l) + ∑ r : Fin 512, shift (at2 X) (at2 g) (at2 b) (at2 D) l r.val := by
  pointwise [k0_pay5, k0_pay9, k0_pay8, k0_pay7, k0_pay6]
  simp only [at2_ix2]
  rfl

theorem out4 (c : Dev nD) (t : Fin cfg0.N) : (outsAt0 m c t.val t.isLt).1
    = k0_pay1 (k0_pay7 (iblk m c 0 t)) (k0_pay8 (iblk m c 0 t)) (k0_pay10 (iblk m c 0 t) (iblk m c 1 t) (iblk m c 2 t) (iblk m c 3 t)) (k0_pay11 (iblk m c 0 t) (iblk m c 1 t) (iblk m c 2 t) (iblk m c 3 t)) := by
  by_cases h : t.val % 8 = 0
  · rw [outsAt0_A m c t h]
    frame_out
  · rw [outsAt0_B m c t h]
    frame_out

theorem out5_zero (c : Dev nD) (t : Fin cfg0.N) (h : t.val % 8 = 0) : (outsAt0 m c t.val t.isLt).2.1
    = k0_pay4 (k0_pay8 (iblk m c 0 t)) (k0_pay9 (iblk m c 0 t) (iblk m c 1 t) (iblk m c 2 t) (iblk m c 3 t)) (k0_pay2 (F := Ideal)) := by
  rw [outsAt0_A m c t h]
  frame_out

theorem out5_step (c : Dev nD) (t : Fin cfg0.N) (h : ¬ t.val % 8 = 0) : (outsAt0 m c t.val t.isLt).2.1
    = k0_pay4 (k0_pay8 (iblk m c 0 t)) (k0_pay9 (iblk m c 0 t) (iblk m c 1 t) (iblk m c 2 t) (iblk m c 3 t)) (outsAt0 m c (t.val - 1) (Nat.lt_of_le_of_lt (Nat.sub_le _ _) t.isLt)).2.1 := by
  rw [outsAt0_B m c t h]
  frame_out

theorem out6_zero (c : Dev nD) (t : Fin cfg0.N) (h : t.val % 8 = 0) : (outsAt0 m c t.val t.isLt).2.2
    = k0_pay5 (k0_pay9 (iblk m c 0 t) (iblk m c 1 t) (iblk m c 2 t) (iblk m c 3 t)) (k0_pay3 (F := Ideal)) := by
  rw [outsAt0_A m c t h]
  frame_out

theorem out6_step (c : Dev nD) (t : Fin cfg0.N) (h : ¬ t.val % 8 = 0) : (outsAt0 m c t.val t.isLt).2.2
    = k0_pay5 (k0_pay9 (iblk m c 0 t) (iblk m c 1 t) (iblk m c 2 t) (iblk m c 3 t)) (outsAt0 m c (t.val - 1) (Nat.lt_of_le_of_lt (Nat.sub_le _ _) t.isLt)).2.2 := by
  rw [outsAt0_B m c t h]
  frame_out

/-! The blocks the points stage, as rows of the arrays. -/

/-- The half of the cotangent that the norm's output fills. -/
def half (D : ℕ → ℕ → EReal) (r k : ℕ) : EReal := D r (512 + k)

theorem blk0 (c : Dev nD) (t : Fin cfg0.N) (r : Fin 512) : row (at2 (m := 512) (n := 512) (iblk m c 0 t)) r.val
    = row (at2 (m := 4096) (n := 512) (m ((c : Thread nD τ).loc main_arg0))) (512 * t.val + r.val) := by
  funext k
  have ht : t.val < 8 := t.isLt
  unfold row
  rw [at2_of_lt _ _ _ r.isLt k.isLt, at2_of_lt _ _ _ (by have := r.isLt; omega) k.isLt]
  blk_point [iblk, V, idx t, Nat.mul_comm]

theorem blk1 (c : Dev nD) (t : Fin cfg0.N) (k : Fin 512) : at2 (m := 1) (n := 512) (iblk m c 1 t) 0 k.val
    = at2 (m := 1) (n := 512) (m ((c : Thread nD τ).loc main_arg1)) 0 k.val := by
  rw [at2_of_lt _ _ _ Nat.one_pos k.isLt, at2_of_lt _ _ _ Nat.one_pos k.isLt]
  blk_point [iblk, V, idx t]

theorem blk2 (c : Dev nD) (t : Fin cfg0.N) (k : Fin 512) : at2 (m := 1) (n := 512) (iblk m c 2 t) 0 k.val
    = at2 (m := 1) (n := 512) (m ((c : Thread nD τ).loc main_arg2)) 0 k.val := by
  rw [at2_of_lt _ _ _ Nat.one_pos k.isLt, at2_of_lt _ _ _ Nat.one_pos k.isLt]
  blk_point [iblk, V, idx t]

theorem blk3 (c : Dev nD) (t : Fin cfg0.N) (r k : Fin 512) : at2 (m := 512) (n := 512) (iblk m c 3 t) r.val k.val
    = half (at2 (m := 4096) (n := 1024) (m ((c : Thread nD τ).loc main_arg3))) (512 * t.val + r.val) k.val := by
  have ht : t.val < 8 := t.isLt
  unfold half
  rw [at2_of_lt _ _ _ r.isLt k.isLt, at2_of_lt _ _ _ (by have := r.isLt; omega) (by have := k.isLt; omega)]
  blk_point [iblk, V, idx t, Nat.mul_comm]

theorem blkG (c : Dev nD) (t : Fin cfg0.N) (r l : Fin 512) : gate (at2 (m := 512) (n := 512) (iblk m c 0 t)) (at2 (m := 1) (n := 512) (iblk m c 1 t)) (at2 (m := 1) (n := 512) (iblk m c 2 t)) (at2 (m := 512) (n := 512) (iblk m c 3 t)) r.val l
    = gate (at2 (m := 4096) (n := 512) (m ((c : Thread nD τ).loc main_arg0))) (at2 (m := 1) (n := 512) (m ((c : Thread nD τ).loc main_arg1))) (at2 (m := 1) (n := 512) (m ((c : Thread nD τ).loc main_arg2))) (half (at2 (m := 4096) (n := 1024) (m ((c : Thread nD τ).loc main_arg3)))) (512 * t.val + r.val) l := by
  unfold gate
  rw [blk0, blk1, blk2, blk3]

theorem pay1_eq (c : Dev nD) (t : Fin cfg0.N) (r l : Fin 512) : k0_pay1 (F := Ideal) (k0_pay7 (iblk m c 0 t)) (k0_pay8 (iblk m c 0 t)) (k0_pay10 (iblk m c 0 t) (iblk m c 1 t) (iblk m c 2 t) (iblk m c 3 t)) (k0_pay11 (iblk m c 0 t) (iblk m c 1 t) (iblk m c 2 t) (iblk m c 3 t)) (ix2 r l)
    = want (at2 (m := 4096) (n := 512) (m ((c : Thread nD τ).loc main_arg0))) (at2 (m := 1) (n := 512) (m ((c : Thread nD τ).loc main_arg1))) (at2 (m := 1) (n := 512) (m ((c : Thread nD τ).loc main_arg2))) (half (at2 (m := 4096) (n := 1024) (m ((c : Thread nD τ).loc main_arg3)))) (512 * t.val + r.val) l := by
  rw [tile4]
  unfold want
  rw [blk0]
  simp only [blkG, blk1]

theorem part5 (c : Dev nD) (t : Fin cfg0.N) (r l : Fin 512) : gain (at2 (m := 512) (n := 512) (iblk m c 0 t)) (at2 (m := 1) (n := 512) (iblk m c 1 t)) (at2 (m := 1) (n := 512) (iblk m c 2 t)) (at2 (m := 512) (n := 512) (iblk m c 3 t)) l r.val
    = gain (at2 (m := 4096) (n := 512) (m ((c : Thread nD τ).loc main_arg0))) (at2 (m := 1) (n := 512) (m ((c : Thread nD τ).loc main_arg1))) (at2 (m := 1) (n := 512) (m ((c : Thread nD τ).loc main_arg2))) (half (at2 (m := 4096) (n := 1024) (m ((c : Thread nD τ).loc main_arg3)))) l (512 * t.val + r.val) := by
  unfold gain
  rw [blkG, blk0]

theorem final4 (c : Dev nD) : (dats m 0 c).arrAt 4 (cfgs 0).N
    = fun y : S4096x512.Idx => want (at2 (m := 4096) (n := 512) (m ((c : Thread nD τ).loc main_arg0))) (at2 (m := 1) (n := 512) (m ((c : Thread nD τ).loc main_arg1))) (at2 (m := 1) (n := 512) (m ((c : Thread nD τ).loc main_arg2))) (half (at2 (m := 4096) (n := 1024) (m ((c : Thread nD τ).loc main_arg3)))) (y 0).val (y 1) := by
  refine (dats m 0 c).arrAt_eq_of_covers 4 _ (by decide +kernel) fun t _ y => ?_
  blk_simp
  rw [after0_4, out4]
  revert y
  refine fun (y : S512x512.Idx) => ?_
  obtain ⟨-, -, -, -, h4, -, -⟩ := idx t
  idx_vars y
  refine (pay1_eq m c t y0 y1).trans (congrArg₂ (want _ _ _ _) ?_ (Fin.ext ?_))
  · rw [h4, Nat.mul_comm]; rfl
  · blk_simp
    rw [h4]
    exact (Nat.zero_add _).symm

theorem sum5 (c : Dev nD) (l : Fin 512) : ∀ (n : ℕ) (hn : n < 8), (outsAt0 m c n hn).2.1 (ix2 0 l)
    = ∑ k ∈ Finset.range (n + 1), ∑ r : Fin 512, gain (at2 (m := 4096) (n := 512) (m ((c : Thread nD τ).loc main_arg0))) (at2 (m := 1) (n := 512) (m ((c : Thread nD τ).loc main_arg1))) (at2 (m := 1) (n := 512) (m ((c : Thread nD τ).loc main_arg2))) (half (at2 (m := 4096) (n := 1024) (m ((c : Thread nD τ).loc main_arg3)))) l (512 * k + r.val)
  | 0, hn => by
    rw [out5_zero m c ⟨0, hn⟩ rfl, tile5, Finset.sum_range_one]
    refine (congrArg₂ (· + ·) ?_ (Finset.sum_congr rfl fun r _ => part5 m c ⟨0, hn⟩ r l)).trans (zero_add _)
    pointwise [k0_pay2]
  | n + 1, hn => by
    rw [out5_step m c ⟨n + 1, hn⟩ (by show ¬ (n + 1) % 8 = 0; omega), tile5, Finset.sum_range_succ]
    exact congrArg₂ (· + ·) (sum5 c l n (by omega)) (Finset.sum_congr rfl fun r _ => part5 m c ⟨n + 1, hn⟩ r l)

theorem sum6 (c : Dev nD) (l : Fin 512) : ∀ (n : ℕ) (hn : n < 8), (outsAt0 m c n hn).2.2 (ix2 0 l)
    = ∑ k ∈ Finset.range (n + 1), ∑ r : Fin 512, shift (at2 (m := 4096) (n := 512) (m ((c : Thread nD τ).loc main_arg0))) (at2 (m := 1) (n := 512) (m ((c : Thread nD τ).loc main_arg1))) (at2 (m := 1) (n := 512) (m ((c : Thread nD τ).loc main_arg2))) (half (at2 (m := 4096) (n := 1024) (m ((c : Thread nD τ).loc main_arg3)))) l (512 * k + r.val)
  | 0, hn => by
    rw [out6_zero m c ⟨0, hn⟩ rfl, tile6, Finset.sum_range_one]
    refine (congrArg₂ (· + ·) ?_ (Finset.sum_congr rfl fun r _ => blkG m c ⟨0, hn⟩ r l)).trans (zero_add _)
    pointwise [k0_pay3]
  | n + 1, hn => by
    rw [out6_step m c ⟨n + 1, hn⟩ (by show ¬ (n + 1) % 8 = 0; omega), tile6, Finset.sum_range_succ]
    exact congrArg₂ (· + ·) (sum6 c l n (by omega)) (Finset.sum_congr rfl fun r _ => blkG m c ⟨n + 1, hn⟩ r l)

/-- The sum of all rows' parts. -/
def total (f : ℕ → EReal) : EReal := ∑ r : Fin 4096, f r.val

theorem final5 (c : Dev nD) : (dats m 0 c).arrAt 5 (cfgs 0).N
    = fun y : S1x512.Idx => total (gain (at2 (m := 4096) (n := 512) (m ((c : Thread nD τ).loc main_arg0))) (at2 (m := 1) (n := 512) (m ((c : Thread nD τ).loc main_arg1))) (at2 (m := 1) (n := 512) (m ((c : Thread nD τ).loc main_arg2))) (half (at2 (m := 4096) (n := 1024) (m ((c : Thread nD τ).loc main_arg3)))) (y 1)) := by
  refine (dats m 0 c).arrAt_eq_of_after_last 5 t0_7 (by decide +kernel) _ fun j => ?_
  blk_simp
  rw [after0_5]
  revert j
  refine fun (j : S1x512.Idx) => ?_
  idx_vars j
  obtain rfl : j0 = 0 := Subsingleton.elim _ _
  refine (sum5 m c j1 7 (by decide)).trans ?_
  exact (sum_chunks _ 512 8).trans (Fin.sum_univ_eq_sum_range (gain _ _ _ _ j1) 4096).symm

theorem final6 (c : Dev nD) : (dats m 0 c).arrAt 6 (cfgs 0).N
    = fun y : S1x512.Idx => total (shift (at2 (m := 4096) (n := 512) (m ((c : Thread nD τ).loc main_arg0))) (at2 (m := 1) (n := 512) (m ((c : Thread nD τ).loc main_arg1))) (at2 (m := 1) (n := 512) (m ((c : Thread nD τ).loc main_arg2))) (half (at2 (m := 4096) (n := 1024) (m ((c : Thread nD τ).loc main_arg3)))) (y 1)) := by
  refine (dats m 0 c).arrAt_eq_of_after_last 6 t0_7 (by decide +kernel) _ fun j => ?_
  blk_simp
  rw [after0_6]
  revert j
  refine fun (j : S1x512.Idx) => ?_
  idx_vars j
  obtain rfl : j0 = 0 := Subsingleton.elim _ _
  refine (sum6 m c j1 7 (by decide)).trans ?_
  exact (sum_chunks _ 512 8).trans (Fin.sum_univ_eq_sum_range (shift _ _ _ _ j1) 4096).symm

open Cert.LnSiluGradIdeal.Read

section Reference

variable (x : FVec Ideal S4096x512 .f32) (g b : FVec Ideal S1x512 .f32) (dy : FVec Ideal S4096x1024 .f32)

theorem mean (r : Fin 4096) (l : Fin 512) : val_main_v5 (F := Ideal) x (ix2 r l) = xc (row (at2 x) r.val) l := by
  pointwise [val_main_v0, val_main_v1, val_main_v2, val_main_v3, val_main_v4, val_main_v5, val_main_cst, val_main_cst_0]
  simp only [at2_ix2]
  rfl

theorem var (r : Fin 4096) : val_main_v16 (F := Ideal) x (ix2 r 0) = ms (row (at2 x) r.val) := by
  pointwise [val_main_v0, val_main_v1, val_main_v2, val_main_v3, val_main_v4, val_main_v5, val_main_v6, val_main_v9, val_main_v10, val_main_v11, val_main_v12, val_main_v15, val_main_v16, val_main_cst, val_main_cst_0, val_main_cst_2, val_main_cst_3, val_main_cst_4]
  simp only [at2_ix2]
  rfl

theorem normed (r : Fin 4096) (l : Fin 512) : val_main_v22 (F := Ideal) x (ix2 r l) = xh (row (at2 x) r.val) l := by
  refine Eq.trans ?_ (congrArg₂ (· * Ideal.rsqrt ·) (mean x r l) (var x r))
  pointwise [val_main_v22, val_main_v21, val_main_v17, val_main_v14, val_main_v13, val_main_v5, val_main_v4]

theorem act (r : Fin 4096) (l : Fin 512) (hd : ∃ d : ℝ, half (at2 dy) r.val l.val = (d : EReal)) :
    val_main_v29 (F := Ideal) x g b dy (ix2 r l) = gate (at2 x) (at2 g) (at2 b) (half (at2 dy)) r.val l := by
  have e : val_main_v26 (F := Ideal) x g b (ix2 r l) = xh (row (at2 x) r.val) l * at2 g 0 l.val + at2 b 0 l.val := by
    rw [← normed]
    pointwise [val_main_v26, val_main_v25, val_main_v24, val_main_v23]
    simp only [at2_ix2]
    rfl
  unfold gate
  rw [← Cert.LnRow.dl_eq hd, ← e]
  pointwise [val_main_v29, val_main_call1_v2, val_main_call1_v1, val_main_call1_v0, val_main_v28, val_main_v27_0, val_main_v27_1, val_main_v27_2, val_main_call0_v7, val_main_call0_v6, val_main_call0_cst_1, val_main_call0_v4, val_main_call0_cst_0, val_main_call0_v3, val_main_call0_v2, val_main_call0_cst, val_main_call0_v1, val_main_call0_v0]
  have hh : half (at2 dy) r.val l.val = dy (ix2 r ⟨512 + l.val, by have := l.isLt; omega⟩) := at2_of_lt _ _ _ r.isLt (by have := l.isLt; omega)
  unfold sg
  rw [hh, zero_sub]

theorem pure4 (hg : ∀ l : Fin 512, ∃ d : ℝ, at2 g 0 l.val = (d : EReal)) (hd : ∀ (r : Fin 4096) (l : Fin 512), ∃ d : ℝ, half (at2 dy) r.val l.val = (d : EReal)) (r : Fin 4096) (l : Fin 512) :
    val_main_v60 (F := Ideal) x g b dy (ix2 r l) = want (at2 x) (at2 g) (at2 b) (half (at2 dy)) r.val l := by
  unfold want
  refine Eq.trans ?_ (Cert.LnRow.dx_eq _ _ (fun k => ?_) _ l rfl)
  · simp only [← var x r, ← mean x r, ← act x g b dy r _ (hd r _)]
    pointwise [val_main_v36, val_main_v35, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_cst_9, val_main_cst_10, val_main_cst_11,val_main_cst_12,val_main_cst_13,val_main_cst_14,val_main_cst_8, val_main_v18, val_main_v21,val_main_v20,val_main_v19, val_main_cst_5, val_main_v22, val_main_v17, val_main_v14, val_main_v13, val_main_v8, val_main_v7, val_main_cst_1, val_main_v5, val_main_v4]
    simp only [Finset.univ_unique, Finset.sum_singleton, at2_ix2]
    rfl
  · obtain ⟨a, ha⟩ := hg k
    obtain ⟨y, hy⟩ := Cert.LnRow.dl_real (hd r k) (xh (row (at2 x) r.val) k * at2 g 0 k.val + at2 b 0 k.val)
    refine ⟨y * a, ?_⟩
    show gate _ _ _ _ _ _ * _ = _
    unfold gate
    rw [hy, ha]
    norm_cast

theorem pure5 (hd : ∀ (r : Fin 4096) (l : Fin 512), ∃ d : ℝ, half (at2 dy) r.val l.val = (d : EReal)) (l : Fin 512) :
    val_main_v34 (F := Ideal) x g b dy (ix2 0 l) = total (gain (at2 x) (at2 g) (at2 b) (half (at2 dy)) l) := by
  unfold total gain
  simp only [← act x g b dy _ _ (hd _ _), ← normed]
  pointwise [val_main_v34, val_main_v33, val_main_v32, val_main_cst_7]
  exact Finset.sum_congr (M := EReal) rfl fun r _ => mul_comm (G := EReal) _ _

theorem pure6 (hd : ∀ (r : Fin 4096) (l : Fin 512), ∃ d : ℝ, half (at2 dy) r.val l.val = (d : EReal)) (l : Fin 512) :
    val_main_v31 (F := Ideal) x g b dy (ix2 0 l) = total (shift (at2 x) (at2 g) (at2 b) (half (at2 dy)) l) := by
  unfold total shift
  simp only [← act x g b dy _ _ (hd _ _)]
  pointwise [val_main_v31, val_main_v30, val_main_cst_6]

end Reference

theorem pre_g (x : FVec Ideal S4096x512 .f32) (g b : FVec Ideal S1x512 .f32) (dy : FVec Ideal S4096x1024 .f32)
    (h : (Cert.Pre_ln_finite.fn (F := Ideal) x g b dy).1 = fun _ => 1#1) (l : Fin 512) : ∃ d : ℝ, at2 g 0 l.val = (d : EReal) := by
  have h := congrFun h (ix2 0 l)
  unfold Cert.Pre_ln_finite.fn at h
  pointwise [] at h
  obtain ⟨d, hd⟩ := Cert.Finite.real_of_mask h
  exact ⟨d, (at2_ix2 g 0 l).symm.trans hd⟩

theorem pre_d (x : FVec Ideal S4096x512 .f32) (g b : FVec Ideal S1x512 .f32) (dy : FVec Ideal S4096x1024 .f32)
    (h : (Cert.Pre_ln_finite.fn (F := Ideal) x g b dy).2 = fun _ => 1#1) (r : Fin 4096) (l : Fin 512) : ∃ d : ℝ, half (at2 dy) r.val l.val = (d : EReal) := by
  have h := congrFun h (ix2 r l)
  unfold Cert.Pre_ln_finite.fn at h
  pointwise [] at h
  obtain ⟨d, hd⟩ := Cert.Finite.real_of_mask h
  exact ⟨d, Eq.trans (at2_of_lt _ _ _ r.isLt (by have := l.isLt; omega)) hd⟩

end Cert.LnSiluBwdIdeal.Value

namespace Cert.Proof

open Idealize.ShloMosaic Idealize.SL.Sem

instance ln_facts : Cert.Pre_ln_finite.Facts := ln_finite_facts

/-- The layer norm's and the gate's backward call computes the reference's gradients, of a finite gain and cotangent. -/
theorem algebraic_LnSilu : Cert.algebraic_LnSiluBwdIdeal_LnSiluGradIdeal_pre_ln_finite := by
  pair_intro
  · run_from Cert.LnSiluBwdIdeal.Gen.run_main m g
  · refine (θ_run _ _ _).mono (fun r h c => ?_) (Cert.LnSiluGradIdeal.Value.run m' g')
    obtain ⟨h0, h1, h2, hargs⟩ := h c
    obtain ⟨e0, e1, e2, e3⟩ := hagree c
    have hg := Cert.LnSiluBwdIdeal.Value.pre_g _ _ _ _ (hpre c).1
    have hd := Cert.LnSiluBwdIdeal.Value.pre_d _ _ _ _ (hpre c).2
    rw [Cert.LnSiluGradIdeal.Read.val_main_v60_eq, e0, e1, e2, e3] at h0
    rw [Cert.LnSiluGradIdeal.Read.val_main_v34_eq, e0, e1, e2, e3] at h1
    rw [Cert.LnSiluGradIdeal.Read.val_main_v31_eq, e0, e1, e2, e3] at h2
    refine ⟨h0.trans ?_, h1.trans ?_, h2.trans ?_, hargs⟩
    · refine Eq.trans ?_ (Cert.LnSiluBwdIdeal.Value.final4 m c).symm
      funext j; idx_vars j; exact Cert.LnSiluBwdIdeal.Value.pure4 _ _ _ _ hg hd _ _
    · refine Eq.trans ?_ (Cert.LnSiluBwdIdeal.Value.final5 m c).symm
      funext j; idx_vars j
      obtain rfl : j0 = 0 := Subsingleton.elim _ _
      exact Cert.LnSiluBwdIdeal.Value.pure5 _ _ _ _ hd _
    · refine Eq.trans ?_ (Cert.LnSiluBwdIdeal.Value.final6 m c).symm
      funext j; idx_vars j
      obtain rfl : j0 = 0 := Subsingleton.elim _ _
      exact Cert.LnSiluBwdIdeal.Value.pure6 _ _ _ _ hd _

end Cert.Proof
-- ==== Proof.NormRow.lean ====
module

public import Idealize.ShloMosaic.Lib.Pointwise
public import proofs.«01_k».proof.Proof.NormMath

/-! The gradient of a root-mean-square norm, a row at a time: what the fused kernels write and what the references'
    derivative comes to. -/

@[expose] public section

noncomputable section

namespace Cert.NormRow

open Idealize.ShloMosaic

/-- The reciprocal root of a row's mean square. -/
def rs (X : Fin 1024 → EReal) : EReal :=
  Ideal.rsqrt (Ideal.div (∑ k, X k * X k) (Ideal.ofBits .f32 0x44800000#32) + Ideal.ofBits .f32 0x358637BD#32)

/-- The row's gradient, of the cotangent `P` of the scaled row. -/
def dx (P X g : Fin 1024 → EReal) (l : Fin 1024) : EReal :=
  rs X * (P l * g l - X l * rs X * Ideal.div (∑ k, P k * g k * (X k * rs X)) (Ideal.ofBits .f32 0x44800000#32))

/-- The row's part in the scale's gradient. -/
def dg (P X : Fin 1024 → EReal) (l : Fin 1024) : EReal := P l * (X l * rs X)

/-- What the reference's derivative of the norm comes to, with the cotangent that passes it by. -/
theorem dx_eq (P X g : Fin 1024 → EReal) (res : EReal) (l : Fin 1024) (ms s : EReal)
    (hms : ms = Ideal.div (∑ k, X k * X k) (Ideal.ofBits .f32 0x44800000#32) + Ideal.ofBits .f32 0x358637BD#32)
    (hs : s = Ideal.div ((∑ k, X k * (P k * g k)) * (Ideal.ofBits .f32 0xBF000000#32 * Ideal.div (Ideal.rsqrt ms) ms)) (Ideal.ofBits .f32 0x44800000#32)) :
    dx P X g l + res = res + P l * g l * Ideal.rsqrt ms + X l * s + s * X l := by
  obtain ⟨e, he, hE⟩ := Cert.NormMath.cEps
  subst hs
  rw [Cert.NormMath.cNegHalf]
  have h := Cert.NormMath.rms_row X (fun k => P k * g k) _ _ ms Cert.NormMath.c1024 hE (by norm_num) he hms l
  have e1 : dx P X g l = _ := Eq.trans (by unfold dx rs; rw [← hms]) h
  rw [e1, add_comm _ res, ← add_assoc, ← add_assoc]

end Cert.NormRow

end
-- ==== Proof.LossNorm.lean ====
module

public import proofs.«01_k».proof.Proof.Gen.LossHeadIdeal.Value
public import proofs.«01_k».proof.Proof.Gen.LossGradIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.LossGradIdeal.Run
public import proofs.«01_k».proof.Proof.Pieces
public import proofs.«01_k».proof.Proof.NormRow

@[expose] public section

set_option maxRecDepth 16384

noncomputable section

namespace Cert.LossHeadIdeal.Value

open Cert.LossHeadIdeal Cert.LossHeadIdeal.Gen Cert.Pieces Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-! One row: its error, its part of the loss, and the loss's cotangent. -/

def err (X g T : Fin 1024 → EReal) (l : Fin 1024) : EReal := X l * NormRow.rs X * g l - T l

def ct (X g T : Fin 1024 → EReal) (l : Fin 1024) : EReal := err X g T l * Ideal.ofBits .f32 0x3A800000#32

def msq (X g T : Fin 1024 → EReal) : EReal :=
  Ideal.div (∑ k, err X g T k * err X g T k) (Ideal.ofBits .f32 0x44800000#32)

/-- Half of the mean's share of the square's derivative is the error over the row length. -/
theorem ct_eq (x : EReal) : Ideal.div (Ideal.ofBits .f32 0x3F000000#32) (Ideal.ofBits .f32 0x44800000#32)
    * (Ideal.ofBits .f32 0x40000000#32 * x) = x * Ideal.ofBits .f32 0x3A800000#32 := by
  have h1 : Ideal.ofBits .f32 0x3F000000#32 = ((1 / 2 : ℝ) : EReal) := by simp [Ideal.ofBits, Ideal.ieee, -EReal.coe_mul]; norm_num
  have h3 : Ideal.ofBits .f32 0x40000000#32 = ((2 : ℝ) : EReal) := by simp [Ideal.ofBits, Ideal.ieee, -EReal.coe_mul]; norm_num
  have h4 : Ideal.ofBits .f32 0x3A800000#32 = ((1 / 1024 : ℝ) : EReal) := by simp [Ideal.ofBits, Ideal.ieee, -EReal.coe_mul]; norm_num
  rw [h1, h3, h4, NormMath.c1024, Ideal.div_coe (by norm_num), ← mul_assoc, ← EReal.coe_mul, ← EReal.coe_mul, mul_comm]
  congr 2
  norm_num

/-- Halves come out of a sum. -/
theorem half_sum {n : ℕ} (f : Fin n → EReal) : Ideal.ofBits .f32 0x3F000000#32 * ∑ k, f k = ∑ k, Ideal.ofBits .f32 0x3F000000#32 * f k := by
  have h1 : Ideal.ofBits .f32 0x3F000000#32 = ((1 / 2 : ℝ) : EReal) := by simp [Ideal.ofBits, Ideal.ieee, -EReal.coe_mul]; norm_num
  rw [h1, mul_comm, ← NormMath.sum_mul_real f (by norm_num)]
  exact Finset.sum_congr rfl fun k _ => mul_comm _ _

/-- The row `r` of an array. -/
abbrev row {n : ℕ} (x : (⟨2, ![n, 1024]⟩ : Shape).Idx → EReal) (r : ℕ) : Fin 1024 → EReal := fun k => at2 (m := n) (n := 1024) x r k.val

theorem tile4 (x : FVec Ideal S512x1024 .f32) (g : FVec Ideal S1x1024 .f32) (t : FVec Ideal S512x1024 .f32) (r : Fin 512) (l : Fin 1024) :
    k0_pay11 (F := Ideal) x g t (ix2 r l) = NormRow.dx (ct (row x r.val) (row g 0) (row t r.val)) (row x r.val) (row g 0) l := by
  pointwise [k0_pay11, k0_pay10, k0_pay8, k0_pay7, k0_pay6]
  simp only [at2_ix2]
  rfl

theorem tile6 (x : FVec Ideal S512x1024 .f32) (g : FVec Ideal S1x1024 .f32) (t : FVec Ideal S512x1024 .f32) (p : FVec Ideal S1x1024 .f32) (l : Fin 1024) :
    k0_pay4 (F := Ideal) (k0_pay7 (F := Ideal) x) (k0_pay10 (F := Ideal) x g t) p (ix2 0 l)
      = p (ix2 0 l) + ∑ r : Fin 512, NormRow.dg (ct (row x r.val) (row g 0) (row t r.val)) (row x r.val) l := by
  pointwise [k0_pay4, k0_pay10, k0_pay8, k0_pay7, k0_pay6]
  simp only [at2_ix2]
  rfl

theorem tile3 (x : FVec Ideal S512x1024 .f32) (g : FVec Ideal S1x1024 .f32) (t : FVec Ideal S512x1024 .f32) (p : FVec Ideal S1x128 .f32) (l : Fin 128) :
    k0_pay5 (F := Ideal) (k0_pay9 (F := Ideal) x g t) p (ix2 0 l)
      = p (ix2 0 l) + Ideal.ofBits .f32 0x3F000000#32 * ∑ r : Fin 512, msq (row x r.val) (row g 0) (row t r.val) := by
  pointwise [k0_pay5, k0_pay9, k0_pay8, k0_pay7, k0_pay6]
  simp only [at2_ix2]
  rfl

theorem out4 (c : Dev nD) (t : Fin cfg0.N) : (outsAt0 m c t.val t.isLt).2.1
    = k0_pay11 (iblk m c 0 t) (iblk m c 1 t) (iblk m c 2 t) := by
  by_cases h : t.val % 8 = 0
  · rw [outsAt0_A m c t h]
    frame_out
  · rw [outsAt0_B m c t h]
    frame_out

theorem out5 (c : Dev nD) (t : Fin cfg0.N) : (outsAt0 m c t.val t.isLt).2.2.1
    = k0_pay1 (k0_pay11 (iblk m c 0 t) (iblk m c 1 t) (iblk m c 2 t)) := by
  by_cases h : t.val % 8 = 0
  · rw [outsAt0_A m c t h]
    frame_out
  · rw [outsAt0_B m c t h]
    frame_out

theorem out6_zero (c : Dev nD) (t : Fin cfg0.N) (h : t.val % 8 = 0) : (outsAt0 m c t.val t.isLt).2.2.2
    = k0_pay4 (k0_pay7 (iblk m c 0 t)) (k0_pay10 (iblk m c 0 t) (iblk m c 1 t) (iblk m c 2 t)) (k0_pay2 (F := Ideal)) := by
  rw [outsAt0_A m c t h]
  frame_out

theorem out6_step (c : Dev nD) (t : Fin cfg0.N) (h : ¬ t.val % 8 = 0) : (outsAt0 m c t.val t.isLt).2.2.2
    = k0_pay4 (k0_pay7 (iblk m c 0 t)) (k0_pay10 (iblk m c 0 t) (iblk m c 1 t) (iblk m c 2 t)) (outsAt0 m c (t.val - 1) (Nat.lt_of_le_of_lt (Nat.sub_le _ _) t.isLt)).2.2.2 := by
  rw [outsAt0_B m c t h]
  frame_out

theorem out3_zero (c : Dev nD) (t : Fin cfg0.N) (h : t.val % 8 = 0) : (outsAt0 m c t.val t.isLt).1
    = k0_pay5 (k0_pay9 (iblk m c 0 t) (iblk m c 1 t) (iblk m c 2 t)) (k0_pay3 (F := Ideal)) := by
  rw [outsAt0_A m c t h]
  frame_out

theorem out3_step (c : Dev nD) (t : Fin cfg0.N) (h : ¬ t.val % 8 = 0) : (outsAt0 m c t.val t.isLt).1
    = k0_pay5 (k0_pay9 (iblk m c 0 t) (iblk m c 1 t) (iblk m c 2 t)) (outsAt0 m c (t.val - 1) (Nat.lt_of_le_of_lt (Nat.sub_le _ _) t.isLt)).1 := by
  rw [outsAt0_B m c t h]
  frame_out

/-! The blocks the points stage, as rows of the arrays. -/

theorem blk0 (c : Dev nD) (t : Fin cfg0.N) (r : Fin 512) : row (n := 512) (iblk m c 0 t) r.val
    = row (n := 4096) (m ((c : Thread nD τ).loc main_arg0)) (t.val * 512 + r.val) := by
  funext k
  have ht : t.val < 8 := t.isLt
  show at2 _ _ _ = at2 _ _ _
  rw [at2_of_lt _ _ _ r.isLt k.isLt, at2_of_lt _ _ _ (by have := r.isLt; omega) k.isLt]
  blk_point [iblk, V, idx t]

theorem blk1 (c : Dev nD) (t : Fin cfg0.N) : row (n := 1) (iblk m c 1 t) 0
    = row (n := 1) (m ((c : Thread nD τ).loc main_arg1)) 0 := by
  funext k
  show at2 _ _ _ = at2 _ _ _
  rw [at2_of_lt _ _ _ Nat.one_pos k.isLt, at2_of_lt _ _ _ Nat.one_pos k.isLt]
  blk_point [iblk, V, idx t]

theorem blk2 (c : Dev nD) (t : Fin cfg0.N) (r : Fin 512) : row (n := 512) (iblk m c 2 t) r.val
    = row (n := 4096) (m ((c : Thread nD τ).loc main_arg2)) (t.val * 512 + r.val) := by
  funext k
  have ht : t.val < 8 := t.isLt
  show at2 _ _ _ = at2 _ _ _
  rw [at2_of_lt _ _ _ r.isLt k.isLt, at2_of_lt _ _ _ (by have := r.isLt; omega) k.isLt]
  blk_point [iblk, V, idx t]

/-- The row gradient, at a position of the arrays. -/
def want (X : FVec Ideal S4096x1024 .f32) (g : FVec Ideal S1x1024 .f32) (T : FVec Ideal S4096x1024 .f32) (r : ℕ) (l : Fin 1024) : EReal :=
  NormRow.dx (ct (row X r) (row g 0) (row T r)) (row X r) (row g 0) l

/-- The scale's gradient: what row `r` adds. -/
def wantg (X : FVec Ideal S4096x1024 .f32) (g : FVec Ideal S1x1024 .f32) (T : FVec Ideal S4096x1024 .f32) (l : Fin 1024) (r : ℕ) : EReal :=
  NormRow.dg (ct (row X r) (row g 0) (row T r)) (row X r) l

/-- The loss: what row `r` adds. -/
def wantl (X : FVec Ideal S4096x1024 .f32) (g : FVec Ideal S1x1024 .f32) (T : FVec Ideal S4096x1024 .f32) (r : ℕ) : EReal :=
  Ideal.ofBits .f32 0x3F000000#32 * msq (row X r) (row g 0) (row T r)

theorem pay_eq (c : Dev nD) (t : Fin cfg0.N) (r : Fin 512) (l : Fin 1024) : k0_pay11 (F := Ideal) (iblk m c 0 t) (iblk m c 1 t) (iblk m c 2 t) (ix2 r l)
    = want (m ((c : Thread nD τ).loc main_arg0)) (m ((c : Thread nD τ).loc main_arg1)) (m ((c : Thread nD τ).loc main_arg2)) (t.val * 512 + r.val) l := by
  rw [tile4, blk0, blk1, blk2]
  rfl

theorem final4 (c : Dev nD) : (dats m 0 c).arrAt 4 (cfgs 0).N
    = fun y : S4096x1024.Idx => want (m ((c : Thread nD τ).loc main_arg0)) (m ((c : Thread nD τ).loc main_arg1)) (m ((c : Thread nD τ).loc main_arg2)) (y 0).val (y 1) := by
  refine (dats m 0 c).arrAt_eq_of_covers 4 _ (by decide +kernel) fun t _ y => ?_
  blk_simp
  rw [after0_4, out4]
  revert y
  refine fun (y : S512x1024.Idx) => ?_
  obtain ⟨-, -, -, h3, h4, h5, h6⟩ := idx t
  idx_vars y
  refine (pay_eq m c t y0 y1).trans (congrArg₂ (want _ _ _) ?_ (Fin.ext ?_))
  · rw [h4]; rfl
  · blk_simp
    rw [h4]
    exact (Nat.zero_add _).symm

theorem final5 (c : Dev nD) : (dats m 0 c).arrAt 5 (cfgs 0).N
    = fun y : S4096x1024.Idx => want (m ((c : Thread nD τ).loc main_arg0)) (m ((c : Thread nD τ).loc main_arg1)) (m ((c : Thread nD τ).loc main_arg2)) (y 0).val (y 1) := by
  refine (dats m 0 c).arrAt_eq_of_covers 5 _ (by decide +kernel) fun t _ y => ?_
  blk_simp
  rw [after0_5, out5]
  revert y
  refine fun (y : S512x1024.Idx) => ?_
  obtain ⟨-, -, -, h3, h4, h5, h6⟩ := idx t
  idx_vars y
  refine (pay_eq m c t y0 y1).trans (congrArg₂ (want _ _ _) ?_ (Fin.ext ?_))
  · rw [h5]; rfl
  · blk_simp
    rw [h5]
    exact (Nat.zero_add _).symm

theorem part6 (c : Dev nD) (t : Fin cfg0.N) (r : Fin 512) (l : Fin 1024) :
    NormRow.dg (ct (row (n := 512) (iblk m c 0 t) r.val) (row (n := 1) (iblk m c 1 t) 0) (row (n := 512) (iblk m c 2 t) r.val)) (row (n := 512) (iblk m c 0 t) r.val) l
      = wantg (m ((c : Thread nD τ).loc main_arg0)) (m ((c : Thread nD τ).loc main_arg1)) (m ((c : Thread nD τ).loc main_arg2)) l (512 * t.val + r.val) := by
  rw [blk0, blk1, blk2, Nat.mul_comm t.val]
  rfl

theorem part3 (c : Dev nD) (t : Fin cfg0.N) :
    Ideal.ofBits .f32 0x3F000000#32 * ∑ r : Fin 512, msq (row (n := 512) (iblk m c 0 t) r.val) (row (n := 1) (iblk m c 1 t) 0) (row (n := 512) (iblk m c 2 t) r.val)
      = ∑ r : Fin 512, wantl (m ((c : Thread nD τ).loc main_arg0)) (m ((c : Thread nD τ).loc main_arg1)) (m ((c : Thread nD τ).loc main_arg2)) (512 * t.val + r.val) := by
  rw [half_sum]
  refine Finset.sum_congr rfl fun r _ => ?_
  rw [blk0, blk1, blk2, Nat.mul_comm t.val]
  rfl

theorem sum6 (c : Dev nD) (l : Fin 1024) : ∀ n (hn : n < cfg0.N), (outsAt0 m c n hn).2.2.2 (ix2 0 l)
    = ∑ k ∈ Finset.range (n + 1), ∑ r : Fin 512, wantg (m ((c : Thread nD τ).loc main_arg0)) (m ((c : Thread nD τ).loc main_arg1)) (m ((c : Thread nD τ).loc main_arg2)) l (512 * k + r.val)
  | 0, hn => by
    rw [out6_zero m c ⟨0, hn⟩ rfl, tile6]
    rw [Finset.sum_range_one]
    refine (congrArg₂ (· + ·) ?_ (Finset.sum_congr rfl fun r _ => ?_)).trans (zero_add _)
    · pointwise [k0_pay2]
    · exact part6 m c ⟨0, hn⟩ r l
  | n + 1, hn => by
    have hN : n + 1 < 8 := hn
    rw [out6_step m c ⟨n + 1, hn⟩ (by show ¬ (n + 1) % 8 = 0; omega), tile6, Finset.sum_range_succ]
    refine congrArg₂ (· + ·) (sum6 c l n (Nat.lt_of_succ_lt hn)) (Finset.sum_congr rfl fun r _ => ?_)
    exact part6 m c ⟨n + 1, hn⟩ r l

theorem sum3 (c : Dev nD) (l : Fin 128) : ∀ n (hn : n < cfg0.N), (outsAt0 m c n hn).1 (ix2 0 l)
    = ∑ k ∈ Finset.range (n + 1), ∑ r : Fin 512, wantl (m ((c : Thread nD τ).loc main_arg0)) (m ((c : Thread nD τ).loc main_arg1)) (m ((c : Thread nD τ).loc main_arg2)) (512 * k + r.val)
  | 0, hn => by
    rw [out3_zero m c ⟨0, hn⟩ rfl, tile3]
    rw [Finset.sum_range_one]
    refine (congrArg₂ (· + ·) ?_ (part3 m c ⟨0, hn⟩)).trans (zero_add _)
    pointwise [k0_pay3]
  | n + 1, hn => by
    have hN : n + 1 < 8 := hn
    rw [out3_step m c ⟨n + 1, hn⟩ (by show ¬ (n + 1) % 8 = 0; omega), tile3, Finset.sum_range_succ]
    exact congrArg₂ (· + ·) (sum3 c l n (Nat.lt_of_succ_lt hn)) (part3 m c ⟨n + 1, hn⟩)

/-- The gradient of the gain: the sum of all rows. -/
def total (X : S4096x1024.Idx → EReal) (g : S1x1024.Idx → EReal) (T : S4096x1024.Idx → EReal) (l : Fin 1024) : EReal :=
  ∑ r : Fin 4096, wantg X g T l r.val

/-- The loss: the sum of all rows. -/
def loss (X : S4096x1024.Idx → EReal) (g : S1x1024.Idx → EReal) (T : S4096x1024.Idx → EReal) : EReal :=
  ∑ r : Fin 4096, wantl X g T r.val

theorem final6 (c : Dev nD) : (dats m 0 c).arrAt 6 (cfgs 0).N
    = fun y : S1x1024.Idx => total (m ((c : Thread nD τ).loc main_arg0)) (m ((c : Thread nD τ).loc main_arg1)) (m ((c : Thread nD τ).loc main_arg2)) (y 1) := by
  refine (dats m 0 c).arrAt_eq_of_after_last 6 t0_7 (by decide +kernel) _ fun j => ?_
  blk_simp
  rw [after0_6]
  revert j
  refine fun (j : S1x1024.Idx) => ?_
  idx_vars j
  obtain rfl : j0 = 0 := Subsingleton.elim _ _
  refine (sum6 m c j1 7 (by decide)).trans ?_
  exact (sum_chunks _ 512 8).trans (Fin.sum_univ_eq_sum_range (wantg _ _ _ j1) 4096).symm

theorem final3 (c : Dev nD) : (dats m 0 c).arrAt 3 (cfgs 0).N
    = fun _ : S1x128.Idx => loss (m ((c : Thread nD τ).loc main_arg0)) (m ((c : Thread nD τ).loc main_arg1)) (m ((c : Thread nD τ).loc main_arg2)) := by
  refine (dats m 0 c).arrAt_eq_of_after_last 3 t0_7 (by decide +kernel) _ fun j => ?_
  blk_simp
  rw [after0_3]
  revert j
  refine fun (j : S1x128.Idx) => ?_
  idx_vars j
  obtain rfl : j0 = 0 := Subsingleton.elim _ _
  refine (sum3 m c j1 7 (by decide)).trans ?_
  exact (sum_chunks _ 512 8).trans (Fin.sum_univ_eq_sum_range (wantl _ _ _) 4096).symm

/-! The reference, from the loss's cotangent on. -/

open Cert.LossGradIdeal.Read

theorem ref_ct (X : FVec Ideal S4096x1024 .f32) (g : FVec Ideal S1x1024 .f32) (T : FVec Ideal S4096x1024 .f32) (r : Fin 4096) (l : Fin 1024) :
    val_main_v29 (F := Ideal) X g T (ix2 r l) = ct (row X r.val) (row g 0) (row T r.val) l := by
  pointwise [val_main_v0, val_main_v1, val_main_v2, val_main_v3, val_main_v4, val_main_v5, val_main_v6, val_main_v7, val_main_v11, val_main_v12, val_main_v13, val_main_v14, val_main_v15, val_main_v17, val_main_v18, val_main_v24, val_main_v25, val_main_v26, val_main_v27, val_main_v28, val_main_v29, val_main_cst, val_main_cst_0, val_main_cst_1, val_main_cst_3, val_main_cst_8, val_main_cst_9, val_main_cst_10]
  rw [ct_eq]
  simp only [at2_ix2]
  rfl

theorem pure4 (X : FVec Ideal S4096x1024 .f32) (g : FVec Ideal S1x1024 .f32) (T : FVec Ideal S4096x1024 .f32) (r : Fin 4096) (l : Fin 1024) :
    want X g T r.val l = val_main_v48 (F := Ideal) X g T (ix2 r l) := by
  pointwise [val_main_v0, val_main_v1, val_main_v2, val_main_v3, val_main_v4, val_main_v5, val_main_v6, val_main_v7, val_main_v8, val_main_v9, val_main_v10, val_main_v33, val_main_v34, val_main_v35, val_main_v36, val_main_v37, val_main_v38, val_main_v39, val_main_v40, val_main_v41, val_main_v42, val_main_v43, val_main_v44, val_main_v45, val_main_v46, val_main_v47, val_main_v48, val_main_cst, val_main_cst_0, val_main_cst_1, val_main_cst_2, val_main_cst_12, val_main_cst_13, val_main_cst_14]
  simp only [ref_ct, Finset.univ_unique, Finset.sum_singleton]
  simp only [at2_ix2]
  obtain ⟨e, he, hE⟩ := NormMath.cEps
  rw [NormMath.cNegHalf]
  exact NormMath.rms_row (row X r.val) (fun k => ct (row X r.val) (row g 0) (row T r.val) k * row g 0 k) _ _ _ NormMath.c1024 hE (by norm_num) he rfl l

theorem pure6 (X : FVec Ideal S4096x1024 .f32) (g : FVec Ideal S1x1024 .f32) (T : FVec Ideal S4096x1024 .f32) (l : Fin 1024) :
    total X g T l = val_main_v32 (F := Ideal) X g T (ix2 0 l) := by
  pointwise [val_main_v0, val_main_v1, val_main_v2, val_main_v3, val_main_v4, val_main_v5, val_main_v6, val_main_v7, val_main_v11, val_main_v12, val_main_v30, val_main_v31, val_main_v32, val_main_cst, val_main_cst_0, val_main_cst_1, val_main_cst_11]
  simp only [ref_ct]
  simp only [at2_ix2]
  exact Finset.sum_congr (M := EReal) rfl fun r _ => mul_comm (G := EReal) _ _

theorem pure3 (X : FVec Ideal S4096x1024 .f32) (g : FVec Ideal S1x1024 .f32) (T : FVec Ideal S4096x1024 .f32) (l : Fin 128) :
    loss X g T = val_main_v49 (F := Ideal) X g T (ix2 0 l) := by
  refine (half_sum (fun r : Fin 4096 => msq (row X r.val) (row g 0) (row T r.val))).symm.trans ?_
  pointwise [val_main_v0, val_main_v1, val_main_v2, val_main_v3, val_main_v4, val_main_v5, val_main_v6, val_main_v7, val_main_v11, val_main_v12, val_main_v13, val_main_v14, val_main_v15, val_main_v16, val_main_v19, val_main_v20, val_main_v21, val_main_v22, val_main_v23, val_main_v49, val_main_cst, val_main_cst_0, val_main_cst_1, val_main_cst_4, val_main_cst_5, val_main_cst_6, val_main_cst_7]
  simp only [at2_ix2]
  rfl

end Cert.LossHeadIdeal.Value

namespace Cert.Proof

open Idealize.ShloMosaic Idealize.SL.Sem

/-- The final norm and the loss: the loss, the rows' gradient and the gain's gradient are the reference's. -/
theorem algebraic_LossNorm : Cert.algebraic_LossHeadIdeal_LossGradIdeal := by
  pair_intro
  · run_from Cert.LossHeadIdeal.Gen.run_main m g
  · refine (θ_run _ _ _).mono (fun r h c => ?_) (Cert.LossGradIdeal.Value.run m' g')
    obtain ⟨h0, h1, h2, h3, hargs⟩ := h c
    obtain ⟨e0, e1, e2⟩ := hagree c
    rw [Cert.LossGradIdeal.Read.val_main_v49_eq, e0, e1, e2] at h0
    rw [Cert.LossGradIdeal.Read.val_main_v48_eq, e0, e1, e2] at h1
    rw [Cert.LossGradIdeal.Read.val_main_v50_eq, e0, e1, e2] at h2
    rw [Cert.LossGradIdeal.Read.val_main_v32_eq, e0, e1, e2] at h3
    refine ⟨h0.trans ?_, h1.trans ?_, h2.trans ?_, h3.trans ?_, hargs⟩
    · refine Eq.trans ?_ (Cert.LossHeadIdeal.Value.final3 m c).symm
      funext j; idx_vars j
      obtain rfl : j0 = 0 := Subsingleton.elim _ _
      exact (Cert.LossHeadIdeal.Value.pure3 _ _ _ _).symm
    · refine Eq.trans ?_ (Cert.LossHeadIdeal.Value.final4 m c).symm
      funext j; idx_vars j; exact (Cert.LossHeadIdeal.Value.pure4 _ _ _ _ _).symm
    · refine Eq.trans ?_ (Cert.LossHeadIdeal.Value.final5 m c).symm
      funext j; idx_vars j
      exact ((Cert.LossHeadIdeal.Value.pure4 _ _ _ _ _).trans (Cert.LossGradIdeal.Read.val_main_v50_apply (F := Ideal) _ _ _ _).symm).symm
    · refine Eq.trans ?_ (Cert.LossHeadIdeal.Value.final6 m c).symm
      funext j; idx_vars j
      obtain rfl : j0 = 0 := Subsingleton.elim _ _
      exact (Cert.LossHeadIdeal.Value.pure6 _ _ _ _).symm

end Cert.Proof

end
-- ==== Proof.StackDot.lean ====
module

public import Idealize.ShloMosaic.Lib.MatmulPlain
public import Idealize.ShloMosaic.Lib.TwoAxisContraction
public import Idealize.ShloMosaic.Lib.IdealHost
public import Idealize.ShloMosaic.Lib.Pointwise
public import proofs.«01_k».proof.Proof.Pieces

/-! The product of a row cut in blocks with a stack of matrices, contracted over the block and over the position in
    it: one sum over the uncut row. -/

@[expose] public section

noncomputable section

namespace Cert.StackDot

open Idealize.ShloMosaic Cert.Pieces
open Idealize.ShloMosaic.ValueIdx (contrEquiv1 contrEquiv1_symm_val contrEquiv2 contrEquiv2_symm_val0 contrEquiv2_symm_val1)

/-- `[M, C, K] · [C, N, K] → [M, N]`, contracted over the blocks and over the positions in them. -/
def dims (M C K N : ℕ) (wf : DotDims.WF ⟨3, ![M, C, K]⟩ ⟨3, ![C, N, K]⟩ ⟨2, ![M, N]⟩ [1, 2] [0, 2] [0] [1] [] []) :
    DotDims ⟨3, ![M, C, K]⟩ ⟨3, ![C, N, K]⟩ ⟨2, ![M, N]⟩ where
  lhsContracting := [1, 2]
  rhsContracting := [0, 2]
  lhsNonContracting := [0]
  rhsNonContracting := [1]
  lhsBatch := []
  rhsBatch := []
  wf := wf

theorem apply {M C K N : ℕ} {φ₁ φ₂ : FTy} (wf) (x : FVec Ideal ⟨3, ![M, C, K]⟩ φ₁) (w : FVec Ideal ⟨3, ![C, N, K]⟩ φ₂)
    (prec : Option ContractPrecision) (r : Fin M) (l : Fin N) :
    Host.dotGeneral (F := Ideal) (dims M C K N wf) prec x w (ix2 r l) = ∑ c : Fin C, ∑ k : Fin K, x (ix3 r c k) * w (ix3 c l k) := by
  simp only [Host.dotGeneral]
  have hr : (dims M C K N wf).contr.rank = 2 := rfl
  have c0 : (dims M C K N wf).contr.size ⟨0, by rw [hr]; omega⟩ = C := rfl
  have c1 : (dims M C K N wf).contr.size ⟨1, by rw [hr]; omega⟩ = K := rfl
  rw [Ideal.dotGeneral_apply, ← Equiv.sum_comp (contrEquiv2 (dims M C K N wf) C K hr c0 c1).symm, Fintype.sum_prod_type]
  refine Finset.sum_congr rfl fun c _ => Finset.sum_congr rfl fun k _ => ?_
  have h0 := contrEquiv2_symm_val0 (dims M C K N wf) C K hr c0 c1 (c, k)
  have h1 := contrEquiv2_symm_val1 (dims M C K N wf) C K hr c0 c1 (c, k)
  refine congrArg₂ (· * ·) (congrArg x ?_) (congrArg w ?_)
  · funext a; apply Fin.ext
    match a with
    | ⟨0, _⟩ => rfl
    | ⟨1, _⟩ => exact h0
    | ⟨2, _⟩ => exact h1
  · funext a; apply Fin.ext
    match a with
    | ⟨0, _⟩ => exact h0
    | ⟨1, _⟩ => rfl
    | ⟨2, _⟩ => exact h1

/-- `[M, K] · [C, K, N] → [M, C, N]`: a row with each matrix of a stack. -/
def outDims (M C K N : ℕ) (wf : DotDims.WF ⟨2, ![M, K]⟩ ⟨3, ![C, K, N]⟩ ⟨3, ![M, C, N]⟩ [1] [1] [0] [0, 2] [] []) :
    DotDims ⟨2, ![M, K]⟩ ⟨3, ![C, K, N]⟩ ⟨3, ![M, C, N]⟩ where
  lhsContracting := [1]
  rhsContracting := [1]
  lhsNonContracting := [0]
  rhsNonContracting := [0, 2]
  lhsBatch := []
  rhsBatch := []
  wf := wf

theorem out_apply {M C K N : ℕ} {φ₁ φ₂ : FTy} (wf) (x : FVec Ideal ⟨2, ![M, K]⟩ φ₁) (w : FVec Ideal ⟨3, ![C, K, N]⟩ φ₂)
    (prec : Option ContractPrecision) (r : Fin M) (c : Fin C) (l : Fin N) :
    Host.dotGeneral (F := Ideal) (outDims M C K N wf) prec x w (ix3 r c l) = ∑ k : Fin K, x (ix2 r k) * w (ix3 c k l) := by
  simp only [Host.dotGeneral]
  have hr : (outDims M C K N wf).contr.rank = 1 := rfl
  have c0 : (outDims M C K N wf).contr.size ⟨0, by rw [hr]; omega⟩ = K := rfl
  rw [Ideal.dotGeneral_apply, ← Equiv.sum_comp (contrEquiv1 (outDims M C K N wf) K hr c0).symm]
  refine Finset.sum_congr rfl fun k _ => ?_
  have h0 := contrEquiv1_symm_val (outDims M C K N wf) K hr c0 k
  refine congrArg₂ (· * ·) (congrArg x ?_) (congrArg w ?_)
  · funext a; apply Fin.ext
    match a with
    | ⟨0, _⟩ => rfl
    | ⟨1, _⟩ => exact h0
  · funext a; apply Fin.ext
    match a with
    | ⟨0, _⟩ => rfl
    | ⟨1, _⟩ => exact h0
    | ⟨2, _⟩ => rfl

/-- A stack of matrices read at three numbers: zero outside. -/
def at3 {p m n : ℕ} (X : (⟨3, ![p, m, n]⟩ : Shape).Idx → EReal) (a b c : ℕ) : EReal :=
  if h : a < p ∧ b < m ∧ c < n then X (ix3 ⟨a, h.1⟩ ⟨b, h.2.1⟩ ⟨c, h.2.2⟩) else 0

theorem at3_ix3 {p m n : ℕ} (X : (⟨3, ![p, m, n]⟩ : Shape).Idx → EReal) (a : Fin p) (b : Fin m) (c : Fin n) : X (ix3 a b c) = at3 X a.val b.val c.val := by
  unfold at3
  rw [dif_pos ⟨a.isLt, b.isLt, c.isLt⟩]

theorem at3_of_lt {p m n : ℕ} (X : (⟨3, ![p, m, n]⟩ : Shape).Idx → EReal) (a b c : ℕ) (ha : a < p) (hb : b < m) (hc : c < n) :
    at3 X a b c = X (ix3 ⟨a, ha⟩ ⟨b, hb⟩ ⟨c, hc⟩) := dif_pos ⟨ha, hb, hc⟩

/-- Block `c`'s part in the product of row `r`, with blocks `K` wide. -/
def part (K : ℕ) (x : ℕ → ℕ → EReal) (w : ℕ → ℕ → ℕ → EReal) (r l c : ℕ) : EReal := ∑ k : Fin K, x r (K * c + k.val) * w c l k.val

/-- The product of the row with the stack of `C` matrices. -/
def prod (C K : ℕ) (x : ℕ → ℕ → EReal) (w : ℕ → ℕ → ℕ → EReal) (r l : ℕ) : EReal := ∑ c ∈ Finset.range C, part K x w r l c

/-- A product summed over four blocks: what a run that starts at block 0 and adds blocks 1 and 2 holds. -/
theorem acc_sum {N : ℕ} (a : ∀ n, n < N → EReal) (p : ℕ → ℕ → EReal) (h0 : ∀ n hn, n % 4 = 0 → a n hn = p (n / 4) 0)
    (hs : ∀ n (hn : n + 1 < N), 1 ≤ (n + 1) % 4 ∧ (n + 1) % 4 ≤ 2 → a (n + 1) hn = a n (Nat.lt_of_succ_lt hn) + p ((n + 1) / 4) ((n + 1) % 4)) :
    ∀ n (hn : n < N), n % 4 < 3 → a n hn = ∑ k ∈ Finset.range (n % 4 + 1), p (n / 4) k := by
  intro n
  induction n with
  | zero => exact fun hn _ => (h0 0 hn rfl).trans (Finset.sum_range_one _).symm
  | succ n ih =>
    intro hn h
    by_cases h0' : (n + 1) % 4 = 0
    · rw [h0 _ hn h0', h0']
      exact (Finset.sum_range_one _).symm
    · have e1 : (n + 1) % 4 = n % 4 + 1 := by omega
      have e2 : (n + 1) / 4 = n / 4 := by omega
      rw [hs n hn (by omega), Finset.sum_range_succ, ih (Nat.lt_of_succ_lt hn) (by omega), e1, e2]

/-- A result added to at the last of four blocks only: the sum of what those added. -/
theorem last_sum {N : ℕ} (g : ∀ n, n < N → EReal) (q : ℕ → EReal) (h0 : ∀ hn : 3 < N, g 3 hn = q 0)
    (keep : ∀ j (hj : j + 1 < N), (j + 1) % 4 < 3 → g (j + 1) hj = g j (Nat.lt_of_succ_lt hj))
    (hs : ∀ j (hj : j + 1 < N), (j + 1) % 4 = 3 → 4 ≤ j → g (j + 1) hj = g j (Nat.lt_of_succ_lt hj) + q ((j + 1) / 4)) :
    ∀ n (hn : 4 * n + 3 < N), g (4 * n + 3) hn = ∑ k ∈ Finset.range (n + 1), q k
  | 0, hn => (h0 hn).trans (Finset.sum_range_one _).symm
  | n + 1, hn => by
    have e : (4 * n + 6 + 1) / 4 = n + 1 := by omega
    have s := hs (4 * n + 6) hn (by omega) (by omega)
    rw [e, keep (4 * n + 5) (by omega) (by omega), keep (4 * n + 4) (by omega) (by omega), keep (4 * n + 3) (by omega) (by omega),
      last_sum g q h0 keep hs n (by omega)] at s
    exact s.trans (Finset.sum_range_succ _ _).symm

end Cert.StackDot

end
-- ==== Proof.NormUp.lean ====
module

public import proofs.«01_k».proof.Proof.Gen.NormUpBwdIdeal.Value
public import proofs.«01_k».proof.Proof.Gen.NormUpGradIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.NormUpGradIdeal.Run
public import proofs.«01_k».proof.Proof.Pieces
public import proofs.«01_k».proof.Proof.NormRow
public import proofs.«01_k».proof.Proof.StackDot
public import Idealize.ShloMosaic.Lib.Pipeline.ReadBack

@[expose] public section

set_option maxRecDepth 16384

noncomputable section

namespace Cert.NormUpBwdIdeal.Value

open Cert.NormUpBwdIdeal Cert.NormUpBwdIdeal.Gen Cert.Pieces Cert.StackDot Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, t.val % 4] ∧ win0_1.index t = ![t.val % 4, 0, 0] ∧ win0_2.index t = ![t.val / 4, 0]
    ∧ win0_3.index t = ![t.val / 4, 0] ∧ win0_4.index t = ![0, 0] ∧ win0_5.index t = ![t.val / 4, 0] ∧ win0_6.index t = ![t.val / 4, 0] ∧ win0_7.index t = ![0, 0] :=
  (by decide +kernel : ∀ t : Fin grid0.N, _)

/-- The row `r` of an array. -/
abbrev row {n : ℕ} (x : (⟨2, ![n, 1024]⟩ : Shape).Idx → EReal) (r : ℕ) : Fin 1024 → EReal := fun k => at2 (m := n) (n := 1024) x r k.val

/-- A tile's product, a row at a time. -/
def blkdot (x : FVec Ideal S512x1024 .bf16) (w : FVec Ideal S1x1024x1024 .bf16) (r l : ℕ) : EReal := ∑ k : Fin 1024, at2 x r k.val * at3 w 0 l k.val

theorem tile_fill (x : FVec Ideal S512x1024 .bf16) (w : FVec Ideal S1x1024x1024 .bf16) (r : Fin 512) (l : Fin 1024) :
    k0_pay1 (F := Ideal) x w (ix2 r l) = blkdot x w r.val l.val := by
  pointwise [k0_pay1]
  simp only [at2_ix2, at3_ix3]
  rfl

theorem tile_add (a : FVec Ideal S512x1024 .f32) (x : FVec Ideal S512x1024 .bf16) (w : FVec Ideal S1x1024x1024 .bf16) (r : Fin 512) (l : Fin 1024) :
    k0_pay2 (F := Ideal) a x w (ix2 r l) = a (ix2 r l) + blkdot x w r.val l.val := by
  pointwise [k0_pay2]
  simp only [at2_ix2, at3_ix3]
  rfl

theorem tile_last (a : FVec Ideal S512x1024 .f32) (x : FVec Ideal S512x1024 .bf16) (w : FVec Ideal S1x1024x1024 .bf16) (r : Fin 512) (l : Fin 1024) :
    k0_pay5 (F := Ideal) a x w (ix2 r l) = a (ix2 r l) + blkdot x w r.val l.val := by
  pointwise [k0_pay5]
  simp only [at2_ix2, at3_ix3]
  rfl

theorem tile5 (a : FVec Ideal S512x1024 .f32) (x : FVec Ideal S512x1024 .bf16) (w : FVec Ideal S1x1024x1024 .bf16) (X : FVec Ideal S512x1024 .f32) (g : FVec Ideal S1x1024 .f32)
    (res : FVec Ideal S512x1024 .f32) (r : Fin 512) (l : Fin 1024) :
    k0_pay8 (F := Ideal) a x w X g res (ix2 r l)
      = NormRow.dx (fun k => k0_pay5 (F := Ideal) a x w (ix2 r k)) (row X r.val) (row g 0) l + at2 res r.val l.val := by
  pointwise [k0_pay8, k0_pay7, k0_pay6]
  simp only [at2_ix2]
  rfl

theorem tile7 (a : FVec Ideal S512x1024 .f32) (X : FVec Ideal S512x1024 .f32) (p : FVec Ideal S1x1024 .f32) (l : Fin 1024) :
    k0_pay4 (F := Ideal) a (k0_pay7 (F := Ideal) X) p (ix2 0 l)
      = p (ix2 0 l) + ∑ r : Fin 512, NormRow.dg (fun k => a (ix2 r k)) (row X r.val) l := by
  pointwise [k0_pay4, k0_pay7, k0_pay6]
  simp only [at2_ix2]
  rfl

/-! What a point leaves: the product so far, and at the last block of a row tile the results. -/

theorem acc_zero (c : Dev nD) (t : Fin cfg0.N) (h : t.val % 4 = 0) : (outsAt0 m c t.val t.isLt).2.2.2 = k0_pay1 (iblk m c 0 t) (iblk m c 1 t) := by
  rw [outsAt0_A m c t h (by omega) (by omega)]
  frame_out

theorem acc_step (c : Dev nD) (t : Fin cfg0.N) (h : 1 ≤ t.val % 4 ∧ t.val % 4 ≤ 2) : (outsAt0 m c t.val t.isLt).2.2.2
    = k0_pay2 (outsAt0 m c (t.val - 1) (Nat.lt_of_le_of_lt (Nat.sub_le _ _) t.isLt)).2.2.2 (iblk m c 0 t) (iblk m c 1 t) := by
  rw [outsAt0_B m c t (by omega) h (by omega)]
  frame_out
  rw [read_unread_whole]

theorem keep7 (c : Dev nD) (t : Fin cfg0.N) (h : t.val % 4 < 3) : (outsAt0 m c t.val t.isLt).2.2.1
    = (outsAt0 m c (t.val - 1) (Nat.lt_of_le_of_lt (Nat.sub_le _ _) t.isLt)).2.2.1 := by
  by_cases h0 : t.val % 4 = 0
  · rw [outsAt0_A m c t h0 (by omega) (by omega)]
    frame_out
    rfl
  · rw [outsAt0_B m c t h0 (by omega) (by omega)]
    frame_out
    rfl

theorem out5 (c : Dev nD) (t : Fin cfg0.N) (h : t.val % 4 = 3) : (outsAt0 m c t.val t.isLt).1
    = k0_pay8 (outsAt0 m c (t.val - 1) (Nat.lt_of_le_of_lt (Nat.sub_le _ _) t.isLt)).2.2.2 (iblk m c 0 t) (iblk m c 1 t) (iblk m c 3 t) (iblk m c 4 t) (iblk m c 2 t) := by
  by_cases h3 : t.val < 4
  · rw [outsAt0_C m c t (by omega) (by omega) h h3]
    frame_out
    rw [read_unread_whole]
  · rw [outsAt0_D m c t (by omega) (by omega) h h3]
    frame_out
    rw [read_unread_whole]

theorem out6 (c : Dev nD) (t : Fin cfg0.N) (h : t.val % 4 = 3) : (outsAt0 m c t.val t.isLt).2.1
    = k0_pay9 (outsAt0 m c (t.val - 1) (Nat.lt_of_le_of_lt (Nat.sub_le _ _) t.isLt)).2.2.2 (iblk m c 0 t) (iblk m c 1 t) (iblk m c 3 t) (iblk m c 4 t) (iblk m c 2 t) := by
  by_cases h3 : t.val < 4
  · rw [outsAt0_C m c t (by omega) (by omega) h h3]
    frame_out
    rw [read_unread_whole]
  · rw [outsAt0_D m c t (by omega) (by omega) h h3]
    frame_out
    rw [read_unread_whole]

theorem out7_zero (c : Dev nD) (t : Fin cfg0.N) (h : t.val % 4 = 3) (h3 : t.val < 4) : (outsAt0 m c t.val t.isLt).2.2.1
    = k0_pay4 (k0_pay5 (outsAt0 m c (t.val - 1) (Nat.lt_of_le_of_lt (Nat.sub_le _ _) t.isLt)).2.2.2 (iblk m c 0 t) (iblk m c 1 t)) (k0_pay7 (iblk m c 3 t)) (k0_pay3 (F := Ideal)) := by
  rw [outsAt0_C m c t (by omega) (by omega) h h3]
  frame_out
  rw [read_unread_whole]

theorem out7_step (c : Dev nD) (t : Fin cfg0.N) (h : t.val % 4 = 3) (h3 : ¬ t.val < 4) : (outsAt0 m c t.val t.isLt).2.2.1
    = k0_pay4 (k0_pay5 (outsAt0 m c (t.val - 1) (Nat.lt_of_le_of_lt (Nat.sub_le _ _) t.isLt)).2.2.2 (iblk m c 0 t) (iblk m c 1 t)) (k0_pay7 (iblk m c 3 t))
      (outsAt0 m c (t.val - 1) (Nat.lt_of_le_of_lt (Nat.sub_le _ _) t.isLt)).2.2.1 := by
  rw [outsAt0_D m c t (by omega) (by omega) h h3]
  frame_out
  rw [read_unread_whole]

/-! The blocks the points stage, as rows of the arrays. -/

theorem blk0 (c : Dev nD) (t : Fin cfg0.N) (r : Fin 512) (k : Fin 1024) : at2 (m := 512) (n := 1024) (iblk m c 0 t) r.val k.val
    = at2 (m := 4096) (n := 4096) (m ((c : Thread nD τ).loc main_arg0)) (512 * (t.val / 4) + r.val) (1024 * (t.val % 4) + k.val) := by
  have ht : t.val < 32 := t.isLt
  rw [at2_of_lt _ _ _ r.isLt k.isLt, at2_of_lt _ _ _ (by have := r.isLt; omega) (by have := k.isLt; omega)]
  blk_point [iblk, V, idx t, Nat.mul_comm]

theorem blk1 (c : Dev nD) (t : Fin cfg0.N) (l : Fin 1024) (k : Fin 1024) : at3 (p := 1) (m := 1024) (n := 1024) (iblk m c 1 t) 0 l.val k.val
    = at3 (p := 4) (m := 1024) (n := 1024) (m ((c : Thread nD τ).loc main_arg1)) (t.val % 4) l.val k.val := by
  rw [at3_of_lt _ _ _ _ Nat.one_pos l.isLt k.isLt, at3_of_lt _ _ _ _ (Nat.mod_lt _ (by decide)) l.isLt k.isLt]
  blk_point [iblk, V, idx t, Nat.mul_comm]

theorem blk2 (c : Dev nD) (t : Fin cfg0.N) (r : Fin 512) : row (n := 512) (iblk m c 2 t) r.val
    = row (n := 4096) (m ((c : Thread nD τ).loc main_arg2)) (512 * (t.val / 4) + r.val) := by
  funext k
  have ht : t.val < 32 := t.isLt
  show at2 _ _ _ = at2 _ _ _
  rw [at2_of_lt _ _ _ r.isLt k.isLt, at2_of_lt _ _ _ (by have := r.isLt; omega) k.isLt]
  blk_point [iblk, V, idx t, Nat.mul_comm]

theorem blk3 (c : Dev nD) (t : Fin cfg0.N) (r : Fin 512) : row (n := 512) (iblk m c 3 t) r.val
    = row (n := 4096) (m ((c : Thread nD τ).loc main_arg3)) (512 * (t.val / 4) + r.val) := by
  funext k
  have ht : t.val < 32 := t.isLt
  show at2 _ _ _ = at2 _ _ _
  rw [at2_of_lt _ _ _ r.isLt k.isLt, at2_of_lt _ _ _ (by have := r.isLt; omega) k.isLt]
  blk_point [iblk, V, idx t, Nat.mul_comm]

theorem blk4 (c : Dev nD) (t : Fin cfg0.N) : row (n := 1) (iblk m c 4 t) 0 = row (n := 1) (m ((c : Thread nD τ).loc main_arg4)) 0 := by
  funext k
  show at2 _ _ _ = at2 _ _ _
  rw [at2_of_lt _ _ _ Nat.one_pos k.isLt, at2_of_lt _ _ _ Nat.one_pos k.isLt]
  blk_point [iblk, V, idx t]

theorem blkdot_eq (c : Dev nD) (t : Fin cfg0.N) (r : Fin 512) (l : Fin 1024) : blkdot (iblk m c 0 t) (iblk m c 1 t) r.val l.val
    = part 1024 (at2 (m := 4096) (n := 4096) (m ((c : Thread nD τ).loc main_arg0))) (at3 (p := 4) (m := 1024) (n := 1024) (m ((c : Thread nD τ).loc main_arg1))) (512 * (t.val / 4) + r.val) l.val (t.val % 4) :=
  Finset.sum_congr rfl fun k _ => congrArg₂ (· * ·) (blk0 m c t r k) (blk1 m c t l k)

/-- The product's row, of the arrays. -/
def dot (x : FVec Ideal S4096x4096 .bf16) (w : FVec Ideal S4x1024x1024 .bf16) (r : ℕ) (l : Fin 1024) : EReal := prod 4 1024 (at2 x) (at3 w) r l.val

theorem acc_eq (c : Dev nD) (r : Fin 512) (l : Fin 1024) : ∀ n (hn : n < cfg0.N), n % 4 < 3 → (outsAt0 m c n hn).2.2.2 (ix2 r l)
    = ∑ k ∈ Finset.range (n % 4 + 1), part 1024 (at2 (m := 4096) (n := 4096) (m ((c : Thread nD τ).loc main_arg0))) (at3 (p := 4) (m := 1024) (n := 1024) (m ((c : Thread nD τ).loc main_arg1))) (512 * (n / 4) + r.val) l.val k := by
  refine acc_sum (fun n hn => (outsAt0 m c n hn).2.2.2 (ix2 r l)) (fun q k => part 1024 (at2 (m := 4096) (n := 4096) (m ((c : Thread nD τ).loc main_arg0)))
    (at3 (p := 4) (m := 1024) (n := 1024) (m ((c : Thread nD τ).loc main_arg1))) (512 * q + r.val) l.val k) (fun n hn h => ?_) (fun n hn h => ?_)
  · refine (congrFun (acc_zero m c ⟨n, hn⟩ h) _).trans ?_
    rw [tile_fill, blkdot_eq]
    exact congrArg (part _ _ _ _ _) h
  · refine (congrFun (acc_step m c ⟨n + 1, hn⟩ h) _).trans ?_
    rw [tile_add, blkdot_eq]
    rfl

/-- At the last block the tile's product is complete. -/
theorem last_eq (c : Dev nD) (t : Fin cfg0.N) (h : t.val % 4 = 3) (r : Fin 512) :
    (fun k => k0_pay5 (F := Ideal) (outsAt0 m c (t.val - 1) (Nat.lt_of_le_of_lt (Nat.sub_le _ _) t.isLt)).2.2.2 (iblk m c 0 t) (iblk m c 1 t) (ix2 r k))
      = dot (m ((c : Thread nD τ).loc main_arg0)) (m ((c : Thread nD τ).loc main_arg1)) (512 * (t.val / 4) + r.val) := by
  funext l
  have e1 : (t.val - 1) % 4 = 2 := by omega
  have e2 : (t.val - 1) / 4 = t.val / 4 := by omega
  rw [tile_last, blkdot_eq, acc_eq m c r l (t.val - 1) _ (by omega), e1, e2, h]
  exact (Finset.sum_range_succ _ _).symm

/-- The row gradient with the cotangent that passes the norm by, at a position of the arrays. -/
def want (x : FVec Ideal S4096x4096 .bf16) (w : FVec Ideal S4x1024x1024 .bf16) (res X : FVec Ideal S4096x1024 .f32) (g : FVec Ideal S1x1024 .f32) (r : ℕ) (l : Fin 1024) : EReal :=
  NormRow.dx (dot x w r) (row X r) (row g 0) l + row res r l

/-- The scale's gradient: what row `r` adds. -/
def wantg (x : FVec Ideal S4096x4096 .bf16) (w : FVec Ideal S4x1024x1024 .bf16) (X : FVec Ideal S4096x1024 .f32) (l : Fin 1024) (r : ℕ) : EReal :=
  NormRow.dg (dot x w r) (row X r) l

theorem pay_eq (c : Dev nD) (t : Fin cfg0.N) (h : t.val % 4 = 3) (r : Fin 512) (l : Fin 1024) :
    k0_pay8 (F := Ideal) (outsAt0 m c (t.val - 1) (Nat.lt_of_le_of_lt (Nat.sub_le _ _) t.isLt)).2.2.2 (iblk m c 0 t) (iblk m c 1 t) (iblk m c 3 t) (iblk m c 4 t) (iblk m c 2 t) (ix2 r l)
    = want (m ((c : Thread nD τ).loc main_arg0)) (m ((c : Thread nD τ).loc main_arg1)) (m ((c : Thread nD τ).loc main_arg2)) (m ((c : Thread nD τ).loc main_arg3))
      (m ((c : Thread nD τ).loc main_arg4)) (512 * (t.val / 4) + r.val) l := by
  rw [tile5, last_eq m c t h r, blk3, blk4]
  exact congrArg (_ + ·) (congrFun (blk2 m c t r) l)

theorem final5w (c : Dev nD) : (dats m 0 c).arrAt 5 (cfgs 0).N
    = fun y : S4096x1024.Idx => want (m ((c : Thread nD τ).loc main_arg0)) (m ((c : Thread nD τ).loc main_arg1)) (m ((c : Thread nD τ).loc main_arg2))
      (m ((c : Thread nD τ).loc main_arg3)) (m ((c : Thread nD τ).loc main_arg4)) (y 0).val (y 1) := by
  refine (dats m 0 c).arrAt_eq_of_covers 5 _ (by decide +kernel) fun t hf y => ?_
  have h : t.val % 4 = 3 := (flush0_5 t).mp hf
  blk_simp
  rw [after0_5, out5 m c t h]
  revert y
  refine fun (y : S512x1024.Idx) => ?_
  obtain ⟨-, -, -, -, -, h5, h6, h7⟩ := idx t
  idx_vars y
  refine (pay_eq m c t h y0 y1).trans (congrArg₂ (want _ _ _ _ _) ?_ (Fin.ext ?_))
  · rw [h5, Nat.mul_comm]; rfl
  · blk_simp
    rw [h5]
    exact (Nat.zero_add _).symm

theorem final6w (c : Dev nD) : (dats m 0 c).arrAt 6 (cfgs 0).N
    = fun y : S4096x1024.Idx => want (m ((c : Thread nD τ).loc main_arg0)) (m ((c : Thread nD τ).loc main_arg1)) (m ((c : Thread nD τ).loc main_arg2))
      (m ((c : Thread nD τ).loc main_arg3)) (m ((c : Thread nD τ).loc main_arg4)) (y 0).val (y 1) := by
  refine (dats m 0 c).arrAt_eq_of_covers 6 _ (by decide +kernel) fun t hf y => ?_
  have h : t.val % 4 = 3 := (flush0_6 t).mp hf
  blk_simp
  rw [after0_6, out6 m c t h]
  revert y
  refine fun (y : S512x1024.Idx) => ?_
  obtain ⟨-, -, -, -, -, h5, h6, h7⟩ := idx t
  idx_vars y
  refine (pay_eq m c t h y0 y1).trans (congrArg₂ (want _ _ _ _ _) ?_ (Fin.ext ?_))
  · rw [h6, Nat.mul_comm]; rfl
  · blk_simp
    rw [h6]
    exact (Nat.zero_add _).symm

theorem part7 (c : Dev nD) (t : Fin cfg0.N) (h : t.val % 4 = 3) (n : ℕ) (hn : t.val / 4 = n) (r : Fin 512) (l : Fin 1024) :
    NormRow.dg (fun k => k0_pay5 (F := Ideal) (outsAt0 m c (t.val - 1) (Nat.lt_of_le_of_lt (Nat.sub_le _ _) t.isLt)).2.2.2 (iblk m c 0 t) (iblk m c 1 t) (ix2 r k)) (row (n := 512) (iblk m c 3 t) r.val) l
      = wantg (m ((c : Thread nD τ).loc main_arg0)) (m ((c : Thread nD τ).loc main_arg1)) (m ((c : Thread nD τ).loc main_arg3)) l (512 * n + r.val) := by
  rw [last_eq m c t h r, blk3, hn]
  rfl

theorem sum7 (c : Dev nD) (l : Fin 1024) : ∀ n (hn : 4 * n + 3 < cfg0.N), (outsAt0 m c (4 * n + 3) hn).2.2.1 (ix2 0 l)
    = ∑ k ∈ Finset.range (n + 1), ∑ r : Fin 512, wantg (m ((c : Thread nD τ).loc main_arg0)) (m ((c : Thread nD τ).loc main_arg1)) (m ((c : Thread nD τ).loc main_arg3)) l (512 * k + r.val) := by
  refine last_sum (fun n hn => (outsAt0 m c n hn).2.2.1 (ix2 0 l)) (fun k => ∑ r : Fin 512, wantg (m ((c : Thread nD τ).loc main_arg0)) (m ((c : Thread nD τ).loc main_arg1))
    (m ((c : Thread nD τ).loc main_arg3)) l (512 * k + r.val)) (fun hn => ?_) (fun j hj h => congrFun (keep7 m c ⟨j + 1, hj⟩ h) _) (fun j hj h h4 => ?_)
  · refine (congrFun (out7_zero m c ⟨3, hn⟩ rfl (by show 3 < 4; omega)) _).trans ?_
    rw [tile7]
    refine (congrArg₂ (· + ·) ?_ (Finset.sum_congr rfl fun r _ => part7 m c ⟨3, hn⟩ rfl 0 (by show 3 / 4 = 0; omega) r l)).trans (zero_add _)
    pointwise [k0_pay3]
  · refine (congrFun (out7_step m c ⟨j + 1, hj⟩ h (by show ¬ j + 1 < 4; omega)) _).trans ?_
    rw [tile7]
    exact congrArg₂ (· + ·) rfl (Finset.sum_congr rfl fun r _ => part7 m c ⟨j + 1, hj⟩ h _ rfl r l)

/-- The gradient of the gain: the sum of all rows. -/
def total (x : S4096x4096.Idx → EReal) (w : S4x1024x1024.Idx → EReal) (X : S4096x1024.Idx → EReal) (l : Fin 1024) : EReal :=
  ∑ r : Fin 4096, wantg x w X l r.val

/-- The last point. -/
def tLast : Fin cfg0.N := ⟨31, by decide⟩

theorem final7w (c : Dev nD) : (dats m 0 c).arrAt 7 (cfgs 0).N
    = fun y : S1x1024.Idx => total (m ((c : Thread nD τ).loc main_arg0)) (m ((c : Thread nD τ).loc main_arg1)) (m ((c : Thread nD τ).loc main_arg3)) (y 1) := by
  refine (dats m 0 c).arrAt_eq_of_after_last 7 tLast (by decide +kernel) _ fun j => ?_
  blk_simp
  rw [after0_7]
  revert j
  refine fun (j : S1x1024.Idx) => ?_
  idx_vars j
  obtain rfl : j0 = 0 := Subsingleton.elim _ _
  refine (sum7 m c j1 7 (by decide)).trans ?_
  exact (sum_chunks _ 512 8).trans (Fin.sum_univ_eq_sum_range (wantg _ _ _ j1) 4096).symm

open Cert.NormUpGradIdeal.Read

/-- The reference contracts over the matrices and over their columns: the row's product. -/
theorem ref_dot (x : FVec Ideal S4096x4096 .bf16) (w : FVec Ideal S4x1024x1024 .bf16) (r : Fin 4096) (l : Fin 1024) :
    val_main_v20 (F := Ideal) x w (ix2 r l) = dot x w r.val l := by
  refine (StackDot.apply _ _ _ none r l).trans ?_
  refine (Finset.sum_congr rfl fun c _ => ?_).trans (Fin.sum_univ_eq_sum_range (fun c => part 1024 (at2 x) (at3 w) r.val l.val c) 4)
  refine Finset.sum_congr rfl fun k _ => congrArg₂ (· * ·) ?_ (at3_ix3 w c l k)
  rw [val_main_v19_apply]
  refine (apply_at2 x _).trans ?_
  have hr := r.isLt
  have hc := c.isLt
  have hk := k.isLt
  refine congrArg₂ (at2 x) ?_ ?_
  · show ((r.val * 4 + c.val) * 1024 + k.val) / 4096 = r.val
    omega
  · show ((r.val * 4 + c.val) * 1024 + k.val) % 4096 = 1024 * c.val + k.val
    omega

theorem pure5 (x : FVec Ideal S4096x4096 .bf16) (w : FVec Ideal S4x1024x1024 .bf16) (res X : FVec Ideal S4096x1024 .f32) (g : FVec Ideal S1x1024 .f32) (r : Fin 4096) (l : Fin 1024) :
    want x w res X g r.val l = val_main_v40 (F := Ideal) x w res X g (ix2 r l) := by
  pointwise [val_main_v1, val_main_v2, val_main_v3, val_main_v4, val_main_v5, val_main_v6, val_main_v7, val_main_v8, val_main_v9, val_main_v10, val_main_v11, val_main_v24, val_main_v25, val_main_v26, val_main_v27, val_main_v28, val_main_v29, val_main_v30, val_main_v31, val_main_v32, val_main_v33, val_main_v34, val_main_v35, val_main_v36, val_main_v37, val_main_v38, val_main_v39, val_main_v40, val_main_cst, val_main_cst_0, val_main_cst_1, val_main_cst_2, val_main_cst_3, val_main_cst_4, val_main_cst_5, val_main_cst_6]
  simp only [ref_dot, Finset.univ_unique, Finset.sum_singleton]
  simp only [at2_ix2]
  exact NormRow.dx_eq _ _ _ _ _ _ _ rfl rfl

theorem pure7 (x : FVec Ideal S4096x4096 .bf16) (w : FVec Ideal S4x1024x1024 .bf16) (X : FVec Ideal S4096x1024 .f32) (l : Fin 1024) :
    total x w X l = val_main_v23 (F := Ideal) x w X (ix2 0 l) := by
  pointwise [val_main_v1, val_main_v2, val_main_v3, val_main_v4, val_main_v5, val_main_v6, val_main_v7, val_main_v8, val_main_v12, val_main_v13, val_main_v21, val_main_v22, val_main_v23, val_main_cst, val_main_cst_0, val_main_cst_1, val_main_cst_3]
  simp only [ref_dot]
  simp only [at2_ix2]
  exact Finset.sum_congr (M := EReal) rfl fun r _ => mul_comm (G := EReal) _ _

end Cert.NormUpBwdIdeal.Value

namespace Cert.Proof

open Idealize.ShloMosaic Idealize.SL.Sem

/-- The gradient through the stacked projection and its norm, accumulated over the matrices, is the reference's. -/
theorem algebraic_NormUp : Cert.algebraic_NormUpBwdIdeal_NormUpGradIdeal := by
  pair_intro
  · run_from Cert.NormUpBwdIdeal.Gen.run_main m g
  · refine (θ_run _ _ _).mono (fun r h c => ?_) (Cert.NormUpGradIdeal.Value.run m' g')
    obtain ⟨h0, h1, h2, hargs⟩ := h c
    obtain ⟨e0, e1, e2, e3, e4⟩ := hagree c
    rw [Cert.NormUpGradIdeal.Read.val_main_v40_eq, e0, e1, e2, e3, e4] at h0
    rw [Cert.NormUpGradIdeal.Read.val_main_v41_eq, e0, e1, e2, e3, e4] at h1
    rw [Cert.NormUpGradIdeal.Read.val_main_v23_eq, e0, e1, e3] at h2
    refine ⟨h0.trans ?_, h1.trans ?_, h2.trans ?_, hargs⟩
    · refine Eq.trans ?_ (Cert.NormUpBwdIdeal.Value.final5w m c).symm
      funext j; idx_vars j; exact (Cert.NormUpBwdIdeal.Value.pure5 _ _ _ _ _ _ _).symm
    · refine Eq.trans ?_ (Cert.NormUpBwdIdeal.Value.final6w m c).symm
      funext j; idx_vars j
      exact ((Cert.NormUpBwdIdeal.Value.pure5 _ _ _ _ _ _ _).trans (Cert.NormUpGradIdeal.Read.val_main_v41_apply (F := Ideal) _ _ _ _ _ _).symm).symm
    · refine Eq.trans ?_ (Cert.NormUpBwdIdeal.Value.final7w m c).symm
      funext j; idx_vars j
      obtain rfl : j0 = 0 := Subsingleton.elim _ _
      exact (Cert.NormUpBwdIdeal.Value.pure7 _ _ _ _).symm

end Cert.Proof

end
-- ==== Proof.NormQ.lean ====
module

public import proofs.«01_k».proof.Proof.Gen.NormQBwdIdeal.Value
public import proofs.«01_k».proof.Proof.Gen.NormQGradIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.NormQGradIdeal.Run
public import proofs.«01_k».proof.Proof.Pieces
public import proofs.«01_k».proof.Proof.NormRow

@[expose] public section

set_option maxRecDepth 16384

noncomputable section

namespace Cert.NormQBwdIdeal.Value

open Cert.NormQBwdIdeal Cert.NormQBwdIdeal.Gen Cert.Pieces Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0] ∧ win0_7.index t = ![0, 0] :=
  (by decide +kernel : ∀ t : Fin grid0.N, _)

/-- The product's row. -/
def prod (x : ℕ → ℕ → EReal) (w : FVec Ideal S1024x1024 .bf16) (r : ℕ) (l : Fin 1024) : EReal :=
  ∑ k : Fin 1024, x r k.val * at2 w l.val k.val

theorem tile5 (x : FVec Ideal S512x1024 .bf16) (w : FVec Ideal S1024x1024 .bf16) (X : FVec Ideal S512x1024 .f32) (g : FVec Ideal S1x1024 .f32)
    (res : FVec Ideal S512x1024 .f32) (r : Fin 512) (l : Fin 1024) :
    k0_pay6 (F := Ideal) x w X g res (ix2 r l)
      = NormRow.dx (prod (at2 x) w r.val) (fun k => at2 X r.val k.val) (fun k => at2 g 0 k.val) l + at2 res r.val l.val := by
  pointwise [k0_pay6, k0_pay5, k0_pay4, k0_pay3]
  simp only [at2_ix2]
  rfl

theorem tile7 (x : FVec Ideal S512x1024 .bf16) (w : FVec Ideal S1024x1024 .bf16) (X : FVec Ideal S512x1024 .f32) (p : FVec Ideal S1x1024 .f32) (l : Fin 1024) :
    k0_pay2 (F := Ideal) (k0_pay3 (F := Ideal) x w) (k0_pay5 (F := Ideal) X) p (ix2 0 l)
      = p (ix2 0 l) + ∑ r : Fin 512, NormRow.dg (prod (at2 x) w r.val) (fun k => at2 X r.val k.val) l := by
  pointwise [k0_pay2, k0_pay5, k0_pay4, k0_pay3]
  simp only [at2_ix2]
  rfl

theorem out5 (c : Dev nD) (t : Fin cfg0.N) : (outsAt0 m c t.val t.isLt).1
    = k0_pay6 (iblk m c 0 t) (iblk m c 1 t) (iblk m c 3 t) (iblk m c 4 t) (iblk m c 2 t) := by
  by_cases h : t.val % 8 = 0
  · rw [outsAt0_A m c t h]
    frame_out
  · rw [outsAt0_B m c t h]
    frame_out

theorem out6 (c : Dev nD) (t : Fin cfg0.N) : (outsAt0 m c t.val t.isLt).2.1
    = k0_pay7 (iblk m c 0 t) (iblk m c 1 t) (iblk m c 3 t) (iblk m c 4 t) (iblk m c 2 t) := by
  by_cases h : t.val % 8 = 0
  · rw [outsAt0_A m c t h]
    frame_out
  · rw [outsAt0_B m c t h]
    frame_out

theorem out7_zero (c : Dev nD) (t : Fin cfg0.N) (h : t.val % 8 = 0) : (outsAt0 m c t.val t.isLt).2.2
    = k0_pay2 (k0_pay3 (iblk m c 0 t) (iblk m c 1 t)) (k0_pay5 (iblk m c 3 t)) (k0_pay1 (F := Ideal)) := by
  rw [outsAt0_A m c t h]
  frame_out

theorem out7_step (c : Dev nD) (t : Fin cfg0.N) (h : ¬ t.val % 8 = 0) : (outsAt0 m c t.val t.isLt).2.2
    = k0_pay2 (k0_pay3 (iblk m c 0 t) (iblk m c 1 t)) (k0_pay5 (iblk m c 3 t)) (outsAt0 m c (t.val - 1) (Nat.lt_of_le_of_lt (Nat.sub_le _ _) t.isLt)).2.2 := by
  rw [outsAt0_B m c t h]
  frame_out

/-! The blocks the points stage, as rows of the arrays. -/

theorem blk0 (c : Dev nD) (t : Fin cfg0.N) (r : Fin 512) (k : Fin 1024) : at2 (m := 512) (n := 1024) (iblk m c 0 t) r.val k.val
    = at2 (m := 4096) (n := 1024) (m ((c : Thread nD τ).loc main_arg0)) (t.val * 512 + r.val) k.val := by
  have ht : t.val < 8 := t.isLt
  rw [at2_of_lt _ _ _ r.isLt k.isLt, at2_of_lt _ _ _ (by have := r.isLt; omega) k.isLt]
  blk_point [iblk, V, idx t]

theorem blk1 (c : Dev nD) (t : Fin cfg0.N) (r k : Fin 1024) : at2 (m := 1024) (n := 1024) (iblk m c 1 t) r.val k.val
    = at2 (m := 1024) (n := 1024) (m ((c : Thread nD τ).loc main_arg1)) r.val k.val := by
  rw [at2_of_lt _ _ _ r.isLt k.isLt, at2_of_lt _ _ _ r.isLt k.isLt]
  blk_point [iblk, V, idx t]

theorem blk2 (c : Dev nD) (t : Fin cfg0.N) (r : Fin 512) (k : Fin 1024) : at2 (m := 512) (n := 1024) (iblk m c 2 t) r.val k.val
    = at2 (m := 4096) (n := 1024) (m ((c : Thread nD τ).loc main_arg2)) (t.val * 512 + r.val) k.val := by
  have ht : t.val < 8 := t.isLt
  rw [at2_of_lt _ _ _ r.isLt k.isLt, at2_of_lt _ _ _ (by have := r.isLt; omega) k.isLt]
  blk_point [iblk, V, idx t]

theorem blk3 (c : Dev nD) (t : Fin cfg0.N) (r : Fin 512) (k : Fin 1024) : at2 (m := 512) (n := 1024) (iblk m c 3 t) r.val k.val
    = at2 (m := 4096) (n := 1024) (m ((c : Thread nD τ).loc main_arg3)) (t.val * 512 + r.val) k.val := by
  have ht : t.val < 8 := t.isLt
  rw [at2_of_lt _ _ _ r.isLt k.isLt, at2_of_lt _ _ _ (by have := r.isLt; omega) k.isLt]
  blk_point [iblk, V, idx t]

theorem blk4 (c : Dev nD) (t : Fin cfg0.N) (k : Fin 1024) : at2 (m := 1) (n := 1024) (iblk m c 4 t) 0 k.val
    = at2 (m := 1) (n := 1024) (m ((c : Thread nD τ).loc main_arg4)) 0 k.val := by
  rw [at2_of_lt _ _ _ Nat.one_pos k.isLt, at2_of_lt _ _ _ Nat.one_pos k.isLt]
  blk_point [iblk, V, idx t]

theorem blkP (c : Dev nD) (t : Fin cfg0.N) (r : Fin 512) : prod (at2 (m := 512) (n := 1024) (iblk m c 0 t)) (iblk m c 1 t) r.val
    = prod (at2 (m := 4096) (n := 1024) (m ((c : Thread nD τ).loc main_arg0))) (m ((c : Thread nD τ).loc main_arg1)) (t.val * 512 + r.val) := by
  funext l
  exact Finset.sum_congr rfl fun k _ => congrArg₂ (· * ·) (blk0 m c t r k) (blk1 m c t l k)

/-- The row gradient with the cotangent that passes the norm by, at a position of the arrays. -/
def want (x : FVec Ideal S4096x1024 .bf16) (w : FVec Ideal S1024x1024 .bf16) (res X : FVec Ideal S4096x1024 .f32) (g : FVec Ideal S1x1024 .f32) (r : ℕ) (l : Fin 1024) : EReal :=
  NormRow.dx (prod (at2 x) w r) (fun k => at2 X r k.val) (fun k => at2 g 0 k.val) l + at2 res r l.val

/-- The scale's gradient: what row `r` adds. -/
def wantg (x : FVec Ideal S4096x1024 .bf16) (w : FVec Ideal S1024x1024 .bf16) (X : FVec Ideal S4096x1024 .f32) (l : Fin 1024) (r : ℕ) : EReal :=
  NormRow.dg (prod (at2 x) w r) (fun k => at2 X r k.val) l

theorem pay6_eq (c : Dev nD) (t : Fin cfg0.N) (r : Fin 512) (l : Fin 1024) : k0_pay6 (F := Ideal) (iblk m c 0 t) (iblk m c 1 t) (iblk m c 3 t) (iblk m c 4 t) (iblk m c 2 t) (ix2 r l)
    = want (m ((c : Thread nD τ).loc main_arg0)) (m ((c : Thread nD τ).loc main_arg1)) (m ((c : Thread nD τ).loc main_arg2)) (m ((c : Thread nD τ).loc main_arg3))
      (m ((c : Thread nD τ).loc main_arg4)) (t.val * 512 + r.val) l := by
  rw [tile5, blkP, blk2]
  simp only [blk3, blk4]
  rfl

theorem final5 (c : Dev nD) : (dats m 0 c).arrAt 5 (cfgs 0).N
    = fun y : S4096x1024.Idx => want (m ((c : Thread nD τ).loc main_arg0)) (m ((c : Thread nD τ).loc main_arg1)) (m ((c : Thread nD τ).loc main_arg2))
      (m ((c : Thread nD τ).loc main_arg3)) (m ((c : Thread nD τ).loc main_arg4)) (y 0).val (y 1) := by
  refine (dats m 0 c).arrAt_eq_of_covers 5 _ (by decide +kernel) fun t _ y => ?_
  blk_simp
  rw [after0_5, out5]
  revert y
  refine fun (y : S512x1024.Idx) => ?_
  obtain ⟨-, -, -, -, -, h5, h6, h7⟩ := idx t
  idx_vars y
  rw [pay6_eq]
  refine congrArg₂ (want _ _ _ _ _) ?_ (Fin.ext ?_)
  · rw [h5]; rfl
  · blk_simp
    rw [h5]
    exact (Nat.zero_add _).symm

theorem final6 (c : Dev nD) : (dats m 0 c).arrAt 6 (cfgs 0).N
    = fun y : S4096x1024.Idx => want (m ((c : Thread nD τ).loc main_arg0)) (m ((c : Thread nD τ).loc main_arg1)) (m ((c : Thread nD τ).loc main_arg2))
      (m ((c : Thread nD τ).loc main_arg3)) (m ((c : Thread nD τ).loc main_arg4)) (y 0).val (y 1) := by
  refine (dats m 0 c).arrAt_eq_of_covers 6 _ (by decide +kernel) fun t _ y => ?_
  blk_simp
  rw [after0_6, out6]
  revert y
  refine fun (y : S512x1024.Idx) => ?_
  obtain ⟨-, -, -, -, -, h5, h6, h7⟩ := idx t
  idx_vars y
  refine (pay6_eq m c t y0 y1).trans (congrArg₂ (want _ _ _ _ _) ?_ (Fin.ext ?_))
  · rw [h6]; rfl
  · blk_simp
    rw [h6]
    exact (Nat.zero_add _).symm

theorem part7 (c : Dev nD) (t : Fin cfg0.N) (r : Fin 512) (l : Fin 1024) :
    NormRow.dg (prod (at2 (m := 512) (n := 1024) (iblk m c 0 t)) (iblk m c 1 t) r.val) (fun k => at2 (m := 512) (n := 1024) (iblk m c 3 t) r.val k.val) l
      = wantg (m ((c : Thread nD τ).loc main_arg0)) (m ((c : Thread nD τ).loc main_arg1)) (m ((c : Thread nD τ).loc main_arg3)) l (512 * t.val + r.val) := by
  rw [blkP]
  simp only [blk3, Nat.mul_comm t.val]
  rfl

theorem sum7 (c : Dev nD) (l : Fin 1024) : ∀ n (hn : n < cfg0.N), (outsAt0 m c n hn).2.2 (ix2 0 l)
    = ∑ k ∈ Finset.range (n + 1), ∑ r : Fin 512, wantg (m ((c : Thread nD τ).loc main_arg0)) (m ((c : Thread nD τ).loc main_arg1)) (m ((c : Thread nD τ).loc main_arg3)) l (512 * k + r.val)
  | 0, hn => by
    rw [out7_zero m c ⟨0, hn⟩ rfl, tile7]
    rw [Finset.sum_range_one]
    refine (congrArg₂ (· + ·) ?_ (Finset.sum_congr rfl fun r _ => ?_)).trans (zero_add _)
    · pointwise [k0_pay1]
    · exact part7 m c ⟨0, hn⟩ r l
  | n + 1, hn => by
    have hN : n + 1 < 8 := hn
    rw [out7_step m c ⟨n + 1, hn⟩ (by show ¬ (n + 1) % 8 = 0; omega), tile7, Finset.sum_range_succ]
    refine congrArg₂ (· + ·) (sum7 c l n (Nat.lt_of_succ_lt hn)) (Finset.sum_congr rfl fun r _ => ?_)
    exact part7 m c ⟨n + 1, hn⟩ r l

/-- The gradient of the gain: the sum of all rows. -/
def total (x : S4096x1024.Idx → EReal) (w : S1024x1024.Idx → EReal) (X : S4096x1024.Idx → EReal) (l : Fin 1024) : EReal :=
  ∑ r : Fin 4096, wantg x w X l r.val

theorem final7 (c : Dev nD) : (dats m 0 c).arrAt 7 (cfgs 0).N
    = fun y : S1x1024.Idx => total (m ((c : Thread nD τ).loc main_arg0)) (m ((c : Thread nD τ).loc main_arg1)) (m ((c : Thread nD τ).loc main_arg3)) (y 1) := by
  refine (dats m 0 c).arrAt_eq_of_after_last 7 t0_7 (by decide +kernel) _ fun j => ?_
  blk_simp
  rw [after0_7]
  revert j
  refine fun (j : S1x1024.Idx) => ?_
  idx_vars j
  obtain rfl : j0 = 0 := Subsingleton.elim _ _
  refine (sum7 m c j1 7 (by decide)).trans ?_
  exact (sum_chunks _ 512 8).trans (Fin.sum_univ_eq_sum_range (wantg _ _ _ j1) 4096).symm

open Cert.NormQGradIdeal.Read

theorem pure5 (x : FVec Ideal S4096x1024 .bf16) (w : FVec Ideal S1024x1024 .bf16) (X : FVec Ideal S4096x1024 .f32) (g : FVec Ideal S1x1024 .f32)
    (res : FVec Ideal S4096x1024 .f32) (r : Fin 4096) (l : Fin 1024) :
    NormRow.dx (prod (at2 x) w r.val) (fun k => at2 X r.val k.val) (fun k => at2 g 0 k.val) l + at2 res r.val l.val
      = val_main_v38 (F := Ideal) x w res X g (ix2 r l) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst, val_main_cst_0, val_main_cst_1, val_main_cst_2, val_main_cst_3, val_main_cst_4, val_main_cst_5, val_main_cst_6]
  simp only [at2_ix2]
  simp only [Finset.univ_unique, Finset.sum_singleton]
  exact NormRow.dx_eq _ _ _ _ _ _ _ rfl rfl

theorem pure7 (x : FVec Ideal S4096x1024 .bf16) (w : FVec Ideal S1024x1024 .bf16) (X : FVec Ideal S4096x1024 .f32) (l : Fin 1024) :
    ∑ r : Fin 4096, NormRow.dg (prod (at2 x) w r.val) (fun k => at2 X r.val k.val) l
      = val_main_v21 (F := Ideal) x w X (ix2 0 l) := by
  rw [← val_main_v21_eq]
  pointwise []
  simp only [at2_ix2]
  exact Finset.sum_congr (M := EReal) rfl fun r _ => mul_comm (G := EReal) _ _

theorem pure6 (x : FVec Ideal S4096x1024 .bf16) (w : FVec Ideal S1024x1024 .bf16) (X : FVec Ideal S4096x1024 .f32) (g : FVec Ideal S1x1024 .f32)
    (res : FVec Ideal S4096x1024 .f32) (r : Fin 4096) (l : Fin 1024) :
    NormRow.dx (prod (at2 x) w r.val) (fun k => at2 X r.val k.val) (fun k => at2 g 0 k.val) l + at2 res r.val l.val
      = val_main_v39 (F := Ideal) x w res X g (ix2 r l) :=
  (pure5 x w X g res r l).trans (val_main_v39_apply (F := Ideal) x w res X g (ix2 r l)).symm

end Cert.NormQBwdIdeal.Value

namespace Cert.Proof

open Idealize.ShloMosaic Idealize.SL.Sem

/-- The whole gradient of a normalisation times a matrix, where the residual's gradient is added, is the reference's. -/
theorem algebraic_NormQ : Cert.algebraic_NormQBwdIdeal_NormQGradIdeal := by
  pair_intro
  · run_from Cert.NormQBwdIdeal.Gen.run_main m g
  · refine (θ_run _ _ _).mono (fun r h c => ?_) (Cert.NormQGradIdeal.Value.run m' g')
    obtain ⟨h0, h1, h2, hargs⟩ := h c
    obtain ⟨e0, e1, e2, e3, e4⟩ := hagree c
    rw [Cert.NormQGradIdeal.Read.val_main_v38_eq, e0, e1, e2, e3, e4] at h0
    rw [Cert.NormQGradIdeal.Read.val_main_v39_eq, e0, e1, e2, e3, e4] at h1
    rw [Cert.NormQGradIdeal.Read.val_main_v21_eq, e0, e1, e3] at h2
    refine ⟨h0.trans ?_, h1.trans ?_, h2.trans ?_, hargs⟩
    · refine Eq.trans ?_ (Cert.NormQBwdIdeal.Value.final5 m c).symm
      funext j; idx_vars j; exact (Cert.NormQBwdIdeal.Value.pure5 _ _ _ _ _ _ _).symm
    · refine Eq.trans ?_ (Cert.NormQBwdIdeal.Value.final6 m c).symm
      funext j; idx_vars j; exact (Cert.NormQBwdIdeal.Value.pure6 _ _ _ _ _ _ _).symm
    · refine Eq.trans ?_ (Cert.NormQBwdIdeal.Value.final7 m c).symm
      funext j; idx_vars j
      obtain rfl : j0 = 0 := Subsingleton.elim _ _
      exact (Cert.NormQBwdIdeal.Value.pure7 _ _ _ _).symm

end Cert.Proof
-- ==== Proof.NormIn.lean ====
module

public import proofs.«01_k».proof.Proof.Gen.NormInBwdIdeal.Value
public import proofs.«01_k».proof.Proof.Gen.NormInGradIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.NormInGradIdeal.Run
public import proofs.«01_k».proof.Proof.Pieces
public import proofs.«01_k».proof.Proof.NormRow
public import proofs.«01_k».proof.Proof.StackDot
public import Idealize.ShloMosaic.Lib.Pipeline.ReadBack

@[expose] public section

set_option maxRecDepth 16384

noncomputable section

namespace Cert.NormInBwdIdeal.Value

open Cert.NormInBwdIdeal Cert.NormInBwdIdeal.Gen Cert.Pieces Cert.StackDot Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, t.val % 4] ∧ win0_1.index t = ![t.val % 4, 0, 0] ∧ win0_2.index t = ![t.val / 4, 0]
    ∧ win0_3.index t = ![t.val / 4, 0] ∧ win0_4.index t = ![0, 0] ∧ win0_5.index t = ![t.val / 4, 0] ∧ win0_6.index t = ![t.val / 4, 0] ∧ win0_7.index t = ![0, 0] :=
  (by decide +kernel : ∀ t : Fin grid0.N, _)

/-- The row `r` of an array. -/
abbrev row {n : ℕ} (x : (⟨2, ![n, 1024]⟩ : Shape).Idx → EReal) (r : ℕ) : Fin 1024 → EReal := fun k => at2 (m := n) (n := 1024) x r k.val

/-- A tile's product, a row at a time. -/
def blkdot (x : FVec Ideal S512x640 .bf16) (w : FVec Ideal S1x1024x640 .bf16) (r l : ℕ) : EReal := ∑ k : Fin 640, at2 x r k.val * at3 w 0 l k.val

theorem tile_fill (x : FVec Ideal S512x640 .bf16) (w : FVec Ideal S1x1024x640 .bf16) (r : Fin 512) (l : Fin 1024) :
    k0_pay1 (F := Ideal) x w (ix2 r l) = blkdot x w r.val l.val := by
  pointwise [k0_pay1]
  simp only [at2_ix2, at3_ix3]
  rfl

theorem tile_add (a : FVec Ideal S512x1024 .f32) (x : FVec Ideal S512x640 .bf16) (w : FVec Ideal S1x1024x640 .bf16) (r : Fin 512) (l : Fin 1024) :
    k0_pay2 (F := Ideal) a x w (ix2 r l) = a (ix2 r l) + blkdot x w r.val l.val := by
  pointwise [k0_pay2]
  simp only [at2_ix2, at3_ix3]
  rfl

theorem tile_last (a : FVec Ideal S512x1024 .f32) (x : FVec Ideal S512x640 .bf16) (w : FVec Ideal S1x1024x640 .bf16) (r : Fin 512) (l : Fin 1024) :
    k0_pay5 (F := Ideal) a x w (ix2 r l) = a (ix2 r l) + blkdot x w r.val l.val := by
  pointwise [k0_pay5]
  simp only [at2_ix2, at3_ix3]
  rfl

theorem tile5 (a : FVec Ideal S512x1024 .f32) (x : FVec Ideal S512x640 .bf16) (w : FVec Ideal S1x1024x640 .bf16) (X : FVec Ideal S512x1024 .f32) (g : FVec Ideal S1x1024 .f32)
    (res : FVec Ideal S512x1024 .f32) (r : Fin 512) (l : Fin 1024) :
    k0_pay8 (F := Ideal) a x w X g res (ix2 r l)
      = NormRow.dx (fun k => k0_pay5 (F := Ideal) a x w (ix2 r k)) (row X r.val) (row g 0) l + at2 res r.val l.val := by
  pointwise [k0_pay8, k0_pay7, k0_pay6]
  simp only [at2_ix2]
  rfl

theorem tile7 (a : FVec Ideal S512x1024 .f32) (X : FVec Ideal S512x1024 .f32) (p : FVec Ideal S1x1024 .f32) (l : Fin 1024) :
    k0_pay4 (F := Ideal) a (k0_pay7 (F := Ideal) X) p (ix2 0 l)
      = p (ix2 0 l) + ∑ r : Fin 512, NormRow.dg (fun k => a (ix2 r k)) (row X r.val) l := by
  pointwise [k0_pay4, k0_pay7, k0_pay6]
  simp only [at2_ix2]
  rfl

/-! What a point leaves: the product so far, and at the last block of a row tile the results. -/

theorem acc_zero (c : Dev nD) (t : Fin cfg0.N) (h : t.val % 4 = 0) : (outsAt0 m c t.val t.isLt).2.2.2 = k0_pay1 (iblk m c 0 t) (iblk m c 1 t) := by
  rw [outsAt0_A m c t h (by omega) (by omega)]
  frame_out

theorem acc_step (c : Dev nD) (t : Fin cfg0.N) (h : 1 ≤ t.val % 4 ∧ t.val % 4 ≤ 2) : (outsAt0 m c t.val t.isLt).2.2.2
    = k0_pay2 (outsAt0 m c (t.val - 1) (Nat.lt_of_le_of_lt (Nat.sub_le _ _) t.isLt)).2.2.2 (iblk m c 0 t) (iblk m c 1 t) := by
  rw [outsAt0_B m c t (by omega) h (by omega)]
  frame_out
  rw [read_unread_whole]

theorem keep7 (c : Dev nD) (t : Fin cfg0.N) (h : t.val % 4 < 3) : (outsAt0 m c t.val t.isLt).2.2.1
    = (outsAt0 m c (t.val - 1) (Nat.lt_of_le_of_lt (Nat.sub_le _ _) t.isLt)).2.2.1 := by
  by_cases h0 : t.val % 4 = 0
  · rw [outsAt0_A m c t h0 (by omega) (by omega)]
    frame_out
    rfl
  · rw [outsAt0_B m c t h0 (by omega) (by omega)]
    frame_out
    rfl

theorem out5 (c : Dev nD) (t : Fin cfg0.N) (h : t.val % 4 = 3) : (outsAt0 m c t.val t.isLt).1
    = k0_pay8 (outsAt0 m c (t.val - 1) (Nat.lt_of_le_of_lt (Nat.sub_le _ _) t.isLt)).2.2.2 (iblk m c 0 t) (iblk m c 1 t) (iblk m c 3 t) (iblk m c 4 t) (iblk m c 2 t) := by
  by_cases h3 : t.val < 4
  · rw [outsAt0_C m c t (by omega) (by omega) h h3]
    frame_out
    rw [read_unread_whole]
  · rw [outsAt0_D m c t (by omega) (by omega) h h3]
    frame_out
    rw [read_unread_whole]

theorem out6 (c : Dev nD) (t : Fin cfg0.N) (h : t.val % 4 = 3) : (outsAt0 m c t.val t.isLt).2.1
    = k0_pay9 (outsAt0 m c (t.val - 1) (Nat.lt_of_le_of_lt (Nat.sub_le _ _) t.isLt)).2.2.2 (iblk m c 0 t) (iblk m c 1 t) (iblk m c 3 t) (iblk m c 4 t) (iblk m c 2 t) := by
  by_cases h3 : t.val < 4
  · rw [outsAt0_C m c t (by omega) (by omega) h h3]
    frame_out
    rw [read_unread_whole]
  · rw [outsAt0_D m c t (by omega) (by omega) h h3]
    frame_out
    rw [read_unread_whole]

theorem out7_zero (c : Dev nD) (t : Fin cfg0.N) (h : t.val % 4 = 3) (h3 : t.val < 4) : (outsAt0 m c t.val t.isLt).2.2.1
    = k0_pay4 (k0_pay5 (outsAt0 m c (t.val - 1) (Nat.lt_of_le_of_lt (Nat.sub_le _ _) t.isLt)).2.2.2 (iblk m c 0 t) (iblk m c 1 t)) (k0_pay7 (iblk m c 3 t)) (k0_pay3 (F := Ideal)) := by
  rw [outsAt0_C m c t (by omega) (by omega) h h3]
  frame_out
  rw [read_unread_whole]

theorem out7_step (c : Dev nD) (t : Fin cfg0.N) (h : t.val % 4 = 3) (h3 : ¬ t.val < 4) : (outsAt0 m c t.val t.isLt).2.2.1
    = k0_pay4 (k0_pay5 (outsAt0 m c (t.val - 1) (Nat.lt_of_le_of_lt (Nat.sub_le _ _) t.isLt)).2.2.2 (iblk m c 0 t) (iblk m c 1 t)) (k0_pay7 (iblk m c 3 t))
      (outsAt0 m c (t.val - 1) (Nat.lt_of_le_of_lt (Nat.sub_le _ _) t.isLt)).2.2.1 := by
  rw [outsAt0_D m c t (by omega) (by omega) h h3]
  frame_out
  rw [read_unread_whole]

/-! The blocks the points stage, as rows of the arrays. -/

theorem blk0 (c : Dev nD) (t : Fin cfg0.N) (r : Fin 512) (k : Fin 640) : at2 (m := 512) (n := 640) (iblk m c 0 t) r.val k.val
    = at2 (m := 4096) (n := 2560) (m ((c : Thread nD τ).loc main_arg0)) (512 * (t.val / 4) + r.val) (640 * (t.val % 4) + k.val) := by
  have ht : t.val < 32 := t.isLt
  rw [at2_of_lt _ _ _ r.isLt k.isLt, at2_of_lt _ _ _ (by have := r.isLt; omega) (by have := k.isLt; omega)]
  blk_point [iblk, V, idx t, Nat.mul_comm]

theorem blk1 (c : Dev nD) (t : Fin cfg0.N) (l : Fin 1024) (k : Fin 640) : at3 (p := 1) (m := 1024) (n := 640) (iblk m c 1 t) 0 l.val k.val
    = at3 (p := 4) (m := 1024) (n := 640) (m ((c : Thread nD τ).loc main_arg1)) (t.val % 4) l.val k.val := by
  rw [at3_of_lt _ _ _ _ Nat.one_pos l.isLt k.isLt, at3_of_lt _ _ _ _ (Nat.mod_lt _ (by decide)) l.isLt k.isLt]
  blk_point [iblk, V, idx t, Nat.mul_comm]

theorem blk2 (c : Dev nD) (t : Fin cfg0.N) (r : Fin 512) : row (n := 512) (iblk m c 2 t) r.val
    = row (n := 4096) (m ((c : Thread nD τ).loc main_arg2)) (512 * (t.val / 4) + r.val) := by
  funext k
  have ht : t.val < 32 := t.isLt
  show at2 _ _ _ = at2 _ _ _
  rw [at2_of_lt _ _ _ r.isLt k.isLt, at2_of_lt _ _ _ (by have := r.isLt; omega) k.isLt]
  blk_point [iblk, V, idx t, Nat.mul_comm]

theorem blk3 (c : Dev nD) (t : Fin cfg0.N) (r : Fin 512) : row (n := 512) (iblk m c 3 t) r.val
    = row (n := 4096) (m ((c : Thread nD τ).loc main_arg3)) (512 * (t.val / 4) + r.val) := by
  funext k
  have ht : t.val < 32 := t.isLt
  show at2 _ _ _ = at2 _ _ _
  rw [at2_of_lt _ _ _ r.isLt k.isLt, at2_of_lt _ _ _ (by have := r.isLt; omega) k.isLt]
  blk_point [iblk, V, idx t, Nat.mul_comm]

theorem blk4 (c : Dev nD) (t : Fin cfg0.N) : row (n := 1) (iblk m c 4 t) 0 = row (n := 1) (m ((c : Thread nD τ).loc main_arg4)) 0 := by
  funext k
  show at2 _ _ _ = at2 _ _ _
  rw [at2_of_lt _ _ _ Nat.one_pos k.isLt, at2_of_lt _ _ _ Nat.one_pos k.isLt]
  blk_point [iblk, V, idx t]

theorem blkdot_eq (c : Dev nD) (t : Fin cfg0.N) (r : Fin 512) (l : Fin 1024) : blkdot (iblk m c 0 t) (iblk m c 1 t) r.val l.val
    = part 640 (at2 (m := 4096) (n := 2560) (m ((c : Thread nD τ).loc main_arg0))) (at3 (p := 4) (m := 1024) (n := 640) (m ((c : Thread nD τ).loc main_arg1))) (512 * (t.val / 4) + r.val) l.val (t.val % 4) :=
  Finset.sum_congr rfl fun k _ => congrArg₂ (· * ·) (blk0 m c t r k) (blk1 m c t l k)

/-- The product's row, of the arrays. -/
def dot (x : FVec Ideal S4096x2560 .bf16) (w : FVec Ideal S4x1024x640 .bf16) (r : ℕ) (l : Fin 1024) : EReal := prod 4 640 (at2 x) (at3 w) r l.val

theorem acc_eq (c : Dev nD) (r : Fin 512) (l : Fin 1024) : ∀ n (hn : n < cfg0.N), n % 4 < 3 → (outsAt0 m c n hn).2.2.2 (ix2 r l)
    = ∑ k ∈ Finset.range (n % 4 + 1), part 640 (at2 (m := 4096) (n := 2560) (m ((c : Thread nD τ).loc main_arg0))) (at3 (p := 4) (m := 1024) (n := 640) (m ((c : Thread nD τ).loc main_arg1))) (512 * (n / 4) + r.val) l.val k := by
  refine acc_sum (fun n hn => (outsAt0 m c n hn).2.2.2 (ix2 r l)) (fun q k => part 640 (at2 (m := 4096) (n := 2560) (m ((c : Thread nD τ).loc main_arg0)))
    (at3 (p := 4) (m := 1024) (n := 640) (m ((c : Thread nD τ).loc main_arg1))) (512 * q + r.val) l.val k) (fun n hn h => ?_) (fun n hn h => ?_)
  · refine (congrFun (acc_zero m c ⟨n, hn⟩ h) _).trans ?_
    rw [tile_fill, blkdot_eq]
    exact congrArg (part _ _ _ _ _) h
  · refine (congrFun (acc_step m c ⟨n + 1, hn⟩ h) _).trans ?_
    rw [tile_add, blkdot_eq]
    rfl

/-- At the last block the tile's product is complete. -/
theorem last_eq (c : Dev nD) (t : Fin cfg0.N) (h : t.val % 4 = 3) (r : Fin 512) :
    (fun k => k0_pay5 (F := Ideal) (outsAt0 m c (t.val - 1) (Nat.lt_of_le_of_lt (Nat.sub_le _ _) t.isLt)).2.2.2 (iblk m c 0 t) (iblk m c 1 t) (ix2 r k))
      = dot (m ((c : Thread nD τ).loc main_arg0)) (m ((c : Thread nD τ).loc main_arg1)) (512 * (t.val / 4) + r.val) := by
  funext l
  have e1 : (t.val - 1) % 4 = 2 := by omega
  have e2 : (t.val - 1) / 4 = t.val / 4 := by omega
  rw [tile_last, blkdot_eq, acc_eq m c r l (t.val - 1) _ (by omega), e1, e2, h]
  exact (Finset.sum_range_succ _ _).symm

/-- The row gradient with the cotangent that passes the norm by, at a position of the arrays. -/
def want (x : FVec Ideal S4096x2560 .bf16) (w : FVec Ideal S4x1024x640 .bf16) (res X : FVec Ideal S4096x1024 .f32) (g : FVec Ideal S1x1024 .f32) (r : ℕ) (l : Fin 1024) : EReal :=
  NormRow.dx (dot x w r) (row X r) (row g 0) l + row res r l

/-- The scale's gradient: what row `r` adds. -/
def wantg (x : FVec Ideal S4096x2560 .bf16) (w : FVec Ideal S4x1024x640 .bf16) (X : FVec Ideal S4096x1024 .f32) (l : Fin 1024) (r : ℕ) : EReal :=
  NormRow.dg (dot x w r) (row X r) l

theorem pay_eq (c : Dev nD) (t : Fin cfg0.N) (h : t.val % 4 = 3) (r : Fin 512) (l : Fin 1024) :
    k0_pay8 (F := Ideal) (outsAt0 m c (t.val - 1) (Nat.lt_of_le_of_lt (Nat.sub_le _ _) t.isLt)).2.2.2 (iblk m c 0 t) (iblk m c 1 t) (iblk m c 3 t) (iblk m c 4 t) (iblk m c 2 t) (ix2 r l)
    = want (m ((c : Thread nD τ).loc main_arg0)) (m ((c : Thread nD τ).loc main_arg1)) (m ((c : Thread nD τ).loc main_arg2)) (m ((c : Thread nD τ).loc main_arg3))
      (m ((c : Thread nD τ).loc main_arg4)) (512 * (t.val / 4) + r.val) l := by
  rw [tile5, last_eq m c t h r, blk3, blk4]
  exact congrArg (_ + ·) (congrFun (blk2 m c t r) l)

theorem final5w (c : Dev nD) : (dats m 0 c).arrAt 5 (cfgs 0).N
    = fun y : S4096x1024.Idx => want (m ((c : Thread nD τ).loc main_arg0)) (m ((c : Thread nD τ).loc main_arg1)) (m ((c : Thread nD τ).loc main_arg2))
      (m ((c : Thread nD τ).loc main_arg3)) (m ((c : Thread nD τ).loc main_arg4)) (y 0).val (y 1) := by
  refine (dats m 0 c).arrAt_eq_of_covers 5 _ (by decide +kernel) fun t hf y => ?_
  have h : t.val % 4 = 3 := (flush0_5 t).mp hf
  blk_simp
  rw [after0_5, out5 m c t h]
  revert y
  refine fun (y : S512x1024.Idx) => ?_
  obtain ⟨-, -, -, -, -, h5, h6, h7⟩ := idx t
  idx_vars y
  refine (pay_eq m c t h y0 y1).trans (congrArg₂ (want _ _ _ _ _) ?_ (Fin.ext ?_))
  · rw [h5, Nat.mul_comm]; rfl
  · blk_simp
    rw [h5]
    exact (Nat.zero_add _).symm

theorem final6w (c : Dev nD) : (dats m 0 c).arrAt 6 (cfgs 0).N
    = fun y : S4096x1024.Idx => want (m ((c : Thread nD τ).loc main_arg0)) (m ((c : Thread nD τ).loc main_arg1)) (m ((c : Thread nD τ).loc main_arg2))
      (m ((c : Thread nD τ).loc main_arg3)) (m ((c : Thread nD τ).loc main_arg4)) (y 0).val (y 1) := by
  refine (dats m 0 c).arrAt_eq_of_covers 6 _ (by decide +kernel) fun t hf y => ?_
  have h : t.val % 4 = 3 := (flush0_6 t).mp hf
  blk_simp
  rw [after0_6, out6 m c t h]
  revert y
  refine fun (y : S512x1024.Idx) => ?_
  obtain ⟨-, -, -, -, -, h5, h6, h7⟩ := idx t
  idx_vars y
  refine (pay_eq m c t h y0 y1).trans (congrArg₂ (want _ _ _ _ _) ?_ (Fin.ext ?_))
  · rw [h6, Nat.mul_comm]; rfl
  · blk_simp
    rw [h6]
    exact (Nat.zero_add _).symm

theorem part7 (c : Dev nD) (t : Fin cfg0.N) (h : t.val % 4 = 3) (n : ℕ) (hn : t.val / 4 = n) (r : Fin 512) (l : Fin 1024) :
    NormRow.dg (fun k => k0_pay5 (F := Ideal) (outsAt0 m c (t.val - 1) (Nat.lt_of_le_of_lt (Nat.sub_le _ _) t.isLt)).2.2.2 (iblk m c 0 t) (iblk m c 1 t) (ix2 r k)) (row (n := 512) (iblk m c 3 t) r.val) l
      = wantg (m ((c : Thread nD τ).loc main_arg0)) (m ((c : Thread nD τ).loc main_arg1)) (m ((c : Thread nD τ).loc main_arg3)) l (512 * n + r.val) := by
  rw [last_eq m c t h r, blk3, hn]
  rfl

theorem sum7 (c : Dev nD) (l : Fin 1024) : ∀ n (hn : 4 * n + 3 < cfg0.N), (outsAt0 m c (4 * n + 3) hn).2.2.1 (ix2 0 l)
    = ∑ k ∈ Finset.range (n + 1), ∑ r : Fin 512, wantg (m ((c : Thread nD τ).loc main_arg0)) (m ((c : Thread nD τ).loc main_arg1)) (m ((c : Thread nD τ).loc main_arg3)) l (512 * k + r.val) := by
  refine last_sum (fun n hn => (outsAt0 m c n hn).2.2.1 (ix2 0 l)) (fun k => ∑ r : Fin 512, wantg (m ((c : Thread nD τ).loc main_arg0)) (m ((c : Thread nD τ).loc main_arg1))
    (m ((c : Thread nD τ).loc main_arg3)) l (512 * k + r.val)) (fun hn => ?_) (fun j hj h => congrFun (keep7 m c ⟨j + 1, hj⟩ h) _) (fun j hj h h4 => ?_)
  · refine (congrFun (out7_zero m c ⟨3, hn⟩ rfl (by show 3 < 4; omega)) _).trans ?_
    rw [tile7]
    refine (congrArg₂ (· + ·) ?_ (Finset.sum_congr rfl fun r _ => part7 m c ⟨3, hn⟩ rfl 0 (by show 3 / 4 = 0; omega) r l)).trans (zero_add _)
    pointwise [k0_pay3]
  · refine (congrFun (out7_step m c ⟨j + 1, hj⟩ h (by show ¬ j + 1 < 4; omega)) _).trans ?_
    rw [tile7]
    exact congrArg₂ (· + ·) rfl (Finset.sum_congr rfl fun r _ => part7 m c ⟨j + 1, hj⟩ h _ rfl r l)

/-- The gradient of the gain: the sum of all rows. -/
def total (x : S4096x2560.Idx → EReal) (w : S4x1024x640.Idx → EReal) (X : S4096x1024.Idx → EReal) (l : Fin 1024) : EReal :=
  ∑ r : Fin 4096, wantg x w X l r.val

/-- The last point. -/
def tLast : Fin cfg0.N := ⟨31, by decide⟩

theorem final7w (c : Dev nD) : (dats m 0 c).arrAt 7 (cfgs 0).N
    = fun y : S1x1024.Idx => total (m ((c : Thread nD τ).loc main_arg0)) (m ((c : Thread nD τ).loc main_arg1)) (m ((c : Thread nD τ).loc main_arg3)) (y 1) := by
  refine (dats m 0 c).arrAt_eq_of_after_last 7 tLast (by decide +kernel) _ fun j => ?_
  blk_simp
  rw [after0_7]
  revert j
  refine fun (j : S1x1024.Idx) => ?_
  idx_vars j
  obtain rfl : j0 = 0 := Subsingleton.elim _ _
  refine (sum7 m c j1 7 (by decide)).trans ?_
  exact (sum_chunks _ 512 8).trans (Fin.sum_univ_eq_sum_range (wantg _ _ _ j1) 4096).symm

open Cert.NormInGradIdeal.Read

/-- The reference contracts over the matrices and over their columns: the row's product. -/
theorem ref_dot (x : FVec Ideal S4096x2560 .bf16) (w : FVec Ideal S4x1024x640 .bf16) (r : Fin 4096) (l : Fin 1024) :
    val_main_v20 (F := Ideal) x w (ix2 r l) = dot x w r.val l := by
  refine (StackDot.apply _ _ _ none r l).trans ?_
  refine (Finset.sum_congr rfl fun c _ => ?_).trans (Fin.sum_univ_eq_sum_range (fun c => part 640 (at2 x) (at3 w) r.val l.val c) 4)
  refine Finset.sum_congr rfl fun k _ => congrArg₂ (· * ·) ?_ (at3_ix3 w c l k)
  rw [val_main_v19_apply]
  refine (apply_at2 x _).trans ?_
  have hr := r.isLt
  have hc := c.isLt
  have hk := k.isLt
  refine congrArg₂ (at2 x) ?_ ?_
  · show ((r.val * 4 + c.val) * 640 + k.val) / 2560 = r.val
    omega
  · show ((r.val * 4 + c.val) * 640 + k.val) % 2560 = 640 * c.val + k.val
    omega

theorem pure5 (x : FVec Ideal S4096x2560 .bf16) (w : FVec Ideal S4x1024x640 .bf16) (res X : FVec Ideal S4096x1024 .f32) (g : FVec Ideal S1x1024 .f32) (r : Fin 4096) (l : Fin 1024) :
    want x w res X g r.val l = val_main_v40 (F := Ideal) x w res X g (ix2 r l) := by
  pointwise [val_main_v1, val_main_v2, val_main_v3, val_main_v4, val_main_v5, val_main_v6, val_main_v7, val_main_v8, val_main_v9, val_main_v10, val_main_v11, val_main_v24, val_main_v25, val_main_v26, val_main_v27, val_main_v28, val_main_v29, val_main_v30, val_main_v31, val_main_v32, val_main_v33, val_main_v34, val_main_v35, val_main_v36, val_main_v37, val_main_v38, val_main_v39, val_main_v40, val_main_cst, val_main_cst_0, val_main_cst_1, val_main_cst_2, val_main_cst_3, val_main_cst_4, val_main_cst_5, val_main_cst_6]
  simp only [ref_dot, Finset.univ_unique, Finset.sum_singleton]
  simp only [at2_ix2]
  exact NormRow.dx_eq _ _ _ _ _ _ _ rfl rfl

theorem pure7 (x : FVec Ideal S4096x2560 .bf16) (w : FVec Ideal S4x1024x640 .bf16) (X : FVec Ideal S4096x1024 .f32) (l : Fin 1024) :
    total x w X l = val_main_v23 (F := Ideal) x w X (ix2 0 l) := by
  pointwise [val_main_v1, val_main_v2, val_main_v3, val_main_v4, val_main_v5, val_main_v6, val_main_v7, val_main_v8, val_main_v12, val_main_v13, val_main_v21, val_main_v22, val_main_v23, val_main_cst, val_main_cst_0, val_main_cst_1, val_main_cst_3]
  simp only [ref_dot]
  simp only [at2_ix2]
  exact Finset.sum_congr (M := EReal) rfl fun r _ => mul_comm (G := EReal) _ _

end Cert.NormInBwdIdeal.Value

namespace Cert.Proof

open Idealize.ShloMosaic Idealize.SL.Sem

/-- The gradient through the stacked projection and its norm, accumulated over the matrices, is the reference's. -/
theorem algebraic_NormIn : Cert.algebraic_NormInBwdIdeal_NormInGradIdeal := by
  pair_intro
  · run_from Cert.NormInBwdIdeal.Gen.run_main m g
  · refine (θ_run _ _ _).mono (fun r h c => ?_) (Cert.NormInGradIdeal.Value.run m' g')
    obtain ⟨h0, h1, h2, hargs⟩ := h c
    obtain ⟨e0, e1, e2, e3, e4⟩ := hagree c
    rw [Cert.NormInGradIdeal.Read.val_main_v40_eq, e0, e1, e2, e3, e4] at h0
    rw [Cert.NormInGradIdeal.Read.val_main_v41_eq, e0, e1, e2, e3, e4] at h1
    rw [Cert.NormInGradIdeal.Read.val_main_v23_eq, e0, e1, e3] at h2
    refine ⟨h0.trans ?_, h1.trans ?_, h2.trans ?_, hargs⟩
    · refine Eq.trans ?_ (Cert.NormInBwdIdeal.Value.final5w m c).symm
      funext j; idx_vars j; exact (Cert.NormInBwdIdeal.Value.pure5 _ _ _ _ _ _ _).symm
    · refine Eq.trans ?_ (Cert.NormInBwdIdeal.Value.final6w m c).symm
      funext j; idx_vars j
      exact ((Cert.NormInBwdIdeal.Value.pure5 _ _ _ _ _ _ _).trans (Cert.NormInGradIdeal.Read.val_main_v41_apply (F := Ideal) _ _ _ _ _ _).symm).symm
    · refine Eq.trans ?_ (Cert.NormInBwdIdeal.Value.final7w m c).symm
      funext j; idx_vars j
      obtain rfl : j0 = 0 := Subsingleton.elim _ _
      exact (Cert.NormInBwdIdeal.Value.pure7 _ _ _ _).symm

end Cert.Proof

end
-- ==== Proof.SqreluDown.lean ====
module

public import proofs.«01_k».proof.Proof.Gen.SqreluBwdIdeal.Value
public import proofs.«01_k».proof.Proof.Gen.SqreluGradIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.SqreluGradIdeal.Run
public import proofs.«01_k».proof.Proof.Pieces

@[expose] public section

set_option maxRecDepth 16384

noncomputable section

namespace Cert.SqreluBwdIdeal.Value

open Cert.SqreluBwdIdeal Cert.SqreluBwdIdeal.Gen Cert.Pieces Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, 0] ∧ win0_1.index t = ![t.val % 4, 0] ∧ win0_2.index t = ![t.val / 4, t.val % 4]
    ∧ win0_3.index t = ![t.val / 4, t.val % 4] := (by decide +kernel : ∀ t : Fin grid0.N, _)

/-- The body's block: the product's entry, times twice the activation's positive part. -/
theorem tile (x w a : FVec Ideal S1024x1024 .bf16) (r l : Fin 1024) : k0_pay1 (F := Ideal) x w a (ix2 r l)
    = (∑ k, x (ix2 r k) * w (ix2 l k)) * (Ideal.ofBits FTy.f32 1073741824#32 * max (a (ix2 r l)) 0) := by
  pointwise [k0_pay1]

/-- The squared rectifier's derivative times the product's, at a position of the arrays. -/
def want (x w : FVec Ideal S4096x1024 .bf16) (a : FVec Ideal S4096x4096 .bf16) (r l : ℕ) : EReal :=
  (∑ k : Fin 1024, at2 x r k.val * at2 w l k.val) * (Ideal.ofBits FTy.f32 1073741824#32 * max (at2 a r l) 0)

theorem final3 (c : Dev nD) : (dats m 0 c).arrAt 3 (cfgs 0).N
    = fun y : S4096x4096.Idx => want (m ((c : Thread nD τ).loc main_arg0)) (m ((c : Thread nD τ).loc main_arg1)) (m ((c : Thread nD τ).loc main_arg2)) (y 0).val (y 1).val := by
  refine (dats m 0 c).arrAt_eq_of_covers 3 _ (by decide +kernel) fun t _ y => ?_
  blk_simp
  rw [after0_3]
  frame_out
  revert y
  refine fun (y : S1024x1024.Idx) => ?_
  obtain ⟨h0, h1, h2, h3⟩ := idx t
  rw [h3]
  idx_vars y
  show _ = want _ _ _ (t.val / 4 * 1024 + y0.val) (t.val % 4 * 1024 + y1.val)
  have ht : t.val < 16 := t.isLt
  have hy0 := y0.isLt
  have hy1 := y1.isLt
  rw [tile]
  unfold want
  refine congrArg₂ (· * ·) (Finset.sum_congr rfl fun k _ => congrArg₂ (· * ·) ?_ ?_) (congrArg (fun z => _ * max z 0) ?_)
  · rw [at2_of_lt _ _ _ (by omega) k.isLt]
    blk_point [iblk, V, idx t]
  · rw [at2_of_lt _ _ _ (by omega) k.isLt]
    blk_point [iblk, V, idx t]
  · rw [at2_of_lt _ _ _ (by omega) (by omega)]
    blk_point [iblk, V, idx t]

open Cert.SqreluGradIdeal.Read

/-- The reference's derivative of the squared rectifier is the same product: where the activation is not positive both are zero. -/
theorem pure3 (x w : FVec Ideal S4096x1024 .bf16) (a : FVec Ideal S4096x4096 .bf16) (r l : Fin 4096) :
    want x w a r.val l.val = val_main_v15 (F := Ideal) x w a (ix2 r l) := by
  rw [← val_main_v15_eq]
  pointwise []
  simp only [at2_ix2]
  unfold want
  by_cases h : 0 < at2 a r.val l.val
  · rw [if_pos h]
  · rw [if_neg h, max_eq_right (not_lt.mp h), mul_zero, mul_zero]

end Cert.SqreluBwdIdeal.Value

namespace Cert.Proof

open Idealize.ShloMosaic Idealize.SL.Sem

/-- The hidden layer's backward call computes the derivative of the squared rectifier and the down projection: no precondition. -/
theorem algebraic_Sqrelu : Cert.algebraic_SqreluBwdIdeal_SqreluGradIdeal := by
  pair_intro
  · run_from Cert.SqreluBwdIdeal.Gen.run_main m g
  · refine (θ_run _ _ _).mono (fun r h c => ?_) (Cert.SqreluGradIdeal.Value.run m' g')
    obtain ⟨h0, hargs⟩ := h c
    obtain ⟨e0, e1, e2⟩ := hagree c
    rw [Cert.SqreluGradIdeal.Read.val_main_v15_eq, e0, e1, e2] at h0
    refine ⟨h0.trans ?_, hargs⟩
    refine Eq.trans ?_ (Cert.SqreluBwdIdeal.Value.final3 m c).symm
    funext j; idx_vars j; exact (Cert.SqreluBwdIdeal.Value.pure3 _ _ _ _ _).symm

end Cert.Proof

end
-- ==== Proof.RmsMem.lean ====
module

public import proofs.«01_k».proof.Proof.Gen.RmsMemBwdIdeal.Value
public import proofs.«01_k».proof.Proof.Gen.RmsMemGradIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.RmsMemGradIdeal.Run
public import proofs.«01_k».proof.Proof.NormMath

@[expose] public section

set_option maxRecDepth 16384

noncomputable section

namespace Cert.RmsMemBwdIdeal.Value

open Cert.RmsMemBwdIdeal Cert.RmsMemBwdIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] := (by decide +kernel : ∀ t : Fin grid0.N, _)

theorem final3 (c : Dev nD) : (dats m 0 c).arrAt 3 (cfgs 0).N
    = k0_pay4 (m ((c : Thread nD τ).loc main_arg0)) (m ((c : Thread nD τ).loc main_arg2)) (m ((c : Thread nD τ).loc main_arg1)) := by
  refine (dats m 0 c).arrAt_eq_of_after_last 3 t0_0 (by decide +kernel) _ fun j => ?_
  blk_simp; rw [after0_3]; unfold outsAt0; frame_out
  blk_point [iblk, V, idx t0_0]

theorem final5 (c : Dev nD) : (dats m 0 c).arrAt 5 (cfgs 0).N
    = k0_pay1 (k0_pay7 (k0_pay6 (F := Ideal))) (k0_pay8 (m ((c : Thread nD τ).loc main_arg0)) (m ((c : Thread nD τ).loc main_arg2))) := by
  refine (dats m 0 c).arrAt_eq_of_after_last 5 t0_0 (by decide +kernel) _ fun j => ?_
  blk_simp; rw [after0_5]; unfold outsAt0; frame_out
  blk_point [iblk, V, idx t0_0]

theorem final4 (c : Dev nD) : (dats m 0 c).arrAt 4 (cfgs 0).N
    = k0_pay5 (m ((c : Thread nD τ).loc main_arg0)) (m ((c : Thread nD τ).loc main_arg2)) (m ((c : Thread nD τ).loc main_arg1)) := by
  refine (dats m 0 c).arrAt_eq_of_after_last 4 t0_0 (by decide +kernel) _ fun j => ?_
  blk_simp; rw [after0_4]; unfold outsAt0; frame_out
  blk_point [iblk, V, idx t0_0]

open Cert.RmsMemGradIdeal.Read

/-- The kernel's row gradient is the reference's derivative of the norm, at every index. -/
theorem pure3 (x d : FVec Ideal S256x1024 .f32) (g : FVec Ideal S1x1024 .f32) (r : Fin 256) (l : Fin 1024) :
    k0_pay4 (F := Ideal) x d g (ix2 r l) = val_main_v33 (F := Ideal) x g d (ix2 r l) := by
  rw [← val_main_v33_eq]
  pointwise [k0_pay4, k0_pay3, k0_pay2]
  obtain ⟨e, he, hE⟩ := Cert.NormMath.cEps
  simp only [Finset.univ_unique, Finset.sum_singleton]
  rw [Cert.NormMath.cNegHalf]
  exact Cert.NormMath.rms_row (fun k => x (ix2 r k)) (fun k => d (ix2 r k) * g (ix2 0 k)) _ _ _ Cert.NormMath.c1024 hE (by norm_num) he rfl l

/-- The rounded copy holds the same values: over the reals a rounding is the identity. -/
theorem pure4 (x d : FVec Ideal S256x1024 .f32) (g : FVec Ideal S1x1024 .f32) (r : Fin 256) (l : Fin 1024) :
    k0_pay5 (F := Ideal) x d g (ix2 r l) = val_main_v34 (F := Ideal) x g d (ix2 r l) := by
  rw [val_main_v34_apply, ← pure3]
  rfl

/-- The kernel's scale gradient is the reference's. -/
theorem pure5 (x d : FVec Ideal S256x1024 .f32) (l : Fin 1024) :
    k0_pay1 (F := Ideal) (k0_pay7 (F := Ideal) (k0_pay6 (F := Ideal))) (k0_pay8 (F := Ideal) x d) (ix2 0 l) = val_main_v17 (F := Ideal) x d (ix2 0 l) := by
  rw [← val_main_v17_eq]
  pointwise [k0_pay1, k0_pay7, k0_pay6, k0_pay8, k0_pay3, k0_pay2]
  exact Finset.sum_congr rfl fun k _ => mul_comm _ _

end Cert.RmsMemBwdIdeal.Value

namespace Cert.Proof

open Idealize.ShloMosaic Idealize.SL.Sem

/-- The norm's backward call computes the derivative of the root mean square norm: no precondition. -/
theorem algebraic_RmsMem : Cert.algebraic_RmsMemBwdIdeal_RmsMemGradIdeal := by
  pair_intro
  · run_from Cert.RmsMemBwdIdeal.Gen.run_main m g
  · refine (θ_run _ _ _).mono (fun r h c => ?_) (Cert.RmsMemGradIdeal.Value.run m' g')
    obtain ⟨h0, h1, h2, hargs⟩ := h c
    obtain ⟨e0, e1, e2⟩ := hagree c
    rw [Cert.RmsMemGradIdeal.Read.val_main_v33_eq, e0, e1, e2] at h0
    rw [Cert.RmsMemGradIdeal.Read.val_main_v34_eq, e0, e1, e2] at h1
    rw [Cert.RmsMemGradIdeal.Read.val_main_v17_eq, e0, e2] at h2
    refine ⟨h0.trans ?_, h1.trans ?_, h2.trans ?_, hargs⟩
    · refine Eq.trans ?_ (Cert.RmsMemBwdIdeal.Value.final3 m c).symm
      funext j; idx_vars j; exact (Cert.RmsMemBwdIdeal.Value.pure3 _ _ _ _ _).symm
    · refine Eq.trans ?_ (Cert.RmsMemBwdIdeal.Value.final4 m c).symm
      funext j; idx_vars j; exact (Cert.RmsMemBwdIdeal.Value.pure4 _ _ _ _ _).symm
    · refine Eq.trans ?_ (Cert.RmsMemBwdIdeal.Value.final5 m c).symm
      funext j; idx_vars j; obtain rfl : j0 = 0 := Subsingleton.elim _ _
      exact (Cert.RmsMemBwdIdeal.Value.pure5 _ _ _).symm

end Cert.Proof

end
-- ==== Proof.AttnFwd.lean ====
module

public import proofs.«01_k».proof.Proof.Gen.AttnFwdIdeal.Value
public import proofs.«01_k».proof.Proof.Gen.AttnOutIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.AttnOutIdeal.Run
public import proofs.«01_k».proof.Proof.Pieces
public import proofs.«01_k».proof.Proof.AttnRow
public import proofs.«01_k».proof.Proof.Attn

@[expose] public section

set_option maxRecDepth 16384

noncomputable section

namespace Cert.AttnFwdIdeal.Value

open Cert.AttnFwdIdeal Cert.AttnFwdIdeal.Gen Cert.Pieces Idealize.ShloMosaic Idealize.ShloMosaic.TcCoe Idealize.SL.Sem
open Idealize.ShloMosaic.Pipeline (Dat)

variable (m : (ℓ : Loc nD τ sig) → Buf (Elt Ideal) ℓ)

open Cert.AttnRow (P)
open Cert.AttnBwdIdeal.Value (row head half)

/-- A row's output: the values weighted. -/
def out (Q K V : ℕ → ℕ → EReal) (n l : ℕ) : EReal := ∑ j : Fin 256, P (row Q (l / 256 * 256) n) (head K (l / 256 * 256)) j * V j.val l

section Tiles

variable (Q : FVec Ideal S1024x256 .bf16) (K V : FVec Ideal S256x256 .bf16)

/-- A row and a table of a tile. -/
def tr (X : FVec Ideal S1024x256 .bf16) (r : Fin 1024) (d : Fin 256) : EReal := X (ix2 r d)
def tt (X : FVec Ideal S256x256 .bf16) (j d : Fin 256) : EReal := X (ix2 j d)

/-- What a tile stores. -/
def tile (r : Fin 1024) (d : Fin 256) : EReal := ∑ j : Fin 256, P (tr Q r) (tt K) j * tt V j d

theorem o0 (r : Fin 1024) (d : Fin 256) : k0_pay2 (F := Ideal) Q K V (ix2 r d) = tile Q K V r d := by
  pointwise [k0_pay2]; rfl

theorem o1 (r : Fin 1024) (d : Fin 256) : k0_pay4 (F := Ideal) (k0_pay3 Q K) V (ix2 r d) = tile Q K V r d := by
  pointwise [k0_pay4, k0_pay3]; rfl

theorem o2 (r : Fin 1024) (d : Fin 256) : k0_pay5 (F := Ideal) Q K V (ix2 r d) = tile Q K V r d := by
  pointwise [k0_pay5]; rfl

theorem o3 (r : Fin 1024) (d : Fin 256) : k0_pay1 (F := Ideal) (k0_pay6 Q K) (k0_pay7 Q K) V (ix2 r d) = tile Q K V r d := by
  pointwise [k0_pay1, k0_pay6, k0_pay7]; rfl

end Tiles

section Heads

variable (X0 : Vec Ideal S1024x1024 .bf16) (X1 X2 : Vec Ideal S256x1024 .bf16) (o : ℕ)

/-- A head's columns of a block. -/
abbrev hx (X : Vec Ideal S1024x1024 .bf16) (o : ℕ) (inb : ∀ a, (![0, o] : Fin 2 → ℕ) a + (![1024, 256] : Fin 2 → ℕ) a ≤ S1024x1024.size a) :
    FVec Ideal S1024x256 .bf16 := View.ld (Val := Elt Ideal) X (Rect.unit (s := S1024x1024) ![0, o] ![1024, 256] inb)
abbrev hy (X : Vec Ideal S256x1024 .bf16) (o : ℕ) (inb : ∀ a, (![0, o] : Fin 2 → ℕ) a + (![256, 256] : Fin 2 → ℕ) a ≤ S256x1024.size a) :
    FVec Ideal S256x256 .bf16 := View.ld (Val := Elt Ideal) X (Rect.unit (s := S256x1024) ![0, o] ![256, 256] inb)

theorem tr_ld (inb) (r : Fin 1024) : tr (hx X0 o inb) r = row (at2 (m := 1024) (n := 1024) X0) o r.val := by
  funext d
  have h : o + 256 ≤ 1024 := inb 1
  unfold tr row
  rw [at2_of_lt _ _ _ r.isLt (by have := d.isLt; omega)]
  exact ld_at X0 inb r d _ (Nat.zero_add _).symm rfl

theorem tt_ld (inb) : tt (hy X1 o inb) = head (at2 (m := 256) (n := 1024) X1) o := by
  funext j d
  have h : o + 256 ≤ 1024 := inb 1
  unfold tt head
  rw [at2_of_lt _ _ _ j.isLt (by have := d.isLt; omega)]
  exact ld_at X1 inb j d _ (Nat.zero_add _).symm rfl

variable (i0 i1 i2)

theorem tile_ld (ho : o % 256 = 0) (r : Fin 1024) (d : Fin 256) {n l : ℕ} (hn : n = r.val) (hl : l = o + d.val) : tile (hx X0 o i0) (hy X1 o i1) (hy X2 o i2) r d
    = out (at2 (m := 1024) (n := 1024) X0) (at2 (m := 256) (n := 1024) X1) (at2 (m := 256) (n := 1024) X2) n l := by
  have hd := d.isLt
  have e : l / 256 * 256 = o := by omega
  unfold tile out
  rw [e, tr_ld, tt_ld, tt_ld, hn, hl]
  rfl

end Heads

theorem out3 (X0 : Vec Ideal S1024x1024 .bf16) (X1 X2 : Vec Ideal S256x1024 .bf16) (y : S1024x1024.Idx) : out0_3 X0 X1 X2 y
    = out (at2 (m := 1024) (n := 1024) X0) (at2 (m := 256) (n := 1024) X1) (at2 (m := 256) (n := 1024) X2) (y 0).val (y 1).val := by
  frame_out
  canon_tiles x h <;> idx_vars x
  · exact (o3 _ _ _ x0 x1).trans (tile_ld _ _ _ 768 _ _ _ rfl x0 x1 h0 h1)
  · exact (o2 _ _ _ x0 x1).trans (tile_ld _ _ _ 512 _ _ _ rfl x0 x1 h0 h1)
  · exact (o1 _ _ _ x0 x1).trans (tile_ld _ _ _ 256 _ _ _ rfl x0 x1 h0 h1)
  · exact (o0 _ _ _ x0 x1).trans (tile_ld _ _ _ 0 _ _ _ rfl x0 x1 h0 (h1.trans (Nat.zero_add _).symm))

theorem idx : ∀ t : Fin cfg0.N, win0_0.index t = ![t.val, 0] ∧ win0_1.index t = ![0, 0] ∧ win0_2.index t = ![0, 1] ∧ win0_3.index t = ![t.val, 0] :=
  (by decide +kernel : ∀ t : Fin grid0.N, _)

/-- The arrays the call is given. -/
def aQ (c : Dev nD) : ℕ → ℕ → EReal := at2 (m := 4096) (n := 1024) (m ((c : Thread nD τ).loc main_arg0))
def aK (c : Dev nD) : ℕ → ℕ → EReal := at2 (m := 256) (n := 2048) (m ((c : Thread nD τ).loc main_arg1))

theorem blk0 (c : Dev nD) (t : Fin cfg0.N) (r : Fin 1024) {l : ℕ} (hl : l < 1024) : at2 (m := 1024) (n := 1024) (iblk m c 0 t) r.val l
    = aQ m c (1024 * t.val + r.val) l := by
  have ht : t.val < 4 := t.isLt
  unfold aQ
  rw [at2_of_lt _ _ _ r.isLt hl, at2_of_lt _ _ _ (by have := r.isLt; omega) hl]
  blk_point [iblk, V, idx t, Nat.mul_comm]

theorem blk1 (c : Dev nD) (t : Fin cfg0.N) (j : Fin 256) {l : ℕ} (hl : l < 1024) : at2 (m := 256) (n := 1024) (iblk m c 1 t) j.val l
    = aK m c j.val l := by
  unfold aK
  rw [at2_of_lt _ _ _ j.isLt hl, at2_of_lt _ _ _ j.isLt (by omega)]
  blk_point [iblk, V, idx t]

theorem blk2 (c : Dev nD) (t : Fin cfg0.N) (j : Fin 256) {l : ℕ} (hl : l < 1024) : at2 (m := 256) (n := 1024) (iblk m c 2 t) j.val l
    = half (aK m c) j.val l := by
  unfold half aK
  rw [at2_of_lt _ _ _ j.isLt hl, at2_of_lt _ _ _ j.isLt (by omega)]
  blk_point [iblk, V, idx t]

theorem out_blk (c : Dev nD) (t : Fin cfg0.N) (r l : Fin 1024) :
    out (at2 (m := 1024) (n := 1024) (iblk m c 0 t)) (at2 (m := 256) (n := 1024) (iblk m c 1 t)) (at2 (m := 256) (n := 1024) (iblk m c 2 t)) r.val l.val
      = out (aQ m c) (aK m c) (half (aK m c)) (1024 * t.val + r.val) l.val := by
  have hl := l.isLt
  unfold out
  refine Finset.sum_congr rfl fun j _ => congrArg₂ (· * ·) (congrArg₂ (fun a b => P a b j) ?_ ?_) (blk2 m c t j hl)
  · exact funext fun d => blk0 m c t r (by have := d.isLt; omega)
  · exact funext fun j => funext fun d => blk1 m c t j (by have := d.isLt; omega)

theorem final3w (c : Dev nD) : (dats m 0 c).arrAt 3 (cfgs 0).N = fun y : S4096x1024.Idx => out (aQ m c) (aK m c) (half (aK m c)) (y 0).val (y 1).val := by
  refine (dats m 0 c).arrAt_eq_of_covers 3 _ (by decide +kernel) fun t _ y => ?_
  blk_simp
  rw [after0_3]
  revert y
  refine fun (y : S1024x1024.Idx) => ?_
  obtain ⟨-, -, -, h3⟩ := idx t
  idx_vars y
  refine (out3 _ _ _ (ix2 y0 y1)).trans ((out_blk m c t y0 y1).trans (congrArg₂ (out _ _ _) ?_ ?_))
  · rw [h3, Nat.mul_comm]; rfl
  · rw [h3]
    exact (Nat.zero_add _).symm

open Cert.AttnOutIdeal.Read
open Cert.AttnRow (sc)

section Reference

variable (q : FVec Ideal S4096x1024 .bf16) (kv : FVec Ideal S256x2048 .bf16)

theorem scores (h : Fin 4) (r : Fin 4096) (j : Fin 256) : val_main_v9 (F := Ideal) q kv (ix3 h r j)
    = sc (row (at2 q) (h.val * 256) r.val) (head (at2 kv) (h.val * 256)) j := by
  pointwise [val_main_v0, val_main_v1, val_main_v2, val_main_v3, val_main_v4, val_main_v5, val_main_v6, val_main_v7, val_main_cst, val_main_v8, val_main_v9]
  simp only [at2_ix2]
  rfl

theorem largest (h : Fin 4) (r : Fin 4096) : val_main_v10 (F := Ideal) q kv (ix2 h r)
    = Finset.fold max (Ideal.ofBits .f32 0xFF800000#32) (sc (row (at2 q) (h.val * 256) r.val) (head (at2 kv) (h.val * 256))) Finset.univ := by
  rw [← funext (scores q kv h r)]
  exact Cert.AttnRow.host_max _ _ _ _ h r

theorem largest' (h : Fin 4) (r : Fin 4096) : val_main_v12 (F := Ideal) q kv (ix2 h r) = val_main_v10 (F := Ideal) q kv (ix2 h r) := by
  have hb : Ideal.ofBits .f32 0xFF800000#32 = (⊥ : EReal) := by simp [Ideal.ofBits, Ideal.ieee]
  have e : val_main_v11 (F := Ideal) (ix2 h r) = (⊥ : EReal) := by
    pointwise [val_main_v11, val_main_cst_1]
    exact hb
  rw [val_main_v12_apply, e]
  generalize val_main_v10 (F := Ideal) q kv (ix2 h r) = z
  exact max_eq_right (α := EReal) bot_le

theorem shifted (h : Fin 4) (r : Fin 4096) (j : Fin 256) : val_main_v15 (F := Ideal) q kv (ix3 h r j)
    = sc (row (at2 q) (h.val * 256) r.val) (head (at2 kv) (h.val * 256)) j
      - Finset.fold max (Ideal.ofBits .f32 0xFF800000#32) (sc (row (at2 q) (h.val * 256) r.val) (head (at2 kv) (h.val * 256))) Finset.univ := by
  rw [← largest, ← scores, ← largest']
  pointwise [val_main_v15, val_main_v14, val_main_v13]

theorem weights (h : Fin 4) (r : Fin 4096) (j : Fin 256) : val_main_v20 (F := Ideal) q kv (ix3 h r j)
    = P (row (at2 q) (h.val * 256) r.val) (head (at2 kv) (h.val * 256)) j := by
  pointwise [val_main_v16, val_main_cst_2, val_main_v17, val_main_v18, val_main_v19, val_main_v20]
  simp only [shifted]
  rfl

theorem ref3 (r : Fin 4096) (l : Fin 1024) : val_main_v24 (F := Ideal) q kv (ix2 r l) = out (at2 q) (at2 kv) (half (at2 kv)) r.val l.val := by
  pointwise [val_main_v24, val_main_v23, val_main_v22, val_main_v21, val_main_v6, val_main_v4, val_main_v2]
  simp only [weights, at2_ix2, Nat.div_add_mod']
  exact Finset.sum_congr (M := EReal) rfl fun j _ => mul_comm (G := EReal) _ _

end Reference

end Cert.AttnFwdIdeal.Value

namespace Cert.Proof

open Idealize.ShloMosaic Idealize.SL.Sem

/-- The attention's forward call computes the reference's output. -/
theorem algebraic_AttnFwd : Cert.algebraic_AttnFwdIdeal_AttnOutIdeal := by
  pair_intro
  · run_from Cert.AttnFwdIdeal.Gen.run_main m g
  · refine (θ_run _ _ _).mono (fun r h c => ?_) (Cert.AttnOutIdeal.Value.run m' g')
    obtain ⟨h0, hargs⟩ := h c
    obtain ⟨e0, e1⟩ := hagree c
    rw [Cert.AttnOutIdeal.Read.val_main_v24_eq, e0, e1] at h0
    refine ⟨h0.trans ?_, hargs⟩
    refine Eq.trans ?_ (Cert.AttnFwdIdeal.Value.final3w m c).symm
    funext j; idx_vars j; exact Cert.AttnFwdIdeal.Value.ref3 _ _ _ _

end Cert.Proof

end
-- ==== Proof.Conformer.Forward.lean ====
/-
  The forward call of the convolution module: what its loop stores, what its result holds, and that this is the gated
  causal convolution.
-/
module

public import proofs.«01_k».proof.Proof.Conformer.Value
public import proofs.«01_k».proof.Proof.Gen.ConformerFwdIdeal.Value
public import proofs.«01_k».proof.Proof.Gen.ConformerOutIdeal.Read
public import proofs.«01_k».proof.Proof.Gen.ConformerOutIdeal.Run

@[expose] public section

set_option maxRecDepth 16384

noncomputable section

namespace Cert.ConformerFwdIdeal.Value

open Cert.ConformerFwdIdeal Cert.ConformerFwdIdeal.Gen Cert.Pieces Idealize.ShloMosaic Idealize.ShloMosaic.TcCoe Idealize.SL.Sem
open Cert.ConformerBwdIdeal.Value (xpAt xin tap_eq tap_sum)
open Idealize.ShloMosaic.Pipeline (Dat)

/-- One position of the causal convolution over its padded input: thirty-one rows, each times its tap. -/
def delayed (xp : FVec Ideal S4128x128 .f32) (w : FVec Ideal S31x128 .f32) (r l : ℕ) : EReal :=
  ∑ j ∈ Finset.range 31, at2 xp (r + (32 - j)) l * at2 w (30 - j) l

section Loop

variable (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S31x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4128x128 .f32) (harg6 : arg6.IsWhole)
variable (X3 : BufTy.Contents (Elt Ideal) arg3.view.ty) (X4 : BufTy.Contents (Elt Ideal) arg4.view.ty) (X6 : BufTy.Contents (Elt Ideal) arg6.view.ty)

set_option maxHeartbeats 1600000 in
/-- A trip's store. -/
theorem trip_out (k : Fin k0_t1_loop.trips) : ∀ p ∈ tripL_k0_t1 (F := Ideal) 𝒱 c bd i arg1 harg1 arg2 harg2 arg3 harg3 arg4 harg4 arg5 harg5 arg6 harg6 X3 X4 X6 k,
    ∀ x : p.1.shape.Idx, p.2 x = delayed (arg6.view.read (Elt Ideal) X6) (arg3.view.read (Elt Ideal) X3) (p.1.emb x 0).val (p.1.emb x 1).val + at2 (m := 1) (n := 128) (arg4.view.read (Elt Ideal) X4) 0 (p.1.emb x 1).val := by
  unfold tripL_k0_t1 trip_k0_t1
  dsimp only
  intro p hp x
  rw [List.mem_singleton] at hp
  subst hp
  revert x
  refine fun (x : S256x128.Idx) => ?_
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8]
  idx_vars x
  show _ = delayed (arg6.view.read (Elt Ideal) X6) (arg3.view.read (Elt Ideal) X3) (k0_off2 k 0 + 1 * x0.val) (k0_off2 k 1 + 1 * x1.val) + at2 (m := 1) (n := 128) (arg4.view.read (Elt Ideal) X4) 0 (k0_off2 k 1 + 1 * x1.val)
  simp only [View.readAt_eq_ld]
  pointwise [k0_off1_eq, k0_off2_eq, k0_pay3, k0_pay4, k0_pay5, k0_pay6, k0_pay7, k0_pay8, k0_pay9, k0_pay10, k0_pay11]
  have hx := x0.isLt
  have e (n : ℕ) (h1 : 0 < n) (h2 : n ≤ 32) : 256 * k.val + (x0.val + (32 + 288) - n) % 288 = 256 * k.val + (x0.val + (32 - n)) := by omega
  have e8 : 32 + x0.val = x0.val + 32 := by omega
  simp (disch := omega) only [at2_ix2, delayed, e, e8, Finset.sum_range_succ, Finset.sum_range_zero, Nat.reduceSub, Nat.reduceMod, Fin.isValue, Fin.coe_ofNat_eq_mod, zero_add, Nat.add_zero, Nat.zero_add, Nat.one_mul, Fin.val_zero, Nat.add_assoc]

/-- Where a trip stores. -/
theorem trip_at (k : Fin k0_t1_loop.trips) : ∃ p ∈ tripL_k0_t1 (F := Ideal) 𝒱 c bd i arg1 harg1 arg2 harg2 arg3 harg3 arg4 harg4 arg5 harg5 arg6 harg6 X3 X4 X6 k,
      (∀ a, p.1.off a = k0_off2 k a) ∧ (∀ a, p.1.size a = (![256, 128] : Fin 2 → ℕ) a) ∧ ∀ a, p.1.stride a = 1 := by
  unfold tripL_k0_t1 trip_k0_t1
  dsimp only
  exact ⟨_, List.mem_singleton_self _, fun _ => rfl, fun _ => rfl, fun _ => rfl⟩

/-- The result after the loop: sixteen blocks of 256 rows are all the rows. -/
theorem loop_out (f : BufTy.Contents (Elt Ideal) arg5.view.ty) (y : S4096x128.Idx) :
    arg5.view.read (Elt Ideal) (arg5.view.writes (Elt Ideal) f (pb_k0_t1 (F := Ideal) 𝒱 c bd i arg1 harg1 arg2 harg2 arg3 harg3 arg4 harg4 arg5 harg5 arg6 harg6 X3 X4 X6 k0_t1_loop.trips)) y
      = delayed (arg6.view.read (Elt Ideal) X6) (arg3.view.read (Elt Ideal) X3) (y 0).val (y 1).val + at2 (m := 1) (n := 128) (arg4.view.read (Elt Ideal) X4) 0 (y 1).val := by
  let L (n : ℕ) := pb_k0_t1 (F := Ideal) 𝒱 c bd i arg1 harg1 arg2 harg2 arg3 harg3 arg4 harg4 arg5 harg5 arg6 harg6 X3 X4 X6 n
  let T (k : Fin k0_t1_loop.trips) := tripL_k0_t1 (F := Ideal) 𝒱 c bd i arg1 harg1 arg2 harg2 arg3 harg3 arg4 harg4 arg5 harg5 arg6 harg6 X3 X4 X6 k
  have hs (k : Fin k0_t1_loop.trips) : L (k.val + 1) = T k ++ L k.val := pb_k0_t1_succ (F := Ideal) 𝒱 c bd i arg1 harg1 arg2 harg2 arg3 harg3 arg4 harg4 arg5 harg5 arg6 harg6 X3 X4 X6 k
  refine View.read_writes_apply_of_pieces _ f (fun y : S4096x128.Idx => delayed (arg6.view.read (Elt Ideal) X6) (arg3.view.read (Elt Ideal) X3) (y 0).val (y 1).val + at2 (m := 1) (n := 128) (arg4.view.read (Elt Ideal) X4) 0 (y 1).val) _
    (forall_trips L T rfl hs _ (trip_out 𝒱 c bd i arg1 harg1 arg2 harg2 arg3 harg3 arg4 harg4 arg5 harg5 arg6 harg6 X3 X4 X6) _ le_rfl) y (View.cover_of_blocks _ ![256, 128] (by decide) (fun ix => ?_) y)
  obtain ⟨p, hp, ho, hz, h1⟩ := trip_at 𝒱 c bd i arg1 harg1 arg2 harg2 arg3 harg3 arg4 harg4 arg5 harg5 arg6 harg6 X3 X4 X6 (Fin.cast (by decide) (ix 0))
  refine ⟨p, mem_trips L T hs _ p hp _ le_rfl (Fin.isLt _), fun a => ?_, hz, h1⟩
  rw [ho a, k0_off2_eq]
  fin_cases a
  · exact Nat.mul_comm _ _
  · have h1 : (ix 1).val = 0 := Nat.lt_one_iff.mp (ix 1).isLt
    show 0 = (ix 1).val * 128
    rw [h1]

end Loop

variable (m : (ℓ : Loc nD τ sig) → Buf (Elt Ideal) ℓ)

theorem idx : ∀ t : Fin cfg0.N, win0_0.index t = ![0, 12 + t.val] ∧ win0_1.index t = ![0, 16 + t.val] ∧ win0_2.index t = ![0, t.val] ∧ win0_3.index t = ![0, t.val]
    ∧ win0_4.index t = ![0, t.val] := (by decide +kernel : ∀ t : Fin grid0.N, _)

theorem xp_read (v g : FVec Ideal S4096x128 .f32) (y : S4128x128.Idx) :
    View.read (Elt Ideal) scM0_0.view ((View.whole cc0_scratch0).writes (Elt Ideal) (View.whole cc0_scratch0).junk
      [⟨Rect.unit ![32, 0] ![4096, 128] inb_S4128x128_S4096x128_32_0, k0_pay2 (F := Ideal) v g⟩,
        ⟨Rect.unit ![0, 0] ![32, 128] inb_S4128x128_S32x128_0_0, k0_pay1 (F := Ideal)⟩]) y
      = xpAt (at2 v) (at2 g) (y 0).val (y 1).val := by
  refine View.read_writes_apply_of_pieces (Val := Elt Ideal) scM0_0.view _ (fun y : S4128x128.Idx => xpAt (at2 v) (at2 g) (y 0).val (y 1).val) _ ?_ y ?_
  · simp only [List.forall_mem_cons]
    refine ⟨?_, ?_, fun p hp => absurd hp List.not_mem_nil⟩ <;> intro x <;> rw [emb_val, emb_val] <;> revert x
    · refine fun (x : S4096x128.Idx) => ?_
      idx_vars x
      pointwise [k0_pay2, xpAt, sg]
      simp only [at2_ix2]
    · refine fun (x : S32x128.Idx) => ?_
      idx_vars x
      pointwise [k0_pay1, xpAt]
  · by_cases h : (y 0).val < 32
    · exact ⟨_, List.mem_cons_of_mem _ List.mem_cons_self, mem_rows (inb := inb_S4128x128_S32x128_0_0) y (Nat.zero_le _) (by omega)⟩
    · exact ⟨_, List.mem_cons_self, mem_rows (inb := inb_S4128x128_S4096x128_32_0) y (by omega) (by have : (y 0).val < 4128 := (y 0).isLt; omega)⟩

theorem out4 (c : Dev nD) (t : Fin cfg0.N) (y : S4096x128.Idx) : (dats m 0 c).after 4 t y
    = (∑ j ∈ Finset.range 31, xpAt (at2 (m := 4096) (n := 128) (iblk m c 0 t)) (at2 (m := 4096) (n := 128) (iblk m c 1 t)) ((y 0).val + (32 - j)) (y 1).val
        * at2 (m := 31) (n := 128) (iblk m c 2 t) (30 - j) (y 1).val)
      + at2 (m := 1) (n := 128) (iblk m c 3 t) 0 (y 1).val := by
  rw [after0_4]; unfold outsAt0; frame_out
  refine (View.read_writes_junk_apply_eq_canon (ms0_4 t).view y _).symm.trans ((loop_out ..).trans ?_)
  rw [Memref.IsWhole.read_unread, Memref.IsWhole.read_unread]
  unfold delayed
  refine congrArg₂ (· + ·) (Finset.sum_congr rfl fun j hj => ?_) rfl
  have h0 : (y 0).val < 4096 := (y 0).isLt
  exact congrArg₂ (· * ·) (at2_eq (xp_read _ _) (by omega) (y 1).isLt) rfl

theorem blk0 (c : Dev nD) (t : Fin cfg0.N) (a : ℕ) {b : ℕ} (hb : b < 128) : at2 (m := 4096) (n := 128) (iblk m c 0 t) a b
    = at2 (m := 4096) (n := 2560) (m ((c : Thread nD τ).loc main_arg0)) a (128 * (12 + t.val) + b) := by
  refine at2_cols (fun r l => ?_) a hb
  have ht : t.val < 4 := t.isLt
  rw [at2_of_lt _ _ _ r.isLt (by have := l.isLt; omega)]
  blk_point [iblk, V, idx t]

theorem blk1 (c : Dev nD) (t : Fin cfg0.N) (a : ℕ) {b : ℕ} (hb : b < 128) : at2 (m := 4096) (n := 128) (iblk m c 1 t) a b
    = at2 (m := 4096) (n := 2560) (m ((c : Thread nD τ).loc main_arg0)) a (128 * (16 + t.val) + b) := by
  refine at2_cols (fun r l => ?_) a hb
  have ht : t.val < 4 := t.isLt
  rw [at2_of_lt _ _ _ r.isLt (by have := l.isLt; omega)]
  blk_point [iblk, V, idx t]

theorem blk2 (c : Dev nD) (t : Fin cfg0.N) (a : ℕ) {b : ℕ} (hb : b < 128) : at2 (m := 31) (n := 128) (iblk m c 2 t) a b
    = at2 (m := 31) (n := 512) (m ((c : Thread nD τ).loc main_arg1)) a (128 * t.val + b) := by
  refine at2_cols (fun r l => ?_) a hb
  have ht : t.val < 4 := t.isLt
  rw [at2_of_lt _ _ _ r.isLt (by have := l.isLt; omega)]
  blk_point [iblk, V, idx t]

theorem blk3 (c : Dev nD) (t : Fin cfg0.N) (a : ℕ) {b : ℕ} (hb : b < 128) : at2 (m := 1) (n := 128) (iblk m c 3 t) a b
    = at2 (m := 1) (n := 512) (m ((c : Thread nD τ).loc main_arg2)) a (128 * t.val + b) := by
  refine at2_cols (fun r l => ?_) a hb
  have ht : t.val < 4 := t.isLt
  rw [at2_of_lt _ _ _ r.isLt (by have := l.isLt; omega)]
  blk_point [iblk, V, idx t]

/-- The gated causal convolution at a position. -/
def fwAt (z : FVec Ideal S4096x2560 .f32) (w : FVec Ideal S31x512 .f32) (r l : ℕ) : EReal :=
  ∑ j ∈ Finset.range 31, xin z (r + (32 - j)) l * at2 w (30 - j) l

theorem final4 (c : Dev nD) : (dats m 0 c).arrAt 4 (cfgs 0).N
    = fun y : S4096x512.Idx => fwAt (m ((c : Thread nD τ).loc main_arg0)) (m ((c : Thread nD τ).loc main_arg1)) (y 0).val (y 1).val + at2 (m := 1) (n := 512) (m ((c : Thread nD τ).loc main_arg2)) 0 (y 1).val := by
  refine (dats m 0 c).arrAt_eq_of_covers 4 _ (by decide +kernel) fun t _ y => ?_
  blk_simp
  rw [out4]
  have ht : t.val < 4 := t.isLt
  have hl : (y 1).val < 128 := (y 1).isLt
  obtain ⟨-, -, -, -, h⟩ := idx t
  rw [h]
  show _ = fwAt (m ((c : Thread nD τ).loc main_arg0)) (m ((c : Thread nD τ).loc main_arg1)) (0 * 4096 + (y 0).val) (t.val * 128 + (y 1).val) + at2 (m := 1) (n := 512) (m ((c : Thread nD τ).loc main_arg2)) 0 (t.val * 128 + (y 1).val)
  simp only [blk0 m c t _ hl, blk1 m c t _ hl, blk2 m c t _ hl, blk3 m c t _ hl, fwAt, xin, xpAt, Nat.zero_mul, Nat.zero_add,
    Cert.ConformerBwdIdeal.Value.col0, Cert.ConformerBwdIdeal.Value.col1, Cert.ConformerBwdIdeal.Value.col2]

open Cert.ConformerOutIdeal.Read

theorem pure_out (z : FVec Ideal S4096x2560 .f32) (w : FVec Ideal S31x512 .f32) (b : FVec Ideal S1x512 .f32) (r : Fin 4096) (l : Fin 512) :
    fwAt z w r.val l.val + at2 b 0 l.val = val_main_v23 (F := Ideal) z w b (ix2 r l) := by
  rw [← val_main_v23_eq]
  pointwise []
  simp only [at2_ix2]
  refine congrArg₂ (· + ·) ?_ rfl
  unfold fwAt
  rw [← Finset.sum_range_reflect, ← Fin.sum_univ_eq_sum_range (fun j => xin z (r.val + (32 - (31 - 1 - j))) l.val * at2 w (30 - (31 - 1 - j)) l.val) 31]
  refine Finset.sum_congr rfl fun k _ => ?_
  have hk := k.isLt
  have e : 30 - (31 - 1 - k.val) = k.val := by omega
  have e' : r.val + (32 - (31 - 1 - k.val)) = r.val + 2 + k.val := by omega
  rw [e, e', ← tap_sum]
  exact congrArg₂ (· * ·) (Finset.sum_congr rfl fun s _ => congrArg₂ (· * ·) (tap_eq _ _ _ s.isLt r.isLt k.isLt).symm (by rw [sg, zero_sub])) rfl

end Cert.ConformerFwdIdeal.Value

namespace Cert.Proof

open Idealize.ShloMosaic Idealize.SL.Sem

/-- The convolution module's forward call computes the gated causal convolution: no precondition. -/
theorem algebraic_ConformerFwd : Cert.algebraic_ConformerFwdIdeal_ConformerOutIdeal := by
  pair_intro
  · run_from Cert.ConformerFwdIdeal.Gen.run_main m g
  · refine (θ_run _ _ _).mono (fun r h c => ?_) (Cert.ConformerOutIdeal.Value.run m' g')
    obtain ⟨h0, hargs⟩ := h c
    obtain ⟨e0, e1, e2⟩ := hagree c
    rw [Cert.ConformerOutIdeal.Read.val_main_v23_eq, e0, e1, e2] at h0
    refine ⟨h0.trans ?_, hargs⟩
    refine Eq.trans ?_ (Cert.ConformerFwdIdeal.Value.final4 m c).symm
    funext j; idx_vars j; exact (Cert.ConformerFwdIdeal.Value.pure_out _ _ _ _ _).symm

end Cert.Proof

end
-- ==== Proof.LnSiluFwd.lean ====
module

public import proofs.«01_k».proof.Proof.Gen.LnSiluFwdIdeal.Value
public import proofs.«01_k».proof.Proof.Gen.LnSiluOutIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.LnSiluOutIdeal.Run
public import proofs.«01_k».proof.Proof.Pieces
public import proofs.«01_k».proof.Proof.LnRow

@[expose] public section

set_option maxRecDepth 16384

noncomputable section

namespace Cert.LnSiluFwdIdeal.Value

open Cert.LnSiluFwdIdeal Cert.LnSiluFwdIdeal.Gen Cert.Pieces Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 1] :=
  (by decide +kernel : ∀ t : Fin grid0.N, _)

/-- The normalised row, scaled and shifted. -/
def lin (X : ℕ → ℕ → EReal) (g b : FVec Ideal S1x512 .f32) (r : ℕ) (l : Fin 512) : EReal :=
  LnRow.xh (fun k => X r k.val) l * at2 g 0 l.val + at2 b 0 l.val

/-- … gated by its own logistic function. -/
def want (X : ℕ → ℕ → EReal) (g b : FVec Ideal S1x512 .f32) (r : ℕ) (l : Fin 512) : EReal := lin X g b r l * sg (lin X g b r l)

/-- The output array: the left half is the argument's, the right half this call's. -/
def whole (X : ℕ → ℕ → EReal) (g b : FVec Ideal S1x512 .f32) (Y : FVec Ideal S4096x1024 .bf16) (r : Fin 4096) (l : Fin 1024) : EReal :=
  if h : 512 ≤ l.val then want X g b r.val ⟨l.val - 512, by have := l.isLt; omega⟩ else Y (ix2 r l)

theorem tile (x : FVec Ideal S512x512 .f32) (g b : FVec Ideal S1x512 .f32) (r : Fin 512) (l : Fin 512) :
    k0_pay1 (F := Ideal) x g b (ix2 r l) = want (at2 x) g b r.val l := by
  pointwise [k0_pay1]
  simp only [want, lin, at2_ix2, sg]
  rfl

theorem outW (c : Dev nD) (t : Fin cfg0.N) : outsAt0 m c t = k0_pay1 (F := Ideal) (iblk m c 0 t) (iblk m c 1 t) (iblk m c 2 t) := by
  unfold outsAt0
  frame_out

theorem blk0 (c : Dev nD) (t : Fin cfg0.N) (r k : Fin 512) : at2 (m := 512) (n := 512) (iblk m c 0 t) r.val k.val
    = at2 (m := 4096) (n := 512) (m ((c : Thread nD τ).loc main_arg0)) (t.val * 512 + r.val) k.val := by
  have ht : t.val < 8 := t.isLt
  rw [at2_of_lt _ _ _ r.isLt k.isLt, at2_of_lt _ _ _ (by have := r.isLt; omega) k.isLt]
  blk_point [iblk, V, idx t]

theorem blk1 (c : Dev nD) (t : Fin cfg0.N) (k : Fin 512) : at2 (m := 1) (n := 512) (iblk m c 1 t) 0 k.val
    = at2 (m := 1) (n := 512) (m ((c : Thread nD τ).loc main_arg1)) 0 k.val := by
  rw [at2_of_lt _ _ _ Nat.one_pos k.isLt, at2_of_lt _ _ _ Nat.one_pos k.isLt]
  blk_point [iblk, V, idx t]

theorem blk2 (c : Dev nD) (t : Fin cfg0.N) (k : Fin 512) : at2 (m := 1) (n := 512) (iblk m c 2 t) 0 k.val
    = at2 (m := 1) (n := 512) (m ((c : Thread nD τ).loc main_arg2)) 0 k.val := by
  rw [at2_of_lt _ _ _ Nat.one_pos k.isLt, at2_of_lt _ _ _ Nat.one_pos k.isLt]
  blk_point [iblk, V, idx t]

theorem pay_eq (c : Dev nD) (t : Fin cfg0.N) (r l : Fin 512) : k0_pay1 (F := Ideal) (iblk m c 0 t) (iblk m c 1 t) (iblk m c 2 t) (ix2 r l)
    = want (at2 (m := 4096) (n := 512) (m ((c : Thread nD τ).loc main_arg0))) (m ((c : Thread nD τ).loc main_arg1)) (m ((c : Thread nD τ).loc main_arg2))
      (t.val * 512 + r.val) l := by
  rw [tile]
  unfold want lin
  rw [blk1, blk2]
  simp only [blk0]

theorem final3w (c : Dev nD) : (dats m 0 c).arrAt 3 (cfgs 0).N
    = fun y : S4096x1024.Idx => whole (at2 (m := 4096) (n := 512) (m ((c : Thread nD τ).loc main_arg0))) (m ((c : Thread nD τ).loc main_arg1))
      (m ((c : Thread nD τ).loc main_arg2)) (m ((c : Thread nD τ).loc main_arg3)) (y 0) (y 1) := by
  refine (dats m 0 c).arrAt_eq_of_coversWhere_of_agree 3 _ (fun β => 1 ≤ β (1 : Fin 2)) (by decide +kernel) (fun t _ y => ?_) (fun j hj => ?_)
  · blk_simp
    rw [after0_3, outW]
    revert y
    refine fun (y : S512x512.Idx) => ?_
    obtain ⟨-, -, -, h3⟩ := idx t
    idx_vars y
    have h1 := y1.isLt
    have e : ((win0_3.blk t).view.emb (ix2 y0 y1) 1).val = 512 + y1.val := by
      blk_simp
      rw [h3]
      rfl
    refine (pay_eq m c t y0 y1).trans ?_
    unfold whole
    rw [dif_pos (e ▸ Nat.le_add_right _ _)]
    refine congrArg₂ (want _ _ _) ?_ (Fin.ext ?_)
    · blk_simp
      rw [h3]
      rfl
    · show _ = _ - 512
      rw [e]
      omega
  · blk_simp [Pipeline.Window.cell_apply] at hj
    revert j
    refine fun (j : S4096x1024.Idx) hj => ?_
    idx_vars j
    refine Eq.trans ?_ (dif_neg (show ¬ 512 ≤ j1.val by omega)).symm
    rw [A_eq]
    rfl

open Cert.LnSiluOutIdeal.Read

section Reference

variable (x : FVec Ideal S4096x512 .f32) (g b : FVec Ideal S1x512 .f32) (Y : FVec Ideal S4096x1024 .bf16)

theorem mean (r : Fin 4096) (l : Fin 512) : val_main_v5 (F := Ideal) x (ix2 r l) = LnRow.xc (fun k => at2 x r.val k.val) l := by
  pointwise [val_main_v0, val_main_v1, val_main_v2, val_main_v3, val_main_v4, val_main_v5, val_main_cst, val_main_cst_0]
  simp only [at2_ix2]
  rfl

theorem var (r : Fin 4096) : val_main_v14 (F := Ideal) x (ix2 r 0) = LnRow.ms (fun k => at2 x r.val k.val) := by
  pointwise [val_main_v6, val_main_v7, val_main_v8, val_main_v9, val_main_v10, val_main_v13, val_main_v14, val_main_cst_1, val_main_cst_2, val_main_cst_3]
  simp only [mean]
  rfl

theorem linear (r : Fin 4096) (l : Fin 512) : val_main_v21 (F := Ideal) x g b (ix2 r l) = lin (at2 x) g b r.val l := by
  unfold lin LnRow.xh
  rw [← mean, ← var]
  pointwise [val_main_v21, val_main_v20, val_main_v19, val_main_v18, val_main_v17, val_main_v16, val_main_v15, val_main_v12, val_main_v11, val_main_v5, val_main_v4]
  simp only [at2_ix2]
  rfl

theorem gated (r : Fin 4096) (l : Fin 512) : val_main_v23 (F := Ideal) x g b (ix2 r l) = want (at2 x) g b r.val l := by
  unfold want sg
  rw [← linear]
  pointwise [val_main_v23, val_main_v22, val_main_call0_v5, val_main_call0_v4, val_main_call0_v3, val_main_call0_v2, val_main_call0_v1, val_main_call0_v0, val_main_call0_cst, val_main_call0_cst_0]
  rw [zero_sub]

theorem pure3 (r : Fin 4096) (l : Fin 1024) : val_main_v25 (F := Ideal) x g b Y (ix2 r l) = whole (at2 x) g b Y r l := by
  have hl := l.isLt
  unfold whole val_main_v25
  by_cases h : 512 ≤ l.val
  · rw [dif_pos h, ← gated]
    refine concatenate_pair_apply_right (t := ⟨2, ![4096, 1024]⟩) (s₁ := ⟨2, ![4096, 512]⟩) (s₂ := ⟨2, ![4096, 512]⟩) (1 : Fin 2) _ _ _ _ rfl rfl
      (ix2 r ⟨l.val - 512, by omega⟩) (fun a ha => ?_) (by show l.val - 512 + 512 = l.val; omega)
    match a with
    | ⟨0, _⟩ => rfl
    | ⟨1, _⟩ => exact absurd rfl ha
  · rw [dif_neg h]
    refine (concatenate_pair_apply_left (t := ⟨2, ![4096, 1024]⟩) (s₁ := ⟨2, ![4096, 512]⟩) (s₂ := ⟨2, ![4096, 512]⟩) (1 : Fin 2) _ _ _ _ rfl
      (ix2 r ⟨l.val, by omega⟩) (fun a => ?_)).trans ?_
    · match a with
      | ⟨0, _⟩ => rfl
      | ⟨1, _⟩ => rfl
    · pointwise [val_main_v24]

end Reference

end Cert.LnSiluFwdIdeal.Value

namespace Cert.Proof

open Idealize.ShloMosaic Idealize.SL.Sem

/-- The layer norm and the gate behind it, written beside the left half, are the reference's. -/
theorem algebraic_LnSiluFwd : Cert.algebraic_LnSiluFwdIdeal_LnSiluOutIdeal := by
  pair_intro
  · run_from Cert.LnSiluFwdIdeal.Gen.run_main m g
  · refine (θ_run _ _ _).mono (fun r h c => ?_) (Cert.LnSiluOutIdeal.Value.run m' g')
    obtain ⟨h0, hargs⟩ := h c
    obtain ⟨e0, e1, e2, e3⟩ := hagree c
    rw [Cert.LnSiluOutIdeal.Read.val_main_v25_eq, e0, e1, e2, e3] at h0
    refine ⟨h0.trans ?_, hargs⟩
    refine Eq.trans ?_ (Cert.LnSiluFwdIdeal.Value.final3w m c).symm
    funext j; idx_vars j; exact Cert.LnSiluFwdIdeal.Value.pure3 _ _ _ _ _ _

end Cert.Proof
-- ==== Proof.RmsFwd.lean ====
module

public import proofs.«01_k».proof.Proof.Gen.RmsFwdIdeal.Value
public import proofs.«01_k».proof.Proof.Gen.RmsOutIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.RmsOutIdeal.Run
public import proofs.«01_k».proof.Proof.Pieces
public import proofs.«01_k».proof.Proof.NormRow

@[expose] public section

set_option maxRecDepth 16384

noncomputable section

namespace Cert.RmsFwdIdeal.Value

open Cert.RmsFwdIdeal Cert.RmsFwdIdeal.Gen Cert.Pieces Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The row normalised by its root mean square and scaled, at a position. -/
def want (x : ℕ → ℕ → EReal) (g : FVec Ideal S1x1024 .f32) (r : ℕ) (l : Fin 1024) : EReal :=
  x r l.val * NormRow.rs (fun k => x r k.val) * at2 g 0 l.val

theorem tile (x : FVec Ideal S512x1024 .f32) (g : FVec Ideal S1x1024 .f32) (r : Fin 512) (l : Fin 1024) :
    k0_pay1 (F := Ideal) x g (ix2 r l) = want (at2 x) g r.val l := by
  pointwise [k0_pay1]
  simp only [want, at2_ix2]
  rfl

theorem outW (x : FVec Ideal S512x1024 .f32) (g : FVec Ideal S1x1024 .f32) : out0_2 (F := Ideal) x g = k0_pay1 (F := Ideal) x g := by
  frame_out

theorem blk0 (c : Dev nD) (t : Fin cfg0.N) (r : Fin 512) (k : Fin 1024) : at2 (m := 512) (n := 1024) (iblk m c 0 t) r.val k.val
    = at2 (m := 4096) (n := 1024) (m ((c : Thread nD τ).loc main_arg0)) (t.val * 512 + r.val) k.val := by
  have ht : t.val < 8 := t.isLt
  rw [at2_of_lt _ _ _ r.isLt k.isLt, at2_of_lt _ _ _ (by have := r.isLt; omega) k.isLt]
  blk_point [iblk, V, idx t]

theorem blk1 (c : Dev nD) (t : Fin cfg0.N) (k : Fin 1024) : at2 (m := 1) (n := 1024) (iblk m c 1 t) 0 k.val
    = at2 (m := 1) (n := 1024) (m ((c : Thread nD τ).loc main_arg1)) 0 k.val := by
  rw [at2_of_lt _ _ _ Nat.one_pos k.isLt, at2_of_lt _ _ _ Nat.one_pos k.isLt]
  blk_point [iblk, V, idx t]

theorem pay_eq (c : Dev nD) (t : Fin cfg0.N) (r : Fin 512) (l : Fin 1024) : k0_pay1 (F := Ideal) (iblk m c 0 t) (iblk m c 1 t) (ix2 r l)
    = want (at2 (m := 4096) (n := 1024) (m ((c : Thread nD τ).loc main_arg0))) (m ((c : Thread nD τ).loc main_arg1)) (t.val * 512 + r.val) l := by
  rw [tile]
  unfold want
  rw [blk1]
  simp only [blk0]

theorem final2w (c : Dev nD) : (dats m 0 c).arrAt 2 (cfgs 0).N
    = fun y : S4096x1024.Idx => want (at2 (m := 4096) (n := 1024) (m ((c : Thread nD τ).loc main_arg0))) (m ((c : Thread nD τ).loc main_arg1)) (y 0).val (y 1) := by
  refine (dats m 0 c).arrAt_eq_of_covers 2 _ (by decide +kernel) fun t _ y => ?_
  blk_simp
  rw [after0_2, outW]
  revert y
  refine fun (y : S512x1024.Idx) => ?_
  obtain ⟨-, -, h2⟩ := idx t
  idx_vars y
  refine (pay_eq m c t y0 y1).trans (congrArg₂ (want _ _) ?_ (Fin.ext ?_))
  · rw [h2]; rfl
  · blk_simp
    rw [h2]
    exact (Nat.zero_add _).symm

open Cert.RmsOutIdeal.Read

theorem pure2 (x : FVec Ideal S4096x1024 .f32) (g : FVec Ideal S1x1024 .f32) (r : Fin 4096) (l : Fin 1024) :
    want (at2 x) g r.val l = val_main_v12 (F := Ideal) x g (ix2 r l) := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  simp only [want, at2_ix2]
  rfl

end Cert.RmsFwdIdeal.Value

namespace Cert.Proof

open Idealize.ShloMosaic Idealize.SL.Sem

/-- The root-mean-square norm of the forward pass is the reference's. -/
theorem algebraic_RmsFwd : Cert.algebraic_RmsFwdIdeal_RmsOutIdeal := by
  pair_intro
  · run_from Cert.RmsFwdIdeal.Gen.run_main m g
  · refine (θ_run _ _ _).mono (fun r h c => ?_) (Cert.RmsOutIdeal.Value.run m' g')
    obtain ⟨h0, hargs⟩ := h c
    obtain ⟨e0, e1⟩ := hagree c
    rw [Cert.RmsOutIdeal.Read.val_main_v12_eq, e0, e1] at h0
    refine ⟨h0.trans ?_, hargs⟩
    refine Eq.trans ?_ (Cert.RmsFwdIdeal.Value.final2w m c).symm
    funext j; idx_vars j; exact (Cert.RmsFwdIdeal.Value.pure2 _ _ _ _).symm

end Cert.Proof
-- ==== Proof.NormOutFwd.lean ====
module

public import proofs.«01_k».proof.Proof.Gen.NormOutFwdIdeal.Value
public import proofs.«01_k».proof.Proof.Gen.NormOutOutIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.NormOutOutIdeal.Run
public import proofs.«01_k».proof.Proof.Pieces
public import proofs.«01_k».proof.Proof.NormRow

@[expose] public section

set_option maxRecDepth 16384

noncomputable section

namespace Cert.NormOutFwdIdeal.Value

open Cert.NormOutFwdIdeal Cert.NormOutFwdIdeal.Gen Cert.Pieces Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- A row of the product with the residual. -/
def sumrow (x : ℕ → ℕ → EReal) (w : FVec Ideal S1024x1024 .bf16) (res : ℕ → ℕ → EReal) (r : ℕ) (l : Fin 1024) : EReal :=
  (∑ k : Fin 1024, x r k.val * at2 w k.val l.val) + res r l.val

/-- That row normalised by its root mean square and scaled, at a position. -/
def want (x : ℕ → ℕ → EReal) (w : FVec Ideal S1024x1024 .bf16) (res : ℕ → ℕ → EReal) (g : FVec Ideal S1x1024 .f32) (r : ℕ) (l : Fin 1024) : EReal :=
  sumrow x w res r l * NormRow.rs (sumrow x w res r) * at2 g 0 l.val

theorem tile1 (x w : FVec Ideal S1024x1024 .bf16) (res : FVec Ideal S1024x1024 .f32) (r l : Fin 1024) :
    k0_pay1 (F := Ideal) x w res (ix2 r l) = sumrow (at2 x) w (at2 res) r.val l := by
  pointwise [k0_pay1]
  simp only [sumrow, at2_ix2]

theorem tile2 (x w : FVec Ideal S1024x1024 .bf16) (res : FVec Ideal S1024x1024 .f32) (g : FVec Ideal S1x1024 .f32) (r l : Fin 1024) :
    k0_pay2 (F := Ideal) x w res g (ix2 r l) = want (at2 x) w (at2 res) g r.val l := by
  pointwise [k0_pay2]
  simp only [tile1]
  unfold want
  simp only [at2_ix2]
  rfl

theorem outW4 (x w : FVec Ideal S1024x1024 .bf16) (res : FVec Ideal S1024x1024 .f32) (g : FVec Ideal S1x1024 .f32) :
    out0_4 (F := Ideal) x w res g = k0_pay1 (F := Ideal) x w res := by
  frame_out

theorem outW5 (x w : FVec Ideal S1024x1024 .bf16) (res : FVec Ideal S1024x1024 .f32) (g : FVec Ideal S1x1024 .f32) :
    out0_5 (F := Ideal) x w res g = k0_pay2 (F := Ideal) x w res g := by
  frame_out

theorem blk0 (c : Dev nD) (t : Fin cfg0.N) (r k : Fin 1024) : at2 (m := 1024) (n := 1024) (iblk m c 0 t) r.val k.val
    = at2 (m := 4096) (n := 1024) (m ((c : Thread nD τ).loc main_arg0)) (t.val * 1024 + r.val) k.val := by
  have ht : t.val < 4 := t.isLt
  rw [at2_of_lt _ _ _ r.isLt k.isLt, at2_of_lt _ _ _ (by have := r.isLt; omega) k.isLt]
  blk_point [iblk, V, idx t]

theorem blk1 (c : Dev nD) (t : Fin cfg0.N) (r k : Fin 1024) : at2 (m := 1024) (n := 1024) (iblk m c 1 t) r.val k.val
    = at2 (m := 1024) (n := 1024) (m ((c : Thread nD τ).loc main_arg1)) r.val k.val := by
  rw [at2_of_lt _ _ _ r.isLt k.isLt, at2_of_lt _ _ _ r.isLt k.isLt]
  blk_point [iblk, V, idx t]

theorem blk2 (c : Dev nD) (t : Fin cfg0.N) (r k : Fin 1024) : at2 (m := 1024) (n := 1024) (iblk m c 2 t) r.val k.val
    = at2 (m := 4096) (n := 1024) (m ((c : Thread nD τ).loc main_arg2)) (t.val * 1024 + r.val) k.val := by
  have ht : t.val < 4 := t.isLt
  rw [at2_of_lt _ _ _ r.isLt k.isLt, at2_of_lt _ _ _ (by have := r.isLt; omega) k.isLt]
  blk_point [iblk, V, idx t]

theorem blk3 (c : Dev nD) (t : Fin cfg0.N) (k : Fin 1024) : at2 (m := 1) (n := 1024) (iblk m c 3 t) 0 k.val
    = at2 (m := 1) (n := 1024) (m ((c : Thread nD τ).loc main_arg3)) 0 k.val := by
  rw [at2_of_lt _ _ _ Nat.one_pos k.isLt, at2_of_lt _ _ _ Nat.one_pos k.isLt]
  blk_point [iblk, V, idx t]

theorem blkS (c : Dev nD) (t : Fin cfg0.N) (r : Fin 1024) :
    sumrow (at2 (m := 1024) (n := 1024) (iblk m c 0 t)) (iblk m c 1 t) (at2 (m := 1024) (n := 1024) (iblk m c 2 t)) r.val
      = sumrow (at2 (m := 4096) (n := 1024) (m ((c : Thread nD τ).loc main_arg0))) (m ((c : Thread nD τ).loc main_arg1))
        (at2 (m := 4096) (n := 1024) (m ((c : Thread nD τ).loc main_arg2))) (t.val * 1024 + r.val) := by
  funext l
  exact congrArg₂ (· + ·) (Finset.sum_congr rfl fun k _ => congrArg₂ (· * ·) (blk0 m c t r k) (blk1 m c t k l)) (blk2 m c t r l)

theorem final4w (c : Dev nD) : (dats m 0 c).arrAt 4 (cfgs 0).N
    = fun y : S4096x1024.Idx => sumrow (at2 (m := 4096) (n := 1024) (m ((c : Thread nD τ).loc main_arg0))) (m ((c : Thread nD τ).loc main_arg1))
        (at2 (m := 4096) (n := 1024) (m ((c : Thread nD τ).loc main_arg2))) (y 0).val (y 1) := by
  refine (dats m 0 c).arrAt_eq_of_covers 4 _ (by decide +kernel) fun t _ y => ?_
  blk_simp
  rw [after0_4, outW4]
  revert y
  refine fun (y : S1024x1024.Idx) => ?_
  obtain ⟨-, -, -, -, h4, h5⟩ := idx t
  idx_vars y
  rw [tile1, blkS]
  refine congrArg₂ (sumrow _ _ _) ?_ (Fin.ext ?_)
  · rw [h4]; rfl
  · blk_simp
    rw [h4]
    exact (Nat.zero_add _).symm

theorem final5w (c : Dev nD) : (dats m 0 c).arrAt 5 (cfgs 0).N
    = fun y : S4096x1024.Idx => want (at2 (m := 4096) (n := 1024) (m ((c : Thread nD τ).loc main_arg0))) (m ((c : Thread nD τ).loc main_arg1))
        (at2 (m := 4096) (n := 1024) (m ((c : Thread nD τ).loc main_arg2))) (m ((c : Thread nD τ).loc main_arg3)) (y 0).val (y 1) := by
  refine (dats m 0 c).arrAt_eq_of_covers 5 _ (by decide +kernel) fun t _ y => ?_
  blk_simp
  rw [after0_5, outW5]
  revert y
  refine fun (y : S1024x1024.Idx) => ?_
  obtain ⟨-, -, -, -, h4, h5⟩ := idx t
  idx_vars y
  rw [tile2]
  unfold want
  rw [blkS, blk3]
  refine congrArg₂ (want _ _ _ (m ((c : Thread nD τ).loc main_arg3))) ?_ (Fin.ext ?_)
  · rw [h5]; rfl
  · blk_simp
    rw [h5]
    exact (Nat.zero_add _).symm

open Cert.NormOutOutIdeal.Read

theorem pure4 (x : FVec Ideal S4096x1024 .bf16) (w : FVec Ideal S1024x1024 .bf16) (res : FVec Ideal S4096x1024 .f32) (r : Fin 4096) (l : Fin 1024) :
    val_main_v3 (F := Ideal) x w res (ix2 r l) = sumrow (at2 x) w (at2 res) r.val l := by
  pointwise [val_main_v0, val_main_v1, val_main_v2, val_main_v3]
  simp only [sumrow, at2_ix2]
  exact add_comm (G := EReal) _ _

theorem pure5 (x : FVec Ideal S4096x1024 .bf16) (w : FVec Ideal S1024x1024 .bf16) (res : FVec Ideal S4096x1024 .f32) (g : FVec Ideal S1x1024 .f32) (r : Fin 4096) (l : Fin 1024) :
    val_main_v16 (F := Ideal) x w res g (ix2 r l) = want (at2 x) w (at2 res) g r.val l := by
  pointwise [val_main_v4, val_main_v5, val_main_v6, val_main_v7, val_main_v8, val_main_v9, val_main_v10, val_main_v11, val_main_v12, val_main_v13, val_main_v14, val_main_v15, val_main_v16, val_main_cst, val_main_cst_0, val_main_cst_1]
  simp only [pure4]
  unfold want
  simp only [at2_ix2]
  rfl

end Cert.NormOutFwdIdeal.Value

namespace Cert.Proof

open Idealize.ShloMosaic Idealize.SL.Sem

/-- The output projection with the residual and the norm behind it is the reference's. -/
theorem algebraic_NormOut : Cert.algebraic_NormOutFwdIdeal_NormOutOutIdeal := by
  pair_intro
  · run_from Cert.NormOutFwdIdeal.Gen.run_main m g
  · refine (θ_run _ _ _).mono (fun r h c => ?_) (Cert.NormOutOutIdeal.Value.run m' g')
    obtain ⟨h0, h1, hargs⟩ := h c
    obtain ⟨e0, e1, e2, e3⟩ := hagree c
    rw [Cert.NormOutOutIdeal.Read.val_main_v3_eq, e0, e1, e2] at h0
    rw [Cert.NormOutOutIdeal.Read.val_main_v16_eq, e0, e1, e2, e3] at h1
    refine ⟨h0.trans ?_, h1.trans ?_, hargs⟩
    · refine Eq.trans ?_ (Cert.NormOutFwdIdeal.Value.final4w m c).symm
      funext j; idx_vars j; exact Cert.NormOutFwdIdeal.Value.pure4 _ _ _ _ _
    · refine Eq.trans ?_ (Cert.NormOutFwdIdeal.Value.final5w m c).symm
      funext j; idx_vars j; exact Cert.NormOutFwdIdeal.Value.pure5 _ _ _ _ _ _

end Cert.Proof
-- ==== Proof.NormDownFwd.lean ====
module

public import proofs.«01_k».proof.Proof.Gen.NormDownFwdIdeal.Value
public import proofs.«01_k».proof.Proof.Gen.NormDownOutIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.NormDownOutIdeal.Run
public import proofs.«01_k».proof.Proof.Pieces
public import proofs.«01_k».proof.Proof.NormRow
public import Idealize.ShloMosaic.Lib.Pipeline.ReadBack

@[expose] public section

set_option maxRecDepth 16384

noncomputable section

namespace Cert.NormDownFwdIdeal.Value

open Cert.NormDownFwdIdeal Cert.NormDownFwdIdeal.Gen Cert.Pieces Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, t.val % 4] ∧ win0_1.index t = ![t.val % 4, 0] ∧ win0_2.index t = ![t.val / 4, 0]
    ∧ win0_3.index t = ![0, 0] ∧ win0_4.index t = ![t.val / 4, 0] ∧ win0_5.index t = ![t.val / 4, 0] :=
  (by decide +kernel : ∀ t : Fin grid0.N, _)

/-- The term of the product under `k`. -/
def term (x w : ℕ → ℕ → EReal) (r l k : ℕ) : EReal := x r k * w k l

/-- The part of the product that block `c` of the row adds. -/
def part (x w : ℕ → ℕ → EReal) (r l c : ℕ) : EReal := ∑ k : Fin 1024, term x w r l (1024 * c + k.val)

/-- A row of the product with the residual. -/
def sumrow (x w res : ℕ → ℕ → EReal) (r : ℕ) (l : Fin 1024) : EReal := (∑ c ∈ Finset.range 4, part x w r l.val c) + res r l.val

/-- That row normalised by its root mean square and scaled, at a position. -/
def want (x w res : ℕ → ℕ → EReal) (g : FVec Ideal S1x1024 .f32) (r : ℕ) (l : Fin 1024) : EReal :=
  sumrow x w res r l * NormRow.rs (sumrow x w res r) * at2 g 0 l.val

/-- A tile's product. -/
def blkdot (x w : FVec Ideal S1024x1024 .bf16) (r l : ℕ) : EReal := ∑ k : Fin 1024, at2 x r k.val * at2 w k.val l

theorem tile_fill (x w : FVec Ideal S1024x1024 .bf16) (r l : Fin 1024) : k0_pay1 (F := Ideal) x w (ix2 r l) = blkdot x w r.val l.val := by
  pointwise [k0_pay1]
  simp only [blkdot, at2_ix2]

theorem tile_add (a : FVec Ideal S1024x1024 .f32) (x w : FVec Ideal S1024x1024 .bf16) (r l : Fin 1024) :
    k0_pay2 (F := Ideal) a x w (ix2 r l) = a (ix2 r l) + blkdot x w r.val l.val := by
  pointwise [k0_pay2]
  simp only [blkdot, at2_ix2]

theorem tile_last (a : FVec Ideal S1024x1024 .f32) (x w : FVec Ideal S1024x1024 .bf16) (res : FVec Ideal S1024x1024 .f32) (r l : Fin 1024) :
    k0_pay3 (F := Ideal) a x w res (ix2 r l) = a (ix2 r l) + blkdot x w r.val l.val + at2 res r.val l.val := by
  pointwise [k0_pay3]
  simp only [blkdot, at2_ix2]

theorem tile5 (a : FVec Ideal S1024x1024 .f32) (x w : FVec Ideal S1024x1024 .bf16) (res : FVec Ideal S1024x1024 .f32) (g : FVec Ideal S1x1024 .f32) (r l : Fin 1024) :
    k0_pay4 (F := Ideal) a x w res g (ix2 r l)
      = k0_pay3 (F := Ideal) a x w res (ix2 r l) * NormRow.rs (fun k => k0_pay3 (F := Ideal) a x w res (ix2 r k)) * at2 g 0 l.val := by
  pointwise [k0_pay4]
  simp only [at2_ix2]
  rfl

/-! What a point leaves: the product so far, and at the last block of a row tile the results. -/

theorem acc_zero (c : Dev nD) (t : Fin cfg0.N) (h : t.val % 4 = 0) : (outsAt0 m c t.val t.isLt).2.2 = k0_pay1 (iblk m c 0 t) (iblk m c 1 t) := by
  rw [outsAt0_A m c t h (by omega) (by omega)]
  frame_out

theorem acc_step (c : Dev nD) (t : Fin cfg0.N) (h : 1 ≤ t.val % 4 ∧ t.val % 4 ≤ 2) : (outsAt0 m c t.val t.isLt).2.2
    = k0_pay2 (outsAt0 m c (t.val - 1) (Nat.lt_of_le_of_lt (Nat.sub_le _ _) t.isLt)).2.2 (iblk m c 0 t) (iblk m c 1 t) := by
  rw [outsAt0_B m c t (by omega) h (by omega)]
  frame_out
  rw [read_unread_whole]

theorem out4 (c : Dev nD) (t : Fin cfg0.N) (h : t.val % 4 = 3) : (outsAt0 m c t.val t.isLt).1
    = k0_pay3 (outsAt0 m c (t.val - 1) (Nat.lt_of_le_of_lt (Nat.sub_le _ _) t.isLt)).2.2 (iblk m c 0 t) (iblk m c 1 t) (iblk m c 2 t) := by
  rw [outsAt0_C m c t (by omega) (by omega) h]
  frame_out
  rw [read_unread_whole]

theorem out5 (c : Dev nD) (t : Fin cfg0.N) (h : t.val % 4 = 3) : (outsAt0 m c t.val t.isLt).2.1
    = k0_pay4 (outsAt0 m c (t.val - 1) (Nat.lt_of_le_of_lt (Nat.sub_le _ _) t.isLt)).2.2 (iblk m c 0 t) (iblk m c 1 t) (iblk m c 2 t) (iblk m c 3 t) := by
  rw [outsAt0_C m c t (by omega) (by omega) h]
  frame_out
  rw [read_unread_whole]

theorem blk0 (c : Dev nD) (t : Fin cfg0.N) (r k : Fin 1024) : at2 (m := 1024) (n := 1024) (iblk m c 0 t) r.val k.val
    = at2 (m := 4096) (n := 4096) (m ((c : Thread nD τ).loc main_arg0)) (1024 * (t.val / 4) + r.val) (1024 * (t.val % 4) + k.val) := by
  have ht : t.val < 16 := t.isLt
  rw [at2_of_lt _ _ _ r.isLt k.isLt, at2_of_lt _ _ _ (by have := r.isLt; omega) (by have := k.isLt; omega)]
  blk_point [iblk, V, idx t, Nat.mul_comm]

theorem blk1 (c : Dev nD) (t : Fin cfg0.N) (k l : Fin 1024) : at2 (m := 1024) (n := 1024) (iblk m c 1 t) k.val l.val
    = at2 (m := 4096) (n := 1024) (m ((c : Thread nD τ).loc main_arg1)) (1024 * (t.val % 4) + k.val) l.val := by
  rw [at2_of_lt _ _ _ k.isLt l.isLt, at2_of_lt _ _ _ (by have := k.isLt; omega) l.isLt]
  blk_point [iblk, V, idx t, Nat.mul_comm]

theorem blk2 (c : Dev nD) (t : Fin cfg0.N) (r k : Fin 1024) : at2 (m := 1024) (n := 1024) (iblk m c 2 t) r.val k.val
    = at2 (m := 4096) (n := 1024) (m ((c : Thread nD τ).loc main_arg2)) (1024 * (t.val / 4) + r.val) k.val := by
  have ht : t.val < 16 := t.isLt
  rw [at2_of_lt _ _ _ r.isLt k.isLt, at2_of_lt _ _ _ (by have := r.isLt; omega) k.isLt]
  blk_point [iblk, V, idx t, Nat.mul_comm]

theorem blk3 (c : Dev nD) (t : Fin cfg0.N) (k : Fin 1024) : at2 (m := 1) (n := 1024) (iblk m c 3 t) 0 k.val
    = at2 (m := 1) (n := 1024) (m ((c : Thread nD τ).loc main_arg3)) 0 k.val := by
  rw [at2_of_lt _ _ _ Nat.one_pos k.isLt, at2_of_lt _ _ _ Nat.one_pos k.isLt]
  blk_point [iblk, V, idx t]

theorem blkdot_eq (c : Dev nD) (t : Fin cfg0.N) (r l : Fin 1024) : blkdot (iblk m c 0 t) (iblk m c 1 t) r.val l.val
    = part (at2 (m := 4096) (n := 4096) (m ((c : Thread nD τ).loc main_arg0))) (at2 (m := 4096) (n := 1024) (m ((c : Thread nD τ).loc main_arg1)))
      (1024 * (t.val / 4) + r.val) l.val (t.val % 4) :=
  Finset.sum_congr rfl fun k _ => congrArg₂ (· * ·) (blk0 m c t r k) (blk1 m c t k l)

theorem acc_eq (c : Dev nD) (r l : Fin 1024) : ∀ n (hn : n < cfg0.N), n % 4 < 3 → (outsAt0 m c n hn).2.2 (ix2 r l)
    = ∑ k ∈ Finset.range (n % 4 + 1), part (at2 (m := 4096) (n := 4096) (m ((c : Thread nD τ).loc main_arg0)))
      (at2 (m := 4096) (n := 1024) (m ((c : Thread nD τ).loc main_arg1))) (1024 * (n / 4) + r.val) l.val k := by
  intro n
  induction n with
  | zero =>
    intro hn _
    rw [acc_zero m c ⟨0, hn⟩ rfl, tile_fill, blkdot_eq]
    exact (Finset.sum_range_one _).symm
  | succ n ih =>
    intro hn h
    by_cases h0 : (n + 1) % 4 = 0
    · rw [acc_zero m c ⟨n + 1, hn⟩ h0, tile_fill, blkdot_eq, h0]
      exact (Finset.sum_range_one _).symm
    · have e1 : (n + 1) % 4 = n % 4 + 1 := by omega
      have e2 : (n + 1) / 4 = n / 4 := by omega
      rw [acc_step m c ⟨n + 1, hn⟩ (by show 1 ≤ (n + 1) % 4 ∧ (n + 1) % 4 ≤ 2; omega), tile_add, blkdot_eq, Finset.sum_range_succ]
      refine congrArg₂ (· + ·) ?_ rfl
      rw [e1, e2]
      exact ih (Nat.lt_of_succ_lt hn) (by omega)

/-- At the last block the tile's product is complete. -/
theorem last_eq (c : Dev nD) (t : Fin cfg0.N) (h : t.val % 4 = 3) (r : Fin 1024) :
    (fun k => k0_pay3 (F := Ideal) (outsAt0 m c (t.val - 1) (Nat.lt_of_le_of_lt (Nat.sub_le _ _) t.isLt)).2.2 (iblk m c 0 t) (iblk m c 1 t) (iblk m c 2 t) (ix2 r k))
      = sumrow (at2 (m := 4096) (n := 4096) (m ((c : Thread nD τ).loc main_arg0))) (at2 (m := 4096) (n := 1024) (m ((c : Thread nD τ).loc main_arg1)))
        (at2 (m := 4096) (n := 1024) (m ((c : Thread nD τ).loc main_arg2))) (1024 * (t.val / 4) + r.val) := by
  funext l
  have e1 : (t.val - 1) % 4 = 2 := by omega
  have e2 : (t.val - 1) / 4 = t.val / 4 := by omega
  rw [tile_last, blkdot_eq, acc_eq m c r l (t.val - 1) _ (by omega), e1, e2, h, blk2]
  exact congrArg (· + _) (Finset.sum_range_succ _ _).symm

theorem final4w (c : Dev nD) : (dats m 0 c).arrAt 4 (cfgs 0).N
    = fun y : S4096x1024.Idx => sumrow (at2 (m := 4096) (n := 4096) (m ((c : Thread nD τ).loc main_arg0))) (at2 (m := 4096) (n := 1024) (m ((c : Thread nD τ).loc main_arg1)))
        (at2 (m := 4096) (n := 1024) (m ((c : Thread nD τ).loc main_arg2))) (y 0).val (y 1) := by
  refine (dats m 0 c).arrAt_eq_of_covers 4 _ (by decide +kernel) fun t hf y => ?_
  have h : t.val % 4 = 3 := (flush0_4 t).mp hf
  blk_simp
  rw [after0_4, out4 m c t h]
  revert y
  refine fun (y : S1024x1024.Idx) => ?_
  obtain ⟨-, -, -, -, h4, h5⟩ := idx t
  idx_vars y
  refine (congrFun (last_eq m c t h y0) y1).trans (congrArg₂ (sumrow _ _ _) ?_ (Fin.ext ?_))
  · rw [h4, Nat.mul_comm]; rfl
  · blk_simp
    rw [h4]
    exact (Nat.zero_add _).symm

theorem final5w (c : Dev nD) : (dats m 0 c).arrAt 5 (cfgs 0).N
    = fun y : S4096x1024.Idx => want (at2 (m := 4096) (n := 4096) (m ((c : Thread nD τ).loc main_arg0))) (at2 (m := 4096) (n := 1024) (m ((c : Thread nD τ).loc main_arg1)))
        (at2 (m := 4096) (n := 1024) (m ((c : Thread nD τ).loc main_arg2))) (m ((c : Thread nD τ).loc main_arg3)) (y 0).val (y 1) := by
  refine (dats m 0 c).arrAt_eq_of_covers 5 _ (by decide +kernel) fun t hf y => ?_
  have h : t.val % 4 = 3 := (flush0_5 t).mp hf
  blk_simp
  rw [after0_5, out5 m c t h]
  revert y
  refine fun (y : S1024x1024.Idx) => ?_
  obtain ⟨-, -, -, -, h4, h5⟩ := idx t
  idx_vars y
  rw [tile5, last_eq m c t h y0, blk3]
  refine (congrArg (· * _ * _) (congrFun (last_eq m c t h y0) y1)).trans ?_
  refine congrArg₂ (want _ _ _ (m ((c : Thread nD τ).loc main_arg3))) ?_ (Fin.ext ?_)
  · rw [h5, Nat.mul_comm]; rfl
  · blk_simp
    rw [h5]
    exact (Nat.zero_add _).symm

open Cert.NormDownOutIdeal.Read

theorem pure4 (x : FVec Ideal S4096x4096 .bf16) (w : FVec Ideal S4096x1024 .bf16) (res : FVec Ideal S4096x1024 .f32) (r : Fin 4096) (l : Fin 1024) :
    val_main_v3 (F := Ideal) x w res (ix2 r l) = sumrow (at2 x) (at2 w) (at2 res) r.val l := by
  pointwise [val_main_v0, val_main_v1, val_main_v2, val_main_v3]
  simp only [at2_ix2]
  refine (add_comm (G := EReal) _ _).trans (congrArg (· + _) ?_)
  exact ((sum_chunks (term (at2 x) (at2 w) r.val l.val) 1024 4).trans (Fin.sum_univ_eq_sum_range (term (at2 x) (at2 w) r.val l.val) 4096).symm).symm

theorem pure5 (x : FVec Ideal S4096x4096 .bf16) (w : FVec Ideal S4096x1024 .bf16) (res : FVec Ideal S4096x1024 .f32) (g : FVec Ideal S1x1024 .f32) (r : Fin 4096) (l : Fin 1024) :
    val_main_v16 (F := Ideal) x w res g (ix2 r l) = want (at2 x) (at2 w) (at2 res) g r.val l := by
  pointwise [val_main_v4, val_main_v5, val_main_v6, val_main_v7, val_main_v8, val_main_v9, val_main_v10, val_main_v11, val_main_v12, val_main_v13, val_main_v14, val_main_v15, val_main_v16, val_main_cst, val_main_cst_0, val_main_cst_1]
  simp only [pure4]
  unfold want
  simp only [at2_ix2]
  rfl

end Cert.NormDownFwdIdeal.Value

namespace Cert.Proof

open Idealize.ShloMosaic Idealize.SL.Sem

/-- The down projection with the residual and the norm behind it is the reference's. -/
theorem algebraic_NormDown : Cert.algebraic_NormDownFwdIdeal_NormDownOutIdeal := by
  pair_intro
  · run_from Cert.NormDownFwdIdeal.Gen.run_main m g
  · refine (θ_run _ _ _).mono (fun r h c => ?_) (Cert.NormDownOutIdeal.Value.run m' g')
    obtain ⟨h0, h1, hargs⟩ := h c
    obtain ⟨e0, e1, e2, e3⟩ := hagree c
    rw [Cert.NormDownOutIdeal.Read.val_main_v3_eq, e0, e1, e2] at h0
    rw [Cert.NormDownOutIdeal.Read.val_main_v16_eq, e0, e1, e2, e3] at h1
    refine ⟨h0.trans ?_, h1.trans ?_, hargs⟩
    · refine Eq.trans ?_ (Cert.NormDownFwdIdeal.Value.final4w m c).symm
      funext j; idx_vars j; exact Cert.NormDownFwdIdeal.Value.pure4 _ _ _ _ _
    · refine Eq.trans ?_ (Cert.NormDownFwdIdeal.Value.final5w m c).symm
      funext j; idx_vars j; exact Cert.NormDownFwdIdeal.Value.pure5 _ _ _ _ _ _

end Cert.Proof
-- ==== Proof.SqreluFwd.lean ====
module

public import proofs.«01_k».proof.Proof.Gen.SqreluFwdIdeal.Value
public import proofs.«01_k».proof.Proof.Gen.SqreluOutIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.SqreluOutIdeal.Run
public import proofs.«01_k».proof.Proof.Pieces
public import proofs.«01_k».proof.Proof.StackDot

@[expose] public section

set_option maxRecDepth 16384

noncomputable section

namespace Cert.SqreluFwdIdeal.Value

open Cert.SqreluFwdIdeal Cert.SqreluFwdIdeal.Gen Cert.Pieces Cert.StackDot Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, 0] ∧ win0_1.index t = ![t.val % 4, 0, 0] ∧ win0_2.index t = ![t.val / 4, t.val % 4]
    ∧ win0_3.index t = ![t.val / 4, t.val % 4] := (by decide +kernel : ∀ t : Fin grid0.N, _)

/-- The product of row `r` with column `l` of the stack: matrix `l / 1024`, column `l % 1024`. -/
def prodAt (x : FVec Ideal S4096x1024 .bf16) (w : FVec Ideal S4x1024x1024 .bf16) (r l : ℕ) : EReal :=
  ∑ k : Fin 1024, at2 x r k.val * at3 w (l / 1024) k.val (l % 1024)

theorem tile1 (x : FVec Ideal S1024x1024 .bf16) (w : FVec Ideal S1x1024x1024 .bf16) (r l : Fin 1024) : k0_pay1 (F := Ideal) x w (ix2 r l)
    = ∑ k : Fin 1024, x (ix2 r k) * w (ix3 0 k l) := by
  pointwise [k0_pay1]

theorem outW2 (x : FVec Ideal S1024x1024 .bf16) (w : FVec Ideal S1x1024x1024 .bf16) : out0_2 (F := Ideal) x w = k0_pay2 (F := Ideal) x w := by
  frame_out

theorem outW3 (x : FVec Ideal S1024x1024 .bf16) (w : FVec Ideal S1x1024x1024 .bf16) : out0_3 (F := Ideal) x w = k0_pay3 (F := Ideal) x w := by
  frame_out

theorem tile2 (x : FVec Ideal S1024x1024 .bf16) (w : FVec Ideal S1x1024x1024 .bf16) (r l : Fin 1024) : k0_pay2 (F := Ideal) x w (ix2 r l)
    = k0_pay1 (F := Ideal) x w (ix2 r l) := by
  pointwise [k0_pay2]

theorem tile3 (x : FVec Ideal S1024x1024 .bf16) (w : FVec Ideal S1x1024x1024 .bf16) (r l : Fin 1024) : k0_pay3 (F := Ideal) x w (ix2 r l)
    = max (k0_pay1 (F := Ideal) x w (ix2 r l)) 0 * max (k0_pay1 (F := Ideal) x w (ix2 r l)) 0 := by
  pointwise [k0_pay3]

theorem pay1_eq (c : Dev nD) (t : Fin cfg0.N) (r l : Fin 1024) : k0_pay1 (F := Ideal) (iblk m c 0 t) (iblk m c 1 t) (ix2 r l)
    = prodAt (m ((c : Thread nD τ).loc main_arg0)) (m ((c : Thread nD τ).loc main_arg1)) (t.val / 4 * 1024 + r.val) (t.val % 4 * 1024 + l.val) := by
  have ht : t.val < 16 := t.isLt
  have hr := r.isLt
  have hl := l.isLt
  rw [tile1]
  unfold prodAt
  refine Finset.sum_congr rfl fun k _ => congrArg₂ (· * ·) ?_ ?_
  · rw [at2_of_lt _ _ _ (by omega) k.isLt]
    blk_point [iblk, V, idx t]
  · rw [show (t.val % 4 * 1024 + l.val) / 1024 = t.val % 4 by omega, show (t.val % 4 * 1024 + l.val) % 1024 = l.val by omega,
      at3_of_lt _ _ _ _ (by omega) k.isLt hl]
    blk_point [iblk, V, idx t]

theorem final2w (c : Dev nD) : (dats m 0 c).arrAt 2 (cfgs 0).N
    = fun y : S4096x4096.Idx => prodAt (m ((c : Thread nD τ).loc main_arg0)) (m ((c : Thread nD τ).loc main_arg1)) (y 0).val (y 1).val := by
  refine (dats m 0 c).arrAt_eq_of_covers 2 _ (by decide +kernel) fun t _ y => ?_
  blk_simp
  rw [after0_2, outW2]
  revert y
  refine fun (y : S1024x1024.Idx) => ?_
  obtain ⟨-, -, h2, h3⟩ := idx t
  rw [h2]
  idx_vars y
  show _ = prodAt _ _ (t.val / 4 * 1024 + y0.val) (t.val % 4 * 1024 + y1.val)
  rw [tile2, pay1_eq]

theorem final3w (c : Dev nD) : (dats m 0 c).arrAt 3 (cfgs 0).N
    = fun y : S4096x4096.Idx => max (prodAt (m ((c : Thread nD τ).loc main_arg0)) (m ((c : Thread nD τ).loc main_arg1)) (y 0).val (y 1).val) 0
      * max (prodAt (m ((c : Thread nD τ).loc main_arg0)) (m ((c : Thread nD τ).loc main_arg1)) (y 0).val (y 1).val) 0 := by
  refine (dats m 0 c).arrAt_eq_of_covers 3 _ (by decide +kernel) fun t _ y => ?_
  blk_simp
  rw [after0_3, outW3]
  revert y
  refine fun (y : S1024x1024.Idx) => ?_
  obtain ⟨-, -, h2, h3⟩ := idx t
  rw [h3]
  idx_vars y
  show _ = max (prodAt _ _ (t.val / 4 * 1024 + y0.val) (t.val % 4 * 1024 + y1.val)) 0 * max (prodAt _ _ (t.val / 4 * 1024 + y0.val) (t.val % 4 * 1024 + y1.val)) 0
  rw [tile3, pay1_eq]

open Cert.SqreluOutIdeal.Read

theorem pureD (x : FVec Ideal S4096x1024 .bf16) (w : FVec Ideal S4x1024x1024 .bf16) (r : Fin 4096) (c : Fin 4) (l : Fin 1024) :
    val_main_v2 (F := Ideal) x w (ix3 r c l) = ∑ k : Fin 1024, x (ix2 r k) * w (ix3 c k l) :=
  StackDot.out_apply _ x w none r c l

theorem pure2 (x : FVec Ideal S4096x1024 .bf16) (w : FVec Ideal S4x1024x1024 .bf16) (r l : Fin 4096) :
    val_main_v3 (F := Ideal) x w (ix2 r l) = prodAt x w r.val l.val := by
  have hl := l.isLt
  pointwise [val_main_v3]
  rw [pureD]
  unfold prodAt
  simp only [at2_ix2, at3_ix3]

theorem pure4 (x : FVec Ideal S4096x1024 .bf16) (w : FVec Ideal S4x1024x1024 .bf16) (r l : Fin 4096) :
    val_main_v4 (F := Ideal) x w (ix2 r l) = prodAt x w r.val l.val := by
  pointwise [val_main_v4]
  exact pure2 x w r l

theorem pure7 (x : FVec Ideal S4096x1024 .bf16) (w : FVec Ideal S4x1024x1024 .bf16) (r l : Fin 4096) :
    val_main_v7 (F := Ideal) x w (ix2 r l) = max (prodAt x w r.val l.val) 0 * max (prodAt x w r.val l.val) 0 := by
  pointwise [val_main_v5, val_main_v6, val_main_v7, val_main_call0_v0, val_main_call0_cst]
  rw [pure2]

end Cert.SqreluFwdIdeal.Value

namespace Cert.Proof

open Idealize.ShloMosaic Idealize.SL.Sem

/-- The up projection and the squared rectifier are the reference's. -/
theorem algebraic_SqreluFwd : Cert.algebraic_SqreluFwdIdeal_SqreluOutIdeal := by
  pair_intro
  · run_from Cert.SqreluFwdIdeal.Gen.run_main m g
  · refine (θ_run _ _ _).mono (fun r h c => ?_) (Cert.SqreluOutIdeal.Value.run m' g')
    obtain ⟨h0, h1, hargs⟩ := h c
    obtain ⟨e0, e1⟩ := hagree c
    rw [Cert.SqreluOutIdeal.Read.val_main_v4_eq, e0, e1] at h0
    rw [Cert.SqreluOutIdeal.Read.val_main_v7_eq, e0, e1] at h1
    refine ⟨h0.trans ?_, h1.trans ?_, hargs⟩
    · refine Eq.trans ?_ (Cert.SqreluFwdIdeal.Value.final2w m c).symm
      funext j; idx_vars j; exact Cert.SqreluFwdIdeal.Value.pure4 _ _ _ _
    · refine Eq.trans ?_ (Cert.SqreluFwdIdeal.Value.final3w m c).symm
      funext j; idx_vars j; exact Cert.SqreluFwdIdeal.Value.pure7 _ _ _ _

end Cert.Proof
-- ==== Proof.ShortConv.Loops.lean ====
/-
  What the two counted loops of the short convolution's backward body store, read at an index.
-/
module

public import proofs.«01_k».proof.Proof.ShortConv.Frame
public import proofs.«01_k».proof.Proof.Pieces

@[expose] public section

set_option maxRecDepth 16384

noncomputable section

namespace Cert.ShortConvBwdIdeal.Body

open Cert.ShortConvBwdIdeal Cert.ShortConvBwdIdeal.Gen Cert.Pieces
open Idealize.ShloMosaic Idealize.ShloMosaic.TcCoe Idealize.SL.Sem

/-- One position of the causal convolution over its padded input: three rows, each times its tap. -/
def fwd (xp : FVec Ideal S4104x128 .f32) (w : FVec Ideal S3x128 .f32) (r l : ℕ) : EReal :=
  at2 xp (r + 8) l * at2 w 2 l + at2 xp (r + 7) l * at2 w 1 l + at2 xp (r + 6) l * at2 w 0 l

/-- One position of the convolution's transpose: three later cotangents, each times its tap. -/
def conv (dp : FVec Ideal S4104x128 .f32) (w : FVec Ideal S3x128 .f32) (r l : ℕ) : EReal :=
  at2 dp r l * at2 w 2 l + at2 dp (r + 1) l * at2 w 1 l + at2 dp (r + 2) l * at2 w 0 l

/-- What one trip adds to a tap's gradient: 256 gated cotangents, each times the input that the tap read there. -/
def dwTrip (d b : FVec Ideal S4096x128 .f32) (xp : FVec Ideal S4104x128 .f32) (k t l : ℕ) : EReal :=
  ∑ r : Fin 256, at2 d (256 * k + r.val) l * at2 b (256 * k + r.val) l * at2 xp (256 * k + r.val + 6 + t) l

variable (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S3x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S3x128 .f32) (harg9 : arg9.IsWhole) (arg10 : Memref sig .tc .vmem S4104x128 .f32) (harg10 : arg10.IsWhole) (arg11 : Memref sig .tc .vmem S4104x128 .f32) (harg11 : arg11.IsWhole)
variable (X1 : BufTy.Contents (Elt Ideal) arg1.view.ty) (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X10 : BufTy.Contents (Elt Ideal) arg10.view.ty) (X11 : BufTy.Contents (Elt Ideal) arg11.view.ty)

set_option maxHeartbeats 1600000 in
/-- The second loop's store into the first factor's gradient. -/
theorem trip2_dc (k : Fin k0_t2_loop.trips)  : ∀ p ∈ (tripL_k0_t2 (F := Ideal) 𝒱 c bd i arg1 harg1 arg2 harg2 arg3 harg3 arg4 harg4 arg5 harg5 arg6 harg6 arg7 harg7 arg8 harg8 arg9 harg9 arg10 harg10 arg11 harg11 X2 X3 X4 X11 k).1,
    ∀ x : p.1.shape.Idx, p.2 x = conv (arg11.view.read (Elt Ideal) X11) (arg4.view.read (Elt Ideal) X4) (p.1.emb x 0).val (p.1.emb x 1).val * at2 (m := 4096) (n := 128) (arg3.view.read (Elt Ideal) X3) (p.1.emb x 0).val (p.1.emb x 1).val := by
  unfold tripL_k0_t2 trip_k0_t2
  dsimp only
  intro p hp x
  rw [List.mem_singleton] at hp
  subst hp
  revert x
  refine fun (x : S256x128.Idx) => ?_
  idx_vars x
  show _ = conv (arg11.view.read (Elt Ideal) X11) (arg4.view.read (Elt Ideal) X4) (k0_off5 k 0 + 1 * x0.val) (k0_off5 k 1 + 1 * x1.val) * at2 (m := 4096) (n := 128) (arg3.view.read (Elt Ideal) X3) (k0_off5 k 0 + 1 * x0.val) (k0_off5 k 1 + 1 * x1.val)
  simp only [View.readAt_eq_ld]
  pointwise [k0_off4_eq, k0_off5_eq, k0_pay8, k0_pay9]
  have hx := x0.isLt
  have e (n : ℕ) (h1 : 257 < n) (h2 : n ≤ 264) : 256 * k.val + (x0.val + 264 - n) % 264 = 256 * k.val + x0.val + (264 - n) := by omega
  simp (disch := omega) only [at2_ix2, conv, e, Nat.reduceSub, Nat.add_zero, Nat.zero_add, Nat.one_mul, Fin.isValue, Fin.coe_ofNat_eq_mod, Nat.reduceMod, Nat.add_assoc]

set_option maxHeartbeats 1600000 in
/-- The second loop's store into the second factor's gradient. -/
theorem trip2_dh (k : Fin k0_t2_loop.trips)  : ∀ p ∈ (tripL_k0_t2 (F := Ideal) 𝒱 c bd i arg1 harg1 arg2 harg2 arg3 harg3 arg4 harg4 arg5 harg5 arg6 harg6 arg7 harg7 arg8 harg8 arg9 harg9 arg10 harg10 arg11 harg11 X2 X3 X4 X11 k).2,
    ∀ x : p.1.shape.Idx, p.2 x = conv (arg11.view.read (Elt Ideal) X11) (arg4.view.read (Elt Ideal) X4) (p.1.emb x 0).val (p.1.emb x 1).val * at2 (m := 4096) (n := 128) (arg2.view.read (Elt Ideal) X2) (p.1.emb x 0).val (p.1.emb x 1).val := by
  unfold tripL_k0_t2 trip_k0_t2
  dsimp only
  intro p hp x
  rw [List.mem_singleton] at hp
  subst hp
  revert x
  refine fun (x : S256x128.Idx) => ?_
  idx_vars x
  show _ = conv (arg11.view.read (Elt Ideal) X11) (arg4.view.read (Elt Ideal) X4) (k0_off5 k 0 + 1 * x0.val) (k0_off5 k 1 + 1 * x1.val) * at2 (m := 4096) (n := 128) (arg2.view.read (Elt Ideal) X2) (k0_off5 k 0 + 1 * x0.val) (k0_off5 k 1 + 1 * x1.val)
  simp only [View.readAt_eq_ld]
  pointwise [k0_off4_eq, k0_off5_eq, k0_pay8, k0_pay10]
  have hx := x0.isLt
  have e (n : ℕ) (h1 : 257 < n) (h2 : n ≤ 264) : 256 * k.val + (x0.val + 264 - n) % 264 = 256 * k.val + x0.val + (264 - n) := by omega
  simp (disch := omega) only [at2_ix2, conv, e, Nat.reduceSub, Nat.add_zero, Nat.zero_add, Nat.one_mul, Fin.isValue, Fin.coe_ofNat_eq_mod, Nat.reduceMod, Nat.add_assoc]

set_option maxHeartbeats 1600000 in
/-- The first loop's store into the gate's gradient. -/
theorem trip1_db (k : Fin k0_t1_loop.trips) (f6 : BufTy.Contents (Elt Ideal) arg6.view.ty) (f9 : BufTy.Contents (Elt Ideal) arg9.view.ty)
    (f11 : BufTy.Contents (Elt Ideal) arg11.view.ty) : ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 k f6 f9 f11).1,
    ∀ x : p.1.shape.Idx, p.2 x = at2 (m := 4096) (n := 128) (arg5.view.read (Elt Ideal) X5) (p.1.emb x 0).val (p.1.emb x 1).val * fwd (arg10.view.read (Elt Ideal) X10) (arg4.view.read (Elt Ideal) X4) (p.1.emb x 0).val (p.1.emb x 1).val := by
  unfold tripL_k0_t1 trip_k0_t1
  dsimp only
  intro p hp x
  rw [List.mem_singleton] at hp
  subst hp
  revert x
  refine fun (x : S256x128.Idx) => ?_
  unfold trip_k0_t1.sl.r trip_k0_t1.sl.r_1 trip_k0_t1.sl.r_3
  idx_vars x
  show _ = at2 (m := 4096) (n := 128) (arg5.view.read (Elt Ideal) X5) (k0_off2 k 0 + 1 * x0.val) (k0_off2 k 1 + 1 * x1.val) * fwd (arg10.view.read (Elt Ideal) X10) (arg4.view.read (Elt Ideal) X4) (k0_off2 k 0 + 1 * x0.val) (k0_off2 k 1 + 1 * x1.val)
  simp only [View.readAt_eq_ld]
  pointwise [k0_off1_eq, k0_off2_eq, k0_pay7, k0_pay5, k0_pay13, k0_pay15, k0_pay16]
  have hx := x0.isLt
  have e (n : ℕ) (h1 : 0 < n) (h2 : n ≤ 8) : 256 * k.val + (x0.val + (8 + 264) - n) % 264 = 256 * k.val + (x0.val + (8 - n)) := by omega
  have e8 : 8 + x0.val = x0.val + 8 := by omega
  simp (disch := omega) only [at2_ix2, fwd, e, e8, Nat.reduceSub, Nat.add_zero, Nat.zero_add, Nat.one_mul, Fin.isValue, Fin.coe_ofNat_eq_mod, Nat.reduceMod, Nat.add_assoc]

set_option maxHeartbeats 1600000 in
/-- The first loop's store into the scratch of the gated cotangents. -/
theorem trip1_dp (k : Fin k0_t1_loop.trips) (f6 : BufTy.Contents (Elt Ideal) arg6.view.ty) (f9 : BufTy.Contents (Elt Ideal) arg9.view.ty)
    (f11 : BufTy.Contents (Elt Ideal) arg11.view.ty) : ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 k f6 f9 f11).2.2,
    ∀ x : p.1.shape.Idx, p.2 x = at2 (m := 4096) (n := 128) (arg5.view.read (Elt Ideal) X5) (p.1.emb x 0).val (p.1.emb x 1).val * at2 (m := 4096) (n := 128) (arg1.view.read (Elt Ideal) X1) (p.1.emb x 0).val (p.1.emb x 1).val := by
  unfold tripL_k0_t1 trip_k0_t1
  dsimp only
  intro p hp x
  rw [List.mem_singleton] at hp
  subst hp
  revert x
  refine fun (x : S256x128.Idx) => ?_
  idx_vars x
  show _ = at2 (m := 4096) (n := 128) (arg5.view.read (Elt Ideal) X5) (k0_off3 k 0 + 1 * x0.val) (k0_off3 k 1 + 1 * x1.val) * at2 (m := 4096) (n := 128) (arg1.view.read (Elt Ideal) X1) (k0_off3 k 0 + 1 * x0.val) (k0_off3 k 1 + 1 * x1.val)
  simp only [View.readAt_eq_ld]
  pointwise [k0_off2_eq, k0_off3_eq, k0_pay11, k0_pay12]
  have hx := x0.isLt
  simp only [at2_ix2, Nat.add_zero, Nat.zero_add, Nat.one_mul]

set_option maxHeartbeats 1600000 in
/-- The first loop's stores into the taps' gradients: every row takes what it held and the trip's sum. -/
theorem trip1_dw (k : Fin k0_t1_loop.trips) (f6 : BufTy.Contents (Elt Ideal) arg6.view.ty) (f9 : BufTy.Contents (Elt Ideal) arg9.view.ty)
    (f11 : BufTy.Contents (Elt Ideal) arg11.view.ty) : ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 k f6 f9 f11).2.1,
    ∀ x : p.1.shape.Idx, p.2 x = at2 (m := 3) (n := 128) (arg9.view.read (Elt Ideal) f9) (p.1.emb x 0).val (p.1.emb x 1).val
      + dwTrip (arg5.view.read (Elt Ideal) X5) (arg1.view.read (Elt Ideal) X1) (arg10.view.read (Elt Ideal) X10) k.val (p.1.emb x 0).val (p.1.emb x 1).val := by
  unfold tripL_k0_t1 trip_k0_t1
  dsimp only
  simp only [List.forall_mem_cons]
  refine ⟨?_, ?_, ?_, fun p hp => absurd hp List.not_mem_nil⟩
  all_goals
    intro x
    rw [emb_val, emb_val]
    revert x
    refine fun (x : S1x128.Idx) => ?_
    idx_vars x
    obtain rfl : x0 = 0 := Subsingleton.elim _ _
    simp only [trip_k0_t1.sl.r, trip_k0_t1.sl.r_2, trip_k0_t1.sl.r_4, trip_k0_t1.sl.v61, trip_k0_t1.sl.v48, View.readAt_eq_ld]
    pointwise [k0_off1_eq, k0_off2_eq, dwTrip, k0_pay5, k0_pay6, k0_pay11, k0_pay13, k0_pay14, k0_pay15, k0_pay17]
    simp only [at2_ix2]
    refine congrArg₂ (· + ·) rfl (Finset.sum_congr rfl fun r _ => ?_)
    refine congrArg₂ (· * ·) rfl (congrArg (fun a => at2 _ a _) ?_)
    have := r.isLt
    omega

/-- Where the first loop stores. -/
theorem trip1_at (k : Fin k0_t1_loop.trips) (f6 : BufTy.Contents (Elt Ideal) arg6.view.ty) (f9 : BufTy.Contents (Elt Ideal) arg9.view.ty)
    (f11 : BufTy.Contents (Elt Ideal) arg11.view.ty) :
    (∃ p ∈ (tripL_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 k f6 f9 f11).1,
      (∀ a, p.1.off a = k0_off2 k a) ∧ (∀ a, p.1.size a = (![256, 128] : Fin 2 → ℕ) a) ∧ ∀ a, p.1.stride a = 1) ∧
    ∃ p ∈ (tripL_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 k f6 f9 f11).2.2,
      (∀ a, p.1.off a = k0_off3 k a) ∧ (∀ a, p.1.size a = (![256, 128] : Fin 2 → ℕ) a) ∧ ∀ a, p.1.stride a = 1 := by
  unfold tripL_k0_t1 trip_k0_t1
  dsimp only
  exact ⟨⟨_, List.mem_singleton_self _, fun _ => rfl, fun _ => rfl, fun _ => rfl⟩,
    ⟨_, List.mem_singleton_self _, fun _ => rfl, fun _ => rfl, fun _ => rfl⟩⟩

/-- Where the second loop stores. -/
theorem trip2_at (k : Fin k0_t2_loop.trips) :
    (∃ p ∈ (tripL_k0_t2 (F := Ideal) 𝒱 c bd i arg1 harg1 arg2 harg2 arg3 harg3 arg4 harg4 arg5 harg5 arg6 harg6 arg7 harg7 arg8 harg8 arg9 harg9 arg10 harg10 arg11 harg11 X2 X3 X4 X11 k).1,
      (∀ a, p.1.off a = k0_off5 k a) ∧ (∀ a, p.1.size a = (![256, 128] : Fin 2 → ℕ) a) ∧ ∀ a, p.1.stride a = 1) ∧
    ∃ p ∈ (tripL_k0_t2 (F := Ideal) 𝒱 c bd i arg1 harg1 arg2 harg2 arg3 harg3 arg4 harg4 arg5 harg5 arg6 harg6 arg7 harg7 arg8 harg8 arg9 harg9 arg10 harg10 arg11 harg11 X2 X3 X4 X11 k).2,
      (∀ a, p.1.off a = k0_off5 k a) ∧ (∀ a, p.1.size a = (![256, 128] : Fin 2 → ℕ) a) ∧ ∀ a, p.1.stride a = 1 := by
  unfold tripL_k0_t2 trip_k0_t2
  dsimp only
  exact ⟨⟨_, List.mem_singleton_self _, fun _ => rfl, fun _ => rfl, fun _ => rfl⟩,
    ⟨_, List.mem_singleton_self _, fun _ => rfl, fun _ => rfl, fun _ => rfl⟩⟩

end Cert.ShortConvBwdIdeal.Body

end
-- ==== Proof.ShortConv.Sweep.lean ====
/-
  The two counted loops of the short convolution's backward body run to the end: what their output buffers hold.
-/
module

public import proofs.«01_k».proof.Proof.ShortConv.Loops

@[expose] public section

set_option maxRecDepth 16384

noncomputable section

namespace Cert.ShortConvBwdIdeal.Body

open Cert.ShortConvBwdIdeal Cert.ShortConvBwdIdeal.Gen Cert.Pieces
open Idealize.ShloMosaic Idealize.ShloMosaic.TcCoe Idealize.SL.Sem

/-- Sixteen blocks of 256 rows are all the rows. -/
theorem rows_cover1 {e : EltTy} (L : List (View.Piece (Elt Ideal) S4096x128 e))
    (h : ∀ k : Fin k0_t1_loop.trips, ∃ p ∈ L, (∀ a, p.1.off a = k0_off2 k a) ∧ (∀ a, p.1.size a = (![256, 128] : Fin 2 → ℕ) a) ∧ ∀ a, p.1.stride a = 1) :
    ∀ y, ∃ p ∈ L, y ∈ p.1.set := by
  refine View.cover_of_blocks L ![256, 128] (by decide) fun ix => ?_
  obtain ⟨p, hp, ho, hz, hs⟩ := h (Fin.cast (by decide) (ix 0))
  refine ⟨p, hp, fun a => ?_, hz, hs⟩
  rw [ho a, k0_off2_eq]
  fin_cases a
  · exact Nat.mul_comm _ _
  · have h1 : (ix 1).val = 0 := Nat.lt_one_iff.mp (ix 1).isLt
    show 0 = (ix 1).val * 128
    rw [h1]

/-- Sixteen blocks of 256 rows are all the rows. -/
theorem rows_cover2 {e : EltTy} (L : List (View.Piece (Elt Ideal) S4096x128 e))
    (h : ∀ k : Fin k0_t2_loop.trips, ∃ p ∈ L, (∀ a, p.1.off a = k0_off5 k a) ∧ (∀ a, p.1.size a = (![256, 128] : Fin 2 → ℕ) a) ∧ ∀ a, p.1.stride a = 1) :
    ∀ y, ∃ p ∈ L, y ∈ p.1.set := by
  refine View.cover_of_blocks L ![256, 128] (by decide) fun ix => ?_
  obtain ⟨p, hp, ho, hz, hs⟩ := h (Fin.cast (by decide) (ix 0))
  refine ⟨p, hp, fun a => ?_, hz, hs⟩
  rw [ho a, k0_off5_eq]
  fin_cases a
  · exact Nat.mul_comm _ _
  · have h1 : (ix 1).val = 0 := Nat.lt_one_iff.mp (ix 1).isLt
    show 0 = (ix 1).val * 128
    rw [h1]

variable (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S3x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S3x128 .f32) (harg9 : arg9.IsWhole) (arg10 : Memref sig .tc .vmem S4104x128 .f32) (harg10 : arg10.IsWhole) (arg11 : Memref sig .tc .vmem S4104x128 .f32) (harg11 : arg11.IsWhole)
variable (X1 : BufTy.Contents (Elt Ideal) arg1.view.ty) (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X10 : BufTy.Contents (Elt Ideal) arg10.view.ty) (X11 : BufTy.Contents (Elt Ideal) arg11.view.ty)

/-- The first factor's gradient after the second loop. -/
theorem loop2_dc (f : BufTy.Contents (Elt Ideal) arg7.view.ty) (y : S4096x128.Idx) :
    arg7.view.read (Elt Ideal) (arg7.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 X2 X3 X4 X11 k0_t2_loop.trips).1) y
      = conv (arg11.view.read (Elt Ideal) X11) (arg4.view.read (Elt Ideal) X4) (y 0).val (y 1).val * at2 (m := 4096) (n := 128) (arg3.view.read (Elt Ideal) X3) (y 0).val (y 1).val := by
  let L (n : ℕ) := (pb_k0_t2 (F := Ideal) 𝒱 c bd i arg1 harg1 arg2 harg2 arg3 harg3 arg4 harg4 arg5 harg5 arg6 harg6 arg7 harg7 arg8 harg8 arg9 harg9 arg10 harg10 arg11 harg11 X2 X3 X4 X11 n).1
  let T (k : Fin k0_t2_loop.trips) := (tripL_k0_t2 (F := Ideal) 𝒱 c bd i arg1 harg1 arg2 harg2 arg3 harg3 arg4 harg4 arg5 harg5 arg6 harg6 arg7 harg7 arg8 harg8 arg9 harg9 arg10 harg10 arg11 harg11 X2 X3 X4 X11 k).1
  have hs (k : Fin k0_t2_loop.trips) : L (k.val + 1) = T k ++ L k.val := congrArg (fun p => p.1) (pb_k0_t2_succ (F := Ideal) 𝒱 c bd i arg1 harg1 arg2 harg2 arg3 harg3 arg4 harg4 arg5 harg5 arg6 harg6 arg7 harg7 arg8 harg8 arg9 harg9 arg10 harg10 arg11 harg11 X2 X3 X4 X11 k)
  refine View.read_writes_apply_of_pieces _ f (fun y : S4096x128.Idx => conv (arg11.view.read (Elt Ideal) X11) (arg4.view.read (Elt Ideal) X4) (y 0).val (y 1).val * at2 (m := 4096) (n := 128) (arg3.view.read (Elt Ideal) X3) (y 0).val (y 1).val) _
    (forall_trips L T rfl hs _ (fun k => trip2_dc 𝒱 c bd i arg1 harg1 arg2 harg2 arg3 harg3 arg4 harg4 arg5 harg5 arg6 harg6 arg7 harg7 arg8 harg8 arg9 harg9 arg10 harg10 arg11 harg11 X2 X3 X4 X11 k) _ le_rfl) y (rows_cover2 _ (fun k => ?_) y)
  obtain ⟨p, hp, h⟩ := (trip2_at 𝒱 c bd i arg1 harg1 arg2 harg2 arg3 harg3 arg4 harg4 arg5 harg5 arg6 harg6 arg7 harg7 arg8 harg8 arg9 harg9 arg10 harg10 arg11 harg11 X2 X3 X4 X11 k).1
  exact ⟨p, mem_trips L T hs k p hp _ le_rfl k.isLt, h⟩

/-- The second factor's gradient after the second loop. -/
theorem loop2_dh (f : BufTy.Contents (Elt Ideal) arg8.view.ty) (y : S4096x128.Idx) :
    arg8.view.read (Elt Ideal) (arg8.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 X2 X3 X4 X11 k0_t2_loop.trips).2) y
      = conv (arg11.view.read (Elt Ideal) X11) (arg4.view.read (Elt Ideal) X4) (y 0).val (y 1).val * at2 (m := 4096) (n := 128) (arg2.view.read (Elt Ideal) X2) (y 0).val (y 1).val := by
  let L (n : ℕ) := (pb_k0_t2 (F := Ideal) 𝒱 c bd i arg1 harg1 arg2 harg2 arg3 harg3 arg4 harg4 arg5 harg5 arg6 harg6 arg7 harg7 arg8 harg8 arg9 harg9 arg10 harg10 arg11 harg11 X2 X3 X4 X11 n).2
  let T (k : Fin k0_t2_loop.trips) := (tripL_k0_t2 (F := Ideal) 𝒱 c bd i arg1 harg1 arg2 harg2 arg3 harg3 arg4 harg4 arg5 harg5 arg6 harg6 arg7 harg7 arg8 harg8 arg9 harg9 arg10 harg10 arg11 harg11 X2 X3 X4 X11 k).2
  have hs (k : Fin k0_t2_loop.trips) : L (k.val + 1) = T k ++ L k.val := congrArg (fun p => p.2) (pb_k0_t2_succ (F := Ideal) 𝒱 c bd i arg1 harg1 arg2 harg2 arg3 harg3 arg4 harg4 arg5 harg5 arg6 harg6 arg7 harg7 arg8 harg8 arg9 harg9 arg10 harg10 arg11 harg11 X2 X3 X4 X11 k)
  refine View.read_writes_apply_of_pieces _ f (fun y : S4096x128.Idx => conv (arg11.view.read (Elt Ideal) X11) (arg4.view.read (Elt Ideal) X4) (y 0).val (y 1).val * at2 (m := 4096) (n := 128) (arg2.view.read (Elt Ideal) X2) (y 0).val (y 1).val) _
    (forall_trips L T rfl hs _ (fun k => trip2_dh 𝒱 c bd i arg1 harg1 arg2 harg2 arg3 harg3 arg4 harg4 arg5 harg5 arg6 harg6 arg7 harg7 arg8 harg8 arg9 harg9 arg10 harg10 arg11 harg11 X2 X3 X4 X11 k) _ le_rfl) y (rows_cover2 _ (fun k => ?_) y)
  obtain ⟨p, hp, h⟩ := (trip2_at 𝒱 c bd i arg1 harg1 arg2 harg2 arg3 harg3 arg4 harg4 arg5 harg5 arg6 harg6 arg7 harg7 arg8 harg8 arg9 harg9 arg10 harg10 arg11 harg11 X2 X3 X4 X11 k).2
  exact ⟨p, mem_trips L T hs k p hp _ le_rfl k.isLt, h⟩

/-- The gate's gradient after the first loop. -/
theorem loop1_db (f6 : BufTy.Contents (Elt Ideal) arg6.view.ty) (f9 : BufTy.Contents (Elt Ideal) arg9.view.ty)
    (f11 : BufTy.Contents (Elt Ideal) arg11.view.ty) (f : BufTy.Contents (Elt Ideal) arg6.view.ty) (y : S4096x128.Idx) :
    arg6.view.read (Elt Ideal) (arg6.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 f6 f9 f11 k0_t1_loop.trips).1) y
      = at2 (m := 4096) (n := 128) (arg5.view.read (Elt Ideal) X5) (y 0).val (y 1).val * fwd (arg10.view.read (Elt Ideal) X10) (arg4.view.read (Elt Ideal) X4) (y 0).val (y 1).val := by
  let L (n : ℕ) := (pb_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 f6 f9 f11 n).1
  let T (k : Fin k0_t1_loop.trips) := (tripL_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 k (arg6.view.writes (Elt Ideal) f6 (pb_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 f6 f9 f11 k.val).1) (arg9.view.writes (Elt Ideal) f9 (pb_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 f6 f9 f11 k.val).2.1) (arg11.view.writes (Elt Ideal) f11 (pb_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 f6 f9 f11 k.val).2.2)).1
  have hs (k : Fin k0_t1_loop.trips) : L (k.val + 1) = T k ++ L k.val := congrArg (fun p => p.1) (pb_k0_t1_succ (F := Ideal) 𝒱 c bd i arg1 harg1 arg2 harg2 arg3 harg3 arg4 harg4 arg5 harg5 arg6 harg6 arg7 harg7 arg8 harg8 arg9 harg9 arg10 harg10 arg11 harg11 X1 X4 X5 X10 f6 f9 f11 k)
  refine View.read_writes_apply_of_pieces _ f (fun y : S4096x128.Idx => at2 (m := 4096) (n := 128) (arg5.view.read (Elt Ideal) X5) (y 0).val (y 1).val * fwd (arg10.view.read (Elt Ideal) X10) (arg4.view.read (Elt Ideal) X4) (y 0).val (y 1).val) _
    (forall_trips L T rfl hs _ (fun k => trip1_db 𝒱 c bd i arg1 harg1 arg2 harg2 arg3 harg3 arg4 harg4 arg5 harg5 arg6 harg6 arg7 harg7 arg8 harg8 arg9 harg9 arg10 harg10 arg11 harg11 X1 X4 X5 X10 k _ _ _) _ le_rfl) y (rows_cover1 _ (fun k => ?_) y)
  obtain ⟨p, hp, h⟩ := (trip1_at 𝒱 c bd i arg1 harg1 arg2 harg2 arg3 harg3 arg4 harg4 arg5 harg5 arg6 harg6 arg7 harg7 arg8 harg8 arg9 harg9 arg10 harg10 arg11 harg11 X1 X4 X5 X10 k (arg6.view.writes (Elt Ideal) f6 (pb_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 f6 f9 f11 k.val).1) (arg9.view.writes (Elt Ideal) f9 (pb_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 f6 f9 f11 k.val).2.1) (arg11.view.writes (Elt Ideal) f11 (pb_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 f6 f9 f11 k.val).2.2)).1
  exact ⟨p, mem_trips L T hs k p hp _ le_rfl k.isLt, h⟩

/-- The scratch of the gated cotangents after the first loop: the products, then rows of zeros. -/
theorem loop1_dp (f6 : BufTy.Contents (Elt Ideal) arg6.view.ty) (f9 : BufTy.Contents (Elt Ideal) arg9.view.ty)
    (f11 : BufTy.Contents (Elt Ideal) arg11.view.ty) (f : BufTy.Contents (Elt Ideal) arg11.view.ty) (y : S4104x128.Idx) :
    arg11.view.read (Elt Ideal) (arg11.view.writes (Elt Ideal) f ((pb_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 f6 f9 f11 k0_t1_loop.trips).2.2 ++ [⟨Rect.unit ![4096, 0] ![8, 128] inb_S4104x128_S8x128_4096_0, k0_pay3 (F := Ideal)⟩])) y
      = at2 (m := 4096) (n := 128) (arg5.view.read (Elt Ideal) X5) (y 0).val (y 1).val * at2 (m := 4096) (n := 128) (arg1.view.read (Elt Ideal) X1) (y 0).val (y 1).val := by
  let L (n : ℕ) := (pb_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 f6 f9 f11 n).2.2
  let T (k : Fin k0_t1_loop.trips) := (tripL_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 k (arg6.view.writes (Elt Ideal) f6 (pb_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 f6 f9 f11 k.val).1) (arg9.view.writes (Elt Ideal) f9 (pb_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 f6 f9 f11 k.val).2.1) (arg11.view.writes (Elt Ideal) f11 (pb_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 f6 f9 f11 k.val).2.2)).2.2
  have hs (k : Fin k0_t1_loop.trips) : L (k.val + 1) = T k ++ L k.val := congrArg (fun p => p.2.2) (pb_k0_t1_succ (F := Ideal) 𝒱 c bd i arg1 harg1 arg2 harg2 arg3 harg3 arg4 harg4 arg5 harg5 arg6 harg6 arg7 harg7 arg8 harg8 arg9 harg9 arg10 harg10 arg11 harg11 X1 X4 X5 X10 f6 f9 f11 k)
  refine View.read_writes_apply_of_pieces _ f (fun y : S4104x128.Idx => at2 (m := 4096) (n := 128) (arg5.view.read (Elt Ideal) X5) (y 0).val (y 1).val * at2 (m := 4096) (n := 128) (arg1.view.read (Elt Ideal) X1) (y 0).val (y 1).val) _
    (fun p hp => ?_) y (cover_dp c i arg1 harg1 arg2 harg2 arg3 harg3 arg4 harg4 arg5 harg5 arg6 harg6 arg7 harg7 arg8 harg8 arg9 harg9 arg10 harg10 arg11 harg11 𝒱 bd X1 X4 X5 X10 f6 f9 f11 y)
  rcases List.mem_append.mp hp with h | h
  · exact forall_trips L T rfl hs _ (fun k => trip1_dp 𝒱 c bd i arg1 harg1 arg2 harg2 arg3 harg3 arg4 harg4 arg5 harg5 arg6 harg6 arg7 harg7 arg8 harg8 arg9 harg9 arg10 harg10 arg11 harg11 X1 X4 X5 X10 k _ _ _) _ le_rfl p h
  · rw [List.mem_singleton] at h
    subst h
    intro x
    rw [emb_val, emb_val]
    revert x
    refine fun (x : S8x128.Idx) => ?_
    idx_vars x
    pointwise [k0_pay3]
    rw [at2_of_le _ _ _ (Nat.le_add_right 4096 _), zero_mul]

set_option maxHeartbeats 1000000 in
/-- One trip of the first loop stores every tap's row. -/
theorem trip1_cover (k : Fin k0_t1_loop.trips) (f6 : BufTy.Contents (Elt Ideal) arg6.view.ty) (f9 : BufTy.Contents (Elt Ideal) arg9.view.ty)
    (f11 : BufTy.Contents (Elt Ideal) arg11.view.ty) (y : S3x128.Idx) :
    ∃ p ∈ (tripL_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 k f6 f9 f11).2.1, y ∈ p.1.set := by
  unfold tripL_k0_t1 trip_k0_t1
  dsimp only
  exact View.cover_of_tiled _ ![1, 128] rfl y

/-- The taps' gradients before trip `n` of the first loop. -/
theorem loop1_dw (f6 : BufTy.Contents (Elt Ideal) arg6.view.ty) (f9 : BufTy.Contents (Elt Ideal) arg9.view.ty)
    (f11 : BufTy.Contents (Elt Ideal) arg11.view.ty) : ∀ n ≤ k0_t1_loop.trips, ∀ y : S3x128.Idx,
    arg9.view.read (Elt Ideal) (arg9.view.writes (Elt Ideal) f9 (pb_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 f6 f9 f11 n).2.1) y
      = at2 (m := 3) (n := 128) (arg9.view.read (Elt Ideal) f9) (y 0).val (y 1).val
        + ∑ k ∈ Finset.range n, dwTrip (arg5.view.read (Elt Ideal) X5) (arg1.view.read (Elt Ideal) X1) (arg10.view.read (Elt Ideal) X10) k (y 0).val (y 1).val
  | 0, _, y => by
    rw [Finset.sum_range_zero, add_zero]
    exact (apply_at2 _ y)
  | n + 1, hn, y => by
    rw [pb_k0_t1_succ 𝒱 c bd i arg1 harg1 arg2 harg2 arg3 harg3 arg4 harg4 arg5 harg5 arg6 harg6 arg7 harg7 arg8 harg8 arg9 harg9 arg10 harg10 arg11 harg11 X1 X4 X5 X10 f6 f9 f11 ⟨n, hn⟩, View.writes_append]
    refine (View.read_writes_apply_of_pieces _ _ (fun y : S3x128.Idx => at2 (m := 3) (n := 128) (arg9.view.read (Elt Ideal) (arg9.view.writes (Elt Ideal) f9 (pb_k0_t1 (F := Ideal) 𝒱 c bd i arg1 harg1 arg2 harg2 arg3 harg3 arg4 harg4 arg5 harg5 arg6 harg6 arg7 harg7 arg8 harg8 arg9 harg9 arg10 harg10 arg11 harg11 X1 X4 X5 X10 f6 f9 f11 n).2.1)) (y 0).val (y 1).val
      + dwTrip (arg5.view.read (Elt Ideal) X5) (arg1.view.read (Elt Ideal) X1) (arg10.view.read (Elt Ideal) X10) n (y 0).val (y 1).val) _
      (trip1_dw 𝒱 c bd i arg1 harg1 arg2 harg2 arg3 harg3 arg4 harg4 arg5 harg5 arg6 harg6 arg7 harg7 arg8 harg8 arg9 harg9 arg10 harg10 arg11 harg11 X1 X4 X5 X10 ⟨n, hn⟩ _ _ _) y (trip1_cover 𝒱 c bd i arg1 harg1 arg2 harg2 arg3 harg3 arg4 harg4 arg5 harg5 arg6 harg6 arg7 harg7 arg8 harg8 arg9 harg9 arg10 harg10 arg11 harg11 X1 X4 X5 X10 ⟨n, hn⟩ _ _ _ y)).trans ?_
    rw [Finset.sum_range_succ, ← add_assoc]
    refine congrArg₂ (· + ·) ?_ rfl
    exact (apply_at2 _ y).symm.trans (loop1_dw f6 f9 f11 n (Nat.le_of_lt hn) y)

end Cert.ShortConvBwdIdeal.Body

end
-- ==== Proof.ShortConv.Value.lean ====
/-
  The short convolution's backward call: what its four results hold, and that this is the derivative of the gated causal
  convolution.
-/
module

public import proofs.«01_k».proof.Proof.ShortConv.Sweep
public import proofs.«01_k».proof.Proof.Gen.ShortConvGradIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.ShortConvGradIdeal.Run

@[expose] public section

set_option maxRecDepth 16384

noncomputable section

namespace Cert.ShortConvBwdIdeal.Body

open Cert.ShortConvBwdIdeal Cert.ShortConvBwdIdeal.Gen Cert.Pieces Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, t.val] ∧ win0_1.index t = ![0, 4 + t.val] ∧ win0_2.index t = ![0, 8 + t.val] ∧ win0_3.index t = ![0, t.val]
    ∧ win0_4.index t = ![0, t.val] ∧ win0_5.index t = ![0, t.val] ∧ win0_6.index t = ![0, t.val] ∧ win0_7.index t = ![0, t.val] ∧ win0_8.index t = ![0, t.val] := (by decide +kernel : ∀ t : Fin grid0.N, _)

/-- The padded input of the convolution: eight rows of zeros, then the product of the two factors. -/
def xpAt (u h : ℕ → ℕ → EReal) (r l : ℕ) : EReal := if r < 8 then 0 else u (r - 8) l * h (r - 8) l

theorem xp_read (c : Dev nD) (arg2 : Memref sig .tc .vmem S4096x128 .f32) (harg2 : arg2.IsWhole) (arg3 : Memref sig .tc .vmem S4096x128 .f32) (harg3 : arg3.IsWhole)
    (u h : FVec Ideal S4096x128 .f32) (y : S4104x128.Idx) :
    View.read (Elt Ideal) scM0_0.view (scM0_0.view.writes (Elt Ideal) scM0_0.view.junk (run.sl.HS0_2 (F := Ideal) c arg2 harg2 arg3 harg3 u h)) y
      = xpAt (at2 u) (at2 h) (y 0).val (y 1).val := by
  unfold run.sl.HS0_2
  simp only [View.readAt_eq_ld, Memref.IsWhole.read_unread]
  refine View.read_writes_apply_of_pieces (Val := Elt Ideal) scM0_0.view _ (fun y : S4104x128.Idx => xpAt (at2 u) (at2 h) (y 0).val (y 1).val) _ ?_ y ?_
  · simp only [List.forall_mem_cons]
    refine ⟨?_, ?_, fun p hp => absurd hp List.not_mem_nil⟩ <;> intro x <;> rw [emb_val, emb_val] <;> revert x
    · refine fun (x : S4096x128.Idx) => ?_
      idx_vars x
      pointwise [k0_pay2, xpAt]
      simp only [at2_ix2]
    · refine fun (x : S8x128.Idx) => ?_
      idx_vars x
      pointwise [k0_pay1, xpAt]
  · by_cases h : (y 0).val < 8
    · exact ⟨_, List.mem_cons_of_mem _ List.mem_cons_self, mem_rows (inb := inb_S4104x128_S8x128_0_0) y (Nat.zero_le _) (by omega)⟩
    · exact ⟨_, List.mem_cons_self, mem_rows (inb := inb_S4104x128_S4096x128_8_0) y (by omega) (by have : (y 0).val < 4104 := (y 0).isLt; omega)⟩

theorem xp_at (c : Dev nD) (arg2 : Memref sig .tc .vmem S4096x128 .f32) (harg2 : arg2.IsWhole) (arg3 : Memref sig .tc .vmem S4096x128 .f32) (harg3 : arg3.IsWhole)
    (u h : FVec Ideal S4096x128 .f32) (a b : ℕ) (ha : a < 4104) (hb : b < 128) :
    at2 (m := 4104) (n := 128) (View.read (Elt Ideal) scM0_0.view (scM0_0.view.writes (Elt Ideal) scM0_0.view.junk (run.sl.HS0_2 (F := Ideal) c arg2 harg2 arg3 harg3 u h))) a b
      = xpAt (at2 u) (at2 h) a b := at2_eq (xp_read c arg2 harg2 arg3 harg3 u h) ha hb

/-- The gated cotangent at a position of the block. -/
def gB (c : Dev nD) (t : Fin cfg0.N) (r l : ℕ) : EReal := at2 (m := 4096) (n := 128) (iblk m c 4 t) r l * at2 (m := 4096) (n := 128) (iblk m c 0 t) r l

/-- The convolution's transpose at a position of the block. -/
def cB (c : Dev nD) (t : Fin cfg0.N) (r l : ℕ) : EReal :=
  gB m c t r l * at2 (m := 3) (n := 128) (iblk m c 3 t) 2 l + gB m c t (r + 1) l * at2 (m := 3) (n := 128) (iblk m c 3 t) 1 l + gB m c t (r + 2) l * at2 (m := 3) (n := 128) (iblk m c 3 t) 0 l

/-- The padded input over the block. -/
def xB (c : Dev nD) (t : Fin cfg0.N) (r l : ℕ) : EReal := xpAt (at2 (m := 4096) (n := 128) (iblk m c 1 t)) (at2 (m := 4096) (n := 128) (iblk m c 2 t)) r l

set_option maxHeartbeats 1000000 in
theorem out5 (c : Dev nD) (t : Fin cfg0.N) (y : S4096x128.Idx) : left5 m c t y
    = at2 (m := 4096) (n := 128) (iblk m c 4 t) (y 0).val (y 1).val * (xB m c t ((y 0).val + 8) (y 1).val * at2 (m := 3) (n := 128) (iblk m c 3 t) 2 (y 1).val + xB m c t ((y 0).val + 7) (y 1).val * at2 (m := 3) (n := 128) (iblk m c 3 t) 1 (y 1).val
      + xB m c t ((y 0).val + 6) (y 1).val * at2 (m := 3) (n := 128) (iblk m c 3 t) 0 (y 1).val) := by
  rw [← left5_eq m c t (fun _ => 0) (fun _ => 0) (ms0_5 t).view.junk]
  unfold runAt run
  dsimp only
  refine (loop1_db ..).trans ?_
  rw [Memref.IsWhole.read_unread, Memref.IsWhole.read_unread]
  have h0 : (y 0).val < 4096 := (y 0).isLt
  have e (n : ℕ) (hn : n ≤ 8) := xp_at c (ms0_1 t) (hs0_1 t) (ms0_2 t) (hs0_2 t) (iblk m c 1 t) (iblk m c 2 t) ((y 0).val + n) (y 1).val (by omega) (y 1).isLt
  unfold fwd
  exact congrArg₂ (· * ·) rfl (congrArg₂ (· + ·) (congrArg₂ (· + ·) (congrArg₂ (· * ·) (e 8 le_rfl) rfl) (congrArg₂ (· * ·) (e 7 (by omega)) rfl)) (congrArg₂ (· * ·) (e 6 (by omega)) rfl))

/-- What the second loop reads of the gated cotangents' scratch. -/
theorem dp_at (c : Dev nD) (t : Fin cfg0.N) (X : BufTy.Contents (Elt Ideal) scM0_1.view.ty)
    (hX : ∀ y : S4104x128.Idx, scM0_1.view.read (Elt Ideal) X y = at2 (m := 4096) (n := 128) (iblk m c 4 t) (y 0).val (y 1).val * at2 (m := 4096) (n := 128) (iblk m c 0 t) (y 0).val (y 1).val)
    (r l : ℕ) (hr : r < 4096) (hl : l < 128) : conv (scM0_1.view.read (Elt Ideal) X) (iblk m c 3 t) r l = cB m c t r l := by
  have e (n : ℕ) (hn : n ≤ 2) := at2_eq (X := scM0_1.view.read (Elt Ideal) X) (f := fun r l => at2 (m := 4096) (n := 128) (iblk m c 4 t) r l * at2 (m := 4096) (n := 128) (iblk m c 0 t) r l) hX (a := r + n) (b := l) (by omega) hl
  unfold conv cB
  exact congrArg₂ (· + ·) (congrArg₂ (· + ·) (congrArg₂ (· * ·) (e 0 (by omega)) rfl) (congrArg₂ (· * ·) (e 1 (by omega)) rfl)) (congrArg₂ (· * ·) (e 2 le_rfl) rfl)

theorem out6 (c : Dev nD) (t : Fin cfg0.N) (y : S4096x128.Idx) : left6 m c t y
    = cB m c t (y 0).val (y 1).val * at2 (m := 4096) (n := 128) (iblk m c 2 t) (y 0).val (y 1).val := by
  rw [← left6_eq m c t (fun _ => 0) (fun _ => 0) (ms0_6 t).view.junk]
  unfold runAt run
  dsimp only
  refine (loop2_dc ..).trans ?_
  rw [Memref.IsWhole.read_unread, Memref.IsWhole.read_unread]
  refine congrArg₂ (· * ·) (dp_at m c t _ (fun y => (loop1_dp ..).trans ?_) _ _ (y 0).isLt (y 1).isLt) rfl
  rw [Memref.IsWhole.read_unread, Memref.IsWhole.read_unread]

theorem out7 (c : Dev nD) (t : Fin cfg0.N) (y : S4096x128.Idx) : left7 m c t y
    = cB m c t (y 0).val (y 1).val * at2 (m := 4096) (n := 128) (iblk m c 1 t) (y 0).val (y 1).val := by
  rw [← left7_eq m c t (fun _ => 0) (fun _ => 0) (ms0_7 t).view.junk]
  unfold runAt run
  dsimp only
  refine (loop2_dh ..).trans ?_
  rw [Memref.IsWhole.read_unread, Memref.IsWhole.read_unread]
  refine congrArg₂ (· * ·) (dp_at m c t _ (fun y => (loop1_dp ..).trans ?_) _ _ (y 0).isLt (y 1).isLt) rfl
  rw [Memref.IsWhole.read_unread, Memref.IsWhole.read_unread]

theorem out8 (c : Dev nD) (t : Fin cfg0.N) (y : S3x128.Idx) : left8 m c t y
    = ∑ k ∈ Finset.range 16, ∑ r : Fin 256, gB m c t (256 * k + r.val) (y 1).val * xB m c t (256 * k + r.val + 6 + (y 0).val) (y 1).val := by
  rw [← left8_eq m c t (fun _ => 0) (fun _ => 0) (ms0_8 t).view.junk]
  unfold runAt run
  dsimp only
  rw [View.writes_append]
  refine (loop1_dw _ _ _ _ _ _ _ _ _ _ _ _ _ _ _ _ _ _ _ _ _ _ _ _ _ _ _ _ _ _ _ _ _ _ le_rfl _).trans ?_
  rw [Memref.IsWhole.read_unread, Memref.IsWhole.read_unread]
  refine (congrArg₂ (· + ·) (at2_eq (f := fun _ _ => 0) (fun z => ?_) (y 0).isLt (y 1).isLt) ?_).trans (zero_add _)
  · refine View.read_writes_apply_of_pieces (Val := Elt Ideal) (ms0_8 t).view _ (fun _ => 0) _ ?_ z ⟨_, List.mem_cons_self, mem_rows (inb := inb_S3x128_S3x128_0_0) z (Nat.zero_le _) ?_⟩
    · simp only [run.sl.H8_1, List.forall_mem_cons]
      refine ⟨fun x => ?_, fun p hp => absurd hp List.not_mem_nil⟩
      revert x
      refine fun (x : S3x128.Idx) => ?_
      idx_vars x
      pointwise [k0_pay4]
    · exact (Nat.zero_add 3).symm ▸ (z 0).isLt
  · refine Finset.sum_congr (congrArg Finset.range (by decide)) fun k hk => Finset.sum_congr rfl fun r _ => congrArg₂ (· * ·) rfl ?_
    have hk := Finset.mem_range.mp hk
    have h0 : (y 0).val < 3 := (y 0).isLt
    have hr := r.isLt
    have ht : k0_t1_loop.trips = 16 := by decide
    exact xp_at c _ _ _ _ _ _ _ _ (by omega) (y 1).isLt

/-! The blocks the points stage, as columns of the arrays. -/

theorem blk0 (c : Dev nD) (t : Fin cfg0.N) (a : ℕ) {b : ℕ} (hb : b < 128) : at2 (m := 4096) (n := 128) (iblk m c 0 t) a b
    = at2 (m := 4096) (n := 2560) (m ((c : Thread nD τ).loc main_arg0)) a (128 * t.val + b) := by
  refine at2_cols (fun r l => ?_) a hb
  have ht : t.val < 4 := t.isLt
  rw [at2_of_lt _ _ _ r.isLt (by have := l.isLt; omega)]
  blk_point [iblk, V, idx t]

theorem blk1 (c : Dev nD) (t : Fin cfg0.N) (a : ℕ) {b : ℕ} (hb : b < 128) : at2 (m := 4096) (n := 128) (iblk m c 1 t) a b
    = at2 (m := 4096) (n := 2560) (m ((c : Thread nD τ).loc main_arg0)) a (128 * (4 + t.val) + b) := by
  refine at2_cols (fun r l => ?_) a hb
  have ht : t.val < 4 := t.isLt
  rw [at2_of_lt _ _ _ r.isLt (by have := l.isLt; omega)]
  blk_point [iblk, V, idx t]

theorem blk2 (c : Dev nD) (t : Fin cfg0.N) (a : ℕ) {b : ℕ} (hb : b < 128) : at2 (m := 4096) (n := 128) (iblk m c 2 t) a b
    = at2 (m := 4096) (n := 2560) (m ((c : Thread nD τ).loc main_arg0)) a (128 * (8 + t.val) + b) := by
  refine at2_cols (fun r l => ?_) a hb
  have ht : t.val < 4 := t.isLt
  rw [at2_of_lt _ _ _ r.isLt (by have := l.isLt; omega)]
  blk_point [iblk, V, idx t]

theorem blk3 (c : Dev nD) (t : Fin cfg0.N) (a : ℕ) {b : ℕ} (hb : b < 128) : at2 (m := 3) (n := 128) (iblk m c 3 t) a b
    = at2 (m := 3) (n := 512) (m ((c : Thread nD τ).loc main_arg1)) a (128 * t.val + b) := by
  refine at2_cols (fun r l => ?_) a hb
  have ht : t.val < 4 := t.isLt
  rw [at2_of_lt _ _ _ r.isLt (by have := l.isLt; omega)]
  blk_point [iblk, V, idx t]

theorem blk4 (c : Dev nD) (t : Fin cfg0.N) (a : ℕ) {b : ℕ} (hb : b < 128) : at2 (m := 4096) (n := 128) (iblk m c 4 t) a b
    = at2 (m := 4096) (n := 1024) (m ((c : Thread nD τ).loc main_arg2)) a (128 * t.val + b) := by
  refine at2_cols (fun r l => ?_) a hb
  have ht : t.val < 4 := t.isLt
  rw [at2_of_lt _ _ _ r.isLt (by have := l.isLt; omega)]
  blk_point [iblk, V, idx t]

/-- The gated cotangent at a position. -/
def gAt (z : FVec Ideal S4096x2560 .f32) (d : FVec Ideal S4096x1024 .f32) (r l : ℕ) : EReal := at2 d r l * at2 z r l

/-- The derivative of the causal convolution in its input, at a position. -/
def cvAt (z : FVec Ideal S4096x2560 .f32) (w : FVec Ideal S3x512 .f32) (d : FVec Ideal S4096x1024 .f32) (r l : ℕ) : EReal :=
  gAt z d r l * at2 w 2 l + gAt z d (r + 1) l * at2 w 1 l + gAt z d (r + 2) l * at2 w 0 l

/-- The convolution's padded input over the whole array. -/
def xin (z : FVec Ideal S4096x2560 .f32) (r l : ℕ) : EReal :=
  xpAt (fun r l => at2 z r (512 + l)) (fun r l => at2 z r (1024 + l)) r l

/-- The causal convolution at a position. -/
def fwAt (z : FVec Ideal S4096x2560 .f32) (w : FVec Ideal S3x512 .f32) (r l : ℕ) : EReal :=
  xin z (r + 8) l * at2 w 2 l + xin z (r + 7) l * at2 w 1 l + xin z (r + 6) l * at2 w 0 l

/-- A tap's gradient, gathered in sixteen chunks of 256 rows. -/
def dwAt (z : FVec Ideal S4096x2560 .f32) (d : FVec Ideal S4096x1024 .f32) (t l : ℕ) : EReal :=
  ∑ k ∈ Finset.range 16, ∑ r : Fin 256, gAt z d (256 * k + r.val) l * xin z (256 * k + r.val + 6 + t) l

theorem col0 (t l : ℕ) : 128 * t + l = t * 128 + l := by omega
theorem col1 (t l : ℕ) : (4 + t) * 128 + l = 512 + (t * 128 + l) := by omega
theorem col2 (t l : ℕ) : (8 + t) * 128 + l = 1024 + (t * 128 + l) := by omega

theorem final5 (c : Dev nD) : (data m 0 c).arrAt 5 (cfgs 0).N
    = fun y : S4096x512.Idx => at2 (m := 4096) (n := 1024) (m ((c : Thread nD τ).loc main_arg2)) (y 0).val (y 1).val * fwAt (m ((c : Thread nD τ).loc main_arg0)) (m ((c : Thread nD τ).loc main_arg1)) (y 0).val (y 1).val := by
  refine (data m 0 c).arrAt_eq_of_covers 5 _ (by decide +kernel) fun t _ y => ?_
  blk_simp
  rw [(data_after m c t).2.1, out5]
  have ht : t.val < 4 := t.isLt
  have hl : (y 1).val < 128 := (y 1).isLt
  obtain ⟨-, -, -, -, -, h, -, -, -⟩ := idx t
  rw [h]
  show _ = at2 (m := 4096) (n := 1024) (m ((c : Thread nD τ).loc main_arg2)) (0 * 4096 + (y 0).val) (t.val * 128 + (y 1).val) * fwAt (m ((c : Thread nD τ).loc main_arg0)) (m ((c : Thread nD τ).loc main_arg1)) (0 * 4096 + (y 0).val) (t.val * 128 + (y 1).val)
  simp only [gB, cB, xB, xpAt, blk0 m c t _ hl, blk1 m c t _ hl, blk2 m c t _ hl, blk3 m c t _ hl, blk4 m c t _ hl, cvAt, gAt, fwAt, dwAt, xin, Nat.zero_mul, Nat.zero_add, Nat.mul_comm 128 (_ + _), Nat.mul_comm 128 t.val, col1, col2]

theorem final6 (c : Dev nD) : (data m 0 c).arrAt 6 (cfgs 0).N
    = fun y : S4096x512.Idx => cvAt (m ((c : Thread nD τ).loc main_arg0)) (m ((c : Thread nD τ).loc main_arg1)) (m ((c : Thread nD τ).loc main_arg2)) (y 0).val (y 1).val * at2 (m := 4096) (n := 2560) (m ((c : Thread nD τ).loc main_arg0)) (y 0).val (1024 + (y 1).val) := by
  refine (data m 0 c).arrAt_eq_of_covers 6 _ (by decide +kernel) fun t _ y => ?_
  blk_simp
  rw [(data_after m c t).2.2.1, out6]
  have ht : t.val < 4 := t.isLt
  have hl : (y 1).val < 128 := (y 1).isLt
  obtain ⟨-, -, -, -, -, -, h, -, -⟩ := idx t
  rw [h]
  show _ = cvAt (m ((c : Thread nD τ).loc main_arg0)) (m ((c : Thread nD τ).loc main_arg1)) (m ((c : Thread nD τ).loc main_arg2)) (0 * 4096 + (y 0).val) (t.val * 128 + (y 1).val) * at2 (m := 4096) (n := 2560) (m ((c : Thread nD τ).loc main_arg0)) (0 * 4096 + (y 0).val) (1024 + (t.val * 128 + (y 1).val))
  simp only [gB, cB, xB, xpAt, blk0 m c t _ hl, blk1 m c t _ hl, blk2 m c t _ hl, blk3 m c t _ hl, blk4 m c t _ hl, cvAt, gAt, fwAt, dwAt, xin, Nat.zero_mul, Nat.zero_add, Nat.mul_comm 128 (_ + _), Nat.mul_comm 128 t.val, col1, col2]

theorem final7 (c : Dev nD) : (data m 0 c).arrAt 7 (cfgs 0).N
    = fun y : S4096x512.Idx => cvAt (m ((c : Thread nD τ).loc main_arg0)) (m ((c : Thread nD τ).loc main_arg1)) (m ((c : Thread nD τ).loc main_arg2)) (y 0).val (y 1).val * at2 (m := 4096) (n := 2560) (m ((c : Thread nD τ).loc main_arg0)) (y 0).val (512 + (y 1).val) := by
  refine (data m 0 c).arrAt_eq_of_covers 7 _ (by decide +kernel) fun t _ y => ?_
  blk_simp
  rw [(data_after m c t).2.2.2.1, out7]
  have ht : t.val < 4 := t.isLt
  have hl : (y 1).val < 128 := (y 1).isLt
  obtain ⟨-, -, -, -, -, -, -, h, -⟩ := idx t
  rw [h]
  show _ = cvAt (m ((c : Thread nD τ).loc main_arg0)) (m ((c : Thread nD τ).loc main_arg1)) (m ((c : Thread nD τ).loc main_arg2)) (0 * 4096 + (y 0).val) (t.val * 128 + (y 1).val) * at2 (m := 4096) (n := 2560) (m ((c : Thread nD τ).loc main_arg0)) (0 * 4096 + (y 0).val) (512 + (t.val * 128 + (y 1).val))
  simp only [gB, cB, xB, xpAt, blk0 m c t _ hl, blk1 m c t _ hl, blk2 m c t _ hl, blk3 m c t _ hl, blk4 m c t _ hl, cvAt, gAt, fwAt, dwAt, xin, Nat.zero_mul, Nat.zero_add, Nat.mul_comm 128 (_ + _), Nat.mul_comm 128 t.val, col1, col2]

theorem final8 (c : Dev nD) : (data m 0 c).arrAt 8 (cfgs 0).N
    = fun y : S3x512.Idx => dwAt (m ((c : Thread nD τ).loc main_arg0)) (m ((c : Thread nD τ).loc main_arg2)) (y 0).val (y 1).val := by
  refine (data m 0 c).arrAt_eq_of_covers 8 _ (by decide +kernel) fun t _ y => ?_
  blk_simp
  rw [(data_after m c t).2.2.2.2, out8]
  have ht : t.val < 4 := t.isLt
  have hl : (y 1).val < 128 := (y 1).isLt
  obtain ⟨-, -, -, -, -, -, -, -, h⟩ := idx t
  rw [h]
  show _ = dwAt (m ((c : Thread nD τ).loc main_arg0)) (m ((c : Thread nD τ).loc main_arg2)) (0 * 3 + (y 0).val) (t.val * 128 + (y 1).val)
  simp only [gB, cB, xB, xpAt, blk0 m c t _ hl, blk1 m c t _ hl, blk2 m c t _ hl, blk3 m c t _ hl, blk4 m c t _ hl, cvAt, gAt, fwAt, dwAt, xin, Nat.zero_mul, Nat.zero_add, Nat.mul_comm 128 (_ + _), Nat.mul_comm 128 t.val, col1, col2]

open Cert.ShortConvGradIdeal.Read

/-- The reference's tap is one where the input's row is the tap's distance before the output's. -/
theorem tap_eq (r t k : ℕ) (hr : r < 4096) (ht : t < 4096) (hk : k < 3) :
    FloatOps.uitofp (F := Ideal) FTy.f32 (IntOp.cmpi CmpIPredicate.eq (BitVec.ofNat 32 r)
      (IntOp.addi (IntOp.subi (BitVec.ofNat 32 t) 2#32) (BitVec.ofNat 32 k))) = if r + 2 = t + k then 1 else 0 := by
  have e : (BitVec.ofNat 32 r = BitVec.ofNat 32 t - 2#32 + BitVec.ofNat 32 k) ↔ r + 2 = t + k := by
    rw [← BitVec.toNat_inj]
    simp only [BitVec.toNat_add, BitVec.toNat_sub, BitVec.toNat_ofNat]
    omega
  by_cases h : r + 2 = t + k
  · rw [if_pos h]
    have e' := e.mpr h
    simp only [IntOp.cmpi, IntOp.addi, IntOp.subi, ← e']
    rw [beq_self_eq_true]
    exact (congrArg _ (rfl : (BitVec.ofBool true).toNat = 1)).trans Nat.cast_one
  · rw [if_neg h]
    have e' := mt e.mp h
    simp only [IntOp.cmpi, IntOp.addi, IntOp.subi]
    rw [beq_false_of_ne e']
    exact (congrArg _ (rfl : (BitVec.ofBool false).toNat = 0)).trans Nat.cast_zero

/-- The reference's sum over a tap's row finds the padded input. -/
theorem tap_sum (z : FVec Ideal S4096x2560 .f32) (t : Fin 4096) (k : Fin 3) (l : Fin 512) :
    ∑ s : Fin 4096, (if s.val + 2 = t.val + k.val then (1 : EReal) else 0) * (at2 z s.val (512 + l.val) * at2 z s.val (1024 + l.val)) = xin z (t.val + 6 + k.val) l.val := by
  have ht := t.isLt
  have hk := k.isLt
  have e (s : Fin 4096) : (if s.val + 2 = t.val + k.val then (1 : EReal) else 0) * (at2 z s.val (512 + l.val) * at2 z s.val (1024 + l.val))
      = if s.val = t.val + k.val - 2 then (if t.val + k.val < 2 then 0 else at2 z s.val (512 + l.val) * at2 z s.val (1024 + l.val)) else 0 := by
    rw [ite_mul, one_mul, zero_mul]
    by_cases h : t.val + k.val < 2
    · rw [if_pos h, ite_self, if_neg (by omega)]
    · rw [if_neg h]
      exact if_congr (by omega) rfl rfl
  rw [Finset.sum_congr rfl fun s _ => e s,
    sum_pick (fun s => if t.val + k.val < 2 then 0 else at2 z s (512 + l.val) * at2 z s (1024 + l.val)), if_pos (by omega)]
  unfold xin xpAt
  have e2 : t.val + 6 + k.val - 8 = t.val + k.val - 2 := by omega
  rw [e2]
  exact if_congr (by omega) rfl rfl

theorem rev3 (a b c : EReal) : a + b + c = c + b + a := by
  rw [add_comm (G := EReal) (a + b), add_comm (G := EReal) a, ← add_assoc]

/-- The reference's transpose of the convolution gathers the same products. -/
theorem conv_eq (z : FVec Ideal S4096x2560 .f32) (w : FVec Ideal S3x512 .f32) (d : FVec Ideal S4096x1024 .f32) (r : Fin 4096) (l : Fin 512) :
    ∑ k : Fin 3, ∑ t : Fin 4096, gAt z d t.val l.val * at2 w k.val l.val * (if r.val + 2 = t.val + k.val then 1 else 0) = cvAt z w d r.val l.val := by
  have e (k : Fin 3) : ∑ t : Fin 4096, gAt z d t.val l.val * at2 w k.val l.val * (if r.val + 2 = t.val + k.val then 1 else 0)
      = gAt z d (r.val + (2 - k.val)) l.val * at2 w k.val l.val := by
    have hk := k.isLt
    have e (t : Fin 4096) : gAt z d t.val l.val * at2 w k.val l.val * (if r.val + 2 = t.val + k.val then 1 else 0)
        = if t.val = r.val + (2 - k.val) then gAt z d t.val l.val * at2 w k.val l.val else 0 := by
      rw [mul_ite, mul_one, mul_zero]
      exact if_congr (by omega) rfl rfl
    rw [Finset.sum_congr rfl fun t _ => e t, sum_pick (fun t => gAt z d t l.val * at2 w k.val l.val)]
    by_cases h : r.val + (2 - k.val) < 4096
    · exact if_pos h
    · rw [if_neg h, gAt, at2_of_le d _ _ (by omega), zero_mul, zero_mul]
  rw [Finset.sum_congr rfl fun k _ => e k, Fin.sum_univ_three]
  exact rev3 _ _ _

theorem pure_db (z : FVec Ideal S4096x2560 .f32) (w : FVec Ideal S3x512 .f32) (d : FVec Ideal S4096x1024 .f32) (r : Fin 4096) (l : Fin 512) :
    at2 d r.val l.val * fwAt z w r.val l.val = val_main_v32 (F := Ideal) z w d (ix2 r l) := by
  rw [← val_main_v32_eq]
  pointwise []
  simp only [at2_ix2]
  refine congrArg₂ (· * ·) rfl ?_
  refine Eq.trans ?_ (Finset.sum_congr rfl fun k _ => congrArg₂ (· * ·) ((tap_sum z r k l).symm.trans (Finset.sum_congr rfl fun s _ => congrArg₂ (· * ·) (tap_eq _ _ _ s.isLt r.isLt k.isLt).symm rfl)) rfl)
  rw [Fin.sum_univ_three]
  exact rev3 _ _ _

theorem pure_dc (z : FVec Ideal S4096x2560 .f32) (w : FVec Ideal S3x512 .f32) (d : FVec Ideal S4096x1024 .f32) (r : Fin 4096) (l : Fin 512) :
    cvAt z w d r.val l.val * at2 z r.val (1024 + l.val) = val_main_v33 (F := Ideal) z w d (ix2 r l) := by
  rw [← val_main_v33_eq, ← conv_eq]
  pointwise []
  simp only [at2_ix2]
  exact congrArg₂ (· * ·) (Finset.sum_congr rfl fun k _ => Finset.sum_congr rfl fun t _ => congrArg₂ (· * ·) (congrArg₂ (· * ·) (mul_comm _ _) rfl) (tap_eq _ _ _ r.isLt t.isLt k.isLt).symm) rfl

theorem pure_dh (z : FVec Ideal S4096x2560 .f32) (w : FVec Ideal S3x512 .f32) (d : FVec Ideal S4096x1024 .f32) (r : Fin 4096) (l : Fin 512) :
    cvAt z w d r.val l.val * at2 z r.val (512 + l.val) = val_main_v34 (F := Ideal) z w d (ix2 r l) := by
  rw [← val_main_v34_eq, ← conv_eq]
  pointwise []
  simp only [at2_ix2]
  rw [mul_comm]
  exact congrArg₂ (· * ·) rfl (Finset.sum_congr rfl fun k _ => Finset.sum_congr rfl fun t _ => congrArg₂ (· * ·) (congrArg₂ (· * ·) (mul_comm _ _) rfl) (tap_eq _ _ _ r.isLt t.isLt k.isLt).symm)

theorem pure_dw (z : FVec Ideal S4096x2560 .f32) (d : FVec Ideal S4096x1024 .f32) (r : Fin 3) (l : Fin 512) :
    dwAt z d r.val l.val = val_main_v27 (F := Ideal) z d (ix2 r l) := by
  rw [← val_main_v27_eq]
  pointwise []
  simp only [Finset.univ_unique, Finset.sum_singleton]
  unfold dwAt
  rw [sum_chunks (fun t => gAt z d t l.val * xin z (t + 6 + r.val) l.val) 256 16, ← Fin.sum_univ_eq_sum_range]
  refine Finset.sum_congr rfl fun t _ => ?_
  rw [mul_comm]
  simp only [at2_ix2]
  exact congrArg₂ (· * ·) ((tap_sum z t r l).symm.trans (Finset.sum_congr rfl fun s _ => congrArg₂ (· * ·) (tap_eq _ _ _ s.isLt t.isLt r.isLt).symm rfl)) (mul_comm _ _)

end Cert.ShortConvBwdIdeal.Body

namespace Cert.Proof

open Idealize.ShloMosaic Idealize.SL.Sem

/-- The short convolution's backward call computes the derivative of the gated causal convolution: no precondition. -/
theorem algebraic_ShortConv : Cert.algebraic_ShortConvBwdIdeal_ShortConvGradIdeal := by
  pair_intro
  · run_from Cert.ShortConvBwdIdeal.Body.whole_post m g
  · refine (θ_run _ _ _).mono (fun r h c => ?_) (Cert.ShortConvGradIdeal.Value.run m' g')
    obtain ⟨h0, h1, h2, h3, hargs⟩ := h c
    obtain ⟨e0, e1, e2⟩ := hagree c
    rw [Cert.ShortConvGradIdeal.Read.val_main_v32_eq, e0, e1, e2] at h0
    rw [Cert.ShortConvGradIdeal.Read.val_main_v33_eq, e0, e1, e2] at h1
    rw [Cert.ShortConvGradIdeal.Read.val_main_v34_eq, e0, e1, e2] at h2
    rw [Cert.ShortConvGradIdeal.Read.val_main_v27_eq, e0, e2] at h3
    refine ⟨h0.trans ?_, h1.trans ?_, h2.trans ?_, h3.trans ?_, hargs⟩
    · refine Eq.trans ?_ (Cert.ShortConvBwdIdeal.Body.final5 m c).symm
      funext j; idx_vars j; exact (Cert.ShortConvBwdIdeal.Body.pure_db _ _ _ _ _).symm
    · refine Eq.trans ?_ (Cert.ShortConvBwdIdeal.Body.final6 m c).symm
      funext j; idx_vars j; exact (Cert.ShortConvBwdIdeal.Body.pure_dc _ _ _ _ _).symm
    · refine Eq.trans ?_ (Cert.ShortConvBwdIdeal.Body.final7 m c).symm
      funext j; idx_vars j; exact (Cert.ShortConvBwdIdeal.Body.pure_dh _ _ _ _ _).symm
    · refine Eq.trans ?_ (Cert.ShortConvBwdIdeal.Body.final8 m c).symm
      funext j; idx_vars j; exact (Cert.ShortConvBwdIdeal.Body.pure_dw _ _ _ _).symm

end Cert.Proof

end
-- ==== Proof.ShortConv.Forward.lean ====
/-
  The forward call of the short convolution: what its loop stores, what the taken half of its array holds, and that
  this is the gated causal convolution.
-/
module

public import proofs.«01_k».proof.Proof.ShortConv.Value
public import proofs.«01_k».proof.Proof.Gen.ShortConvFwdIdeal.Frame
public import proofs.«01_k».proof.Proof.Gen.ShortConvOutIdeal.Read
public import proofs.«01_k».proof.Proof.Gen.ShortConvOutIdeal.Run

@[expose] public section

set_option maxRecDepth 16384

noncomputable section

namespace Cert.ShortConvFwdIdeal.Value

open Cert.ShortConvFwdIdeal Cert.ShortConvFwdIdeal.Gen Cert.Pieces Idealize.ShloMosaic Idealize.ShloMosaic.TcCoe Idealize.SL.Sem
open Cert.ShortConvBwdIdeal.Body (xpAt xin fwAt tap_eq tap_sum rev3)
open Idealize.ShloMosaic.Pipeline (Dat)

/-- One position of the causal convolution over its padded input: three rows, each times its tap. -/
def delayed (xp : FVec Ideal S4104x128 .f32) (w : FVec Ideal S3x128 .f32) (r l : ℕ) : EReal :=
  at2 xp (r + 8) l * at2 w 2 l + at2 xp (r + 7) l * at2 w 1 l + at2 xp (r + 6) l * at2 w 0 l

section Loop

variable (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S3x128 .f32) (harg4 : arg4.IsWhole) (arg5 : Memref sig .tc .vmem S4096x128 .bf16) (harg5 : arg5.IsWhole) (arg6 : Memref sig .tc .vmem S4104x128 .f32) (harg6 : arg6.IsWhole)
variable (X1 : BufTy.Contents (Elt Ideal) arg1.view.ty) (X4 : BufTy.Contents (Elt Ideal) arg4.view.ty) (X6 : BufTy.Contents (Elt Ideal) arg6.view.ty)

set_option maxHeartbeats 800000 in
/-- A trip's store. -/
theorem trip_out (k : Fin k0_t1_loop.trips) : ∀ p ∈ tripL_k0_t1 (F := Ideal) 𝒱 c bd i arg1 harg1 arg2 harg2 arg3 harg3 arg4 harg4 arg5 harg5 arg6 harg6 X1 X4 X6 k,
    ∀ x : p.1.shape.Idx, p.2 x = at2 (arg1.view.read (Elt Ideal) X1) (p.1.emb x 0).val (p.1.emb x 1).val * delayed (arg6.view.read (Elt Ideal) X6) (arg4.view.read (Elt Ideal) X4) (p.1.emb x 0).val (p.1.emb x 1).val := by
  unfold tripL_k0_t1 trip_k0_t1
  dsimp only
  intro p hp x
  rw [List.mem_singleton] at hp
  subst hp
  revert x
  refine fun (x : S256x128.Idx) => ?_
  idx_vars x
  show _ = at2 (arg1.view.read (Elt Ideal) X1) (k0_off2 k 0 + 1 * x0.val) (k0_off2 k 1 + 1 * x1.val) * delayed (arg6.view.read (Elt Ideal) X6) (arg4.view.read (Elt Ideal) X4) (k0_off2 k 0 + 1 * x0.val) (k0_off2 k 1 + 1 * x1.val)
  simp only [View.readAt_eq_ld]
  pointwise [k0_off1_eq, k0_off2_eq, k0_pay3]
  have hx := x0.isLt
  have e (n : ℕ) (h1 : 0 < n) (h2 : n ≤ 8) : 256 * k.val + (x0.val + (8 + 264) - n) % 264 = 256 * k.val + (x0.val + (8 - n)) := by omega
  have e8 : 8 + x0.val = x0.val + 8 := by omega
  simp (disch := omega) only [at2_ix2, delayed, e, e8, Nat.reduceSub, Nat.reduceMod, Fin.isValue, Fin.coe_ofNat_eq_mod, zero_add, Nat.add_zero, Nat.zero_add, Nat.one_mul, Fin.val_zero, Nat.add_assoc]

/-- Where a trip stores. -/
theorem trip_at (k : Fin k0_t1_loop.trips) : ∃ p ∈ tripL_k0_t1 (F := Ideal) 𝒱 c bd i arg1 harg1 arg2 harg2 arg3 harg3 arg4 harg4 arg5 harg5 arg6 harg6 X1 X4 X6 k,
      (∀ a, p.1.off a = k0_off2 k a) ∧ (∀ a, p.1.size a = (![256, 128] : Fin 2 → ℕ) a) ∧ ∀ a, p.1.stride a = 1 := by
  unfold tripL_k0_t1 trip_k0_t1
  dsimp only
  exact ⟨_, List.mem_singleton_self _, fun _ => rfl, fun _ => rfl, fun _ => rfl⟩

/-- The result after the loop: sixteen blocks of 256 rows are all the rows. -/
theorem loop_out (f : BufTy.Contents (Elt Ideal) arg5.view.ty) (y : S4096x128.Idx) :
    arg5.view.read (Elt Ideal) (arg5.view.writes (Elt Ideal) f (pb_k0_t1 (F := Ideal) 𝒱 c bd i arg1 harg1 arg2 harg2 arg3 harg3 arg4 harg4 arg5 harg5 arg6 harg6 X1 X4 X6 k0_t1_loop.trips)) y
      = at2 (arg1.view.read (Elt Ideal) X1) (y 0).val (y 1).val * delayed (arg6.view.read (Elt Ideal) X6) (arg4.view.read (Elt Ideal) X4) (y 0).val (y 1).val := by
  let L (n : ℕ) := pb_k0_t1 (F := Ideal) 𝒱 c bd i arg1 harg1 arg2 harg2 arg3 harg3 arg4 harg4 arg5 harg5 arg6 harg6 X1 X4 X6 n
  let T (k : Fin k0_t1_loop.trips) := tripL_k0_t1 (F := Ideal) 𝒱 c bd i arg1 harg1 arg2 harg2 arg3 harg3 arg4 harg4 arg5 harg5 arg6 harg6 X1 X4 X6 k
  have hs (k : Fin k0_t1_loop.trips) : L (k.val + 1) = T k ++ L k.val := pb_k0_t1_succ (F := Ideal) 𝒱 c bd i arg1 harg1 arg2 harg2 arg3 harg3 arg4 harg4 arg5 harg5 arg6 harg6 X1 X4 X6 k
  refine View.read_writes_apply_of_pieces _ f (fun y : S4096x128.Idx => at2 (arg1.view.read (Elt Ideal) X1) (y 0).val (y 1).val * delayed (arg6.view.read (Elt Ideal) X6) (arg4.view.read (Elt Ideal) X4) (y 0).val (y 1).val) _
    (forall_trips L T rfl hs _ (trip_out 𝒱 c bd i arg1 harg1 arg2 harg2 arg3 harg3 arg4 harg4 arg5 harg5 arg6 harg6 X1 X4 X6) _ le_rfl) y (View.cover_of_blocks _ ![256, 128] (by decide) (fun ix => ?_) y)
  obtain ⟨p, hp, ho, hz, h1⟩ := trip_at 𝒱 c bd i arg1 harg1 arg2 harg2 arg3 harg3 arg4 harg4 arg5 harg5 arg6 harg6 X1 X4 X6 (Fin.cast (by decide) (ix 0))
  refine ⟨p, mem_trips L T hs _ p hp _ le_rfl (Fin.isLt _), fun a => ?_, hz, h1⟩
  rw [ho a, k0_off2_eq]
  fin_cases a
  · exact Nat.mul_comm _ _
  · have h1 : (ix 1).val = 0 := Nat.lt_one_iff.mp (ix 1).isLt
    show 0 = (ix 1).val * 128
    rw [h1]

end Loop

variable (m : (ℓ : Loc nD τ sig) → Buf (Elt Ideal) ℓ)

theorem idx : ∀ t : Fin cfg0.N, win0_0.index t = ![0, t.val] ∧ win0_1.index t = ![0, 4 + t.val] ∧ win0_2.index t = ![0, 8 + t.val] ∧ win0_3.index t = ![0, t.val]
    ∧ win0_4.index t = ![0, t.val] := (by decide +kernel : ∀ t : Fin grid0.N, _)

theorem xp_read (u h : FVec Ideal S4096x128 .f32) (y : S4104x128.Idx) :
    View.read (Elt Ideal) scM0_0.view ((View.whole cc0_scratch0).writes (Elt Ideal) (View.whole cc0_scratch0).junk
      [⟨Rect.unit ![8, 0] ![4096, 128] inb_S4104x128_S4096x128_8_0, k0_pay2 (F := Ideal) u h⟩,
        ⟨Rect.unit ![0, 0] ![8, 128] inb_S4104x128_S8x128_0_0, k0_pay1 (F := Ideal)⟩]) y
      = xpAt (at2 u) (at2 h) (y 0).val (y 1).val := by
  refine View.read_writes_apply_of_pieces (Val := Elt Ideal) scM0_0.view _ (fun y : S4104x128.Idx => xpAt (at2 u) (at2 h) (y 0).val (y 1).val) _ ?_ y ?_
  · simp only [List.forall_mem_cons]
    refine ⟨?_, ?_, fun p hp => absurd hp List.not_mem_nil⟩ <;> intro x <;> rw [emb_val, emb_val] <;> revert x
    · refine fun (x : S4096x128.Idx) => ?_
      idx_vars x
      pointwise [k0_pay2, xpAt]
      simp only [at2_ix2]
    · refine fun (x : S8x128.Idx) => ?_
      idx_vars x
      pointwise [k0_pay1, xpAt]
  · by_cases h : (y 0).val < 8
    · exact ⟨_, List.mem_cons_of_mem _ List.mem_cons_self, mem_rows (inb := inb_S4104x128_S8x128_0_0) y (Nat.zero_le _) (by omega)⟩
    · exact ⟨_, List.mem_cons_self, mem_rows (inb := inb_S4104x128_S4096x128_8_0) y (by omega) (by have : (y 0).val < 4104 := (y 0).isLt; omega)⟩

/-- The convolution's input of a grid point. -/
def xB (c : Dev nD) (t : Fin cfg0.N) (r l : ℕ) : EReal := xpAt (at2 (m := 4096) (n := 128) (iblk m c 1 t)) (at2 (m := 4096) (n := 128) (iblk m c 2 t)) r l

theorem out4 (c : Dev nD) (t : Fin cfg0.N) (y : S4096x128.Idx) : (dats m 0 c).after 4 t y
    = at2 (m := 4096) (n := 128) (iblk m c 0 t) (y 0).val (y 1).val * (xB m c t ((y 0).val + 8) (y 1).val * at2 (m := 3) (n := 128) (iblk m c 3 t) 2 (y 1).val
      + xB m c t ((y 0).val + 7) (y 1).val * at2 (m := 3) (n := 128) (iblk m c 3 t) 1 (y 1).val
      + xB m c t ((y 0).val + 6) (y 1).val * at2 (m := 3) (n := 128) (iblk m c 3 t) 0 (y 1).val) := by
  rw [after0_4]; unfold outsAt0; frame_out
  refine (View.read_writes_junk_apply_eq_canon (ms0_4 t).view y _).symm.trans ((loop_out ..).trans ?_)
  rw [Memref.IsWhole.read_unread, Memref.IsWhole.read_unread]
  have h0 : (y 0).val < 4096 := (y 0).isLt
  have e (a : ℕ) (ha : a ≤ 8) := at2_eq (xp_read (iblk m c 1 t) (iblk m c 2 t)) (show (y 0).val + a < 4104 by omega) (y 1).isLt
  refine congrArg₂ (· * ·) rfl ?_
  exact congrArg₂ (· + ·) (congrArg₂ (· + ·) (congrArg₂ (· * ·) (e 8 (by omega)) rfl) (congrArg₂ (· * ·) (e 7 (by omega)) rfl)) (congrArg₂ (· * ·) (e 6 (by omega)) rfl)

theorem blk0 (c : Dev nD) (t : Fin cfg0.N) (a : ℕ) {b : ℕ} (hb : b < 128) : at2 (m := 4096) (n := 128) (iblk m c 0 t) a b
    = at2 (m := 4096) (n := 2560) (m ((c : Thread nD τ).loc main_arg0)) a (128 * t.val + b) := by
  refine at2_cols (fun r l => ?_) a hb
  have ht : t.val < 4 := t.isLt
  rw [at2_of_lt _ _ _ r.isLt (by have := l.isLt; omega)]
  blk_point [iblk, V0, idx t]

theorem blk1 (c : Dev nD) (t : Fin cfg0.N) (a : ℕ) {b : ℕ} (hb : b < 128) : at2 (m := 4096) (n := 128) (iblk m c 1 t) a b
    = at2 (m := 4096) (n := 2560) (m ((c : Thread nD τ).loc main_arg0)) a (128 * (4 + t.val) + b) := by
  refine at2_cols (fun r l => ?_) a hb
  have ht : t.val < 4 := t.isLt
  rw [at2_of_lt _ _ _ r.isLt (by have := l.isLt; omega)]
  blk_point [iblk, V0, idx t]

theorem blk2 (c : Dev nD) (t : Fin cfg0.N) (a : ℕ) {b : ℕ} (hb : b < 128) : at2 (m := 4096) (n := 128) (iblk m c 2 t) a b
    = at2 (m := 4096) (n := 2560) (m ((c : Thread nD τ).loc main_arg0)) a (128 * (8 + t.val) + b) := by
  refine at2_cols (fun r l => ?_) a hb
  have ht : t.val < 4 := t.isLt
  rw [at2_of_lt _ _ _ r.isLt (by have := l.isLt; omega)]
  blk_point [iblk, V0, idx t]

theorem blk3 (c : Dev nD) (t : Fin cfg0.N) (a : ℕ) {b : ℕ} (hb : b < 128) : at2 (m := 3) (n := 128) (iblk m c 3 t) a b
    = at2 (m := 3) (n := 512) (m ((c : Thread nD τ).loc main_arg1)) a (128 * t.val + b) := by
  refine at2_cols (fun r l => ?_) a hb
  have ht : t.val < 4 := t.isLt
  rw [at2_of_lt _ _ _ r.isLt (by have := l.isLt; omega)]
  blk_point [iblk, V0, idx t]

/-- The gated convolution at a position. -/
def want (z : FVec Ideal S4096x2560 .f32) (w : FVec Ideal S3x512 .f32) (r l : ℕ) : EReal := at2 z r l * fwAt z w r l

/-- The call's array: its left half written, its right half as it was found. -/
theorem final4 (c : Dev nD) : (dats m 0 c).arrAt 4 (cfgs 0).N
    = fun y : S4096x1024.Idx => if (y 1).val < 512 then want (m ((c : Thread nD τ).loc main_arg0)) (m ((c : Thread nD τ).loc main_arg1)) (y 0).val (y 1).val
      else (dats m 0 c).A 4 y := by
  refine (dats m 0 c).arrAt_eq_of_coversWhere_of_agree 4 _ (fun β => β (1 : Fin 2) < 4) (by decide +kernel) (fun t _ y => ?_) (fun j hj => ?_)
  · blk_simp
    rw [out4]
    have ht : t.val < 4 := t.isLt
    have hl : (y 1).val < 128 := (y 1).isLt
    obtain ⟨-, -, -, -, h⟩ := idx t
    rw [h]
    show _ = if t.val * 128 + (y 1).val < 512 then want (m ((c : Thread nD τ).loc main_arg0)) (m ((c : Thread nD τ).loc main_arg1)) (0 * 4096 + (y 0).val) (t.val * 128 + (y 1).val)
      else (dats m 0 c).A 4 _
    rw [if_pos (by omega)]
    simp only [xB, blk0 m c t _ hl, blk1 m c t _ hl, blk2 m c t _ hl, blk3 m c t _ hl, want, fwAt, xin, xpAt, Nat.zero_mul, Nat.zero_add,
      Cert.ShortConvBwdIdeal.Body.col0, Cert.ShortConvBwdIdeal.Body.col1, Cert.ShortConvBwdIdeal.Body.col2]
  · blk_simp [Pipeline.Window.cell_apply] at hj
    revert j
    refine fun (j : S4096x1024.Idx) hj => ?_
    idx_vars j
    refine Eq.trans ?_ (if_neg (show ¬ j1.val < 512 by omega)).symm
    rfl

/-- What the slice after the call leaves: the left half of the call's array. -/
theorem sliced (c : Dev nD) : Pipeline.afterTail₀ cfgs (dats m) 0 (V0 m) [hostOps1] c main_v1
    = extractStridedSlice S4096x512 ![0, 0] ((dats m 0 c).arrAt 4 (cfgs 0).N) slices_S4096x1024_S4096x512_0_0 := by
  unfold Pipeline.afterTail₀
  show StableHlo.after hostOps1 _ _ = _
  after_results
  exact congrArg (extractStridedSlice S4096x512 ![0, 0] · slices_S4096x1024_S4096x512_0_0) ((dats m 0 c).withArrays_arrAt sharedIn0 (V0 m c) (A_eq m c) 4)

open Cert.ShortConvOutIdeal.Read

theorem pure_out (z : FVec Ideal S4096x2560 .f32) (w : FVec Ideal S3x512 .f32) (r : Fin 4096) (l : Fin 512) :
    want z w r.val l.val = val_main_v18 (F := Ideal) z w (ix2 r l) := by
  rw [← val_main_v18_eq]
  pointwise []
  simp only [at2_ix2]
  refine congrArg₂ (· * ·) rfl ?_
  unfold fwAt
  rw [Fin.sum_univ_three]
  refine (rev3 _ _ _).trans ?_
  have e (k : Fin 3) := (tap_sum z r k l).symm.trans (Finset.sum_congr rfl fun s _ => congrArg₂ (· * ·) (tap_eq _ _ _ s.isLt r.isLt k.isLt).symm rfl)
  exact congrArg₂ (· + ·) (congrArg₂ (· + ·) (congrArg₂ (· * ·) (e 0) rfl) (congrArg₂ (· * ·) (e 1) rfl)) (congrArg₂ (· * ·) (e 2) rfl)

end Cert.ShortConvFwdIdeal.Value

namespace Cert.Proof

open Idealize.ShloMosaic Idealize.SL.Sem

/-- The short convolution's forward call computes the gated causal convolution: no precondition. -/
theorem algebraic_ShortConvFwd : Cert.algebraic_ShortConvFwdIdeal_ShortConvOutIdeal := by
  pair_intro
  · run_from Cert.ShortConvFwdIdeal.Gen.run_main m g
  · refine (θ_run _ _ _).mono (fun r h c => ?_) (Cert.ShortConvOutIdeal.Value.run m' g')
    obtain ⟨h0, hargs⟩ := h c
    obtain ⟨e0, e1⟩ := hagree c
    rw [Cert.ShortConvOutIdeal.Read.val_main_v18_eq, e0, e1] at h0
    refine ⟨h0.trans ?_, hargs⟩
    rw [Cert.ShortConvFwdIdeal.Value.sliced, Cert.ShortConvFwdIdeal.Value.final4 m c]
    funext j; idx_vars j
    refine (Cert.ShortConvFwdIdeal.Value.pure_out _ _ _ _).symm.trans ?_
    pointwise []

end Cert.Proof

end
-- ==== Proof.Swap.Halves.lean ====
/-
  The reference's rearrangement of an array of halves, read at a device's row: it is a row of the sibling's block.
-/
module

public import Idealize.ShloMosaic.Lib.Pipeline.Value
public import Idealize.ShloMosaic.Lib.Pointwise.Index
public import Idealize.ShloMosaic.Lib.Layout
public import Mathlib.Tactic.Ring
public import Mathlib.Tactic.Linarith

@[expose] public section
noncomputable section
namespace Cert.Swap
open Idealize.ShloMosaic

variable {α : Type} {H h w : Nat}

theorem rowMajor_six {d : Fin 6 → Nat} (i : (⟨6, d⟩ : Shape).Idx) :
    ((⟨6, d⟩ : Shape).rowMajor i).val = (((((i 0).val * d 1 + (i 1).val) * d 2 + (i 2).val) * d 3 + (i 3).val) * d 4 + (i 4).val) * d 5 + (i 5).val := by
  rw [Shape.rowMajor_val_succ, Shape.rowMajor_val_five, Shape.numel]
  simp only [Fin.prod_univ_five]
  show (i 0).val * (d 1 * d 2 * d 3 * d 4 * d 5) + (((((i 1).val * d 2 + (i 2).val) * d 3 + (i 3).val) * d 4 + (i 4).val) * d 5 + (i 5).val) = _
  ring

/-- One half of one core's rows, of every chip: by chip, chip's part, row, column. -/
def part (b k : Nat) (X : (⟨3, ![32, H, w]⟩ : Shape).Idx → α) (e₁ : (⟨3, ![32, H, w]⟩ : Shape).ShapeCasts ⟨6, ![4, 2, 4, 2, h, w]⟩)
    (e₂ : (⟨6, ![4, 2, 4, 2, h, w]⟩ : Shape).Slices ![0, b, 0, k, 0, 0] ⟨6, ![4, 1, 4, 1, h, w]⟩)
    (e₃ : (⟨6, ![4, 1, 4, 1, h, w]⟩ : Shape).ShapeCasts ⟨4, ![4, 4, h, w]⟩)
    (e₄ : (⟨4, ![4, 4, h, w]⟩ : Shape).BroadcastsInDim ⟨5, ![4, 1, 4, h, w]⟩ ![0, 2, 3, 4]) : (⟨5, ![4, 1, 4, h, w]⟩ : Shape).Idx → α :=
  broadcastInDim ⟨5, ![4, 1, 4, h, w]⟩ ![0, 2, 3, 4] e₄
    (shapeCast ⟨4, ![4, 4, h, w]⟩ (extractStridedSlice ⟨6, ![4, 1, 4, 1, h, w]⟩ ![0, b, 0, k, 0, 0] (shapeCast ⟨6, ![4, 2, 4, 2, h, w]⟩ X e₁) e₂) e₃)

theorem part_at (b k : Nat) (hb : b < 2) (hk : k < 2) (hH : H = 2 * h) (X : (⟨3, ![32, H, w]⟩ : Shape).Idx → α) (e₁) (e₂) (e₃) (e₄)
    (q p : Fin 4) (r : Fin h) (l : Fin w) (hh : h ≠ 1) (hw : w ≠ 1) :
    part (h := h) b k X e₁ e₂ e₃ e₄ (ix5 q 0 p r l)
      = X (ix3 ⟨(2 * q.val + b) * 4 + p.val, by omega⟩ ⟨k * h + r.val, by have := r.isLt; subst hH; nlinarith⟩ l) := by
  unfold part
  rw [broadcastInDim_apply _ _ _ _ (ix4 q p r l) (fun a => by
      match a with
      | ⟨0, _⟩ => rfl
      | ⟨1, _⟩ => rfl
      | ⟨2, _⟩ => exact (if_neg hh).symm
      | ⟨3, _⟩ => exact (if_neg hw).symm),
    shapeCast_apply _ _ _ (ix6 q 0 p 0 r l) (by
      rw [rowMajor_six, Shape.rowMajor_val_four]
      show (((((q.val * 1 + 0) * 4 + p.val) * 1 + 0) * h + r.val) * w + l.val) = (((q.val * 4 + p.val) * h + r.val) * w + l.val)
      ring),
    extractStridedSlice_apply _ _ _ _ (ix6 q ⟨b, hb⟩ p ⟨k, hk⟩ r l) (fun a => by
      match a with
      | ⟨0, _⟩ => exact (Nat.zero_add _).symm
      | ⟨1, _⟩ => rfl
      | ⟨2, _⟩ => exact (Nat.zero_add _).symm
      | ⟨3, _⟩ => rfl
      | ⟨4, _⟩ => exact (Nat.zero_add _).symm
      | ⟨5, _⟩ => exact (Nat.zero_add _).symm)]
  refine shapeCast_apply _ _ _ _ ?_
  rw [rowMajor_six, Shape.rowMajor_val_three]
  show (((2 * q.val + b) * 4 + p.val) * H + (k * h + r.val)) * w + l.val = (((((q.val * 2 + b) * 4 + p.val) * 2 + k) * h + r.val) * w + l.val)
  subst hH; ring

/-- The rearranged array at part `p`, row `r` of device `c`'s block: part `p` of the sibling's, row `r` of the half that
    `c` keeps. -/
theorem halves_at (hH : H = 2 * h) (X : (⟨3, ![32, H, w]⟩ : Shape).Idx → α) (e₁) (e₂) (e₂') (e₃) (e₄)
    (e₅ : Shape.Concatenates [⟨5, ![4, 1, 4, h, w]⟩, ⟨5, ![4, 1, 4, h, w]⟩] ⟨5, ![4, 2, 4, h, w]⟩ 1)
    (e₆ : (⟨5, ![4, 2, 4, h, w]⟩ : Shape).ShapeCasts ⟨3, ![32, h, w]⟩) (hh : h ≠ 1) (hw : w ≠ 1) (c : Fin 8) (p : Fin 4) (r : Fin h) (l : Fin w) :
    shapeCast ⟨3, ![32, h, w]⟩ (concatenate ⟨5, ![4, 2, 4, h, w]⟩ 1
        [⟨⟨5, ![4, 1, 4, h, w]⟩, part (h := h) 1 0 X e₁ e₂ e₃ e₄⟩, ⟨⟨5, ![4, 1, 4, h, w]⟩, part (h := h) 0 1 X e₁ e₂' e₃ e₄⟩] e₅) e₆
        (ix3 ⟨c.val * 4 + p.val, by omega⟩ r l)
      = X (ix3 ⟨(2 * (c.val / 2) + (1 - c.val % 2)) * 4 + p.val, by omega⟩
          ⟨c.val % 2 * h + r.val, by have := r.isLt; have := Nat.mod_lt c.val (show 0 < 2 by decide); subst hH; nlinarith⟩ l) := by
  rw [shapeCast_apply _ _ _ (ix5 ⟨c.val / 2, by omega⟩ ⟨c.val % 2, by omega⟩ p r l) (by
      rw [Shape.rowMajor_val_five, Shape.rowMajor_val_three]
      show ((((c.val / 2 * 2 + c.val % 2) * 4 + p.val) * h + r.val) * w + l.val) = ((c.val * 4 + p.val) * h + r.val) * w + l.val
      rw [show c.val / 2 * 2 + c.val % 2 = c.val by omega])]
  rcases Nat.mod_two_eq_zero_or_one c.val with h2 | h2
  · refine (concatenate_pair_apply_left (t := ⟨5, ![4, 2, 4, h, w]⟩) (s₁ := ⟨5, ![4, 1, 4, h, w]⟩) (s₂ := ⟨5, ![4, 1, 4, h, w]⟩) (1 : Fin 5) _ _ _ _ rfl
      (ix5 ⟨c.val / 2, by omega⟩ 0 p r l) (fun a => by
        match a with
        | ⟨0, _⟩ => rfl
        | ⟨1, _⟩ => exact h2.symm
        | ⟨2, _⟩ => rfl
        | ⟨3, _⟩ => rfl
        | ⟨4, _⟩ => rfl)).trans ?_
    rw [part_at 1 0 (by decide) (by decide) hH X e₁ e₂ e₃ e₄ _ p r l hh hw]
    congr 2 <;> exact Fin.ext (by simp only [h2])
  · refine (concatenate_pair_apply_right (t := ⟨5, ![4, 2, 4, h, w]⟩) (s₁ := ⟨5, ![4, 1, 4, h, w]⟩) (s₂ := ⟨5, ![4, 1, 4, h, w]⟩) (1 : Fin 5) _ _ _ _ rfl rfl
      (ix5 ⟨c.val / 2, by omega⟩ 0 p r l) (fun a ha => by
        match a with
        | ⟨0, _⟩ => rfl
        | ⟨1, _⟩ => exact absurd rfl ha
        | ⟨2, _⟩ => rfl
        | ⟨3, _⟩ => rfl
        | ⟨4, _⟩ => rfl) (by exact h2.symm)).trans ?_
    rw [part_at 0 1 (by decide) (by decide) hH X e₁ e₂' e₃ e₄ _ p r l hh hw]
    congr 2 <;> exact Fin.ext (by simp only [h2])

/-- The half a device's sibling sends, as a block of the rearranged array. -/
theorem block_at (hH : H = 2 * h) (X : (⟨3, ![32, H, w]⟩ : Shape).Idx → α) (e₁) (e₂) (e₂') (e₃) (e₄)
    (e₅ : Shape.Concatenates [⟨5, ![4, 1, 4, h, w]⟩, ⟨5, ![4, 1, 4, h, w]⟩] ⟨5, ![4, 2, 4, h, w]⟩ 1)
    (e₆ : (⟨5, ![4, 2, 4, h, w]⟩ : Shape).ShapeCasts ⟨3, ![32, h, w]⟩) (hh : h ≠ 1) (hw : w ≠ 1)
    (T : Layout.Tiles ⟨3, ![4, H, w]⟩ ⟨3, ![32, H, w]⟩ 0 8) (T' : Layout.Tiles ⟨3, ![4, h, w]⟩ ⟨3, ![32, h, w]⟩ 0 8)
    (c d : Fin 8) (hd : d.val = 2 * (c.val / 2) + (1 - c.val % 2)) (f : (⟨3, ![4, H, w]⟩ : Shape).Idx → α)
    (hf : f = Layout.block ⟨3, ![4, H, w]⟩ ⟨3, ![32, H, w]⟩ 0 8 d X T) (off : Fin 3 → ℕ) (hoff : off = ![0, c.val % 2 * h, 0])
    (inb : ∀ a, off a + (⟨3, ![4, h, w]⟩ : Shape).size a ≤ (⟨3, ![4, H, w]⟩ : Shape).size a) :
    (fun i : (⟨3, ![4, h, w]⟩ : Shape).Idx => f ((Rect.unit (s := ⟨3, ![4, H, w]⟩) off ((⟨3, ![4, h, w]⟩ : Shape).size) inb).emb i))
      = Layout.block ⟨3, ![4, h, w]⟩ ⟨3, ![32, h, w]⟩ 0 8 c (shapeCast ⟨3, ![32, h, w]⟩ (concatenate ⟨5, ![4, 2, 4, h, w]⟩ 1
          [⟨⟨5, ![4, 1, 4, h, w]⟩, part (h := h) 1 0 X e₁ e₂ e₃ e₄⟩, ⟨⟨5, ![4, 1, 4, h, w]⟩, part (h := h) 0 1 X e₁ e₂' e₃ e₄⟩] e₅) e₆) T' := by
  subst hoff hf
  funext i
  obtain ⟨p, r, l, rfl⟩ : ∃ (p : Fin 4) (r : Fin h) (l : Fin w), i = ix3 p r l := ⟨i 0, i 1, i 2, (ix3_eta i).symm⟩
  refine Eq.trans ?_ ((halves_at hH X e₁ e₂ e₂' e₃ e₄ e₅ e₆ hh hw c p r l).symm.trans (congrArg _ (funext fun | 0 => rfl | 1 => rfl | 2 => rfl)))
  refine congrArg X (funext fun | 0 => Fin.ext ?_ | 1 => Fin.ext ?_ | 2 => Fin.ext ?_)
  · show d.val * 4 + (0 + 1 * p.val) = (2 * (c.val / 2) + (1 - c.val % 2)) * 4 + p.val
    rw [hd, Nat.zero_add, Nat.one_mul]
  · show c.val % 2 * h + 1 * r.val = c.val % 2 * h + r.val
    rw [Nat.one_mul]
  · show 0 + 1 * l.val = l.val
    rw [Nat.zero_add, Nat.one_mul]

end Cert.Swap
end
-- ==== Proof.Swap.Value.lean ====
/-
  The value of the exchange: what lands on every device is its block of the rearranged whole.
-/
module

public import proofs.«01_k».proof.Proof.Swap.Run
public import proofs.«01_k».proof.Proof.Swap.Halves
public import proofs.«01_k».proof.Proof.Gen.SwapOutIdeal.Run
public import proofs.«01_k».proof.Proof.Gen.SwapOutIdeal.Read
public import proofs.«01_k».proof.Defs

@[expose] public section
noncomputable section
namespace Cert.SwapHalvesIdeal.Body
open Cert.SwapHalvesIdeal Cert.SwapHalvesIdeal.Gen
open Idealize.ShloMosaic Idealize.ShloMosaic.TcCoe Idealize.SL.Sem
open Cert.SwapOutIdeal.Read (val_main_v8 val_main_v17)

variable (m : (ℓ : Loc nD τ sig) → Buf (Elt Ideal) ℓ)
  (A : (⟨3, ![32, 256, 1024]⟩ : Shape).Idx → Elt Ideal .bf16) (B : (⟨3, ![32, 1024, 640]⟩ : Shape).Idx → Elt Ideal .bf16)

/-- The row of its own block a device's half starts at. -/
theorem out_off (c : Dev nD) : k0_off1 (sib c) = ![0, c.val % 2 * 128, 0] := by revert c; decide +kernel
theorem in_off (c : Dev nD) : k0_off2 (sib c) = ![0, c.val % 2 * 512, 0] := by revert c; decide +kernel

theorem out_block (c : Dev nD) (h : m (((sib c : Dev nD) : Thread nD τ).loc main_arg0) = Layout.block ⟨3, ![4, 256, 1024]⟩ ⟨3, ![32, 256, 1024]⟩ 0 8 (sib c) A) :
    outGot m c = Layout.block ⟨3, ![4, 128, 1024]⟩ ⟨3, ![32, 128, 1024]⟩ 0 8 c (val_main_v8 (F := Ideal) A) :=
  Cert.Swap.block_at (h := 128) rfl A _ _ _ _ _ Cert.SwapOutIdeal.Gen.concatenates_S4x1x4x128x1024_S4x1x4x128x1024_S4x2x4x128x1024_d1 _ (by decide) (by decide) _ _
    c (sib c) rfl _ h _ (out_off c) _

theorem in_block (c : Dev nD) (h : m (((sib c : Dev nD) : Thread nD τ).loc main_arg1) = Layout.block ⟨3, ![4, 1024, 640]⟩ ⟨3, ![32, 1024, 640]⟩ 0 8 (sib c) B) :
    inGot m c = Layout.block ⟨3, ![4, 512, 640]⟩ ⟨3, ![32, 512, 640]⟩ 0 8 c (val_main_v17 (F := Ideal) B) :=
  Cert.Swap.block_at (h := 512) rfl B _ _ _ _ _ Cert.SwapOutIdeal.Gen.concatenates_S4x1x4x512x640_S4x1x4x512x640_S4x2x4x512x640_d1 _ (by decide) (by decide) _ _
    c (sib c) rfl _ h _ (in_off c) _

/-- Every device ends with its block of the reference's two results. -/
theorem value : Cert.algebraic_SwapHalvesIdeal_SwapOutIdeal := by
  intro m g m' g' _ hm
  refine ⟨_, _, (runs m g).mono fun r h c => ?_, (Cert.SwapOutIdeal.Value.run m' g').mono fun r h => h 0⟩
  obtain ⟨⟨h0, h1⟩, h2, h3⟩ := h.1 c
  exact ⟨h2.trans (out_block m _ c (hm (sib c)).1), h3.trans (in_block m _ c (hm (sib c)).2), h0, h1⟩

end Cert.SwapHalvesIdeal.Body
end
-- ==== Proof.SwapFive.Value.lean ====
/-
  The value of the exchange of five arrays: what lands on every device is its block of the rearranged whole.
-/
module

public import proofs.«01_k».proof.Proof.SwapFive.Run
public import proofs.«01_k».proof.Proof.SwapFive.Printed
public import proofs.«01_k».proof.Proof.Swap.Halves
public import proofs.«01_k».proof.Proof.Gen.SwapFiveOutIdeal.Run
public import proofs.«01_k».proof.Proof.Gen.SwapFiveOutIdeal.Read
public import proofs.«01_k».proof.Defs

@[expose] public section
noncomputable section
namespace Cert.SwapFiveIdeal.Body
open Cert.SwapFiveIdeal Cert.SwapFiveIdeal.Gen
open Idealize.ShloMosaic Idealize.ShloMosaic.TcCoe Idealize.SL.Sem
open Cert.SwapFiveOutIdeal.Read (val_main_v8 val_main_v17 val_main_v26 val_main_v35 val_main_v44)

variable (m : (ℓ : Loc nD τ sig) → Buf (Elt Ideal) ℓ)

/-- The row of its own block a device's half starts at. -/
theorem off1_sib (c : Dev nD) : k0_off1 (sib c) = ![0, c.val % 2 * 512, 0] := by revert c; decide +kernel
theorem off2_sib (c : Dev nD) : k0_off2 (sib c) = ![0, c.val % 2 * 128, 0] := by revert c; decide +kernel
theorem off3_sib (c : Dev nD) : k0_off3 (sib c) = ![0, c.val % 2 * 512, 0] := by revert c; decide +kernel

theorem down_block (c : Dev nD) (X : (⟨3, ![32, 1024, 1024]⟩ : Shape).Idx → Elt Ideal .bf16)
    (h : m (((sib c : Dev nD) : Thread nD τ).loc main_arg0) = Layout.block ⟨3, ![4, 1024, 1024]⟩ ⟨3, ![32, 1024, 1024]⟩ 0 8 (sib c) X) :
    got m c 0 = Layout.block ⟨3, ![4, 512, 1024]⟩ ⟨3, ![32, 512, 1024]⟩ 0 8 c (val_main_v8 (F := Ideal) X) :=
  (View.write_whole_univ _ _ _).trans
    (Cert.Swap.block_at (h := 512) rfl X _ _ _ _ _ Cert.SwapFiveOutIdeal.Gen.concatenates_S4x1x4x512x1024_S4x1x4x512x1024_S4x2x4x512x1024_d1 _ (by decide) (by decide) _ _
      c (sib c) rfl _ h _ (off1_sib c) _)

theorem up_block (c : Dev nD) (X : (⟨3, ![32, 1024, 1024]⟩ : Shape).Idx → Elt Ideal .bf16)
    (h : m (((sib c : Dev nD) : Thread nD τ).loc main_arg1) = Layout.block ⟨3, ![4, 1024, 1024]⟩ ⟨3, ![32, 1024, 1024]⟩ 0 8 (sib c) X) :
    got m c 1 = Layout.block ⟨3, ![4, 512, 1024]⟩ ⟨3, ![32, 512, 1024]⟩ 0 8 c (val_main_v17 (F := Ideal) X) :=
  (View.write_whole_univ _ _ _).trans
    (Cert.Swap.block_at (h := 512) rfl X _ _ _ _ _ Cert.SwapFiveOutIdeal.Gen.concatenates_S4x1x4x512x1024_S4x1x4x512x1024_S4x2x4x512x1024_d1 _ (by decide) (by decide) _ _
      c (sib c) rfl _ h _ (off1_sib c) _)

theorem xo_block (c : Dev nD) (X : (⟨3, ![32, 256, 1024]⟩ : Shape).Idx → Elt Ideal .bf16)
    (h : m (((sib c : Dev nD) : Thread nD τ).loc main_arg2) = Layout.block ⟨3, ![4, 256, 1024]⟩ ⟨3, ![32, 256, 1024]⟩ 0 8 (sib c) X) :
    got m c 2 = Layout.block ⟨3, ![4, 128, 1024]⟩ ⟨3, ![32, 128, 1024]⟩ 0 8 c (val_main_v26 (F := Ideal) X) :=
  (View.write_whole_univ _ _ _).trans
    (Cert.Swap.block_at (h := 128) rfl X _ _ _ _ _ Cert.SwapFiveOutIdeal.Gen.concatenates_S4x1x4x128x1024_S4x1x4x128x1024_S4x2x4x128x1024_d1 _ (by decide) (by decide) _ _
      c (sib c) rfl _ h _ (off2_sib c) _)

theorem q_block (c : Dev nD) (X : (⟨3, ![32, 256, 1024]⟩ : Shape).Idx → Elt Ideal .bf16)
    (h : m (((sib c : Dev nD) : Thread nD τ).loc main_arg3) = Layout.block ⟨3, ![4, 256, 1024]⟩ ⟨3, ![32, 256, 1024]⟩ 0 8 (sib c) X) :
    got m c 3 = Layout.block ⟨3, ![4, 128, 1024]⟩ ⟨3, ![32, 128, 1024]⟩ 0 8 c (val_main_v35 (F := Ideal) X) :=
  (View.write_whole_univ _ _ _).trans
    (Cert.Swap.block_at (h := 128) rfl X _ _ _ _ _ Cert.SwapFiveOutIdeal.Gen.concatenates_S4x1x4x128x1024_S4x1x4x128x1024_S4x2x4x128x1024_d1 _ (by decide) (by decide) _ _
      c (sib c) rfl _ h _ (off2_sib c) _)

theorem kv_block (c : Dev nD) (X : (⟨3, ![32, 1024, 512]⟩ : Shape).Idx → Elt Ideal .bf16)
    (h : m (((sib c : Dev nD) : Thread nD τ).loc main_arg4) = Layout.block ⟨3, ![4, 1024, 512]⟩ ⟨3, ![32, 1024, 512]⟩ 0 8 (sib c) X) :
    got m c 4 = Layout.block ⟨3, ![4, 512, 512]⟩ ⟨3, ![32, 512, 512]⟩ 0 8 c (val_main_v44 (F := Ideal) X) :=
  (View.write_whole_univ _ _ _).trans
    (Cert.Swap.block_at (h := 512) rfl X _ _ _ _ _ Cert.SwapFiveOutIdeal.Gen.concatenates_S4x1x4x512x512_S4x1x4x512x512_S4x2x4x512x512_d1 _ (by decide) (by decide) _ _
      c (sib c) rfl _ h _ (off3_sib c) _)

/-- Every device ends with its block of the reference's five results. -/
theorem value : Cert.algebraic_SwapFiveIdeal_SwapFiveOutIdeal := by
  intro m g m' g' _ hm
  refine ⟨_, _, _, _, _, (θ_run _ _ _).mono (fun r h c => ?_) (runs m g), (θ_run _ _ _).mono (fun r h => h 0) (Cert.SwapFiveOutIdeal.Value.run m' g')⟩
  have e := h.1 c
  obtain ⟨h0, h1, h2, h3, h4⟩ := hm (sib c)
  exact ⟨(e 0).2.trans (down_block m c _ h0), (e 1).2.trans (up_block m c _ h1), (e 2).2.trans (xo_block m c _ h2),
    (e 3).2.trans (q_block m c _ h3), (e 4).2.trans (kv_block m c _ h4), ends_args e⟩

end Cert.SwapFiveIdeal.Body
end
-- ==== Proof.MatDown.lean ====
module

public import proofs.«01_k».proof.Proof.Gen.MatDownIdeal.Value
public import proofs.«01_k».proof.Proof.Gen.MatDownGradIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.MatDownGradIdeal.Run
public import proofs.«01_k».proof.Proof.Pieces
public import Idealize.ShloMosaic.Lib.Pipeline.ReadBack

@[expose] public section

set_option maxRecDepth 16384

noncomputable section

namespace Cert.MatDownIdeal.Value

open Cert.MatDownIdeal Cert.MatDownIdeal.Gen Cert.Pieces Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 4, t.val / 4] ∧ win0_1.index t = ![t.val % 4, 0] ∧ win0_2.index t = ![t.val / 4, 0]
    ∧ win0_3.index t = ![t.val / 4, 0] :=
  (by decide +kernel : ∀ t : Fin grid0.N, _)

/-- What row `k` of the two matrices adds to the gradient's entry. -/
def term (x d : ℕ → ℕ → EReal) (r l k : ℕ) : EReal := x k r * d k l

/-- What block `c` of the rows adds. -/
def part (x d : ℕ → ℕ → EReal) (r l c : ℕ) : EReal := ∑ k : Fin 1024, term x d r l (1024 * c + k.val)

/-- The gradient's entry. -/
def want (x d : ℕ → ℕ → EReal) (r l : ℕ) : EReal := ∑ c ∈ Finset.range 4, part x d r l c

/-- A tile's product. -/
def blkdot (x d : FVec Ideal S1024x1024 .bf16) (r l : ℕ) : EReal := ∑ k : Fin 1024, at2 x k.val r * at2 d k.val l

theorem tile_fill (x d : FVec Ideal S1024x1024 .bf16) (r l : Fin 1024) : k0_pay1 (F := Ideal) x d (ix2 r l) = blkdot x d r.val l.val := by
  pointwise [k0_pay1]
  simp only [blkdot, at2_ix2]

theorem tile_add (a : FVec Ideal S1024x1024 .f32) (x d : FVec Ideal S1024x1024 .bf16) (r l : Fin 1024) :
    k0_pay2 (F := Ideal) a x d (ix2 r l) = a (ix2 r l) + blkdot x d r.val l.val := by
  pointwise [k0_pay2]
  simp only [blkdot, at2_ix2]

theorem tile_last (a : FVec Ideal S1024x1024 .f32) (x d : FVec Ideal S1024x1024 .bf16) (r l : Fin 1024) :
    k0_pay3 (F := Ideal) a x d (ix2 r l) = a (ix2 r l) + blkdot x d r.val l.val := by
  pointwise [k0_pay3]
  simp only [blkdot, at2_ix2]

theorem tile_cast (a : FVec Ideal S1024x1024 .f32) (x d : FVec Ideal S1024x1024 .bf16) (r l : Fin 1024) :
    k0_pay4 (F := Ideal) a x d (ix2 r l) = k0_pay3 (F := Ideal) a x d (ix2 r l) := by
  pointwise [k0_pay4]

/-! What a point leaves: the product so far, and at the last block of a row tile the results. -/

theorem acc_zero (c : Dev nD) (t : Fin cfg0.N) (h : t.val % 4 = 0) : (outsAt0 m c t.val t.isLt).2.2 = k0_pay1 (iblk m c 0 t) (iblk m c 1 t) := by
  rw [outsAt0_A m c t h (by omega) (by omega)]
  frame_out

theorem acc_step (c : Dev nD) (t : Fin cfg0.N) (h : 1 ≤ t.val % 4 ∧ t.val % 4 ≤ 2) : (outsAt0 m c t.val t.isLt).2.2
    = k0_pay2 (outsAt0 m c (t.val - 1) (Nat.lt_of_le_of_lt (Nat.sub_le _ _) t.isLt)).2.2 (iblk m c 0 t) (iblk m c 1 t) := by
  rw [outsAt0_B m c t (by omega) h (by omega)]
  frame_out
  rw [read_unread_whole]

theorem out2 (c : Dev nD) (t : Fin cfg0.N) (h : t.val % 4 = 3) : (outsAt0 m c t.val t.isLt).1
    = k0_pay3 (outsAt0 m c (t.val - 1) (Nat.lt_of_le_of_lt (Nat.sub_le _ _) t.isLt)).2.2 (iblk m c 0 t) (iblk m c 1 t) := by
  rw [outsAt0_C m c t (by omega) (by omega) h]
  frame_out
  rw [read_unread_whole]

theorem out3 (c : Dev nD) (t : Fin cfg0.N) (h : t.val % 4 = 3) : (outsAt0 m c t.val t.isLt).2.1
    = k0_pay4 (outsAt0 m c (t.val - 1) (Nat.lt_of_le_of_lt (Nat.sub_le _ _) t.isLt)).2.2 (iblk m c 0 t) (iblk m c 1 t) := by
  rw [outsAt0_C m c t (by omega) (by omega) h]
  frame_out
  rw [read_unread_whole]

/-- The two arguments by row and column. -/
def arg0 (c : Dev nD) : ℕ → ℕ → EReal := at2 (m := 4096) (n := 4096) (m ((c : Thread nD τ).loc main_arg0))
def arg1 (c : Dev nD) : ℕ → ℕ → EReal := at2 (m := 4096) (n := 1024) (m ((c : Thread nD τ).loc main_arg1))

theorem blk0 (c : Dev nD) (t : Fin cfg0.N) (k r : Fin 1024) : at2 (m := 1024) (n := 1024) (iblk m c 0 t) k.val r.val
    = arg0 m c (1024 * (t.val % 4) + k.val) (1024 * (t.val / 4) + r.val) := by
  have ht : t.val < 16 := t.isLt
  unfold arg0
  rw [at2_of_lt _ _ _ k.isLt r.isLt, at2_of_lt _ _ _ (by have := k.isLt; omega) (by have := r.isLt; omega)]
  blk_point [iblk, V, idx t, Nat.mul_comm]

theorem blk1 (c : Dev nD) (t : Fin cfg0.N) (k l : Fin 1024) : at2 (m := 1024) (n := 1024) (iblk m c 1 t) k.val l.val
    = arg1 m c (1024 * (t.val % 4) + k.val) l.val := by
  unfold arg1
  rw [at2_of_lt _ _ _ k.isLt l.isLt, at2_of_lt _ _ _ (by have := k.isLt; omega) l.isLt]
  blk_point [iblk, V, idx t, Nat.mul_comm]

theorem blkdot_eq (c : Dev nD) (t : Fin cfg0.N) (r l : Fin 1024) : blkdot (iblk m c 0 t) (iblk m c 1 t) r.val l.val
    = part (arg0 m c) (arg1 m c) (1024 * (t.val / 4) + r.val) l.val (t.val % 4) :=
  Finset.sum_congr rfl fun k _ => congrArg₂ (· * ·) (blk0 m c t k r) (blk1 m c t k l)

theorem acc_eq (c : Dev nD) (r l : Fin 1024) : ∀ n (hn : n < cfg0.N), n % 4 < 3 → (outsAt0 m c n hn).2.2 (ix2 r l)
    = ∑ k ∈ Finset.range (n % 4 + 1), part (arg0 m c) (arg1 m c) (1024 * (n / 4) + r.val) l.val k := by
  intro n
  induction n with
  | zero =>
    intro hn _
    rw [acc_zero m c ⟨0, hn⟩ rfl, tile_fill, blkdot_eq]
    exact (Finset.sum_range_one _).symm
  | succ n ih =>
    intro hn h
    by_cases h0 : (n + 1) % 4 = 0
    · rw [acc_zero m c ⟨n + 1, hn⟩ h0, tile_fill, blkdot_eq, h0]
      exact (Finset.sum_range_one _).symm
    · have e1 : (n + 1) % 4 = n % 4 + 1 := by omega
      have e2 : (n + 1) / 4 = n / 4 := by omega
      rw [acc_step m c ⟨n + 1, hn⟩ (by show 1 ≤ (n + 1) % 4 ∧ (n + 1) % 4 ≤ 2; omega), tile_add, blkdot_eq, Finset.sum_range_succ]
      refine congrArg₂ (· + ·) ?_ rfl
      rw [e1, e2]
      exact ih (Nat.lt_of_succ_lt hn) (by omega)

/-- At the last block the tile's product is complete. -/
theorem last_eq (c : Dev nD) (t : Fin cfg0.N) (h : t.val % 4 = 3) (r l : Fin 1024) :
    k0_pay3 (F := Ideal) (outsAt0 m c (t.val - 1) (Nat.lt_of_le_of_lt (Nat.sub_le _ _) t.isLt)).2.2 (iblk m c 0 t) (iblk m c 1 t) (ix2 r l)
      = want (arg0 m c) (arg1 m c) (1024 * (t.val / 4) + r.val) l.val := by
  have e1 : (t.val - 1) % 4 = 2 := by omega
  have e2 : (t.val - 1) / 4 = t.val / 4 := by omega
  rw [tile_last, blkdot_eq, acc_eq m c r l (t.val - 1) _ (by omega), e1, e2, h]
  exact (Finset.sum_range_succ _ _).symm

theorem final2w (c : Dev nD) : (dats m 0 c).arrAt 2 (cfgs 0).N
    = fun y : S4096x1024.Idx => want (arg0 m c) (arg1 m c) (y 0).val (y 1).val := by
  refine (dats m 0 c).arrAt_eq_of_covers 2 _ (by decide +kernel) fun t hf y => ?_
  have h : t.val % 4 = 3 := (flush0_2 t).mp hf
  blk_simp
  rw [after0_2, out2 m c t h]
  revert y
  refine fun (y : S1024x1024.Idx) => ?_
  obtain ⟨-, -, h2, -⟩ := idx t
  idx_vars y
  refine (last_eq m c t h y0 y1).trans (congrArg₂ (want _ _) ?_ ?_)
  · rw [h2, Nat.mul_comm]; rfl
  · rw [h2]
    exact (Nat.zero_add _).symm

theorem final3w (c : Dev nD) : (dats m 0 c).arrAt 3 (cfgs 0).N
    = fun y : S4096x1024.Idx => want (arg0 m c) (arg1 m c) (y 0).val (y 1).val := by
  refine (dats m 0 c).arrAt_eq_of_covers 3 _ (by decide +kernel) fun t hf y => ?_
  have h : t.val % 4 = 3 := (flush0_3 t).mp hf
  blk_simp
  rw [after0_3, out3 m c t h]
  revert y
  refine fun (y : S1024x1024.Idx) => ?_
  obtain ⟨-, -, -, h3⟩ := idx t
  idx_vars y
  refine (tile_cast _ _ _ y0 y1).trans ((last_eq m c t h y0 y1).trans (congrArg₂ (want _ _) ?_ ?_))
  · rw [h3, Nat.mul_comm]; rfl
  · rw [h3]
    exact (Nat.zero_add _).symm

open Cert.MatDownGradIdeal.Read

theorem pure (x : FVec Ideal S4096x4096 .bf16) (d : FVec Ideal S4096x1024 .bf16) (r : Fin 4096) (l : Fin 1024) :
    val_main_v5 (F := Ideal) x d (ix2 r l) = want (at2 x) (at2 d) r.val l.val := by
  pointwise [val_main_v0, val_main_v3, val_main_v4, val_main_v5]
  simp only [at2_ix2]
  refine Eq.trans (Finset.sum_congr rfl fun k _ => mul_comm (G := EReal) _ _) ?_
  exact ((sum_chunks (term (at2 x) (at2 d) r.val l.val) 1024 4).trans (Fin.sum_univ_eq_sum_range (term (at2 x) (at2 d) r.val l.val) 4096).symm).symm

theorem pure_cast (x : FVec Ideal S4096x4096 .bf16) (d : FVec Ideal S4096x1024 .bf16) (r : Fin 4096) (l : Fin 1024) :
    val_main_v6 (F := Ideal) x d (ix2 r l) = want (at2 x) (at2 d) r.val l.val := by
  pointwise [val_main_v6]
  exact pure x d r l

end Cert.MatDownIdeal.Value

namespace Cert.Proof

open Idealize.ShloMosaic Idealize.SL.Sem

/-- The gradient of the MLP's output matrix is the reference's. -/
theorem algebraic_MatDown : Cert.algebraic_MatDownIdeal_MatDownGradIdeal := by
  pair_intro
  · run_from Cert.MatDownIdeal.Gen.run_main m g
  · refine (θ_run _ _ _).mono (fun r h c => ?_) (Cert.MatDownGradIdeal.Value.run m' g')
    obtain ⟨h0, h1, hargs⟩ := h c
    obtain ⟨e0, e1⟩ := hagree c
    rw [Cert.MatDownGradIdeal.Read.val_main_v5_eq, e0, e1] at h0
    rw [Cert.MatDownGradIdeal.Read.val_main_v6_eq, e0, e1] at h1
    refine ⟨h0.trans ?_, h1.trans ?_, hargs⟩
    · refine Eq.trans ?_ (Cert.MatDownIdeal.Value.final2w m c).symm
      funext j; idx_vars j; exact Cert.MatDownIdeal.Value.pure _ _ _ _
    · refine Eq.trans ?_ (Cert.MatDownIdeal.Value.final3w m c).symm
      funext j; idx_vars j; exact Cert.MatDownIdeal.Value.pure_cast _ _ _ _

end Cert.Proof
end
-- ==== Proof.Adam.lean ====
module

public import Idealize.ShloMosaic.Lib.Pointwise
public import proofs.«01_k».proof.Proof.Pieces

@[expose] public section

noncomputable section

/-! One entry of an AdamW step over the extended reals, on its own: both optimiser calls are this at every position. -/

namespace Cert.Adam

open Idealize.ShloMosaic

/-- The new first moment. -/
def mom (g m : EReal) : EReal := Ideal.ofBits .f32 0x3F666666#32 * m + Ideal.ofBits .f32 0x3DCCCCCD#32 * g

/-- The new second moment. -/
def var (g v : EReal) : EReal := Ideal.ofBits .f32 0x3F7FBE77#32 * v + Ideal.ofBits .f32 0x3A83126F#32 * (g * g)

/-- What is added to the weight. -/
def step (w g m v : EReal) : EReal :=
  Ideal.ofBits .f32 0xBA83126F#32
    * (Ideal.div (Ideal.div (mom g m) (Ideal.ofBits .f32 0x3F26BD02#32))
        (Ideal.sqrt (Ideal.div (var g v) (Ideal.ofBits .f32 0x3C231ACC#32)) + Ideal.ofBits .f32 0x322BCC77#32)
      + Ideal.ofBits .f32 0x3C23D70A#32 * w)

end Cert.Adam
-- ==== Proof.AdamLayers.lean ====
module

public import proofs.«01_k».proof.Proof.Gen.AdamLayersIdeal.Value
public import proofs.«01_k».proof.Proof.Gen.AdamLayersOutIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.AdamLayersOutIdeal.Run
public import proofs.«01_k».proof.Proof.Pieces
public import proofs.«01_k».proof.Proof.StackDot
public import proofs.«01_k».proof.Proof.Adam

@[expose] public section

set_option maxRecDepth 16384

noncomputable section

namespace Cert.AdamLayersIdeal.Value

open Cert.AdamLayersIdeal Cert.AdamLayersIdeal.Gen Cert.Pieces Cert.StackDot Idealize.ShloMosaic Idealize.ShloMosaic.TcCoe Idealize.SL.Sem
open Idealize.ShloMosaic.Pipeline (Dat)

variable (m : (ℓ : Loc nD τ sig) → Buf (Elt Ideal) ℓ)

theorem idxIn : ∀ t : Fin cfg0.N, win0_0.index t = ![t.val % 2, t.val / 2, 0] ∧ win0_1.index t = ![t.val / 2, 0] ∧ win0_2.index t = ![t.val / 2, 0]
    ∧ win0_3.index t = ![t.val % 2, t.val / 2, 0] ∧ win0_4.index t = ![t.val % 2, t.val / 2, 0] :=
  (by decide +kernel : ∀ t : Fin grid0.N, _)

theorem idxOut : ∀ t : Fin cfg0.N, win0_5.index t = ![t.val % 2, t.val / 2, 0] ∧ win0_6.index t = ![t.val % 2, t.val / 2, 0]
    ∧ win0_7.index t = ![t.val % 2, t.val / 2, 0] ∧ win0_8.index t = ![t.val % 2, t.val / 2, 0] :=
  (by decide +kernel : ∀ t : Fin grid0.N, _)

theorem layer : ∀ t : Fin cfg0.N, (grid0.coords t 1).val = t.val % 2 := (by decide +kernel : ∀ t : Fin grid0.N, _)

/-- The layer's gradient at a position: the first array for layer 0, the second for layer 1. -/
def grad (g h : ℕ → ℕ → EReal) (b r l : ℕ) : EReal := if b = 0 then g r l else h r l

section Tile

variable (t : Fin cfg0.N) (w p q : FVec Ideal S1x512x1024 .f32) (g h : FVec Ideal S512x1024 .f32) (r : Fin 512) (l : Fin 1024)

theorem chosen : k0_pay4 (F := Ideal) (grid0.coords t) g h (ix2 r l) = grad (at2 g) (at2 h) (t.val % 2) r.val l.val := by
  have e := layer t
  have h2 : t.val % 2 = 0 ∨ t.val % 2 = 1 := by omega
  unfold grad k0_pay4
  dsimp only
  rw [e]
  rcases h2 with h2 | h2 <;> rw [h2]
  · rw [if_pos rfl, ← at2_ix2 g]; rfl
  · rw [if_neg Nat.one_ne_zero, ← at2_ix2 h]; rfl

theorem mom2 : k0_pay5 (F := Ideal) (grid0.coords t) g h p (ix2 r l) = Adam.mom (grad (at2 g) (at2 h) (t.val % 2) r.val l.val) (at3 p 0 r.val l.val) := by
  pointwise [k0_pay5]
  rw [chosen]
  rw [at3_ix3 p]
  rfl

theorem var2 : k0_pay6 (F := Ideal) (grid0.coords t) g h q (ix2 r l) = Adam.var (grad (at2 g) (at2 h) (t.val % 2) r.val l.val) (at3 q 0 r.val l.val) := by
  pointwise [k0_pay6]
  rw [chosen]
  rw [at3_ix3 q]
  rfl

theorem tile5 : k0_pay7 (F := Ideal) (grid0.coords t) g h (ix3 0 r l) = grad (at2 g) (at2 h) (t.val % 2) r.val l.val := by
  pointwise [k0_pay7]
  rw [chosen]

theorem tile7 : k0_pay2 (F := Ideal) (k0_pay5 (grid0.coords t) g h p) (ix3 0 r l) = Adam.mom (grad (at2 g) (at2 h) (t.val % 2) r.val l.val) (at3 p 0 r.val l.val) := by
  pointwise [k0_pay2]
  rw [mom2]

theorem tile8 : k0_pay3 (F := Ideal) (k0_pay6 (grid0.coords t) g h q) (ix3 0 r l) = Adam.var (grad (at2 g) (at2 h) (t.val % 2) r.val l.val) (at3 q 0 r.val l.val) := by
  pointwise [k0_pay3]
  rw [var2]

theorem tile6 : k0_pay1 (F := Ideal) (k0_pay8 (grid0.coords t) g h p q) (k0_pay9 w) (Scalar.ofBits .f32 0x3C23D70A#32) (ix3 0 r l)
    = Adam.step (at3 w 0 r.val l.val) (grad (at2 g) (at2 h) (t.val % 2) r.val l.val) (at3 p 0 r.val l.val) (at3 q 0 r.val l.val) := by
  pointwise [k0_pay1, k0_pay8, k0_pay9]
  rw [mom2, var2]
  rw [at3_ix3 w]
  rfl

theorem out5 : out0_5 (F := Ideal) (grid0.coords t) w g h p q = k0_pay7 (F := Ideal) (grid0.coords t) g h := by frame_out
theorem out6 : out0_6 (F := Ideal) (grid0.coords t) w g h p q = k0_pay1 (F := Ideal) (k0_pay8 (grid0.coords t) g h p q) (k0_pay9 w) (Scalar.ofBits .f32 0x3C23D70A#32) := by frame_out
theorem out7 : out0_7 (F := Ideal) (grid0.coords t) w g h p q = k0_pay2 (F := Ideal) (k0_pay5 (grid0.coords t) g h p) := by frame_out
theorem out8 : out0_8 (F := Ideal) (grid0.coords t) w g h p q = k0_pay3 (F := Ideal) (k0_pay6 (grid0.coords t) g h q) := by frame_out

end Tile

theorem blk0 (c : Dev nD) (t : Fin cfg0.N) (r : Fin 512) (l : Fin 1024) : at3 (p := 1) (m := 512) (n := 1024) (iblk m c 0 t) 0 r.val l.val
    = at3 (p := 2) (m := 1024) (n := 1024) (m ((c : Thread nD τ).loc main_arg0)) (t.val % 2) (t.val / 2 * 512 + r.val) l.val := by
  have ht : t.val < 4 := t.isLt
  rw [at3_of_lt _ _ _ _ Nat.one_pos r.isLt l.isLt, at3_of_lt _ _ _ _ (Nat.mod_lt _ (by decide)) (by have := r.isLt; omega) l.isLt]
  blk_point [iblk, V, idxIn t]

theorem blk3 (c : Dev nD) (t : Fin cfg0.N) (r : Fin 512) (l : Fin 1024) : at3 (p := 1) (m := 512) (n := 1024) (iblk m c 3 t) 0 r.val l.val
    = at3 (p := 2) (m := 1024) (n := 1024) (m ((c : Thread nD τ).loc main_arg3)) (t.val % 2) (t.val / 2 * 512 + r.val) l.val := by
  have ht : t.val < 4 := t.isLt
  rw [at3_of_lt _ _ _ _ Nat.one_pos r.isLt l.isLt, at3_of_lt _ _ _ _ (Nat.mod_lt _ (by decide)) (by have := r.isLt; omega) l.isLt]
  blk_point [iblk, V, idxIn t]

theorem blk4 (c : Dev nD) (t : Fin cfg0.N) (r : Fin 512) (l : Fin 1024) : at3 (p := 1) (m := 512) (n := 1024) (iblk m c 4 t) 0 r.val l.val
    = at3 (p := 2) (m := 1024) (n := 1024) (m ((c : Thread nD τ).loc main_arg4)) (t.val % 2) (t.val / 2 * 512 + r.val) l.val := by
  have ht : t.val < 4 := t.isLt
  rw [at3_of_lt _ _ _ _ Nat.one_pos r.isLt l.isLt, at3_of_lt _ _ _ _ (Nat.mod_lt _ (by decide)) (by have := r.isLt; omega) l.isLt]
  blk_point [iblk, V, idxIn t]

theorem blk1 (c : Dev nD) (t : Fin cfg0.N) (r : Fin 512) (l : Fin 1024) : at2 (m := 512) (n := 1024) (iblk m c 1 t) r.val l.val
    = at2 (m := 1024) (n := 1024) (m ((c : Thread nD τ).loc main_arg1)) (t.val / 2 * 512 + r.val) l.val := by
  have ht : t.val < 4 := t.isLt
  rw [at2_of_lt _ _ _ r.isLt l.isLt, at2_of_lt _ _ _ (by have := r.isLt; omega) l.isLt]
  blk_point [iblk, V, idxIn t]

theorem blk2 (c : Dev nD) (t : Fin cfg0.N) (r : Fin 512) (l : Fin 1024) : at2 (m := 512) (n := 1024) (iblk m c 2 t) r.val l.val
    = at2 (m := 1024) (n := 1024) (m ((c : Thread nD τ).loc main_arg2)) (t.val / 2 * 512 + r.val) l.val := by
  have ht : t.val < 4 := t.isLt
  rw [at2_of_lt _ _ _ r.isLt l.isLt, at2_of_lt _ _ _ (by have := r.isLt; omega) l.isLt]
  blk_point [iblk, V, idxIn t]

theorem blkg (c : Dev nD) (t : Fin cfg0.N) (r : Fin 512) (l : Fin 1024) :
    grad (at2 (m := 512) (n := 1024) (iblk m c 1 t)) (at2 (m := 512) (n := 1024) (iblk m c 2 t)) (t.val % 2) r.val l.val
    = grad (at2 (m := 1024) (n := 1024) (m ((c : Thread nD τ).loc main_arg1))) (at2 (m := 1024) (n := 1024) (m ((c : Thread nD τ).loc main_arg2)))
        (t.val % 2) (t.val / 2 * 512 + r.val) l.val := by
  unfold grad
  rw [blk1, blk2]

/-- The layer's gradient out of the two arrays. -/
def gradA (c : Dev nD) (b r l : ℕ) : EReal :=
  grad (at2 (m := 1024) (n := 1024) (m ((c : Thread nD τ).loc main_arg1))) (at2 (m := 1024) (n := 1024) (m ((c : Thread nD τ).loc main_arg2))) b r l

/-- The new first moment of the whole array. -/
def mom (c : Dev nD) (b r l : ℕ) : EReal :=
  Adam.mom (gradA m c b r l) (at3 (p := 2) (m := 1024) (n := 1024) (m ((c : Thread nD τ).loc main_arg3)) b r l)

/-- The new second moment of the whole array. -/
def var (c : Dev nD) (b r l : ℕ) : EReal :=
  Adam.var (gradA m c b r l) (at3 (p := 2) (m := 1024) (n := 1024) (m ((c : Thread nD τ).loc main_arg4)) b r l)

/-- The step of the whole array. -/
def step (c : Dev nD) (b r l : ℕ) : EReal :=
  Adam.step (at3 (p := 2) (m := 1024) (n := 1024) (m ((c : Thread nD τ).loc main_arg0)) b r l) (gradA m c b r l)
    (at3 (p := 2) (m := 1024) (n := 1024) (m ((c : Thread nD τ).loc main_arg3)) b r l)
    (at3 (p := 2) (m := 1024) (n := 1024) (m ((c : Thread nD τ).loc main_arg4)) b r l)

theorem congr3 (f : ℕ → ℕ → ℕ → EReal) {a a' b b' d d' : ℕ} (ha : a = a') (hb : b = b') (hd : d = d') : f a b d = f a' b' d' := by
  rw [ha, hb, hd]

theorem final5w (c : Dev nD) : (dats m 0 c).arrAt 5 (cfgs 0).N
    = fun y : S2x1024x1024.Idx => gradA m c (y 0).val (y 1).val (y 2).val := by
  refine (dats m 0 c).arrAt_eq_of_covers 5 _ (by decide +kernel) fun t _ y => ?_
  blk_simp
  rw [after0_5, out5]
  revert y
  refine fun (y : S1x512x1024.Idx) => ?_
  obtain ⟨h, -, -, -⟩ := idxOut t
  idx_vars y
  obtain rfl : y0 = 0 := Subsingleton.elim _ _
  rw [tile5, blkg]
  refine congr3 (gradA m c) ?_ ?_ ?_
  · rw [h]; rfl
  · rw [h]; rfl
  · rw [h]; exact (Nat.zero_add _).symm

theorem final6w (c : Dev nD) : (dats m 0 c).arrAt 6 (cfgs 0).N
    = fun y : S2x1024x1024.Idx => step m c (y 0).val (y 1).val (y 2).val := by
  refine (dats m 0 c).arrAt_eq_of_covers 6 _ (by decide +kernel) fun t _ y => ?_
  blk_simp
  rw [after0_6, out6]
  revert y
  refine fun (y : S1x512x1024.Idx) => ?_
  obtain ⟨-, h, -, -⟩ := idxOut t
  idx_vars y
  obtain rfl : y0 = 0 := Subsingleton.elim _ _
  rw [tile6, blkg, blk0, blk3, blk4]
  refine congr3 (step m c) ?_ ?_ ?_
  · rw [h]; rfl
  · rw [h]; rfl
  · rw [h]; exact (Nat.zero_add _).symm

theorem final7w (c : Dev nD) : (dats m 0 c).arrAt 7 (cfgs 0).N
    = fun y : S2x1024x1024.Idx => mom m c (y 0).val (y 1).val (y 2).val := by
  refine (dats m 0 c).arrAt_eq_of_covers 7 _ (by decide +kernel) fun t _ y => ?_
  blk_simp
  rw [after0_7, out7]
  revert y
  refine fun (y : S1x512x1024.Idx) => ?_
  obtain ⟨-, -, h, -⟩ := idxOut t
  idx_vars y
  obtain rfl : y0 = 0 := Subsingleton.elim _ _
  rw [tile7, blkg, blk3]
  refine congr3 (mom m c) ?_ ?_ ?_
  · rw [h]; rfl
  · rw [h]; rfl
  · rw [h]; exact (Nat.zero_add _).symm

theorem final8w (c : Dev nD) : (dats m 0 c).arrAt 8 (cfgs 0).N
    = fun y : S2x1024x1024.Idx => var m c (y 0).val (y 1).val (y 2).val := by
  refine (dats m 0 c).arrAt_eq_of_covers 8 _ (by decide +kernel) fun t _ y => ?_
  blk_simp
  rw [after0_8, out8]
  revert y
  refine fun (y : S1x512x1024.Idx) => ?_
  obtain ⟨-, -, -, h⟩ := idxOut t
  idx_vars y
  obtain rfl : y0 = 0 := Subsingleton.elim _ _
  rw [tile8, blkg, blk4]
  refine congr3 (var m c) ?_ ?_ ?_
  · rw [h]; rfl
  · rw [h]; rfl
  · rw [h]; exact (Nat.zero_add _).symm

open Cert.AdamLayersOutIdeal.Read

section Reference

variable (w p q : FVec Ideal S2x1024x1024 .f32) (g h : FVec Ideal S1024x1024 .f32) (b : Fin 2) (r l : Fin 1024)

theorem pure5 : val_main_v2 (F := Ideal) g h (ix3 b r l) = grad (at2 g) (at2 h) b.val r.val l.val := by
  unfold grad val_main_v2
  have hb : b.val = 0 ∨ b.val = 1 := by omega
  rcases hb with hb | hb
  · rw [if_pos hb, ← at2_ix2 g]
    refine (concatenate_pair_apply_left (t := ⟨3, ![2, 1024, 1024]⟩) (s₁ := ⟨3, ![1, 1024, 1024]⟩) (s₂ := ⟨3, ![1, 1024, 1024]⟩) (0 : Fin 3) _ _ _ _ rfl
      (ix3 0 r l) (fun a => ?_)).trans ?_
    · match a with
      | ⟨0, _⟩ => exact hb.symm
      | ⟨1, _⟩ => rfl
      | ⟨2, _⟩ => rfl
    · pointwise [val_main_v0]
  · rw [if_neg (by omega), ← at2_ix2 h]
    refine (concatenate_pair_apply_right (t := ⟨3, ![2, 1024, 1024]⟩) (s₁ := ⟨3, ![1, 1024, 1024]⟩) (s₂ := ⟨3, ![1, 1024, 1024]⟩) (0 : Fin 3) _ _ _ _ rfl rfl
      (ix3 0 r l) (fun a ha => ?_) (by show 0 + 1 = b.val; omega)).trans ?_
    · match a with
      | ⟨0, _⟩ => exact absurd rfl ha
      | ⟨1, _⟩ => rfl
      | ⟨2, _⟩ => rfl
    · pointwise [val_main_v1]

theorem pure7 : val_main_v7 (F := Ideal) g h p (ix3 b r l) = Adam.mom (grad (at2 g) (at2 h) b.val r.val l.val) (at3 p b.val r.val l.val) := by
  pointwise [val_main_v7, val_main_v6, val_main_v5, val_main_v4, val_main_v3, val_main_cst, val_main_cst_0]
  rw [pure5, at3_ix3 p]
  rfl

theorem pure8 : val_main_v13 (F := Ideal) g h q (ix3 b r l) = Adam.var (grad (at2 g) (at2 h) b.val r.val l.val) (at3 q b.val r.val l.val) := by
  pointwise [val_main_v13, val_main_v12, val_main_v11, val_main_v10, val_main_v9, val_main_v8, val_main_cst_1, val_main_cst_2]
  rw [pure5, at3_ix3 q]
  rfl

theorem pure6 : val_main_v26 (F := Ideal) w g h p q (ix3 b r l)
    = Adam.step (at3 w b.val r.val l.val) (grad (at2 g) (at2 h) b.val r.val l.val) (at3 p b.val r.val l.val) (at3 q b.val r.val l.val) := by
  pointwise [val_main_v26, val_main_v25, val_main_v24, val_main_v23, val_main_v22, val_main_v21, val_main_v20, val_main_v19, val_main_v18, val_main_v17, val_main_v16, val_main_v15, val_main_v14, val_main_cst_3, val_main_cst_4, val_main_cst_5, val_main_cst_6, val_main_cst_7]
  rw [pure7, pure8, at3_ix3 w]
  rfl

end Reference

end Cert.AdamLayersIdeal.Value

namespace Cert.Proof

open Idealize.ShloMosaic Idealize.SL.Sem

/-- The optimiser's step of a stacked matrix, with the stacked gradient, is the reference's. -/
theorem algebraic_AdamLayers : Cert.algebraic_AdamLayersIdeal_AdamLayersOutIdeal := by
  pair_intro
  · run_from Cert.AdamLayersIdeal.Gen.run_main m g
  · refine (θ_run _ _ _).mono (fun r h c => ?_) (Cert.AdamLayersOutIdeal.Value.run m' g')
    obtain ⟨h0, h1, h2, h3, hargs⟩ := h c
    obtain ⟨e0, e1, e2, e3, e4⟩ := hagree c
    rw [Cert.AdamLayersOutIdeal.Read.val_main_v2_eq, e1, e2] at h0
    rw [Cert.AdamLayersOutIdeal.Read.val_main_v26_eq, e0, e1, e2, e3, e4] at h1
    rw [Cert.AdamLayersOutIdeal.Read.val_main_v7_eq, e1, e2, e3] at h2
    rw [Cert.AdamLayersOutIdeal.Read.val_main_v13_eq, e1, e2, e4] at h3
    refine ⟨h0.trans ?_, h1.trans ?_, h2.trans ?_, h3.trans ?_, hargs⟩
    · refine Eq.trans ?_ (Cert.AdamLayersIdeal.Value.final5w m c).symm
      funext j; idx_vars j; exact Cert.AdamLayersIdeal.Value.pure5 _ _ _ _ _
    · refine Eq.trans ?_ (Cert.AdamLayersIdeal.Value.final6w m c).symm
      funext j; idx_vars j; exact Cert.AdamLayersIdeal.Value.pure6 _ _ _ _ _ _ _ _
    · refine Eq.trans ?_ (Cert.AdamLayersIdeal.Value.final7w m c).symm
      funext j; idx_vars j; exact Cert.AdamLayersIdeal.Value.pure7 _ _ _ _ _ _
    · refine Eq.trans ?_ (Cert.AdamLayersIdeal.Value.final8w m c).symm
      funext j; idx_vars j; exact Cert.AdamLayersIdeal.Value.pure8 _ _ _ _ _ _

end Cert.Proof
-- ==== Proof.AdamSmall.lean ====
module

public import proofs.«01_k».proof.Proof.Gen.AdamSmallIdeal.Value
public import proofs.«01_k».proof.Proof.Gen.AdamSmallOutIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.AdamSmallOutIdeal.Run
public import proofs.«01_k».proof.Proof.Pieces
public import proofs.«01_k».proof.Proof.Adam

@[expose] public section

set_option maxRecDepth 16384

noncomputable section

namespace Cert.AdamSmallIdeal.Value

open Cert.AdamSmallIdeal Cert.AdamSmallIdeal.Gen Cert.Pieces Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

section Tile

variable (w g p q : FVec Ideal S8x128 .f32) (r : Fin 8) (l : Fin 128)

theorem tile5 : k0_pay1 (F := Ideal) g p (ix2 r l) = Adam.mom (at2 g r.val l.val) (at2 p r.val l.val) := by
  pointwise [k0_pay1]
  simp only [Adam.mom, at2_ix2]

theorem tile6 : k0_pay2 (F := Ideal) g q (ix2 r l) = Adam.var (at2 g r.val l.val) (at2 q r.val l.val) := by
  pointwise [k0_pay2]
  simp only [Adam.var, at2_ix2]

theorem tile4 : k0_pay3 (F := Ideal) g p q w (ix2 r l)
    = Adam.step (at2 w r.val l.val) (at2 g r.val l.val) (at2 p r.val l.val) (at2 q r.val l.val) := by
  pointwise [k0_pay3]
  rw [tile5, tile6]
  simp only [Adam.step, at2_ix2]

theorem out4 : out0_4 (F := Ideal) w g p q = k0_pay3 (F := Ideal) g p q w := by frame_out
theorem out5 : out0_5 (F := Ideal) w g p q = k0_pay1 (F := Ideal) g p := by frame_out
theorem out6 : out0_6 (F := Ideal) w g p q = k0_pay2 (F := Ideal) g q := by frame_out

end Tile

theorem blk0 (c : Dev nD) (t : Fin cfg0.N) (r : Fin 8) (l : Fin 128) : at2 (m := 8) (n := 128) (iblk m c 0 t) r.val l.val
    = at2 (m := 168) (n := 128) (m ((c : Thread nD τ).loc main_arg0)) (t.val * 8 + r.val) l.val := by
  have ht : t.val < 21 := t.isLt
  rw [at2_of_lt _ _ _ r.isLt l.isLt, at2_of_lt _ _ _ (by have := r.isLt; omega) l.isLt]
  blk_point [iblk, V, idx t]

theorem blk1 (c : Dev nD) (t : Fin cfg0.N) (r : Fin 8) (l : Fin 128) : at2 (m := 8) (n := 128) (iblk m c 1 t) r.val l.val
    = at2 (m := 168) (n := 128) (m ((c : Thread nD τ).loc main_arg1)) (t.val * 8 + r.val) l.val := by
  have ht : t.val < 21 := t.isLt
  rw [at2_of_lt _ _ _ r.isLt l.isLt, at2_of_lt _ _ _ (by have := r.isLt; omega) l.isLt]
  blk_point [iblk, V, idx t]

theorem blk2 (c : Dev nD) (t : Fin cfg0.N) (r : Fin 8) (l : Fin 128) : at2 (m := 8) (n := 128) (iblk m c 2 t) r.val l.val
    = at2 (m := 168) (n := 128) (m ((c : Thread nD τ).loc main_arg2)) (t.val * 8 + r.val) l.val := by
  have ht : t.val < 21 := t.isLt
  rw [at2_of_lt _ _ _ r.isLt l.isLt, at2_of_lt _ _ _ (by have := r.isLt; omega) l.isLt]
  blk_point [iblk, V, idx t]

theorem blk3 (c : Dev nD) (t : Fin cfg0.N) (r : Fin 8) (l : Fin 128) : at2 (m := 8) (n := 128) (iblk m c 3 t) r.val l.val
    = at2 (m := 168) (n := 128) (m ((c : Thread nD τ).loc main_arg3)) (t.val * 8 + r.val) l.val := by
  have ht : t.val < 21 := t.isLt
  rw [at2_of_lt _ _ _ r.isLt l.isLt, at2_of_lt _ _ _ (by have := r.isLt; omega) l.isLt]
  blk_point [iblk, V, idx t]

/-- The new first moment of the whole array. -/
def mom (c : Dev nD) (r l : ℕ) : EReal :=
  Adam.mom (at2 (m := 168) (n := 128) (m ((c : Thread nD τ).loc main_arg1)) r l) (at2 (m := 168) (n := 128) (m ((c : Thread nD τ).loc main_arg2)) r l)

/-- The new second moment of the whole array. -/
def var (c : Dev nD) (r l : ℕ) : EReal :=
  Adam.var (at2 (m := 168) (n := 128) (m ((c : Thread nD τ).loc main_arg1)) r l) (at2 (m := 168) (n := 128) (m ((c : Thread nD τ).loc main_arg3)) r l)

/-- The step of the whole array. -/
def step (c : Dev nD) (r l : ℕ) : EReal :=
  Adam.step (at2 (m := 168) (n := 128) (m ((c : Thread nD τ).loc main_arg0)) r l) (at2 (m := 168) (n := 128) (m ((c : Thread nD τ).loc main_arg1)) r l)
    (at2 (m := 168) (n := 128) (m ((c : Thread nD τ).loc main_arg2)) r l) (at2 (m := 168) (n := 128) (m ((c : Thread nD τ).loc main_arg3)) r l)

theorem final4w (c : Dev nD) : (dats m 0 c).arrAt 4 (cfgs 0).N
    = fun y : S168x128.Idx => step m c (y 0).val (y 1).val := by
  refine (dats m 0 c).arrAt_eq_of_covers 4 _ (by decide +kernel) fun t _ y => ?_
  blk_simp
  rw [after0_4, out4]
  revert y
  refine fun (y : S8x128.Idx) => ?_
  obtain ⟨-, -, -, -, h, -, -⟩ := idx t
  idx_vars y
  rw [tile4, blk0, blk1, blk2, blk3]
  refine congrArg₂ (step m c) ?_ ?_
  · rw [h]; rfl
  · rw [h]; exact (Nat.zero_add _).symm

theorem final5w (c : Dev nD) : (dats m 0 c).arrAt 5 (cfgs 0).N
    = fun y : S168x128.Idx => mom m c (y 0).val (y 1).val := by
  refine (dats m 0 c).arrAt_eq_of_covers 5 _ (by decide +kernel) fun t _ y => ?_
  blk_simp
  rw [after0_5, out5]
  revert y
  refine fun (y : S8x128.Idx) => ?_
  obtain ⟨-, -, -, -, -, h, -⟩ := idx t
  idx_vars y
  rw [tile5, blk1, blk2]
  refine congrArg₂ (mom m c) ?_ ?_
  · rw [h]; rfl
  · rw [h]; exact (Nat.zero_add _).symm

theorem final6w (c : Dev nD) : (dats m 0 c).arrAt 6 (cfgs 0).N
    = fun y : S168x128.Idx => var m c (y 0).val (y 1).val := by
  refine (dats m 0 c).arrAt_eq_of_covers 6 _ (by decide +kernel) fun t _ y => ?_
  blk_simp
  rw [after0_6, out6]
  revert y
  refine fun (y : S8x128.Idx) => ?_
  obtain ⟨-, -, -, -, -, -, h⟩ := idx t
  idx_vars y
  rw [tile6, blk1, blk3]
  refine congrArg₂ (var m c) ?_ ?_
  · rw [h]; rfl
  · rw [h]; exact (Nat.zero_add _).symm

open Cert.AdamSmallOutIdeal.Read

section Reference

variable (w g p q : FVec Ideal S168x128 .f32) (r : Fin 168) (l : Fin 128)

theorem pure5 : val_main_v4 (F := Ideal) g p (ix2 r l) = Adam.mom (at2 g r.val l.val) (at2 p r.val l.val) := by
  pointwise [val_main_v4, val_main_v3, val_main_v2, val_main_v1, val_main_v0, val_main_cst, val_main_cst_0]
  simp only [Adam.mom, at2_ix2]

theorem pure6 : val_main_v10 (F := Ideal) g q (ix2 r l) = Adam.var (at2 g r.val l.val) (at2 q r.val l.val) := by
  pointwise [val_main_v10, val_main_v9, val_main_v8, val_main_v7, val_main_v6, val_main_v5, val_main_cst_1, val_main_cst_2]
  simp only [Adam.var, at2_ix2]

theorem pure4 : val_main_v23 (F := Ideal) w g p q (ix2 r l)
    = Adam.step (at2 w r.val l.val) (at2 g r.val l.val) (at2 p r.val l.val) (at2 q r.val l.val) := by
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  rw [pure5, pure6]
  simp only [Adam.step, at2_ix2]

end Reference

end Cert.AdamSmallIdeal.Value

namespace Cert.Proof

open Idealize.ShloMosaic Idealize.SL.Sem

/-- The optimiser's step of the small weights is the reference's. -/
theorem algebraic_AdamSmall : Cert.algebraic_AdamSmallIdeal_AdamSmallOutIdeal := by
  pair_intro
  · run_from Cert.AdamSmallIdeal.Gen.run_main m g
  · refine (θ_run _ _ _).mono (fun r h c => ?_) (Cert.AdamSmallOutIdeal.Value.run m' g')
    obtain ⟨h0, h1, h2, hargs⟩ := h c
    obtain ⟨e0, e1, e2, e3⟩ := hagree c
    rw [Cert.AdamSmallOutIdeal.Read.val_main_v23_eq, e0, e1, e2, e3] at h0
    rw [Cert.AdamSmallOutIdeal.Read.val_main_v4_eq, e1, e2] at h1
    rw [Cert.AdamSmallOutIdeal.Read.val_main_v10_eq, e1, e3] at h2
    refine ⟨h0.trans ?_, h1.trans ?_, h2.trans ?_, hargs⟩
    · refine Eq.trans ?_ (Cert.AdamSmallIdeal.Value.final4w m c).symm
      funext j; idx_vars j; exact Cert.AdamSmallIdeal.Value.pure4 _ _ _ _ _ _
    · refine Eq.trans ?_ (Cert.AdamSmallIdeal.Value.final5w m c).symm
      funext j; idx_vars j; exact Cert.AdamSmallIdeal.Value.pure5 _ _ _ _
    · refine Eq.trans ?_ (Cert.AdamSmallIdeal.Value.final6w m c).symm
      funext j; idx_vars j; exact Cert.AdamSmallIdeal.Value.pure6 _ _ _ _

end Cert.Proof
-- ==== Proof.SumSmall.lean ====
module

public import proofs.«01_k».proof.Proof.Gen.SumSmallIdeal.Value
public import proofs.«01_k».proof.Proof.Gen.SumSmallOutIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.SumSmallOutIdeal.Run
public import proofs.«01_k».proof.Proof.Pieces

@[expose] public section

set_option maxRecDepth 16384

noncomputable section

namespace Cert.SumSmallIdeal.Value

open Cert.SumSmallIdeal Cert.SumSmallIdeal.Gen Cert.Pieces Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, t.val, 0] ∧ win0_1.index t = ![t.val, 0] :=
  (by decide +kernel : ∀ t : Fin grid0.N, _)

/-- The sum over the leading axis at a position. -/
def total {n k : ℕ} (x : FVec Ideal ⟨3, ![8, n, k]⟩ .f32) (r : Fin n) (l : Fin k) : EReal := ∑ d : Fin 8, x (ix3 d r l)

theorem outW (x : FVec Ideal S8x16x1024 .f32) (r : Fin 16) (l : Fin 1024) : out0_1 (F := Ideal) x (ix2 r l) = total x r l := by
  have e : out0_1 (F := Ideal) x = k0_pay1 (F := Ideal) (View.ld x r0_0) (View.ld x r0_1) (View.ld x r0_2) (View.ld x r0_3) (View.ld x r0_4) (View.ld x r0_5) (View.ld x r0_6) (View.ld x r0_7) := by
    frame_out
  rw [e]
  pointwise [k0_pay1]
  simp only [total, Fin.sum_univ_eight]

theorem blk0 (c : Dev nD) (t : Fin cfg0.N) (d : Fin 8) (r : Fin 16) (l : Fin 1024) : iblk m c 0 t (ix3 d r l : S8x16x1024.Idx)
    = m ((c : Thread nD τ).loc main_arg0) (ix3 d ⟨t.val * 16 + r.val, by have : t.val < 3 := t.isLt; have := r.isLt; omega⟩ l : S8x48x1024.Idx) := by
  blk_point [iblk, V, idx t]

theorem final1w (c : Dev nD) : (dats m 0 c).arrAt 1 (cfgs 0).N
    = fun y : S48x1024.Idx => total (n := 48) (k := 1024) (m ((c : Thread nD τ).loc main_arg0)) (y 0) (y 1) := by
  refine (dats m 0 c).arrAt_eq_of_covers 1 _ (by decide +kernel) fun t _ y => ?_
  blk_simp
  rw [after0_1]
  revert y
  refine fun (y : S16x1024.Idx) => ?_
  obtain ⟨-, h⟩ := idx t
  idx_vars y
  refine (outW _ _ _).trans (Finset.sum_congr rfl fun d _ => (blk0 m c t d y0 y1).trans
    (congrArg₂ (fun a b => m ((c : Thread nD τ).loc main_arg0) (ix3 d a b : S8x48x1024.Idx)) (Fin.ext ?_) (Fin.ext ?_)))
  · blk_simp; rw [h]; rfl
  · blk_simp; rw [h]; exact (Nat.zero_add _).symm

open Cert.SumSmallOutIdeal.Read

theorem pure1 (x : FVec Ideal S8x48x1024 .f32) (r : Fin 48) (l : Fin 1024) : val_main_v0 (F := Ideal) x (ix2 r l) = total x r l := by
  pointwise [val_main_v0_apply, val_main_cst]
  simp only [total]
  exact Finset.sum_congr rfl fun d _ => congrArg x (funext fun a => by match a with | ⟨0, _⟩ => rfl | ⟨1, _⟩ => rfl | ⟨2, _⟩ => rfl)

end Cert.SumSmallIdeal.Value

namespace Cert.Proof

open Idealize.ShloMosaic Idealize.SL.Sem

/-- The sum of the devices' small gradients is the reference's. -/
theorem algebraic_SumSmall : Cert.algebraic_SumSmallIdeal_SumSmallOutIdeal := by
  pair_intro
  · run_from Cert.SumSmallIdeal.Gen.run_main m g
  · refine (θ_run _ _ _).mono (fun r h c => ?_) (Cert.SumSmallOutIdeal.Value.run m' g')
    obtain ⟨h0, hargs⟩ := h c
    have e0 := hagree c
    rw [Cert.SumSmallOutIdeal.Read.val_main_v0_eq, e0] at h0
    refine ⟨h0.trans ?_, hargs⟩
    refine Eq.trans ?_ (Cert.SumSmallIdeal.Value.final1w m c).symm
    funext j; idx_vars j; exact Cert.SumSmallIdeal.Value.pure1 _ _ _

end Cert.Proof
-- ==== Proof.PairSum.lean ====
module

public import proofs.«01_k».proof.Proof.Gen.PairSum.Frame
public import proofs.«01_k».proof.Proof.Gen.PairSumIdeal.Frame
public import proofs.«01_k».proof.Proof.Gen.PairSumOutIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.PairSumOutIdeal.Run
public import proofs.«01_k».proof.Proof.Pieces

@[expose] public section

set_option maxRecDepth 16384

noncomputable section

namespace Cert.Proof

theorem core_named_facts : Cert.Pre_core_named.Facts := by
  constructor <;> decide

end Cert.Proof

namespace Cert.PairSumWord

open Idealize.ShloMosaic Idealize.SL.Sem

instance core_facts : Cert.Pre_core_named.Facts := Cert.Proof.core_named_facts

/-- The only word of a one-word array cut from the front of a two-word array. -/
theorem first_word {F : FTy → Type} [FloatOps F] (x : IVec ⟨1, ![2]⟩ 32) (h : Shape.Slices (⟨1, ![2]⟩ : Shape) ![0] ⟨1, ![1]⟩) (h' : Shape.ShapeCasts (⟨1, ![1]⟩ : Shape) ⟨0, ![]⟩)
    (i : Shape.Idx ⟨0, ![]⟩) : shapeCast ⟨0, ![]⟩ (extractStridedSlice ⟨1, ![1]⟩ ![0] x h) h' i = x (ix1 0) := by
  unfold shapeCast
  generalize (Shape.reshapeEquiv h' i) = j
  refine extractStridedSlice_apply ![0] x h j (ix1 0) fun a => ?_
  have : (j 0).val < 1 := (j 0).isLt
  match a with
  | ⟨0, _⟩ => show 0 = 0 + (j 0).val; omega

/-- The precondition says that the first word is zero or one. -/
theorem core {F : FTy → Type} [FloatOps F] (g : FVec F ⟨3, ![4, 1024, 1024]⟩ .f32) (r : FVec F ⟨3, ![4, 512, 1024]⟩ .bf16) (x : IVec ⟨1, ![2]⟩ 32)
    (h : Cert.Pre_core_named.fn (F := F) g r x = fun _ => 1#1) : x (ix1 0) = 0#32 ∨ x (ix1 0) = 1#32 := by
  have h := congrFun h (fun a => a.elim0)
  unfold Cert.Pre_core_named.fn at h
  change IntOp.ori (IntOp.cmpi .eq (shapeCast _ (extractStridedSlice _ _ x _) _ _) 0#32) (IntOp.cmpi .eq (shapeCast _ (extractStridedSlice _ _ x _) _ _) 1#32) = 1#1 at h
  rw [first_word (F := F)] at h
  by_contra hc
  obtain ⟨h0, h1⟩ := not_or.mp hc
  revert h
  simp only [IntOp.ori, IntOp.cmpi, beq_eq_false_iff_ne.mpr h0, beq_eq_false_iff_ne.mpr h1]
  decide

/-- The one element of a rectangle of one word at the front of a two-word array is the first. -/
theorem front (h : ∀ a, (![0] : Fin 1 → ℕ) a + (⟨1, ![1]⟩ : Shape).size a ≤ (⟨1, ![2]⟩ : Shape).size a)
    (j : (Rect.unit (s := ⟨1, ![2]⟩) ![0] (⟨1, ![1]⟩ : Shape).size h).shape.Idx) : (Rect.unit (s := ⟨1, ![2]⟩) ![0] (⟨1, ![1]⟩ : Shape).size h).emb j = ix1 0 := by
  funext a
  match a with
  | ⟨0, _⟩ =>
    refine Fin.ext ?_
    have : (j 0).val < 1 := (j 0).isLt
    show 0 + 1 * (j 0).val = 0
    omega

end Cert.PairSumWord

namespace Cert.PairSum.Body

open Cert.PairSum Cert.PairSum.Gen Idealize.ShloMosaic Idealize.ShloMosaic.TcCoe Idealize.SL.Sem

/-- The block of the first operand, from the first word. -/
theorem place (m : (ℓ : Loc nD τ sig) → Buf (Elt Bits) ℓ) (i : grid0.Coords) : cc0_transform_0 (F := Bits) facts.inb_S2_S1_0 facts.numel1_S1 (tbl m) i
    = ![(BitVec.ofNat 32 (i 0).val).toNat, (Scalar.addi (Scalar.muli (m (((0 : Dev nD) : Thread nD τ).loc main_arg2) (ix1 0)) 2#32) (BitVec.ofNat 32 (i 1).val)).toNat, 0] := by
  unfold cc0_transform_0
  exact congrArg (fun j : S2.Idx => (![(BitVec.ofNat 32 (i 0).val).toNat, (Scalar.addi (Scalar.muli (m (((0 : Dev nD) : Thread nD τ).loc main_arg2) j) 2#32)
    (BitVec.ofNat 32 (i 1).val)).toNat, 0] : Fin 3 → ℕ)) (Cert.PairSumWord.front _ _)

/-- Of either core the rows that the call reads lie in the array. -/
theorem ok (m : (ℓ : Loc nD τ sig) → Buf (Elt Bits) ℓ) (h : Cert.Pre_PairSum m) : Ok m := by
  have hw := Cert.PairSumWord.core _ _ _ (h 0)
  unfold Ok ok0
  intro i
  refine ⟨?_, Or.inl rfl⟩
  rw [place]
  have e : ∀ w : BitVec 32, (w = 0#32 ∨ w = 1#32) → ∀ i : grid0.Coords, ∀ a : Fin 3,
      ((![(BitVec.ofNat 32 (i 0).val).toNat, (Scalar.addi (Scalar.muli w 2#32) (BitVec.ofNat 32 (i 1).val)).toNat, 0] : Fin 3 → ℕ) a + 1) * S1x256x1024.size a ≤ S4x1024x1024.size a := by
    rintro w (rfl | rfl) <;> decide +kernel
  exact e _ hw i

end Cert.PairSum.Body

namespace Cert.PairSumIdeal.Value

open Cert.PairSumIdeal Cert.PairSumIdeal.Gen Cert.Pieces Idealize.ShloMosaic Idealize.ShloMosaic.TcCoe Idealize.SL.Sem
open Idealize.ShloMosaic.Pipeline (Dat)

/-- The block of the first operand, from the first word. -/
theorem place (m : (ℓ : Loc nD τ sig) → Buf (Elt Ideal) ℓ) (i : grid0.Coords) : cc0_transform_0 (F := Ideal) facts.inb_S2_S1_0 facts.numel1_S1 (tbl m) i
    = ![(BitVec.ofNat 32 (i 0).val).toNat, (Scalar.addi (Scalar.muli (m (((0 : Dev nD) : Thread nD τ).loc main_arg2) (ix1 0)) 2#32) (BitVec.ofNat 32 (i 1).val)).toNat, 0] := by
  unfold cc0_transform_0
  exact congrArg (fun j : S2.Idx => (![(BitVec.ofNat 32 (i 0).val).toNat, (Scalar.addi (Scalar.muli (m (((0 : Dev nD) : Thread nD τ).loc main_arg2) j) 2#32)
    (BitVec.ofNat 32 (i 1).val)).toNat, 0] : Fin 3 → ℕ)) (Cert.PairSumWord.front _ _)

/-- Of either core the rows that the call reads lie in the array. -/
theorem ok (m : (ℓ : Loc nD τ sig) → Buf (Elt Ideal) ℓ) (h : Cert.Pre_PairSumIdeal m) : Ok m := by
  have hw := Cert.PairSumWord.core _ _ _ (h 0)
  unfold Ok ok0
  intro i
  refine ⟨?_, Or.inl rfl⟩
  rw [place]
  have e : ∀ w : BitVec 32, (w = 0#32 ∨ w = 1#32) → ∀ i : grid0.Coords, ∀ a : Fin 3,
      ((![(BitVec.ofNat 32 (i 0).val).toNat, (Scalar.addi (Scalar.muli w 2#32) (BitVec.ofNat 32 (i 1).val)).toNat, 0] : Fin 3 → ℕ) a + 1) * S1x256x1024.size a ≤ S4x1024x1024.size a := by
    rintro w (rfl | rfl) <;> decide +kernel
  exact e _ hw i

variable (m : (ℓ : Loc nD τ sig) → Buf (Elt Ideal) ℓ) (hO : Ok m)

theorem idx0 (k : Fin 2) (hk : m (((0 : Dev nD) : Thread nD τ).loc main_arg2) (ix1 0) = BitVec.ofNat 32 k.val) (t : Fin (cfgM m hO).N) :
    ((cfgM m hO).win 0).index t = ![t.val / 2, k.val * 2 + t.val % 2, 0] := by
  have e : ∀ k : Fin 2, ∀ t : Fin grid0.N, (![(BitVec.ofNat 32 (grid0.coords t 0).val).toNat,
      (Scalar.addi (Scalar.muli (BitVec.ofNat 32 k.val) 2#32) (BitVec.ofNat 32 (grid0.coords t 1).val)).toNat, 0] : Fin 3 → ℕ)
        = ![t.val / 2, k.val * 2 + t.val % 2, 0] := by decide +kernel
  refine (place m (grid0.coords t)).trans ?_
  rw [hk]
  exact e k t

theorem idx1 (t : Fin (cfgM m hO).N) : ((cfgM m hO).win 1).index t = ![t.val / 2, t.val % 2, 0] :=
  (by decide +kernel : ∀ t : Fin grid0.N, cc0_transform_1 (grid0.coords t) = ![t.val / 2, t.val % 2, 0]) t

theorem idx2 (t : Fin (cfgM m hO).N) : ((cfgM m hO).win 2).index t = ![t.val / 2, t.val % 2, 0] :=
  (by decide +kernel : ∀ t : Fin grid0.N, cc0_transform_2 (grid0.coords t) = ![t.val / 2, t.val % 2, 0]) t

theorem outW (c : Dev nD) (t : Fin (cfgM m hO).N) (x : Fin 1) (r : Fin 256) (l : Fin 1024) :
    outsAt0 m hO c t (ix3 x r l : S1x256x1024.Idx)
      = (fun a b : EReal => a + b) (iblk m hO c 0 t (ix3 x r l : S1x256x1024.Idx)) (iblk m hO c 1 t (ix3 x r l : S1x256x1024.Idx)) := by
  have e : outsAt0 m hO c t = k0_pay1 (F := Ideal) (iblk m hO c 0 t) (iblk m hO c 1 t) := by
    unfold outsAt0
    frame_out
    exact congrArg₂ (k0_pay1 (F := Ideal)) ((hs0_0 m hO t).read_unread _) ((hs0_1 m hO t).read_unread _)
  obtain rfl : x = 0 := Subsingleton.elim _ _
  rw [e]
  pointwise [k0_pay1]

theorem blk0 (k : Fin 2) (hk : m (((0 : Dev nD) : Thread nD τ).loc main_arg2) (ix1 0) = BitVec.ofNat 32 k.val) (c : Dev nD) (t : Fin (cfgM m hO).N)
    (x : Fin 1) (r : Fin 256) (l : Fin 1024) : iblk m hO c 0 t (ix3 x r l : S1x256x1024.Idx)
    = m ((c : Thread nD τ).loc main_arg0) (ix3 ⟨t.val / 2, by have : t.val < 8 := t.isLt; omega⟩
        ⟨k.val * 512 + (t.val % 2 * 256 + r.val), by have := r.isLt; have := k.isLt; omega⟩ l : S4x1024x1024.Idx) := by
  have h := idx0 m hO k hk t
  blk_point [iblk, V, h]

theorem blk1 (c : Dev nD) (t : Fin (cfgM m hO).N) (x : Fin 1) (r : Fin 256) (l : Fin 1024) : iblk m hO c 1 t (ix3 x r l : S1x256x1024.Idx)
    = m ((c : Thread nD τ).loc main_arg1) (ix3 ⟨t.val / 2, by have : t.val < 8 := t.isLt; omega⟩
        ⟨t.val % 2 * 256 + r.val, by have := r.isLt; omega⟩ l : S4x512x1024.Idx) := by
  blk_point [iblk, V, idx1 m hO t]

/-- The sum of a core's half and its sibling's half at a position. -/
def pair (k : Fin 2) (g : FVec Ideal S4x1024x1024 .f32) (s : FVec Ideal S4x512x1024 .bf16) (a : Fin 4) (b : Fin 512) (l : Fin 1024) : EReal :=
  g (ix3 a ⟨k.val * 512 + b.val, by have := b.isLt; have := k.isLt; omega⟩ l) + s (ix3 a b l)

theorem covers : ((cfgM m hO).win 2).Covers := of_decide_eq_true (by sl_kernel_rfl)

theorem final (k : Fin 2) (hk : m (((0 : Dev nD) : Thread nD τ).loc main_arg2) (ix1 0) = BitVec.ofNat 32 k.val) (c : Dev nD) :
    (dats m hO 0 c).arrAt 2 (cfgM m hO).N
      = fun y : S4x512x1024.Idx => pair k (m ((c : Thread nD τ).loc main_arg0)) (m ((c : Thread nD τ).loc main_arg1)) (y 0) (y 1) (y 2) := by
  refine (dats m hO 0 c).arrAt_eq_of_covers 2 _ (covers m hO) fun t _ y => ?_
  blk_simp
  rw [after0_2]
  revert y
  refine fun (y : S1x256x1024.Idx) => ?_
  have h := idx2 m hO t
  idx_vars y
  refine (outW m hO c t y0 y1 y2).trans (Eq.trans (congrArg₂ (fun a b : EReal => a + b) (blk0 m hO k hk c t y0 y1 y2) (blk1 m hO c t y0 y1 y2)) ?_)
  have ha : t.val / 2 < 4 := by have : t.val < 8 := t.isLt; omega
  have hb : t.val % 2 * 256 + y1.val < 512 := by have := y1.isLt; omega
  show pair k (m ((c : Thread nD τ).loc main_arg0)) (m ((c : Thread nD τ).loc main_arg1)) ⟨_, ha⟩ ⟨_, hb⟩ y2 = _
  refine congr (congr (congrArg (pair k (m ((c : Thread nD τ).loc main_arg0)) (m ((c : Thread nD τ).loc main_arg1))) ?_) ?_) ?_
  · refine Fin.ext ?_
    blk_simp
    rw [h]
    rfl
  · refine Fin.ext ?_
    blk_simp
    rw [h]
    rfl
  · refine Fin.ext ?_
    blk_simp
    rw [h]
    exact (Nat.zero_add _).symm

open Cert.PairSumOutIdeal.Read

theorem select0 (k : Fin 2) (x : IVec S2 32) (hk : x (ix1 0) = BitVec.ofNat 32 k.val) (i) : val_main_v4 (F := Ideal) x i = BitVec.ofBool (k.val == 0) := by
  have e : val_main_v3 (F := Ideal) x i = x (ix1 0) := Cert.PairSumWord.first_word (F := Ideal) x _ _ i
  rw [val_main_v4_apply, e, hk]
  exact (by decide : ∀ k : Fin 2, IntOp.cmpi .eq (BitVec.ofNat 32 k.val) 0#32 = BitVec.ofBool (k.val == 0)) k

theorem pure (k : Fin 2) (g : FVec Ideal S4x1024x1024 .f32) (s : FVec Ideal S4x512x1024 .bf16) (x : IVec S2 32) (hk : x (ix1 0) = BitVec.ofNat 32 k.val)
    (a : Fin 4) (b : Fin 512) (l : Fin 1024) : val_main_v8 (F := Ideal) g s x (ix3 a b l) = pair k g s a b l := by
  have e : val_main_v5 (F := Ideal) g x (ix3 a b l) = g (ix3 a ⟨k.val * 512 + b.val, by have := b.isLt; have := k.isLt; omega⟩ l) := by
    unfold val_main_v5 select broadcastInDim
    rw [select0 k x hk, val_main_v0_apply, val_main_v1_apply]
    match k with
    | 0 => exact congrArg g (funext fun i => by match i with | ⟨0, _⟩ => rfl | ⟨1, _⟩ => exact Fin.ext (Nat.zero_add _).symm | ⟨2, _⟩ => rfl)
    | 1 => exact congrArg g (funext fun i => by match i with | ⟨0, _⟩ => rfl | ⟨1, _⟩ => rfl | ⟨2, _⟩ => rfl)
  rw [val_main_v8_apply, val_main_v7_apply, e, val_main_v6_apply]
  rfl

end Cert.PairSumIdeal.Value

namespace Cert.Proof

open Idealize.ShloMosaic Idealize.SL.Sem

instance core_facts : Cert.Pre_core_named.Facts := core_named_facts

theorem frame_PairSum : Cert.quiescent_PairSum := fun m ρ h => Cert.PairSum.Gen.frame m ρ (Cert.PairSum.Body.ok m h)

theorem frame_PairSumIdeal : Cert.quiescent_PairSumIdeal := fun m ρ h => Cert.PairSumIdeal.Gen.frame m ρ (Cert.PairSumIdeal.Value.ok m h)

/-- The sum of the two cores' gradients is the reference's. -/
theorem algebraic_PairSum : Cert.algebraic_PairSumIdeal_PairSumOutIdeal := by
  pair_intro
  case refine_1 => exact fun c => (Cert.PairSumIdeal.Gen.dats m (Cert.PairSumIdeal.Value.ok m hpre) 0 c).arrAt 2 (Cert.PairSumIdeal.Gen.cfgM m (Cert.PairSumIdeal.Value.ok m hpre)).N
  · exact (θ_run _ _ _).mono (fun _ h c => ⟨(h.1 c).1 2, h.2 c⟩)
      (θ_run_and (Cert.PairSumIdeal.Gen.run_main m g (Cert.PairSumIdeal.Value.ok m hpre)) (Cert.PairSumIdeal.Gen.unchanged m g (Cert.PairSumIdeal.Value.ok m hpre)))
  · refine (θ_run _ _ _).mono (fun r h c => ?_) (Cert.PairSumOutIdeal.Value.run m' g')
    obtain ⟨h0, hargs⟩ := h c
    obtain ⟨e0, e1, e2⟩ := hagree c
    obtain rfl : c = 0 := Subsingleton.elim _ _
    obtain ⟨k, hk⟩ : ∃ k : Fin 2, m (((0 : Dev Cert.PairSumIdeal.nD).tc : Thread Cert.PairSumIdeal.nD Cert.PairSumIdeal.τ).loc Cert.PairSumIdeal.main_arg2) (ix1 0) = BitVec.ofNat 32 k.val := by
      rcases Cert.PairSumWord.core _ _ _ (hpre 0) with h | h
      · exact ⟨0, h⟩
      · exact ⟨1, h⟩
    rw [Cert.PairSumOutIdeal.Read.val_main_v8_eq, e0, e1, e2] at h0
    refine ⟨h0.trans ?_, hargs⟩
    refine Eq.trans ?_ (Cert.PairSumIdeal.Value.final m (Cert.PairSumIdeal.Value.ok m hpre) k hk 0).symm
    funext j; idx_vars j; exact Cert.PairSumIdeal.Value.pure k _ _ _ hk _ _ _

end Cert.Proof
-- ==== Proof.lean ====
module

public import proofs.«01_k».proof.Defs
public import proofs.«01_k».proof.Proof.Gen.ConformerBwd.Frame
public import proofs.«01_k».proof.Proof.Gen.ConformerBwdIdeal.Value
public import proofs.«01_k».proof.Proof.Gen.AttnBwd.Frame
public import proofs.«01_k».proof.Proof.Gen.AttnBwdIdeal.Value
public import proofs.«01_k».proof.Proof.Gen.LnSiluBwd.Frame
public import proofs.«01_k».proof.Proof.Gen.LnSiluBwdIdeal.Value
public import proofs.«01_k».proof.Proof.Gen.LossHead.Frame
public import proofs.«01_k».proof.Proof.Gen.LossHeadIdeal.Value
public import proofs.«01_k».proof.Proof.Gen.NormUpBwd.Frame
public import proofs.«01_k».proof.Proof.Gen.NormUpBwdIdeal.Value
public import proofs.«01_k».proof.Proof.Gen.NormQBwd.Frame
public import proofs.«01_k».proof.Proof.Gen.NormQBwdIdeal.Value
public import proofs.«01_k».proof.Proof.Gen.NormInBwd.Frame
public import proofs.«01_k».proof.Proof.Gen.NormInBwdIdeal.Value
public import proofs.«01_k».proof.Proof.Gen.SqreluBwd.Frame
public import proofs.«01_k».proof.Proof.Gen.SqreluBwdIdeal.Value
public import proofs.«01_k».proof.Proof.Gen.RmsMemBwd.Frame
public import proofs.«01_k».proof.Proof.Gen.RmsMemBwdIdeal.Value
public import proofs.«01_k».proof.Proof.Gen.AttnFwd.Frame
public import proofs.«01_k».proof.Proof.Gen.AttnFwdIdeal.Value
public import proofs.«01_k».proof.Proof.Gen.ConformerFwd.Frame
public import proofs.«01_k».proof.Proof.Gen.ConformerFwdIdeal.Value
public import proofs.«01_k».proof.Proof.Gen.LnSiluFwd.Frame
public import proofs.«01_k».proof.Proof.Gen.LnSiluFwdIdeal.Value
public import proofs.«01_k».proof.Proof.Gen.RmsFwd.Frame
public import proofs.«01_k».proof.Proof.Gen.RmsFwdIdeal.Value
public import proofs.«01_k».proof.Proof.Gen.NormOutFwd.Frame
public import proofs.«01_k».proof.Proof.Gen.NormOutFwdIdeal.Value
public import proofs.«01_k».proof.Proof.Gen.NormDownFwd.Frame
public import proofs.«01_k».proof.Proof.Gen.NormDownFwdIdeal.Value
public import proofs.«01_k».proof.Proof.Gen.SqreluFwd.Frame
public import proofs.«01_k».proof.Proof.Gen.SqreluFwdIdeal.Value
public import proofs.«01_k».proof.Proof.ShortConv.Printed
public import proofs.«01_k».proof.Proof.Gen.ShortConvFwd.Frame
public import proofs.«01_k».proof.Proof.Gen.ShortConvFwdIdeal.Frame
public import proofs.«01_k».proof.Proof.Swap.Printed
public import proofs.«01_k».proof.Proof.SwapFive.Printed
public import proofs.«01_k».proof.Proof.Gen.MatDown.Frame
public import proofs.«01_k».proof.Proof.Gen.MatDownIdeal.Value
public import proofs.«01_k».proof.Proof.Gen.AdamLayers.Frame
public import proofs.«01_k».proof.Proof.Gen.AdamLayersIdeal.Value
public import proofs.«01_k».proof.Proof.Gen.AdamSmall.Frame
public import proofs.«01_k».proof.Proof.Gen.AdamSmallIdeal.Value
public import proofs.«01_k».proof.Proof.Gen.SumSmall.Frame
public import proofs.«01_k».proof.Proof.Gen.SumSmallIdeal.Value
public import proofs.«01_k».proof.Proof.Gen.PairSum.Frame
public import proofs.«01_k».proof.Proof.Gen.PairSumIdeal.Frame
public import proofs.«01_k».proof.Proof.Gen.ConformerGradIdeal.Run
public import proofs.«01_k».proof.Proof.Gen.ConformerGradIdeal.Read
public import proofs.«01_k».proof.Proof.Gen.AttnGradIdeal.Run
public import proofs.«01_k».proof.Proof.Gen.AttnGradIdeal.Read
public import proofs.«01_k».proof.Proof.Gen.LnSiluGradIdeal.Run
public import proofs.«01_k».proof.Proof.Gen.LnSiluGradIdeal.Read
public import proofs.«01_k».proof.Proof.Gen.LossGradIdeal.Run
public import proofs.«01_k».proof.Proof.Gen.LossGradIdeal.Read
public import proofs.«01_k».proof.Proof.Gen.NormUpGradIdeal.Run
public import proofs.«01_k».proof.Proof.Gen.NormUpGradIdeal.Read
public import proofs.«01_k».proof.Proof.Gen.NormQGradIdeal.Run
public import proofs.«01_k».proof.Proof.Gen.NormQGradIdeal.Read
public import proofs.«01_k».proof.Proof.Gen.NormInGradIdeal.Run
public import proofs.«01_k».proof.Proof.Gen.NormInGradIdeal.Read
public import proofs.«01_k».proof.Proof.Gen.SqreluGradIdeal.Run
public import proofs.«01_k».proof.Proof.Gen.SqreluGradIdeal.Read
public import proofs.«01_k».proof.Proof.Gen.RmsMemGradIdeal.Run
public import proofs.«01_k».proof.Proof.Gen.RmsMemGradIdeal.Read
public import proofs.«01_k».proof.Proof.Gen.AttnOutIdeal.Run
public import proofs.«01_k».proof.Proof.Gen.AttnOutIdeal.Read
public import proofs.«01_k».proof.Proof.Gen.ConformerOutIdeal.Run
public import proofs.«01_k».proof.Proof.Gen.ConformerOutIdeal.Read
public import proofs.«01_k».proof.Proof.Gen.LnSiluOutIdeal.Run
public import proofs.«01_k».proof.Proof.Gen.LnSiluOutIdeal.Read
public import proofs.«01_k».proof.Proof.Gen.RmsOutIdeal.Run
public import proofs.«01_k».proof.Proof.Gen.RmsOutIdeal.Read
public import proofs.«01_k».proof.Proof.Gen.NormOutOutIdeal.Run
public import proofs.«01_k».proof.Proof.Gen.NormOutOutIdeal.Read
public import proofs.«01_k».proof.Proof.Gen.NormDownOutIdeal.Run
public import proofs.«01_k».proof.Proof.Gen.NormDownOutIdeal.Read
public import proofs.«01_k».proof.Proof.Gen.SqreluOutIdeal.Run
public import proofs.«01_k».proof.Proof.Gen.SqreluOutIdeal.Read
public import proofs.«01_k».proof.Proof.Gen.ShortConvGradIdeal.Run
public import proofs.«01_k».proof.Proof.Gen.ShortConvGradIdeal.Read
public import proofs.«01_k».proof.Proof.Gen.ShortConvOutIdeal.Run
public import proofs.«01_k».proof.Proof.Gen.ShortConvOutIdeal.Read
public import proofs.«01_k».proof.Proof.Gen.SwapOutIdeal.Run
public import proofs.«01_k».proof.Proof.Gen.SwapOutIdeal.Read
public import proofs.«01_k».proof.Proof.Gen.SwapFiveOutIdeal.Run
public import proofs.«01_k».proof.Proof.Gen.SwapFiveOutIdeal.Read
public import proofs.«01_k».proof.Proof.Gen.MatDownGradIdeal.Run
public import proofs.«01_k».proof.Proof.Gen.MatDownGradIdeal.Read
public import proofs.«01_k».proof.Proof.Gen.AdamLayersOutIdeal.Run
public import proofs.«01_k».proof.Proof.Gen.AdamLayersOutIdeal.Read
public import proofs.«01_k».proof.Proof.Gen.AdamSmallOutIdeal.Run
public import proofs.«01_k».proof.Proof.Gen.AdamSmallOutIdeal.Read
public import proofs.«01_k».proof.Proof.Gen.SumSmallOutIdeal.Run
public import proofs.«01_k».proof.Proof.Gen.SumSmallOutIdeal.Read
public import proofs.«01_k».proof.Proof.Gen.PairSumOutIdeal.Run
public import proofs.«01_k».proof.Proof.Gen.PairSumOutIdeal.Read
public import proofs.«01_k».proof.Proof.Conformer.Value
public import proofs.«01_k».proof.Proof.Attn
public import proofs.«01_k».proof.Proof.LnSilu
public import proofs.«01_k».proof.Proof.LossNorm
public import proofs.«01_k».proof.Proof.NormUp
public import proofs.«01_k».proof.Proof.NormQ
public import proofs.«01_k».proof.Proof.NormIn
public import proofs.«01_k».proof.Proof.SqreluDown
public import proofs.«01_k».proof.Proof.RmsMem
public import proofs.«01_k».proof.Proof.AttnFwd
public import proofs.«01_k».proof.Proof.Conformer.Forward
public import proofs.«01_k».proof.Proof.LnSiluFwd
public import proofs.«01_k».proof.Proof.RmsFwd
public import proofs.«01_k».proof.Proof.NormOutFwd
public import proofs.«01_k».proof.Proof.NormDownFwd
public import proofs.«01_k».proof.Proof.SqreluFwd
public import proofs.«01_k».proof.Proof.ShortConv.Value
public import proofs.«01_k».proof.Proof.ShortConv.Forward
public import proofs.«01_k».proof.Proof.Swap.Value
public import proofs.«01_k».proof.Proof.SwapFive.Value
public import proofs.«01_k».proof.Proof.MatDown
public import proofs.«01_k».proof.Proof.AdamLayers
public import proofs.«01_k».proof.Proof.AdamSmall
public import proofs.«01_k».proof.Proof.SumSmall
public import proofs.«01_k».proof.Proof.PairSum
public import Idealize.ShloMosaic.Lib.Claim
public import Idealize.ShloMosaic.Adequacy
public import Idealize.ShloMosaic.Init

@[expose] public section

noncomputable section

namespace Cert.Proof

open Idealize.ShloMosaic Idealize.SL.Sem

theorem frame_ConformerGradIdeal : Cert.quiescent_ConformerGradIdeal := fun m ρ _ =>
  (θ_run _ _ _).mono (fun _ h => ⟨fun c => (h c).2.2.2.2, sem_eq_zero_of_no_sems rfl _⟩) (Cert.ConformerGradIdeal.Value.run m ρ)

theorem frame_AttnGradIdeal : Cert.quiescent_AttnGradIdeal := fun m ρ _ =>
  (θ_run _ _ _).mono (fun _ h => ⟨fun c => (h c).2.2, sem_eq_zero_of_no_sems rfl _⟩) (Cert.AttnGradIdeal.Value.run m ρ)

theorem frame_LnSiluGradIdeal : Cert.quiescent_LnSiluGradIdeal := fun m ρ _ =>
  (θ_run _ _ _).mono (fun _ h => ⟨fun c => (h c).2.2.2, sem_eq_zero_of_no_sems rfl _⟩) (Cert.LnSiluGradIdeal.Value.run m ρ)

theorem frame_LossGradIdeal : Cert.quiescent_LossGradIdeal := fun m ρ _ =>
  (θ_run _ _ _).mono (fun _ h => ⟨fun c => (h c).2.2.2.2, sem_eq_zero_of_no_sems rfl _⟩) (Cert.LossGradIdeal.Value.run m ρ)

theorem frame_NormUpGradIdeal : Cert.quiescent_NormUpGradIdeal := fun m ρ _ =>
  (θ_run _ _ _).mono (fun _ h => ⟨fun c => (h c).2.2.2, sem_eq_zero_of_no_sems rfl _⟩) (Cert.NormUpGradIdeal.Value.run m ρ)

theorem frame_NormQGradIdeal : Cert.quiescent_NormQGradIdeal := fun m ρ _ =>
  (θ_run _ _ _).mono (fun _ h => ⟨fun c => (h c).2.2.2, sem_eq_zero_of_no_sems rfl _⟩) (Cert.NormQGradIdeal.Value.run m ρ)

theorem frame_NormInGradIdeal : Cert.quiescent_NormInGradIdeal := fun m ρ _ =>
  (θ_run _ _ _).mono (fun _ h => ⟨fun c => (h c).2.2.2, sem_eq_zero_of_no_sems rfl _⟩) (Cert.NormInGradIdeal.Value.run m ρ)

theorem frame_SqreluGradIdeal : Cert.quiescent_SqreluGradIdeal := fun m ρ _ =>
  (θ_run _ _ _).mono (fun _ h => ⟨fun c => (h c).2, sem_eq_zero_of_no_sems rfl _⟩) (Cert.SqreluGradIdeal.Value.run m ρ)

theorem frame_RmsMemGradIdeal : Cert.quiescent_RmsMemGradIdeal := fun m ρ _ =>
  (θ_run _ _ _).mono (fun _ h => ⟨fun c => (h c).2.2.2, sem_eq_zero_of_no_sems rfl _⟩) (Cert.RmsMemGradIdeal.Value.run m ρ)

theorem frame_AttnOutIdeal : Cert.quiescent_AttnOutIdeal := fun m ρ _ =>
  (θ_run _ _ _).mono (fun _ h => ⟨fun c => (h c).2, sem_eq_zero_of_no_sems rfl _⟩) (Cert.AttnOutIdeal.Value.run m ρ)

theorem frame_ConformerOutIdeal : Cert.quiescent_ConformerOutIdeal := fun m ρ _ =>
  (θ_run _ _ _).mono (fun _ h => ⟨fun c => (h c).2, sem_eq_zero_of_no_sems rfl _⟩) (Cert.ConformerOutIdeal.Value.run m ρ)

theorem frame_LnSiluOutIdeal : Cert.quiescent_LnSiluOutIdeal := fun m ρ _ =>
  (θ_run _ _ _).mono (fun _ h => ⟨fun c => (h c).2, sem_eq_zero_of_no_sems rfl _⟩) (Cert.LnSiluOutIdeal.Value.run m ρ)

theorem frame_RmsOutIdeal : Cert.quiescent_RmsOutIdeal := fun m ρ _ =>
  (θ_run _ _ _).mono (fun _ h => ⟨fun c => (h c).2, sem_eq_zero_of_no_sems rfl _⟩) (Cert.RmsOutIdeal.Value.run m ρ)

theorem frame_NormOutOutIdeal : Cert.quiescent_NormOutOutIdeal := fun m ρ _ =>
  (θ_run _ _ _).mono (fun _ h => ⟨fun c => (h c).2.2, sem_eq_zero_of_no_sems rfl _⟩) (Cert.NormOutOutIdeal.Value.run m ρ)

theorem frame_NormDownOutIdeal : Cert.quiescent_NormDownOutIdeal := fun m ρ _ =>
  (θ_run _ _ _).mono (fun _ h => ⟨fun c => (h c).2.2, sem_eq_zero_of_no_sems rfl _⟩) (Cert.NormDownOutIdeal.Value.run m ρ)

theorem frame_SqreluOutIdeal : Cert.quiescent_SqreluOutIdeal := fun m ρ _ =>
  (θ_run _ _ _).mono (fun _ h => ⟨fun c => (h c).2.2, sem_eq_zero_of_no_sems rfl _⟩) (Cert.SqreluOutIdeal.Value.run m ρ)

theorem frame_ShortConvGradIdeal : Cert.quiescent_ShortConvGradIdeal := fun m ρ _ =>
  (θ_run _ _ _).mono (fun _ h => ⟨fun c => (h c).2.2.2.2, sem_eq_zero_of_no_sems rfl _⟩) (Cert.ShortConvGradIdeal.Value.run m ρ)

theorem frame_ShortConvOutIdeal : Cert.quiescent_ShortConvOutIdeal := fun m ρ _ =>
  (θ_run _ _ _).mono (fun _ h => ⟨fun c => (h c).2, sem_eq_zero_of_no_sems rfl _⟩) (Cert.ShortConvOutIdeal.Value.run m ρ)

theorem frame_SwapOutIdeal : Cert.quiescent_SwapOutIdeal := fun m ρ _ =>
  (θ_run _ _ _).mono (fun _ h => ⟨fun c => (h c).2.2, sem_eq_zero_of_no_sems rfl _⟩) (Cert.SwapOutIdeal.Value.run m ρ)

theorem frame_SwapFiveOutIdeal : Cert.quiescent_SwapFiveOutIdeal := fun m ρ _ =>
  (θ_run _ _ _).mono (fun _ h => ⟨fun c => (h c).2.2.2.2.2, sem_eq_zero_of_no_sems rfl _⟩) (Cert.SwapFiveOutIdeal.Value.run m ρ)

theorem frame_MatDownGradIdeal : Cert.quiescent_MatDownGradIdeal := fun m ρ _ =>
  (θ_run _ _ _).mono (fun _ h => ⟨fun c => (h c).2.2, sem_eq_zero_of_no_sems rfl _⟩) (Cert.MatDownGradIdeal.Value.run m ρ)

theorem frame_AdamLayersOutIdeal : Cert.quiescent_AdamLayersOutIdeal := fun m ρ _ =>
  (θ_run _ _ _).mono (fun _ h => ⟨fun c => (h c).2.2.2.2, sem_eq_zero_of_no_sems rfl _⟩) (Cert.AdamLayersOutIdeal.Value.run m ρ)

theorem frame_AdamSmallOutIdeal : Cert.quiescent_AdamSmallOutIdeal := fun m ρ _ =>
  (θ_run _ _ _).mono (fun _ h => ⟨fun c => (h c).2.2.2, sem_eq_zero_of_no_sems rfl _⟩) (Cert.AdamSmallOutIdeal.Value.run m ρ)

theorem frame_SumSmallOutIdeal : Cert.quiescent_SumSmallOutIdeal := fun m ρ _ =>
  (θ_run _ _ _).mono (fun _ h => ⟨fun c => (h c).2, sem_eq_zero_of_no_sems rfl _⟩) (Cert.SumSmallOutIdeal.Value.run m ρ)

theorem frame_PairSumOutIdeal : Cert.quiescent_PairSumOutIdeal := fun m ρ _ =>
  (θ_run _ _ _).mono (fun _ h => ⟨fun c => (h c).2, sem_eq_zero_of_no_sems rfl _⟩) (Cert.PairSumOutIdeal.Value.run m ρ)

/-- The frames of all programs and the values of the calls proved. -/
theorem claim : Cert.Claim :=
  ⟨Cert.ConformerBwd.Gen.facts,
   Cert.ConformerBwdIdeal.Gen.facts,
   Cert.ConformerGradIdeal.Gen.facts,
   Cert.AttnBwd.Gen.facts,
   Cert.AttnBwdIdeal.Gen.facts,
   Cert.AttnGradIdeal.Gen.facts,
   Cert.LnSiluBwd.Gen.facts,
   Cert.LnSiluBwdIdeal.Gen.facts,
   Cert.LnSiluGradIdeal.Gen.facts,
   Cert.LossHead.Gen.facts,
   Cert.LossHeadIdeal.Gen.facts,
   Cert.LossGradIdeal.Gen.facts,
   Cert.NormUpBwd.Gen.facts,
   Cert.NormUpBwdIdeal.Gen.facts,
   Cert.NormUpGradIdeal.Gen.facts,
   Cert.NormQBwd.Gen.facts,
   Cert.NormQBwdIdeal.Gen.facts,
   Cert.NormQGradIdeal.Gen.facts,
   Cert.NormInBwd.Gen.facts,
   Cert.NormInBwdIdeal.Gen.facts,
   Cert.NormInGradIdeal.Gen.facts,
   Cert.SqreluBwd.Gen.facts,
   Cert.SqreluBwdIdeal.Gen.facts,
   Cert.SqreluGradIdeal.Gen.facts,
   Cert.RmsMemBwd.Gen.facts,
   Cert.RmsMemBwdIdeal.Gen.facts,
   Cert.RmsMemGradIdeal.Gen.facts,
   Cert.AttnFwd.Gen.facts,
   Cert.AttnFwdIdeal.Gen.facts,
   Cert.AttnOutIdeal.Gen.facts,
   Cert.ConformerFwd.Gen.facts,
   Cert.ConformerFwdIdeal.Gen.facts,
   Cert.ConformerOutIdeal.Gen.facts,
   Cert.LnSiluFwd.Gen.facts,
   Cert.LnSiluFwdIdeal.Gen.facts,
   Cert.LnSiluOutIdeal.Gen.facts,
   Cert.RmsFwd.Gen.facts,
   Cert.RmsFwdIdeal.Gen.facts,
   Cert.RmsOutIdeal.Gen.facts,
   Cert.NormOutFwd.Gen.facts,
   Cert.NormOutFwdIdeal.Gen.facts,
   Cert.NormOutOutIdeal.Gen.facts,
   Cert.NormDownFwd.Gen.facts,
   Cert.NormDownFwdIdeal.Gen.facts,
   Cert.NormDownOutIdeal.Gen.facts,
   Cert.SqreluFwd.Gen.facts,
   Cert.SqreluFwdIdeal.Gen.facts,
   Cert.SqreluOutIdeal.Gen.facts,
   Cert.ShortConvBwd.Gen.facts,
   Cert.ShortConvBwdIdeal.Gen.facts,
   Cert.ShortConvGradIdeal.Gen.facts,
   Cert.ShortConvFwd.Gen.facts,
   Cert.ShortConvFwdIdeal.Gen.facts,
   Cert.ShortConvOutIdeal.Gen.facts,
   Cert.SwapHalves.Gen.facts,
   Cert.SwapHalvesIdeal.Gen.facts,
   Cert.SwapOutIdeal.Gen.facts,
   Cert.SwapFive.Gen.facts,
   Cert.SwapFiveIdeal.Gen.facts,
   Cert.SwapFiveOutIdeal.Gen.facts,
   Cert.MatDown.Gen.facts,
   Cert.MatDownIdeal.Gen.facts,
   Cert.MatDownGradIdeal.Gen.facts,
   Cert.AdamLayers.Gen.facts,
   Cert.AdamLayersIdeal.Gen.facts,
   Cert.AdamLayersOutIdeal.Gen.facts,
   Cert.AdamSmall.Gen.facts,
   Cert.AdamSmallIdeal.Gen.facts,
   Cert.AdamSmallOutIdeal.Gen.facts,
   Cert.SumSmall.Gen.facts,
   Cert.SumSmallIdeal.Gen.facts,
   Cert.SumSmallOutIdeal.Gen.facts,
   Cert.PairSum.Gen.facts,
   Cert.PairSumIdeal.Gen.facts,
   Cert.PairSumOutIdeal.Gen.facts,
   attn_finite_facts,
   ln_finite_facts,
   core_named_facts,
   fun m ρ _ => Cert.ConformerBwd.Gen.frame m ρ,
   fun m ρ _ => Cert.ConformerBwdIdeal.Gen.frame m ρ,
   frame_ConformerGradIdeal,
   fun m ρ _ => Cert.AttnBwd.Gen.frame m ρ,
   fun m ρ _ => Cert.AttnBwdIdeal.Gen.frame m ρ,
   fun m ρ _ => (fun m ρ _ => Cert.AttnBwdIdeal.Gen.frame m ρ) m ρ trivial,
   frame_AttnGradIdeal,
   fun m ρ _ => frame_AttnGradIdeal m ρ trivial,
   fun m ρ _ => Cert.LnSiluBwd.Gen.frame m ρ,
   fun m ρ _ => Cert.LnSiluBwdIdeal.Gen.frame m ρ,
   fun m ρ _ => (fun m ρ _ => Cert.LnSiluBwdIdeal.Gen.frame m ρ) m ρ trivial,
   frame_LnSiluGradIdeal,
   fun m ρ _ => frame_LnSiluGradIdeal m ρ trivial,
   fun m ρ _ => Cert.LossHead.Gen.frame m ρ,
   fun m ρ _ => Cert.LossHeadIdeal.Gen.frame m ρ,
   frame_LossGradIdeal,
   fun m ρ _ => Cert.NormUpBwd.Gen.frame m ρ,
   fun m ρ _ => Cert.NormUpBwdIdeal.Gen.frame m ρ,
   frame_NormUpGradIdeal,
   fun m ρ _ => Cert.NormQBwd.Gen.frame m ρ,
   fun m ρ _ => Cert.NormQBwdIdeal.Gen.frame m ρ,
   frame_NormQGradIdeal,
   fun m ρ _ => Cert.NormInBwd.Gen.frame m ρ,
   fun m ρ _ => Cert.NormInBwdIdeal.Gen.frame m ρ,
   frame_NormInGradIdeal,
   fun m ρ _ => Cert.SqreluBwd.Gen.frame m ρ,
   fun m ρ _ => Cert.SqreluBwdIdeal.Gen.frame m ρ,
   frame_SqreluGradIdeal,
   fun m ρ _ => Cert.RmsMemBwd.Gen.frame m ρ,
   fun m ρ _ => Cert.RmsMemBwdIdeal.Gen.frame m ρ,
   frame_RmsMemGradIdeal,
   fun m ρ _ => Cert.AttnFwd.Gen.frame m ρ,
   fun m ρ _ => Cert.AttnFwdIdeal.Gen.frame m ρ,
   frame_AttnOutIdeal,
   fun m ρ _ => Cert.ConformerFwd.Gen.frame m ρ,
   fun m ρ _ => Cert.ConformerFwdIdeal.Gen.frame m ρ,
   frame_ConformerOutIdeal,
   fun m ρ _ => Cert.LnSiluFwd.Gen.frame m ρ,
   fun m ρ _ => Cert.LnSiluFwdIdeal.Gen.frame m ρ,
   frame_LnSiluOutIdeal,
   fun m ρ _ => Cert.RmsFwd.Gen.frame m ρ,
   fun m ρ _ => Cert.RmsFwdIdeal.Gen.frame m ρ,
   frame_RmsOutIdeal,
   fun m ρ _ => Cert.NormOutFwd.Gen.frame m ρ,
   fun m ρ _ => Cert.NormOutFwdIdeal.Gen.frame m ρ,
   frame_NormOutOutIdeal,
   fun m ρ _ => Cert.NormDownFwd.Gen.frame m ρ,
   fun m ρ _ => Cert.NormDownFwdIdeal.Gen.frame m ρ,
   frame_NormDownOutIdeal,
   fun m ρ _ => Cert.SqreluFwd.Gen.frame m ρ,
   fun m ρ _ => Cert.SqreluFwdIdeal.Gen.frame m ρ,
   frame_SqreluOutIdeal,
   Cert.ShortConvBwdIdeal.Body.frame_printed,
   fun m ρ _ => Cert.ShortConvBwdIdeal.Body.frame m ρ,
   frame_ShortConvGradIdeal,
   fun m ρ _ => Cert.ShortConvFwd.Gen.frame m ρ,
   fun m ρ _ => Cert.ShortConvFwdIdeal.Gen.frame m ρ,
   frame_ShortConvOutIdeal,
   Cert.SwapHalvesIdeal.Body.frame_printed,
   Cert.SwapHalvesIdeal.Body.frame_ideal,
   frame_SwapOutIdeal,
   Cert.SwapFiveIdeal.Body.frame_printed,
   Cert.SwapFiveIdeal.Body.frame_ideal,
   frame_SwapFiveOutIdeal,
   fun m ρ _ => Cert.MatDown.Gen.frame m ρ,
   fun m ρ _ => Cert.MatDownIdeal.Gen.frame m ρ,
   frame_MatDownGradIdeal,
   fun m ρ _ => Cert.AdamLayers.Gen.frame m ρ,
   fun m ρ _ => Cert.AdamLayersIdeal.Gen.frame m ρ,
   frame_AdamLayersOutIdeal,
   fun m ρ _ => Cert.AdamSmall.Gen.frame m ρ,
   fun m ρ _ => Cert.AdamSmallIdeal.Gen.frame m ρ,
   frame_AdamSmallOutIdeal,
   fun m ρ _ => Cert.SumSmall.Gen.frame m ρ,
   fun m ρ _ => Cert.SumSmallIdeal.Gen.frame m ρ,
   frame_SumSmallOutIdeal,
   frame_PairSum,
   frame_PairSumIdeal,
   frame_PairSumOutIdeal,
   fun m ρ _ => frame_PairSumOutIdeal m ρ trivial,
   trivial,
   algebraic_Conformer,
   trivial,
   algebraic_Attn,
   trivial,
   algebraic_LnSilu,
   trivial,
   algebraic_LossNorm,
   trivial,
   algebraic_NormUp,
   trivial,
   algebraic_NormQ,
   trivial,
   algebraic_NormIn,
   trivial,
   algebraic_Sqrelu,
   trivial,
   algebraic_RmsMem,
   trivial,
   algebraic_AttnFwd,
   trivial,
   algebraic_ConformerFwd,
   trivial,
   algebraic_LnSiluFwd,
   trivial,
   algebraic_RmsFwd,
   trivial,
   algebraic_NormOut,
   trivial,
   algebraic_NormDown,
   trivial,
   algebraic_SqreluFwd,
   trivial,
   algebraic_ShortConv,
   trivial,
   algebraic_ShortConvFwd,
   trivial,
   Cert.SwapHalvesIdeal.Body.value,
   trivial,
   Cert.SwapFiveIdeal.Body.value,
   trivial,
   algebraic_MatDown,
   trivial,
   algebraic_AdamLayers,
   trivial,
   algebraic_AdamSmall,
   trivial,
   algebraic_SumSmall,
   trivial,
   algebraic_PairSum⟩

end Cert.Proof

end
